-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_EvenGate (m : (ℓ : Loc Cert.EvenGate.nD Cert.EvenGate.τ Cert.EvenGate.sig) → Buf (Elt Bits) ℓ) : Prop :=
  True

def Pre_EvenGateIdeal (m : (ℓ : Loc Cert.EvenGateIdeal.nD Cert.EvenGateIdeal.τ Cert.EvenGateIdeal.sig) → Buf (Elt Ideal) ℓ) : Prop :=
  True

def Pre_EvenGateIdeal_finite_even_gate [hPre_finite_even_gate : Cert.Pre_finite_even_gate.Facts] (m : (ℓ : Loc Cert.EvenGateIdeal.nD Cert.EvenGateIdeal.τ Cert.EvenGateIdeal.sig) → Buf (Elt Ideal) ℓ) : Prop :=
  ∀ c : Dev Cert.EvenGateIdeal.nD,
    (Cert.Pre_finite_even_gate.fn (F := Ideal) (m ((c.tc : Thread Cert.EvenGateIdeal.nD Cert.EvenGateIdeal.τ).loc Cert.EvenGateIdeal.main_arg0)) (m ((c.tc : Thread Cert.EvenGateIdeal.nD Cert.EvenGateIdeal.τ).loc Cert.EvenGateIdeal.main_arg1)) (m ((c.tc : Thread Cert.EvenGateIdeal.nD Cert.EvenGateIdeal.τ).loc Cert.EvenGateIdeal.main_arg2)) (m ((c.tc : Thread Cert.EvenGateIdeal.nD Cert.EvenGateIdeal.τ).loc Cert.EvenGateIdeal.main_arg3)) (m ((c.tc : Thread Cert.EvenGateIdeal.nD Cert.EvenGateIdeal.τ).loc Cert.EvenGateIdeal.main_arg4))) = (fun _ => 1#1)

def Pre_EvenGateRefIdeal (m : (ℓ : Loc Cert.EvenGateRefIdeal.nD Cert.EvenGateRefIdeal.τ Cert.EvenGateRefIdeal.sig) → Buf (Elt Ideal) ℓ) : Prop :=
  True

def Pre_EvenGateRefIdeal_finite_even_gate [hPre_finite_even_gate : Cert.Pre_finite_even_gate.Facts] (m : (ℓ : Loc Cert.EvenGateRefIdeal.nD Cert.EvenGateRefIdeal.τ Cert.EvenGateRefIdeal.sig) → Buf (Elt Ideal) ℓ) : Prop :=
  ∀ c : Dev Cert.EvenGateRefIdeal.nD,
    (Cert.Pre_finite_even_gate.fn (F := Ideal) (m ((c.tc : Thread Cert.EvenGateRefIdeal.nD Cert.EvenGateRefIdeal.τ).loc Cert.EvenGateRefIdeal.main_arg0)) (m ((c.tc : Thread Cert.EvenGateRefIdeal.nD Cert.EvenGateRefIdeal.τ).loc Cert.EvenGateRefIdeal.main_arg1)) (m ((c.tc : Thread Cert.EvenGateRefIdeal.nD Cert.EvenGateRefIdeal.τ).loc Cert.EvenGateRefIdeal.main_arg2)) (m ((c.tc : Thread Cert.EvenGateRefIdeal.nD Cert.EvenGateRefIdeal.τ).loc Cert.EvenGateRefIdeal.main_arg3)) (m ((c.tc : Thread Cert.EvenGateRefIdeal.nD Cert.EvenGateRefIdeal.τ).loc Cert.EvenGateRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaRefIdeal (m : (ℓ : Loc Cert.MlaRefIdeal.nD Cert.MlaRefIdeal.τ Cert.MlaRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Soft (m : (ℓ : Loc Cert.Soft.nD Cert.Soft.τ Cert.Soft.sig) → Buf (Elt Bits) ℓ) : Prop :=
  True

def Pre_SoftIdeal (m : (ℓ : Loc Cert.SoftIdeal.nD Cert.SoftIdeal.τ Cert.SoftIdeal.sig) → Buf (Elt Ideal) ℓ) : Prop :=
  True

def Pre_SoftIdeal_finite_soft [hPre_finite_soft : Cert.Pre_finite_soft.Facts] (m : (ℓ : Loc Cert.SoftIdeal.nD Cert.SoftIdeal.τ Cert.SoftIdeal.sig) → Buf (Elt Ideal) ℓ) : Prop :=
  ∀ c : Dev Cert.SoftIdeal.nD,
    (Cert.Pre_finite_soft.fn (F := Ideal) (m ((c.tc : Thread Cert.SoftIdeal.nD Cert.SoftIdeal.τ).loc Cert.SoftIdeal.main_arg0)) (m ((c.tc : Thread Cert.SoftIdeal.nD Cert.SoftIdeal.τ).loc Cert.SoftIdeal.main_arg1)) (m ((c.tc : Thread Cert.SoftIdeal.nD Cert.SoftIdeal.τ).loc Cert.SoftIdeal.main_arg2))) = (fun _ => 1#1)

def Pre_SoftRefIdeal (m : (ℓ : Loc Cert.SoftRefIdeal.nD Cert.SoftRefIdeal.τ Cert.SoftRefIdeal.sig) → Buf (Elt Ideal) ℓ) : Prop :=
  True

def Pre_SoftRefIdeal_finite_soft [hPre_finite_soft : Cert.Pre_finite_soft.Facts] (m : (ℓ : Loc Cert.SoftRefIdeal.nD Cert.SoftRefIdeal.τ Cert.SoftRefIdeal.sig) → Buf (Elt Ideal) ℓ) : Prop :=
  ∀ c : Dev Cert.SoftRefIdeal.nD,
    (Cert.Pre_finite_soft.fn (F := Ideal) (m ((c.tc : Thread Cert.SoftRefIdeal.nD Cert.SoftRefIdeal.τ).loc Cert.SoftRefIdeal.main_arg0)) (m ((c.tc : Thread Cert.SoftRefIdeal.nD Cert.SoftRefIdeal.τ).loc Cert.SoftRefIdeal.main_arg1)) (m ((c.tc : Thread Cert.SoftRefIdeal.nD Cert.SoftRefIdeal.τ).loc Cert.SoftRefIdeal.main_arg2))) = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_EvenGate [hEvenGate : Cert.EvenGate.Facts] : Prop :=
  ∀ (m : (ℓ : Loc Cert.EvenGate.nD Cert.EvenGate.τ Cert.EvenGate.sig) → Buf (Elt Bits) ℓ) (g : Dev Cert.EvenGate.nD → PrngReg), Pre_EvenGate m →
    θ_run (Cert.EvenGate.defs (F := Bits)) (onTc (τ := Cert.EvenGate.τ) (Cert.EvenGate.main (F := Bits))) ⟨m, fun _ => 0, g⟩ (fun r => (∀ c : Dev Cert.EvenGate.nD,
      r.2.mem ((c.tc : Thread Cert.EvenGate.nD Cert.EvenGate.τ).loc Cert.EvenGate.main_arg0) = m ((c.tc : Thread Cert.EvenGate.nD Cert.EvenGate.τ).loc Cert.EvenGate.main_arg0)
      ∧ r.2.mem ((c.tc : Thread Cert.EvenGate.nD Cert.EvenGate.τ).loc Cert.EvenGate.main_arg1) = m ((c.tc : Thread Cert.EvenGate.nD Cert.EvenGate.τ).loc Cert.EvenGate.main_arg1)
      ∧ r.2.mem ((c.tc : Thread Cert.EvenGate.nD Cert.EvenGate.τ).loc Cert.EvenGate.main_arg2) = m ((c.tc : Thread Cert.EvenGate.nD Cert.EvenGate.τ).loc Cert.EvenGate.main_arg2)
      ∧ r.2.mem ((c.tc : Thread Cert.EvenGate.nD Cert.EvenGate.τ).loc Cert.EvenGate.main_arg3) = m ((c.tc : Thread Cert.EvenGate.nD Cert.EvenGate.τ).loc Cert.EvenGate.main_arg3)
      ∧ r.2.mem ((c.tc : Thread Cert.EvenGate.nD Cert.EvenGate.τ).loc Cert.EvenGate.main_arg4) = m ((c.tc : Thread Cert.EvenGate.nD Cert.EvenGate.τ).loc Cert.EvenGate.main_arg4))
      ∧ r.2.sem = fun _ => 0)

def quiescent_EvenGateIdeal [hEvenGateIdeal : Cert.EvenGateIdeal.Facts] : Prop :=
  ∀ (m : (ℓ : Loc Cert.EvenGateIdeal.nD Cert.EvenGateIdeal.τ Cert.EvenGateIdeal.sig) → Buf (Elt Ideal) ℓ) (g : Dev Cert.EvenGateIdeal.nD → PrngReg), Pre_EvenGateIdeal m →
    θ_run (Cert.EvenGateIdeal.defs (F := Ideal)) (onTc (τ := Cert.EvenGateIdeal.τ) (Cert.EvenGateIdeal.main (F := Ideal))) ⟨m, fun _ => 0, g⟩ (fun r => (∀ c : Dev Cert.EvenGateIdeal.nD,
      r.2.mem ((c.tc : Thread Cert.EvenGateIdeal.nD Cert.EvenGateIdeal.τ).loc Cert.EvenGateIdeal.main_arg0) = m ((c.tc : Thread Cert.EvenGateIdeal.nD Cert.EvenGateIdeal.τ).loc Cert.EvenGateIdeal.main_arg0)
      ∧ r.2.mem ((c.tc : Thread Cert.EvenGateIdeal.nD Cert.EvenGateIdeal.τ).loc Cert.EvenGateIdeal.main_arg1) = m ((c.tc : Thread Cert.EvenGateIdeal.nD Cert.EvenGateIdeal.τ).loc Cert.EvenGateIdeal.main_arg1)
      ∧ r.2.mem ((c.tc : Thread Cert.EvenGateIdeal.nD Cert.EvenGateIdeal.τ).loc Cert.EvenGateIdeal.main_arg2) = m ((c.tc : Thread Cert.EvenGateIdeal.nD Cert.EvenGateIdeal.τ).loc Cert.EvenGateIdeal.main_arg2)
      ∧ r.2.mem ((c.tc : Thread Cert.EvenGateIdeal.nD Cert.EvenGateIdeal.τ).loc Cert.EvenGateIdeal.main_arg3) = m ((c.tc : Thread Cert.EvenGateIdeal.nD Cert.EvenGateIdeal.τ).loc Cert.EvenGateIdeal.main_arg3)
      ∧ r.2.mem ((c.tc : Thread Cert.EvenGateIdeal.nD Cert.EvenGateIdeal.τ).loc Cert.EvenGateIdeal.main_arg4) = m ((c.tc : Thread Cert.EvenGateIdeal.nD Cert.EvenGateIdeal.τ).loc Cert.EvenGateIdeal.main_arg4))
      ∧ r.2.sem = fun _ => 0)

def quiescent_EvenGateIdeal_pre_finite_even_gate [hEvenGateIdeal : Cert.EvenGateIdeal.Facts] [hPre_finite_even_gate : Cert.Pre_finite_even_gate.Facts] : Prop :=
  ∀ (m : (ℓ : Loc Cert.EvenGateIdeal.nD Cert.EvenGateIdeal.τ Cert.EvenGateIdeal.sig) → Buf (Elt Ideal) ℓ) (g : Dev Cert.EvenGateIdeal.nD → PrngReg), Pre_EvenGateIdeal_finite_even_gate m →
    θ_run (Cert.EvenGateIdeal.defs (F := Ideal)) (onTc (τ := Cert.EvenGateIdeal.τ) (Cert.EvenGateIdeal.main (F := Ideal))) ⟨m, fun _ => 0, g⟩ (fun r => (∀ c : Dev Cert.EvenGateIdeal.nD,
      r.2.mem ((c.tc : Thread Cert.EvenGateIdeal.nD Cert.EvenGateIdeal.τ).loc Cert.EvenGateIdeal.main_arg0) = m ((c.tc : Thread Cert.EvenGateIdeal.nD Cert.EvenGateIdeal.τ).loc Cert.EvenGateIdeal.main_arg0)
      ∧ r.2.mem ((c.tc : Thread Cert.EvenGateIdeal.nD Cert.EvenGateIdeal.τ).loc Cert.EvenGateIdeal.main_arg1) = m ((c.tc : Thread Cert.EvenGateIdeal.nD Cert.EvenGateIdeal.τ).loc Cert.EvenGateIdeal.main_arg1)
      ∧ r.2.mem ((c.tc : Thread Cert.EvenGateIdeal.nD Cert.EvenGateIdeal.τ).loc Cert.EvenGateIdeal.main_arg2) = m ((c.tc : Thread Cert.EvenGateIdeal.nD Cert.EvenGateIdeal.τ).loc Cert.EvenGateIdeal.main_arg2)
      ∧ r.2.mem ((c.tc : Thread Cert.EvenGateIdeal.nD Cert.EvenGateIdeal.τ).loc Cert.EvenGateIdeal.main_arg3) = m ((c.tc : Thread Cert.EvenGateIdeal.nD Cert.EvenGateIdeal.τ).loc Cert.EvenGateIdeal.main_arg3)
      ∧ r.2.mem ((c.tc : Thread Cert.EvenGateIdeal.nD Cert.EvenGateIdeal.τ).loc Cert.EvenGateIdeal.main_arg4) = m ((c.tc : Thread Cert.EvenGateIdeal.nD Cert.EvenGateIdeal.τ).loc Cert.EvenGateIdeal.main_arg4))
      ∧ r.2.sem = fun _ => 0)

def quiescent_EvenGateRefIdeal [hEvenGateRefIdeal : Cert.EvenGateRefIdeal.Facts] : Prop :=
  ∀ (m : (ℓ : Loc Cert.EvenGateRefIdeal.nD Cert.EvenGateRefIdeal.τ Cert.EvenGateRefIdeal.sig) → Buf (Elt Ideal) ℓ) (g : Dev Cert.EvenGateRefIdeal.nD → PrngReg), Pre_EvenGateRefIdeal m →
    θ_run (Cert.EvenGateRefIdeal.defs (F := Ideal)) (onTc (τ := Cert.EvenGateRefIdeal.τ) (Cert.EvenGateRefIdeal.main (F := Ideal))) ⟨m, fun _ => 0, g⟩ (fun r => (∀ c : Dev Cert.EvenGateRefIdeal.nD,
      r.2.mem ((c.tc : Thread Cert.EvenGateRefIdeal.nD Cert.EvenGateRefIdeal.τ).loc Cert.EvenGateRefIdeal.main_arg0) = m ((c.tc : Thread Cert.EvenGateRefIdeal.nD Cert.EvenGateRefIdeal.τ).loc Cert.EvenGateRefIdeal.main_arg0)
      ∧ r.2.mem ((c.tc : Thread Cert.EvenGateRefIdeal.nD Cert.EvenGateRefIdeal.τ).loc Cert.EvenGateRefIdeal.main_arg1) = m ((c.tc : Thread Cert.EvenGateRefIdeal.nD Cert.EvenGateRefIdeal.τ).loc Cert.EvenGateRefIdeal.main_arg1)
      ∧ r.2.mem ((c.tc : Thread Cert.EvenGateRefIdeal.nD Cert.EvenGateRefIdeal.τ).loc Cert.EvenGateRefIdeal.main_arg2) = m ((c.tc : Thread Cert.EvenGateRefIdeal.nD Cert.EvenGateRefIdeal.τ).loc Cert.EvenGateRefIdeal.main_arg2)
      ∧ r.2.mem ((c.tc : Thread Cert.EvenGateRefIdeal.nD Cert.EvenGateRefIdeal.τ).loc Cert.EvenGateRefIdeal.main_arg3) = m ((c.tc : Thread Cert.EvenGateRefIdeal.nD Cert.EvenGateRefIdeal.τ).loc Cert.EvenGateRefIdeal.main_arg3)
      ∧ r.2.mem ((c.tc : Thread Cert.EvenGateRefIdeal.nD Cert.EvenGateRefIdeal.τ).loc Cert.EvenGateRefIdeal.main_arg4) = m ((c.tc : Thread Cert.EvenGateRefIdeal.nD Cert.EvenGateRefIdeal.τ).loc Cert.EvenGateRefIdeal.main_arg4))
      ∧ r.2.sem = fun _ => 0)

def quiescent_EvenGateRefIdeal_pre_finite_even_gate [hEvenGateRefIdeal : Cert.EvenGateRefIdeal.Facts] [hPre_finite_even_gate : Cert.Pre_finite_even_gate.Facts] : Prop :=
  ∀ (m : (ℓ : Loc Cert.EvenGateRefIdeal.nD Cert.EvenGateRefIdeal.τ Cert.EvenGateRefIdeal.sig) → Buf (Elt Ideal) ℓ) (g : Dev Cert.EvenGateRefIdeal.nD → PrngReg), Pre_EvenGateRefIdeal_finite_even_gate m →
    θ_run (Cert.EvenGateRefIdeal.defs (F := Ideal)) (onTc (τ := Cert.EvenGateRefIdeal.τ) (Cert.EvenGateRefIdeal.main (F := Ideal))) ⟨m, fun _ => 0, g⟩ (fun r => (∀ c : Dev Cert.EvenGateRefIdeal.nD,
      r.2.mem ((c.tc : Thread Cert.EvenGateRefIdeal.nD Cert.EvenGateRefIdeal.τ).loc Cert.EvenGateRefIdeal.main_arg0) = m ((c.tc : Thread Cert.EvenGateRefIdeal.nD Cert.EvenGateRefIdeal.τ).loc Cert.EvenGateRefIdeal.main_arg0)
      ∧ r.2.mem ((c.tc : Thread Cert.EvenGateRefIdeal.nD Cert.EvenGateRefIdeal.τ).loc Cert.EvenGateRefIdeal.main_arg1) = m ((c.tc : Thread Cert.EvenGateRefIdeal.nD Cert.EvenGateRefIdeal.τ).loc Cert.EvenGateRefIdeal.main_arg1)
      ∧ r.2.mem ((c.tc : Thread Cert.EvenGateRefIdeal.nD Cert.EvenGateRefIdeal.τ).loc Cert.EvenGateRefIdeal.main_arg2) = m ((c.tc : Thread Cert.EvenGateRefIdeal.nD Cert.EvenGateRefIdeal.τ).loc Cert.EvenGateRefIdeal.main_arg2)
      ∧ r.2.mem ((c.tc : Thread Cert.EvenGateRefIdeal.nD Cert.EvenGateRefIdeal.τ).loc Cert.EvenGateRefIdeal.main_arg3) = m ((c.tc : Thread Cert.EvenGateRefIdeal.nD Cert.EvenGateRefIdeal.τ).loc Cert.EvenGateRefIdeal.main_arg3)
      ∧ r.2.mem ((c.tc : Thread Cert.EvenGateRefIdeal.nD Cert.EvenGateRefIdeal.τ).loc Cert.EvenGateRefIdeal.main_arg4) = m ((c.tc : Thread Cert.EvenGateRefIdeal.nD Cert.EvenGateRefIdeal.τ).loc Cert.EvenGateRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3)
      ∧ r.2.mem ((c.tc : Thread Cert.Next.nD Cert.Next.τ).loc Cert.Next.main_arg4) = m ((c.tc : Thread Cert.Next.nD Cert.Next.τ).loc Cert.Next.main_arg4)
      ∧ r.2.mem ((c.tc : Thread Cert.Next.nD Cert.Next.τ).loc Cert.Next.main_arg5) = m ((c.tc : Thread Cert.Next.nD Cert.Next.τ).loc Cert.Next.main_arg5))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
      ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
      ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3)
      ∧ r.2.mem ((c.tc : Thread Cert.NextRefIdeal.nD Cert.NextRefIdeal.τ).loc Cert.NextRefIdeal.main_arg4) = m ((c.tc : Thread Cert.NextRefIdeal.nD Cert.NextRefIdeal.τ).loc Cert.NextRefIdeal.main_arg4)
      ∧ r.2.mem ((c.tc : Thread Cert.NextRefIdeal.nD Cert.NextRefIdeal.τ).loc Cert.NextRefIdeal.main_arg5) = m ((c.tc : Thread Cert.NextRefIdeal.nD Cert.NextRefIdeal.τ).loc Cert.NextRefIdeal.main_arg5))
      ∧ r.2.sem = fun _ => 0)

def quiescent_Soft [hSoft : Cert.Soft.Facts] : Prop :=
  ∀ (m : (ℓ : Loc Cert.Soft.nD Cert.Soft.τ Cert.Soft.sig) → Buf (Elt Bits) ℓ) (g : Dev Cert.Soft.nD → PrngReg), Pre_Soft m →
    θ_run (Cert.Soft.defs (F := Bits)) (onTc (τ := Cert.Soft.τ) (Cert.Soft.main (F := Bits))) ⟨m, fun _ => 0, g⟩ (fun r => (∀ c : Dev Cert.Soft.nD,
      r.2.mem ((c.tc : Thread Cert.Soft.nD Cert.Soft.τ).loc Cert.Soft.main_arg0) = m ((c.tc : Thread Cert.Soft.nD Cert.Soft.τ).loc Cert.Soft.main_arg0)
      ∧ r.2.mem ((c.tc : Thread Cert.Soft.nD Cert.Soft.τ).loc Cert.Soft.main_arg1) = m ((c.tc : Thread Cert.Soft.nD Cert.Soft.τ).loc Cert.Soft.main_arg1)
      ∧ r.2.mem ((c.tc : Thread Cert.Soft.nD Cert.Soft.τ).loc Cert.Soft.main_arg2) = m ((c.tc : Thread Cert.Soft.nD Cert.Soft.τ).loc Cert.Soft.main_arg2))
      ∧ r.2.sem = fun _ => 0)

def quiescent_SoftIdeal [hSoftIdeal : Cert.SoftIdeal.Facts] : Prop :=
  ∀ (m : (ℓ : Loc Cert.SoftIdeal.nD Cert.SoftIdeal.τ Cert.SoftIdeal.sig) → Buf (Elt Ideal) ℓ) (g : Dev Cert.SoftIdeal.nD → PrngReg), Pre_SoftIdeal m →
    θ_run (Cert.SoftIdeal.defs (F := Ideal)) (onTc (τ := Cert.SoftIdeal.τ) (Cert.SoftIdeal.main (F := Ideal))) ⟨m, fun _ => 0, g⟩ (fun r => (∀ c : Dev Cert.SoftIdeal.nD,
      r.2.mem ((c.tc : Thread Cert.SoftIdeal.nD Cert.SoftIdeal.τ).loc Cert.SoftIdeal.main_arg0) = m ((c.tc : Thread Cert.SoftIdeal.nD Cert.SoftIdeal.τ).loc Cert.SoftIdeal.main_arg0)
      ∧ r.2.mem ((c.tc : Thread Cert.SoftIdeal.nD Cert.SoftIdeal.τ).loc Cert.SoftIdeal.main_arg1) = m ((c.tc : Thread Cert.SoftIdeal.nD Cert.SoftIdeal.τ).loc Cert.SoftIdeal.main_arg1)
      ∧ r.2.mem ((c.tc : Thread Cert.SoftIdeal.nD Cert.SoftIdeal.τ).loc Cert.SoftIdeal.main_arg2) = m ((c.tc : Thread Cert.SoftIdeal.nD Cert.SoftIdeal.τ).loc Cert.SoftIdeal.main_arg2))
      ∧ r.2.sem = fun _ => 0)

def quiescent_SoftIdeal_pre_finite_soft [hSoftIdeal : Cert.SoftIdeal.Facts] [hPre_finite_soft : Cert.Pre_finite_soft.Facts] : Prop :=
  ∀ (m : (ℓ : Loc Cert.SoftIdeal.nD Cert.SoftIdeal.τ Cert.SoftIdeal.sig) → Buf (Elt Ideal) ℓ) (g : Dev Cert.SoftIdeal.nD → PrngReg), Pre_SoftIdeal_finite_soft m →
    θ_run (Cert.SoftIdeal.defs (F := Ideal)) (onTc (τ := Cert.SoftIdeal.τ) (Cert.SoftIdeal.main (F := Ideal))) ⟨m, fun _ => 0, g⟩ (fun r => (∀ c : Dev Cert.SoftIdeal.nD,
      r.2.mem ((c.tc : Thread Cert.SoftIdeal.nD Cert.SoftIdeal.τ).loc Cert.SoftIdeal.main_arg0) = m ((c.tc : Thread Cert.SoftIdeal.nD Cert.SoftIdeal.τ).loc Cert.SoftIdeal.main_arg0)
      ∧ r.2.mem ((c.tc : Thread Cert.SoftIdeal.nD Cert.SoftIdeal.τ).loc Cert.SoftIdeal.main_arg1) = m ((c.tc : Thread Cert.SoftIdeal.nD Cert.SoftIdeal.τ).loc Cert.SoftIdeal.main_arg1)
      ∧ r.2.mem ((c.tc : Thread Cert.SoftIdeal.nD Cert.SoftIdeal.τ).loc Cert.SoftIdeal.main_arg2) = m ((c.tc : Thread Cert.SoftIdeal.nD Cert.SoftIdeal.τ).loc Cert.SoftIdeal.main_arg2))
      ∧ r.2.sem = fun _ => 0)

def quiescent_SoftRefIdeal [hSoftRefIdeal : Cert.SoftRefIdeal.Facts] : Prop :=
  ∀ (m : (ℓ : Loc Cert.SoftRefIdeal.nD Cert.SoftRefIdeal.τ Cert.SoftRefIdeal.sig) → Buf (Elt Ideal) ℓ) (g : Dev Cert.SoftRefIdeal.nD → PrngReg), Pre_SoftRefIdeal m →
    θ_run (Cert.SoftRefIdeal.defs (F := Ideal)) (onTc (τ := Cert.SoftRefIdeal.τ) (Cert.SoftRefIdeal.main (F := Ideal))) ⟨m, fun _ => 0, g⟩ (fun r => (∀ c : Dev Cert.SoftRefIdeal.nD,
      r.2.mem ((c.tc : Thread Cert.SoftRefIdeal.nD Cert.SoftRefIdeal.τ).loc Cert.SoftRefIdeal.main_arg0) = m ((c.tc : Thread Cert.SoftRefIdeal.nD Cert.SoftRefIdeal.τ).loc Cert.SoftRefIdeal.main_arg0)
      ∧ r.2.mem ((c.tc : Thread Cert.SoftRefIdeal.nD Cert.SoftRefIdeal.τ).loc Cert.SoftRefIdeal.main_arg1) = m ((c.tc : Thread Cert.SoftRefIdeal.nD Cert.SoftRefIdeal.τ).loc Cert.SoftRefIdeal.main_arg1)
      ∧ r.2.mem ((c.tc : Thread Cert.SoftRefIdeal.nD Cert.SoftRefIdeal.τ).loc Cert.SoftRefIdeal.main_arg2) = m ((c.tc : Thread Cert.SoftRefIdeal.nD Cert.SoftRefIdeal.τ).loc Cert.SoftRefIdeal.main_arg2))
      ∧ r.2.sem = fun _ => 0)

def quiescent_SoftRefIdeal_pre_finite_soft [hSoftRefIdeal : Cert.SoftRefIdeal.Facts] [hPre_finite_soft : Cert.Pre_finite_soft.Facts] : Prop :=
  ∀ (m : (ℓ : Loc Cert.SoftRefIdeal.nD Cert.SoftRefIdeal.τ Cert.SoftRefIdeal.sig) → Buf (Elt Ideal) ℓ) (g : Dev Cert.SoftRefIdeal.nD → PrngReg), Pre_SoftRefIdeal_finite_soft m →
    θ_run (Cert.SoftRefIdeal.defs (F := Ideal)) (onTc (τ := Cert.SoftRefIdeal.τ) (Cert.SoftRefIdeal.main (F := Ideal))) ⟨m, fun _ => 0, g⟩ (fun r => (∀ c : Dev Cert.SoftRefIdeal.nD,
      r.2.mem ((c.tc : Thread Cert.SoftRefIdeal.nD Cert.SoftRefIdeal.τ).loc Cert.SoftRefIdeal.main_arg0) = m ((c.tc : Thread Cert.SoftRefIdeal.nD Cert.SoftRefIdeal.τ).loc Cert.SoftRefIdeal.main_arg0)
      ∧ r.2.mem ((c.tc : Thread Cert.SoftRefIdeal.nD Cert.SoftRefIdeal.τ).loc Cert.SoftRefIdeal.main_arg1) = m ((c.tc : Thread Cert.SoftRefIdeal.nD Cert.SoftRefIdeal.τ).loc Cert.SoftRefIdeal.main_arg1)
      ∧ r.2.mem ((c.tc : Thread Cert.SoftRefIdeal.nD Cert.SoftRefIdeal.τ).loc Cert.SoftRefIdeal.main_arg2) = m ((c.tc : Thread Cert.SoftRefIdeal.nD Cert.SoftRefIdeal.τ).loc Cert.SoftRefIdeal.main_arg2))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v27) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v66) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_EvenGate_EvenGateIdeal : Prop :=
  True

def algebraic_EvenGateIdeal_EvenGateRefIdeal_pre_finite_even_gate [hEvenGateIdeal : Cert.EvenGateIdeal.Facts] [hEvenGateRefIdeal : Cert.EvenGateRefIdeal.Facts] [hPre_finite_even_gate : Cert.Pre_finite_even_gate.Facts] : Prop :=
  ∀ (m : (ℓ : Loc Cert.EvenGateIdeal.nD Cert.EvenGateIdeal.τ Cert.EvenGateIdeal.sig) → Buf (Elt Ideal) ℓ) (g : Dev Cert.EvenGateIdeal.nD → PrngReg)
    (m' : (ℓ : Loc Cert.EvenGateRefIdeal.nD Cert.EvenGateRefIdeal.τ Cert.EvenGateRefIdeal.sig) → Buf (Elt Ideal) ℓ) (g' : Dev Cert.EvenGateRefIdeal.nD → PrngReg), Pre_EvenGateIdeal_finite_even_gate m →
    (∀ c : Dev Cert.EvenGateIdeal.nD,
      m' ((c.tc : Thread Cert.EvenGateRefIdeal.nD Cert.EvenGateRefIdeal.τ).loc Cert.EvenGateRefIdeal.main_arg0) = m ((c.tc : Thread Cert.EvenGateIdeal.nD Cert.EvenGateIdeal.τ).loc Cert.EvenGateIdeal.main_arg0)
      ∧ m' ((c.tc : Thread Cert.EvenGateRefIdeal.nD Cert.EvenGateRefIdeal.τ).loc Cert.EvenGateRefIdeal.main_arg1) = m ((c.tc : Thread Cert.EvenGateIdeal.nD Cert.EvenGateIdeal.τ).loc Cert.EvenGateIdeal.main_arg1)
      ∧ m' ((c.tc : Thread Cert.EvenGateRefIdeal.nD Cert.EvenGateRefIdeal.τ).loc Cert.EvenGateRefIdeal.main_arg2) = m ((c.tc : Thread Cert.EvenGateIdeal.nD Cert.EvenGateIdeal.τ).loc Cert.EvenGateIdeal.main_arg2)
      ∧ m' ((c.tc : Thread Cert.EvenGateRefIdeal.nD Cert.EvenGateRefIdeal.τ).loc Cert.EvenGateRefIdeal.main_arg3) = m ((c.tc : Thread Cert.EvenGateIdeal.nD Cert.EvenGateIdeal.τ).loc Cert.EvenGateIdeal.main_arg3)
      ∧ m' ((c.tc : Thread Cert.EvenGateRefIdeal.nD Cert.EvenGateRefIdeal.τ).loc Cert.EvenGateRefIdeal.main_arg4) = m ((c.tc : Thread Cert.EvenGateIdeal.nD Cert.EvenGateIdeal.τ).loc Cert.EvenGateIdeal.main_arg4)) →
    ∃ (v0 : (c : Dev Cert.EvenGateIdeal.nD) → Buf (Elt Ideal) ((c.tc : Thread Cert.EvenGateIdeal.nD Cert.EvenGateIdeal.τ).loc Cert.EvenGateIdeal.main_v6_0)) (v1 : (c : Dev Cert.EvenGateIdeal.nD) → Buf (Elt Ideal) ((c.tc : Thread Cert.EvenGateIdeal.nD Cert.EvenGateIdeal.τ).loc Cert.EvenGateIdeal.main_v6_1)) (v2 : (c : Dev Cert.EvenGateIdeal.nD) → Buf (Elt Ideal) ((c.tc : Thread Cert.EvenGateIdeal.nD Cert.EvenGateIdeal.τ).loc Cert.EvenGateIdeal.main_v6_2)) (v3 : (c : Dev Cert.EvenGateIdeal.nD) → Buf (Elt Ideal) ((c.tc : Thread Cert.EvenGateIdeal.nD Cert.EvenGateIdeal.τ).loc Cert.EvenGateIdeal.main_v6_3)) (v4 : (c : Dev Cert.EvenGateIdeal.nD) → Buf (Elt Ideal) ((c.tc : Thread Cert.EvenGateIdeal.nD Cert.EvenGateIdeal.τ).loc Cert.EvenGateIdeal.main_v6_4)),
      θ_run (Cert.EvenGateIdeal.defs (F := Ideal)) (onTc (τ := Cert.EvenGateIdeal.τ) (Cert.EvenGateIdeal.main (F := Ideal))) ⟨m, fun _ => 0, g⟩ (fun r => ∀ c : Dev Cert.EvenGateIdeal.nD,
          r.2.mem ((c.tc : Thread Cert.EvenGateIdeal.nD Cert.EvenGateIdeal.τ).loc Cert.EvenGateIdeal.main_v6_0) = v0 c
          ∧ r.2.mem ((c.tc : Thread Cert.EvenGateIdeal.nD Cert.EvenGateIdeal.τ).loc Cert.EvenGateIdeal.main_v6_1) = v1 c
          ∧ r.2.mem ((c.tc : Thread Cert.EvenGateIdeal.nD Cert.EvenGateIdeal.τ).loc Cert.EvenGateIdeal.main_v6_2) = v2 c
          ∧ r.2.mem ((c.tc : Thread Cert.EvenGateIdeal.nD Cert.EvenGateIdeal.τ).loc Cert.EvenGateIdeal.main_v6_3) = v3 c
          ∧ r.2.mem ((c.tc : Thread Cert.EvenGateIdeal.nD Cert.EvenGateIdeal.τ).loc Cert.EvenGateIdeal.main_v6_4) = v4 c
          ∧ r.2.mem ((c.tc : Thread Cert.EvenGateIdeal.nD Cert.EvenGateIdeal.τ).loc Cert.EvenGateIdeal.main_arg0) = m ((c.tc : Thread Cert.EvenGateIdeal.nD Cert.EvenGateIdeal.τ).loc Cert.EvenGateIdeal.main_arg0)
          ∧ r.2.mem ((c.tc : Thread Cert.EvenGateIdeal.nD Cert.EvenGateIdeal.τ).loc Cert.EvenGateIdeal.main_arg1) = m ((c.tc : Thread Cert.EvenGateIdeal.nD Cert.EvenGateIdeal.τ).loc Cert.EvenGateIdeal.main_arg1)
          ∧ r.2.mem ((c.tc : Thread Cert.EvenGateIdeal.nD Cert.EvenGateIdeal.τ).loc Cert.EvenGateIdeal.main_arg2) = m ((c.tc : Thread Cert.EvenGateIdeal.nD Cert.EvenGateIdeal.τ).loc Cert.EvenGateIdeal.main_arg2)
          ∧ r.2.mem ((c.tc : Thread Cert.EvenGateIdeal.nD Cert.EvenGateIdeal.τ).loc Cert.EvenGateIdeal.main_arg3) = m ((c.tc : Thread Cert.EvenGateIdeal.nD Cert.EvenGateIdeal.τ).loc Cert.EvenGateIdeal.main_arg3)
          ∧ r.2.mem ((c.tc : Thread Cert.EvenGateIdeal.nD Cert.EvenGateIdeal.τ).loc Cert.EvenGateIdeal.main_arg4) = m ((c.tc : Thread Cert.EvenGateIdeal.nD Cert.EvenGateIdeal.τ).loc Cert.EvenGateIdeal.main_arg4))
      ∧ θ_run (Cert.EvenGateRefIdeal.defs (F := Ideal)) (onTc (τ := Cert.EvenGateRefIdeal.τ) (Cert.EvenGateRefIdeal.main (F := Ideal))) ⟨m', fun _ => 0, g'⟩ (fun r => ∀ c : Dev Cert.EvenGateRefIdeal.nD,
          r.2.mem ((c.tc : Thread Cert.EvenGateRefIdeal.nD Cert.EvenGateRefIdeal.τ).loc Cert.EvenGateRefIdeal.main_v73) = v0 c
          ∧ r.2.mem ((c.tc : Thread Cert.EvenGateRefIdeal.nD Cert.EvenGateRefIdeal.τ).loc Cert.EvenGateRefIdeal.main_v41) = v1 c
          ∧ r.2.mem ((c.tc : Thread Cert.EvenGateRefIdeal.nD Cert.EvenGateRefIdeal.τ).loc Cert.EvenGateRefIdeal.main_v74) = v2 c
          ∧ r.2.mem ((c.tc : Thread Cert.EvenGateRefIdeal.nD Cert.EvenGateRefIdeal.τ).loc Cert.EvenGateRefIdeal.main_v58) = v3 c
          ∧ r.2.mem ((c.tc : Thread Cert.EvenGateRefIdeal.nD Cert.EvenGateRefIdeal.τ).loc Cert.EvenGateRefIdeal.main_v49) = v4 c
          ∧ r.2.mem ((c.tc : Thread Cert.EvenGateRefIdeal.nD Cert.EvenGateRefIdeal.τ).loc Cert.EvenGateRefIdeal.main_arg0) = m' ((c.tc : Thread Cert.EvenGateRefIdeal.nD Cert.EvenGateRefIdeal.τ).loc Cert.EvenGateRefIdeal.main_arg0)
          ∧ r.2.mem ((c.tc : Thread Cert.EvenGateRefIdeal.nD Cert.EvenGateRefIdeal.τ).loc Cert.EvenGateRefIdeal.main_arg1) = m' ((c.tc : Thread Cert.EvenGateRefIdeal.nD Cert.EvenGateRefIdeal.τ).loc Cert.EvenGateRefIdeal.main_arg1)
          ∧ r.2.mem ((c.tc : Thread Cert.EvenGateRefIdeal.nD Cert.EvenGateRefIdeal.τ).loc Cert.EvenGateRefIdeal.main_arg2) = m' ((c.tc : Thread Cert.EvenGateRefIdeal.nD Cert.EvenGateRefIdeal.τ).loc Cert.EvenGateRefIdeal.main_arg2)
          ∧ r.2.mem ((c.tc : Thread Cert.EvenGateRefIdeal.nD Cert.EvenGateRefIdeal.τ).loc Cert.EvenGateRefIdeal.main_arg3) = m' ((c.tc : Thread Cert.EvenGateRefIdeal.nD Cert.EvenGateRefIdeal.τ).loc Cert.EvenGateRefIdeal.main_arg3)
          ∧ r.2.mem ((c.tc : Thread Cert.EvenGateRefIdeal.nD Cert.EvenGateRefIdeal.τ).loc Cert.EvenGateRefIdeal.main_arg4) = m' ((c.tc : Thread Cert.EvenGateRefIdeal.nD Cert.EvenGateRefIdeal.τ).loc Cert.EvenGateRefIdeal.main_arg4))

def preserves_Attn_AttnIdeal : Prop :=
  IdealRules.named_const.Statement Cert.AttnIdeal.κ "masked" .f32 0xF149F2CA#32 ⊥

def algebraic_AttnIdeal_AttnRefIdeal_on_own_lanes_pre_finite_attn [hAttnIdeal : Cert.AttnIdeal.Facts] [hAttnRefIdeal : Cert.AttnRefIdeal.Facts] [hPre_finite_attn : Cert.Pre_finite_attn.Facts] [hOn_own_lanes : Cert.On_own_lanes.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v44_0)) (v1 : (c : Dev Cert.AttnIdeal.nD) → Buf (Elt Ideal) ((c.tc : Thread Cert.AttnIdeal.nD Cert.AttnIdeal.τ).loc Cert.AttnIdeal.main_v44_1)) (v2 : (c : Dev Cert.AttnIdeal.nD) → Buf (Elt Ideal) ((c.tc : Thread Cert.AttnIdeal.nD Cert.AttnIdeal.τ).loc Cert.AttnIdeal.main_v44_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨3, ![8, 4096, 128]⟩ : Shape).Idx, (Cert.On_own_lanes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 i = 1#1 → r.2.mem ((c.tc : Thread Cert.AttnIdeal.nD Cert.AttnIdeal.τ).loc Cert.AttnIdeal.main_v44_0) i = v0 c i)
          ∧ (∀ i : (⟨3, ![8, 4096, 128]⟩ : Shape).Idx, (Cert.On_own_lanes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 i = 1#1 → r.2.mem ((c.tc : Thread Cert.AttnIdeal.nD Cert.AttnIdeal.τ).loc Cert.AttnIdeal.main_v44_1) i = v1 c i)
          ∧ (∀ i : (⟨3, ![8, 4096, 128]⟩ : Shape).Idx, (Cert.On_own_lanes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 i = 1#1 → r.2.mem ((c.tc : Thread Cert.AttnIdeal.nD Cert.AttnIdeal.τ).loc Cert.AttnIdeal.main_v44_2) i = v2 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨3, ![8, 4096, 128]⟩ : Shape).Idx, (Cert.On_own_lanes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 i = 1#1 → r.2.mem ((c.tc : Thread Cert.AttnRefIdeal.nD Cert.AttnRefIdeal.τ).loc Cert.AttnRefIdeal.main_v73) i = v0 c i)
          ∧ (∀ i : (⟨3, ![8, 4096, 128]⟩ : Shape).Idx, (Cert.On_own_lanes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 i = 1#1 → r.2.mem ((c.tc : Thread Cert.AttnRefIdeal.nD Cert.AttnRefIdeal.τ).loc Cert.AttnRefIdeal.main_v74) i = v1 c i)
          ∧ (∀ i : (⟨3, ![8, 4096, 128]⟩ : Shape).Idx, (Cert.On_own_lanes.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 i = 1#1 → r.2.mem ((c.tc : Thread Cert.AttnRefIdeal.nD Cert.AttnRefIdeal.τ).loc Cert.AttnRefIdeal.main_v72) i = v2 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v44) = v0 c
          ∧ r.2.mem ((c.tc : Thread Cert.PostRefIdeal.nD Cert.PostRefIdeal.τ).loc Cert.PostRefIdeal.main_v24) = v1 c
          ∧ r.2.mem ((c.tc : Thread Cert.PostRefIdeal.nD Cert.PostRefIdeal.τ).loc Cert.PostRefIdeal.main_v27) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)) (v2 : (c : Dev Cert.PreIdeal.nD) → Buf (Elt Ideal) ((c.tc : Thread Cert.PreIdeal.nD Cert.PreIdeal.τ).loc Cert.PreIdeal.main_v0_2)) (v3 : (c : Dev Cert.PreIdeal.nD) → Buf (Elt Ideal) ((c.tc : Thread Cert.PreIdeal.nD Cert.PreIdeal.τ).loc Cert.PreIdeal.main_v0_3)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_v0_2) = v2 c
          ∧ r.2.mem ((c.tc : Thread Cert.PreIdeal.nD Cert.PreIdeal.τ).loc Cert.PreIdeal.main_v0_3) = v3 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v54) = v0 c
          ∧ r.2.mem ((c.tc : Thread Cert.PreRefIdeal.nD Cert.PreRefIdeal.τ).loc Cert.PreRefIdeal.main_v29) = v1 c
          ∧ r.2.mem ((c.tc : Thread Cert.PreRefIdeal.nD Cert.PreRefIdeal.τ).loc Cert.PreRefIdeal.main_v32) = v2 c
          ∧ r.2.mem ((c.tc : Thread Cert.PreRefIdeal.nD Cert.PreRefIdeal.τ).loc Cert.PreRefIdeal.main_v37) = v3 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)
      ∧ m' ((c.tc : Thread Cert.OddRefIdeal.nD Cert.OddRefIdeal.τ).loc Cert.OddRefIdeal.main_arg4) = m ((c.tc : Thread Cert.OddIdeal.nD Cert.OddIdeal.τ).loc Cert.OddIdeal.main_arg4)
      ∧ m' ((c.tc : Thread Cert.OddRefIdeal.nD Cert.OddRefIdeal.τ).loc Cert.OddRefIdeal.main_arg5) = m ((c.tc : Thread Cert.OddIdeal.nD Cert.OddIdeal.τ).loc Cert.OddIdeal.main_arg5)) →
    ∃ (v0 : (c : Dev Cert.OddIdeal.nD) → Buf (Elt Ideal) ((c.tc : Thread Cert.OddIdeal.nD Cert.OddIdeal.τ).loc Cert.OddIdeal.main_v33_0)) (v1 : (c : Dev Cert.OddIdeal.nD) → Buf (Elt Ideal) ((c.tc : Thread Cert.OddIdeal.nD Cert.OddIdeal.τ).loc Cert.OddIdeal.main_v33_1)) (v2 : (c : Dev Cert.OddIdeal.nD) → Buf (Elt Ideal) ((c.tc : Thread Cert.OddIdeal.nD Cert.OddIdeal.τ).loc Cert.OddIdeal.main_v33_2)) (v3 : (c : Dev Cert.OddIdeal.nD) → Buf (Elt Ideal) ((c.tc : Thread Cert.OddIdeal.nD Cert.OddIdeal.τ).loc Cert.OddIdeal.main_v33_3)) (v4 : (c : Dev Cert.OddIdeal.nD) → Buf (Elt Ideal) ((c.tc : Thread Cert.OddIdeal.nD Cert.OddIdeal.τ).loc Cert.OddIdeal.main_v33_4)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v33_0) = v0 c
          ∧ r.2.mem ((c.tc : Thread Cert.OddIdeal.nD Cert.OddIdeal.τ).loc Cert.OddIdeal.main_v33_1) = v1 c
          ∧ r.2.mem ((c.tc : Thread Cert.OddIdeal.nD Cert.OddIdeal.τ).loc Cert.OddIdeal.main_v33_2) = v2 c
          ∧ r.2.mem ((c.tc : Thread Cert.OddIdeal.nD Cert.OddIdeal.τ).loc Cert.OddIdeal.main_v33_3) = v3 c
          ∧ r.2.mem ((c.tc : Thread Cert.OddIdeal.nD Cert.OddIdeal.τ).loc Cert.OddIdeal.main_v33_4) = v4 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v116) = v0 c
          ∧ r.2.mem ((c.tc : Thread Cert.OddRefIdeal.nD Cert.OddRefIdeal.τ).loc Cert.OddRefIdeal.main_v111) = v1 c
          ∧ r.2.mem ((c.tc : Thread Cert.OddRefIdeal.nD Cert.OddRefIdeal.τ).loc Cert.OddRefIdeal.main_v102) = v2 c
          ∧ r.2.mem ((c.tc : Thread Cert.OddRefIdeal.nD Cert.OddRefIdeal.τ).loc Cert.OddRefIdeal.main_v74) = v3 c
          ∧ r.2.mem ((c.tc : Thread Cert.OddRefIdeal.nD Cert.OddRefIdeal.τ).loc Cert.OddRefIdeal.main_v71) = v4 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5))

def preserves_Mla_MlaIdeal : Prop :=
  True

def algebraic_MlaIdeal_MlaRefIdeal_on_read_lanes [hMlaIdeal : Cert.MlaIdeal.Facts] [hMlaRefIdeal : Cert.MlaRefIdeal.Facts] [hOn_read_lanes : Cert.On_read_lanes.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)
      ∧ m' ((c.tc : Thread Cert.MlaRefIdeal.nD Cert.MlaRefIdeal.τ).loc Cert.MlaRefIdeal.main_arg9) = m ((c.tc : Thread Cert.MlaIdeal.nD Cert.MlaIdeal.τ).loc Cert.MlaIdeal.main_arg9)
      ∧ m' ((c.tc : Thread Cert.MlaRefIdeal.nD Cert.MlaRefIdeal.τ).loc Cert.MlaRefIdeal.main_arg10) = m ((c.tc : Thread Cert.MlaIdeal.nD Cert.MlaIdeal.τ).loc Cert.MlaIdeal.main_arg10)) →
    ∃ (v0 : (c : Dev Cert.MlaIdeal.nD) → Buf (Elt Ideal) ((c.tc : Thread Cert.MlaIdeal.nD Cert.MlaIdeal.τ).loc Cert.MlaIdeal.main_v63_0)) (v1 : (c : Dev Cert.MlaIdeal.nD) → Buf (Elt Ideal) ((c.tc : Thread Cert.MlaIdeal.nD Cert.MlaIdeal.τ).loc Cert.MlaIdeal.main_v63_1)) (v2 : (c : Dev Cert.MlaIdeal.nD) → Buf (Elt Ideal) ((c.tc : Thread Cert.MlaIdeal.nD Cert.MlaIdeal.τ).loc Cert.MlaIdeal.main_v63_2)) (v3 : (c : Dev Cert.MlaIdeal.nD) → Buf (Elt Ideal) ((c.tc : Thread Cert.MlaIdeal.nD Cert.MlaIdeal.τ).loc Cert.MlaIdeal.main_v63_3)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          (∀ i : (⟨2, ![4096, 3072]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).1 i = 1#1 → r.2.mem ((c.tc : Thread Cert.MlaIdeal.nD Cert.MlaIdeal.τ).loc Cert.MlaIdeal.main_v63_0) i = v0 c i)
          ∧ (∀ i : (⟨3, ![4, 1024, 128]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).2.1 i = 1#1 → r.2.mem ((c.tc : Thread Cert.MlaIdeal.nD Cert.MlaIdeal.τ).loc Cert.MlaIdeal.main_v63_1) i = v1 c i)
          ∧ (∀ i : (⟨2, ![1, 256]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).2.2.1 i = 1#1 → r.2.mem ((c.tc : Thread Cert.MlaIdeal.nD Cert.MlaIdeal.τ).loc Cert.MlaIdeal.main_v63_2) i = v2 c i)
          ∧ (∀ i : (⟨2, ![1, 128]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).2.2.2 i = 1#1 → r.2.mem ((c.tc : Thread Cert.MlaIdeal.nD Cert.MlaIdeal.τ).loc Cert.MlaIdeal.main_v63_3) i = v3 c i)
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
          ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          (∀ i : (⟨2, ![4096, 3072]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).1 i = 1#1 → r.2.mem ((c.tc : Thread Cert.MlaRefIdeal.nD Cert.MlaRefIdeal.τ).loc Cert.MlaRefIdeal.main_v169) i = v0 c i)
          ∧ (∀ i : (⟨3, ![4, 1024, 128]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).2.1 i = 1#1 → r.2.mem ((c.tc : Thread Cert.MlaRefIdeal.nD Cert.MlaRefIdeal.τ).loc Cert.MlaRefIdeal.main_v190) i = v1 c i)
          ∧ (∀ i : (⟨2, ![1, 256]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).2.2.1 i = 1#1 → r.2.mem ((c.tc : Thread Cert.MlaRefIdeal.nD Cert.MlaRefIdeal.τ).loc Cert.MlaRefIdeal.main_v146) i = v2 c i)
          ∧ (∀ i : (⟨2, ![1, 128]⟩ : Shape).Idx, (Cert.On_read_lanes.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9)) (m ((c.tc : Thread Cert.MlaIdeal.nD Cert.MlaIdeal.τ).loc Cert.MlaIdeal.main_arg10))).2.2.2 i = 1#1 → r.2.mem ((c.tc : Thread Cert.MlaRefIdeal.nD Cert.MlaRefIdeal.τ).loc Cert.MlaRefIdeal.main_v106) i = v3 c i)
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)
      ∧ m' ((c.tc : Thread Cert.NextRefIdeal.nD Cert.NextRefIdeal.τ).loc Cert.NextRefIdeal.main_arg4) = m ((c.tc : Thread Cert.NextIdeal.nD Cert.NextIdeal.τ).loc Cert.NextIdeal.main_arg4)
      ∧ m' ((c.tc : Thread Cert.NextRefIdeal.nD Cert.NextRefIdeal.τ).loc Cert.NextRefIdeal.main_arg5) = m ((c.tc : Thread Cert.NextIdeal.nD Cert.NextIdeal.τ).loc Cert.NextIdeal.main_arg5)) →
    ∃ (v0 : (c : Dev Cert.NextIdeal.nD) → Buf (Elt Ideal) ((c.tc : Thread Cert.NextIdeal.nD Cert.NextIdeal.τ).loc Cert.NextIdeal.main_v0_0)) (v1 : (c : Dev Cert.NextIdeal.nD) → Buf (Elt Ideal) ((c.tc : Thread Cert.NextIdeal.nD Cert.NextIdeal.τ).loc Cert.NextIdeal.main_v0_1)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v0_0) = v0 c
          ∧ r.2.mem ((c.tc : Thread Cert.NextIdeal.nD Cert.NextIdeal.τ).loc Cert.NextIdeal.main_v0_1) = v1 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3)
          ∧ r.2.mem ((c.tc : Thread Cert.NextIdeal.nD Cert.NextIdeal.τ).loc Cert.NextIdeal.main_arg4) = m ((c.tc : Thread Cert.NextIdeal.nD Cert.NextIdeal.τ).loc Cert.NextIdeal.main_arg4)
          ∧ r.2.mem ((c.tc : Thread Cert.NextIdeal.nD Cert.NextIdeal.τ).loc Cert.NextIdeal.main_arg5) = m ((c.tc : Thread Cert.NextIdeal.nD Cert.NextIdeal.τ).loc Cert.NextIdeal.main_arg5))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v17) = v0 c
          ∧ r.2.mem ((c.tc : Thread Cert.NextRefIdeal.nD Cert.NextRefIdeal.τ).loc Cert.NextRefIdeal.main_v39) = v1 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3)
          ∧ r.2.mem ((c.tc : Thread Cert.NextRefIdeal.nD Cert.NextRefIdeal.τ).loc Cert.NextRefIdeal.main_arg4) = m' ((c.tc : Thread Cert.NextRefIdeal.nD Cert.NextRefIdeal.τ).loc Cert.NextRefIdeal.main_arg4)
          ∧ r.2.mem ((c.tc : Thread Cert.NextRefIdeal.nD Cert.NextRefIdeal.τ).loc Cert.NextRefIdeal.main_arg5) = m' ((c.tc : Thread Cert.NextRefIdeal.nD Cert.NextRefIdeal.τ).loc Cert.NextRefIdeal.main_arg5))

def preserves_Soft_SoftIdeal : Prop :=
  IdealRules.named_const.Statement Cert.SoftIdeal.κ "masked" .f32 0xF149F2CA#32 ⊥

def algebraic_SoftIdeal_SoftRefIdeal_pre_finite_soft [hSoftIdeal : Cert.SoftIdeal.Facts] [hSoftRefIdeal : Cert.SoftRefIdeal.Facts] [hPre_finite_soft : Cert.Pre_finite_soft.Facts] : Prop :=
  ∀ (m : (ℓ : Loc Cert.SoftIdeal.nD Cert.SoftIdeal.τ Cert.SoftIdeal.sig) → Buf (Elt Ideal) ℓ) (g : Dev Cert.SoftIdeal.nD → PrngReg)
    (m' : (ℓ : Loc Cert.SoftRefIdeal.nD Cert.SoftRefIdeal.τ Cert.SoftRefIdeal.sig) → Buf (Elt Ideal) ℓ) (g' : Dev Cert.SoftRefIdeal.nD → PrngReg), Pre_SoftIdeal_finite_soft m →
    (∀ c : Dev Cert.SoftIdeal.nD,
      m' ((c.tc : Thread Cert.SoftRefIdeal.nD Cert.SoftRefIdeal.τ).loc Cert.SoftRefIdeal.main_arg0) = m ((c.tc : Thread Cert.SoftIdeal.nD Cert.SoftIdeal.τ).loc Cert.SoftIdeal.main_arg0)
      ∧ m' ((c.tc : Thread Cert.SoftRefIdeal.nD Cert.SoftRefIdeal.τ).loc Cert.SoftRefIdeal.main_arg1) = m ((c.tc : Thread Cert.SoftIdeal.nD Cert.SoftIdeal.τ).loc Cert.SoftIdeal.main_arg1)
      ∧ m' ((c.tc : Thread Cert.SoftRefIdeal.nD Cert.SoftRefIdeal.τ).loc Cert.SoftRefIdeal.main_arg2) = m ((c.tc : Thread Cert.SoftIdeal.nD Cert.SoftIdeal.τ).loc Cert.SoftIdeal.main_arg2)) →
    ∃ (v0 : (c : Dev Cert.SoftIdeal.nD) → Buf (Elt Ideal) ((c.tc : Thread Cert.SoftIdeal.nD Cert.SoftIdeal.τ).loc Cert.SoftIdeal.main_v14_0)) (v1 : (c : Dev Cert.SoftIdeal.nD) → Buf (Elt Ideal) ((c.tc : Thread Cert.SoftIdeal.nD Cert.SoftIdeal.τ).loc Cert.SoftIdeal.main_v14_1)),
      θ_run (Cert.SoftIdeal.defs (F := Ideal)) (onTc (τ := Cert.SoftIdeal.τ) (Cert.SoftIdeal.main (F := Ideal))) ⟨m, fun _ => 0, g⟩ (fun r => ∀ c : Dev Cert.SoftIdeal.nD,
          r.2.mem ((c.tc : Thread Cert.SoftIdeal.nD Cert.SoftIdeal.τ).loc Cert.SoftIdeal.main_v14_0) = v0 c
          ∧ r.2.mem ((c.tc : Thread Cert.SoftIdeal.nD Cert.SoftIdeal.τ).loc Cert.SoftIdeal.main_v14_1) = v1 c
          ∧ r.2.mem ((c.tc : Thread Cert.SoftIdeal.nD Cert.SoftIdeal.τ).loc Cert.SoftIdeal.main_arg0) = m ((c.tc : Thread Cert.SoftIdeal.nD Cert.SoftIdeal.τ).loc Cert.SoftIdeal.main_arg0)
          ∧ r.2.mem ((c.tc : Thread Cert.SoftIdeal.nD Cert.SoftIdeal.τ).loc Cert.SoftIdeal.main_arg1) = m ((c.tc : Thread Cert.SoftIdeal.nD Cert.SoftIdeal.τ).loc Cert.SoftIdeal.main_arg1)
          ∧ r.2.mem ((c.tc : Thread Cert.SoftIdeal.nD Cert.SoftIdeal.τ).loc Cert.SoftIdeal.main_arg2) = m ((c.tc : Thread Cert.SoftIdeal.nD Cert.SoftIdeal.τ).loc Cert.SoftIdeal.main_arg2))
      ∧ θ_run (Cert.SoftRefIdeal.defs (F := Ideal)) (onTc (τ := Cert.SoftRefIdeal.τ) (Cert.SoftRefIdeal.main (F := Ideal))) ⟨m', fun _ => 0, g'⟩ (fun r => ∀ c : Dev Cert.SoftRefIdeal.nD,
          r.2.mem ((c.tc : Thread Cert.SoftRefIdeal.nD Cert.SoftRefIdeal.τ).loc Cert.SoftRefIdeal.main_v24) = v0 c
          ∧ r.2.mem ((c.tc : Thread Cert.SoftRefIdeal.nD Cert.SoftRefIdeal.τ).loc Cert.SoftRefIdeal.main_v39) = v1 c
          ∧ r.2.mem ((c.tc : Thread Cert.SoftRefIdeal.nD Cert.SoftRefIdeal.τ).loc Cert.SoftRefIdeal.main_arg0) = m' ((c.tc : Thread Cert.SoftRefIdeal.nD Cert.SoftRefIdeal.τ).loc Cert.SoftRefIdeal.main_arg0)
          ∧ r.2.mem ((c.tc : Thread Cert.SoftRefIdeal.nD Cert.SoftRefIdeal.τ).loc Cert.SoftRefIdeal.main_arg1) = m' ((c.tc : Thread Cert.SoftRefIdeal.nD Cert.SoftRefIdeal.τ).loc Cert.SoftRefIdeal.main_arg1)
          ∧ r.2.mem ((c.tc : Thread Cert.SoftRefIdeal.nD Cert.SoftRefIdeal.τ).loc Cert.SoftRefIdeal.main_arg2) = m' ((c.tc : Thread Cert.SoftRefIdeal.nD Cert.SoftRefIdeal.τ).loc Cert.SoftRefIdeal.main_arg2))

def Claim : Prop :=
  ∃ (hLoss : Cert.Loss.Facts) (hLossIdeal : Cert.LossIdeal.Facts) (hLossRefIdeal : Cert.LossRefIdeal.Facts) (hAda : Cert.Ada.Facts) (hAdaIdeal : Cert.AdaIdeal.Facts) (hAdaRefIdeal : Cert.AdaRefIdeal.Facts) (hEvenGate : Cert.EvenGate.Facts) (hEvenGateIdeal : Cert.EvenGateIdeal.Facts) (hEvenGateRefIdeal : Cert.EvenGateRefIdeal.Facts) (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hPre : Cert.Pre.Facts) (hPreIdeal : Cert.PreIdeal.Facts) (hPreRefIdeal : Cert.PreRefIdeal.Facts) (hOdd : Cert.Odd.Facts) (hOddIdeal : Cert.OddIdeal.Facts) (hOddRefIdeal : Cert.OddRefIdeal.Facts) (hMla : Cert.Mla.Facts) (hMlaIdeal : Cert.MlaIdeal.Facts) (hMlaRefIdeal : Cert.MlaRefIdeal.Facts) (hNext : Cert.Next.Facts) (hNextIdeal : Cert.NextIdeal.Facts) (hNextRefIdeal : Cert.NextRefIdeal.Facts) (hSoft : Cert.Soft.Facts) (hSoftIdeal : Cert.SoftIdeal.Facts) (hSoftRefIdeal : Cert.SoftRefIdeal.Facts) (hPre_finite_even_gate : Cert.Pre_finite_even_gate.Facts) (hPre_finite_attn : Cert.Pre_finite_attn.Facts) (hPre_finite_soft : Cert.Pre_finite_soft.Facts) (hOn_own_lanes : Cert.On_own_lanes.Facts) (hOn_read_lanes : Cert.On_read_lanes.Facts),
    quiescent_Loss (hLoss := hLoss)
    ∧ quiescent_LossIdeal (hLossIdeal := hLossIdeal)
    ∧ quiescent_LossRefIdeal (hLossRefIdeal := hLossRefIdeal)
    ∧ quiescent_Ada (hAda := hAda)
    ∧ quiescent_AdaIdeal (hAdaIdeal := hAdaIdeal)
    ∧ quiescent_AdaRefIdeal (hAdaRefIdeal := hAdaRefIdeal)
    ∧ quiescent_EvenGate (hEvenGate := hEvenGate)
    ∧ quiescent_EvenGateIdeal (hEvenGateIdeal := hEvenGateIdeal)
    ∧ quiescent_EvenGateIdeal_pre_finite_even_gate (hEvenGateIdeal := hEvenGateIdeal) (hPre_finite_even_gate := hPre_finite_even_gate)
    ∧ quiescent_EvenGateRefIdeal (hEvenGateRefIdeal := hEvenGateRefIdeal)
    ∧ quiescent_EvenGateRefIdeal_pre_finite_even_gate (hEvenGateRefIdeal := hEvenGateRefIdeal) (hPre_finite_even_gate := hPre_finite_even_gate)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Post (hPost := hPost)
    ∧ quiescent_PostIdeal (hPostIdeal := hPostIdeal)
    ∧ quiescent_PostRefIdeal (hPostRefIdeal := hPostRefIdeal)
    ∧ quiescent_Pre (hPre := hPre)
    ∧ quiescent_PreIdeal (hPreIdeal := hPreIdeal)
    ∧ quiescent_PreRefIdeal (hPreRefIdeal := hPreRefIdeal)
    ∧ quiescent_Odd (hOdd := hOdd)
    ∧ quiescent_OddIdeal (hOddIdeal := hOddIdeal)
    ∧ quiescent_OddRefIdeal (hOddRefIdeal := hOddRefIdeal)
    ∧ quiescent_Mla (hMla := hMla)
    ∧ quiescent_MlaIdeal (hMlaIdeal := hMlaIdeal)
    ∧ quiescent_MlaRefIdeal (hMlaRefIdeal := hMlaRefIdeal)
    ∧ quiescent_Next (hNext := hNext)
    ∧ quiescent_NextIdeal (hNextIdeal := hNextIdeal)
    ∧ quiescent_NextRefIdeal (hNextRefIdeal := hNextRefIdeal)
    ∧ quiescent_Soft (hSoft := hSoft)
    ∧ quiescent_SoftIdeal (hSoftIdeal := hSoftIdeal)
    ∧ quiescent_SoftIdeal_pre_finite_soft (hSoftIdeal := hSoftIdeal) (hPre_finite_soft := hPre_finite_soft)
    ∧ quiescent_SoftRefIdeal (hSoftRefIdeal := hSoftRefIdeal)
    ∧ quiescent_SoftRefIdeal_pre_finite_soft (hSoftRefIdeal := hSoftRefIdeal) (hPre_finite_soft := hPre_finite_soft)
    ∧ preserves_Loss_LossIdeal
    ∧ algebraic_LossIdeal_LossRefIdeal (hLossIdeal := hLossIdeal) (hLossRefIdeal := hLossRefIdeal)
    ∧ preserves_Ada_AdaIdeal
    ∧ algebraic_AdaIdeal_AdaRefIdeal (hAdaIdeal := hAdaIdeal) (hAdaRefIdeal := hAdaRefIdeal)
    ∧ preserves_EvenGate_EvenGateIdeal
    ∧ algebraic_EvenGateIdeal_EvenGateRefIdeal_pre_finite_even_gate (hEvenGateIdeal := hEvenGateIdeal) (hEvenGateRefIdeal := hEvenGateRefIdeal) (hPre_finite_even_gate := hPre_finite_even_gate)
    ∧ preserves_Attn_AttnIdeal
    ∧ algebraic_AttnIdeal_AttnRefIdeal_on_own_lanes_pre_finite_attn (hAttnIdeal := hAttnIdeal) (hAttnRefIdeal := hAttnRefIdeal) (hPre_finite_attn := hPre_finite_attn) (hOn_own_lanes := hOn_own_lanes)
    ∧ preserves_Post_PostIdeal
    ∧ algebraic_PostIdeal_PostRefIdeal (hPostIdeal := hPostIdeal) (hPostRefIdeal := hPostRefIdeal)
    ∧ preserves_Pre_PreIdeal
    ∧ algebraic_PreIdeal_PreRefIdeal (hPreIdeal := hPreIdeal) (hPreRefIdeal := hPreRefIdeal)
    ∧ preserves_Odd_OddIdeal
    ∧ algebraic_OddIdeal_OddRefIdeal (hOddIdeal := hOddIdeal) (hOddRefIdeal := hOddRefIdeal)
    ∧ preserves_Mla_MlaIdeal
    ∧ algebraic_MlaIdeal_MlaRefIdeal_on_read_lanes (hMlaIdeal := hMlaIdeal) (hMlaRefIdeal := hMlaRefIdeal) (hOn_read_lanes := hOn_read_lanes)
    ∧ preserves_Next_NextIdeal
    ∧ algebraic_NextIdeal_NextRefIdeal (hNextIdeal := hNextIdeal) (hNextRefIdeal := hNextRefIdeal)
    ∧ preserves_Soft_SoftIdeal
    ∧ algebraic_SoftIdeal_SoftRefIdeal_pre_finite_soft (hSoftIdeal := hSoftIdeal) (hSoftRefIdeal := hSoftRefIdeal) (hPre_finite_soft := hPre_finite_soft)
-- ==== On_own_lanes.lean ====
abbrev S8x4096x96 : Shape := ⟨3, ![8, 4096, 96]⟩
abbrev S8x4096x64 : Shape := ⟨3, ![8, 4096, 64]⟩
abbrev S4096x512 : Shape := ⟨2, ![4096, 512]⟩
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)

variable [Facts]

def fn_where {F : FTy → Type} [FloatOps F] (arg0 : IVec S8x4096x128 1) (arg1 : IVec S8x4096x128 32) (arg2 : IVec S8x4096x128 32) : IVec S8x4096x128 32 :=
  let v0 : IVec S8x4096x128 32 := select arg0 arg1 arg2
  v0

def fn_floor_divide {F : FTy → Type} [FloatOps F] (arg0 : IVec S8x4096x128 32) (arg1 : IVec S_ 32) : IVec S8x4096x128 32 :=
  let v0 : IVec S_ 32 := id arg1
  let v1 : IVec S8x4096x128 32 := broadcastInDim S8x4096x128 ![] bcast_S_S8x4096x128 v0
  let v2 : IVec S8x4096x128 32 := Host.divsi arg0 v1
  let v3 : IVec S8x4096x128 32 := signi arg0
  let v4 : IVec S_ 32 := signi v0
  let v5 : IVec S8x4096x128 32 := broadcastInDim S8x4096x128 ![] bcast_S_S8x4096x128 v4
  let v6 : IVec S8x4096x128 1 := cmpi .ne v3 v5
  let v7 : IVec S8x4096x128 32 := broadcastInDim S8x4096x128 ![] bcast_S_S8x4096x128 v0
  let v8 : IVec S8x4096x128 32 := Host.remsi arg0 v7
  let c : IVec S_ 32 := constantI S_ 32 0#32
  let v9 : IVec S8x4096x128 32 := broadcastInDim S8x4096x128 ![] bcast_S_S8x4096x128 c
  let v10 : IVec S8x4096x128 1 := cmpi .ne v8 v9
  let v11 : IVec S8x4096x128 1 := andi v6 v10
  let c_0 : IVec S_ 32 := constantI S_ 32 1#32
  let v12 : IVec S8x4096x128 32 := broadcastInDim S8x4096x128 ![] bcast_S_S8x4096x128 c_0
  let v13 : IVec S8x4096x128 32 := subi v2 v12
  let v14 : IVec S8x4096x128 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S8x4096x128 32) (arg1 : IVec S_ 32) : IVec S8x4096x128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S8x4096x128 32 := broadcastInDim S8x4096x128 ![] bcast_S_S8x4096x128 v2
  let v4 : IVec S8x4096x128 32 := Host.remsi arg0 v3
  let c_1 : IVec S_ 32 := constantI S_ 32 0#32
  let v5 : IVec S8x4096x128 32 := broadcastInDim S8x4096x128 ![] bcast_S_S8x4096x128 c_1
  let v6 : IVec S8x4096x128 1 := cmpi .ne v4 v5
  let c_2 : IVec S_ 32 := constantI S_ 32 0#32
  let v7 : IVec S8x4096x128 32 := broadcastInDim S8x4096x128 ![] bcast_S_S8x4096x128 c_2
  let v8 : IVec S8x4096x128 1 := cmpi .slt v4 v7
  let c_3 : IVec S_ 32 := constantI S_ 32 0#32
  let v9 : IVec S_ 1 := cmpi .slt v2 c_3
  let v10 : IVec S8x4096x128 1 := broadcastInDim S8x4096x128 ![] bcast_S_S8x4096x128 v9
  let v11 : IVec S8x4096x128 1 := cmpi .ne v8 v10
  let v12 : IVec S8x4096x128 1 := andi v11 v6
  let v13 : IVec S8x4096x128 32 := broadcastInDim S8x4096x128 ![] bcast_S_S8x4096x128 v2
  let v14 : IVec S8x4096x128 32 := addi v4 v13
  let v15 : IVec S8x4096x128 32 := select v12 v14 v4
  v15

def fn {F : FTy → Type} [FloatOps F] (main_arg0 : FVec F S8x4096x96 .f32) (main_arg1 : FVec F S8x4096x96 .f32) (main_arg2 : FVec F S8x4096x64 .f32) (main_arg3 : FVec F S4096x512 .f32) : IVec S8x4096x128 1 × IVec S8x4096x128 1 × IVec S8x4096x128 1 :=
  let main_v0 : IVec S8x4096x128 32 := iotaInDim S8x4096x128 32 2
  let main_c : IVec S_ 32 := constantI S_ 32 64#32
  let main_v1 : IVec S8x4096x128 32 := fn_floor_divide (F := F) main_v0 main_c
  let main_v2 : IVec S8x4096x128 32 := iotaInDim S8x4096x128 32 0
  let main_c_0 : IVec S_ 32 := constantI S_ 32 2#32
  let main_v3 : IVec S8x4096x128 32 := fn_remainder (F := F) main_v2 main_c_0
  let main_c_1 : IVec S_ 1 := constantI S_ 1 1#1
  let main_v4 : IVec S8x4096x128 1 := broadcastInDim S8x4096x128 ![] bcast_S_S8x4096x128 main_c_1
  let main_v5 : IVec S8x4096x128 1 := cmpi .eq main_v1 main_v3
  (main_v4, main_v4, main_v5)
-- ==== On_read_lanes.lean ====
abbrev S4096x3072 : Shape := ⟨2, ![4096, 3072]⟩
abbrev S8x4096x96 : Shape := ⟨3, ![8, 4096, 96]⟩
abbrev S8x4096x64 : Shape := ⟨3, ![8, 4096, 64]⟩
abbrev S4096x2976 : Shape := ⟨2, ![4096, 2976]⟩
abbrev S4096x16 : Shape := ⟨2, ![4096, 16]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S4x1024x128 : Shape := ⟨3, ![4, 1024, 128]⟩
abbrev S_ : Shape := ⟨0, ![]⟩

class Facts : Prop where
  bcast_S_S4x1024x128 : S_.BroadcastsInDim S4x1024x128 (![] : Fin 0 → Fin S4x1024x128.rank)
  bcast_S_S4096x3072 : S_.BroadcastsInDim S4096x3072 (![] : Fin 0 → Fin S4096x3072.rank)
  bcast_S_S1x256 : S_.BroadcastsInDim S1x256 (![] : Fin 0 → Fin S1x256.rank)
  bcast_S_S1x128 : S_.BroadcastsInDim S1x128 (![] : Fin 0 → Fin S1x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4x1024x128 32) (arg1 : IVec S_ 32) : IVec S4x1024x128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4x1024x128 32 := broadcastInDim S4x1024x128 ![] bcast_S_S4x1024x128 v2
  let v4 : IVec S4x1024x128 32 := Host.remsi arg0 v3
  let c_1 : IVec S_ 32 := constantI S_ 32 0#32
  let v5 : IVec S4x1024x128 32 := broadcastInDim S4x1024x128 ![] bcast_S_S4x1024x128 c_1
  let v6 : IVec S4x1024x128 1 := cmpi .ne v4 v5
  let c_2 : IVec S_ 32 := constantI S_ 32 0#32
  let v7 : IVec S4x1024x128 32 := broadcastInDim S4x1024x128 ![] bcast_S_S4x1024x128 c_2
  let v8 : IVec S4x1024x128 1 := cmpi .slt v4 v7
  let c_3 : IVec S_ 32 := constantI S_ 32 0#32
  let v9 : IVec S_ 1 := cmpi .slt v2 c_3
  let v10 : IVec S4x1024x128 1 := broadcastInDim S4x1024x128 ![] bcast_S_S4x1024x128 v9
  let v11 : IVec S4x1024x128 1 := cmpi .ne v8 v10
  let v12 : IVec S4x1024x128 1 := andi v11 v6
  let v13 : IVec S4x1024x128 32 := broadcastInDim S4x1024x128 ![] bcast_S_S4x1024x128 v2
  let v14 : IVec S4x1024x128 32 := addi v4 v13
  let v15 : IVec S4x1024x128 32 := select v12 v14 v4
  v15

def fn_where_0 {F : FTy → Type} [FloatOps F] (arg0 : IVec S4x1024x128 1) (arg1 : IVec S4x1024x128 32) (arg2 : IVec S4x1024x128 32) : IVec S4x1024x128 32 :=
  let v0 : IVec S4x1024x128 32 := select arg0 arg1 arg2
  v0

def fn_floor_divide {F : FTy → Type} [FloatOps F] (arg0 : IVec S4x1024x128 32) (arg1 : IVec S_ 32) : IVec S4x1024x128 32 :=
  let v0 : IVec S_ 32 := id arg1
  let v1 : IVec S4x1024x128 32 := broadcastInDim S4x1024x128 ![] bcast_S_S4x1024x128 v0
  let v2 : IVec S4x1024x128 32 := Host.divsi arg0 v1
  let v3 : IVec S4x1024x128 32 := signi arg0
  let v4 : IVec S_ 32 := signi v0
  let v5 : IVec S4x1024x128 32 := broadcastInDim S4x1024x128 ![] bcast_S_S4x1024x128 v4
  let v6 : IVec S4x1024x128 1 := cmpi .ne v3 v5
  let v7 : IVec S4x1024x128 32 := broadcastInDim S4x1024x128 ![] bcast_S_S4x1024x128 v0
  let v8 : IVec S4x1024x128 32 := Host.remsi arg0 v7
  let c : IVec S_ 32 := constantI S_ 32 0#32
  let v9 : IVec S4x1024x128 32 := broadcastInDim S4x1024x128 ![] bcast_S_S4x1024x128 c
  let v10 : IVec S4x1024x128 1 := cmpi .ne v8 v9
  let v11 : IVec S4x1024x128 1 := andi v6 v10
  let c_0 : IVec S_ 32 := constantI S_ 32 1#32
  let v12 : IVec S4x1024x128 32 := broadcastInDim S4x1024x128 ![] bcast_S_S4x1024x128 c_0
  let v13 : IVec S4x1024x128 32 := subi v2 v12
  let v14 : IVec S4x1024x128 32 := fn_where_0 (F := F) v11 v13 v2
  v14

def fn {F : FTy → Type} [FloatOps F] (main_arg0 : FVec F S4096x3072 .bf16) (main_arg1 : FVec F S8x4096x96 .f32) (main_arg2 : FVec F S8x4096x96 .f32) (main_arg3 : FVec F S8x4096x64 .f32) (main_arg4 : FVec F S4096x2976 .f32) (main_arg5 : FVec F S4096x16 .f32) (main_arg6 : FVec F S4096x16 .f32) (main_arg7 : FVec F S1x256 .f32) (main_arg8 : FVec F S1x128 .f32) (main_arg9 : FVec F S256x768 .f32) (main_arg10 : FVec F S128x1024 .f32) : IVec S4096x3072 1 × IVec S4x1024x128 1 × IVec S1x256 1 × IVec S1x128 1 :=
  let main_v0 : IVec S4x1024x128 32 := iotaInDim S4x1024x128 32 1
  let main_c : IVec S_ 32 := constantI S_ 32 512#32
  let main_v1 : IVec S4x1024x128 32 := fn_remainder (F := F) main_v0 main_c
  let main_c_0 : IVec S_ 32 := constantI S_ 32 128#32
  let main_v2 : IVec S4x1024x128 32 := fn_floor_divide (F := F) main_v1 main_c_0
  let main_v3 : IVec S4x1024x128 32 := iotaInDim S4x1024x128 32 2
  let main_c_1 : IVec S_ 1 := constantI S_ 1 1#1
  let main_v4 : IVec S4096x3072 1 := broadcastInDim S4096x3072 ![] bcast_S_S4096x3072 main_c_1
  let main_c_2 : IVec S_ 32 := constantI S_ 32 2#32
  let main_v5 : IVec S4x1024x128 32 := broadcastInDim S4x1024x128 ![] bcast_S_S4x1024x128 main_c_2
  let main_v6 : IVec S4x1024x128 1 := cmpi .ne main_v2 main_v5
  let main_c_3 : IVec S_ 32 := constantI S_ 32 64#32
  let main_v7 : IVec S4x1024x128 32 := broadcastInDim S4x1024x128 ![] bcast_S_S4x1024x128 main_c_3
  let main_v8 : IVec S4x1024x128 1 := cmpi .slt main_v3 main_v7
  let main_v9 : IVec S4x1024x128 1 := ori main_v6 main_v8
  let main_c_4 : IVec S_ 32 := constantI S_ 32 96#32
  let main_v10 : IVec S4x1024x128 32 := broadcastInDim S4x1024x128 ![] bcast_S_S4x1024x128 main_c_4
  let main_v11 : IVec S4x1024x128 1 := cmpi .sge main_v3 main_v10
  let main_v12 : IVec S4x1024x128 1 := ori main_v9 main_v11
  let main_c_5 : IVec S_ 1 := constantI S_ 1 1#1
  let main_v13 : IVec S1x256 1 := broadcastInDim S1x256 ![] bcast_S_S1x256 main_c_5
  let main_c_6 : IVec S_ 1 := constantI S_ 1 1#1
  let main_v14 : IVec S1x128 1 := broadcastInDim S1x128 ![] bcast_S_S1x128 main_c_6
  (main_v4, main_v12, main_v13, main_v14)
-- ==== Pre_finite_attn.lean ====
abbrev S8x4096x96 : Shape := ⟨3, ![8, 4096, 96]⟩
abbrev S8x4096x64 : Shape := ⟨3, ![8, 4096, 64]⟩
abbrev S4096x512 : Shape := ⟨2, ![4096, 512]⟩
abbrev S_ : Shape := ⟨0, ![]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S8x4096x96 .f32) (main_arg1 : FVec F S8x4096x96 .f32) (main_arg2 : FVec F S8x4096x64 .f32) (main_arg3 : FVec F S4096x512 .f32) : IVec S_ 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_finite_even_gate.lean ====
abbrev S4096x1024 : Shape := ⟨2, ![4096, 1024]⟩
abbrev S4096x2976 : Shape := ⟨2, ![4096, 2976]⟩
abbrev S4096x512 : Shape := ⟨2, ![4096, 512]⟩
abbrev S3x512 : Shape := ⟨2, ![3, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2976 : S_.BroadcastsInDim S4096x2976 (![] : Fin 0 → Fin S4096x2976.rank)
  reducesTo_S4096x2976_S_d0_1 : S4096x2976.ReducesTo [0, 1] S_
  bcast_S_S4096x512 : S_.BroadcastsInDim S4096x512 (![] : Fin 0 → Fin S4096x512.rank)
  reducesTo_S4096x512_S_d0_1 : S4096x512.ReducesTo [0, 1] S_
  bcast_S_S3x512 : S_.BroadcastsInDim S3x512 (![] : Fin 0 → Fin S3x512.rank)
  reducesTo_S3x512_S_d0_1 : S3x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S4096x1024 .f32) (main_arg1 : FVec F S4096x2976 .f32) (main_arg2 : FVec F S4096x512 .f32) (main_arg3 : FVec F S3x512 .f32) (main_arg4 : FVec F S1x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2976 .f32 := Host.absf main_arg1
  let main_cst_0 : FVec F S_ .f32 := constant S_ .f32 0x7F800000#32
  let main_v5 : FVec F S4096x2976 .f32 := broadcastInDim S4096x2976 ![] bcast_S_S4096x2976 main_cst_0
  let main_v6 : IVec S4096x2976 1 := cmpf .olt main_v4 main_v5
  let main_c_1 : IVec S_ 1 := constantI S_ 1 1#1
  let main_v7 : IVec S_ 1 := (fun x v => Host.reduce IntOp.andi x v reducesTo_S4096x2976_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_v13 main_v16
-- ==== Pre_finite_soft.lean ====
abbrev S8x4096x96 : Shape := ⟨3, ![8, 4096, 96]⟩
abbrev S8x4096x64 : Shape := ⟨3, ![8, 4096, 64]⟩
abbrev S_ : Shape := ⟨0, ![]⟩

class Facts : Prop where
  bcast_S_S8x4096x96 : S_.BroadcastsInDim S8x4096x96 (![] : Fin 0 → Fin S8x4096x96.rank)
  reducesTo_S8x4096x96_S_d0_1_2 : S8x4096x96.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_

variable [Facts]

def fn {F : FTy → Type} [FloatOps F] (main_arg0 : FVec F S8x4096x96 .f32) (main_arg1 : FVec F S8x4096x96 .f32) (main_arg2 : FVec F S8x4096x64 .f32) : IVec S_ 1 :=
  let main_v0 : FVec F S8x4096x96 .f32 := Host.absf main_arg0
  let main_cst : FVec F S_ .f32 := constant S_ .f32 0x7F800000#32
  let main_v1 : FVec F S8x4096x96 .f32 := broadcastInDim S8x4096x96 ![] bcast_S_S8x4096x96 main_cst
  let main_v2 : IVec S8x4096x96 1 := cmpf .olt main_v0 main_v1
  let main_c : IVec S_ 1 := constantI S_ 1 1#1
  let main_v3 : IVec S_ 1 := (fun x v => Host.reduce IntOp.andi x v reducesTo_S8x4096x96_S_d0_1_2 h_S_) main_v2 main_c
  let main_v4 : FVec F S8x4096x96 .f32 := Host.absf main_arg1
  let main_cst_0 : FVec F S_ .f32 := constant S_ .f32 0x7F800000#32
  let main_v5 : FVec F S8x4096x96 .f32 := broadcastInDim S8x4096x96 ![] bcast_S_S8x4096x96 main_cst_0
  let main_v6 : IVec S8x4096x96 1 := cmpf .olt main_v4 main_v5
  let main_c_1 : IVec S_ 1 := constantI S_ 1 1#1
  let main_v7 : IVec S_ 1 := (fun x v => Host.reduce IntOp.andi x v reducesTo_S8x4096x96_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  main_v13
-- ==== Loss.lean ====
abbrev S4096x1024 : Shape := ⟨2, ![4096, 1024]⟩
abbrev S1x1024 : Shape := ⟨2, ![1, 1024]⟩
abbrev S1x3072 : Shape := ⟨2, ![1, 3072]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S4096x1024, .f32⟩
  | .hbm, ⟨5, _⟩ => ⟨S1x1, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRefIdeal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Ada.lean ====
abbrev S8x1024 : Shape := ⟨2, ![8, 1024]⟩
abbrev S4x8x768 : Shape := ⟨3, ![4, 8, 768]⟩
abbrev S1024x8 : Shape := ⟨2, ![1024, 8]⟩
abbrev S4x1024x768 : Shape := ⟨3, ![4, 1024, 768]⟩
abbrev S256x8 : Shape := ⟨2, ![256, 8]⟩
abbrev S1x8x768 : Shape := ⟨3, ![1, 8, 768]⟩
abbrev S1x256x768 : Shape := ⟨3, ![1, 256, 768]⟩
abbrev S256x1 : Shape := ⟨2, ![256, 1]⟩
abbrev S1x1x768 : Shape := ⟨3, ![1, 1, 768]⟩
abbrev S1x768 : Shape := ⟨2, ![1, 768]⟩
abbrev S256x768 : Shape := ⟨2, ![256, 768]⟩

abbrev nBuf : Space → Nat
  | .hbm => 4
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S1024x8, .f32⟩
  | .hbm, ⟨3, _⟩ => ⟨S4x1024x768, .f32⟩
  | .local _ .vmem, ⟨0, _⟩ => ⟨S256x8, .f32⟩
  | .local _ .vmem, ⟨1, _⟩ => ⟨S256x8, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaRefIdeal.lean ====
abbrev S8x1024 : Shape := ⟨2, ![8, 1024]⟩
abbrev S4x8x768 : Shape := ⟨3, ![4, 8, 768]⟩
abbrev S_ : Shape := ⟨0, ![]⟩
abbrev S4x1024x768 : Shape := ⟨3, ![4, 1024, 768]⟩
abbrev S4x768 : Shape := ⟨2, ![4, 768]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S1x8x768 : Shape := ⟨3, ![1, 8, 768]⟩
abbrev S768x1024 : Shape := ⟨2, ![768, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S_, .f32⟩
  | .hbm, ⟨3, _⟩ => ⟨S4x1024x768, .f32⟩
  | .hbm, ⟨4, _⟩ => ⟨S_, .f32⟩
  | .hbm, ⟨5, _⟩ => ⟨S4x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1x1024x768, .f32⟩
  | .hbm, ⟨16, _⟩ => ⟨S1024x768, .f32⟩
  | .hbm, ⟨17, _⟩ => ⟨S8x768, .f32⟩
  | .hbm, ⟨18, _⟩ => ⟨S1x768, .f32⟩
  | .hbm, ⟨19, _⟩ => ⟨S768, .f32⟩
  | .hbm, ⟨20, _⟩ => ⟨S1x768, .f32⟩
  | .hbm, ⟨21, _⟩ => ⟨S8x768, .f32⟩
  | .hbm, ⟨22, _⟩ => ⟨S8x768, .f32⟩
  | .hbm, ⟨23, _⟩ => ⟨S1x1024x768, .f32⟩
  | .hbm, ⟨24, _⟩ => ⟨S1024x768, .f32⟩
  | .hbm, ⟨25, _⟩ => ⟨S8x768, .f32⟩
  | .hbm, ⟨26, _⟩ => ⟨S1x768, .f32⟩
  | .hbm, ⟨27, _⟩ => ⟨S768, .f32⟩
  | .hbm, ⟨28, _⟩ => ⟨S1x768, .f32⟩
  | .hbm, ⟨29, _⟩ => ⟨S8x768, .f32⟩
  | .hbm, ⟨30, _⟩ => ⟨S8x768, .f32⟩
  | .hbm, ⟨31, _⟩ => ⟨S1x1024x768, .f32⟩
  | .hbm, ⟨32, _⟩ => ⟨S1024x768, .f32⟩
  | .hbm, ⟨33, _⟩ => ⟨S8x768, .f32⟩
  | .hbm, ⟨34, _⟩ => ⟨S1x768, .f32⟩
  | .hbm, ⟨35, _⟩ => ⟨S768, .f32⟩
  | .hbm, ⟨36, _⟩ => ⟨S1x768, .f32⟩
  | .hbm, ⟨37, _⟩ => ⟨S8x768, .f32⟩
  | .hbm, ⟨38, _⟩ => ⟨S8x768, .f32⟩
  | .hbm, ⟨39, _⟩ => ⟨S1x1024x768, .f32⟩
  | .hbm, ⟨40, _⟩ => ⟨S1024x768, .f32⟩
  | .hbm, ⟨41, _⟩ => ⟨S8x768, .f32⟩
  | .hbm, ⟨42, _⟩ => ⟨S1x768, .f32⟩
  | .hbm, ⟨43, _⟩ => ⟨S768, .f32⟩
  | .hbm, ⟨44, _⟩ => ⟨S1x768, .f32⟩
  | .hbm, ⟨45, _⟩ => ⟨S8x768, .f32⟩
  | .hbm, ⟨46, _⟩ => ⟨S8x768, .f32⟩
  | .hbm, ⟨47, _⟩ => ⟨S1x8x768, .f32⟩
  | .hbm, ⟨48, _⟩ => ⟨S1x8x768, .f32⟩
  | .hbm, ⟨49, _⟩ => ⟨S1x8x768, .f32⟩
  | .hbm, ⟨50, _⟩ => ⟨S1x8x768, .f32⟩
  | .hbm, ⟨51, _⟩ => ⟨S4x8x768, .f32⟩
  | .hbm, ⟨52, _⟩ => ⟨S1x8x768, .f32⟩
  | .hbm, ⟨53, _⟩ => ⟨S8x768, .f32⟩
  | .hbm, ⟨54, _⟩ => ⟨S1x8x768, .f32⟩
  | .hbm, ⟨55, _⟩ => ⟨S8x768, .f32⟩
  | .hbm, ⟨56, _⟩ => ⟨S1x8x768, .f32⟩
  | .hbm, ⟨57, _⟩ => ⟨S8x768, .f32⟩
  | .hbm, ⟨58, _⟩ => ⟨S1x8x768, .f32⟩
  | .hbm, ⟨59, _⟩ => ⟨S8x768, .f32⟩
  | .hbm, ⟨60, _⟩ => ⟨S768x1024, .f32⟩
  | .hbm, ⟨61, _⟩ => ⟨S1024x768, .f32⟩
  | .hbm, ⟨62, _⟩ => ⟨S1x1024x768, .f32⟩
  | .hbm, ⟨63, _⟩ => ⟨S_, .f32⟩
  | .hbm, ⟨64, _⟩ => ⟨S4x1024x768, .f32⟩
  | .hbm, ⟨65, _⟩ => ⟨S768x1024, .f32⟩
  | .hbm, ⟨66, _⟩ => ⟨S1024x768, .f32⟩
  | .hbm, ⟨67, _⟩ => ⟨S1x1024x768, .f32⟩
  | .hbm, ⟨68, _⟩ => ⟨S_, .f32⟩
  | .hbm, ⟨69, _⟩ => ⟨S4x1024x768, .f32⟩
  | .hbm, ⟨70, _⟩ => ⟨S4x1024x768, .f32⟩
  | .hbm, ⟨71, _⟩ => ⟨S768x1024, .f32⟩
  | .hbm, ⟨72, _⟩ => ⟨S1024x768, .f32⟩
  | .hbm, ⟨73, _⟩ => ⟨S1x1024x768, .f32⟩
  | .hbm, ⟨74, _⟩ => ⟨S_, .f32⟩
  | .hbm, ⟨75, _⟩ => ⟨S4x1024x768, .f32⟩
  | .hbm, ⟨76, _⟩ => ⟨S4x1024x768, .f32⟩
  | .hbm, ⟨77, _⟩ => ⟨S768x1024, .f32⟩
  | .hbm, ⟨78, _⟩ => ⟨S1024x768, .f32⟩
  | .hbm, ⟨79, _⟩ => ⟨S1x1024x768, .f32⟩
  | .hbm, ⟨80, _⟩ => ⟨S_, .f32⟩
  | .hbm, ⟨81, _⟩ => ⟨S4x1024x768, .f32⟩
  | .hbm, ⟨82, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_1 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_3 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_4 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== EvenGate.lean ====
abbrev S4096x1024 : Shape := ⟨2, ![4096, 1024]⟩
abbrev S4096x2976 : Shape := ⟨2, ![4096, 2976]⟩
abbrev S4096x512 : Shape := ⟨2, ![4096, 512]⟩
abbrev S3x512 : Shape := ⟨2, ![3, 512]⟩
abbrev S1x512 : Shape := ⟨2, ![1, 512]⟩
abbrev S4096x2432 : Shape := ⟨2, ![4096, 2432]⟩
abbrev S_ : Shape := ⟨0, ![]⟩
abbrev S4096x64 : Shape := ⟨2, ![4096, 64]⟩
abbrev S4096x32 : Shape := ⟨2, ![4096, 32]⟩
abbrev S4096x3072 : Shape := ⟨2, ![4096, 3072]⟩
abbrev S4x8x128x512 : Shape := ⟨4, ![4, 8, 128, 512]⟩
abbrev S512x512 : Shape := ⟨2, ![512, 512]⟩
abbrev S8x512 : Shape := ⟨2, ![8, 512]⟩
abbrev S512x3072 : Shape := ⟨2, ![512, 3072]⟩
abbrev S4x1x128x512 : Shape := ⟨4, ![4, 1, 128, 512]⟩
abbrev S520x512 : Shape := ⟨2, ![520, 512]⟩
abbrev S512x128 : Shape := ⟨2, ![512, 128]⟩
abbrev S128x512 : Shape := ⟨2, ![128, 512]⟩
abbrev S1x1x128x512 : Shape := ⟨4, ![1, 1, 128, 512]⟩
abbrev S512 : Shape := ⟨1, ![512]⟩

abbrev nBuf : Space → Nat
  | .hbm => 18
  | .vmem => 38
  | .smem => 0
  | _ => 0

abbrev bufTy : (tb : Table) → Fin (tcTables nBuf tb) → BufTy
  | .hbm, ⟨0, _⟩ => ⟨S4096x1024, .f32⟩
  | .hbm, ⟨1, _⟩ => ⟨S4096x2976, .f32⟩
  | .hbm, ⟨2, _⟩ => ⟨S4096x512, .f32⟩
  | .hbm, ⟨3, _⟩ => ⟨S3x512, .f32⟩
  | .hbm, ⟨4, _⟩ => ⟨S1x512, .f32⟩
  | .hbm, ⟨5, _⟩ => ⟨S4096x2432, .f32⟩
  | .hbm, ⟨6, _⟩ => ⟨S_, .f32⟩
  | .hbm, ⟨7, _⟩ => ⟨S4096x64, .f32⟩
  | .hbm, ⟨8, _⟩ => ⟨S4096x32, .f32⟩
  | .hbm, ⟨9, _⟩ => ⟨S_, .f32⟩
  | .hbm, ⟨10, _⟩ => ⟨S4096x32, .f32⟩
  | .hbm, ⟨11, _⟩ => ⟨S4096x512, .f32⟩
  | .hbm, ⟨12, _⟩ => ⟨S4096x3072, .f32⟩
  | .hbm, ⟨13, _⟩ => ⟨S4096x3072, .bf16⟩
  | .hbm, ⟨14, _⟩ => ⟨S4096x512, .f32⟩
  | .hbm, ⟨15, _⟩ => ⟨S4x8x128x512, .bf16⟩
  | .hbm, ⟨16, _⟩ => ⟨S3x512, .f32⟩
  | .hbm, ⟨17, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S512x512, .f32⟩
  | .local _ .vmem, ⟨25, _⟩ => ⟨S512x512, .f32⟩
  | .local _ .vmem, ⟨26, _⟩ => ⟨S3x512, .f32⟩
  | .local _ .vmem, ⟨27, _⟩ => ⟨S1x512, .f32⟩
  | .local _ .vmem, ⟨28, _⟩ => ⟨S512x3072, .bf16⟩
  | .local _ .vmem, ⟨29, _⟩ => ⟨S512x3072, .bf16⟩
  | .local _ .vmem, ⟨30, _⟩ => ⟨S512x512, .f32⟩
  | .local _ .vmem, ⟨31, _⟩ => ⟨S512x512, .f32⟩
  | .local _ .vmem, ⟨32, _⟩ => ⟨S4x1x128x512, .bf16⟩
  | .local _ .vmem, ⟨33, _⟩ => ⟨S4x1x128x512, .bf16⟩
  | .local _ .vmem, ⟨34, _⟩ => ⟨S3x512, .f32⟩
  | .local _ .vmem, ⟨35, _⟩ => ⟨S1x512, .f32⟩
  | .local _ .vmem, ⟨36, _⟩ => ⟨S520x512, .f32⟩
  | .local _ .vmem, ⟨37, _⟩ => ⟨S520x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S3x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== EvenGateRefIdeal.lean ====
abbrev S4096x1024 : Shape := ⟨2, ![4096, 1024]⟩
abbrev S4096x2976 : Shape := ⟨2, ![4096, 2976]⟩
abbrev S4096x512 : Shape := ⟨2, ![4096, 512]⟩
abbrev S3x512 : Shape := ⟨2, ![3, 512]⟩
abbrev S1x512 : Shape := ⟨2, ![1, 512]⟩
abbrev S4096x256 : Shape := ⟨2, ![4096, 256]⟩
abbrev S4096x128 : Shape := ⟨2, ![4096, 128]⟩
abbrev S4096x32 : Shape := ⟨2, ![4096, 32]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S3 : Shape := ⟨1, ![3]⟩
abbrev S3x1x1 : Shape := ⟨3, ![3, 1, 1]⟩
abbrev S_ : Shape := ⟨0, ![]⟩
abbrev S3x4096x4096 : Shape := ⟨3, ![3, 4096, 4096]⟩
abbrev S4096x4096x512 : Shape := ⟨3, ![4096, 4096, 512]⟩
abbrev S1x4096x512 : Shape := ⟨3, ![1, 4096, 512]⟩
abbrev S512 : Shape := ⟨1, ![512]⟩
abbrev S512x3 : Shape := ⟨2, ![512, 3]⟩
abbrev S4096x2432 : Shape := ⟨2, ![4096, 2432]⟩
abbrev S4096x64 : Shape := ⟨2, ![4096, 64]⟩
abbrev S4096x3072 : Shape := ⟨2, ![4096, 3072]⟩
abbrev S8x512x4x128 : Shape := ⟨4, ![8, 512, 4, 128]⟩
abbrev S4x8x128x512 : Shape := ⟨4, ![4, 8, 128, 512]⟩

abbrev nBuf : Space → Nat
  | .hbm => 120
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2976, .f32⟩
  | .hbm, ⟨2, _⟩ => ⟨S4096x512, .f32⟩
  | .hbm, ⟨3, _⟩ => ⟨S3x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x256, .f32⟩
  | .hbm, ⟨10, _⟩ => ⟨S4096x128, .f32⟩
  | .hbm, ⟨11, _⟩ => ⟨S4096x32, .f32⟩
  | .hbm, ⟨12, _⟩ => ⟨S4096x512, .f32⟩
  | .hbm, ⟨13, _⟩ => ⟨S4096x512, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S1x4096x4096, .i32⟩
  | .hbm, ⟨22, _⟩ => ⟨S3, .i32⟩
  | .hbm, ⟨23, _⟩ => ⟨S3x1x1, .i32⟩
  | .hbm, ⟨24, _⟩ => ⟨S_, .i32⟩
  | .hbm, ⟨25, _⟩ => ⟨S3x1x1, .i32⟩
  | .hbm, ⟨26, _⟩ => ⟨S3x1x1, .i32⟩
  | .hbm, ⟨27, _⟩ => ⟨S3x4096x4096, .i32⟩
  | .hbm, ⟨28, _⟩ => ⟨S3x4096x4096, .i32⟩
  | .hbm, ⟨29, _⟩ => ⟨S3x4096x4096, .i1⟩
  | .hbm, ⟨30, _⟩ => ⟨S3x4096x4096, .f32⟩
  | .hbm, ⟨31, _⟩ => ⟨S4096x4096x512, .f32⟩
  | .hbm, ⟨32, _⟩ => ⟨S1x4096x512, .f32⟩
  | .hbm, ⟨33, _⟩ => ⟨S4096x4096x512, .f32⟩
  | .hbm, ⟨34, _⟩ => ⟨S4096x4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S4096x512, .f32⟩
  | .hbm, ⟨61, _⟩ => ⟨S4096x512, .f32⟩
  | .hbm, ⟨62, _⟩ => ⟨S_, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x1024, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S4096x4096x512, .f32⟩
  | .hbm, ⟨89, _⟩ => ⟨S4096x4096x512, .f32⟩
  | .hbm, ⟨90, _⟩ => ⟨S_, .f32⟩
  | .hbm, ⟨91, _⟩ => ⟨S4096x512, .f32⟩
  | .hbm, ⟨92, _⟩ => ⟨S1x4096x512, .f32⟩
  | .hbm, ⟨93, _⟩ => ⟨S4096x4096x512, .f32⟩
  | .hbm, ⟨94, _⟩ => ⟨S4096x4096x512, .f32⟩
  | .hbm, ⟨95, _⟩ => ⟨S_, .f32⟩
  | .hbm, ⟨96, _⟩ => ⟨S4096x512, .f32⟩
  | .hbm, ⟨97, _⟩ => ⟨S512x3, .f32⟩
  | .hbm, ⟨98, _⟩ => ⟨S3x512, .f32⟩
  | .hbm, ⟨99, _⟩ => ⟨S4096x512, .f32⟩
  | .hbm, ⟨100, _⟩ => ⟨S4096x512, .f32⟩
  | .hbm, ⟨101, _⟩ => ⟨S_, .f32⟩
  | .hbm, ⟨102, _⟩ => ⟨S4096x256, .f32⟩
  | .hbm, ⟨103, _⟩ => ⟨S_, .f32⟩
  | .hbm, ⟨104, _⟩ => ⟨S4096x128, .f32⟩
  | .hbm, ⟨105, _⟩ => ⟨S_, .f32⟩
  | .hbm, ⟨106, _⟩ => ⟨S4096x32, .f32⟩
  | .hbm, ⟨107, _⟩ => ⟨S4096x2976, .f32⟩
  | .hbm, ⟨108, _⟩ => ⟨S4096x2432, .f32⟩
  | .hbm, ⟨109, _⟩ => ⟨S_, .f32⟩
  | .hbm, ⟨110, _⟩ => ⟨S4096x64, .f32⟩
  | .hbm, ⟨111, _⟩ => ⟨S4096x32, .f32⟩
  | .hbm, ⟨112, _⟩ => ⟨S_, .f32⟩
  | .hbm, ⟨113, _⟩ => ⟨S4096x32, .f32⟩
  | .hbm, ⟨114, _⟩ => ⟨S4096x512, .f32⟩
  | .hbm, ⟨115, _⟩ => ⟨S4096x3072, .f32⟩
  | .hbm, ⟨116, _⟩ => ⟨S8x512x4x128, .f32⟩
  | .hbm, ⟨117, _⟩ => ⟨S4x8x128x512, .f32⟩
  | .hbm, ⟨118, _⟩ => ⟨S4096x3072, .bf16⟩
  | .hbm, ⟨119, _⟩ => ⟨S4x8x128x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v33_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v33_1 : Ref sig .tc := ⟨.hbm, 51, rfl⟩
abbrev main_v33_0 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_v35_2 : Ref sig .tc := ⟨.hbm, 61, rfl⟩
abbrev main_call1_cst_1 : Ref sig .tc := ⟨.hbm, 62, rfl⟩
abbrev main_call1_v6 : Ref sig .tc := ⟨.hbm, 63, rfl⟩
abbrev main_call1_v7 : Ref sig .tc := ⟨.hbm, 64, rfl⟩
abbrev main_v35_1 : Ref sig .tc := ⟨.hbm, 65, rfl⟩
abbrev main_v35_0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_0 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_1 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_2 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_3 : Ref sig .tc := ⟨.hbm, 101, rfl⟩
abbrev main_v61 : Ref sig .tc := ⟨.hbm, 102, rfl⟩
abbrev main_cst_4 : Ref sig .tc := ⟨.hbm, 103, rfl⟩
abbrev main_v62 : Ref sig .tc := ⟨.hbm, 104, rfl⟩
abbrev main_cst_5 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_6 : Ref sig .tc := ⟨.hbm, 109, rfl⟩
abbrev main_v66 : Ref sig .tc := ⟨.hbm, 110, rfl⟩
abbrev main_v67 : Ref sig .tc := ⟨.hbm, 111, rfl⟩
abbrev main_cst_7 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩

abbrev nD : Nat := 1
abbrev τ : Topo := Topo.v7x

variable {F : FTy → Type} [FloatOps F]
-- ==== Attn.lean ====
abbrev S8x4096x96 : Shape := ⟨3, ![8, 4096, 96]⟩
abbrev S8x4096x64 : Shape := ⟨3, ![8, 4096, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S8x4096x128 : Shape := ⟨3, ![8, 4096, 128]⟩
abbrev S8 : Shape := ⟨1, ![8]⟩
abbrev S8x1x1 : Shape := ⟨3, ![8, 1, 1]⟩
abbrev S8x8x512x128 : Shape := ⟨4, ![8, 8, 512, 128]⟩
abbrev S8x8x128x512 : Shape := ⟨4, ![8, 8, 128, 512]⟩
abbrev S8x512x4x128 : Shape := ⟨4, ![8, 512, 4, 128]⟩
abbrev S4x8x128x512 : Shape := ⟨4, ![4, 8, 128, 512]⟩
abbrev S1x4096x128 : Shape := ⟨3, ![1, 4096, 128]⟩
abbrev S1x8x128x512 : Shape := ⟨4, ![1, 8, 128, 512]⟩
abbrev S1x512x128 : Shape := ⟨3, ![1, 512, 128]⟩
abbrev S4096x128 : Shape := ⟨2, ![4096, 128]⟩
abbrev S1x4096x1 : Shape := ⟨3, ![1, 4096, 1]⟩
abbrev S128x512 : Shape := ⟨2, ![128, 512]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x1 : Shape := ⟨3, ![1, 512, 1]⟩
abbrev S1x1x128x512 : Shape := ⟨4, ![1, 1, 128, 512]⟩

abbrev nBuf : Space → Nat
  | .hbm => 104
  | .vmem => 24
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S4096x512, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x64, .f32⟩
  | .hbm, ⟨49, _⟩ => ⟨S4096x8x64, .f32⟩
  | .hbm, ⟨50, _⟩ => ⟨S4096x512, .f32⟩
  | .hbm, ⟨51, _⟩ => ⟨S8x4096x1, .f32⟩
  | .hbm, ⟨52, _⟩ => ⟨S8x4096x1, .f32⟩
  | .hbm, ⟨53, _⟩ => ⟨S_, .i32⟩
  | .hbm, ⟨54, _⟩ => ⟨S_, .f32⟩
  | .hbm, ⟨55, _⟩ => ⟨S8x4096x128, .f32⟩
  | .hbm, ⟨56, _⟩ => ⟨S8x4096x128, .bf16⟩
  | .hbm, ⟨57, _⟩ => ⟨S_, .i32⟩
  | .hbm, ⟨58, _⟩ => ⟨S_, .f32⟩
  | .hbm, ⟨59, _⟩ => ⟨S8x4096x128, .f32⟩
  | .hbm, ⟨60, _⟩ => ⟨S8x4096x128, .bf16⟩
  | .hbm, ⟨61, _⟩ => ⟨S_, .f32⟩
  | .hbm, ⟨62, _⟩ => ⟨S8x4096x64, .f32⟩
  | .hbm, ⟨63, _⟩ => ⟨S8, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S8, .i32⟩
  | .hbm, ⟨71, _⟩ => ⟨S8, .i32⟩
  | .hbm, ⟨72, _⟩ => ⟨S_, .i32⟩
  | .hbm, ⟨73, _⟩ => ⟨S8, .i32⟩
  | .hbm, ⟨74, _⟩ => ⟨S8, .i1⟩
  | .hbm, ⟨75, _⟩ => ⟨S_, .i32⟩
  | .hbm, ⟨76, _⟩ => ⟨S8, .i32⟩
  | .hbm, ⟨77, _⟩ => ⟨S8, .i1⟩
  | .hbm, ⟨78, _⟩ => ⟨S_, .i32⟩
  | .hbm, ⟨79, _⟩ => ⟨S_, .i1⟩
  | .hbm, ⟨80, _⟩ => ⟨S8, .i1⟩
  | .hbm, ⟨81, _⟩ => ⟨S8, .i1⟩
  | .hbm, ⟨82, _⟩ => ⟨S8, .i1⟩
  | .hbm, ⟨83, _⟩ => ⟨S8, .i32⟩
  | .hbm, ⟨84, _⟩ => ⟨S8, .i32⟩
  | .hbm, ⟨85, _⟩ => ⟨S8, .i32⟩
  | .hbm, ⟨86, _⟩ => ⟨S_, .i32⟩
  | .hbm, ⟨87, _⟩ => ⟨S8, .i32⟩
  | .hbm, ⟨88, _⟩ => ⟨S8, .i1⟩
  | .hbm, ⟨89, _⟩ => ⟨S8x1x1, .i1⟩
  | .hbm, ⟨90, _⟩ => ⟨S8x4096x64, .i1⟩
  | .hbm, ⟨91, _⟩ => ⟨S8x4096x64, .f32⟩
  | .hbm, ⟨92, _⟩ => ⟨S8x4096x64, .i1⟩
  | .hbm, ⟨93, _⟩ => ⟨S8x4096x64, .f32⟩
  | .hbm, ⟨94, _⟩ => ⟨S8x4096x128, .f32⟩
  | .hbm, ⟨95, _⟩ => ⟨S8x4096x128, .bf16⟩
  | .hbm, ⟨96, _⟩ => ⟨S8x8x512x128, .bf16⟩
  | .hbm, ⟨97, _⟩ => ⟨S8x8x128x512, .bf16⟩
  | .hbm, ⟨98, _⟩ => ⟨S8x512x4x128, .f32⟩
  | .hbm, ⟨99, _⟩ => ⟨S4x8x128x512, .f32⟩
  | .hbm, ⟨100, _⟩ => ⟨S4x8x128x512, .bf16⟩
  | .hbm, ⟨101, _⟩ => ⟨S8x4096x128, .f32⟩
  | .hbm, ⟨102, _⟩ => ⟨S8x4096x128, .f32⟩
  | .hbm, ⟨103, _⟩ => ⟨S8x4096x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x8x128x512, .bf16⟩
  | .local _ .vmem, ⟨3, _⟩ => ⟨S1x8x128x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S4096x128, .f32⟩
  | .local _ .vmem, ⟨9, _⟩ => ⟨S4096x128, .f32⟩
  | .local _ .vmem, ⟨10, _⟩ => ⟨S1x8x128x512, .bf16⟩
  | .local _ .vmem, ⟨11, _⟩ => ⟨S1x8x128x512, .bf16⟩
  | .local _ .vmem, ⟨12, _⟩ => ⟨S4096x128, .f32⟩
  | .local _ .vmem, ⟨13, _⟩ => ⟨S4096x128, .f32⟩
  | .local _ .vmem, ⟨14, _⟩ => ⟨S1x4096x1, .f32⟩
  | .local _ .vmem, ⟨15, _⟩ => ⟨S1x4096x1, .f32⟩
  | .local _ .vmem, ⟨16, _⟩ => ⟨S1x4096x128, .f32⟩
  | .local _ .vmem, ⟨17, _⟩ => ⟨S1x4096x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S128x512, .f32⟩
  | .local _ .vmem, ⟨23, _⟩ => ⟨S128x512, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v10 : Ref sig .tc := ⟨.hbm, 36, rfl⟩
abbrev main_cst_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_3 : Ref sig .tc := ⟨.hbm, 53, rfl⟩
abbrev main_call2_v0 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_call3_v0 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_call4_v0 : Ref sig .tc := ⟨.hbm, 65, rfl⟩
abbrev main_call4_c : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_c_1 : Ref sig .tc := ⟨.hbm, 72, rfl⟩
abbrev main_call4_v5 : Ref sig .tc := ⟨.hbm, 73, rfl⟩
abbrev main_call4_v6 : Ref sig .tc := ⟨.hbm, 74, rfl⟩
abbrev main_call4_c_2 : Ref sig .tc := ⟨.hbm, 75, rfl⟩
abbrev main_call4_v7 : Ref sig .tc := ⟨.hbm, 76, rfl⟩
abbrev main_call4_v8 : Ref sig .tc := ⟨.hbm, 77, rfl⟩
abbrev main_call4_c_3 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_v12 : Ref sig .tc := ⟨.hbm, 82, rfl⟩
abbrev main_call4_v13 : Ref sig .tc := ⟨.hbm, 83, rfl⟩
abbrev main_call4_v14 : Ref sig .tc := ⟨.hbm, 84, rfl⟩
abbrev main_v31 : Ref sig .tc := ⟨.hbm, 85, rfl⟩
abbrev main_c_7 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_call5_v0 : Ref sig .tc := ⟨.hbm, 90, rfl⟩
abbrev main_v35 : Ref sig .tc := ⟨.hbm, 91, rfl⟩
abbrev main_call6_v0 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44_0 : Ref sig .tc := ⟨.hbm, 101, rfl⟩
abbrev main_v44_1 : Ref sig .tc := ⟨.hbm, 102, rfl⟩
abbrev main_v44_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c512_i32 : BitVec 32 := 512#32
  let v20 : BitVec 32 := Scalar.muli arg2 c512_i32
  v20
def k0_off1 (i : grid0.Coords) : Fin 3 → Nat :=
  let c0_11 : Index := 0#32
  let arg2 : BitVec 32 := BitVec.ofNat 32 (i 2).val
  let c512_i32 : BitVec 32 := 512#32
  let v20 : BitVec 32 := Scalar.muli arg2 c512_i32
  let v21 : BitVec 32 := v20
  let v22 : Index := Scalar.indexCast v21
  let c0_12 : Index := 0#32
  ![0, v22.toNat, 0]
def k0_off2 (i : grid0.Coords) : Fin 2 → Nat :=
  let arg2 : BitVec 32 := BitVec.ofNat 32 (i 2).val
  let c512_i32 : BitVec 32 := 512#32
  let v20 : BitVec 32 := Scalar.muli arg2 c512_i32
  let v21 : BitVec 32 := v20
  let v25 : Index := Scalar.indexCast v21
  let c0_13 : Index := 0#32
  ![v25.toNat, 0]
def k0_off3 (i : grid0.Coords) : Fin 3 → Nat :=
  let c0_23 : Index := 0#32
  let arg2 : BitVec 32 := BitVec.ofNat 32 (i 2).val
  let c512_i32 : BitVec 32 := 512#32
  let v20 : BitVec 32 := Scalar.muli arg2 c512_i32
  let v21 : BitVec 32 := v20
  let v52 : Index := Scalar.indexCast v21
  let c0_24 : Index := 0#32
  ![0, v52.toNat, 0]
def k0_off4 (i : grid0.Coords) : Fin 4 → Nat :=
  let c0_28 : Index := 0#32
  let arg2 : BitVec 32 := BitVec.ofNat 32 (i 2).val
  let c1_i32 : BitVec 32 := 1#32
  let v66 : BitVec 32 := Scalar.muli arg2 c1_i32
  let c0_i32_27 : BitVec 32 := 0#32
  let v67 : BitVec 32 := Scalar.addi v66 c0_i32_27
  let v68 : Index := Scalar.indexCast v67
  let c0_29 : Index := 0#32
  let c0_30 : Index := 0#32
  ![0, v68.toNat, 0, 0]
def k0_off5 (i : grid0.Coords) : Fin 4 → Nat :=
  let c0_38 : Index := 0#32
  let arg2 : BitVec 32 := BitVec.ofNat 32 (i 2).val
  let v79 : Index := Scalar.indexCast arg2
  let c0_39 : Index := 0#32
  let c0_40 : Index := 0#32
  ![0, v79.toNat, 0, 0]
def k0_cond2 (i : grid0.Coords) : BitVec 1 :=
  let c7_i32 : BitVec 32 := 7#32
  let arg2 : BitVec 32 := BitVec.ofNat 32 (i 2).val
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let c1_i32_54 : BitVec 32 := 1#32
  let v107 : BitVec 1 := Scalar.cmpi .eq v106 c1_i32_54
  let v108 : BitVec 32 := Scalar.extui v107
  let c0_i32_55 : BitVec 32 := 0#32
  let v109 : BitVec 1 := Scalar.cmpi .ne v108 c0_i32_55
  v109

def k0_mult2 (i : grid0.Coords) : BitVec 32 :=
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  v144
def k0_off6 (i : grid0.Coords) : Fin 3 → Nat :=
  let c0_81 : Index := 0#32
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  let v145 : BitVec 32 := v144
  let v146 : Index := Scalar.indexCast v145
  let c0_82 : Index := 0#32
  ![0, v146.toNat, 0]
def k0_off7 (i : grid0.Coords) : Fin 2 → Nat :=
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  let v145 : BitVec 32 := v144
  let v149 : Index := Scalar.indexCast v145
  let c0_83 : Index := 0#32
  ![v149.toNat, 0]
def k0_off8 (i : grid0.Coords) : Fin 3 → Nat :=
  let c0_89 : Index := 0#32
  let arg2 : BitVec 32 := BitVec.ofNat 32 (i 2).val
  let c1_i32_79 : BitVec 32 := 1#32
  let v143 : BitVec 32 := Scalar.addi arg2 c1_i32_79
  let c512_i32_80 : BitVec 32 := 512#32
  let v144 : BitVec 32 := Scalar.muli v143 c512_i32_80
  let v145 : BitVec 32 := v144
  let v162 : Index := Scalar.indexCast v145
  let c0_90 : Index := 0#32
  ![0, v162.toNat, 0]
def k0_off9 (i : grid0.Coords) : Fin 4 → Nat :=
  let c0_95 : Index := 0#32
  let arg2 : BitVec 32 := BitVec.ofNat 32 (i 2).val
  let c1_i32_79 : BitVec 32 := 1#32
  let v143 : BitVec 32 := Scalar.addi arg2 c1_i32_79
  let c1_i32_93 : BitVec 32 := 1#32
  let v176 : BitVec 32 := Scalar.muli v143 c1_i32_93
  let c0_i32_94 : BitVec 32 := 0#32
  let v177 : BitVec 32 := Scalar.addi v176 c0_i32_94
  let v178 : Index := Scalar.indexCast v177
  let c0_96 : Index := 0#32
  let c0_97 : Index := 0#32
  ![0, v178.toNat, 0, 0]
def k0_off10 (i : grid0.Coords) : Fin 4 → Nat :=
  let c0_105 : Index := 0#32
  let arg2 : BitVec 32 := BitVec.ofNat 32 (i 2).val
  let c1_i32_79 : BitVec 32 := 1#32
  let v143 : BitVec 32 := Scalar.addi arg2 c1_i32_79
  let v189 : Index := Scalar.indexCast v143
  let c0_106 : Index := 0#32
  let c0_107 : Index := 0#32
  ![0, v189.toNat, 0, 0]
@[reducible] def k0_t1_loop (i : grid0.Coords) : Scf.Loop 32 :=
  let c0_i32_65 : BitVec 32 := 0#32
  let c7_i32_56 : BitVec 32 := 7#32
  let arg2 : BitVec 32 := BitVec.ofNat 32 (i 2).val
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_67 : BitVec 32 := 1#32
  ⟨c0_i32_65, v132, c1_i32_67⟩
def k0_mult3 (i : grid0.Coords) (k0_t1 : Fin (k0_t1_loop i).trips) : BitVec 32 :=
  let arg2 : BitVec 32 := BitVec.ofNat 32 (i 2).val
  let c1_i32_79 : BitVec 32 := 1#32
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  v147
def k0_off11 (i : grid0.Coords) (k0_t1 : Fin (k0_t1_loop i).trips) (c1_i32_79 : BitVec 32) : Fin 3 → Nat :=
  let c0_82 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v149 : Index := Scalar.indexCast v148
  let c0_83 : Index := 0#32
  ![0, v149.toNat, 0]
def k0_off12 (i : grid0.Coords) (k0_t1 : Fin (k0_t1_loop i).trips) (c1_i32_79 : BitVec 32) : Fin 2 → Nat :=
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v152 : Index := Scalar.indexCast v148
  let c0_84 : Index := 0#32
  ![v152.toNat, 0]
def k0_off13 (i : grid0.Coords) (k0_t1 : Fin (k0_t1_loop i).trips) (c1_i32_79 : BitVec 32) : Fin 3 → Nat :=
  let c0_90 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v165 : Index := Scalar.indexCast v148
  let c0_91 : Index := 0#32
  ![0, v165.toNat, 0]
def k0_off14 (i : grid0.Coords) (k0_t1 : Fin (k0_t1_loop i).trips) (c1_i32_79 : BitVec 32) : Fin 4 → Nat :=
  let c0_96 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let c1_i32_94 : BitVec 32 := 1#32
  let v179 : BitVec 32 := Scalar.muli v146 c1_i32_94
  let c0_i32_95 : BitVec 32 := 0#32
  let v180 : BitVec 32 := Scalar.addi v179 c0_i32_95
  let v181 : Index := Scalar.indexCast v180
  let c0_97 : Index := 0#32
  let c0_98 : Index := 0#32
  ![0, v181.toNat, 0, 0]
def k0_off15 (i : grid0.Coords) (k0_t1 : Fin (k0_t1_loop i).trips) (c1_i32_79 : BitVec 32) : Fin 4 → Nat :=
  let c0_106 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c1_i32_67 : BitVec 32 := 1#32
  let arg16 : BitVec 32 := Scf.iv c0_i32_65 c1_i32_67 k0_t1
  let v145 : BitVec 32 := Scalar.muli c2_i32_80 arg16
  let v146 : BitVec 32 := Scalar.addi v144 v145
  let v192 : Index := Scalar.indexCast v146
  let c0_107 : Index := 0#32
  let c0_108 : Index := 0#32
  ![0, v192.toNat, 0, 0]
def k0_mult4 (i : grid0.Coords) (k0_t1 : Fin (k0_t1_loop i).trips) : BitVec 32 :=
  let arg2 : BitVec 32 := BitVec.ofNat 32 (i 2).val
  let c2_i32_117 : BitVec 32 := 2#32
  let v209 : BitVec 32 := Scalar.addi arg2 c2_i32_117
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v210 : BitVec 32 := Scalar.addi v209 v106
  let c2_i32_118 : BitVec 32 := 2#32
  let c0_i32_65 : BitVec 32 := 0#32
  let c1_i32_67 : BitVec 32 := 1#32
  let arg16 : BitVec 32 := Scf.iv c0_i32_65 c1_i32_67 k0_t1
  let v211 : BitVec 32 := Scalar.muli c2_i32_118 arg16
  let v212 : BitVec 32 := Scalar.addi v210 v211
  let c512_i32_119 : BitVec 32 := 512#32
  let v213 : BitVec 32 := Scalar.muli v212 c512_i32_119
  v213
@[reducible] def k0_t2_loop (i : grid0.Coords) : Scf.Loop 32 :=
  let c0_i32_65 : BitVec 32 := 0#32
  let c7_i32_56 : BitVec 32 := 7#32
  let arg2 : BitVec 32 := BitVec.ofNat 32 (i 2).val
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let v129 : BitVec 32 := Scalar.addi c0_i32_65 v128
  let c1_i32_68 : BitVec 32 := 1#32
  ⟨v132, v129, c1_i32_68⟩
def k0_mult5 (i : grid0.Coords) (k0_t2 : Fin (k0_t2_loop i).trips) : BitVec 32 :=
  let arg2 : BitVec 32 := BitVec.ofNat 32 (i 2).val
  let c1_i32_79 : BitVec 32 := 1#32
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  v147
def k0_off16 (i : grid0.Coords) (k0_t2 : Fin (k0_t2_loop i).trips) (c1_i32_79 : BitVec 32) : Fin 3 → Nat :=
  let c0_82 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v149 : Index := Scalar.indexCast v148
  let c0_83 : Index := 0#32
  ![0, v149.toNat, 0]
def k0_off17 (i : grid0.Coords) (k0_t2 : Fin (k0_t2_loop i).trips) (c1_i32_79 : BitVec 32) : Fin 2 → Nat :=
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v152 : Index := Scalar.indexCast v148
  let c0_84 : Index := 0#32
  ![v152.toNat, 0]
def k0_off18 (i : grid0.Coords) (k0_t2 : Fin (k0_t2_loop i).trips) (c1_i32_79 : BitVec 32) : Fin 3 → Nat :=
  let c0_90 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c512_i32_81 : BitVec 32 := 512#32
  let v147 : BitVec 32 := Scalar.muli v146 c512_i32_81
  let v148 : BitVec 32 := v147
  let v165 : Index := Scalar.indexCast v148
  let c0_91 : Index := 0#32
  ![0, v165.toNat, 0]
def k0_off19 (i : grid0.Coords) (k0_t2 : Fin (k0_t2_loop i).trips) (c1_i32_79 : BitVec 32) : Fin 4 → Nat :=
  let c0_96 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let c1_i32_94 : BitVec 32 := 1#32
  let v179 : BitVec 32 := Scalar.muli v146 c1_i32_94
  let c0_i32_95 : BitVec 32 := 0#32
  let v180 : BitVec 32 := Scalar.addi v179 c0_i32_95
  let v181 : Index := Scalar.indexCast v180
  let c0_97 : Index := 0#32
  let c0_98 : Index := 0#32
  ![0, v181.toNat, 0, 0]
def k0_off20 (i : grid0.Coords) (k0_t2 : Fin (k0_t2_loop i).trips) (c1_i32_79 : BitVec 32) : Fin 4 → Nat :=
  let c0_106 : Index := 0#32
  let arg2 : BitVec 32 := BitVec.ofNat 32 (i 2).val
  let v143 : BitVec 32 := Scalar.addi arg2 c1_i32_79
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v144 : BitVec 32 := Scalar.addi v143 v106
  let c2_i32_80 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v145 : BitVec 32 := Scalar.muli c2_i32_80 arg16
  let v146 : BitVec 32 := Scalar.addi v144 v145
  let v192 : Index := Scalar.indexCast v146
  let c0_107 : Index := 0#32
  let c0_108 : Index := 0#32
  ![0, v192.toNat, 0, 0]
def k0_mult6 (i : grid0.Coords) (k0_t2 : Fin (k0_t2_loop i).trips) : BitVec 32 :=
  let arg2 : BitVec 32 := BitVec.ofNat 32 (i 2).val
  let c2_i32_117 : BitVec 32 := 2#32
  let v209 : BitVec 32 := Scalar.addi arg2 c2_i32_117
  let c7_i32 : BitVec 32 := 7#32
  let v96 : BitVec 32 := Scalar.subi c7_i32 arg2
  let c2_i32 : BitVec 32 := 2#32
  let c0_i32_49 : BitVec 32 := 0#32
  let v97 : BitVec 1 := Scalar.cmpi .eq c2_i32 c0_i32_49
  let c1_i32_50 : BitVec 32 := 1#32
  let v98 : BitVec 32 := Scalar.select v97 c1_i32_50 c2_i32
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v210 : BitVec 32 := Scalar.addi v209 v106
  let c2_i32_118 : BitVec 32 := 2#32
  let c0_i32_65 : BitVec 32 := 0#32
  let c7_i32_56 : BitVec 32 := 7#32
  let v110 : BitVec 32 := Scalar.subi c7_i32_56 arg2
  let c0_i32_58 : BitVec 32 := 0#32
  let v112 : BitVec 1 := Scalar.cmpi .sgt v110 c0_i32_58
  let v113 : BitVec 32 := Scalar.extui v112
  let c0_i32_59 : BitVec 32 := 0#32
  let v114 : BitVec 1 := Scalar.cmpi .slt v110 c0_i32_59
  let v115 : BitVec 32 := Scalar.extui v114
  let v116 : BitVec 32 := Scalar.subi v113 v115
  let c2_i32_57 : BitVec 32 := 2#32
  let c0_i32_60 : BitVec 32 := 0#32
  let v117 : BitVec 1 := Scalar.cmpi .sgt c2_i32_57 c0_i32_60
  let v118 : BitVec 32 := Scalar.extui v117
  let c0_i32_61 : BitVec 32 := 0#32
  let v119 : BitVec 1 := Scalar.cmpi .slt c2_i32_57 c0_i32_61
  let v120 : BitVec 32 := Scalar.extui v119
  let v121 : BitVec 32 := Scalar.subi v118 v120
  let v122 : BitVec 1 := Scalar.cmpi .ne v116 v121
  let v123 : BitVec 32 := Scalar.remsi v110 c2_i32_57
  let c0_i32_62 : BitVec 32 := 0#32
  let v124 : BitVec 1 := Scalar.cmpi .ne v123 c0_i32_62
  let v125 : BitVec 1 := Scalar.andi v122 v124
  let v111 : BitVec 32 := Scalar.divsi v110 c2_i32_57
  let c1_i32_63 : BitVec 32 := 1#32
  let v126 : BitVec 32 := Scalar.subi v111 c1_i32_63
  let v127 : BitVec 32 := Scalar.select v125 v126 v111
  let v128 : BitVec 32 := Scalar.subi v127 c0_i32_65
  let c1_i32_66 : BitVec 32 := 1#32
  let v130 : BitVec 32 := Scalar.divsi v128 c1_i32_66
  let v131 : BitVec 32 := Scalar.muli v130 c1_i32_66
  let v132 : BitVec 32 := Scalar.addi c0_i32_65 v131
  let c1_i32_68 : BitVec 32 := 1#32
  let arg16 : BitVec 32 := Scf.iv v132 c1_i32_68 k0_t2
  let v211 : BitVec 32 := Scalar.muli c2_i32_118 arg16
  let v212 : BitVec 32 := Scalar.addi v210 v211
  let c512_i32_119 : BitVec 32 := 512#32
  let v213 : BitVec 32 := Scalar.muli v212 c512_i32_119
  v213
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x4096x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnIdeal.lean ====
variable {F : FTy → Type} [FloatOps F] [Named F]
def κ : String → Option EReal := fun
  | "masked" => some ⊥
  | _ => none
-- ==== AttnRefIdeal.lean ====
abbrev S8x4096x96 : Shape := ⟨3, ![8, 4096, 96]⟩
abbrev S8x4096x64 : Shape := ⟨3, ![8, 4096, 64]⟩
abbrev S4096x512 : Shape := ⟨2, ![4096, 512]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S8x64x4096 : Shape := ⟨3, ![8, 64, 4096]⟩
abbrev S8 : Shape := ⟨1, ![8]⟩
abbrev S8x1x1 : Shape := ⟨3, ![8, 1, 1]⟩
abbrev S8x4096x128 : Shape := ⟨3, ![8, 4096, 128]⟩

abbrev nBuf : Space → Nat
  | .hbm => 147
  | .vmem => 0
  | .smem => 0
  | _ => 0

abbrev hbmTy0_0 (i : Nat) : BufTy := match i % 128 with
  | 0 => ⟨S8x4096x96, .f32⟩
  | 1 => ⟨S8x4096x96, .f32⟩
  | 2 => ⟨S8x4096x64, .f32⟩
  | 3 => ⟨S4096x512, .f32⟩
  | 4 => ⟨S8x4096x4096, .f32⟩
  | 5 => ⟨S_, .f32⟩
  | 6 => ⟨S8x4096x4096, .f32⟩
  | 7 => ⟨S8x4096x4096, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096x4096, .f32⟩
  | 39 => ⟨S_, .f32⟩
  | 40 => ⟨S8x4096, .f32⟩
  | 41 => ⟨S8x4096x1, .f32⟩
  | 42 => ⟨S8x4096x4096, .f32⟩
  | 43 => ⟨S8x4096x4096, .i1⟩
  | 44 => ⟨S8x4096x4096, .f32⟩
  | 45 => ⟨S_, .f32⟩
  | 46 => ⟨S8x4096, .f32⟩
  | 47 => ⟨S_, .f32⟩
  | 48 => ⟨S8x4096, .f32⟩
  | 49 => ⟨S8x4096, .f32⟩
  | 50 => ⟨S_, .f32⟩
  | 51 => ⟨S8x4096, .f32⟩
  | 52 => ⟨S8x4096, .i1⟩
  | 53 => ⟨S_, .f32⟩
  | 54 => ⟨S8x4096, .f32⟩
  | 55 => ⟨S8x4096, .i1⟩
  | 56 => ⟨S_, .f32⟩
  | 57 => ⟨S8x4096, .f32⟩
  | 58 => ⟨S_, .f32⟩
  | 59 => ⟨S8x4096, .f32⟩
  | 60 => ⟨S_, .f32⟩
  | 61 => ⟨S8x4096, .f32⟩
  | 62 => ⟨S8x4096, .f32⟩
  | 63 => ⟨S8x4096, .f32⟩
  | 64 => ⟨S8x4096x1, .f32⟩
  | 65 => ⟨S8x4096x4096, .f32⟩
  | 66 => ⟨S8x4096x4096, .f32⟩
  | 67 => ⟨S8x4096x4096, .f32⟩
  | 68 => ⟨S_, .f32⟩
  | 69 => ⟨S8x4096, .f32⟩
  | 70 => ⟨S8x4096x1, .f32⟩
  | 71 => ⟨S8x4096x4096, .f32⟩
  | 72 => ⟨S8x4096x4096, .f32⟩
  | 73 => ⟨S8x4096x1, .f32⟩
  | 74 => ⟨S_, .f32⟩
  | 75 => ⟨S8x4096x1, .f32⟩
  | 76 => ⟨S8x4096x1, .f32⟩
  | 77 => ⟨S8x4096x64, .f32⟩
  | 78 => ⟨S4096x8x64, .f32⟩
  | 79 => ⟨S4096x512, .f32⟩
  | 80 => ⟨S4096x8x64, .f32⟩
  | 81 => ⟨S8x4096x64, .f32⟩
  | 82 => ⟨S8x64x4096, .f32⟩
  | 83 => ⟨S8x4096x64, .f32⟩
  | 84 => ⟨S8x4096x4096, .f32⟩
  | 85 => ⟨S8x4096x4096, .f32⟩
  | 86 => ⟨S8x4096x4096, .f32⟩
  | 87 => ⟨S8x4096x4096, .f32⟩
  | 88 => ⟨S_, .f32⟩
  | 89 => ⟨S8x4096, .f32⟩
  | 90 => ⟨S8x4096x1, .f32⟩
  | 91 => ⟨S8x4096x1, .f32⟩
  | 92 => ⟨S8x4096x4096, .f32⟩
  | 93 => ⟨S8x4096x4096, .f32⟩
  | 94 => ⟨S_, .f32⟩
  | 95 => ⟨S8x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .f32⟩
  | 102 => ⟨S_, .f32⟩
  | 103 => ⟨S8x4096x4096, .f32⟩
  | 104 => ⟨S8x4096x4096, .f32⟩
  | 105 => ⟨S8x4096x96, .f32⟩
  | 106 => ⟨S8x4096x96, .f32⟩
  | 107 => ⟨S_, .f32⟩
  | 108 => ⟨S8x4096x64, .f32⟩
  | 109 => ⟨S8, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S8, .i32⟩
  | 117 => ⟨S8, .i32⟩
  | 118 => ⟨S_, .i32⟩
  | 119 => ⟨S8, .i32⟩
  | 120 => ⟨S8, .i1⟩
  | 121 => ⟨S_, .i32⟩
  | 122 => ⟨S8, .i32⟩
  | 123 => ⟨S8, .i1⟩
  | 124 => ⟨S_, .i32⟩
  | 125 => ⟨S_, .i1⟩
  | 126 => ⟨S8, .i1⟩
  | 127 => ⟨S8, .i1⟩
  | _ => ⟨S8x4096x96, .f32⟩

abbrev hbmTy0_1 (i : Nat) : BufTy := match i % 128 with
  | 0 => ⟨S8, .i1⟩
  | 1 => ⟨S8, .i32⟩
  | 2 => ⟨S8, .i32⟩
  | 3 => ⟨S8, .i32⟩
  | 4 => ⟨S_, .i32⟩
  | 5 => ⟨S8, .i32⟩
  | 6 => ⟨S8, .i1⟩
  | 7 => ⟨S8x1x1, .i1⟩
  | 8 => ⟨S8x4096x64, .i1⟩
  | 9 => ⟨S8x4096x64, .f32⟩
  | 10 => ⟨S8x4096x64, .i1⟩
  | 11 => ⟨S8x4096x64, .f32⟩
  | 12 => ⟨S8x4096x128, .f32⟩
  | 13 => ⟨S_, .i32⟩
  | 14 => ⟨S_, .f32⟩
  | 15 => ⟨S8x4096x128, .f32⟩
  | 16 => ⟨S_, .i32⟩
  | 17 => ⟨S_, .f32⟩
  | 18 => ⟨S8x4096x128, .f32⟩
  | _ => ⟨S8x4096x96, .f32⟩

abbrev hbmTy (i : Nat) : BufTy := match i / 128 with
  | 0 => hbmTy0_0 i
  | 1 => hbmTy0_1 i
  | _ => ⟨S8x4096x96, .f32⟩

abbrev bufTy : (tb : Table) → Fin (tcTables nBuf tb) → BufTy
  | .hbm, ⟨i, _⟩ => hbmTy i
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_call1_v0 : Ref sig .tc := ⟨.hbm, 33, rfl⟩
abbrev main_v10_1 : Ref sig .tc := ⟨.hbm, 34, rfl⟩
abbrev main_call1_v2 : Ref sig .tc := ⟨.hbm, 35, rfl⟩
abbrev main_v10_0 : Ref sig .tc := ⟨.hbm, 36, rfl⟩
abbrev main_call1_cst : Ref sig .tc := ⟨.hbm, 37, rfl⟩
abbrev main_v10_2 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_cst_7 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_9 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_10 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_call2_cst : Ref sig .tc := ⟨.hbm, 99, rfl⟩
abbrev main_call2_v0 : Ref sig .tc := ⟨.hbm, 100, rfl⟩
abbrev main_v59 : Ref sig .tc := ⟨.hbm, 101, rfl⟩
abbrev main_cst_13 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_14 : Ref sig .tc := ⟨.hbm, 107, rfl⟩
abbrev main_v64 : Ref sig .tc := ⟨.hbm, 108, rfl⟩
abbrev main_v65 : Ref sig .tc := ⟨.hbm, 109, rfl⟩
abbrev main_c_15 : Ref sig .tc := ⟨.hbm, 110, rfl⟩
abbrev main_call3_v0 : Ref sig .tc := ⟨.hbm, 111, rfl⟩
abbrev main_call3_c : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_c_1 : Ref sig .tc := ⟨.hbm, 118, rfl⟩
abbrev main_call3_v5 : Ref sig .tc := ⟨.hbm, 119, rfl⟩
abbrev main_call3_v6 : Ref sig .tc := ⟨.hbm, 120, rfl⟩
abbrev main_call3_c_2 : Ref sig .tc := ⟨.hbm, 121, rfl⟩
abbrev main_call3_v7 : Ref sig .tc := ⟨.hbm, 122, rfl⟩
abbrev main_call3_v8 : Ref sig .tc := ⟨.hbm, 123, rfl⟩
abbrev main_call3_c_3 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_v66 : Ref sig .tc := ⟨.hbm, 131, rfl⟩
abbrev main_c_16 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_call4_v0 : Ref sig .tc := ⟨.hbm, 136, rfl⟩
abbrev main_v70 : Ref sig .tc := ⟨.hbm, 137, rfl⟩
abbrev main_call5_v0 : Ref sig .tc := ⟨.hbm, 138, rfl⟩
abbrev main_v71 : Ref sig .tc := ⟨.hbm, 139, rfl⟩
abbrev main_v72 : Ref sig .tc := ⟨.hbm, 140, rfl⟩
abbrev main_c_17 : Ref sig .tc := ⟨.hbm, 141, rfl⟩
abbrev main_call6_v0 : Ref sig .tc := ⟨.hbm, 142, rfl⟩
abbrev main_v73 : Ref sig .tc := ⟨.hbm, 143, rfl⟩
abbrev main_c_18 : Ref sig .tc := ⟨.hbm, 144, rfl⟩
abbrev main_call7_v0 : Ref sig .tc := ⟨.hbm, 145, rfl⟩
abbrev main_v74 : Ref sig .tc := ⟨.hbm, 146, rfl⟩

abbrev nD : Nat := 1
abbrev τ : Topo := Topo.v7x

variable {F : FTy → Type} [FloatOps F]
-- ==== Post.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S4096x1024, .bf16⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PostRefIdeal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Pre.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1x3072 : Shape := ⟨2, ![1, 3072]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x3072, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PreRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x3072, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x3072, .f32⟩
  | .hbm, ⟨37, _⟩ => ⟨S4096x3072, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Odd.lean ====
abbrev S4096x1024 : Shape := ⟨2, ![4096, 1024]⟩
abbrev S4096x3072 : Shape := ⟨2, ![4096, 3072]⟩
abbrev S31x1024 : Shape := ⟨2, ![31, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S31 : Shape := ⟨1, ![31]⟩
abbrev S31x1x1 : Shape := ⟨3, ![31, 1, 1]⟩
abbrev S31x4096x4096 : Shape := ⟨3, ![31, 4096, 4096]⟩
abbrev S4096x4096x1024 : Shape := ⟨3, ![4096, 4096, 1024]⟩
abbrev S1x4096x1024 : Shape := ⟨3, ![1, 4096, 1024]⟩
abbrev S256x1024 : Shape := ⟨2, ![256, 1024]⟩
abbrev S32x1024 : Shape := ⟨2, ![32, 1024]⟩
abbrev S256x3072 : Shape := ⟨2, ![256, 3072]⟩
abbrev S288x1024 : Shape := ⟨2, ![288, 1024]⟩
abbrev S7x280x1024 : Shape := ⟨3, ![7, 280, 1024]⟩
abbrev S31x8x1024 : Shape := ⟨3, ![31, 8, 1024]⟩
abbrev S256 : Shape := ⟨1, ![256]⟩
abbrev S256x1 : Shape := ⟨2, ![256, 1]⟩
abbrev S1024 : Shape := ⟨1, ![1024]⟩
abbrev S32 : Shape := ⟨1, ![32]⟩
abbrev S32x1 : Shape := ⟨2, ![32, 1]⟩
abbrev S280x1024 : Shape := ⟨2, ![280, 1024]⟩
abbrev S1x280x1024 : Shape := ⟨3, ![1, 280, 1024]⟩
abbrev S64x1024 : Shape := ⟨2, ![64, 1024]⟩
abbrev S1x64x1024 : Shape := ⟨3, ![1, 64, 1024]⟩
abbrev S1x256x1024 : Shape := ⟨3, ![1, 256, 1024]⟩
abbrev S1x8x1024 : Shape := ⟨3, ![1, 8, 1024]⟩
abbrev S8x1024 : Shape := ⟨2, ![8, 1024]⟩
abbrev S32x8x1024 : Shape := ⟨3, ![32, 8, 1024]⟩

abbrev nBuf : Space → Nat
  | .hbm => 48
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S1x4096x4096, .i32⟩
  | .hbm, ⟨26, _⟩ => ⟨S31, .i32⟩
  | .hbm, ⟨27, _⟩ => ⟨S31x1x1, .i32⟩
  | .hbm, ⟨28, _⟩ => ⟨S_, .i32⟩
  | .hbm, ⟨29, _⟩ => ⟨S31x1x1, .i32⟩
  | .hbm, ⟨30, _⟩ => ⟨S31x1x1, .i32⟩
  | .hbm, ⟨31, _⟩ => ⟨S31x4096x4096, .i32⟩
  | .hbm, ⟨32, _⟩ => ⟨S31x4096x4096, .i32⟩
  | .hbm, ⟨33, _⟩ => ⟨S31x4096x4096, .i1⟩
  | .hbm, ⟨34, _⟩ => ⟨S31x4096x4096, .f32⟩
  | .hbm, ⟨35, _⟩ => ⟨S4096x4096x1024, .f32⟩
  | .hbm, ⟨36, _⟩ => ⟨S1x4096x1024, .f32⟩
  | .hbm, ⟨37, _⟩ => ⟨S4096x4096x1024, .f32⟩
  | .hbm, ⟨38, _⟩ => ⟨S4096x4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x3072, .bf16⟩
  | .hbm, ⟨44, _⟩ => ⟨S31x1024, .f32⟩
  | .hbm, ⟨45, _⟩ => ⟨S1x1024, .f32⟩
  | .hbm, ⟨46, _⟩ => ⟨S1x1024, .f32⟩
  | .hbm, ⟨47, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S32x1024, .f32⟩
  | .local _ .vmem, ⟨11, _⟩ => ⟨S32x1024, .f32⟩
  | .local _ .vmem, ⟨12, _⟩ => ⟨S256x1024, .f32⟩
  | .local _ .vmem, ⟨13, _⟩ => ⟨S256x1024, .f32⟩
  | .local _ .vmem, ⟨14, _⟩ => ⟨S32x1024, .f32⟩
  | .local _ .vmem, ⟨15, _⟩ => ⟨S32x1024, .f32⟩
  | .local _ .vmem, ⟨16, _⟩ => ⟨S31x1024, .f32⟩
  | .local _ .vmem, ⟨17, _⟩ => ⟨S1x1024, .f32⟩
  | .local _ .vmem, ⟨18, _⟩ => ⟨S1x1024, .f32⟩
  | .local _ .vmem, ⟨19, _⟩ => ⟨S256x3072, .bf16⟩
  | .local _ .vmem, ⟨20, _⟩ => ⟨S256x3072, .bf16⟩
  | .local _ .vmem, ⟨21, _⟩ => ⟨S31x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S288x1024, .f32⟩
  | .local _ .vmem, ⟨26, _⟩ => ⟨S7x280x1024, .f32⟩
  | .local _ .vmem, ⟨27, _⟩ => ⟨S31x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v33_4 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_1028 : BitVec 32 := 15#32
  let v1390 : BitVec 1 := Scalar.cmpi .eq arg0 c15_i32_1028
  let v1391 : BitVec 32 := Scalar.extui v1390
  let c0_i32_1029 : BitVec 32 := 0#32
  let v1392 : BitVec 1 := Scalar.cmpi .ne v1391 c0_i32_1029
  v1392

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c2_i32 : BitVec 32 := 2#32
  let c0_i32 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S31x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== OddRefIdeal.lean ====
abbrev S4096x1024 : Shape := ⟨2, ![4096, 1024]⟩
abbrev S4096x3072 : Shape := ⟨2, ![4096, 3072]⟩
abbrev S31x1024 : Shape := ⟨2, ![31, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S31 : Shape := ⟨1, ![31]⟩
abbrev S31x1x1 : Shape := ⟨3, ![31, 1, 1]⟩
abbrev S31x4096x4096 : Shape := ⟨3, ![31, 4096, 4096]⟩
abbrev S4096x4096x1024 : Shape := ⟨3, ![4096, 4096, 1024]⟩
abbrev S1x4096x1024 : Shape := ⟨3, ![1, 4096, 1024]⟩
abbrev S1024 : Shape := ⟨1, ![1024]⟩
abbrev S1024x31 : Shape := ⟨2, ![1024, 31]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S4096x3072, .f32⟩
  | 2 => ⟨S31x1024, .f32⟩
  | 3 => ⟨S1x1024, .f32⟩
  | 4 => ⟨S1x1024, .f32⟩
  | 5 => ⟨S1x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S4096, .i32⟩
  | 23 => ⟨S4096x1, .i32⟩
  | 24 => ⟨S4096, .i32⟩
  | 25 => ⟨S1x4096, .i32⟩
  | 26 => ⟨S4096x4096, .i32⟩
  | 27 => ⟨S4096x4096, .i32⟩
  | 28 => ⟨S4096x4096, .i32⟩
  | 29 => ⟨S1x4096x4096, .i32⟩
  | 30 => ⟨S31, .i32⟩
  | 31 => ⟨S31x1x1, .i32⟩
  | 32 => ⟨S_, .i32⟩
  | 33 => ⟨S31x1x1, .i32⟩
  | 34 => ⟨S31x1x1, .i32⟩
  | 35 => ⟨S31x4096x4096, .i32⟩
  | 36 => ⟨S31x4096x4096, .i32⟩
  | 37 => ⟨S31x4096x4096, .i1⟩
  | 38 => ⟨S31x4096x4096, .f32⟩
  | 39 => ⟨S4096x4096x1024, .f32⟩
  | 40 => ⟨S1x4096x1024, .f32⟩
  | 41 => ⟨S4096x4096x1024, .f32⟩
  | 42 => ⟨S4096x4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x1024, .f32⟩
  | 66 => ⟨S4096x1024, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S_, .f32⟩
  | 123 => ⟨S1024, .f32⟩
  | 124 => ⟨S1x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S4096, .f32⟩
  | 2 => ⟨S4096x1, .f32⟩
  | 3 => ⟨S4096x1024, .f32⟩
  | 4 => ⟨S4096x1024, .f32⟩
  | 5 => ⟨S4096x1, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x1024, .f32⟩
  | 29 => ⟨S4096x1024, .f32⟩
  | 30 => ⟨S_, .f32⟩
  | 31 => ⟨S1024, .f32⟩
  | 32 => ⟨S1x1024, .f32⟩
  | 33 => ⟨S4096x4096x1024, .f32⟩
  | 34 => ⟨S4096x4096x1024, .f32⟩
  | 35 => ⟨S_, .f32⟩
  | 36 => ⟨S4096x1024, .f32⟩
  | 37 => ⟨S1x4096x1024, .f32⟩
  | 38 => ⟨S4096x4096x1024, .f32⟩
  | 39 => ⟨S4096x4096x1024, .f32⟩
  | 40 => ⟨S_, .f32⟩
  | 41 => ⟨S4096x1024, .f32⟩
  | 42 => ⟨S1024x31, .f32⟩
  | 43 => ⟨S31x1024, .f32⟩
  | 44 => ⟨S4096x1024, .f32⟩
  | 45 => ⟨S4096x1024, .f32⟩
  | 46 => ⟨S4096x1024, .f32⟩
  | 47 => ⟨S4096x3072, .f32⟩
  | 48 => ⟨S4096x3072, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_v63_2 : Ref sig .tc := ⟨.hbm, 88, rfl⟩
abbrev main_call0_cst_1 : Ref sig .tc := ⟨.hbm, 89, rfl⟩
abbrev main_call0_v6 : Ref sig .tc := ⟨.hbm, 90, rfl⟩
abbrev main_call0_v7 : Ref sig .tc := ⟨.hbm, 91, rfl⟩
abbrev main_v63_1 : Ref sig .tc := ⟨.hbm, 92, rfl⟩
abbrev main_v63_0 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_v64_2 : Ref sig .tc := ⟨.hbm, 101, rfl⟩
abbrev main_call1_cst_1 : Ref sig .tc := ⟨.hbm, 102, rfl⟩
abbrev main_call1_v6 : Ref sig .tc := ⟨.hbm, 103, rfl⟩
abbrev main_call1_v7 : Ref sig .tc := ⟨.hbm, 104, rfl⟩
abbrev main_v64_1 : Ref sig .tc := ⟨.hbm, 105, rfl⟩
abbrev main_v64_0 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v68 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v69 : Ref sig .tc := ⟨.hbm, 117, rfl⟩
abbrev main_cst_10 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_11 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_12 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_13 : Ref sig .tc := ⟨.hbm, 135, rfl⟩
abbrev main_v84 : Ref sig .tc := ⟨.hbm, 136, rfl⟩
abbrev main_v85 : Ref sig .tc := ⟨.hbm, 137, rfl⟩
abbrev main_cst_14 : Ref sig .tc := ⟨.hbm, 138, rfl⟩
abbrev main_v86 : Ref sig .tc := ⟨.hbm, 139, rfl⟩
abbrev main_v87 : Ref sig .tc := ⟨.hbm, 140, rfl⟩
abbrev main_cst_15 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_16 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_17 : Ref sig .tc := ⟨.hbm, 151, rfl⟩
abbrev main_v96 : Ref sig .tc := ⟨.hbm, 152, rfl⟩
abbrev main_v97 : Ref sig .tc := ⟨.hbm, 153, rfl⟩
abbrev main_cst_18 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_19 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_20 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_21 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩

abbrev nD : Nat := 1
abbrev τ : Topo := Topo.v7x

variable {F : FTy → Type} [FloatOps F]
-- ==== Mla.lean ====
abbrev S4096x3072 : Shape := ⟨2, ![4096, 3072]⟩
abbrev S8x4096x96 : Shape := ⟨3, ![8, 4096, 96]⟩
abbrev S8x4096x64 : Shape := ⟨3, ![8, 4096, 64]⟩
abbrev S4096x2976 : Shape := ⟨2, ![4096, 2976]⟩
abbrev S4096x16 : Shape := ⟨2, ![4096, 16]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S4096x2432 : Shape := ⟨2, ![4096, 2432]⟩
abbrev S_ : Shape := ⟨0, ![]⟩
abbrev S4096x64 : Shape := ⟨2, ![4096, 64]⟩
abbrev S4096x32 : Shape := ⟨2, ![4096, 32]⟩
abbrev S4096x512 : Shape := ⟨2, ![4096, 512]⟩
abbrev S4096x128 : Shape := ⟨2, ![4096, 128]⟩
abbrev S8 : Shape := ⟨1, ![8]⟩
abbrev S8x1x1 : Shape := ⟨3, ![8, 1, 1]⟩
abbrev S8x4096x128 : Shape := ⟨3, ![8, 4096, 128]⟩
abbrev S256x4x192 : Shape := ⟨3, ![256, 4, 192]⟩
abbrev S4x256x192 : Shape := ⟨3, ![4, 256, 192]⟩
abbrev S4x256x2x96 : Shape := ⟨4, ![4, 256, 2, 96]⟩
abbrev S4x2x256x96 : Shape := ⟨4, ![4, 2, 256, 96]⟩
abbrev S8x256x96 : Shape := ⟨3, ![8, 256, 96]⟩
abbrev S8x256x64 : Shape := ⟨3, ![8, 256, 64]⟩
abbrev S8x256x16 : Shape := ⟨3, ![8, 256, 16]⟩
abbrev S8x256x128 : Shape := ⟨3, ![8, 256, 128]⟩
abbrev S256x8x128 : Shape := ⟨3, ![256, 8, 128]⟩
abbrev S256x1024 : Shape := ⟨2, ![256, 1024]⟩
abbrev S128x4x256 : Shape := ⟨3, ![128, 4, 256]⟩
abbrev S4x128x256 : Shape := ⟨3, ![4, 128, 256]⟩
abbrev S4x128x2x128 : Shape := ⟨4, ![4, 128, 2, 128]⟩
abbrev S4x2x128x128 : Shape := ⟨4, ![4, 2, 128, 128]⟩
abbrev S8x128x128 : Shape := ⟨3, ![8, 128, 128]⟩
abbrev S8x128x64 : Shape := ⟨3, ![8, 128, 64]⟩
abbrev S128x8x128 : Shape := ⟨3, ![128, 8, 128]⟩
abbrev S4x1024x128 : Shape := ⟨3, ![4, 1024, 128]⟩
abbrev S8x512x128 : Shape := ⟨3, ![8, 512, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩
abbrev S512x1024 : Shape := ⟨2, ![512, 1024]⟩
abbrev S256 : Shape := ⟨1, ![256]⟩
abbrev S128 : Shape := ⟨1, ![128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 145
  | .vmem => 24
  | .smem => 0
  | _ => 0

abbrev hbmTy0_0 (i : Nat) : BufTy := match i % 128 with
  | 0 => ⟨S4096x3072, .bf16⟩
  | 1 => ⟨S8x4096x96, .f32⟩
  | 2 => ⟨S8x4096x96, .f32⟩
  | 3 => ⟨S8x4096x64, .f32⟩
  | 4 => ⟨S4096x2976, .f32⟩
  | 5 => ⟨S4096x16, .f32⟩
  | 6 => ⟨S4096x16, .f32⟩
  | 7 => ⟨S1x256, .f32⟩
  | 8 => ⟨S1x128, .f32⟩
  | 9 => ⟨S256x768, .f32⟩
  | 10 => ⟨S128x1024, .f32⟩
  | 11 => ⟨S4096x2432, .f32⟩
  | 12 => ⟨S_, .f32⟩
  | 13 => ⟨S4096x64, .f32⟩
  | 14 => ⟨S4096x32, .f32⟩
  | 15 => ⟨S_, .f32⟩
  | 16 => ⟨S4096x32, .f32⟩
  | 17 => ⟨S4096x512, .f32⟩
  | 18 => ⟨S4096x3072, .f32⟩
  | 19 => ⟨S_, .f32⟩
  | 20 => ⟨S4096x64, .f32⟩
  | 21 => ⟨S_, .f32⟩
  | 22 => ⟨S4096x32, .f32⟩
  | 23 => ⟨S4096x128, .f32⟩
  | 24 => ⟨S_, .f32⟩
  | 25 => ⟨S4096x64, .f32⟩
  | 26 => ⟨S_, .f32⟩
  | 27 => ⟨S4096x32, .f32⟩
  | 28 => ⟨S4096x128, .f32⟩
  | 29 => ⟨S_, .f32⟩
  | 30 => ⟨S8x4096x64, .f32⟩
  | 31 => ⟨S8, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8, .i32⟩
  | 39 => ⟨S8, .i32⟩
  | 40 => ⟨S_, .i32⟩
  | 41 => ⟨S8, .i32⟩
  | 42 => ⟨S8, .i1⟩
  | 43 => ⟨S_, .i32⟩
  | 44 => ⟨S8, .i32⟩
  | 45 => ⟨S8, .i1⟩
  | 46 => ⟨S_, .i32⟩
  | 47 => ⟨S_, .i1⟩
  | 48 => ⟨S8, .i1⟩
  | 49 => ⟨S8, .i1⟩
  | 50 => ⟨S8, .i1⟩
  | 51 => ⟨S8, .i32⟩
  | 52 => ⟨S8, .i32⟩
  | 53 => ⟨S8, .i32⟩
  | 54 => ⟨S_, .i32⟩
  | 55 => ⟨S8, .i32⟩
  | 56 => ⟨S8, .i1⟩
  | 57 => ⟨S8x1x1, .i1⟩
  | 58 => ⟨S8x4096x64, .i1⟩
  | 59 => ⟨S8x4096x64, .f32⟩
  | 60 => ⟨S8x4096x64, .i1⟩
  | 61 => ⟨S8x4096x64, .f32⟩
  | 62 => ⟨S8x4096x128, .f32⟩
  | 63 => ⟨S256x4x192, .f32⟩
  | 64 => ⟨S4x256x192, .f32⟩
  | 65 => ⟨S4x256x192, .bf16⟩
  | 66 => ⟨S4x256x2x96, .bf16⟩
  | 67 => ⟨S4x2x256x96, .bf16⟩
  | 68 => ⟨S8x256x96, .bf16⟩
  | 69 => ⟨S8x256x64, .bf16⟩
  | 70 => ⟨S_, .bf16⟩
  | 71 => ⟨S8x256x64, .bf16⟩
  | 72 => ⟨S8x256x16, .bf16⟩
  | 73 => ⟨S8x256x16, .bf16⟩
  | 74 => ⟨S8x256x16, .bf16⟩
  | 75 => ⟨S8x256x96, .bf16⟩
  | 76 => ⟨S_, .i32⟩
  | 77 => ⟨S_, .bf16⟩
  | 78 => ⟨S8x256x128, .bf16⟩
  | 79 => ⟨S256x8x128, .bf16⟩
  | 80 => ⟨S256x1024, .bf16⟩
  | 81 => ⟨S_, .i32⟩
  | 82 => ⟨S_, .bf16⟩
  | 83 => ⟨S8x256x128, .bf16⟩
  | 84 => ⟨S256x8x128, .bf16⟩
  | 85 => ⟨S256x1024, .bf16⟩
  | 86 => ⟨S128x4x256, .f32⟩
  | 87 => ⟨S4x128x256, .f32⟩
  | 88 => ⟨S4x128x256, .bf16⟩
  | 89 => ⟨S4x128x2x128, .bf16⟩
  | 90 => ⟨S4x2x128x128, .bf16⟩
  | 91 => ⟨S8x128x128, .bf16⟩
  | 92 => ⟨S8x128x64, .bf16⟩
  | 93 => ⟨S_, .i32⟩
  | 94 => ⟨S_, .bf16⟩
  | 95 => ⟨S8x128x128, .bf16⟩
  | 96 => ⟨S8x128x64, .bf16⟩
  | 97 => ⟨S_, .bf16⟩
  | 98 => ⟨S8x128x64, .bf16⟩
  | 99 => ⟨S8, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S8, .i32⟩
  | 107 => ⟨S8, .i32⟩
  | 108 => ⟨S_, .i32⟩
  | 109 => ⟨S8, .i32⟩
  | 110 => ⟨S8, .i1⟩
  | 111 => ⟨S_, .i32⟩
  | 112 => ⟨S8, .i32⟩
  | 113 => ⟨S8, .i1⟩
  | 114 => ⟨S_, .i32⟩
  | 115 => ⟨S_, .i1⟩
  | 116 => ⟨S8, .i1⟩
  | 117 => ⟨S8, .i1⟩
  | 118 => ⟨S8, .i1⟩
  | 119 => ⟨S8, .i32⟩
  | 120 => ⟨S8, .i32⟩
  | 121 => ⟨S8, .i32⟩
  | 122 => ⟨S_, .i32⟩
  | 123 => ⟨S8, .i32⟩
  | 124 => ⟨S8, .i1⟩
  | 125 => ⟨S8x1x1, .i1⟩
  | 126 => ⟨S8x128x64, .i1⟩
  | 127 => ⟨S8x128x64, .bf16⟩
  | _ => ⟨S4096x3072, .bf16⟩

abbrev hbmTy0_1 (i : Nat) : BufTy := match i % 128 with
  | 0 => ⟨S8x128x64, .i1⟩
  | 1 => ⟨S8x128x64, .bf16⟩
  | 2 => ⟨S8x128x128, .bf16⟩
  | 3 => ⟨S128x8x128, .bf16⟩
  | 4 => ⟨S128x1024, .bf16⟩
  | 5 => ⟨S128x8x128, .bf16⟩
  | 6 => ⟨S128x1024, .bf16⟩
  | 7 => ⟨S_, .i32⟩
  | 8 => ⟨S_, .f32⟩
  | 9 => ⟨S8x4096x128, .f32⟩
  | 10 => ⟨S_, .i32⟩
  | 11 => ⟨S_, .f32⟩
  | 12 => ⟨S8x4096x128, .f32⟩
  | 13 => ⟨S4096x3072, .bf16⟩
  | 14 => ⟨S4x1024x128, .f32⟩
  | 15 => ⟨S1x256, .f32⟩
  | 16 => ⟨S1x128, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | .local _ .vmem, ⟨0, _⟩ => ⟨S8x512x128, .f32⟩
  | .local _ .vmem, ⟨1, _⟩ => ⟨S8x512x128, .f32⟩
  | .local _ .vmem, ⟨2, _⟩ => ⟨S8x512x128, .f32⟩
  | .local _ .vmem, ⟨3, _⟩ => ⟨S8x512x128, .f32⟩
  | .local _ .vmem, ⟨4, _⟩ => ⟨S8x512x128, .f32⟩
  | .local _ .vmem, ⟨5, _⟩ => ⟨S8x512x128, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x256, .f32⟩
  | .local _ .vmem, ⟨15, _⟩ => ⟨S1x128, .f32⟩
  | .local _ .vmem, ⟨16, _⟩ => ⟨S256x1024, .bf16⟩
  | .local _ .vmem, ⟨17, _⟩ => ⟨S128x1024, .bf16⟩
  | .local _ .vmem, ⟨18, _⟩ => ⟨S128x1024, .bf16⟩
  | .local _ .vmem, ⟨19, _⟩ => ⟨S512x512, .bf16⟩
  | .local _ .vmem, ⟨20, _⟩ => ⟨S512x512, .bf16⟩
  | .local _ .vmem, ⟨21, _⟩ => ⟨S4x1024x128, .f32⟩
  | .local _ .vmem, ⟨22, _⟩ => ⟨S1x256, .f32⟩
  | .local _ .vmem, ⟨23, _⟩ => ⟨S1x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v14 : Ref sig .tc := ⟨.hbm, 53, rfl⟩
abbrev main_c_6 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call1_v0 : Ref sig .tc := ⟨.hbm, 58, rfl⟩
abbrev main_v18 : Ref sig .tc := ⟨.hbm, 59, rfl⟩
abbrev main_call2_v0 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_7 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_8 : Ref sig .tc := ⟨.hbm, 76, rfl⟩
abbrev main_call3_v0 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_c_9 : Ref sig .tc := ⟨.hbm, 81, rfl⟩
abbrev main_call4_v0 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_c_10 : Ref sig .tc := ⟨.hbm, 93, rfl⟩
abbrev main_call5_v0 : Ref sig .tc := ⟨.hbm, 94, rfl⟩
abbrev main_v46 : Ref sig .tc := ⟨.hbm, 95, rfl⟩
abbrev main_v47 : Ref sig .tc := ⟨.hbm, 96, rfl⟩
abbrev main_cst_11 : Ref sig .tc := ⟨.hbm, 97, rfl⟩
abbrev main_v48 : Ref sig .tc := ⟨.hbm, 98, rfl⟩
abbrev main_v49 : Ref sig .tc := ⟨.hbm, 99, rfl⟩
abbrev main_c_12 : Ref sig .tc := ⟨.hbm, 100, rfl⟩
abbrev main_call6_v0 : Ref sig .tc := ⟨.hbm, 101, rfl⟩
abbrev main_call6_c : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_c_1 : Ref sig .tc := ⟨.hbm, 108, rfl⟩
abbrev main_call6_v5 : Ref sig .tc := ⟨.hbm, 109, rfl⟩
abbrev main_call6_v6 : Ref sig .tc := ⟨.hbm, 110, rfl⟩
abbrev main_call6_c_2 : Ref sig .tc := ⟨.hbm, 111, rfl⟩
abbrev main_call6_v7 : Ref sig .tc := ⟨.hbm, 112, rfl⟩
abbrev main_call6_v8 : Ref sig .tc := ⟨.hbm, 113, rfl⟩
abbrev main_call6_c_3 : Ref sig .tc := ⟨.hbm, 114, rfl⟩
abbrev main_call6_v9 : Ref sig .tc := ⟨.hbm, 115, rfl⟩
abbrev main_call6_v10 : Ref sig .tc := ⟨.hbm, 116, rfl⟩
abbrev main_call6_v11 : Ref sig .tc := ⟨.hbm, 117, rfl⟩
abbrev main_call6_v12 : Ref sig .tc := ⟨.hbm, 118, rfl⟩
abbrev main_call6_v13 : Ref sig .tc := ⟨.hbm, 119, rfl⟩
abbrev main_call6_v14 : Ref sig .tc := ⟨.hbm, 120, rfl⟩
abbrev main_v50 : Ref sig .tc := ⟨.hbm, 121, rfl⟩
abbrev main_c_13 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_call7_v0 : Ref sig .tc := ⟨.hbm, 126, rfl⟩
abbrev main_v54 : Ref sig .tc := ⟨.hbm, 127, rfl⟩
abbrev main_call8_v0 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_c_14 : Ref sig .tc := ⟨.hbm, 135, rfl⟩
abbrev main_call9_v0 : Ref sig .tc := ⟨.hbm, 136, rfl⟩
abbrev main_v61 : Ref sig .tc := ⟨.hbm, 137, rfl⟩
abbrev main_c_15 : Ref sig .tc := ⟨.hbm, 138, rfl⟩
abbrev main_call10_v0 : Ref sig .tc := ⟨.hbm, 139, rfl⟩
abbrev main_v62 : Ref sig .tc := ⟨.hbm, 140, rfl⟩
abbrev main_v63_0 : Ref sig .tc := ⟨.hbm, 141, rfl⟩
abbrev main_v63_1 : Ref sig .tc := ⟨.hbm, 142, rfl⟩
abbrev main_v63_2 : Ref sig .tc := ⟨.hbm, 143, rfl⟩
abbrev main_v63_3 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== MlaRefIdeal.lean ====
abbrev S4096x3072 : Shape := ⟨2, ![4096, 3072]⟩
abbrev S8x4096x96 : Shape := ⟨3, ![8, 4096, 96]⟩
abbrev S8x4096x64 : Shape := ⟨3, ![8, 4096, 64]⟩
abbrev S4096x2976 : Shape := ⟨2, ![4096, 2976]⟩
abbrev S4096x16 : Shape := ⟨2, ![4096, 16]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S4096x512 : Shape := ⟨2, ![4096, 512]⟩
abbrev S4096x256 : Shape := ⟨2, ![4096, 256]⟩
abbrev S4096x128 : Shape := ⟨2, ![4096, 128]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S4096x768 : Shape := ⟨2, ![4096, 768]⟩
abbrev S4096x8x96 : Shape := ⟨3, ![4096, 8, 96]⟩
abbrev S4096x8x64 : Shape := ⟨3, ![4096, 8, 64]⟩
abbrev S4096x8x32 : Shape := ⟨3, ![4096, 8, 32]⟩
abbrev S4096x1x16 : Shape := ⟨3, ![4096, 1, 16]⟩
abbrev S4096x8x16 : Shape := ⟨3, ![4096, 8, 16]⟩
abbrev S4096x1024 : Shape := ⟨2, ![4096, 1024]⟩
abbrev S4096x8x128 : Shape := ⟨3, ![4096, 8, 128]⟩
abbrev S4096x1x32 : Shape := ⟨3, ![4096, 1, 32]⟩
abbrev S1024x128 : Shape := ⟨2, ![1024, 128]⟩
abbrev S128 : Shape := ⟨1, ![128]⟩
abbrev S768x256 : Shape := ⟨2, ![768, 256]⟩
abbrev S256 : Shape := ⟨1, ![256]⟩
abbrev S4096x64 : Shape := ⟨2, ![4096, 64]⟩
abbrev S4096x2048 : Shape := ⟨2, ![4096, 2048]⟩
abbrev S256x8x96 : Shape := ⟨3, ![256, 8, 96]⟩
abbrev S8x256x96 : Shape := ⟨3, ![8, 256, 96]⟩
abbrev S8x256x128 : Shape := ⟨3, ![8, 256, 128]⟩
abbrev S128x8x128 : Shape := ⟨3, ![128, 8, 128]⟩
abbrev S8x128x128 : Shape := ⟨3, ![8, 128, 128]⟩
abbrev S8x128x64 : Shape := ⟨3, ![8, 128, 64]⟩
abbrev S8 : Shape := ⟨1, ![8]⟩
abbrev S8x1x1 : Shape := ⟨3, ![8, 1, 1]⟩
abbrev S8x512x128 : Shape := ⟨3, ![8, 512, 128]⟩
abbrev S4x1024x128 : Shape := ⟨3, ![4, 1024, 128]⟩

abbrev nBuf : Space → Nat
  | .hbm => 255
  | .vmem => 0
  | .smem => 0
  | _ => 0

abbrev hbmTy0_0 (i : Nat) : BufTy := match i % 128 with
  | 0 => ⟨S4096x3072, .bf16⟩
  | 1 => ⟨S8x4096x96, .f32⟩
  | 2 => ⟨S8x4096x96, .f32⟩
  | 3 => ⟨S8x4096x64, .f32⟩
  | 4 => ⟨S4096x2976, .f32⟩
  | 5 => ⟨S4096x16, .f32⟩
  | 6 => ⟨S4096x16, .f32⟩
  | 7 => ⟨S1x256, .f32⟩
  | 8 => ⟨S1x128, .f32⟩
  | 9 => ⟨S256x768, .f32⟩
  | 10 => ⟨S128x1024, .f32⟩
  | 11 => ⟨S4096x512, .f32⟩
  | 12 => ⟨S4096x512, .f32⟩
  | 13 => ⟨S4096x512, .f32⟩
  | 14 => ⟨S4096x512, .f32⟩
  | 15 => ⟨S4096x256, .f32⟩
  | 16 => ⟨S4096x128, .f32⟩
  | 17 => ⟨S4096x32, .f32⟩
  | 18 => ⟨S4096x512, .f32⟩
  | 19 => ⟨S4096x256, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x256, .f32⟩
  | 35 => ⟨S4096x256, .f32⟩
  | 36 => ⟨S4096x256, .f32⟩
  | 37 => ⟨S4096x256, .f32⟩
  | 38 => ⟨S4096x768, .f32⟩
  | 39 => ⟨S4096x8x96, .f32⟩
  | 40 => ⟨S4096x8x64, .f32⟩
  | 41 => ⟨S4096x8x32, .f32⟩
  | 42 => ⟨S4096x1x16, .f32⟩
  | 43 => ⟨S4096x1x16, .f32⟩
  | 44 => ⟨S4096x8x16, .f32⟩
  | 45 => ⟨S4096x8x16, .f32⟩
  | 46 => ⟨S4096x8x16, .f32⟩
  | 47 => ⟨S4096x8x16, .f32⟩
  | 48 => ⟨S4096x8x16, .f32⟩
  | 49 => ⟨S4096x8x16, .f32⟩
  | 50 => ⟨S4096x8x16, .f32⟩
  | 51 => ⟨S4096x8x16, .f32⟩
  | 52 => ⟨S4096x8x16, .f32⟩
  | 53 => ⟨S4096x8x16, .f32⟩
  | 54 => ⟨S4096x8x16, .f32⟩
  | 55 => ⟨S4096x8x16, .f32⟩
  | 56 => ⟨S4096x8x32, .f32⟩
  | 57 => ⟨S4096x128, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x128, .f32⟩
  | 73 => ⟨S4096x128, .f32⟩
  | 74 => ⟨S4096x128, .f32⟩
  | 75 => ⟨S4096x128, .f32⟩
  | 76 => ⟨S4096x1024, .f32⟩
  | 77 => ⟨S4096x8x128, .f32⟩
  | 78 => ⟨S4096x8x64, .f32⟩
  | 79 => ⟨S4096x8x64, .f32⟩
  | 80 => ⟨S4096x16, .f32⟩
  | 81 => ⟨S4096x16, .f32⟩
  | 82 => ⟨S4096x16, .f32⟩
  | 83 => ⟨S4096x16, .f32⟩
  | 84 => ⟨S4096x16, .f32⟩
  | 85 => ⟨S4096x16, .f32⟩
  | 86 => ⟨S4096x16, .f32⟩
  | 87 => ⟨S4096x16, .f32⟩
  | 88 => ⟨S4096x32, .f32⟩
  | 89 => ⟨S4096x1x32, .f32⟩
  | 90 => ⟨S4096x8x32, .f32⟩
  | 91 => ⟨S4096x8x96, .f32⟩
  | 92 => ⟨S8x4096x96, .f32⟩
  | 93 => ⟨S4096x8x96, .f32⟩
  | 94 => ⟨S8x4096x96, .f32⟩
  | 95 => ⟨S8x4096x64, .f32⟩
  | 96 => ⟨S4096x8x64, .f32⟩
  | 97 => ⟨S4096x8x96, .f32⟩
  | 98 => ⟨S4096x8x64, .f32⟩
  | 99 => ⟨S4096x8x32, .f32⟩
  | 100 => ⟨S4096x8x96, .f32⟩
  | 101 => ⟨S4096x8x64, .f32⟩
  | 102 => ⟨S4096x8x32, .f32⟩
  | 103 => ⟨S_, .f32⟩
  | 104 => ⟨S4096x32, .f32⟩
  | 105 => ⟨S4096x1x32, .f32⟩
  | 106 => ⟨S_, .f32⟩
  | 107 => ⟨S4096x32, .f32⟩
  | 108 => ⟨S4096x16, .f32⟩
  | 109 => ⟨S4096x16, .f32⟩
  | 110 => ⟨S4096x16, .f32⟩
  | 111 => ⟨S4096x16, .f32⟩
  | 112 => ⟨S4096x16, .f32⟩
  | 113 => ⟨S4096x16, .f32⟩
  | 114 => ⟨S4096x16, .f32⟩
  | 115 => ⟨S4096x16, .f32⟩
  | 116 => ⟨S4096x16, .f32⟩
  | 117 => ⟨S4096x32, .f32⟩
  | 118 => ⟨S_, .f32⟩
  | 119 => ⟨S4096x8x128, .f32⟩
  | 120 => ⟨S_, .f32⟩
  | 121 => ⟨S4096x8x128, .f32⟩
  | 122 => ⟨S4096x8x128, .f32⟩
  | 123 => ⟨S4096x1024, .f32⟩
  | 124 => ⟨S1024x128, .f32⟩
  | 125 => ⟨S128x1024, .f32⟩
  | 126 => ⟨S4096x128, .f32⟩
  | 127 => ⟨S4096x128, .f32⟩
  | _ => ⟨S4096x3072, .bf16⟩

abbrev hbmTy0_1 (i : Nat) : BufTy := match i % 128 with
  | 0 => ⟨S_, .f32⟩
  | 1 => ⟨S128, .f32⟩
  | 2 => ⟨S1x128, .f32⟩
  | 3 => ⟨S4096x128, .f32⟩
  | 4 => ⟨S4096x128, .f32⟩
  | 5 => ⟨S4096x128, .f32⟩
  | 6 => ⟨S_, .f32⟩
  | 7 => ⟨S4096, .f32⟩
  | 8 => ⟨S4096x1, .f32⟩
  | 9 => ⟨S4096x128, .f32⟩
  | 10 => ⟨S4096x128, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096, .f32⟩
  | 17 => ⟨S4096x128, .f32⟩
  | 18 => ⟨S4096x128, .f32⟩
  | 19 => ⟨S4096x128, .f32⟩
  | 20 => ⟨S4096x128, .f32⟩
  | 21 => ⟨S4096x128, .f32⟩
  | 22 => ⟨S4096x8x16, .f32⟩
  | 23 => ⟨S4096x8x16, .f32⟩
  | 24 => ⟨S4096x8x16, .f32⟩
  | 25 => ⟨S4096x8x16, .f32⟩
  | 26 => ⟨S4096x8x16, .f32⟩
  | 27 => ⟨S4096x8x16, .f32⟩
  | 28 => ⟨S4096x8x16, .f32⟩
  | 29 => ⟨S4096x8x16, .f32⟩
  | 30 => ⟨S4096x8x16, .f32⟩
  | 31 => ⟨S4096x8x16, .f32⟩
  | 32 => ⟨S4096x8x16, .f32⟩
  | 33 => ⟨S4096x8x16, .f32⟩
  | 34 => ⟨S4096x8x16, .f32⟩
  | 35 => ⟨S4096x8x32, .f32⟩
  | 36 => ⟨S_, .f32⟩
  | 37 => ⟨S4096x8x96, .f32⟩
  | 38 => ⟨S_, .f32⟩
  | 39 => ⟨S4096x8x96, .f32⟩
  | 40 => ⟨S4096x8x96, .f32⟩
  | 41 => ⟨S4096x768, .f32⟩
  | 42 => ⟨S768x256, .f32⟩
  | 43 => ⟨S256x768, .f32⟩
  | 44 => ⟨S4096x256, .f32⟩
  | 45 => ⟨S4096x256, .f32⟩
  | 46 => ⟨S_, .f32⟩
  | 47 => ⟨S256, .f32⟩
  | 48 => ⟨S1x256, .f32⟩
  | 49 => ⟨S4096x256, .f32⟩
  | 50 => ⟨S4096x256, .f32⟩
  | 51 => ⟨S4096x256, .f32⟩
  | 52 => ⟨S_, .f32⟩
  | 53 => ⟨S4096, .f32⟩
  | 54 => ⟨S4096x1, .f32⟩
  | 55 => ⟨S4096x256, .f32⟩
  | 56 => ⟨S4096x256, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096, .f32⟩
  | 63 => ⟨S4096x256, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096x64, .f32⟩
  | 70 => ⟨S_, .f32⟩
  | 71 => ⟨S4096x32, .f32⟩
  | 72 => ⟨S4096x512, .f32⟩
  | 73 => ⟨S4096x2048, .bf16⟩
  | 74 => ⟨S4096x512, .bf16⟩
  | 75 => ⟨S4096x512, .bf16⟩
  | 76 => ⟨S4096x3072, .bf16⟩
  | 77 => ⟨S256x8x96, .f32⟩
  | 78 => ⟨S8x256x96, .f32⟩
  | 79 => ⟨S_, .i32⟩
  | 80 => ⟨S_, .f32⟩
  | 81 => ⟨S8x256x128, .f32⟩
  | 82 => ⟨S128x8x128, .f32⟩
  | 83 => ⟨S8x128x128, .f32⟩
  | 84 => ⟨S8x128x64, .f32⟩
  | 85 => ⟨S_, .i32⟩
  | 86 => ⟨S_, .f32⟩
  | 87 => ⟨S8x128x128, .f32⟩
  | 88 => ⟨S8x128x64, .f32⟩
  | 89 => ⟨S_, .f32⟩
  | 90 => ⟨S8x128x64, .f32⟩
  | 91 => ⟨S8, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S8, .i32⟩
  | 99 => ⟨S8, .i32⟩
  | 100 => ⟨S_, .i32⟩
  | 101 => ⟨S8, .i32⟩
  | 102 => ⟨S8, .i1⟩
  | 103 => ⟨S_, .i32⟩
  | 104 => ⟨S8, .i32⟩
  | 105 => ⟨S8, .i1⟩
  | 106 => ⟨S_, .i32⟩
  | 107 => ⟨S_, .i1⟩
  | 108 => ⟨S8, .i1⟩
  | 109 => ⟨S8, .i1⟩
  | 110 => ⟨S8, .i1⟩
  | 111 => ⟨S8, .i32⟩
  | 112 => ⟨S8, .i32⟩
  | 113 => ⟨S8, .i32⟩
  | 114 => ⟨S_, .i32⟩
  | 115 => ⟨S8, .i32⟩
  | 116 => ⟨S8, .i1⟩
  | 117 => ⟨S8x1x1, .i1⟩
  | 118 => ⟨S8x128x64, .f32⟩
  | 119 => ⟨S8x128x64, .i1⟩
  | 120 => ⟨S8x128x64, .f32⟩
  | 121 => ⟨S8x128x64, .f32⟩
  | 122 => ⟨S8x128x64, .i1⟩
  | 123 => ⟨S8x128x64, .f32⟩
  | 124 => ⟨S8x128x128, .f32⟩
  | 125 => ⟨S8x512x128, .f32⟩
  | 126 => ⟨S4x1024x128, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_7 : Ref sig .tc := ⟨.hbm, 103, rfl⟩
abbrev main_v84 : Ref sig .tc := ⟨.hbm, 104, rfl⟩
abbrev main_v85 : Ref sig .tc := ⟨.hbm, 105, rfl⟩
abbrev main_cst_8 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_9 : Ref sig .tc := ⟨.hbm, 118, rfl⟩
abbrev main_v97 : Ref sig .tc := ⟨.hbm, 119, rfl⟩
abbrev main_cst_10 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_11 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_12 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_13 : Ref sig .tc := ⟨.hbm, 140, rfl⟩
abbrev main_v115 : Ref sig .tc := ⟨.hbm, 141, rfl⟩
abbrev main_v116 : Ref sig .tc := ⟨.hbm, 142, rfl⟩
abbrev main_cst_14 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_15 : Ref sig .tc := ⟨.hbm, 164, rfl⟩
abbrev main_v137 : Ref sig .tc := ⟨.hbm, 165, rfl⟩
abbrev main_cst_16 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_17 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_18 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_19 : Ref sig .tc := ⟨.hbm, 186, rfl⟩
abbrev main_v155 : Ref sig .tc := ⟨.hbm, 187, rfl⟩
abbrev main_v156 : Ref sig .tc := ⟨.hbm, 188, rfl⟩
abbrev main_cst_20 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_21 : Ref sig .tc := ⟨.hbm, 196, rfl⟩
abbrev main_v163 : Ref sig .tc := ⟨.hbm, 197, rfl⟩
abbrev main_cst_22 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_c : Ref sig .tc := ⟨.hbm, 207, rfl⟩
abbrev main_call0_v0 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_c_23 : Ref sig .tc := ⟨.hbm, 213, rfl⟩
abbrev main_call1_v0 : Ref sig .tc := ⟨.hbm, 214, rfl⟩
abbrev main_v176 : Ref sig .tc := ⟨.hbm, 215, rfl⟩
abbrev main_v177 : Ref sig .tc := ⟨.hbm, 216, rfl⟩
abbrev main_cst_24 : Ref sig .tc := ⟨.hbm, 217, rfl⟩
abbrev main_v178 : Ref sig .tc := ⟨.hbm, 218, rfl⟩
abbrev main_v179 : Ref sig .tc := ⟨.hbm, 219, rfl⟩
abbrev main_c_25 : Ref sig .tc := ⟨.hbm, 220, rfl⟩
abbrev main_call2_v0 : Ref sig .tc := ⟨.hbm, 221, rfl⟩
abbrev main_call2_c : Ref sig .tc := ⟨.hbm, 222, rfl⟩
abbrev main_call2_v1 : Ref sig .tc := ⟨.hbm, 223, rfl⟩
abbrev main_call2_c_0 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_c_1 : Ref sig .tc := ⟨.hbm, 228, rfl⟩
abbrev main_call2_v5 : Ref sig .tc := ⟨.hbm, 229, rfl⟩
abbrev main_call2_v6 : Ref sig .tc := ⟨.hbm, 230, rfl⟩
abbrev main_call2_c_2 : Ref sig .tc := ⟨.hbm, 231, rfl⟩
abbrev main_call2_v7 : Ref sig .tc := ⟨.hbm, 232, rfl⟩
abbrev main_call2_v8 : Ref sig .tc := ⟨.hbm, 233, rfl⟩
abbrev main_call2_c_3 : Ref sig .tc := ⟨.hbm, 234, rfl⟩
abbrev main_call2_v9 : Ref sig .tc := ⟨.hbm, 235, rfl⟩
abbrev main_call2_v10 : Ref sig .tc := ⟨.hbm, 236, rfl⟩
abbrev main_call2_v11 : Ref sig .tc := ⟨.hbm, 237, rfl⟩
abbrev main_call2_v12 : Ref sig .tc := ⟨.hbm, 238, rfl⟩
abbrev main_call2_v13 : Ref sig .tc := ⟨.hbm, 239, rfl⟩
abbrev main_call2_v14 : Ref sig .tc := ⟨.hbm, 240, rfl⟩
abbrev main_v180 : Ref sig .tc := ⟨.hbm, 241, rfl⟩
abbrev main_c_26 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_call3_v0 : Ref sig .tc := ⟨.hbm, 247, rfl⟩
abbrev main_v185 : Ref sig .tc := ⟨.hbm, 248, rfl⟩
abbrev main_v186 : Ref sig .tc := ⟨.hbm, 249, rfl⟩
abbrev main_call4_v0 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩

abbrev nD : Nat := 1
abbrev τ : Topo := Topo.v7x

variable {F : FTy → Type} [FloatOps F]
-- ==== Next.lean ====
abbrev S4096x1024 : Shape := ⟨2, ![4096, 1024]⟩
abbrev S1x1024 : Shape := ⟨2, ![1, 1024]⟩
abbrev S1x3072 : Shape := ⟨2, ![1, 3072]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S1x1024, .f32⟩
  | .hbm, ⟨5, _⟩ => ⟨S1x3072, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NextRefIdeal.lean ====
abbrev S4096x1024 : Shape := ⟨2, ![4096, 1024]⟩
abbrev S1x1024 : Shape := ⟨2, ![1, 1024]⟩
abbrev S1x3072 : Shape := ⟨2, ![1, 3072]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x3072, .f32⟩
  | .hbm, ⟨4, _⟩ => ⟨S1x1024, .f32⟩
  | .hbm, ⟨5, _⟩ => ⟨S1x3072, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Soft.lean ====
abbrev S8x4096x96 : Shape := ⟨3, ![8, 4096, 96]⟩
abbrev S8x4096x64 : Shape := ⟨3, ![8, 4096, 64]⟩
abbrev S_ : Shape := ⟨0, ![]⟩
abbrev S8 : Shape := ⟨1, ![8]⟩
abbrev S8x1x1 : Shape := ⟨3, ![8, 1, 1]⟩
abbrev S8x4096x128 : Shape := ⟨3, ![8, 4096, 128]⟩
abbrev S4096x512 : Shape := ⟨2, ![4096, 512]⟩
abbrev S8x4096x1 : Shape := ⟨3, ![8, 4096, 1]⟩
abbrev S1x1024x128 : Shape := ⟨3, ![1, 1024, 128]⟩
abbrev S1x4096x128 : Shape := ⟨3, ![1, 4096, 128]⟩
abbrev S1024x128 : Shape := ⟨2, ![1024, 128]⟩
abbrev S1x1024x1 : Shape := ⟨3, ![1, 1024, 1]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S1x512x1 : Shape := ⟨3, ![1, 512, 1]⟩

abbrev nBuf : Space → Nat
  | .hbm => 48
  | .vmem => 10
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S_, .f32⟩
  | .hbm, ⟨4, _⟩ => ⟨S8x4096x64, .f32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S_, .i1⟩
  | .hbm, ⟨22, _⟩ => ⟨S8, .i1⟩
  | .hbm, ⟨23, _⟩ => ⟨S8, .i1⟩
  | .hbm, ⟨24, _⟩ => ⟨S8, .i1⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S8x1x1, .i1⟩
  | .hbm, ⟨32, _⟩ => ⟨S8x4096x64, .i1⟩
  | .hbm, ⟨33, _⟩ => ⟨S8x4096x64, .f32⟩
  | .hbm, ⟨34, _⟩ => ⟨S8x4096x64, .i1⟩
  | .hbm, ⟨35, _⟩ => ⟨S8x4096x64, .f32⟩
  | .hbm, ⟨36, _⟩ => ⟨S8x4096x128, .f32⟩
  | .hbm, ⟨37, _⟩ => ⟨S8x4096x128, .bf16⟩
  | .hbm, ⟨38, _⟩ => ⟨S_, .i32⟩
  | .hbm, ⟨39, _⟩ => ⟨S_, .f32⟩
  | .hbm, ⟨40, _⟩ => ⟨S8x4096x128, .f32⟩
  | .hbm, ⟨41, _⟩ => ⟨S8x4096x128, .bf16⟩
  | .hbm, ⟨42, _⟩ => ⟨S_, .i32⟩
  | .hbm, ⟨43, _⟩ => ⟨S_, .f32⟩
  | .hbm, ⟨44, _⟩ => ⟨S8x4096x128, .f32⟩
  | .hbm, ⟨45, _⟩ => ⟨S8x4096x128, .bf16⟩
  | .hbm, ⟨46, _⟩ => ⟨S4096x512, .f32⟩
  | .hbm, ⟨47, _⟩ => ⟨S8x4096x1, .f32⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | _, _ => ⟨S8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_call1_v0 : Ref sig .tc := ⟨.hbm, 32, rfl⟩
abbrev main_v6 : Ref sig .tc := ⟨.hbm, 33, rfl⟩
abbrev main_call2_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call3_v0 : Ref sig .tc := ⟨.hbm, 39, rfl⟩
abbrev main_v10 : Ref sig .tc := ⟨.hbm, 40, rfl⟩
abbrev main_v11 : Ref sig .tc := ⟨.hbm, 41, rfl⟩
abbrev main_c_2 : Ref sig .tc := ⟨.hbm, 42, rfl⟩
abbrev main_call4_v0 : Ref sig .tc := ⟨.hbm, 43, rfl⟩
abbrev main_v12 : Ref sig .tc := ⟨.hbm, 44, rfl⟩
abbrev main_v13 : Ref sig .tc := ⟨.hbm, 45, rfl⟩
abbrev main_v14_0 : Ref sig .tc := ⟨.hbm, 46, rfl⟩
abbrev main_v14_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 2], ![false, false, false]⟩

@[reducible] def k0_t1_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c2_i32_75 : BitVec 32 := 2#32
  let c0_i32_4 : BitVec 32 := 0#32
  let c1_i32_5 : BitVec 32 := 1#32
  let arg8 : BitVec 32 := Scf.iv c0_i32_4 c1_i32_5 k0_t1
  let v173 : BitVec 32 := Scalar.muli c2_i32_75 arg8
  let c512_i32_76 : BitVec 32 := 512#32
  let v174 : BitVec 32 := Scalar.muli v173 c512_i32_76
  v174
def k0_off1 (i : grid0.Coords) (k0_t1 : Fin (k0_t1_loop i).trips) : Fin 3 → Nat :=
  let c0_77 : Index := 0#32
  let c2_i32_75 : BitVec 32 := 2#32
  let c0_i32_4 : BitVec 32 := 0#32
  let c1_i32_5 : BitVec 32 := 1#32
  let arg8 : BitVec 32 := Scf.iv c0_i32_4 c1_i32_5 k0_t1
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult2 (i : grid0.Coords) (k0_t1 : Fin (k0_t1_loop i).trips) : BitVec 32 :=
  let c2_i32_73 : BitVec 32 := 2#32
  let c0_i32_4 : BitVec 32 := 0#32
  let c1_i32_5 : BitVec 32 := 1#32
  let arg8 : BitVec 32 := Scf.iv c0_i32_4 c1_i32_5 k0_t1
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off2 (i : grid0.Coords) (k0_t1 : Fin (k0_t1_loop i).trips) : Fin 3 → Nat :=
  let c0_87 : Index := 0#32
  let c2_i32_73 : BitVec 32 := 2#32
  let c0_i32_4 : BitVec 32 := 0#32
  let c1_i32_5 : BitVec 32 := 1#32
  let arg8 : BitVec 32 := Scf.iv c0_i32_4 c1_i32_5 k0_t1
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
@[reducible] def k0_t2_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult3 (i : grid0.Coords) (k0_t2 : Fin (k0_t2_loop i).trips) : BitVec 32 :=
  let c2_i32_75 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v173 : BitVec 32 := Scalar.muli c2_i32_75 arg8
  let c512_i32_76 : BitVec 32 := 512#32
  let v174 : BitVec 32 := Scalar.muli v173 c512_i32_76
  v174
def k0_off3 (i : grid0.Coords) (k0_t2 : Fin (k0_t2_loop i).trips) : Fin 3 → Nat :=
  let c0_77 : Index := 0#32
  let c2_i32_75 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult4 (i : grid0.Coords) (k0_t2 : Fin (k0_t2_loop i).trips) : BitVec 32 :=
  let c2_i32_73 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off4 (i : grid0.Coords) (k0_t2 : Fin (k0_t2_loop i).trips) : Fin 3 → Nat :=
  let c0_87 : Index := 0#32
  let c2_i32_73 : BitVec 32 := 2#32
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t2
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
def k0_mult5 (i : grid0.Coords) : BitVec 32 :=
  let c2_i32_7 : BitVec 32 := 2#32
  let arg1 : BitVec 32 := BitVec.ofNat 32 (i 1).val
  let v15 : BitVec 32 := Scalar.muli c2_i32_7 arg1
  let c0_i32_8 : BitVec 32 := 0#32
  let v16 : BitVec 32 := Scalar.addi v15 c0_i32_8
  let c512_i32_9 : BitVec 32 := 512#32
  let v17 : BitVec 32 := Scalar.muli v16 c512_i32_9
  v17
def k0_off5 (i : grid0.Coords) (c0_i32_8 : BitVec 32) : Fin 3 → Nat :=
  let c0_10 : Index := 0#32
  let c2_i32_7 : BitVec 32 := 2#32
  let arg1 : BitVec 32 := BitVec.ofNat 32 (i 1).val
  let v15 : BitVec 32 := Scalar.muli c2_i32_7 arg1
  let v16 : BitVec 32 := Scalar.addi v15 c0_i32_8
  let c512_i32_9 : BitVec 32 := 512#32
  let v17 : BitVec 32 := Scalar.muli v16 c512_i32_9
  let v18 : BitVec 32 := v17
  let v19 : Index := Scalar.indexCast v18
  let c0_11 : Index := 0#32
  ![0, v19.toNat, 0]
@[reducible] def k0_t3_loop (i : grid0.Coords) : Scf.Loop 32 :=
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_38 : BitVec 32 := 1#32
  ⟨c0_i32_36, v83, c1_i32_38⟩
def k0_mult6 (i : grid0.Coords) (k0_t3 : Fin (k0_t3_loop i).trips) : BitVec 32 :=
  let c2_i32_75 : BitVec 32 := 2#32
  let c0_i32_36 : BitVec 32 := 0#32
  let c1_i32_38 : BitVec 32 := 1#32
  let arg8 : BitVec 32 := Scf.iv c0_i32_36 c1_i32_38 k0_t3
  let v173 : BitVec 32 := Scalar.muli c2_i32_75 arg8
  let c512_i32_76 : BitVec 32 := 512#32
  let v174 : BitVec 32 := Scalar.muli v173 c512_i32_76
  v174
def k0_off6 (i : grid0.Coords) (k0_t3 : Fin (k0_t3_loop i).trips) : Fin 3 → Nat :=
  let c0_77 : Index := 0#32
  let c2_i32_75 : BitVec 32 := 2#32
  let c0_i32_36 : BitVec 32 := 0#32
  let c1_i32_38 : BitVec 32 := 1#32
  let arg8 : BitVec 32 := Scf.iv c0_i32_36 c1_i32_38 k0_t3
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult7 (i : grid0.Coords) (k0_t3 : Fin (k0_t3_loop i).trips) : BitVec 32 :=
  let c2_i32_73 : BitVec 32 := 2#32
  let c0_i32_36 : BitVec 32 := 0#32
  let c1_i32_38 : BitVec 32 := 1#32
  let arg8 : BitVec 32 := Scf.iv c0_i32_36 c1_i32_38 k0_t3
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off7 (i : grid0.Coords) (k0_t3 : Fin (k0_t3_loop i).trips) : Fin 3 → Nat :=
  let c0_87 : Index := 0#32
  let c2_i32_73 : BitVec 32 := 2#32
  let c0_i32_36 : BitVec 32 := 0#32
  let c1_i32_38 : BitVec 32 := 1#32
  let arg8 : BitVec 32 := Scf.iv c0_i32_36 c1_i32_38 k0_t3
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
@[reducible] def k0_t4_loop (i : grid0.Coords) : Scf.Loop 32 :=
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let v80 : BitVec 32 := Scalar.addi c0_i32_36 v79
  let c1_i32_39 : BitVec 32 := 1#32
  ⟨v83, v80, c1_i32_39⟩
def k0_mult8 (i : grid0.Coords) (k0_t4 : Fin (k0_t4_loop i).trips) : BitVec 32 :=
  let c2_i32_75 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v173 : BitVec 32 := Scalar.muli c2_i32_75 arg8
  let c512_i32_76 : BitVec 32 := 512#32
  let v174 : BitVec 32 := Scalar.muli v173 c512_i32_76
  v174
def k0_off8 (i : grid0.Coords) (k0_t4 : Fin (k0_t4_loop i).trips) : Fin 3 → Nat :=
  let c0_77 : Index := 0#32
  let c2_i32_75 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v173 : BitVec 32 := Scalar.muli c2_i32_75 arg8
  let c512_i32_76 : BitVec 32 := 512#32
  let v174 : BitVec 32 := Scalar.muli v173 c512_i32_76
  let v175 : BitVec 32 := v174
  let v176 : Index := Scalar.indexCast v175
  let c0_78 : Index := 0#32
  ![0, v176.toNat, 0]
def k0_mult9 (i : grid0.Coords) (k0_t4 : Fin (k0_t4_loop i).trips) : BitVec 32 :=
  let c2_i32_73 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  v202
def k0_off9 (i : grid0.Coords) (k0_t4 : Fin (k0_t4_loop i).trips) : Fin 3 → Nat :=
  let c0_87 : Index := 0#32
  let c2_i32_73 : BitVec 32 := 2#32
  let c0_i32_36 : BitVec 32 := 0#32
  let arg1 : BitVec 32 := BitVec.ofNat 32 (i 1).val
  let v79 : BitVec 32 := Scalar.subi arg1 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg8 : BitVec 32 := Scf.iv v83 c1_i32_39 k0_t4
  let v171 : BitVec 32 := Scalar.muli c2_i32_73 arg8
  let c1_i32_74 : BitVec 32 := 1#32
  let v172 : BitVec 32 := Scalar.addi v171 c1_i32_74
  let c512_i32_86 : BitVec 32 := 512#32
  let v202 : BitVec 32 := Scalar.muli v172 c512_i32_86
  let v203 : BitVec 32 := v202
  let v204 : Index := Scalar.indexCast v203
  let c0_88 : Index := 0#32
  ![0, v204.toNat, 0]
def k0_mult10 (i : grid0.Coords) : BitVec 32 :=
  let c2_i32_40 : BitVec 32 := 2#32
  let arg1 : BitVec 32 := BitVec.ofNat 32 (i 1).val
  let v86 : BitVec 32 := Scalar.muli c2_i32_40 arg1
  let c512_i32_41 : BitVec 32 := 512#32
  let v87 : BitVec 32 := Scalar.muli v86 c512_i32_41
  v87
def k0_off10 (i : grid0.Coords) : Fin 3 → Nat :=
  let c0_42 : Index := 0#32
  let c2_i32_40 : BitVec 32 := 2#32
  let arg1 : BitVec 32 := BitVec.ofNat 32 (i 1).val
  let v86 : BitVec 32 := Scalar.muli c2_i32_40 arg1
  let c512_i32_41 : BitVec 32 := 512#32
  let v87 : BitVec 32 := Scalar.muli v86 c512_i32_41
  let v88 : BitVec 32 := v87
  let v89 : Index := Scalar.indexCast v88
  let c0_43 : Index := 0#32
  ![0, v89.toNat, 0]
def k0_mult11 (i : grid0.Coords) : BitVec 32 :=
  let c2_i32_51 : BitVec 32 := 2#32
  let arg1 : BitVec 32 := BitVec.ofNat 32 (i 1).val
  let v115 : BitVec 32 := Scalar.muli c2_i32_51 arg1
  let c1_i32_52 : BitVec 32 := 1#32
  let v116 : BitVec 32 := Scalar.addi v115 c1_i32_52
  let c512_i32_53 : BitVec 32 := 512#32
  let v117 : BitVec 32 := Scalar.muli v116 c512_i32_53
  v117
def k0_cond1 (i : grid0.Coords) : BitVec 1 :=
  let arg2 : BitVec 32 := BitVec.ofNat 32 (i 2).val
  let c0_i32_24 : BitVec 32 := 0#32
  let v65 : BitVec 1 := Scalar.cmpi .eq arg2 c0_i32_24
  let v66 : BitVec 32 := Scalar.extui v65
  let c0_i32_25 : BitVec 32 := 0#32
  let v67 : BitVec 1 := Scalar.cmpi .ne v66 c0_i32_25
  v67

def k0_cond2 (i : grid0.Coords) : BitVec 1 :=
  let arg2 : BitVec 32 := BitVec.ofNat 32 (i 2).val
  let c1_i32_26 : BitVec 32 := 1#32
  let v68 : BitVec 1 := Scalar.cmpi .eq arg2 c1_i32_26
  let v69 : BitVec 32 := Scalar.extui v68
  let c0_i32_27 : BitVec 32 := 0#32
  let v70 : BitVec 1 := Scalar.cmpi .ne v69 c0_i32_27
  v70

def k0_cond3 (i : grid0.Coords) : BitVec 1 :=
  let arg2 : BitVec 32 := BitVec.ofNat 32 (i 2).val
  let c0_i32_69 : BitVec 32 := 0#32
  let v165 : BitVec 1 := Scalar.cmpi .eq arg2 c0_i32_69
  let v166 : BitVec 32 := Scalar.extui v165
  let c0_i32_70 : BitVec 32 := 0#32
  let v167 : BitVec 1 := Scalar.cmpi .ne v166 c0_i32_70
  v167

def k0_cond4 (i : grid0.Coords) : BitVec 1 :=
  let arg2 : BitVec 32 := BitVec.ofNat 32 (i 2).val
  let c1_i32_71 : BitVec 32 := 1#32
  let v168 : BitVec 1 := Scalar.cmpi .eq arg2 c1_i32_71
  let v169 : BitVec 32 := Scalar.extui v168
  let c0_i32_72 : BitVec 32 := 0#32
  let v170 : BitVec 1 := Scalar.cmpi .ne v169 c0_i32_72
  v170

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let v1 : BitVec 32 := Scalar.addi v0 arg2
  let c0_i32 : BitVec 32 := 0#32
  let c0_i32_0 : BitVec 32 := 0#32
  ![v1.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SoftIdeal.lean ====
variable {F : FTy → Type} [FloatOps F] [Named F]
def κ : String → Option EReal := fun
  | "masked" => some ⊥
  | _ => none
-- ==== SoftRefIdeal.lean ====
abbrev S8x4096x96 : Shape := ⟨3, ![8, 4096, 96]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S4096x8x64 : Shape := ⟨3, ![4096, 8, 64]⟩
abbrev S4096x512 : Shape := ⟨2, ![4096, 512]⟩

abbrev nBuf : Space → Nat
  | .hbm => 91
  | .vmem => 0
  | .smem => 0
  | _ => 0

abbrev bufTy : (tb : Table) → Fin (tcTables nBuf tb) → BufTy
  | .hbm, ⟨0, _⟩ => ⟨S8x4096x96, .f32⟩
  | .hbm, ⟨1, _⟩ => ⟨S8x4096x96, .f32⟩
  | .hbm, ⟨2, _⟩ => ⟨S8x4096x64, .f32⟩
  | .hbm, ⟨3, _⟩ => ⟨S8x4096x4096, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x64, .f32⟩
  | .hbm, ⟨51, _⟩ => ⟨S4096x8x64, .f32⟩
  | .hbm, ⟨52, _⟩ => ⟨S4096x512, .f32⟩
  | .hbm, ⟨53, _⟩ => ⟨S8x4096x4096, .f32⟩
  | .hbm, ⟨54, _⟩ => ⟨S_, .f32⟩
  | .hbm, ⟨55, _⟩ => ⟨S8x4096x4096, .f32⟩
  | .hbm, ⟨56, _⟩ => ⟨S8x4096x4096, .f32⟩
  | .hbm, ⟨57, _⟩ => ⟨S4096, .i32⟩
  | .hbm, ⟨58, _⟩ => ⟨S_, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S1x4096, .i32⟩
  | .hbm, ⟨77, _⟩ => ⟨S4096x1, .i32⟩
  | .hbm, ⟨78, _⟩ => ⟨S4096x4096, .i32⟩
  | .hbm, ⟨79, _⟩ => ⟨S4096x4096, .i32⟩
  | .hbm, ⟨80, _⟩ => ⟨S4096x4096, .i1⟩
  | .hbm, ⟨81, _⟩ => ⟨S_, .f32⟩
  | .hbm, ⟨82, _⟩ => ⟨S_, .f32⟩
  | .hbm, ⟨83, _⟩ => ⟨S8x4096x4096, .i1⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S8x4096x1, .f32⟩
  | _, _ => ⟨S8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_c : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_0 : Ref sig .tc := ⟨.hbm, 72, rfl⟩
abbrev main_call2_v12 : Ref sig .tc := ⟨.hbm, 73, rfl⟩
abbrev main_call2_v13 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_6 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v35 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩

abbrev nD : Nat := 1
abbrev τ : Topo := Topo.v7x

variable {F : FTy → Type} [FloatOps F]
-- ==== Proof.Reals.lean ====
/- Facts about the extended reals that the value proofs of several calls use: what the programs' constants denote, and
   how a constant that is not negative moves through sums. -/
module

public import Idealize.ShloMosaic.Lib.Pipeline.ValueKit
public import Idealize.ShloMosaic.PureOps.Ideal.Laws
public import Idealize.ShloMosaic.Lib.IdealHost

@[expose] public section

namespace Cert.Reals

open Idealize.ShloMosaic
open scoped BigOperators

/-- The pattern of one half. -/
theorem half_f32 : Ideal.ofBits .f32 0x3F000000#32 = ((1 / 2 : ℝ) : EReal) := by
  simp [Ideal.ofBits, Ideal.ieee, -EReal.coe_mul]; norm_num

/-- The pattern of two. -/
theorem two_f32 : Ideal.ofBits .f32 0x40000000#32 = ((2 : ℝ) : EReal) := by
  simp [Ideal.ofBits, Ideal.ieee, -EReal.coe_mul]; norm_num

/-- The pattern of 1024. -/
theorem k1024_f32 : Ideal.ofBits .f32 0x44800000#32 = ((1024 : ℝ) : EReal) := by
  simp [Ideal.ofBits, Ideal.ieee, -EReal.coe_mul]; norm_num

/-- The pattern of 1/1024. -/
theorem inv1024_f32 : Ideal.ofBits .f32 0x3A800000#32 = ((1 / 1024 : ℝ) : EReal) := by
  simp [Ideal.ofBits, Ideal.ieee, -EReal.coe_mul]; norm_num

/-- A real factor that is not negative distributes over a finite sum of extended reals. -/
theorem mul_sum_of_nonneg {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- Division by a real other than zero is multiplication by its inverse. -/
theorem div_real {c : ℝ} (hc : c ≠ 0) (x : EReal) : Ideal.div x (c : EReal) = ((1 / c : ℝ) : EReal) * x := by
  rw [Ideal.div_coe hc, mul_comm]

/-- Two real constants in front of an extended real are their product in front of it. -/
theorem coe_mul_coe_mul (a b : ℝ) (x : EReal) : (a : EReal) * ((b : EReal) * x) = ((a * b : ℝ) : EReal) * x := by
  rw [EReal.coe_mul, mul_assoc]

end Cert.Reals

end
-- ==== Proof.Loss.Spec.lean ====
/- The last layer's loss as formulas over the arguments' entries: the error of an entry, the loss summed over all rows,
   and the loss's derivative in the layer's input. -/
module

public import proofs.«01_k».proof.Proof.Reals

@[expose] public section

noncomputable section

namespace Cert.LossSpec

open Idealize.ShloMosaic
open scoped BigOperators

/-- A matrix of 4096 rows of 1024 entries; a row of 1024; the row of shift, scale and gate. -/
abbrev Rows := Vec Ideal ⟨2, ![4096, 1024]⟩ .f32
abbrev Row := Vec Ideal ⟨2, ![1, 1024]⟩ .f32
abbrev Mods := Vec Ideal ⟨2, ![1, 3072]⟩ .f32

/-- The error of one entry: the row's input plus the gate times the normalised branch, less the target. -/
def errAt (x yo : Rows) (g : Row) (mod : Mods) (t : Rows) (i : Fin 4096) (k : Fin 1024) : EReal :=
  x (ix2 i k) + mod (ix2 0 ⟨2048 + k, by omega⟩)
      * (yo (ix2 i k) * Ideal.rsqrt (Ideal.div (∑ l : Fin 1024, yo (ix2 i l) * yo (ix2 i l)) (Ideal.ofBits .f32 0x44800000#32)
          + Ideal.ofBits .f32 0x358637BD#32) * g (ix2 0 k))
    - t (ix2 i k)

/-- Half the sum over the rows of the mean square error. -/
def loss (x yo : Rows) (g : Row) (mod : Mods) (t : Rows) : Vec Ideal ⟨2, ![1, 1]⟩ .f32 := fun _ =>
  ((1 / 2 : ℝ) : EReal) * ∑ i : Fin 4096,
    ((1 / 1024 : ℝ) : EReal) * ∑ k : Fin 1024, errAt x yo g mod t i k * errAt x yo g mod t i k

/-- The loss's derivative in the layer's input. -/
def dx (x yo : Rows) (g : Row) (mod : Mods) (t : Rows) : Rows := fun j =>
  ((1 / 1024 : ℝ) : EReal) * errAt x yo g mod t (j 0) (j 1)

end Cert.LossSpec

end
-- ==== Proof.Loss.Kernel.lean ====
/- The kernel's two results are the formulas of `Loss/Spec.lean`: one block of rows per grid point, the loss summed up
   from point to point. -/
module

public import proofs.«01_k».proof.Proof.Gen.LossIdeal.Value
public import proofs.«01_k».proof.Proof.Loss.Spec

@[expose] public section

set_option maxRecDepth 16384

noncomputable section

namespace Cert.LossIdeal.Value

open Cert.LossIdeal Cert.LossIdeal.Gen Cert.Reals
open Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, 0]
    ∧ win0_3.index t = ![0, 2] ∧ win0_4.index t = ![t.val, 0] ∧ win0_6.index t = ![t.val, 0] :=
  (by decide +kernel : ∀ t : Fin grid0.N, _)

/-- The error of one entry of a block. -/
def errB (x : Vec Ideal S512x1024 .f32) (gate : Vec Ideal S1x1024 .f32) (yo : Vec Ideal S512x1024 .f32) (g : Vec Ideal S1x1024 .f32)
    (t : Vec Ideal S512x1024 .f32) (i : Fin 512) (k : Fin 1024) : EReal :=
  x (ix2 i k) + gate (ix2 0 k)
      * (yo (ix2 i k) * Ideal.rsqrt (Ideal.div (∑ l : Fin 1024, yo (ix2 i l) * yo (ix2 i l)) (Ideal.ofBits .f32 0x44800000#32)
          + Ideal.ofBits .f32 0x358637BD#32) * g (ix2 0 k))
    - t (ix2 i k)

/-- What a point adds to the loss: half the sum of its rows' mean square errors. -/
theorem hpay (a : Vec Ideal S1x1 .f32) (x : Vec Ideal S512x1024 .f32) (gate : Vec Ideal S1x1024 .f32) (yo : Vec Ideal S512x1024 .f32) (g : Vec Ideal S1x1024 .f32)
    (t : Vec Ideal S512x1024 .f32) (j : S1x1.Idx) :
    k0_pay1 (F := Ideal) (k0_pay5 a) (k0_pay6 x gate yo g t) j
      = a j + ∑ i : Fin 512, ((1 / 2 : ℝ) : EReal) * (((1 / 1024 : ℝ) : EReal) * ∑ k : Fin 1024, errB x gate yo g t i k * errB x gate yo g t i k) := by
  rw [← mul_sum_of_nonneg _ (by norm_num)]
  pointwise [k0_pay1, k0_pay5, k0_pay6, k0_pay2, errB]
  simp only [half_f32, inv1024_f32, mul_comm _ ((1 / 1024 : ℝ) : EReal)]

/-- The first point clears the loss. -/
theorem hzero (j : S1x1.Idx) : k0_pay4 (F := Ideal) j = 0 := by pointwise [k0_pay4]

/-- Block `t`'s error of an entry is the array's at row `512 t + i`. -/
theorem errB_eq (c : Dev nD) (t : Fin cfg0.N) (i : Fin 512) (k : Fin 1024) (h : t.val * 512 + i.val < 4096) :
    errB (iblk m c 0 t) (iblk m c 3 t) (iblk m c 1 t) (iblk m c 2 t) (iblk m c 4 t) i k
      = LossSpec.errAt (m ((c : Thread nD τ).loc main_arg0)) (m ((c : Thread nD τ).loc main_arg1)) (m ((c : Thread nD τ).loc main_arg2)) (m ((c : Thread nD τ).loc main_arg3)) (m ((c : Thread nD τ).loc main_arg4))
          ⟨t.val * 512 + i.val, h⟩ k := by
  unfold errB LossSpec.errAt
  blk_point [iblk, V, idx t]

/-- The loss after the run. -/
theorem final5 (c : Dev nD) : (dats m 0 c).arrAt 5 (cfgs 0).N
    = LossSpec.loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 5 t0_7 (by decide +kernel) _ fun j => ?_
  blk_simp
  rw [after0_5, Pipeline.eq_sum_fin_of_reset_step_apply_last (fun n h => (outsAt0 m c n h).1) 8 (fun _ => 0) _
    (fun t h j => by rw [outsAt0_A m c t h]; frame_out; rw [hpay, hzero])
    (fun t h j => by rw [outsAt0_B m c t h]; frame_out; rw [hpay])
    (le_of_eq N_0) t0_7 rfl j, zero_add]
  unfold LossSpec.loss
  rw [mul_sum_of_nonneg _ (by norm_num)]
  refine Fin.sum_mul_add_congr (S := 8) (n := 512) fun t i hl => ?_
  simp only [errB_eq m c t i _ hl]

/-- What a point stores for the derivative in the layer's input. -/
theorem hpay6 (x : Vec Ideal S512x1024 .f32) (gate : Vec Ideal S1x1024 .f32) (yo : Vec Ideal S512x1024 .f32) (g : Vec Ideal S1x1024 .f32)
    (t : Vec Ideal S512x1024 .f32) (j : S512x1024.Idx) :
    k0_pay3 (F := Ideal) x gate yo g t j = ((1 / 1024 : ℝ) : EReal) * errB x gate yo g t (j 0) (j 1) := by
  pointwise [k0_pay3, k0_pay2, errB]
  rw [show Ideal.ofBits .f32 981467136#32 = ((1 / 1024 : ℝ) : EReal) from inv1024_f32, mul_comm]

/-- The derivative in the layer's input, block by block. -/
theorem final6 (c : Dev nD) : (dats m 0 c).arrAt 6 (cfgs 0).N
    = LossSpec.dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  have key : (outsAt0 m c t.val t.isLt).2 y = ((1 / 1024 : ℝ) : EReal) *
      errB (iblk m c 0 t) (iblk m c 3 t) (iblk m c 1 t) (iblk m c 2 t) (iblk m c 4 t) (y 0) (y 1) := by
    by_cases h : t.val % 8 = 0
    · rw [outsAt0_A m c t h]; frame_out; rw [hpay6]
    · rw [outsAt0_B m c t h]; frame_out; rw [hpay6]
  refine key.trans ?_
  unfold LossSpec.dx errB LossSpec.errAt
  blk_point [iblk, V, idx t]

end Cert.LossIdeal.Value

end
-- ==== Proof.Loss.Reference.lean ====
/- The reference loss and its derivative, run: the results are the formulas of `Loss/Spec.lean`. -/
module

public import proofs.«01_k».proof.Proof.Gen.LossRefIdeal.Run
public import proofs.«01_k».proof.Proof.Loss.Spec

@[expose] public section

set_option maxRecDepth 16384

noncomputable section

namespace Cert.LossRefIdeal.Value

open Cert.LossRefIdeal Cert.LossRefIdeal.Gen Cert.Reals
open Idealize.ShloMosaic Idealize.ShloMosaic.TcCoe Idealize.SL.Sem

variable (m : (ℓ : Loc nD τ sig) → Buf (Elt Ideal) ℓ) (ρ : Dev nD → PrngReg)

/-- What the reference leaves in its results, with the arguments as they were. -/
theorem run_spec : θ_run defs (onTc (τ := τ) (main (F := Ideal))) ⟨m, fun _ => 0, ρ⟩ fun r => ∀ c : Dev nD,
      r.2.mem ((c.tc : Thread nD τ).loc main_v27) = LossSpec.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = LossSpec.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (run m ρ)
  · funext j
    pointwise [LossSpec.loss, LossSpec.errAt]
    simp only [half_f32]
    congr 1
    refine Finset.sum_congr rfl fun i _ => ?_
    rw [show Ideal.ofBits .f32 1149239296#32 = ((1024 : ℝ) : EReal) from k1024_f32, div_real (by norm_num)]
  · funext j
    pointwise [LossSpec.dx, LossSpec.errAt]
    rw [show Ideal.ofBits .f32 1056964608#32 = ((1 / 2 : ℝ) : EReal) from half_f32, show Ideal.ofBits .f32 1073741824#32 = ((2 : ℝ) : EReal) from two_f32,
      show Ideal.ofBits .f32 1149239296#32 = ((1024 : ℝ) : EReal) from k1024_f32, Ideal.div_coe (by norm_num), ← EReal.coe_mul, coe_mul_coe_mul,
      show (1 / 2 * (1 / 1024) * 2 : ℝ) = 1 / 1024 by norm_num]

end Cert.LossRefIdeal.Value

end
-- ==== Proof.Loss.Claims.lean ====
/- The claims about the loss's backward call: its frames, and its two results against the reference's. -/
module

public import proofs.«01_k».proof.Defs
public import proofs.«01_k».proof.Proof.Gen.Loss.Frame
public import proofs.«01_k».proof.Proof.Loss.Kernel
public import proofs.«01_k».proof.Proof.Loss.Reference
public import Idealize.ShloMosaic.Lib.Claim

@[expose] public section

set_option maxRecDepth 16384

noncomputable section

namespace Cert.LossClaims

open Idealize.ShloMosaic Idealize.SL.Sem

theorem frame_bits : Cert.quiescent_Loss := fun m ρ _ => Cert.Loss.Gen.frame m ρ

theorem frame_ideal : Cert.quiescent_LossIdeal := fun m ρ _ => Cert.LossIdeal.Gen.frame m ρ

theorem frame_ref : Cert.quiescent_LossRefIdeal := fun m ρ _ =>
  (θ_run Cert.LossRefIdeal.defs _ _).mono (fun _ h => ⟨fun c => (h c).2.2, sem_eq_zero_of_no_sems rfl _⟩)
    (Cert.LossRefIdeal.Value.run_spec m ρ)

theorem value : Cert.algebraic_LossIdeal_LossRefIdeal := by
  pair_intro
  · run_from Cert.LossIdeal.Gen.run_main m g
  · run_from Cert.LossRefIdeal.Value.run_spec m' g'
    · exact (Cert.LossIdeal.Value.final5 m c).symm
    · exact (Cert.LossIdeal.Value.final6 m c).symm

end Cert.LossClaims

end
-- ==== Proof.Ada.Spec.lean ====
/- The gradient of the modulation's weights as a formula over the arguments' entries: for each layer the product of the
   activated conditioning and the cotangent, summed over the eight examples. -/
module

public import proofs.«01_k».proof.Proof.Reals

@[expose] public section

noncomputable section

namespace Cert.AdaSpec

open Idealize.ShloMosaic
open scoped BigOperators

/-- The activation `x · 1 / (1 + exp (−x))`. -/
def silu (x : EReal) : EReal := x * Ideal.div 1 (1 + Ideal.exp (-x))

/-- Entry `(l, k, j)`: the cotangent `j` of layer `l` times the activated conditioning `k` of every example. -/
def dw (c : Vec Ideal ⟨2, ![8, 1024]⟩ .f32) (dmod : Vec Ideal ⟨3, ![4, 8, 768]⟩ .f32) : Vec Ideal ⟨3, ![4, 1024, 768]⟩ .f32 :=
  fun j => ∑ e : Fin 8, dmod (ix3 (j 0) e (j 2)) * silu (c (ix2 e (j 1)))

end Cert.AdaSpec

end
-- ==== Proof.Ada.Kernel.lean ====
/- The kernel's result is the formula of `Ada/Spec.lean`: one block of 256 rows of one layer per grid point, the sum over
   the examples written out. -/
module

public import proofs.«01_k».proof.Proof.Gen.AdaIdeal.Frame
public import Idealize.ShloMosaic.Lib.Pipeline.Value
public import proofs.«01_k».proof.Proof.Ada.Spec

@[expose] public section

set_option maxRecDepth 16384

noncomputable section

namespace Cert.AdaIdeal.Value

open Cert.AdaIdeal Cert.AdaIdeal.Gen Cert.Reals
open Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at every grid point. -/
theorem idx : ∀ t : Fin cfg0.N, win0_0.index t = ![t.val % 4, 0] ∧ win0_1.index t = ![t.val / 4, 0, 0]
    ∧ win0_2.index t = ![t.val / 4, t.val % 4, 0] :=
  (by decide +kernel : ∀ t : Fin grid0.N, _)

/-- What a point stores: the sum over the eight examples. -/
theorem hpay (a : Vec Ideal S256x8 .f32) (d : Vec Ideal S1x8x768 .f32) (i : Fin 256) (k : Fin 768) :
    out0_2 (F := Ideal) a d (ix3 0 i k) = ∑ e : Fin 8, d (ix3 0 e k) * AdaSpec.silu (a (ix2 i e)) := by
  unfold out0_2
  frame_out
  pointwise [k0_pay1, k0_pay2, k0_pay3, k0_pay4, AdaSpec.silu]
  simp only [Fin.sum_univ_eight, zero_sub, mul_comm (d _)]

/-- The gradient, block by block. -/
theorem final2 (c : Dev nD) : (dats m 0 c).arrAt 2 (cfgs 0).N
    = AdaSpec.dw (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain rfl : y0 = 0 := Subsingleton.elim _ _
  rw [hpay]
  unfold AdaSpec.dw
  blk_point [iblk, V, idx t]

end Cert.AdaIdeal.Value

end
-- ==== Proof.Ada.Reference.lean ====
/- The reference gradient of the modulation's weights, run: the result is the formula of `Ada/Spec.lean`. -/
module

public import proofs.«01_k».proof.Proof.Gen.AdaRefIdeal.Run
public import proofs.«01_k».proof.Proof.Ada.Spec

@[expose] public section

set_option maxRecDepth 16384

noncomputable section

namespace Cert.AdaRefIdeal.Value

open Cert.AdaRefIdeal Cert.AdaRefIdeal.Gen Cert.Reals
open Idealize.ShloMosaic Idealize.ShloMosaic.TcCoe Idealize.SL.Sem

variable (m : (ℓ : Loc nD τ sig) → Buf (Elt Ideal) ℓ) (ρ : Dev nD → PrngReg)

/-- What the reference leaves in its results, with the arguments as they were. -/
theorem run_spec : θ_run defs (onTc (τ := τ) (main (F := Ideal))) ⟨m, fun _ => 0, ρ⟩ fun r => ∀ c : Dev nD,
      r.2.mem ((c.tc : Thread nD τ).loc main_v66) = AdaSpec.dw (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (run m ρ)
  · funext j
    idx_vars j
    pointwise [AdaSpec.dw, AdaSpec.silu]
    fin_vals j0 with hj
    all_goals simp only [hj, Nat.reduceLeDiff, Nat.reduceSub, Nat.reduceLT, and_self, and_true, true_and, false_and, and_false, ↓reduceDIte, add_zero, zero_add]
    · rw [show j0 = 0 from Fin.ext hj]
    · rw [show j0 = 1 from Fin.ext hj]
    · rw [show j0 = 2 from Fin.ext hj]
    · rw [show j0 = 3 from Fin.ext hj]

end Cert.AdaRefIdeal.Value

end
-- ==== Proof.Ada.Claims.lean ====
/- The claims about the backward call of the modulation's weights: its frames, and its result against the reference's. -/
module

public import proofs.«01_k».proof.Defs
public import proofs.«01_k».proof.Proof.Gen.Ada.Frame
public import proofs.«01_k».proof.Proof.Ada.Kernel
public import proofs.«01_k».proof.Proof.Ada.Reference
public import Idealize.ShloMosaic.Lib.Claim

@[expose] public section

set_option maxRecDepth 16384

noncomputable section

namespace Cert.AdaClaims

open Idealize.ShloMosaic Idealize.SL.Sem

theorem frame_bits : Cert.quiescent_Ada := fun m ρ _ => Cert.Ada.Gen.frame m ρ

theorem frame_ideal : Cert.quiescent_AdaIdeal := fun m ρ _ => Cert.AdaIdeal.Gen.frame m ρ

theorem frame_ref : Cert.quiescent_AdaRefIdeal := fun m ρ _ =>
  (θ_run Cert.AdaRefIdeal.defs _ _).mono (fun _ h => ⟨fun c => (h c).2, sem_eq_zero_of_no_sems rfl _⟩)
    (Cert.AdaRefIdeal.Value.run_spec m ρ)

theorem value : Cert.algebraic_AdaIdeal_AdaRefIdeal := by
  pair_intro
  · run_from Cert.AdaIdeal.Gen.run_main m g
  · run_from Cert.AdaRefIdeal.Value.run_spec m' g'
    · exact (Cert.AdaIdeal.Value.final2 m c).symm

end Cert.AdaClaims

end
-- ==== Proof.Finite.lean ====
/- A printed "every entry's absolute value is below infinity", read back: every entry is a real number. -/
module

public import Idealize.ShloMosaic.Lib.ReduceAll
public import Idealize.ShloMosaic.Lib.Pointwise
public import Idealize.ShloMosaic.PureOps.Ideal.Laws

@[expose] public section

namespace Cert.Finite

open Idealize.ShloMosaic
open scoped BigOperators

/-- The pattern of infinity. -/
theorem inf_f32 : Ideal.ofBits .f32 0x7F800000#32 = (⊤ : EReal) := by
  simp [Ideal.ofBits, Ideal.ieee]

/-- An extended real whose absolute value is below infinity is a real number. -/
theorem real_of_abs_lt_top {x : EReal} (h : max x (-x) < ⊤) : ∃ r : ℝ, x = (r : EReal) := by
  induction x using EReal.rec with
  | bot => simp at h
  | coe r => exact ⟨r, rfl⟩
  | top => simp at h

/-- Being a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

/-- An array all of whose entries pass the printed test is an array of real numbers. -/
theorem of_all {s t : Shape} {axes : List (Fin s.rank)} [Subsingleton t.Idx] (x : Vec Ideal s .f32) (h : s.ReducesTo axes t)
    (hb : (⟨0, ![]⟩ : Shape).BroadcastsInDim s ![]) (hu : 0 < (⟨0, ![]⟩ : Shape).numel) (j : t.Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1)  (i : s.Idx) : IsReal (x i) := by
  have h2 : Ideal.cmp .olt (max (x i) (-x i)) (Ideal.ofBits .f32 0x7F800000#32) = 1#1 := Host.reduce_andi_all _ _ h hu j e i
  rw [inf_f32] at h2
  refine real_of_abs_lt_top ?_
  by_contra hc
  simp [Ideal.cmp, hc] at h2

end Cert.Finite
-- ==== Proof.Silu.lean ====
/- The logistic function and `x` times it, over the extended reals, and the derivative of the latter at real numbers. -/
module

public import proofs.«01_k».proof.Proof.Finite
public import proofs.«01_k».proof.Proof.Reals

@[expose] public section

noncomputable section

namespace Cert.Silu

open Idealize.ShloMosaic Cert.Finite

/-- The logistic function, `x` times it, and the latter's derivative. -/
def logistic (x : EReal) : EReal := Ideal.div 1 (1 + Ideal.exp (-x))
def silu (x : EReal) : EReal := x * logistic x
def dsilu (x : EReal) : EReal := logistic x * (1 + x * (1 - logistic x))

theorem logistic_coe (r : ℝ) : logistic (r : EReal) = (((1 + Real.exp (-r))⁻¹ : ℝ) : EReal) := Ideal.logistic_coe r

theorem logistic_real {x : EReal} : IsReal x → IsReal (logistic x)
  | ⟨r, h⟩ => ⟨_, by rw [h, logistic_coe]⟩

theorem silu_real {x : EReal} (h : IsReal x) : IsReal (silu x) := h.mul (logistic_real h)

theorem dsilu_real {x : EReal} (h : IsReal x) : IsReal (dsilu x) :=
  (logistic_real h).mul (IsReal.one.add (h.mul (IsReal.one.sub (logistic_real h))))

/-- A cotangent through `x` times the logistic of `x`, as the product rule writes it. -/
theorem pull {g x : EReal} (hg : IsReal g) (hx : IsReal x) : g * logistic x + x * g * (logistic x * (1 - logistic x)) = g * dsilu x := by
  obtain ⟨g, rfl⟩ := hg
  obtain ⟨x, rfl⟩ := hx
  unfold dsilu
  rw [logistic_coe, ← EReal.coe_one]
  simp only [← EReal.coe_mul, ← EReal.coe_add, ← EReal.coe_sub]
  congr 1
  ring

end Cert.Silu

end
-- ==== Proof.Taps.lean ====
/- A causal convolution written as a product with indicator matrices: entry `(j, t, s)` of the indicators is one where
   row `t` reads row `s` through tap `j`, that is where `t = s + d j` with `d j` the tap's delay. -/
module

public import proofs.«01_k».proof.Proof.Finite
public import Mathlib.Data.EReal.Operations
public import Mathlib.Algebra.BigOperators.Fin
public import Idealize.ShloMosaic.Lib.Pointwise
public import Idealize.ShloMosaic.PureOps.Ideal.Laws

@[expose] public section

noncomputable section

namespace Cert.Taps

open scoped BigOperators
open Idealize.ShloMosaic

/-- An indicator's word, as an extended real. -/
theorem indicator {K N : Nat} (hK : K < 2 ^ 16) (hN : N < 2 ^ 16) (c : Nat) (hc : c + 1 = K) (j : Fin K) (t s : Fin N) :
    IntOp.cmpi .eq (BitVec.ofNat 32 t.val - BitVec.ofNat 32 s.val) (BitVec.ofNat 32 c - BitVec.ofNat 32 j.val)
      = BitVec.ofBool (decide (t.val = s.val + (c - j.val))) := by
  have hj := j.isLt
  have ht := t.isLt
  have hs := s.isLt
  simp only [IntOp.cmpi]
  congr 1
  rw [Bool.eq_iff_iff]
  simp only [beq_iff_eq, decide_eq_true_eq]
  rw [← BitVec.toNat_inj]
  simp only [BitVec.toNat_sub, BitVec.toNat_ofNat]
  norm_num at hK hN
  constructor <;> intro h <;> omega

/-- At most one tap reads row `s` from row `t`: the taps' combined weight multiplies through. -/
theorem taps_mul {K : Nat} (c : Fin K → Prop) [DecidablePred c] (hc : ∀ i j, c i → c j → i = j) (w : Fin K → EReal) (f : EReal) :
    (∑ j, (if c j then 1 else 0) * w j) * f = ∑ j, if c j then w j * f else 0 := by
  by_cases h : ∃ j, c j
  · obtain ⟨j, hj⟩ := h
    rw [Finset.sum_eq_single j, Finset.sum_eq_single j, if_pos hj, if_pos hj, one_mul]
    · exact fun i _ hi => if_neg fun h => hi (hc i j h hj)
    · simp
    · exact fun i _ hi => by rw [if_neg fun h => hi (hc i j h hj), zero_mul]
    · simp
  · push Not at h
    simp [h]

/-- The rows a delay reads: row `t - d`, and zero before the first row. -/
def back {N : Nat} (f : Fin N → EReal) (d : Nat) (t : Fin N) : EReal :=
  if d ≤ t.val then f ⟨t.val - d, by omega⟩ else 0

/-- The rows that read through a delay: row `s + d`, and zero after the last row. -/
def ahead {N : Nat} (f : Fin N → EReal) (d : Nat) (s : Fin N) : EReal :=
  if h : s.val + d < N then f ⟨s.val + d, h⟩ else 0

theorem sum_back {N : Nat} (f : Fin N → EReal) (d : Nat) (t : Fin N) :
    (∑ s : Fin N, if t.val = s.val + d then f s else 0) = back f d t := by
  unfold back
  split
  · rename_i h
    rw [Finset.sum_eq_single (⟨t.val - d, by omega⟩ : Fin N)]
    · exact if_pos (by show t.val = t.val - d + d; omega)
    · exact fun i _ hi => if_neg fun h' => hi (Fin.ext (by show i.val = t.val - d; omega))
    · simp
  · exact Finset.sum_eq_zero fun s _ => if_neg (by omega)

theorem sum_ahead {N : Nat} (f : Fin N → EReal) (d : Nat) (s : Fin N) :
    (∑ t : Fin N, if t.val = s.val + d then f t else 0) = ahead f d s := by
  unfold ahead
  split
  · rename_i h
    rw [Finset.sum_eq_single (⟨s.val + d, h⟩ : Fin N)]
    · exact if_pos rfl
    · exact fun i _ hi => if_neg fun h' => hi (Fin.ext h')
    · simp
  · exact Finset.sum_eq_zero fun t _ => if_neg (by omega)

theorem mul_back {N : Nat} (a : EReal) (f : Fin N → EReal) (d : Nat) (t : Fin N) : back (fun s => a * f s) d t = a * back f d t := by
  unfold back; split <;> simp

theorem mul_ahead {N : Nat} (a : EReal) (f : Fin N → EReal) (d : Nat) (t : Fin N) : ahead (fun s => a * f s) d t = a * ahead f d t := by
  unfold ahead; split <;> simp

/-- The convolution: every tap times the row its delay reads. -/
theorem conv {K N : Nat} (d : Fin K → Nat) (hd : Function.Injective d) (w : Fin K → EReal) (f : Fin N → EReal) (t : Fin N) :
    (∑ s : Fin N, (∑ j, (if t.val = s.val + d j then 1 else 0) * w j) * f s) = ∑ j, w j * back f (d j) t := by
  simp only [fun s : Fin N => taps_mul (fun j : Fin K => t.val = s.val + d j) (fun i j hi hj => hd (by omega)) w (f s)]
  rw [Finset.sum_comm]
  exact Finset.sum_congr rfl fun j _ => by rw [← mul_back, sum_back]

/-- The convolution's transpose: every tap times the row that reads through it. -/
theorem conv_transpose {K N : Nat} (d : Fin K → Nat) (hd : Function.Injective d) (w : Fin K → EReal) (f : Fin N → EReal) (s : Fin N) :
    (∑ t : Fin N, (∑ j, (if t.val = s.val + d j then 1 else 0) * w j) * f t) = ∑ j, w j * ahead f (d j) s := by
  simp only [fun t : Fin N => taps_mul (fun j : Fin K => t.val = s.val + d j) (fun i j hi hj => hd (by omega)) w (f t)]
  rw [Finset.sum_comm]
  exact Finset.sum_congr rfl fun j _ => by rw [← mul_ahead, sum_ahead]

/-- A tap's gradient: the cotangent of every row times the row it reads. -/
theorem tap_grad {N : Nat} (d : Nat) (g f : Fin N → EReal) :
    (∑ t : Fin N, ∑ s : Fin N, g t * f s * (if t.val = s.val + d then 1 else 0)) = ∑ t, g t * back f d t := by
  refine Finset.sum_congr rfl fun t _ => ?_
  rw [← mul_back, ← sum_back]
  exact Finset.sum_congr rfl fun s _ => by split <;> simp

/-- The same, summed over the rows read. -/
theorem tap_grad_ahead {N : Nat} (d : Nat) (g f : Fin N → EReal) :
    (∑ t : Fin N, ∑ s : Fin N, g t * f s * (if t.val = s.val + d then 1 else 0)) = ∑ s, ahead g d s * f s := by
  rw [Finset.sum_comm]
  refine Finset.sum_congr rfl fun s _ => ?_
  rw [mul_comm, ← mul_ahead, ← sum_ahead]
  exact Finset.sum_congr rfl fun t _ => by split <;> simp [mul_comm]

/-- A truth value read as a number. -/
theorem ofBool_true : FloatOps.uitofp (F := Ideal) FTy.f32 (BitVec.ofBool true) = (1 : EReal) := by
  change (((BitVec.ofBool true).toNat : ℝ) : EReal) = 1
  simp

theorem ofBool_false : FloatOps.uitofp (F := Ideal) FTy.f32 (BitVec.ofBool false) = (0 : EReal) := by
  change (((BitVec.ofBool false).toNat : ℝ) : EReal) = 0
  simp

theorem back_zero {N : Nat} (f : Fin N → EReal) (t : Fin N) : back f 0 t = f t := by
  simp [back]

theorem ahead_zero {N : Nat} (f : Fin N → EReal) (t : Fin N) : ahead f 0 t = f t := by
  simp [ahead]

theorem back_real {N : Nat} {f : Fin N → EReal} (h : ∀ i, Cert.Finite.IsReal (f i)) (d : Nat) (t : Fin N) : Cert.Finite.IsReal (back f d t) := by
  unfold back
  split
  · exact h _
  · exact .zero

theorem ahead_real {N : Nat} {f : Fin N → EReal} (h : ∀ i, Cert.Finite.IsReal (f i)) (d : Nat) (t : Fin N) : Cert.Finite.IsReal (ahead f d t) := by
  unfold ahead
  split
  · exact h _
  · exact .zero

end Cert.Taps

end
-- ==== Proof.EvenGate.Spec.lean ====
/- The gradient of the gated short convolution and of the attention gate, as formulas over the arguments' entries.
   Columns of `z`: 0 the output factor, 512 and 1024 the two factors of the convolution's input `u`, 1536 the
   convolution's gate, 2464 the attention's gate. -/
module

public import proofs.«01_k».proof.Proof.Silu
public import proofs.«01_k».proof.Proof.Taps

@[expose] public section

noncomputable section

namespace Cert.EvenGateSpec

open Idealize.ShloMosaic Cert.Taps Cert.Silu
open scoped BigOperators

abbrev Mat (n k : Nat) := Vec Ideal ⟨2, ![n, k]⟩ .f32

/-- The convolution's input. -/
def u (z : Mat 4096 2976) (i : Fin 4096) (k : Fin 512) : EReal :=
  z (ix2 i ⟨512 + k, by omega⟩) * z (ix2 i ⟨1024 + k, by omega⟩)

/-- The convolution. -/
def conv (z : Mat 4096 2976) (w : Mat 3 512) (b : Mat 1 512) (i : Fin 4096) (k : Fin 512) : EReal :=
  w (ix2 2 k) * u z i k + w (ix2 1 k) * back (fun s => u z s k) 1 i + w (ix2 0 k) * back (fun s => u z s k) 2 i + b (ix2 0 k)

/-- The convolution's cotangent. -/
def dconv (dy : Mat 4096 1024) (z : Mat 4096 2976) (i : Fin 4096) (k : Fin 512) : EReal :=
  dy (ix2 i ⟨k, by omega⟩) * z (ix2 i ⟨k, by omega⟩) * silu (z (ix2 i ⟨1536 + k, by omega⟩))

/-- The cotangent of the convolution's input. -/
def du (dy : Mat 4096 1024) (z : Mat 4096 2976) (w : Mat 3 512) (i : Fin 4096) (k : Fin 512) : EReal :=
  w (ix2 2 k) * dconv dy z i k + w (ix2 1 k) * ahead (fun s => dconv dy z s k) 1 i + w (ix2 0 k) * ahead (fun s => dconv dy z s k) 2 i

/-- The cotangent of `z`, one column block after the other. -/
def dzOut (dy : Mat 4096 1024) (z : Mat 4096 2976) (w : Mat 3 512) (b : Mat 1 512) (i : Fin 4096) (k : Fin 512) : EReal :=
  dy (ix2 i ⟨k, by omega⟩) * conv z w b i k * silu (z (ix2 i ⟨1536 + k, by omega⟩))

def dzIn (dy : Mat 4096 1024) (z : Mat 4096 2976) (w : Mat 3 512) (i : Fin 4096) (k : Fin 512) : EReal :=
  du dy z w i k * z (ix2 i ⟨1024 + k, by omega⟩)

def dzIn' (dy : Mat 4096 1024) (z : Mat 4096 2976) (w : Mat 3 512) (i : Fin 4096) (k : Fin 512) : EReal :=
  du dy z w i k * z (ix2 i ⟨512 + k, by omega⟩)

def dzGate (dy : Mat 4096 1024) (z : Mat 4096 2976) (w : Mat 3 512) (b : Mat 1 512) (i : Fin 4096) (k : Fin 512) : EReal :=
  dy (ix2 i ⟨k, by omega⟩) * z (ix2 i ⟨k, by omega⟩) * conv z w b i k * dsilu (z (ix2 i ⟨1536 + k, by omega⟩))

def dzAtt (dy : Mat 4096 1024) (z : Mat 4096 2976) (o : Mat 4096 512) (i : Fin 4096) (k : Fin 512) : EReal :=
  dy (ix2 i ⟨512 + k, by omega⟩) * o (ix2 i k) * dsilu (z (ix2 i ⟨2464 + k, by omega⟩))

/-- The cotangent of `z` in the padded column order. -/
def dzAt (dy : Mat 4096 1024) (z : Mat 4096 2976) (o : Mat 4096 512) (w : Mat 3 512) (b : Mat 1 512) (i : Fin 4096) (j : Fin 3072) : EReal :=
  if h : j.val < 512 then dzOut dy z w b i ⟨j, h⟩
  else if h : j.val < 1024 then dzIn dy z w i ⟨j.val - 512, by omega⟩
  else if h : j.val < 1536 then dzIn' dy z w i ⟨j.val - 1024, by omega⟩
  else if h : j.val < 2048 then dzGate dy z w b i ⟨j.val - 1536, by omega⟩
  else if h : j.val < 2560 then 0
  else dzAtt dy z o i ⟨j.val - 2560, by omega⟩

def dz (dy : Mat 4096 1024) (z : Mat 4096 2976) (o : Mat 4096 512) (w : Mat 3 512) (b : Mat 1 512) : Vec Ideal ⟨2, ![4096, 3072]⟩ .bf16 :=
  fun j => dzAt dy z o w b (j 0) (j 1)

/-- The cotangent of the attention's output, and the same in tiles of 512 rows turned, two heads a tile. -/
def dout (dy : Mat 4096 1024) (z : Mat 4096 2976) (_ : Mat 4096 512) (_ : Mat 3 512) (_ : Mat 1 512) : Mat 4096 512 :=
  fun j => dy (ix2 (j 0) ⟨512 + (j 1), by have h : (j 1).val < 512 := (j 1).isLt; omega⟩)
    * silu (z (ix2 (j 0) ⟨2464 + (j 1), by have h : (j 1).val < 512 := (j 1).isLt; omega⟩))

def dout_t (dy : Mat 4096 1024) (z : Mat 4096 2976) (o : Mat 4096 512) (w : Mat 3 512) (b : Mat 1 512) : Vec Ideal ⟨4, ![4, 8, 128, 512]⟩ .bf16 :=
  fun j => dout dy z o w b (ix2
    ⟨(j 1).val * 512 + (j 3).val, by have h1 : (j 1).val < 8 := (j 1).isLt; have h3 : (j 3).val < 512 := (j 3).isLt; omega⟩
    ⟨(j 0).val * 128 + (j 2).val, by have h1 : (j 0).val < 4 := (j 0).isLt; have h3 : (j 2).val < 128 := (j 2).isLt; omega⟩)

/-- The gradients of the convolution's taps and bias. -/
def dw (dy : Mat 4096 1024) (z : Mat 4096 2976) (_ : Mat 4096 512) (_ : Mat 3 512) (_ : Mat 1 512) : Mat 3 512 :=
  fun j => ∑ i : Fin 4096, dconv dy z i (j 1) * back (fun s => u z s (j 1)) (2 - (j 0).val) i

def db (dy : Mat 4096 1024) (z : Mat 4096 2976) (_ : Mat 4096 512) (_ : Mat 3 512) (_ : Mat 1 512) : Mat 1 512 :=
  fun j => ∑ i : Fin 4096, dconv dy z i (j 1)

end Cert.EvenGateSpec

end
-- ==== Proof.Pieces.lean ====
/- A matrix stored in rectangular pieces, read at an entry: the newest piece that holds the entry gives it. -/
module

public import Idealize.ShloMosaic.Lib.Pipeline.ValueKit

@[expose] public section

noncomputable section

namespace Cert.Pieces

open Idealize.ShloMosaic

variable {N K n k : Nat} {e : EltTy} {Val : EltTy → Type} [∀ e, Nonempty (Val e)]

theorem canon_hit (o p : Nat) (inb : ∀ a, (![o, p] : Fin 2 → Nat) a + (![n, k] : Fin 2 → Nat) a ≤ (⟨2, ![N, K]⟩ : Shape).size a)
    (w : (⟨2, ![n, k]⟩ : Shape).Idx → Val e) (L : List (View.Piece Val ⟨2, ![N, K]⟩ e)) (i : Fin N) (j : Fin K)
    (hi : o ≤ i.val ∧ i.val < o + n) (hj : p ≤ j.val ∧ j.val < p + k) :
    View.canon (⟨Rect.unit (s := ⟨2, ![N, K]⟩) ![o, p] ![n, k] inb, w⟩ :: L) (ix2 i j) = w (ix2 ⟨i.val - o, by omega⟩ ⟨j.val - p, by omega⟩) := by
  have h : (Rect.unit (s := ⟨2, ![N, K]⟩) ![o, p] ![n, k] inb).emb (ix2 ⟨i.val - o, by omega⟩ ⟨j.val - p, by omega⟩) = ix2 i j := by
    blk_ext
  rw [← h]
  exact View.canon_cons_emb _ _ _ _

theorem canon_miss (o p : Nat) (inb : ∀ a, (![o, p] : Fin 2 → Nat) a + (![n, k] : Fin 2 → Nat) a ≤ (⟨2, ![N, K]⟩ : Shape).size a)
    (w : (⟨2, ![n, k]⟩ : Shape).Idx → Val e) (L : List (View.Piece Val ⟨2, ![N, K]⟩ e)) (i : Fin N) (j : Fin K)
    (h : i.val < o ∨ o + n ≤ i.val ∨ j.val < p ∨ p + k ≤ j.val) :
    View.canon (⟨Rect.unit (s := ⟨2, ![N, K]⟩) ![o, p] ![n, k] inb, w⟩ :: L) (ix2 i j) = View.canon L (ix2 i j) := by
  refine View.canon_cons_of_not_mem _ _ fun hm => ?_
  obtain ⟨x, hx⟩ := LoadRect.exists_idx_of_mem _ hm
  have h0 : o + 1 * (x 0).val = i.val := congrArg (fun y => (y 0).val) hx
  have h1 : p + 1 * (x 1).val = j.val := congrArg (fun y => (y 1).val) hx
  have b0 : (x 0).val < n := (x 0).isLt
  have b1 : (x 1).val < k := (x 1).isLt
  omega

theorem readCov_at {sig : RefSig} {κ : Kind} {sp : Space} (v : View sig κ sp (⟨2, ![N, K]⟩ : Shape) e) (o p : Nat)
    (inb : ∀ a, (![o, p] : Fin 2 → Nat) a + (![n, k] : Fin 2 → Nat) a ≤ (⟨2, ![N, K]⟩ : Shape).size a)
    (L : List (View.Piece Val ⟨2, ![N, K]⟩ e)) (r : Fin n) (c : Fin k) (hr : o + r.val < N) (hc : p + c.val < K) :
    (v.readCov L (Rect.unit (s := ⟨2, ![N, K]⟩) ![o, p] ![n, k] inb).toLoadRect : (⟨2, ![n, k]⟩ : Shape).Idx → Val e) (ix2 r c)
      = View.canon L (ix2 ⟨o + r.val, hr⟩ ⟨p + c.val, hc⟩) := by
  rw [View.readCov_eq_canon']
  change View.canon L ((Rect.unit (s := ⟨2, ![N, K]⟩) ![o, p] ![n, k] inb).emb (ix2 r c)) = _
  refine congrArg _ ?_
  blk_ext

end Cert.Pieces

end
-- ==== Proof.EvenGate.Kernel.lean ====
/- The kernel's results are the formulas of `EvenGate/Spec.lean`. -/
module

public import proofs.«01_k».proof.Proof.Gen.EvenGateIdeal.Frame
public import Idealize.ShloMosaic.Lib.Pipeline.Value
public import Idealize.ShloMosaic.Lib.Pipeline.ValueKit
public import proofs.«01_k».proof.Proof.EvenGate.Spec
public import proofs.«01_k».proof.Proof.Pieces

@[expose] public section

set_option maxRecDepth 16384

noncomputable section

namespace Cert.EvenGateIdeal.Value

open Cert.EvenGateIdeal Cert.EvenGateIdeal.Gen Cert.Taps Cert.Silu
open Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at every grid point. -/
theorem idx : ∀ t : Fin cfg0.N, (win0_0.index t = ![t.val, 0] ∧ win0_1.index t = ![t.val, 1] ∧ win0_2.index t = ![min ((t.val + 1) * 64) 511, 0])
    ∧ (win0_3.index t = ![t.val, 0] ∧ win0_4.index t = ![t.val, 1] ∧ win0_5.index t = ![t.val, 2] ∧ win0_6.index t = ![t.val, 3] ∧ win0_7.index t = ![t.val, 5])
    ∧ (win0_8.index t = ![t.val * 64 - 1, 1] ∧ win0_9.index t = ![t.val * 64 - 1, 2] ∧ win0_10.index t = ![min ((t.val + 1) * 64) 511, 0] ∧ win0_11.index t = ![min ((t.val + 1) * 64) 511, 3])
    ∧ (win0_12.index t = ![t.val, 0] ∧ win0_13.index t = ![0, 0] ∧ win0_14.index t = ![0, 0])
    ∧ (win0_15.index t = ![t.val, 0] ∧ win0_16.index t = ![t.val, 0] ∧ win0_17.index t = ![0, t.val, 0, 0] ∧ win0_18.index t = ![0, 0] ∧ win0_19.index t = ![0, 0])
    ∧ (grid0.coords t 0).val = t.val :=
  (by decide +kernel : ∀ t : Fin grid0.N, _)

/-- The kernel's columns: `z` with zeros put in. -/
abbrev padded (z : FVec Ideal S4096x2976 .f32) : FVec Ideal S4096x3072 .f32 :=
  concatenate S4096x3072 1 [⟨S4096x2432, extractStridedSlice S4096x2432 ![0, 0] z slices_S4096x2976_S4096x2432_0_0⟩, ⟨S4096x64, broadcastInDim S4096x64 ![] bcast_S_S4096x64 (constant S_ .f32 0x00000000#32)⟩, ⟨S4096x32, extractStridedSlice S4096x32 ![0, 2432] z slices_S4096x2976_S4096x32_0_2432⟩, ⟨S4096x32, broadcastInDim S4096x32 ![] bcast_S_S4096x32 (constant S_ .f32 0x00000000#32)⟩, ⟨S4096x512, extractStridedSlice S4096x512 ![0, 2464] z slices_S4096x2976_S4096x512_0_2464⟩] concatenates_S4096x2432_S4096x64_S4096x32_S4096x32_S4096x512_S4096x3072_d1

theorem V_v5 (c : Dev nD) : V m c main_v5 = padded (m ((c : Thread nD τ).loc main_arg1)) := by
  unfold V; after_results; try rfl

theorem padded_low (z : FVec Ideal S4096x2976 .f32) (i : Fin 4096) (j : Fin 2432) : padded z (ix2 i ⟨j, by omega⟩) = z (ix2 i ⟨j, by omega⟩) := by
  pointwise

theorem padded_high (z : FVec Ideal S4096x2976 .f32) (i : Fin 4096) (k : Fin 512) : padded z (ix2 i ⟨2560 + k, by omega⟩) = z (ix2 i ⟨2464 + k, by omega⟩) := by
  pointwise
  repeat (first | rw [dif_pos (by omega)] | rw [dif_neg (by omega)])
  simp only [Nat.sub_sub, Nat.reduceAdd, Nat.add_sub_cancel_left]

/-- The scratch buffer of the convolution's input: the halo's rows, then the block's. -/
def ubuf (i : grid0.Coords) (x4 x5 : Vec Ideal S512x512 .f32) (x8 x9 : Vec Ideal S8x512 .f32) : Vec Ideal S520x512 .f32 := fun j =>
  if h : (j 0).val < 8 then k0_pay7 (F := Ideal) i x8 x9 (ix2 ⟨(j 0).val, h⟩ (j 1))
  else k0_pay8 (F := Ideal) x4 x5 (ix2 ⟨(j 0).val - 8, by have h : (j 0).val < 520 := (j 0).isLt; omega⟩ (j 1))

theorem ubuf_lo (i : grid0.Coords) (x4 x5 : Vec Ideal S512x512 .f32) (x8 x9 : Vec Ideal S8x512 .f32) (s : Fin 520) (k : Fin 512) (h : s.val < 8) : ubuf i x4 x5 x8 x9 (ix2 s k) = k0_pay7 (F := Ideal) i x8 x9 (ix2 ⟨s.val, h⟩ k) := by
  unfold ubuf
  split
  · rfl
  · exact absurd h ‹_›

theorem ubuf_hi (i : grid0.Coords) (x4 x5 : Vec Ideal S512x512 .f32) (x8 x9 : Vec Ideal S8x512 .f32) (s : Fin 520) (k : Fin 512) (h : 8 ≤ s.val) : ubuf i x4 x5 x8 x9 (ix2 s k) = k0_pay8 (F := Ideal) x4 x5 (ix2 ⟨s.val - 8, by omega⟩ k) := by
  unfold ubuf
  split
  · exact absurd ‹_› (not_lt.mpr h)
  · rfl

theorem ubuf_eq (i : grid0.Coords) (x4 x5 : Vec Ideal S512x512 .f32) (x8 x9 : Vec Ideal S8x512 .f32) :
    View.canon [⟨Rect.unit ![8, 0] ![512, 512] inb_S520x512_S512x512_8_0, k0_pay8 (F := Ideal) x4 x5⟩,
      ⟨Rect.unit ![0, 0] ![8, 512] inb_S520x512_S8x512_0_0, k0_pay7 (F := Ideal) i x8 x9⟩] = ubuf i x4 x5 x8 x9 := by
  funext y
  idx_vars y
  by_cases h : y0.val < 8
  · refine (Pieces.canon_miss _ _ _ _ _ _ _ (Or.inl h)).trans ((Pieces.canon_hit _ _ _ _ _ _ _ (by omega) (by omega)).trans ?_)
    exact (ubuf_lo _ _ _ _ _ _ _ h).symm
  · refine (Pieces.canon_hit _ _ _ _ _ _ _ (by omega) (by omega)).trans ?_
    exact (ubuf_hi _ _ _ _ _ _ _ (by omega)).symm

theorem uread (v : View sig .tc .vmem S520x512 .f32) (i : grid0.Coords) (x4 x5 : Vec Ideal S512x512 .f32) (x8 x9 : Vec Ideal S8x512 .f32) (o : Nat)
    (inb : ∀ a, (![o, 0] : Fin 2 → Nat) a + (![512, 512] : Fin 2 → Nat) a ≤ S520x512.size a) (ho : o ≤ 8) (r k : Fin 512) :
    (v.readCov [⟨Rect.unit ![8, 0] ![512, 512] inb_S520x512_S512x512_8_0, k0_pay8 (F := Ideal) x4 x5⟩,
      ⟨Rect.unit ![0, 0] ![8, 512] inb_S520x512_S8x512_0_0, k0_pay7 (F := Ideal) i x8 x9⟩] (Rect.unit ![o, 0] ![512, 512] inb).toLoadRect : Vec Ideal S512x512 .f32) (ix2 r k)
      = ubuf i x4 x5 x8 x9 (ix2 ⟨o + r, by omega⟩ k) := by
  refine (Pieces.readCov_at v o 0 inb _ r k (by omega) (by omega)).trans ?_
  rw [ubuf_eq]
  simp only [Nat.zero_add]

/-- The scratch buffer of the convolution's cotangent: the block's rows, then the next block's first eight. -/
def dbuf (i : grid0.Coords) (x0 x3 x6 : Vec Ideal S512x512 .f32) (x2 x10 x11 : Vec Ideal S8x512 .f32) : Vec Ideal S520x512 .f32 := fun j =>
  if h : (j 0).val < 512 then k0_pay13 (F := Ideal) (k0_pay1 x3) (k0_pay4 x6) x0 (ix2 ⟨(j 0).val, h⟩ (j 1))
  else k0_pay17 (F := Ideal) (Scalar.cmpi CmpIPredicate.slt (BitVec.ofNat 32 (i 0).val) 7#32) (k0_pay14 x2 x10) (k0_pay15 x11) (k0_pay16 x11) (FloatOps.ofBits FTy.f32 1065353216#32)
    (ix2 ⟨(j 0).val - 512, by have h : (j 0).val < 520 := (j 0).isLt; omega⟩ (j 1))

theorem dbuf_lo (i : grid0.Coords) (x0 x3 x6 : Vec Ideal S512x512 .f32) (x2 x10 x11 : Vec Ideal S8x512 .f32) (s : Fin 520) (k : Fin 512) (h : s.val < 512) : dbuf i x0 x3 x6 x2 x10 x11 (ix2 s k) = k0_pay13 (F := Ideal) (k0_pay1 x3) (k0_pay4 x6) x0 (ix2 ⟨s.val, h⟩ k) := by
  unfold dbuf
  split
  · rfl
  · exact absurd h ‹_›

theorem dbuf_hi (i : grid0.Coords) (x0 x3 x6 : Vec Ideal S512x512 .f32) (x2 x10 x11 : Vec Ideal S8x512 .f32) (s : Fin 520) (k : Fin 512) (h : 512 ≤ s.val) : dbuf i x0 x3 x6 x2 x10 x11 (ix2 s k) = k0_pay17 (F := Ideal) (Scalar.cmpi CmpIPredicate.slt (BitVec.ofNat 32 (i 0).val) 7#32) (k0_pay14 x2 x10) (k0_pay15 x11) (k0_pay16 x11) (FloatOps.ofBits FTy.f32 1065353216#32) (ix2 ⟨s.val - 512, by omega⟩ k) := by
  unfold dbuf
  split
  · exact absurd ‹_› (not_lt.mpr h)
  · rfl

theorem dbuf_eq (i : grid0.Coords) (x0 x3 x6 : Vec Ideal S512x512 .f32) (x2 x10 x11 : Vec Ideal S8x512 .f32) :
    View.canon [⟨Rect.unit ![512, 0] ![8, 512] inb_S520x512_S8x512_512_0, k0_pay17 (F := Ideal) (Scalar.cmpi CmpIPredicate.slt (BitVec.ofNat 32 (i 0).val) 7#32) (k0_pay14 x2 x10) (k0_pay15 x11) (k0_pay16 x11) (FloatOps.ofBits FTy.f32 1065353216#32)⟩,
      ⟨Rect.unit ![0, 0] ![512, 512] inb_S520x512_S512x512_0_0, k0_pay13 (F := Ideal) (k0_pay1 x3) (k0_pay4 x6) x0⟩] = dbuf i x0 x3 x6 x2 x10 x11 := by
  funext y
  idx_vars y
  by_cases h : y0.val < 512
  · refine (Pieces.canon_miss _ _ _ _ _ _ _ (Or.inl h)).trans ((Pieces.canon_hit _ _ _ _ _ _ _ (by omega) (by omega)).trans ?_)
    exact (dbuf_lo _ _ _ _ _ _ _ _ _ h).symm
  · refine (Pieces.canon_hit _ _ _ _ _ _ _ (by omega) (by omega)).trans ?_
    exact (dbuf_hi _ _ _ _ _ _ _ _ _ (by omega)).symm

theorem dread (v : View sig .tc .vmem S520x512 .f32) (i : grid0.Coords) (x0 x3 x6 : Vec Ideal S512x512 .f32) (x2 x10 x11 : Vec Ideal S8x512 .f32) (o : Nat)
    (inb : ∀ a, (![o, 0] : Fin 2 → Nat) a + (![512, 512] : Fin 2 → Nat) a ≤ S520x512.size a) (ho : o ≤ 8) (r k : Fin 512) :
    (v.readCov [⟨Rect.unit ![512, 0] ![8, 512] inb_S520x512_S8x512_512_0, k0_pay17 (F := Ideal) (Scalar.cmpi CmpIPredicate.slt (BitVec.ofNat 32 (i 0).val) 7#32) (k0_pay14 x2 x10) (k0_pay15 x11) (k0_pay16 x11) (FloatOps.ofBits FTy.f32 1065353216#32)⟩,
      ⟨Rect.unit ![0, 0] ![512, 512] inb_S520x512_S512x512_0_0, k0_pay13 (F := Ideal) (k0_pay1 x3) (k0_pay4 x6) x0⟩] (Rect.unit ![o, 0] ![512, 512] inb).toLoadRect : Vec Ideal S512x512 .f32) (ix2 r k)
      = dbuf i x0 x3 x6 x2 x10 x11 (ix2 ⟨o + r, by omega⟩ k) := by
  refine (Pieces.readCov_at v o 0 inb _ r k (by omega) (by omega)).trans ?_
  rw [dbuf_eq]
  simp only [Nat.zero_add]

/-! ## The blocks a point reads -/

abbrev dy (c : Dev nD) : Vec Ideal S4096x1024 .f32 := m ((c : Thread nD τ).loc main_arg0)
abbrev z (c : Dev nD) : Vec Ideal S4096x2976 .f32 := m ((c : Thread nD τ).loc main_arg1)
abbrev o (c : Dev nD) : Vec Ideal S4096x512 .f32 := m ((c : Thread nD τ).loc main_arg2)
abbrev w (c : Dev nD) : Vec Ideal S3x512 .f32 := m ((c : Thread nD τ).loc main_arg3)
abbrev b (c : Dev nD) : Vec Ideal S1x512 .f32 := m ((c : Thread nD τ).loc main_arg4)

variable {m}

theorem blk0 (c : Dev nD) (t : Fin cfg0.N) (r k : Fin 512) (h : t.val * 512 + r.val < 4096) :
    (iblk m c 0 t : Vec Ideal S512x512 .f32) (ix2 r k) = dy m c (ix2 ⟨t.val * 512 + r, h⟩ ⟨k, by omega⟩) := by
  blk_point [iblk, V, idx t]

theorem blk1 (c : Dev nD) (t : Fin cfg0.N) (r k : Fin 512) (h : t.val * 512 + r.val < 4096) :
    (iblk m c 1 t : Vec Ideal S512x512 .f32) (ix2 r k) = dy m c (ix2 ⟨t.val * 512 + r, h⟩ ⟨512 + k, by omega⟩) := by
  blk_point [iblk, V, idx t]

theorem blk3 (c : Dev nD) (t : Fin cfg0.N) (r k : Fin 512) (h : t.val * 512 + r.val < 4096) :
    (iblk m c 3 t : Vec Ideal S512x512 .f32) (ix2 r k) = z m c (ix2 ⟨t.val * 512 + r, h⟩ ⟨k, by omega⟩) := by
  rw [← padded_low (z m c) _ ⟨k, by omega⟩, ← V_v5]
  blk_point [iblk, idx t]

theorem blk4 (c : Dev nD) (t : Fin cfg0.N) (r k : Fin 512) (h : t.val * 512 + r.val < 4096) :
    (iblk m c 4 t : Vec Ideal S512x512 .f32) (ix2 r k) = z m c (ix2 ⟨t.val * 512 + r, h⟩ ⟨512 + k, by omega⟩) := by
  rw [← padded_low (z m c) _ ⟨512 + k, by omega⟩, ← V_v5]
  blk_point [iblk, idx t]

theorem blk5 (c : Dev nD) (t : Fin cfg0.N) (r k : Fin 512) (h : t.val * 512 + r.val < 4096) :
    (iblk m c 5 t : Vec Ideal S512x512 .f32) (ix2 r k) = z m c (ix2 ⟨t.val * 512 + r, h⟩ ⟨1024 + k, by omega⟩) := by
  rw [← padded_low (z m c) _ ⟨1024 + k, by omega⟩, ← V_v5]
  blk_point [iblk, idx t]

theorem blk6 (c : Dev nD) (t : Fin cfg0.N) (r k : Fin 512) (h : t.val * 512 + r.val < 4096) :
    (iblk m c 6 t : Vec Ideal S512x512 .f32) (ix2 r k) = z m c (ix2 ⟨t.val * 512 + r, h⟩ ⟨1536 + k, by omega⟩) := by
  rw [← padded_low (z m c) _ ⟨1536 + k, by omega⟩, ← V_v5]
  blk_point [iblk, idx t]

theorem blk7 (c : Dev nD) (t : Fin cfg0.N) (r k : Fin 512) (h : t.val * 512 + r.val < 4096) :
    (iblk m c 7 t : Vec Ideal S512x512 .f32) (ix2 r k) = z m c (ix2 ⟨t.val * 512 + r, h⟩ ⟨2464 + k, by omega⟩) := by
  rw [← padded_high (z m c) _ k, ← V_v5]
  blk_point [iblk, idx t]

theorem blk12 (c : Dev nD) (t : Fin cfg0.N) (r k : Fin 512) (h : t.val * 512 + r.val < 4096) :
    (iblk m c 12 t : Vec Ideal S512x512 .f32) (ix2 r k) = o m c (ix2 ⟨t.val * 512 + r, h⟩ k) := by
  blk_point [iblk, V, idx t]

theorem blk13 (c : Dev nD) (t : Fin cfg0.N) (j : Fin 3) (k : Fin 512) : (iblk m c 13 t : Vec Ideal S3x512 .f32) (ix2 j k) = w m c (ix2 j k) := by
  blk_point [iblk, V, idx t]

theorem blk14 (c : Dev nD) (t : Fin cfg0.N) (j : Fin 1) (k : Fin 512) : (iblk m c 14 t : Vec Ideal S1x512 .f32) (ix2 j k) = b m c (ix2 j k) := by
  blk_point [iblk, V, idx t]

/-- The eight rows before the block, and after it. -/
theorem blk8 (c : Dev nD) (t : Fin cfg0.N) (r : Fin 8) (k : Fin 512) (h0 : t.val ≠ 0) (h : t.val * 512 - 8 + r.val < 4096) :
    (iblk m c 8 t : Vec Ideal S8x512 .f32) (ix2 r k) = z m c (ix2 ⟨t.val * 512 - 8 + r, h⟩ ⟨512 + k, by omega⟩) := by
  rw [← padded_low (z m c) _ ⟨512 + k, by omega⟩, ← V_v5]
  blk_point [iblk, idx t]

theorem blk9 (c : Dev nD) (t : Fin cfg0.N) (r : Fin 8) (k : Fin 512) (h0 : t.val ≠ 0) (h : t.val * 512 - 8 + r.val < 4096) :
    (iblk m c 9 t : Vec Ideal S8x512 .f32) (ix2 r k) = z m c (ix2 ⟨t.val * 512 - 8 + r, h⟩ ⟨1024 + k, by omega⟩) := by
  rw [← padded_low (z m c) _ ⟨1024 + k, by omega⟩, ← V_v5]
  blk_point [iblk, idx t]

theorem blk10 (c : Dev nD) (t : Fin cfg0.N) (r : Fin 8) (k : Fin 512) (h0 : t.val < 7) (h : t.val * 512 + 512 + r.val < 4096) :
    (iblk m c 10 t : Vec Ideal S8x512 .f32) (ix2 r k) = z m c (ix2 ⟨t.val * 512 + 512 + r, h⟩ ⟨k, by omega⟩) := by
  rw [← padded_low (z m c) _ ⟨k, by omega⟩, ← V_v5]
  blk_point [iblk, idx t]

theorem blk11 (c : Dev nD) (t : Fin cfg0.N) (r : Fin 8) (k : Fin 512) (h0 : t.val < 7) (h : t.val * 512 + 512 + r.val < 4096) :
    (iblk m c 11 t : Vec Ideal S8x512 .f32) (ix2 r k) = z m c (ix2 ⟨t.val * 512 + 512 + r, h⟩ ⟨1536 + k, by omega⟩) := by
  rw [← padded_low (z m c) _ ⟨1536 + k, by omega⟩, ← V_v5]
  blk_point [iblk, idx t]

theorem blk2 (c : Dev nD) (t : Fin cfg0.N) (r : Fin 8) (k : Fin 512) (h0 : t.val < 7) (h : t.val * 512 + 512 + r.val < 4096) :
    (iblk m c 2 t : Vec Ideal S8x512 .f32) (ix2 r k) = dy m c (ix2 ⟨t.val * 512 + 512 + r, h⟩ ⟨k, by omega⟩) := by
  blk_point [iblk, V, idx t]

theorem t_lt (t : Fin cfg0.N) : t.val < 8 := lt_of_lt_of_eq t.isLt N_0

/-! ## What a point computes -/

theorem first (t : Fin cfg0.N) : Scalar.cmpi CmpIPredicate.sgt (BitVec.ofNat 32 (grid0.coords t 0).val) 0#32 = if t.val = 0 then 0#1 else 1#1 :=
  (by decide +kernel : ∀ t : Fin grid0.N, Scalar.cmpi CmpIPredicate.sgt (BitVec.ofNat 32 (grid0.coords t 0).val) 0#32 = if t.val = 0 then 0#1 else 1#1) t

theorem last (t : Fin cfg0.N) : Scalar.cmpi CmpIPredicate.slt (BitVec.ofNat 32 (grid0.coords t 0).val) 7#32 = if t.val = 7 then 0#1 else 1#1 :=
  (by decide +kernel : ∀ t : Fin grid0.N, Scalar.cmpi CmpIPredicate.slt (BitVec.ofNat 32 (grid0.coords t 0).val) 7#32 = if t.val = 7 then 0#1 else 1#1) t

theorem u_row (z : Vec Ideal S4096x2976 .f32) (k : Fin 512) (p q : Nat) (hp : p < 4096) (hq : q < 4096) (h : p = q) :
    EvenGateSpec.u z ⟨p, hp⟩ k = EvenGateSpec.u z ⟨q, hq⟩ k := by subst h; rfl

theorem dconv_row (dy : Vec Ideal S4096x1024 .f32) (z : Vec Ideal S4096x2976 .f32) (k : Fin 512) (p q : Nat) (hp : p < 4096) (hq : q < 4096) (h : p = q) :
    EvenGateSpec.dconv dy z ⟨p, hp⟩ k = EvenGateSpec.dconv dy z ⟨q, hq⟩ k := by subst h; rfl

/-- The convolution's input and its cotangent on the block's rows. -/
theorem hu (c : Dev nD) (t : Fin cfg0.N) (r k : Fin 512) (h : t.val * 512 + r.val < 4096) :
    k0_pay6 (F := Ideal) (iblk m c 4 t) (iblk m c 5 t) (ix2 r k) = EvenGateSpec.u (z m c) ⟨t.val * 512 + r, h⟩ k := by
  pointwise [k0_pay6, k0_pay2, k0_pay3]
  rw [blk4 c t r k h, blk5 c t r k h]
  rfl

theorem hd (c : Dev nD) (t : Fin cfg0.N) (r k : Fin 512) (h : t.val * 512 + r.val < 4096) :
    k0_pay12 (F := Ideal) (k0_pay1 (iblk m c 3 t)) (k0_pay4 (iblk m c 6 t)) (iblk m c 0 t) (ix2 r k)
      = EvenGateSpec.dconv (dy m c) (z m c) ⟨t.val * 512 + r, h⟩ k := by
  pointwise [k0_pay12, k0_pay11, k0_pay1, k0_pay4]
  rw [blk0 c t r k h, blk3 c t r k h, blk6 c t r k h, zero_sub]
  rfl

/-- The convolution's input through a delay. -/
theorem hub (c : Dev nD) (t : Fin cfg0.N) (d : Nat) (hd : d ≤ 8) (r k : Fin 512) (h8 : 8 - d + r.val < 520) (hr : t.val * 512 + r.val < 4096) :
    ubuf (grid0.coords t) (iblk m c 4 t) (iblk m c 5 t) (iblk m c 8 t) (iblk m c 9 t) (ix2 ⟨8 - d + r, h8⟩ k)
      = back (fun s => EvenGateSpec.u (z m c) s k) d ⟨t.val * 512 + r, hr⟩ := by
  by_cases h : 8 - d + r.val < 8
  · rw [ubuf_lo _ _ _ _ _ _ _ h]
    pointwise [k0_pay7]
    rw [first t]
    by_cases h0 : t.val = 0
    · rw [if_pos h0, back, if_neg (by dsimp only; omega)]
      rfl
    · rw [if_neg h0, back, if_pos (by dsimp only; omega), blk8 c t _ k h0 (by dsimp only; omega), blk9 c t _ k h0 (by dsimp only; omega)]
      exact u_row (z m c) k (t.val * 512 - 8 + (8 - d + r.val)) (t.val * 512 + r.val - d) (by omega) (by omega) (by omega)
  · rw [ubuf_hi _ _ _ _ _ _ _ (by dsimp only; omega)]
    pointwise [k0_pay8]
    rw [hu c t ⟨8 - d + r.val - 8, by omega⟩ k (by dsimp only; omega)]
    rw [back, if_pos (by dsimp only; omega)]
    exact u_row (z m c) k _ _ _ _ (by dsimp only; omega)

/-- The convolution's cotangent through the opposite delay. -/
theorem hdb (c : Dev nD) (t : Fin cfg0.N) (d : Nat) (hd8 : d ≤ 8) (r k : Fin 512) (h8 : d + r.val < 520) (hr : t.val * 512 + r.val < 4096) :
    dbuf (grid0.coords t) (iblk m c 0 t) (iblk m c 3 t) (iblk m c 6 t) (iblk m c 2 t) (iblk m c 10 t) (iblk m c 11 t) (ix2 ⟨d + r, h8⟩ k)
      = ahead (fun s => EvenGateSpec.dconv (dy m c) (z m c) s k) d ⟨t.val * 512 + r, hr⟩ := by
  have ht := t_lt t
  by_cases h : d + r.val < 512
  · rw [dbuf_lo _ _ _ _ _ _ _ _ _ h]
    pointwise [k0_pay13]
    rw [hd c t ⟨d + r.val, h⟩ k (by dsimp only; omega)]
    rw [ahead, dif_pos (by dsimp only; omega)]
    exact dconv_row (dy m c) (z m c) k _ _ _ _ (by dsimp only; omega)
  · rw [dbuf_hi _ _ _ _ _ _ _ _ _ (by dsimp only; omega)]
    pointwise [k0_pay17, k0_pay14, k0_pay15, k0_pay16]
    rw [last t]
    by_cases h7 : t.val = 7
    · rw [if_pos h7, ahead, dif_neg (by dsimp only; omega)]
      rfl
    · rw [if_neg h7, ahead, dif_pos (by dsimp only; omega), blk2 c t _ k (by omega) (by dsimp only; omega), blk10 c t _ k (by omega) (by dsimp only; omega),
        blk11 c t _ k (by omega) (by dsimp only; omega), zero_sub]
      exact dconv_row (dy m c) (z m c) k (t.val * 512 + 512 + (d + r.val - 512)) (t.val * 512 + r.val + d) (by omega) (by omega) (by omega)

/-- The convolution and the cotangent of its input on the block's rows, from the block's payloads. -/
theorem hconv (c : Dev nD) (t : Fin cfg0.N) (r k : Fin 512) (h : t.val * 512 + r.val < 4096)
    {w0 w1 w2 : Vec Ideal S1x512 .f32} {u1 u2 : Vec Ideal S512x512 .f32} (h0 : w0 (ix2 0 k) = w m c (ix2 0 k)) (h1 : w1 (ix2 0 k) = w m c (ix2 1 k)) (h2 : w2 (ix2 0 k) = w m c (ix2 2 k))
    (hu1 : u1 (ix2 r k) = back (fun s => EvenGateSpec.u (z m c) s k) 1 ⟨t.val * 512 + r.val, h⟩)
    (hu2 : u2 (ix2 r k) = back (fun s => EvenGateSpec.u (z m c) s k) 2 ⟨t.val * 512 + r.val, h⟩) :
    k0_pay10 (F := Ideal) (k0_pay9 (iblk m c 4 t) (iblk m c 5 t) w2) w1 u1 w0 u2 (iblk m c 14 t) (ix2 r k) = EvenGateSpec.conv (z m c) (w m c) (b m c) ⟨t.val * 512 + r, h⟩ k := by
  pointwise [k0_pay10, k0_pay9]
  rw [hu c t r k h, h0, h1, h2, hu1, hu2, blk14 c t 0 k]
  rfl

theorem hdu (c : Dev nD) (t : Fin cfg0.N) (r k : Fin 512) (h : t.val * 512 + r.val < 4096)
    {w0 w1 w2 : Vec Ideal S1x512 .f32} {d1 d2 : Vec Ideal S512x512 .f32} (h0 : w0 (ix2 0 k) = w m c (ix2 0 k)) (h1 : w1 (ix2 0 k) = w m c (ix2 1 k)) (h2 : w2 (ix2 0 k) = w m c (ix2 2 k))
    (hd1 : d1 (ix2 r k) = ahead (fun s => EvenGateSpec.dconv (dy m c) (z m c) s k) 1 ⟨t.val * 512 + r.val, h⟩)
    (hd2 : d2 (ix2 r k) = ahead (fun s => EvenGateSpec.dconv (dy m c) (z m c) s k) 2 ⟨t.val * 512 + r.val, h⟩) :
    k0_pay18 (F := Ideal) (k0_pay12 (k0_pay1 (iblk m c 3 t)) (k0_pay4 (iblk m c 6 t)) (iblk m c 0 t)) w2 w1 d1 w0 d2 (ix2 r k) = EvenGateSpec.du (dy m c) (z m c) (w m c) ⟨t.val * 512 + r, h⟩ k := by
  pointwise [k0_pay18]
  rw [hd c t r k h, h0, h1, h2, hd1, hd2]
  rfl

theorem ldw (x : Vec Ideal S3x512 .f32) (j : Nat) (inb : ∀ a, (![j, 0] : Fin 2 → Nat) a + (![1, 512] : Fin 2 → Nat) a ≤ S3x512.size a) (hj : j < 3) (k : Fin 512) :
    (View.ld x (Rect.unit ![j, 0] ![1, 512] inb) : Vec Ideal S1x512 .f32) (ix2 0 k) = x (ix2 ⟨j, hj⟩ k) := by
  pointwise

theorem hdo (c : Dev nD) (t : Fin cfg0.N) (r k : Fin 512) (h : t.val * 512 + r.val < 4096) :
    k0_pay27 (F := Ideal) (k0_pay5 (iblk m c 7 t)) (iblk m c 1 t) k0_pay26 (ix2 r k) = EvenGateSpec.dout (dy m c) (z m c) (o m c) (w m c) (b m c) (ix2 ⟨t.val * 512 + r, h⟩ k) := by
  pointwise [k0_pay27, k0_pay5, k0_pay26]
  rw [blk1 c t r k h, blk7 c t r k h, zero_sub]
  rfl

end Cert.EvenGateIdeal.Value

end
-- ==== Proof.EvenGate.Outputs.lean ====
/- The kernel's five results, block by block, are the formulas of `EvenGate/Spec.lean`. -/
module

public import proofs.«01_k».proof.Proof.EvenGate.Kernel
public import Idealize.ShloMosaic.Lib.Pipeline.ReadBack

@[expose] public section

set_option maxRecDepth 16384

noncomputable section

namespace Cert.EvenGateIdeal.Value

open Cert.EvenGateIdeal Cert.EvenGateIdeal.Gen Cert.Taps Cert.Silu
open Idealize.ShloMosaic Idealize.ShloMosaic.TcCoe Idealize.SL.Sem
open Idealize.ShloMosaic.Pipeline (Dat)
open scoped BigOperators

variable (m : (ℓ : Loc nD τ sig) → Buf (Elt Ideal) ℓ)

/-- A point's row of the arrays. -/
abbrev row (t : Fin cfg0.N) (r : Fin 512) : Fin 4096 := ⟨t.val * 512 + r.val, by have := t_lt t; omega⟩

/-! ## What a point reads and computes -/

abbrev tap (c : Dev nD) (t : Fin cfg0.N) (j : Nat) (inb : ∀ a, (![j, 0] : Fin 2 → Nat) a + (![1, 512] : Fin 2 → Nat) a ≤ S3x512.size a) : Vec Ideal S1x512 .f32 :=
  View.ld (iblk m c 13 t) (Rect.unit ![j, 0] ![1, 512] inb)

abbrev delayed (c : Dev nD) (t : Fin cfg0.N) (o : Nat) (inb : ∀ a, (![o, 0] : Fin 2 → Nat) a + (![512, 512] : Fin 2 → Nat) a ≤ S520x512.size a) : Vec Ideal S512x512 .f32 :=
  (View.whole cc0_scratch0).readCov [⟨Rect.unit ![8, 0] ![512, 512] inb_S520x512_S512x512_8_0, k0_pay8 (F := Ideal) (iblk m c 4 t) (iblk m c 5 t)⟩,
    ⟨Rect.unit ![0, 0] ![8, 512] inb_S520x512_S8x512_0_0, k0_pay7 (F := Ideal) (grid0.coords t) (iblk m c 8 t) (iblk m c 9 t)⟩] (Rect.unit ![o, 0] ![512, 512] inb).toLoadRect

abbrev advanced (c : Dev nD) (t : Fin cfg0.N) (o : Nat) (inb : ∀ a, (![o, 0] : Fin 2 → Nat) a + (![512, 512] : Fin 2 → Nat) a ≤ S520x512.size a) : Vec Ideal S512x512 .f32 :=
  (View.whole cc0_scratch1).readCov [⟨Rect.unit ![512, 0] ![8, 512] inb_S520x512_S8x512_512_0, k0_pay17 (F := Ideal) (Scalar.cmpi CmpIPredicate.slt (BitVec.ofNat 32 (grid0.coords t 0).val) 7#32) (k0_pay14 (iblk m c 2 t) (iblk m c 10 t)) (k0_pay15 (iblk m c 11 t)) (k0_pay16 (iblk m c 11 t)) (FloatOps.ofBits FTy.f32 1065353216#32)⟩,
    ⟨Rect.unit ![0, 0] ![512, 512] inb_S520x512_S512x512_0_0, k0_pay13 (F := Ideal) (k0_pay1 (iblk m c 3 t)) (k0_pay4 (iblk m c 6 t)) (iblk m c 0 t)⟩] (Rect.unit ![o, 0] ![512, 512] inb).toLoadRect

abbrev convB (c : Dev nD) (t : Fin cfg0.N) : Vec Ideal S512x512 .f32 :=
  k0_pay10 (F := Ideal) (k0_pay9 (iblk m c 4 t) (iblk m c 5 t) (tap m c t 2 inb_S3x512_S1x512_2_0)) (tap m c t 1 inb_S3x512_S1x512_1_0)
    (delayed m c t 7 inb_S520x512_S512x512_7_0) (tap m c t 0 inb_S3x512_S1x512_0_0) (delayed m c t 6 inb_S520x512_S512x512_6_0) (iblk m c 14 t)

abbrev dconvB (c : Dev nD) (t : Fin cfg0.N) : Vec Ideal S512x512 .f32 :=
  k0_pay12 (F := Ideal) (k0_pay1 (iblk m c 3 t)) (k0_pay4 (iblk m c 6 t)) (iblk m c 0 t)

theorem tap_at (c : Dev nD) (t : Fin cfg0.N) (j : Nat) (inb : ∀ a, (![j, 0] : Fin 2 → Nat) a + (![1, 512] : Fin 2 → Nat) a ≤ S3x512.size a) (hj : j < 3) (k : Fin 512) :
    tap m c t j inb (ix2 0 k) = w m c (ix2 ⟨j, hj⟩ k) := by
  rw [tap, ldw _ j inb hj k, blk13]

theorem delayed_at (c : Dev nD) (t : Fin cfg0.N) (o : Nat) (inb : ∀ a, (![o, 0] : Fin 2 → Nat) a + (![512, 512] : Fin 2 → Nat) a ≤ S520x512.size a) (ho : o ≤ 8) (r k : Fin 512) :
    delayed m c t o inb (ix2 r k) = back (fun s => EvenGateSpec.u (z m c) s k) (8 - o) (row t r) := by
  refine (uread _ _ _ _ _ _ o inb ho r k).trans ?_
  rw [← hub c t (8 - o) (by omega) r k (by omega) _]
  simp only [show 8 - (8 - o) = o by omega]

theorem advanced_at (c : Dev nD) (t : Fin cfg0.N) (o : Nat) (inb : ∀ a, (![o, 0] : Fin 2 → Nat) a + (![512, 512] : Fin 2 → Nat) a ≤ S520x512.size a) (ho : o ≤ 8) (r k : Fin 512) :
    advanced m c t o inb (ix2 r k) = ahead (fun s => EvenGateSpec.dconv (dy m c) (z m c) s k) o (row t r) :=
  (dread _ _ _ _ _ _ _ _ o inb ho r k).trans (hdb c t o ho r k (by omega) _)

theorem convB_at (c : Dev nD) (t : Fin cfg0.N) (r k : Fin 512) : convB m c t (ix2 r k) = EvenGateSpec.conv (z m c) (w m c) (b m c) (row t r) k :=
  hconv c t r k _ (tap_at m c t 0 _ (by omega) k) (tap_at m c t 1 _ (by omega) k) (tap_at m c t 2 _ (by omega) k) (delayed_at m c t 7 _ (by omega) r k) (delayed_at m c t 6 _ (by omega) r k)

theorem duB_at (c : Dev nD) (t : Fin cfg0.N) (r k : Fin 512) :
    k0_pay18 (F := Ideal) (dconvB m c t) (tap m c t 2 inb_S3x512_S1x512_2_0) (tap m c t 1 inb_S3x512_S1x512_1_0) (advanced m c t 1 inb_S520x512_S512x512_1_0)
      (tap m c t 0 inb_S3x512_S1x512_0_0) (advanced m c t 2 inb_S520x512_S512x512_2_0) (ix2 r k) = EvenGateSpec.du (dy m c) (z m c) (w m c) (row t r) k :=
  hdu c t r k _ (tap_at m c t 0 _ (by omega) k) (tap_at m c t 1 _ (by omega) k) (tap_at m c t 2 _ (by omega) k) (advanced_at m c t 1 _ (by omega) r k) (advanced_at m c t 2 _ (by omega) r k)

/-! ## The cotangent of `z` -/

theorem dz0 (c : Dev nD) (t : Fin cfg0.N) (r k : Fin 512) : k0_pay19 (F := Ideal) (iblk m c 0 t) (convB m c t) (k0_pay11 (k0_pay4 (iblk m c 6 t))) (ix2 r k)
    = EvenGateSpec.dzOut (dy m c) (z m c) (w m c) (b m c) (row t r) k := by
  pointwise [k0_pay19, k0_pay11, k0_pay4]
  rw [convB_at, blk0 c t r k (row t r).isLt, blk6 c t r k (row t r).isLt, zero_sub]
  rfl

theorem dz1 (c : Dev nD) (t : Fin cfg0.N) (r k : Fin 512) : k0_pay20 (F := Ideal) (k0_pay3 (iblk m c 5 t)) (dconvB m c t) (tap m c t 2 inb_S3x512_S1x512_2_0) (tap m c t 1 inb_S3x512_S1x512_1_0)
      (advanced m c t 1 inb_S520x512_S512x512_1_0) (tap m c t 0 inb_S3x512_S1x512_0_0) (advanced m c t 2 inb_S520x512_S512x512_2_0) (ix2 r k)
    = EvenGateSpec.dzIn (dy m c) (z m c) (w m c) (row t r) k := by
  pointwise [k0_pay20, k0_pay3]
  rw [duB_at, blk5 c t r k (row t r).isLt]
  rfl

theorem dz2 (c : Dev nD) (t : Fin cfg0.N) (r k : Fin 512) : k0_pay21 (F := Ideal) (k0_pay2 (iblk m c 4 t)) (dconvB m c t) (tap m c t 2 inb_S3x512_S1x512_2_0) (tap m c t 1 inb_S3x512_S1x512_1_0)
      (advanced m c t 1 inb_S520x512_S512x512_1_0) (tap m c t 0 inb_S3x512_S1x512_0_0) (advanced m c t 2 inb_S520x512_S512x512_2_0) (ix2 r k)
    = EvenGateSpec.dzIn' (dy m c) (z m c) (w m c) (row t r) k := by
  pointwise [k0_pay21, k0_pay2]
  rw [duB_at, blk4 c t r k (row t r).isLt]
  rfl

theorem dz3 (c : Dev nD) (t : Fin cfg0.N) (r k : Fin 512) : k0_pay23 (F := Ideal) (k0_pay4 (iblk m c 6 t)) (k0_pay22 (k0_pay1 (iblk m c 3 t)) (iblk m c 0 t) (convB m c t)) (ix2 r k)
    = EvenGateSpec.dzGate (dy m c) (z m c) (w m c) (b m c) (row t r) k := by
  pointwise [k0_pay23, k0_pay22, k0_pay1, k0_pay4]
  rw [convB_at, blk0 c t r k (row t r).isLt, blk3 c t r k (row t r).isLt, blk6 c t r k (row t r).isLt, zero_sub]
  rfl

theorem dz4 (r k : Fin 512) : k0_pay24 (F := Ideal) (ix2 r k) = 0 := by
  pointwise [k0_pay24]

theorem dz5 (c : Dev nD) (t : Fin cfg0.N) (r k : Fin 512) : k0_pay25 (F := Ideal) (k0_pay5 (iblk m c 7 t)) (iblk m c 1 t) (iblk m c 12 t) (ix2 r k)
    = EvenGateSpec.dzAtt (dy m c) (z m c) (o m c) (row t r) k := by
  pointwise [k0_pay25, k0_pay5]
  rw [blk1 c t r k (row t r).isLt, blk7 c t r k (row t r).isLt, blk12 c t r k (row t r).isLt, zero_sub]
  rfl

/-- Six column blocks side by side. -/
theorem side_by_side {p0 p1 p2 p3 p4 p5 : Vec Ideal S512x512 .bf16} (r : Fin 512) (j : Fin 3072) :
    View.canon [⟨Rect.unit ![0, 2560] ![512, 512] inb_S512x3072_S512x512_0_2560, p5⟩, ⟨Rect.unit ![0, 2048] ![512, 512] inb_S512x3072_S512x512_0_2048, p4⟩,
      ⟨Rect.unit ![0, 1536] ![512, 512] inb_S512x3072_S512x512_0_1536, p3⟩, ⟨Rect.unit ![0, 1024] ![512, 512] inb_S512x3072_S512x512_0_1024, p2⟩,
      ⟨Rect.unit ![0, 512] ![512, 512] inb_S512x3072_S512x512_0_512, p1⟩, ⟨Rect.unit ![0, 0] ![512, 512] inb_S512x3072_S512x512_0_0, p0⟩] (ix2 r j)
    = if h : j.val < 512 then p0 (ix2 r ⟨j, h⟩)
      else if h : j.val < 1024 then p1 (ix2 r ⟨j.val - 512, by omega⟩)
      else if h : j.val < 1536 then p2 (ix2 r ⟨j.val - 1024, by omega⟩)
      else if h : j.val < 2048 then p3 (ix2 r ⟨j.val - 1536, by omega⟩)
      else if h : j.val < 2560 then p4 (ix2 r ⟨j.val - 2048, by omega⟩)
      else p5 (ix2 r ⟨j.val - 2560, by omega⟩) := by
  have miss : ∀ (p : Nat) (inb : ∀ a, (![0, p] : Fin 2 → Nat) a + (![512, 512] : Fin 2 → Nat) a ≤ S512x3072.size a) (x : Vec Ideal S512x512 .bf16) (L : List (View.Piece (Elt Ideal) S512x3072 .bf16)),
      (j.val < p ∨ p + 512 ≤ j.val) → View.canon (⟨Rect.unit ![0, p] ![512, 512] inb, x⟩ :: L) (ix2 r j) = View.canon L (ix2 r j) :=
    fun p inb x L h => Pieces.canon_miss 0 p inb x L r j (by omega)
  have hit : ∀ (p : Nat) (inb : ∀ a, (![0, p] : Fin 2 → Nat) a + (![512, 512] : Fin 2 → Nat) a ≤ S512x3072.size a) (x : Vec Ideal S512x512 .bf16) (L : List (View.Piece (Elt Ideal) S512x3072 .bf16))
      (h : p ≤ j.val ∧ j.val < p + 512), View.canon (⟨Rect.unit ![0, p] ![512, 512] inb, x⟩ :: L) (ix2 r j) = x (ix2 r ⟨j.val - p, by omega⟩) :=
    fun p inb x L h => Pieces.canon_hit 0 p inb x L r j (by omega) h
  split_ifs with a0 a1 a2 a3 a4
  · rw [miss 2560 _ _ _ (by omega), miss 2048 _ _ _ (by omega), miss 1536 _ _ _ (by omega), miss 1024 _ _ _ (by omega), miss 512 _ _ _ (by omega), hit 0 _ _ _ (by omega)]
    rfl
  · rw [miss 2560 _ _ _ (by omega), miss 2048 _ _ _ (by omega), miss 1536 _ _ _ (by omega), miss 1024 _ _ _ (by omega), hit 512 _ _ _ (by omega)]
  · rw [miss 2560 _ _ _ (by omega), miss 2048 _ _ _ (by omega), miss 1536 _ _ _ (by omega), hit 1024 _ _ _ (by omega)]
  · rw [miss 2560 _ _ _ (by omega), miss 2048 _ _ _ (by omega), hit 1536 _ _ _ (by omega)]
  · rw [miss 2560 _ _ _ (by omega), hit 2048 _ _ _ (by omega)]
  · rw [hit 2560 _ _ _ (by omega)]

theorem block15 (c : Dev nD) (t : Fin cfg0.N) (r : Fin 512) (j : Fin 3072) : (outsAt0 (F := Ideal) m c t.val t.isLt).1 (ix2 r j)
    = EvenGateSpec.dzAt (dy m c) (z m c) (o m c) (w m c) (b m c) (row t r) j := by
  unfold EvenGateSpec.dzAt
  simp only [← dz0, ← dz1, ← dz2, ← dz3, ← dz5]
  by_cases h : t.val % 8 = 0
  · rw [outsAt0_A m c t h]
    frame_out
    refine (side_by_side r j).trans ?_
    simp only [dz4]
    rfl
  · rw [outsAt0_B m c t h]
    frame_out
    refine (side_by_side r j).trans ?_
    simp only [dz4]
    rfl

theorem final15 (c : Dev nD) : (dats m 0 c).arrAt 15 (cfgs 0).N = EvenGateSpec.dz (dy m c) (z m c) (o m c) (w m c) (b m c) := by
  refine (dats m 0 c).arrAt_eq_of_covers 15 _ (by decide +kernel) fun t _ y => ?_
  blk_simp
  rw [after0_15]
  idx_vars y
  unfold EvenGateSpec.dz
  refine (block15 m c t y0 y1).trans ?_
  generalize EvenGateSpec.dzAt (dy m c) (z m c) (o m c) (w m c) (b m c) = f
  refine congrArg₂ f (Fin.ext ?_) (Fin.ext ?_)
  · blk_simp [(idx t).2.2.2.2.1.1]
  · blk_simp [(idx t).2.2.2.2.1.1]

/-! ## The cotangent of the attention's output -/

theorem block16 (c : Dev nD) (t : Fin cfg0.N) (r k : Fin 512) : (outsAt0 (F := Ideal) m c t.val t.isLt).2.1 (ix2 r k)
    = EvenGateSpec.dout (dy m c) (z m c) (o m c) (w m c) (b m c) (ix2 (row t r) k) := by
  by_cases h : t.val % 8 = 0
  · rw [outsAt0_A m c t h]
    frame_out
    exact hdo c t r k _
  · rw [outsAt0_B m c t h]
    frame_out
    exact hdo c t r k _

theorem final16 (c : Dev nD) : (dats m 0 c).arrAt 16 (cfgs 0).N = EvenGateSpec.dout (dy m c) (z m c) (o m c) (w m c) (b m c) := by
  refine (dats m 0 c).arrAt_eq_of_covers 16 _ (by decide +kernel) fun t _ y => ?_
  blk_simp
  rw [after0_16]
  idx_vars y
  refine (block16 m c t y0 y1).trans ?_
  blk_point [idx t]

/-- Four tiles, one above the other. -/
theorem tiles (c : Dev nD) (t : Fin cfg0.N) (y : S4x1x128x512.Idx) :
    View.canon [⟨Rect.unit ![3, 0, 0, 0] ![1, 1, 128, 512] inb_S4x1x128x512_S1x1x128x512_3_0_0_0, k0_pay31 (F := Ideal) (k0_pay5 (iblk m c 7 t)) (iblk m c 1 t) k0_pay26⟩,
      ⟨Rect.unit ![2, 0, 0, 0] ![1, 1, 128, 512] inb_S4x1x128x512_S1x1x128x512_2_0_0_0, k0_pay30 (F := Ideal) (k0_pay5 (iblk m c 7 t)) (iblk m c 1 t) k0_pay26⟩,
      ⟨Rect.unit ![1, 0, 0, 0] ![1, 1, 128, 512] inb_S4x1x128x512_S1x1x128x512_1_0_0_0, k0_pay29 (F := Ideal) (k0_pay5 (iblk m c 7 t)) (iblk m c 1 t) k0_pay26⟩,
      ⟨Rect.unit ![0, 0, 0, 0] ![1, 1, 128, 512] inb_S4x1x128x512_S1x1x128x512_0_0_0_0, k0_pay28 (F := Ideal) (k0_pay5 (iblk m c 7 t)) (iblk m c 1 t) k0_pay26⟩] y
    = EvenGateSpec.dout (dy m c) (z m c) (o m c) (w m c) (b m c) (ix2 (row t (y 3))
      ⟨(y 0).val * 128 + (y 2).val, by have h0 : (y 0).val < 4 := (y 0).isLt; have h2 : (y 2).val < 128 := (y 2).isLt; omega⟩) := by
  rw [← hdo c t (y 3) _ (row t (y 3)).isLt]
  canon_tiles x h
  · pointwise [k0_pay31]
    blk_ext
  · pointwise [k0_pay30]
    blk_ext
  · pointwise [k0_pay29]
    blk_ext
  · pointwise [k0_pay28]
    blk_ext

theorem block17 (c : Dev nD) (t : Fin cfg0.N) (j : Fin 4) (a : Fin 128) (r : Fin 512) : (outsAt0 (F := Ideal) m c t.val t.isLt).2.2.1 (ix4 j 0 a r)
    = EvenGateSpec.dout (dy m c) (z m c) (o m c) (w m c) (b m c) (ix2 (row t r) ⟨j.val * 128 + a.val, by omega⟩) := by
  by_cases h : t.val % 8 = 0
  · rw [outsAt0_A m c t h]
    frame_out
    exact tiles m c t (ix4 j 0 a r)
  · rw [outsAt0_B m c t h]
    frame_out
    exact tiles m c t (ix4 j 0 a r)

theorem final17 (c : Dev nD) : (dats m 0 c).arrAt 17 (cfgs 0).N = EvenGateSpec.dout_t (dy m c) (z m c) (o m c) (w m c) (b m c) := by
  refine (dats m 0 c).arrAt_eq_of_covers 17 _ (by decide +kernel) fun t _ y => ?_
  blk_simp
  rw [after0_17]
  idx_vars y
  obtain rfl : y1 = 0 := Subsingleton.elim _ _
  unfold EvenGateSpec.dout_t
  rw [block17]
  blk_point [idx t]

/-! ## The gradients of the taps and of the bias -/

/-- A point's part of a tap's gradient: the cotangent times the delayed input. -/
def part (c : Dev nD) (t : Fin cfg0.N) (d : Nat) (k : Fin 512) : EReal :=
  ∑ r : Fin 512, EvenGateSpec.dconv (dy m c) (z m c) (row t r) k * back (fun s => EvenGateSpec.u (z m c) s k) d (row t r)

theorem dconvB_at (c : Dev nD) (t : Fin cfg0.N) (r k : Fin 512) : dconvB m c t (ix2 r k) = EvenGateSpec.dconv (dy m c) (z m c) (row t r) k :=
  hd c t r k _

theorem part0 (c : Dev nD) (t : Fin cfg0.N) (acc : Vec Ideal S1x512 .f32) (k : Fin 512) :
    k0_pay34 (F := Ideal) (dconvB m c t) acc (delayed m c t 6 inb_S520x512_S512x512_6_0) (ix2 0 k) = acc (ix2 0 k) + part m c t 2 k := by
  pointwise [k0_pay34]
  simp only [dconvB_at, delayed_at m c t 6 _ (by omega)]
  rfl

theorem part1 (c : Dev nD) (t : Fin cfg0.N) (acc : Vec Ideal S1x512 .f32) (k : Fin 512) :
    k0_pay35 (F := Ideal) (dconvB m c t) acc (delayed m c t 7 inb_S520x512_S512x512_7_0) (ix2 0 k) = acc (ix2 0 k) + part m c t 1 k := by
  pointwise [k0_pay35]
  simp only [dconvB_at, delayed_at m c t 7 _ (by omega)]
  rfl

theorem part2 (c : Dev nD) (t : Fin cfg0.N) (acc : Vec Ideal S1x512 .f32) (k : Fin 512) :
    k0_pay36 (F := Ideal) (k0_pay6 (iblk m c 4 t) (iblk m c 5 t)) (dconvB m c t) acc (ix2 0 k) = acc (ix2 0 k) + part m c t 0 k := by
  pointwise [k0_pay36]
  simp only [dconvB_at, hu c t _ k (row t _).isLt]
  rfl

/-- Three rows, one above the other. -/
theorem rows {L : List (View.Piece (Elt Ideal) S3x512 .f32)} {p0 p1 p2 : Vec Ideal S1x512 .f32} {x : Fin 3 → EReal} (k : Fin 512)
    (h0 : p0 (ix2 0 k) = x 0) (h1 : p1 (ix2 0 k) = x 1) (h2 : p2 (ix2 0 k) = x 2) (j : Fin 3) :
    View.canon (⟨Rect.unit ![2, 0] ![1, 512] inb_S3x512_S1x512_2_0, p2⟩ :: ⟨Rect.unit ![1, 0] ![1, 512] inb_S3x512_S1x512_1_0, p1⟩
      :: ⟨Rect.unit ![0, 0] ![1, 512] inb_S3x512_S1x512_0_0, p0⟩ :: L) (ix2 j k) = x j := by
  have one : ∀ (o : Nat) (inb : ∀ a, (![o, 0] : Fin 2 → Nat) a + (![1, 512] : Fin 2 → Nat) a ≤ S3x512.size a) (p : Vec Ideal S1x512 .f32) (L : List (View.Piece (Elt Ideal) S3x512 .f32)),
      j.val = o → View.canon (⟨Rect.unit ![o, 0] ![1, 512] inb, p⟩ :: L) (ix2 j k) = p (ix2 0 k) := fun o inb p L h => by
    rw [Pieces.canon_hit o 0 inb p L j k (by omega) (by omega)]
    refine congrArg p (congrArg₂ ix2 (Fin.ext ?_) rfl)
    exact Nat.sub_eq_zero_of_le (le_of_eq h)
  have no : ∀ (o : Nat) (inb : ∀ a, (![o, 0] : Fin 2 → Nat) a + (![1, 512] : Fin 2 → Nat) a ≤ S3x512.size a) (p : Vec Ideal S1x512 .f32) (L : List (View.Piece (Elt Ideal) S3x512 .f32)),
      j.val ≠ o → View.canon (⟨Rect.unit ![o, 0] ![1, 512] inb, p⟩ :: L) (ix2 j k) = View.canon L (ix2 j k) :=
    fun o inb p L h => Pieces.canon_miss o 0 inb p L j k (by omega)
  match j with
  | 0 => rw [no 2 _ _ _ (by decide), no 1 _ _ _ (by decide), one 0 _ _ _ (by decide), h0]
  | 1 => rw [no 2 _ _ _ (by decide), one 1 _ _ _ (by decide), h1]
  | 2 => rw [one 2 _ _ _ (by decide), h2]

theorem zero32 (j : S3x512.Idx) : k0_pay32 (F := Ideal) j = 0 := by pointwise [k0_pay32]

/-- The first point clears the rows. -/
theorem start18 (c : Dev nD) (t : Fin cfg0.N) (h : t.val % 8 = 0) (j : Fin 3) (k : Fin 512) : (outsAt0 (F := Ideal) m c t.val t.isLt).2.2.2.1 (ix2 j k)
    = 0 + part m c t (2 - j.val) k := by
  rw [outsAt0_A m c t h]
  frame_out
  simp (disch := decide) only [↓ View.readCov_skip, ↓ View.readCov_cons_toLoadRect, ↓ View.readCov_fill]
  refine rows (x := fun j => 0 + part m c t (2 - j.val) k) k ((part0 m c t _ k).trans ?_) ((part1 m c t _ k).trans ?_) ((part2 m c t _ k).trans ?_) j
  · rw [ldw _ 0 _ (by decide) k, zero32]
    rfl
  · rw [ldw _ 1 _ (by decide) k, zero32]
    rfl
  · rw [ldw _ 2 _ (by decide) k, zero32]
    rfl

theorem step18 (c : Dev nD) (t : Fin cfg0.N) (h : ¬t.val % 8 = 0) (j : Fin 3) (k : Fin 512) : (outsAt0 (F := Ideal) m c t.val t.isLt).2.2.2.1 (ix2 j k)
    = (outsAt0 (F := Ideal) m c (t.val - 1) (Nat.lt_of_le_of_lt (Nat.sub_le _ _) t.isLt)).2.2.2.1 (ix2 j k) + part m c t (2 - j.val) k := by
  rw [outsAt0_B m c t h]
  frame_out
  refine rows (x := fun j => (outsAt0 (F := Ideal) m c (t.val - 1) (Nat.lt_of_le_of_lt (Nat.sub_le _ _) t.isLt)).2.2.2.1 (ix2 j k) + part m c t (2 - j.val) k) k
    ((part0 m c t _ k).trans ?_) ((part1 m c t _ k).trans ?_) ((part2 m c t _ k).trans ?_) j
  · rw [ldw _ 0 _ (by decide) k]
    rfl
  · rw [ldw _ 1 _ (by decide) k]
    rfl
  · rw [ldw _ 2 _ (by decide) k]
    rfl

theorem final18 (c : Dev nD) : (dats m 0 c).arrAt 18 (cfgs 0).N = EvenGateSpec.dw (dy m c) (z m c) (o m c) (w m c) (b m c) := by
  refine (dats m 0 c).arrAt_eq_of_after_last 18 t0_7 (by decide +kernel) _ fun j => ?_
  blk_simp
  rw [after0_18, Pipeline.eq_sum_fin_of_reset_step_apply_last (fun n h => (outsAt0 m c n h).2.2.2.1) 8 (fun _ => 0) (fun t j => part m c t (2 - (j 0).val) (j 1))
    (fun t h j => by idx_vars j; exact start18 m c t h j0 j1) (fun t h j => by idx_vars j; exact step18 m c t h j0 j1)
    (le_of_eq N_0) t0_7 rfl j, zero_add]
  unfold EvenGateSpec.dw part
  exact Fin.sum_mul_add_congr (S := 8) (n := 512) fun t i hl => rfl

theorem sum37 (c : Dev nD) (t : Fin cfg0.N) (acc : Vec Ideal S1x512 .f32) (j : S1x512.Idx) :
    k0_pay37 (F := Ideal) (dconvB m c t) acc j = acc j + ∑ r : Fin 512, EvenGateSpec.dconv (dy m c) (z m c) (row t r) (j 1) := by
  idx_vars j
  obtain rfl : j0 = 0 := Subsingleton.elim _ _
  pointwise [k0_pay37]
  simp only [dconvB_at]

theorem zero33 (j : S1x512.Idx) : k0_pay33 (F := Ideal) j = 0 := by pointwise [k0_pay33]

theorem final19 (c : Dev nD) : (dats m 0 c).arrAt 19 (cfgs 0).N = EvenGateSpec.db (dy m c) (z m c) (o m c) (w m c) (b m c) := by
  refine (dats m 0 c).arrAt_eq_of_after_last 19 t0_7 (by decide +kernel) _ fun j => ?_
  blk_simp
  rw [after0_19, Pipeline.eq_sum_fin_of_reset_step_apply_last (fun n h => (outsAt0 m c n h).2.2.2.2) 8 (fun _ => 0) _
    (fun t h j => by rw [outsAt0_A m c t h]; frame_out; rw [sum37, zero33])
    (fun t h j => by rw [outsAt0_B m c t h]; frame_out; rw [sum37])
    (le_of_eq N_0) t0_7 rfl j, zero_add]
  unfold EvenGateSpec.db
  exact Fin.sum_mul_add_congr (S := 8) (n := 512) fun t i hl => rfl

end Cert.EvenGateIdeal.Value

end
-- ==== Proof.EvenGate.Terms.lean ====
/- The reference gradient of the even layer's gates, cut into named pieces, and what each piece is entry by entry. -/
module

public import proofs.«01_k».proof.Proof.Gen.EvenGateRefIdeal.Run
public import proofs.«01_k».proof.Proof.EvenGate.Spec

@[expose] public section

set_option maxRecDepth 16384

noncomputable section

namespace Cert.EvenGateRefIdeal.Value

open Cert.EvenGateRefIdeal Cert.EvenGateRefIdeal.Gen Cert.Reals Cert.Taps Cert.Silu Cert.Finite
open Idealize.ShloMosaic Idealize.ShloMosaic.TcCoe Idealize.SL.Sem
open scoped BigOperators

/-- The indicators of the taps, and the taps' combined weight of row `s` in row `t`. -/
def tapT : FVec Ideal S3x4096x4096 .f32 := uitofp .f32 (cmpi .eq (broadcastInDim S3x4096x4096 ![0, 1, 2] bcast_S1x4096x4096_S3x4096x4096_0_1_2 (broadcastInDim S1x4096x4096 ![1, 2] bcast_S4096x4096_S1x4096x4096_1_2 (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S3x4096x4096 ![0, 1, 2] bcast_S3x1x1_S3x4096x4096_0_1_2 (subi (broadcastInDim S3x1x1 ![] bcast_S_S3x1x1 (constantI S_ 32 2#32)) (broadcastInDim S3x1x1 ![0] bcast_S3_S3x1x1_0 (iotaInDim S3 32 0)))))

def coefT (w : FVec Ideal S3x512 .f32) : FVec Ideal S4096x4096x512 .f32 :=
  Host.dotGeneral dot_S3x4096x4096_S3x512_S4096x4096x512_0_0_12_1_n_n none tapT w

/-- The logistic of a column block, and the product of a cotangent with the derivative of `x` times the logistic of `x`. -/
def sigT (x : FVec Ideal S4096x512 .f32) : FVec Ideal S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf x)))

def gateT (g x : FVec Ideal S4096x512 .f32) : FVec Ideal S4096x512 .f32 :=
  addf (mulf g (sigT x)) (mulf (mulf x g) (mulf (sigT x) (subf (broadcastInDim S4096x512 ![] bcast_S_S4096x512 (constant S_ .f32 0x3F800000#32)) (sigT x))))

/-- The column blocks of `z` and `dy` the gradient reads. -/
def z0 (z : FVec Ideal S4096x2976 .f32) : FVec Ideal S4096x512 .f32 := extractStridedSlice S4096x512 ![0, 0] z slices_S4096x2976_S4096x512_0_0
def z512 (z : FVec Ideal S4096x2976 .f32) : FVec Ideal S4096x512 .f32 := extractStridedSlice S4096x512 ![0, 512] z slices_S4096x2976_S4096x512_0_512
def z1024 (z : FVec Ideal S4096x2976 .f32) : FVec Ideal S4096x512 .f32 := extractStridedSlice S4096x512 ![0, 1024] z slices_S4096x2976_S4096x512_0_1024
def z1536 (z : FVec Ideal S4096x2976 .f32) : FVec Ideal S4096x512 .f32 := extractStridedSlice S4096x512 ![0, 1536] z slices_S4096x2976_S4096x512_0_1536
def z2464 (z : FVec Ideal S4096x2976 .f32) : FVec Ideal S4096x512 .f32 := extractStridedSlice S4096x512 ![0, 2464] z slices_S4096x2976_S4096x512_0_2464
def dy0 (dy : FVec Ideal S4096x1024 .f32) : FVec Ideal S4096x512 .f32 := extractStridedSlice S4096x512 ![0, 0] dy slices_S4096x1024_S4096x512_0_0
def dy512 (dy : FVec Ideal S4096x1024 .f32) : FVec Ideal S4096x512 .f32 := extractStridedSlice S4096x512 ![0, 512] dy slices_S4096x1024_S4096x512_0_512

/-- The convolution, its cotangent, and the cotangent of its input. -/
def convT (z : FVec Ideal S4096x2976 .f32) (w : FVec Ideal S3x512 .f32) (b : FVec Ideal S1x512 .f32) : FVec Ideal S4096x512 .f32 :=
  addf (Host.reduceAdd (mulf (coefT w) (broadcastInDim S4096x4096x512 ![0, 1, 2] bcast_S1x4096x512_S4096x4096x512_0_1_2 (broadcastInDim S1x4096x512 ![1, 2] bcast_S4096x512_S1x4096x512_1_2 (mulf (z512 z) (z1024 z))))) (constant S_ .f32 0x00000000#32) reducesTo_S4096x4096x512_S4096x512_d1 h_S_) (broadcastInDim S4096x512 ![0, 1] bcast_S1x512_S4096x512_0_1 b)

def dconvT (dy : FVec Ideal S4096x1024 .f32) (z : FVec Ideal S4096x2976 .f32) : FVec Ideal S4096x512 .f32 :=
  mulf (z0 z) (mulf (dy0 dy) (mulf (z1536 z) (sigT (z1536 z))))

def duT (dy : FVec Ideal S4096x1024 .f32) (z : FVec Ideal S4096x2976 .f32) (w : FVec Ideal S3x512 .f32) : FVec Ideal S4096x512 .f32 :=
  Host.reduceAdd (shapeCast _ (Host.reduceAdd (mulf (coefT w) (broadcastInDim S4096x4096x512 ![0, 2] bcast_S4096x512_S4096x4096x512_0_2 (dconvT dy z))) (constant S_ .f32 0x00000000#32) reducesTo_S4096x4096x512_S4096x512_d0 h_S_) shapeCasts_S4096x512_S1x4096x512) (constant S_ .f32 0x00000000#32) reducesTo_S1x4096x512_S4096x512_d0 h_S_

/-- The cotangent of `z`, and in the padded column order. -/
def dzT (dy : FVec Ideal S4096x1024 .f32) (z : FVec Ideal S4096x2976 .f32) (o : FVec Ideal S4096x512 .f32) (w : FVec Ideal S3x512 .f32) (b : FVec Ideal S1x512 .f32) : FVec Ideal S4096x2976 .f32 :=
  concatenate S4096x2976 1 [⟨S4096x512, mulf (mulf (dy0 dy) (mulf (z1536 z) (sigT (z1536 z)))) (convT z w b)⟩, ⟨S4096x512, mulf (duT dy z w) (z1024 z)⟩, ⟨S4096x512, mulf (z512 z) (duT dy z w)⟩, ⟨S4096x512, gateT (mulf (mulf (z0 z) (convT z w b)) (dy0 dy)) (z1536 z)⟩, ⟨S4096x256, broadcastInDim S4096x256 ![] bcast_S_S4096x256 (constant S_ .f32 0x00000000#32)⟩, ⟨S4096x128, broadcastInDim S4096x128 ![] bcast_S_S4096x128 (constant S_ .f32 0x00000000#32)⟩, ⟨S4096x32, broadcastInDim S4096x32 ![] bcast_S_S4096x32 (constant S_ .f32 0x00000000#32)⟩, ⟨S4096x512, gateT (mulf o (dy512 dy)) (z2464 z)⟩] concatenates_S4096x512_S4096x512_S4096x512_S4096x512_S4096x256_S4096x128_S4096x32_S4096x512_S4096x2976_d1

def padT (x : FVec Ideal S4096x2976 .f32) : FVec Ideal S4096x3072 .bf16 :=
  truncf .bf16 (concatenate S4096x3072 1 [⟨S4096x2432, extractStridedSlice S4096x2432 ![0, 0] x slices_S4096x2976_S4096x2432_0_0⟩, ⟨S4096x64, broadcastInDim S4096x64 ![] bcast_S_S4096x64 (constant S_ .f32 0x00000000#32)⟩, ⟨S4096x32, extractStridedSlice S4096x32 ![0, 2432] x slices_S4096x2976_S4096x32_0_2432⟩, ⟨S4096x32, broadcastInDim S4096x32 ![] bcast_S_S4096x32 (constant S_ .f32 0x00000000#32)⟩, ⟨S4096x512, extractStridedSlice S4096x512 ![0, 2464] x slices_S4096x2976_S4096x512_0_2464⟩] concatenates_S4096x2432_S4096x64_S4096x32_S4096x32_S4096x512_S4096x3072_d1) bitsLt_bf16_f32

theorem res_dz (m : (ℓ : Loc nD τ sig) → Buf (Elt Ideal) ℓ) (c : Dev nD) : res_main_v73 m c
    = padT (dzT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

/-! ## Entry by entry -/

theorem tap_at (j : Fin 3) (t s : Fin 4096) : tapT (ix3 j t s) = if t.val = s.val + (2 - j.val) then 1 else 0 := by
  pointwise [tapT]
  rw [show IntOp.cmpi CmpIPredicate.eq (IntOp.subi (BitVec.ofNat 32 t.val) (BitVec.ofNat 32 s.val)) (IntOp.subi 2#32 (BitVec.ofNat 32 j.val)) = _
    from indicator (by norm_num) (by norm_num) 2 rfl j t s]
  by_cases h : t.val = s.val + (2 - j.val)
  · simp only [h, decide_true, if_true]; exact Cert.Taps.ofBool_true
  · simp only [h, decide_false, if_false]; exact Cert.Taps.ofBool_false

theorem sig_at (x : FVec Ideal S4096x512 .f32) (j : S4096x512.Idx) : sigT x j = logistic (x j) := by
  pointwise [sigT, Cert.Silu.logistic]

theorem gate_at (g x : FVec Ideal S4096x512 .f32) (j : S4096x512.Idx) :
    gateT g x j = g j * logistic (x j) + x j * g j * (logistic (x j) * (1 - logistic (x j))) := by
  pointwise [gateT, sig_at]

theorem coef_at (w : FVec Ideal S3x512 .f32) (t s : Fin 4096) (k : Fin 512) :
    coefT w (ix3 t s k) = ∑ j : Fin 3, (if t.val = s.val + (2 - j.val) then 1 else 0) * w (ix2 j k) := by
  pointwise [coefT, tap_at]

theorem conv_at (z : FVec Ideal S4096x2976 .f32) (w : FVec Ideal S3x512 .f32) (b : FVec Ideal S1x512 .f32) (i : Fin 4096) (k : Fin 512) :
    convT z w b (ix2 i k) = EvenGateSpec.conv z w b i k := by
  pointwise [convT, coef_at, z512, z1024]
  change ∑ s : Fin 4096, (∑ j : Fin 3, (if i.val = s.val + (2 - j.val) then (1 : EReal) else 0) * w (ix2 j k)) * EvenGateSpec.u z s k + _ = _
  rw [Taps.conv (fun j : Fin 3 => 2 - j.val) (fun a b h => Fin.ext (by have := a.isLt; have := b.isLt; simp only at h; omega)) (fun j => w (ix2 j k)) (fun s => EvenGateSpec.u z s k) i]
  simp only [Fin.sum_univ_three, EvenGateSpec.conv, Fin.val_zero, Fin.val_one, Fin.val_two, Nat.reduceSub, back_zero, Nat.sub_zero]
  ac_rfl

theorem dconv_at (dy : FVec Ideal S4096x1024 .f32) (z : FVec Ideal S4096x2976 .f32) (i : Fin 4096) (k : Fin 512) :
    dconvT dy z (ix2 i k) = EvenGateSpec.dconv dy z i k := by
  pointwise [dconvT, z0, dy0, z1536, sig_at, EvenGateSpec.dconv, silu]
  ac_rfl

theorem du_at (dy : FVec Ideal S4096x1024 .f32) (z : FVec Ideal S4096x2976 .f32) (w : FVec Ideal S3x512 .f32) (i : Fin 4096) (k : Fin 512) :
    duT dy z w (ix2 i k) = EvenGateSpec.du dy z w i k := by
  pointwise [duT, coef_at, dconv_at]
  simp only [Fin.sum_univ_one]
  rw [Taps.conv_transpose (fun j : Fin 3 => 2 - j.val) (fun a b h => Fin.ext (by have := a.isLt; have := b.isLt; simp only at h; omega)) (fun j => w (ix2 j k)) (fun s => EvenGateSpec.dconv dy z s k) i]
  simp only [Fin.sum_univ_three, EvenGateSpec.du, Fin.val_zero, Fin.val_one, Fin.val_two, Nat.reduceSub, ahead_zero, Nat.sub_zero]
  ac_rfl

/-- Where the padded columns come from. -/
theorem pad_at (x : FVec Ideal S4096x2976 .f32) (i : Fin 4096) (j : Fin 3072) :
    padT x (ix2 i j) = if h : j.val < 2432 then x (ix2 i ⟨j, by omega⟩) else if h : j.val < 2496 then 0
      else if h : j.val < 2528 then x (ix2 i ⟨j.val - 64, by omega⟩) else if h : j.val < 2560 then 0 else x (ix2 i ⟨j.val - 96, by omega⟩) := by
  pointwise [padT]
  have move : ∀ (p q : Nat) (hp : p < 2976) (hq : q < 2976), p = q → x (ix2 i ⟨p, hp⟩) = x (ix2 i ⟨q, hq⟩) := fun p q hp hq e => by subst e; rfl
  by_cases h0 : j.val < 2432
  · rw [dif_pos h0, dif_pos h0]
  by_cases h1 : j.val < 2496
  · rw [dif_neg h0, dif_neg h0, dif_pos (by omega), dif_pos h1]
  by_cases h2 : j.val < 2528
  · rw [dif_neg h0, dif_neg h0, dif_neg (by omega), dif_neg h1, dif_pos (by omega), dif_pos h2]
    exact move _ _ _ _ (by omega)
  by_cases h3 : j.val < 2560
  · rw [dif_neg h0, dif_neg h0, dif_neg (by omega), dif_neg h1, dif_neg (by omega), dif_neg h2, dif_pos (by omega), dif_pos h3]
  · rw [dif_neg h0, dif_neg h0, dif_neg (by omega), dif_neg h1, dif_neg (by omega), dif_neg h2, dif_neg (by omega), dif_neg h3]
    exact move _ _ _ _ (by omega)

theorem dz_at (dy : FVec Ideal S4096x1024 .f32) (z : FVec Ideal S4096x2976 .f32) (o : FVec Ideal S4096x512 .f32) (w : FVec Ideal S3x512 .f32)
    (b : FVec Ideal S1x512 .f32) (i : Fin 4096) (k : Fin 512) :
    dzT dy z o w b (ix2 i ⟨k, by omega⟩) = mulf (mulf (dy0 dy) (mulf (z1536 z) (sigT (z1536 z)))) (convT z w b) (ix2 i k)
    ∧ dzT dy z o w b (ix2 i ⟨512 + k, by omega⟩) = mulf (duT dy z w) (z1024 z) (ix2 i k)
    ∧ dzT dy z o w b (ix2 i ⟨1024 + k, by omega⟩) = mulf (z512 z) (duT dy z w) (ix2 i k)
    ∧ dzT dy z o w b (ix2 i ⟨1536 + k, by omega⟩) = gateT (mulf (mulf (z0 z) (convT z w b)) (dy0 dy)) (z1536 z) (ix2 i k)
    ∧ dzT dy z o w b (ix2 i ⟨2464 + k, by omega⟩) = gateT (mulf o (dy512 dy)) (z2464 z) (ix2 i k) := by
  refine ⟨?_, ?_, ?_, ?_, ?_⟩
  all_goals pointwise [dzT]
  all_goals repeat (first | rw [dif_pos (by omega)] | rw [dif_neg (by omega)])
  all_goals simp only [Nat.sub_sub, Nat.reduceAdd, Nat.add_sub_cancel_left, Fin.eta]

theorem dz_zero (dy : FVec Ideal S4096x1024 .f32) (z : FVec Ideal S4096x2976 .f32) (o : FVec Ideal S4096x512 .f32) (w : FVec Ideal S3x512 .f32)
    (b : FVec Ideal S1x512 .f32) (i : Fin 4096) (k : Fin 416) : dzT dy z o w b (ix2 i ⟨2048 + k, by omega⟩) = 0 := by
  pointwise [dzT]
  repeat (first | rw [dif_pos (by omega)] | rw [dif_neg (by omega)])
  split_ifs <;> first | rfl | omega

variable {dy : FVec Ideal S4096x1024 .f32} {z : FVec Ideal S4096x2976 .f32} {o : FVec Ideal S4096x512 .f32} {w : FVec Ideal S3x512 .f32}
  {b : FVec Ideal S1x512 .f32}

theorem conv_real (hz : ∀ i, IsReal (z i)) (hw : ∀ i, IsReal (w i)) (hb : ∀ i, IsReal (b i)) (i : Fin 4096) (k : Fin 512) :
    IsReal (EvenGateSpec.conv z w b i k) := by
  have hu : ∀ s, IsReal (EvenGateSpec.u z s k) := fun s => (hz _).mul (hz _)
  exact ((((hw _).mul (hu i)).add ((hw _).mul (back_real hu _ _))).add ((hw _).mul (back_real hu _ _))).add (hb _)

/-- The column blocks, entry by entry. -/
theorem dzOut_at (i : Fin 4096) (k : Fin 512) :
    mulf (mulf (dy0 dy) (mulf (z1536 z) (sigT (z1536 z)))) (convT z w b) (ix2 i k) = EvenGateSpec.dzOut dy z w b i k := by
  pointwise [dy0, z1536, sig_at, conv_at, EvenGateSpec.dzOut, silu]
  ac_rfl

theorem dzIn_at (i : Fin 4096) (k : Fin 512) : mulf (duT dy z w) (z1024 z) (ix2 i k) = EvenGateSpec.dzIn dy z w i k := by
  pointwise [du_at, z1024, EvenGateSpec.dzIn]

theorem dzIn'_at (i : Fin 4096) (k : Fin 512) : mulf (z512 z) (duT dy z w) (ix2 i k) = EvenGateSpec.dzIn' dy z w i k := by
  pointwise [du_at, z512, EvenGateSpec.dzIn']
  ac_rfl

theorem dzGate_at (hdy : ∀ i, IsReal (dy i)) (hz : ∀ i, IsReal (z i)) (hw : ∀ i, IsReal (w i)) (hb : ∀ i, IsReal (b i)) (i : Fin 4096) (k : Fin 512) :
    gateT (mulf (mulf (z0 z) (convT z w b)) (dy0 dy)) (z1536 z) (ix2 i k) = EvenGateSpec.dzGate dy z w b i k := by
  rw [gate_at]
  pointwise [z0, dy0, z1536, conv_at]
  rw [pull (((hz _).mul (conv_real hz hw hb i k)).mul (hdy _)) (hz _), EvenGateSpec.dzGate]
  ac_rfl

theorem dzAtt_at (hdy : ∀ i, IsReal (dy i)) (hz : ∀ i, IsReal (z i)) (ho : ∀ i, IsReal (o i)) (i : Fin 4096) (k : Fin 512) :
    gateT (mulf o (dy512 dy)) (z2464 z) (ix2 i k) = EvenGateSpec.dzAtt dy z o i k := by
  rw [gate_at]
  pointwise [dy512, z2464]
  rw [pull ((ho _).mul (hdy _)) (hz _), EvenGateSpec.dzAtt]
  ac_rfl

/-- The reference's cotangent of `z`, at finite arguments. -/
theorem dz_spec (hdy : ∀ i, IsReal (dy i)) (hz : ∀ i, IsReal (z i)) (ho : ∀ i, IsReal (o i)) (hw : ∀ i, IsReal (w i)) (hb : ∀ i, IsReal (b i)) :
    padT (dzT dy z o w b) = EvenGateSpec.dz dy z o w b := by
  funext j
  idx_vars j
  rw [pad_at]
  change _ = EvenGateSpec.dzAt dy z o w b j0 j1
  unfold EvenGateSpec.dzAt
  have key := dz_at dy z o w b j0
  have move : ∀ (p q : Nat) (hp : p < 2976) (hq : q < 2976), p = q → dzT dy z o w b (ix2 j0 ⟨p, hp⟩) = dzT dy z o w b (ix2 j0 ⟨q, hq⟩) :=
    fun p q hp hq e => by subst e; rfl
  by_cases h0 : j1.val < 512
  · rw [dif_pos (by omega), dif_pos h0, (key ⟨j1, h0⟩).1, dzOut_at]
  by_cases h1 : j1.val < 1024
  · rw [dif_pos (by omega), dif_neg h0, dif_pos h1, ← dzIn_at, ← (key _).2.1]
    exact move _ _ _ _ (by dsimp only; omega)
  by_cases h2 : j1.val < 1536
  · rw [dif_pos (by omega), dif_neg h0, dif_neg h1, dif_pos h2, ← dzIn'_at, ← (key _).2.2.1]
    exact move _ _ _ _ (by dsimp only; omega)
  by_cases h3 : j1.val < 2048
  · rw [dif_pos (by omega), dif_neg h0, dif_neg h1, dif_neg h2, dif_pos h3, ← dzGate_at hdy hz hw hb, ← (key _).2.2.2.1]
    exact move _ _ _ _ (by dsimp only; omega)
  rw [dif_neg h0, dif_neg h1, dif_neg h2, dif_neg h3]
  by_cases h4 : j1.val < 2560
  · have zero : ∀ (p : Nat) (hp : p < 2976), 2048 ≤ p → p < 2464 → dzT dy z o w b (ix2 j0 ⟨p, hp⟩) = 0 := fun p hp hl hu =>
      (move _ _ _ _ (by dsimp only; omega)).trans (dz_zero dy z o w b j0 ⟨p - 2048, by omega⟩)
    rw [dif_pos h4]
    split_ifs
    · exact zero _ _ (by omega) (by omega)
    · rfl
    · exact zero _ _ (by omega) (by omega)
    · rfl
  · rw [dif_neg (by omega), dif_neg (by omega), dif_neg (by omega), dif_neg h4, dif_neg h4, ← dzAtt_at hdy hz ho, ← (key _).2.2.2.2]
    exact move _ _ _ _ (by dsimp only; omega)

/-- The remaining results. -/
def doutT (dy : FVec Ideal S4096x1024 .f32) (z : FVec Ideal S4096x2976 .f32) : FVec Ideal S4096x512 .f32 :=
  mulf (dy512 dy) (mulf (z2464 z) (sigT (z2464 z)))

def turnT (x : FVec Ideal S4096x512 .f32) : FVec Ideal S4x8x128x512 .bf16 :=
  truncf .bf16 (transpose S4x8x128x512 [2, 0, 3, 1] (shapeCast _ x shapeCasts_S4096x512_S8x512x4x128) transposes_S8x512x4x128_S4x8x128x512_2_0_3_1) bitsLt_bf16_f32

def dwT (dy : FVec Ideal S4096x1024 .f32) (z : FVec Ideal S4096x2976 .f32) : FVec Ideal S3x512 .f32 :=
  transpose S3x512 [1, 0] (Host.dotGeneral dot_S4096x4096x512_S3x4096x4096_S512x3_01_12_2_0_n_n none (mulf (broadcastInDim S4096x4096x512 ![0, 2] bcast_S4096x512_S4096x4096x512_0_2 (dconvT dy z)) (broadcastInDim S4096x4096x512 ![0, 1, 2] bcast_S1x4096x512_S4096x4096x512_0_1_2 (broadcastInDim S1x4096x512 ![1, 2] bcast_S4096x512_S1x4096x512_1_2 (mulf (z512 z) (z1024 z))))) tapT) transposes_S512x3_S3x512_1_0

def dbT (dy : FVec Ideal S4096x1024 .f32) (z : FVec Ideal S4096x2976 .f32) : FVec Ideal S1x512 .f32 :=
  shapeCast _ (Host.reduceAdd (dconvT dy z) (constant S_ .f32 0x00000000#32) reducesTo_S4096x512_S512_d0 h_S_) shapeCasts_S512_S1x512

theorem dout_spec : doutT dy z = EvenGateSpec.dout dy z o w b := by
  funext j
  idx_vars j
  pointwise [doutT, dy512, z2464, sig_at, EvenGateSpec.dout, silu]

theorem dout_t_spec : turnT (doutT dy z) = EvenGateSpec.dout_t dy z o w b := by
  rw [dout_spec (o := o) (w := w) (b := b)]
  funext j
  idx_vars j
  pointwise [turnT, EvenGateSpec.dout_t]

theorem dw_spec : dwT dy z = EvenGateSpec.dw dy z o w b := by
  funext j
  idx_vars j
  pointwise [dwT, dconv_at, tap_at, z512, z1024, EvenGateSpec.dw]
  exact tap_grad (2 - j0.val) (fun t => EvenGateSpec.dconv dy z t j1) (fun s => EvenGateSpec.u z s j1)

theorem db_spec : dbT dy z = EvenGateSpec.db dy z o w b := by
  funext j
  idx_vars j
  pointwise [dbT, dconv_at, EvenGateSpec.db]

end Cert.EvenGateRefIdeal.Value

end
-- ==== Proof.EvenGate.Reference.lean ====
/- The reference gradient of the even layer's gates, run: the results are the formulas of `EvenGate/Spec.lean`. -/
module

public import proofs.«01_k».proof.Proof.EvenGate.Terms

@[expose] public section

set_option maxRecDepth 16384

noncomputable section

namespace Cert.EvenGateRefIdeal.Value

open Cert.EvenGateRefIdeal Cert.EvenGateRefIdeal.Gen Cert.Finite
open Idealize.ShloMosaic Idealize.ShloMosaic.TcCoe Idealize.SL.Sem

variable (m : (ℓ : Loc nD τ sig) → Buf (Elt Ideal) ℓ) (ρ : Dev nD → PrngReg)

/-- What the reference leaves in its results, with the arguments as they were. -/
theorem run_spec (h0 : ∀ (c : Dev nD) i, IsReal (m ((c.tc : Thread nD τ).loc main_arg0) i)) (h1 : ∀ (c : Dev nD) i, IsReal (m ((c.tc : Thread nD τ).loc main_arg1) i))
    (h2 : ∀ (c : Dev nD) i, IsReal (m ((c.tc : Thread nD τ).loc main_arg2) i)) (h3 : ∀ (c : Dev nD) i, IsReal (m ((c.tc : Thread nD τ).loc main_arg3) i))
    (h4 : ∀ (c : Dev nD) i, IsReal (m ((c.tc : Thread nD τ).loc main_arg4) i)) :
    θ_run defs (onTc (τ := τ) (main (F := Ideal))) ⟨m, fun _ => 0, ρ⟩ fun r => ∀ c : Dev nD,
      r.2.mem ((c.tc : Thread nD τ).loc main_v73) = EvenGateSpec.dz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v41) = EvenGateSpec.dout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v74) = EvenGateSpec.dout_t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v58) = EvenGateSpec.dw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v49) = EvenGateSpec.db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2⟩) (run m ρ)
  · exact (res_dz m c).trans (dz_spec (h0 c) (h1 c) (h2 c) (h3 c) (h4 c))
  · exact dout_spec
  · exact dout_t_spec
  · exact dw_spec
  · exact db_spec

end Cert.EvenGateRefIdeal.Value

end
-- ==== Proof.EvenGate.Finite.lean ====
/- What the precondition says: every argument is an array of real numbers. -/
module

public import proofs.«01_k».proof.Pre_finite_even_gate
public import proofs.«01_k».proof.Proof.Finite

@[expose] public section

noncomputable section

namespace Cert.Pre_finite_even_gate

open Idealize.ShloMosaic Cert.Finite

instance facts : Facts where
  bcast_S_S4096x1024 := by decide
  reducesTo_S4096x1024_S_d0_1 := by decide
  h_S_ := by decide
  bcast_S_S4096x2976 := by decide
  reducesTo_S4096x2976_S_d0_1 := by decide
  bcast_S_S4096x512 := by decide
  reducesTo_S4096x512_S_d0_1 := by decide
  bcast_S_S3x512 := by decide
  reducesTo_S3x512_S_d0_1 := by decide
  bcast_S_S1x512 := by decide
  reducesTo_S1x512_S_d0_1 := by decide

theorem reals [Facts] {dy : Vec Ideal S4096x1024 .f32} {z : Vec Ideal S4096x2976 .f32} {o : Vec Ideal S4096x512 .f32} {w : Vec Ideal S3x512 .f32} {b : Vec Ideal S1x512 .f32}
    (h : fn (F := Ideal) dy z o w b = fun _ => 1#1) :
    (∀ i, IsReal (dy i)) ∧ (∀ i, IsReal (z i)) ∧ (∀ i, IsReal (o i)) ∧ (∀ i, IsReal (w i)) ∧ (∀ i, IsReal (b i)) := by
  have h0 := congrFun h (fun a => a.elim0)
  obtain ⟨h1, hb⟩ := IntOp.andi_eq_one.mp h0
  obtain ⟨h2, hw⟩ := IntOp.andi_eq_one.mp h1
  obtain ⟨h3, ho⟩ := IntOp.andi_eq_one.mp h2
  obtain ⟨hd, hz⟩ := IntOp.andi_eq_one.mp h3
  exact ⟨of_all dy _ _ _ _ hd, of_all z _ _ _ _ hz, of_all o _ _ _ _ ho, of_all w _ _ _ _ hw, of_all b _ _ _ _ hb⟩

end Cert.Pre_finite_even_gate

end
-- ==== Proof.EvenGate.Claims.lean ====
/- The claims about the backward call of the gated convolution and the attention's gate: its frames, and its results
   against the reference's. -/
module

public import proofs.«01_k».proof.Defs
public import proofs.«01_k».proof.Proof.Gen.EvenGate.Frame
public import proofs.«01_k».proof.Proof.EvenGate.Outputs
public import proofs.«01_k».proof.Proof.Gen.EvenGateIdeal.Value
public import proofs.«01_k».proof.Proof.EvenGate.Reference
public import proofs.«01_k».proof.Proof.EvenGate.Finite
public import Idealize.ShloMosaic.Lib.Claim

@[expose] public section

set_option maxRecDepth 16384

noncomputable section

namespace Cert.EvenGateClaims

open Idealize.ShloMosaic Idealize.SL.Sem

theorem frame_bits : Cert.quiescent_EvenGate := fun m ρ _ => Cert.EvenGate.Gen.frame m ρ

theorem frame_ideal : Cert.quiescent_EvenGateIdeal := fun m ρ _ => Cert.EvenGateIdeal.Gen.frame m ρ

theorem frame_ref : Cert.quiescent_EvenGateRefIdeal := fun m ρ _ =>
  (θ_run Cert.EvenGateRefIdeal.defs _ _).mono (fun _ h => ⟨fun c => (h c).2.2.2.2.2, sem_eq_zero_of_no_sems rfl _⟩)
    (Cert.EvenGateRefIdeal.Value.run m ρ)

theorem value : Cert.algebraic_EvenGateIdeal_EvenGateRefIdeal_pre_finite_even_gate := by
  intro m g m' g' hp ha
  have hr := fun c => Cert.Pre_finite_even_gate.reals (h := hp c)
  refine ⟨_, _, _, _, _, Cert.EvenGateIdeal.Value.run_blocks m g, (θ_run Cert.EvenGateRefIdeal.defs _ _).mono (fun r h c => ?_)
    (Cert.EvenGateRefIdeal.Value.run_spec m' g' ?_ ?_ ?_ ?_ ?_)⟩
  · obtain ⟨a0, a1, a2, a3, a4⟩ := ha c
    have h := h c
    rw [a0, a1, a2, a3, a4] at h
    exact ⟨h.1.trans (Cert.EvenGateIdeal.Value.final15 m c).symm, h.2.1.trans (Cert.EvenGateIdeal.Value.final16 m c).symm,
      h.2.2.1.trans (Cert.EvenGateIdeal.Value.final17 m c).symm, h.2.2.2.1.trans (Cert.EvenGateIdeal.Value.final18 m c).symm,
      h.2.2.2.2.1.trans (Cert.EvenGateIdeal.Value.final19 m c).symm,
      h.2.2.2.2.2.1.trans a0.symm, h.2.2.2.2.2.2.1.trans a1.symm, h.2.2.2.2.2.2.2.1.trans a2.symm, h.2.2.2.2.2.2.2.2.1.trans a3.symm, h.2.2.2.2.2.2.2.2.2.trans a4.symm⟩
  · exact fun c i => by rw [(ha c).1]; exact (hr c).1 i
  · exact fun c i => by rw [(ha c).2.1]; exact (hr c).2.1 i
  · exact fun c i => by rw [(ha c).2.2.1]; exact (hr c).2.2.1 i
  · exact fun c i => by rw [(ha c).2.2.2.1]; exact (hr c).2.2.2.1 i
  · exact fun c i => by rw [(ha c).2.2.2.2]; exact (hr c).2.2.2.2 i

end Cert.EvenGateClaims

end
-- ==== Proof.Attn.Loop.lean ====
/- The counted loop of the attention gradient's body.

After the diagonal block (and, where their number is odd, one further block) the body goes through the later query
blocks two at a time. A trip reads the queries, the cotangent, the output and the log sums of its two blocks, adds to
the two scratch accumulators (the transposed gradients of keys and values) and adds to the two blocks' rows of the
query gradient. -/
module

public import proofs.«01_k».proof.Proof.Gen.AttnIdeal.Loops
public import proofs.«01_k».proof.Proof.Gen.AttnIdeal.Frame

@[expose] public section

set_option maxRecDepth 8192
set_option maxHeartbeats 4000000

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Which block a step works on -/

/-- The query block of the first step of trip `k`, for key block `i 2`. -/
abbrev blockA (i : grid0.Coords) (k : ℕ) : ℕ := (i 2).val + 1 + (7 - (i 2).val) % 2 + 2 * k

theorem off11_fst : ∀ (i : grid0.Coords) (k : Fin (k0_t1_loop i).trips), k0_off11 i k 1#32 = ![0, 512 * blockA i k.val, 0] := by decide +kernel
theorem off11_snd : ∀ (i : grid0.Coords) (k : Fin (k0_t1_loop i).trips), k0_off11 i k 2#32 = ![0, 512 * (blockA i k.val + 1), 0] := by decide +kernel
theorem off12_fst : ∀ (i : grid0.Coords) (k : Fin (k0_t1_loop i).trips), k0_off12 i k 1#32 = ![512 * blockA i k.val, 0] := by decide +kernel
theorem off12_snd : ∀ (i : grid0.Coords) (k : Fin (k0_t1_loop i).trips), k0_off12 i k 2#32 = ![512 * (blockA i k.val + 1), 0] := by decide +kernel
theorem off13_fst : ∀ (i : grid0.Coords) (k : Fin (k0_t1_loop i).trips), k0_off13 i k 1#32 = ![0, 512 * blockA i k.val, 0] := by decide +kernel
theorem off13_snd : ∀ (i : grid0.Coords) (k : Fin (k0_t1_loop i).trips), k0_off13 i k 2#32 = ![0, 512 * (blockA i k.val + 1), 0] := by decide +kernel
theorem off14_fst : ∀ (i : grid0.Coords) (k : Fin (k0_t1_loop i).trips), k0_off14 i k 1#32 = ![0, blockA i k.val, 0, 0] := by decide +kernel
theorem off14_snd : ∀ (i : grid0.Coords) (k : Fin (k0_t1_loop i).trips), k0_off14 i k 2#32 = ![0, blockA i k.val + 1, 0, 0] := by decide +kernel
theorem off15_fst : ∀ (i : grid0.Coords) (k : Fin (k0_t1_loop i).trips), k0_off15 i k 1#32 = ![0, blockA i k.val, 0, 0] := by decide +kernel
theorem off15_snd : ∀ (i : grid0.Coords) (k : Fin (k0_t1_loop i).trips), k0_off15 i k 2#32 = ![0, blockA i k.val + 1, 0, 0] := by decide +kernel

instance (i : grid0.Coords) (k : Fin (k0_t1_loop i).trips) : ClosedOff (k0_off11 i k 1#32) := ⟨_, off11_fst i k⟩
instance (i : grid0.Coords) (k : Fin (k0_t1_loop i).trips) : ClosedOff (k0_off11 i k 2#32) := ⟨_, off11_snd i k⟩
instance (i : grid0.Coords) (k : Fin (k0_t1_loop i).trips) : ClosedOff (k0_off12 i k 1#32) := ⟨_, off12_fst i k⟩
instance (i : grid0.Coords) (k : Fin (k0_t1_loop i).trips) : ClosedOff (k0_off12 i k 2#32) := ⟨_, off12_snd i k⟩
instance (i : grid0.Coords) (k : Fin (k0_t1_loop i).trips) : ClosedOff (k0_off13 i k 1#32) := ⟨_, off13_fst i k⟩
instance (i : grid0.Coords) (k : Fin (k0_t1_loop i).trips) : ClosedOff (k0_off13 i k 2#32) := ⟨_, off13_snd i k⟩
instance (i : grid0.Coords) (k : Fin (k0_t1_loop i).trips) : ClosedOff (k0_off14 i k 1#32) := ⟨_, off14_fst i k⟩
instance (i : grid0.Coords) (k : Fin (k0_t1_loop i).trips) : ClosedOff (k0_off14 i k 2#32) := ⟨_, off14_snd i k⟩
instance (i : grid0.Coords) (k : Fin (k0_t1_loop i).trips) : ClosedOff (k0_off15 i k 1#32) := ⟨_, off15_fst i k⟩
instance (i : grid0.Coords) (k : Fin (k0_t1_loop i).trips) : ClosedOff (k0_off15 i k 2#32) := ⟨_, off15_snd i k⟩

/-- The number of trips: half of what is left after the diagonal block and the odd one. -/
theorem trips1_eq : ∀ i : grid0.Coords, (k0_t1_loop i).trips = (7 - (i 2).val) / 2 := by decide +kernel
/-- The loop over what halving leaves has no trip. -/
theorem trips2_eq : ∀ i : grid0.Coords, (k0_t2_loop i).trips = 0 := by decide +kernel

/-! ## One trip -/

section Trip

variable (c : Dev nD) (i : grid0.Coords)
  (arg3 : Memref sig .tc .vmem S1x4096x128 .bf16) (harg3 : arg3.IsWhole)
  (arg4 : Memref sig .tc .vmem S1x8x128x512 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S4096x128 .f32) (harg7 : arg7.IsWhole)
  (arg8 : Memref sig .tc .vmem S1x8x128x512 .bf16) (harg8 : arg8.IsWhole)
  (arg9 : Memref sig .tc .vmem S4096x128 .f32) (harg9 : arg9.IsWhole)
  (arg10 : Memref sig .tc .vmem S1x4096x1 .f32) (harg10 : arg10.IsWhole)
  (arg11 : Memref sig .tc .vmem S1x4096x128 .f32) (harg11 : arg11.IsWhole)
  (arg12 : Memref sig .tc .vmem S1x512x128 .f32) (harg12 : arg12.IsWhole)
  (arg13 : Memref sig .tc .vmem S1x512x128 .f32) (harg13 : arg13.IsWhole)
  (arg14 : Memref sig .tc .vmem S128x512 .f32) (harg14 : arg14.IsWhole)
  (arg15 : Memref sig .tc .vmem S128x512 .f32) (harg15 : arg15.IsWhole)
  (arg2 : BitVec 32) (v4 v6 : FVec F S512x128 .bf16) (v11 : IVec S512x128 1) (v106 : BitVec 32) (v107 : BitVec 1)
  (q : Buf (Elt F) (arg3.view.loc (c : Thread nD τ))) (qt : Buf (Elt F) (arg4.view.loc (c : Thread nD τ)))
  (g : Buf (Elt F) (arg7.view.loc (c : Thread nD τ))) (gt : Buf (Elt F) (arg8.view.loc (c : Thread nD τ)))
  (o : Buf (Elt F) (arg9.view.loc (c : Thread nD τ))) (ls : Buf (Elt F) (arg10.view.loc (c : Thread nD τ)))

/-- A whole staging buffer at given contents. -/
abbrev holds {S : Shape} {e : EltTy} (a : Memref sig .tc .vmem S e) (f : Buf (Elt F) (a.view.loc (c : Thread nD τ))) : sProp 𝕄 :=
  a.view.loc (c : Thread nD τ) ↦[a.view.set]{fullShare} f

/-- What the loop touches: the inputs it reads at their contents, and the query gradient and the two accumulators. -/
abbrev touched (f11 : Buf (Elt F) (arg11.view.loc (c : Thread nD τ))) (f14 : Buf (Elt F) (arg14.view.loc (c : Thread nD τ)))
    (f15 : Buf (Elt F) (arg15.view.loc (c : Thread nD τ))) : sProp 𝕄 :=
  iprop(holds c arg3 q ∗ holds c arg4 qt ∗ holds c arg7 g ∗ holds c arg8 gt ∗ holds c arg9 o ∗ holds c arg10 ls
    ∗ holds c arg11 f11 ∗ holds c arg14 f14 ∗ holds c arg15 f15)

set_option backward.proofsInPublic true in
/-- One trip, what it writes to the three buffers to be found. -/
def tripRun (k : Fin (k0_t1_loop i).trips)
    (f11 : Buf (Elt F) (arg11.view.loc (c : Thread nD τ))) (f14 : Buf (Elt F) (arg14.view.loc (c : Thread nD τ)))
    (f15 : Buf (Elt F) (arg15.view.loc (c : Thread nD τ))) :
    Σ' (L11 : List (View.Piece (Elt F) S1x4096x128 .f32)) (L14 : List (View.Piece (Elt F) S128x512 .f32)),
      { L15 : List (View.Piece (Elt F) S128x512 .f32) //
        touched c arg3 arg4 arg7 arg8 arg9 arg10 arg11 arg14 arg15 q qt g gt o ls f11 f14 f15 ⊢
          wp frame (wpE (defs₀ (F := F)) Variants.none (c : Thread nD τ) none) Set.univ
            (k0_t1_body (F := F) i arg3 harg3 arg4 harg4 arg5 harg5 arg6 harg6 arg7 harg7 arg8 harg8 arg9 harg9 arg10 harg10 arg11 harg11 arg12 harg12 arg13 harg13 arg14 harg14 arg15 harg15 arg2 v4 v6 v11 v106 v107 k ())
            (fun _ => touched c arg3 arg4 arg7 arg8 arg9 arg10 arg11 arg14 arg15 q qt g gt o ls
              (arg11.view.writes (Elt F) f11 L11) (arg14.view.writes (Elt F) f14 L14) (arg15.view.writes (Elt F) f15 L15)) } := by
  refine ⟨?_, ?_, ?_, ?run⟩
  case run =>
    dsimp only [touched]
    iintro ⟨H3, H4, H7, H8, H9, H10, H11, H14, H15⟩
    sl_unfold [k0_t1_body]
    simp only [k0_part2_eq_skeleton, k0_part3_eq_skeleton, k0_part4_eq_skeleton]
    sl_exec
    sl_step
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H14]; · iexact H14
    iexact H15

/-- The three buffers the loop adds to. -/
structure Accs where
  dq : Buf (Elt F) (arg11.view.loc (c : Thread nD τ))
  dkT : Buf (Elt F) (arg14.view.loc (c : Thread nD τ))
  dvT : Buf (Elt F) (arg15.view.loc (c : Thread nD τ))

/-- The run of trip `k` from given contents. -/
abbrev trip (k : Fin (k0_t1_loop i).trips) (a : Accs (F := F) c arg11 arg14 arg15) :=
  tripRun c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls k a.dq a.dkT a.dvT

/-- What the three buffers hold before trip `k`. -/
def accs (a : Accs (F := F) c arg11 arg14 arg15) : ℕ → Accs (F := F) c arg11 arg14 arg15
  | 0 => a
  | k + 1 =>
    if h : k < (k0_t1_loop i).trips then
      ⟨arg11.view.writes (Elt F) (accs a k).dq (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨k, h⟩ (accs a k)).1,
       arg14.view.writes (Elt F) (accs a k).dkT (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨k, h⟩ (accs a k)).2.1,
       arg15.view.writes (Elt F) (accs a k).dvT (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨k, h⟩ (accs a k)).2.2.1⟩
    else accs a k

theorem accs_succ (a : Accs (F := F) c arg11 arg14 arg15) (k : Fin (k0_t1_loop i).trips) :
    accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls a (k.val + 1)
      = (let b := accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls a k.val
         let r := trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls k b
         ⟨arg11.view.writes (Elt F) b.dq r.1, arg14.view.writes (Elt F) b.dkT r.2.1, arg15.view.writes (Elt F) b.dvT r.2.2.1⟩) := by
  rw [accs, dif_pos k.isLt]

/-- The query gradient before trip `k`, from the contents the loop finds. -/
def dqAt (f11 : Buf (Elt F) (arg11.view.loc (c : Thread nD τ))) (f14 : Buf (Elt F) (arg14.view.loc (c : Thread nD τ)))
    (f15 : Buf (Elt F) (arg15.view.loc (c : Thread nD τ))) : ℕ → Buf (Elt F) (arg11.view.loc (c : Thread nD τ))
  | 0 => f11
  | k + 1 => (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨f11, f14, f15⟩ (k + 1)).dq

theorem dqAt_eq (f11 : Buf (Elt F) (arg11.view.loc (c : Thread nD τ))) (f14 : Buf (Elt F) (arg14.view.loc (c : Thread nD τ)))
    (f15 : Buf (Elt F) (arg15.view.loc (c : Thread nD τ))) (k : ℕ) :
    dqAt c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls f11 f14 f15 k = (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨f11, f14, f15⟩ k).dq := by
  cases k <;> rfl

/-- The accumulator of keys before trip `k`, from the contents the loop finds. -/
def dkAt (f11 : Buf (Elt F) (arg11.view.loc (c : Thread nD τ))) (f14 : Buf (Elt F) (arg14.view.loc (c : Thread nD τ)))
    (f15 : Buf (Elt F) (arg15.view.loc (c : Thread nD τ))) : ℕ → Buf (Elt F) (arg14.view.loc (c : Thread nD τ))
  | 0 => f14
  | k + 1 => (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨f11, f14, f15⟩ (k + 1)).dkT

theorem dkAt_eq (f11 : Buf (Elt F) (arg11.view.loc (c : Thread nD τ))) (f14 : Buf (Elt F) (arg14.view.loc (c : Thread nD τ)))
    (f15 : Buf (Elt F) (arg15.view.loc (c : Thread nD τ))) (k : ℕ) :
    dkAt c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls f11 f14 f15 k = (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨f11, f14, f15⟩ k).dkT := by
  cases k <;> rfl

/-- The accumulator of values before trip `k`, from the contents the loop finds. -/
def dvAt (f11 : Buf (Elt F) (arg11.view.loc (c : Thread nD τ))) (f14 : Buf (Elt F) (arg14.view.loc (c : Thread nD τ)))
    (f15 : Buf (Elt F) (arg15.view.loc (c : Thread nD τ))) : ℕ → Buf (Elt F) (arg15.view.loc (c : Thread nD τ))
  | 0 => f15
  | k + 1 => (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨f11, f14, f15⟩ (k + 1)).dvT

theorem dvAt_eq (f11 : Buf (Elt F) (arg11.view.loc (c : Thread nD τ))) (f14 : Buf (Elt F) (arg14.view.loc (c : Thread nD τ)))
    (f15 : Buf (Elt F) (arg15.view.loc (c : Thread nD τ))) (k : ℕ) :
    dvAt c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls f11 f14 f15 k = (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨f11, f14, f15⟩ k).dvT := by
  cases k <;> rfl

set_option warn.classDefReducibility false in
/-- The loop's invariant: the buffers hold what the trips before wrote. -/
@[sl_loop] def loopInv1 (f11 : Buf (Elt F) (arg11.view.loc (c : Thread nD τ))) (f14 : Buf (Elt F) (arg14.view.loc (c : Thread nD τ)))
    (f15 : Buf (Elt F) (arg15.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 v4 v6 v11 v106 v107 where
  inv k _ := touched c arg3 arg4 arg7 arg8 arg9 arg10 arg11 arg14 arg15 q qt g gt o ls
    (dqAt c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls f11 f14 f15 k)
    (dkAt c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls f11 f14 f15 k)
    (dvAt c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls f11 f14 f15 k)
  step k _ := by
    simp only [dqAt_eq, dkAt_eq, dvAt_eq]
    rw [accs_succ]
    iintro H
    iapply (wp_wand_r Idealize.ShloMosaic.frame (wpE (defs₀ (F := F)) Variants.none (c : Thread nD τ) none) Set.univ)
    isplitl [H]
    · iapply (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls k _).2.2.2; iexact H
    · iintro %_ H'
      iexact H'

set_option warn.classDefReducibility false in
/-- The invariant of the loop without trips. -/
@[sl_loop] def loopInv2 (v132 : BitVec 32) (f11 : Buf (Elt F) (arg11.view.loc (c : Thread nD τ))) (f14 : Buf (Elt F) (arg14.view.loc (c : Thread nD τ)))
    (f15 : Buf (Elt F) (arg15.view.loc (c : Thread nD τ))) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 v4 v6 v11 v106 v107 v132 where
  inv _ _ := touched c arg3 arg4 arg7 arg8 arg9 arg10 arg11 arg14 arg15 q qt g gt o ls f11 f14 f15
  step k _ := (Nat.not_lt_zero _ (Nat.lt_of_lt_of_eq k.isLt (trips2_eq i))).elim

end Trip

end Cert.AttnIdeal.Run

end
-- ==== Proof.Attn.Body.lean ====
/- The body of the attention gradient, run once.

It takes the staged blocks at any contents. What it leaves in the query gradient's block (added to from one key block
to the next) and in the two accumulators, and what it writes to the key's and the value's gradients, is found by the
run. There are three cases: the first key block, which also clears the query gradient; a later key block with an odd
number of query blocks after its own; and one with an even number. -/
module

public import proofs.«01_k».proof.Proof.Attn.Loop

@[expose] public section

set_option maxRecDepth 8192
set_option maxHeartbeats 4000000

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The key block is the first. -/
abbrev first (i : grid0.Coords) : Prop :=
  Scalar.cmpi .ne (Scalar.extui (Scalar.cmpi .eq (BitVec.ofNat 32 (i 2).val) 0#32)) 0#32 = 1#1

section Body

variable (c : Dev nD) (i : grid0.Coords)
  (arg3 : Memref sig .tc .vmem S1x4096x128 .bf16) (harg3 : arg3.IsWhole)
  (arg4 : Memref sig .tc .vmem S1x8x128x512 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S4096x128 .f32) (harg7 : arg7.IsWhole)
  (arg8 : Memref sig .tc .vmem S1x8x128x512 .bf16) (harg8 : arg8.IsWhole)
  (arg9 : Memref sig .tc .vmem S4096x128 .f32) (harg9 : arg9.IsWhole)
  (arg10 : Memref sig .tc .vmem S1x4096x1 .f32) (harg10 : arg10.IsWhole)
  (arg11 : Memref sig .tc .vmem S1x4096x128 .f32) (harg11 : arg11.IsWhole)
  (arg12 : Memref sig .tc .vmem S1x512x128 .f32) (harg12 : arg12.IsWhole)
  (arg13 : Memref sig .tc .vmem S1x512x128 .f32) (harg13 : arg13.IsWhole)
  (arg14 : Memref sig .tc .vmem S128x512 .f32) (harg14 : arg14.IsWhole)
  (arg15 : Memref sig .tc .vmem S128x512 .f32) (harg15 : arg15.IsWhole)
  (q : Buf (Elt F) (arg3.view.loc (c : Thread nD τ))) (qt : Buf (Elt F) (arg4.view.loc (c : Thread nD τ)))
  (kb : Buf (Elt F) (arg5.view.loc (c : Thread nD τ))) (vb : Buf (Elt F) (arg6.view.loc (c : Thread nD τ)))
  (g : Buf (Elt F) (arg7.view.loc (c : Thread nD τ))) (gt : Buf (Elt F) (arg8.view.loc (c : Thread nD τ)))
  (o : Buf (Elt F) (arg9.view.loc (c : Thread nD τ))) (ls : Buf (Elt F) (arg10.view.loc (c : Thread nD τ)))
  (f11 : Buf (Elt F) (arg11.view.loc (c : Thread nD τ)))
  (f14 : Buf (Elt F) (arg14.view.loc (c : Thread nD τ))) (f15 : Buf (Elt F) (arg15.view.loc (c : Thread nD τ)))

/-- The staging buffers and the two accumulators at given contents. -/
abbrev staged (q : Buf (Elt F) (arg3.view.loc (c : Thread nD τ))) (qt : Buf (Elt F) (arg4.view.loc (c : Thread nD τ)))
    (kb : Buf (Elt F) (arg5.view.loc (c : Thread nD τ))) (vb : Buf (Elt F) (arg6.view.loc (c : Thread nD τ)))
    (g : Buf (Elt F) (arg7.view.loc (c : Thread nD τ))) (gt : Buf (Elt F) (arg8.view.loc (c : Thread nD τ)))
    (o : Buf (Elt F) (arg9.view.loc (c : Thread nD τ))) (ls : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) : sProp 𝕄 :=
  iprop(holds c arg3 q ∗ holds c arg4 qt ∗ holds c arg5 kb ∗ holds c arg6 vb ∗ holds c arg7 g ∗ holds c arg8 gt ∗ holds c arg9 o
    ∗ holds c arg10 ls ∗ holds c arg11 f11 ∗ holds c arg12 f12 ∗ holds c arg13 f13 ∗ holds c arg14 f14 ∗ holds c arg15 f15)

set_option backward.proofsInPublic true in
/-- The body at the first key block. -/
def runA (h0 : first i) (h1 : k0_cond2 i = 1#1) :
    Σ' (R11 : Buf (Elt F) (arg11.view.loc (c : Thread nD τ))) (R14 : Buf (Elt F) (arg14.view.loc (c : Thread nD τ)))
      (R15 : Buf (Elt F) (arg15.view.loc (c : Thread nD τ))) (L12 : List (View.Piece (Elt F) S1x512x128 .f32)),
      { L13 : List (View.Piece (Elt F) S1x512x128 .f32) //
        ∀ (f12 : Buf (Elt F) (arg12.view.loc (c : Thread nD τ))) (f13 : Buf (Elt F) (arg13.view.loc (c : Thread nD τ))),
          staged c arg3 arg4 arg5 arg6 arg7 arg8 arg9 arg10 arg11 arg12 arg13 arg14 arg15 q qt kb vb g gt o ls f11 f12 f13 f14 f15 ⊢
            wp frame (wpE (defs₀ (F := F)) Variants.none (c : Thread nD τ) none) Set.univ
              (cc0_attn_bwd (F := F) i arg3 harg3 arg4 harg4 arg5 harg5 arg6 harg6 arg7 harg7 arg8 harg8 arg9 harg9 arg10 harg10 arg11 harg11 arg12 harg12 arg13 harg13 arg14 harg14 arg15 harg15)
              (fun _ => staged c arg3 arg4 arg5 arg6 arg7 arg8 arg9 arg10 arg11 arg12 arg13 arg14 arg15 q qt kb vb g gt o ls
                R11 (arg12.view.writes (Elt F) f12 L12) (arg13.view.writes (Elt F) f13 L13) R14 R15) } := by
  refine ⟨?_, ?_, ?_, ?_, ?_, fun f12 f13 => ?run⟩
  case run =>
    simp only [cc0_attn_bwd_eq_skeleton]; unfold cc0_attn_bwd_skel
    simp only [k0_part1_eq_skeleton, k0_part8_eq_skeleton, k0_part9_eq_skeleton, k0_part10_eq_skeleton, k0_part11_eq_skeleton]
    dsimp only [staged]
    iintro ⟨H3, H4, H5, H6, H7, H8, H9, H10, H11, H12, H13, H14, H15⟩
    sl_exec (disch := first | sl_exact h0 | sl_exact h1)
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option backward.proofsInPublic true in
/-- The body at a later key block, an odd number of query blocks after it. -/
def runB (h0 : ¬ first i) (h1 : k0_cond2 i = 1#1) :
    Σ' (R11 : Buf (Elt F) (arg11.view.loc (c : Thread nD τ))) (R14 : Buf (Elt F) (arg14.view.loc (c : Thread nD τ)))
      (R15 : Buf (Elt F) (arg15.view.loc (c : Thread nD τ))) (L12 : List (View.Piece (Elt F) S1x512x128 .f32)),
      { L13 : List (View.Piece (Elt F) S1x512x128 .f32) //
        ∀ (f12 : Buf (Elt F) (arg12.view.loc (c : Thread nD τ))) (f13 : Buf (Elt F) (arg13.view.loc (c : Thread nD τ))),
          staged c arg3 arg4 arg5 arg6 arg7 arg8 arg9 arg10 arg11 arg12 arg13 arg14 arg15 q qt kb vb g gt o ls f11 f12 f13 f14 f15 ⊢
            wp frame (wpE (defs₀ (F := F)) Variants.none (c : Thread nD τ) none) Set.univ
              (cc0_attn_bwd (F := F) i arg3 harg3 arg4 harg4 arg5 harg5 arg6 harg6 arg7 harg7 arg8 harg8 arg9 harg9 arg10 harg10 arg11 harg11 arg12 harg12 arg13 harg13 arg14 harg14 arg15 harg15)
              (fun _ => staged c arg3 arg4 arg5 arg6 arg7 arg8 arg9 arg10 arg11 arg12 arg13 arg14 arg15 q qt kb vb g gt o ls
                R11 (arg12.view.writes (Elt F) f12 L12) (arg13.view.writes (Elt F) f13 L13) R14 R15) } := by
  refine ⟨?_, ?_, ?_, ?_, ?_, fun f12 f13 => ?run⟩
  case run =>
    simp only [cc0_attn_bwd_eq_skeleton]; unfold cc0_attn_bwd_skel
    simp only [k0_part1_eq_skeleton, k0_part8_eq_skeleton, k0_part9_eq_skeleton, k0_part10_eq_skeleton, k0_part11_eq_skeleton]
    dsimp only [staged]
    iintro ⟨H3, H4, H5, H6, H7, H8, H9, H10, H11, H12, H13, H14, H15⟩
    sl_exec (disch := first | sl_exact h0 | sl_exact h1)
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

set_option backward.proofsInPublic true in
/-- The body at a later key block, an even number of query blocks after it. -/
def runC (h0 : ¬ first i) (h1 : ¬ k0_cond2 i = 1#1) :
    Σ' (R11 : Buf (Elt F) (arg11.view.loc (c : Thread nD τ))) (R14 : Buf (Elt F) (arg14.view.loc (c : Thread nD τ)))
      (R15 : Buf (Elt F) (arg15.view.loc (c : Thread nD τ))) (L12 : List (View.Piece (Elt F) S1x512x128 .f32)),
      { L13 : List (View.Piece (Elt F) S1x512x128 .f32) //
        ∀ (f12 : Buf (Elt F) (arg12.view.loc (c : Thread nD τ))) (f13 : Buf (Elt F) (arg13.view.loc (c : Thread nD τ))),
          staged c arg3 arg4 arg5 arg6 arg7 arg8 arg9 arg10 arg11 arg12 arg13 arg14 arg15 q qt kb vb g gt o ls f11 f12 f13 f14 f15 ⊢
            wp frame (wpE (defs₀ (F := F)) Variants.none (c : Thread nD τ) none) Set.univ
              (cc0_attn_bwd (F := F) i arg3 harg3 arg4 harg4 arg5 harg5 arg6 harg6 arg7 harg7 arg8 harg8 arg9 harg9 arg10 harg10 arg11 harg11 arg12 harg12 arg13 harg13 arg14 harg14 arg15 harg15)
              (fun _ => staged c arg3 arg4 arg5 arg6 arg7 arg8 arg9 arg10 arg11 arg12 arg13 arg14 arg15 q qt kb vb g gt o ls
                R11 (arg12.view.writes (Elt F) f12 L12) (arg13.view.writes (Elt F) f13 L13) R14 R15) } := by
  refine ⟨?_, ?_, ?_, ?_, ?_, fun f12 f13 => ?run⟩
  case run =>
    simp only [cc0_attn_bwd_eq_skeleton]; unfold cc0_attn_bwd_skel
    simp only [k0_part1_eq_skeleton, k0_part8_eq_skeleton, k0_part9_eq_skeleton, k0_part10_eq_skeleton, k0_part11_eq_skeleton]
    dsimp only [staged]
    iintro ⟨H3, H4, H5, H6, H7, H8, H9, H10, H11, H12, H13, H14, H15⟩
    sl_exec (disch := first | sl_exact h0 | sl_exact h1)
    sl_step
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Body

end Cert.AttnIdeal.Run

end
-- ==== Proof.Attn.Step.lean ====
/- One grid point of the attention gradient, over the values its blocks read.

`left` is what a point leaves in the three result blocks, from the values of the input blocks and of the query gradient
so far; `point` is the body's triple stated over these values. It is proved once for any run of the body whose results do
not depend on what the accumulators held, and used for the three cases. -/
module

public import proofs.«01_k».proof.Proof.Attn.Body
public import proofs.«01_k».proof.Proof.Gen.AttnIdeal.Frame

@[expose] public section

set_option maxRecDepth 16384
set_option maxHeartbeats 4000000

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Point

variable (c : Dev nD) (i : grid0.Coords)
  (arg3 : Memref sig .tc .vmem S1x4096x128 .bf16) (harg3 : arg3.IsWhole)
  (arg4 : Memref sig .tc .vmem S1x8x128x512 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S4096x128 .f32) (harg7 : arg7.IsWhole)
  (arg8 : Memref sig .tc .vmem S1x8x128x512 .bf16) (harg8 : arg8.IsWhole)
  (arg9 : Memref sig .tc .vmem S4096x128 .f32) (harg9 : arg9.IsWhole)
  (arg10 : Memref sig .tc .vmem S1x4096x1 .f32) (harg10 : arg10.IsWhole)
  (arg11 : Memref sig .tc .vmem S1x4096x128 .f32) (harg11 : arg11.IsWhole)
  (arg12 : Memref sig .tc .vmem S1x512x128 .f32) (harg12 : arg12.IsWhole)
  (arg13 : Memref sig .tc .vmem S1x512x128 .f32) (harg13 : arg13.IsWhole)
  (arg14 : Memref sig .tc .vmem S128x512 .f32) (harg14 : arg14.IsWhole)
  (arg15 : Memref sig .tc .vmem S128x512 .f32) (harg15 : arg15.IsWhole)
  (q : Vec F S1x4096x128 .bf16)
  (qt : Vec F S1x8x128x512 .bf16)
  (kb : Vec F S1x512x128 .bf16)
  (vb : Vec F S1x512x128 .bf16)
  (g : Vec F S4096x128 .f32)
  (gt : Vec F S1x8x128x512 .bf16)
  (o : Vec F S4096x128 .f32)
  (ls : Vec F S1x4096x1 .f32)
  (dq : Vec F S1x4096x128 .f32)

/-- The value a list of writes covering a key block's result leaves there. -/
abbrev valueOf (M : Memref sig .tc .vmem S1x512x128 .f32) (L : List (View.Piece (Elt F) S1x512x128 .f32)) : Vec F S1x512x128 .f32 :=
  M.view.read (Elt F) (M.view.writes (Elt F) M.view.junk L)

/-- Case A: what the body leaves. -/
def leftA (h0 : first i) (h1 : k0_cond2 i = 1#1) : Vec F S1x4096x128 .f32 × Vec F S1x512x128 .f32 × Vec F S1x512x128 .f32 :=
  (arg11.view.read (Elt F) (runA c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).1,
   valueOf arg12 (runA c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).2.2.2.1,
   valueOf arg13 (runA c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).2.2.2.2.1)

/-- Case B: what the body leaves. -/
def leftB (h0 : ¬ first i) (h1 : k0_cond2 i = 1#1) : Vec F S1x4096x128 .f32 × Vec F S1x512x128 .f32 × Vec F S1x512x128 .f32 :=
  (arg11.view.read (Elt F) (runB c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).1,
   valueOf arg12 (runB c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).2.2.2.1,
   valueOf arg13 (runB c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).2.2.2.2.1)

/-- Case C: what the body leaves. -/
def leftC (h0 : ¬ first i) (h1 : ¬ k0_cond2 i = 1#1) : Vec F S1x4096x128 .f32 × Vec F S1x512x128 .f32 × Vec F S1x512x128 .f32 :=
  (arg11.view.read (Elt F) (runC c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).1,
   valueOf arg12 (runC c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).2.2.2.1,
   valueOf arg13 (runC c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1).2.2.2.2.1)

/-- The staging memrefs at given values and the accumulators at any. -/
abbrev given (dq : Vec F S1x4096x128 .f32) : sProp 𝕄 :=
  iprop(owns (c : Thread nD τ) arg3 fullShare q ∗ owns (c : Thread nD τ) arg4 fullShare qt ∗ owns (c : Thread nD τ) arg5 fullShare kb ∗ owns (c : Thread nD τ) arg6 fullShare vb ∗ owns (c : Thread nD τ) arg7 fullShare g ∗ owns (c : Thread nD τ) arg8 fullShare gt ∗ owns (c : Thread nD τ) arg9 fullShare o ∗ owns (c : Thread nD τ) arg10 fullShare ls ∗ owns (c : Thread nD τ) arg11 fullShare dq
    ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

/-- The staging memrefs after the body and the accumulators at any value. -/
abbrev after (r : Vec F S1x4096x128 .f32 × Vec F S1x512x128 .f32 × Vec F S1x512x128 .f32) : sProp 𝕄 :=
  iprop(owns (c : Thread nD τ) arg3 fullShare q ∗ owns (c : Thread nD τ) arg4 fullShare qt ∗ owns (c : Thread nD τ) arg5 fullShare kb ∗ owns (c : Thread nD τ) arg6 fullShare vb ∗ owns (c : Thread nD τ) arg7 fullShare g ∗ owns (c : Thread nD τ) arg8 fullShare gt ∗ owns (c : Thread nD τ) arg9 fullShare o ∗ owns (c : Thread nD τ) arg10 fullShare ls ∗ owns (c : Thread nD τ) arg11 fullShare r.1
    ∗ owns (c : Thread nD τ) arg12 fullShare r.2.1 ∗ owns (c : Thread nD τ) arg13 fullShare r.2.2
    ∗ (∃ d, owns (c : Thread nD τ) arg14 fullShare d) ∗ (∃ d, owns (c : Thread nD τ) arg15 fullShare d))

/-- A run whose results do not depend on the accumulators' contents, restated over values. -/
theorem of_run (R11 : Buf (Elt F) (arg11.view.loc (c : Thread nD τ))) (L12 L13 : List (View.Piece (Elt F) S1x512x128 .f32))
    (c12 : ∀ y : S1x512x128.Idx, ∃ p ∈ L12, y ∈ p.1.set) (c13 : ∀ y : S1x512x128.Idx, ∃ p ∈ L13, y ∈ p.1.set)
    (H : ∀ (f12 : Buf (Elt F) (arg12.view.loc (c : Thread nD τ))) (f13 : Buf (Elt F) (arg13.view.loc (c : Thread nD τ)))
      (f14 : Buf (Elt F) (arg14.view.loc (c : Thread nD τ))) (f15 : Buf (Elt F) (arg15.view.loc (c : Thread nD τ))),
      ∃ (R14 : Buf (Elt F) (arg14.view.loc (c : Thread nD τ))) (R15 : Buf (Elt F) (arg15.view.loc (c : Thread nD τ))),
      staged c arg3 arg4 arg5 arg6 arg7 arg8 arg9 arg10 arg11 arg12 arg13 arg14 arg15 (harg3.unread q) (harg4.unread qt) (harg5.unread kb) (harg6.unread vb) (harg7.unread g) (harg8.unread gt) (harg9.unread o) (harg10.unread ls) (harg11.unread dq) f12 f13 f14 f15 ⊢
            wp frame (wpE (defs₀ (F := F)) Variants.none (c : Thread nD τ) none) Set.univ
              (cc0_attn_bwd (F := F) i arg3 harg3 arg4 harg4 arg5 harg5 arg6 harg6 arg7 harg7 arg8 harg8 arg9 harg9 arg10 harg10 arg11 harg11 arg12 harg12 arg13 harg13 arg14 harg14 arg15 harg15)
              (fun _ => staged c arg3 arg4 arg5 arg6 arg7 arg8 arg9 arg10 arg11 arg12 arg13 arg14 arg15 (harg3.unread q) (harg4.unread qt) (harg5.unread kb) (harg6.unread vb) (harg7.unread g) (harg8.unread gt) (harg9.unread o) (harg10.unread ls)
                R11 (arg12.view.writes (Elt F) f12 L12) (arg13.view.writes (Elt F) f13 L13) R14 R15)) :
    given c arg3 arg4 arg5 arg6 arg7 arg8 arg9 arg10 arg11 arg12 arg13 arg14 arg15 q qt kb vb g gt o ls dq ⊢
      wp frame (wpE (defs₀ (F := F)) Variants.none (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15)
        (fun _ => after c arg3 arg4 arg5 arg6 arg7 arg8 arg9 arg10 arg11 arg12 arg13 arg14 arg15 q qt kb vb g gt o ls (arg11.view.read (Elt F) R11, valueOf arg12 L12, valueOf arg13 L13)) := by
  dsimp only [given, after]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%d14, %f14, %hf14, H14⟩, ⟨%d15, %f15, %hf15, H15⟩⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain ⟨R14, R15, T⟩ := H f12 f13 f14 f15

  iapply (wp_wand_r frame _ Set.univ)
  isplitl [H3 H4 H5 H6 H7 H8 H9 H10 H11 H12 H13 H14 H15]
  · iapply T
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ ⟨H3, H4, H5, H6, H7, H8, H9, H10, H11, H12, H13, H14, H15⟩
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; rfl
    iexact H11
  isplitl [H12]
  · iexists _; isplitr
    swap; · iexact H12
    ipureintro; exact View.read_writes_of_cover _ _ _ _ _ c12
  isplitl [H13]
  · iexists _; isplitr
    swap; · iexact H13
    ipureintro; exact View.read_writes_of_cover _ _ _ _ _ c13
  isplitl [H14]
  · iexists _; iexists _; isplitr
    swap; · iexact H14
    ipureintro; rfl
  iexists _; iexists _; isplitr
  swap; · iexact H15
  ipureintro; rfl

/-- Case A's triple over values, whatever the query gradient's block held. -/
theorem pointA (h0 : first i) (h1 : k0_cond2 i = 1#1) (y : Vec F S1x4096x128 .f32) :
    given c arg3 arg4 arg5 arg6 arg7 arg8 arg9 arg10 arg11 arg12 arg13 arg14 arg15 q qt kb vb g gt o ls y ⊢
      wp frame (wpE (defs₀ (F := F)) Variants.none (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15)
        (fun _ => after c arg3 arg4 arg5 arg6 arg7 arg8 arg9 arg10 arg11 arg12 arg13 arg14 arg15 q qt kb vb g gt o ls (leftA c i arg3 harg3 arg4 harg4 arg5 harg5 arg6 harg6 arg7 harg7 arg8 harg8 arg9 harg9 arg10 harg10 arg11 harg11 arg12 harg12 arg13 harg13 arg14 harg14 arg15 harg15 q qt kb vb g gt o ls dq h0 h1)) :=
  of_run c i arg3 harg3 arg4 harg4 arg5 harg5 arg6 harg6 arg7 harg7 arg8 harg8 arg9 harg9 arg10 harg10 arg11 harg11 arg12 harg12 arg13 harg13 arg14 harg14 arg15 harg15 q qt kb vb g gt o ls y _ _ _
    (View.cover_of_tiledL _ S1x512x128.size (by sl_kernel_rfl)) (View.cover_of_tiledL _ S1x512x128.size (by sl_kernel_rfl))
    fun f12 f13 f14 f15 => ⟨_, _, (runA c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread y) f14 f15 h0 h1).2.2.2.2.2 f12 f13⟩

/-- Case B's triple over values. -/
theorem pointB (h0 : ¬ first i) (h1 : k0_cond2 i = 1#1) :
    given c arg3 arg4 arg5 arg6 arg7 arg8 arg9 arg10 arg11 arg12 arg13 arg14 arg15 q qt kb vb g gt o ls dq ⊢
      wp frame (wpE (defs₀ (F := F)) Variants.none (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15)
        (fun _ => after c arg3 arg4 arg5 arg6 arg7 arg8 arg9 arg10 arg11 arg12 arg13 arg14 arg15 q qt kb vb g gt o ls (leftB c i arg3 harg3 arg4 harg4 arg5 harg5 arg6 harg6 arg7 harg7 arg8 harg8 arg9 harg9 arg10 harg10 arg11 harg11 arg12 harg12 arg13 harg13 arg14 harg14 arg15 harg15 q qt kb vb g gt o ls dq h0 h1)) :=
  of_run c i arg3 harg3 arg4 harg4 arg5 harg5 arg6 harg6 arg7 harg7 arg8 harg8 arg9 harg9 arg10 harg10 arg11 harg11 arg12 harg12 arg13 harg13 arg14 harg14 arg15 harg15 q qt kb vb g gt o ls dq _ _ _
    (View.cover_of_tiledL _ S1x512x128.size (by sl_kernel_rfl)) (View.cover_of_tiledL _ S1x512x128.size (by sl_kernel_rfl))
    fun f12 f13 f14 f15 => ⟨_, _, (runB c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) f14 f15 h0 h1).2.2.2.2.2 f12 f13⟩

/-- Case C's triple over values. -/
theorem pointC (h0 : ¬ first i) (h1 : ¬ k0_cond2 i = 1#1) :
    given c arg3 arg4 arg5 arg6 arg7 arg8 arg9 arg10 arg11 arg12 arg13 arg14 arg15 q qt kb vb g gt o ls dq ⊢
      wp frame (wpE (defs₀ (F := F)) Variants.none (c : Thread nD τ) none) Set.univ
        (cc0_attn_bwd (F := F) i arg3 harg3 arg4 harg4 arg5 harg5 arg6 harg6 arg7 harg7 arg8 harg8 arg9 harg9 arg10 harg10 arg11 harg11 arg12 harg12 arg13 harg13 arg14 harg14 arg15 harg15)
        (fun _ => after c arg3 arg4 arg5 arg6 arg7 arg8 arg9 arg10 arg11 arg12 arg13 arg14 arg15 q qt kb vb g gt o ls (leftC c i arg3 harg3 arg4 harg4 arg5 harg5 arg6 harg6 arg7 harg7 arg8 harg8 arg9 harg9 arg10 harg10 arg11 harg11 arg12 harg12 arg13 harg13 arg14 harg14 arg15 harg15 q qt kb vb g gt o ls dq h0 h1)) :=
  of_run c i arg3 harg3 arg4 harg4 arg5 harg5 arg6 harg6 arg7 harg7 arg8 harg8 arg9 harg9 arg10 harg10 arg11 harg11 arg12 harg12 arg13 harg13 arg14 harg14 arg15 harg15 q qt kb vb g gt o ls dq _ _ _
    (View.cover_of_tiledL _ S1x512x128.size (by sl_kernel_rfl)) (View.cover_of_tiledL _ S1x512x128.size (by sl_kernel_rfl))
    fun f12 f13 f14 f15 => ⟨_, _, (runC c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) f14 f15 h0 h1).2.2.2.2.2 f12 f13⟩

end Point

end Cert.AttnIdeal.Run

end
-- ==== Proof.Attn.Frame.lean ====
/- The frame of the attention gradient, for any values.

`left` is what a grid point leaves, case by case; `outsAt` follows it over the points: the query gradient's block stays
from one key block to the next and is begun anew at each half. From it come the pipeline's data, the body's obligation at
every point and the run of the whole program, whose final arrays the value claim reads. -/
module

public import proofs.«01_k».proof.Proof.Attn.Step
public import Idealize.ShloMosaic.Lib.Claim

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-! ## The conditions, by the point -/

/-- A point's key block. -/
theorem key_block (t : Fin cfg0.N) : (grid0.coords t 2).val = t.val % 8 :=
  (Pipeline.Grid.coords_val t 2 (by decide) rfl : (grid0.coords t 2).val = t.val / 1 % 8).trans (by rw [Nat.div_one])

theorem first_iff (t : Fin cfg0.N) : first (grid0.coords t) ↔ t.val % 8 = 0 := by
  have ht : t.val % 8 < 8 := Nat.mod_lt _ (by decide)
  simp only [first, key_block]
  word_cmp

theorem odd_iff : ∀ t : Fin cfg0.N, k0_cond2 (grid0.coords t) = 1#1 ↔ t.val % 2 = 0 :=
  (by decide +kernel : ∀ t : Fin grid0.N, Iff (k0_cond2 (grid0.coords t) = 1#1) (t.val % 2 = 0))

/-! ## The point's memrefs -/

/-- Window 0's staging memref at a point. -/
abbrev ms0 (t : Fin cfg0.N) : Memref sig .tc .vmem S1x4096x128 .bf16 := win0_0.stage (cfg0.slots t 0)
theorem hs0 (t : Fin cfg0.N) : (ms0 t).IsWhole := hstage0_0 ((cfg0.slots t 0).cast nbuf0_0)
@[inherit_doc ms0]
abbrev ms1 (t : Fin cfg0.N) : Memref sig .tc .vmem S1x8x128x512 .bf16 := win0_1.stage (cfg0.slots t 1)
theorem hs1 (t : Fin cfg0.N) : (ms1 t).IsWhole := hstage0_1 ((cfg0.slots t 1).cast nbuf0_1)
@[inherit_doc ms0]
abbrev ms2 (t : Fin cfg0.N) : Memref sig .tc .vmem S1x512x128 .bf16 := win0_2.stage (cfg0.slots t 2)
theorem hs2 (t : Fin cfg0.N) : (ms2 t).IsWhole := hstage0_2 ((cfg0.slots t 2).cast nbuf0_2)
@[inherit_doc ms0]
abbrev ms3 (t : Fin cfg0.N) : Memref sig .tc .vmem S1x512x128 .bf16 := win0_3.stage (cfg0.slots t 3)
theorem hs3 (t : Fin cfg0.N) : (ms3 t).IsWhole := hstage0_3 ((cfg0.slots t 3).cast nbuf0_3)
@[inherit_doc ms0]
abbrev ms4 (t : Fin cfg0.N) : Memref sig .tc .vmem S4096x128 .f32 := win0_4.stage (cfg0.slots t 4)
theorem hs4 (t : Fin cfg0.N) : (ms4 t).IsWhole := hstage0_4 ((cfg0.slots t 4).cast nbuf0_4)
@[inherit_doc ms0]
abbrev ms5 (t : Fin cfg0.N) : Memref sig .tc .vmem S1x8x128x512 .bf16 := win0_5.stage (cfg0.slots t 5)
theorem hs5 (t : Fin cfg0.N) : (ms5 t).IsWhole := hstage0_5 ((cfg0.slots t 5).cast nbuf0_5)
@[inherit_doc ms0]
abbrev ms6 (t : Fin cfg0.N) : Memref sig .tc .vmem S4096x128 .f32 := win0_6.stage (cfg0.slots t 6)
theorem hs6 (t : Fin cfg0.N) : (ms6 t).IsWhole := hstage0_6 ((cfg0.slots t 6).cast nbuf0_6)
@[inherit_doc ms0]
abbrev ms7 (t : Fin cfg0.N) : Memref sig .tc .vmem S1x4096x1 .f32 := win0_7.stage (cfg0.slots t 7)
theorem hs7 (t : Fin cfg0.N) : (ms7 t).IsWhole := hstage0_7 ((cfg0.slots t 7).cast nbuf0_7)
@[inherit_doc ms0]
abbrev ms8 (t : Fin cfg0.N) : Memref sig .tc .vmem S1x4096x128 .f32 := win0_8.stage (cfg0.slots t 8)
theorem hs8 (t : Fin cfg0.N) : (ms8 t).IsWhole := hstage0_8 ((cfg0.slots t 8).cast nbuf0_8)
@[inherit_doc ms0]
abbrev ms9 (t : Fin cfg0.N) : Memref sig .tc .vmem S1x512x128 .f32 := win0_9.stage (cfg0.slots t 9)
theorem hs9 (t : Fin cfg0.N) : (ms9 t).IsWhole := hstage0_9 ((cfg0.slots t 9).cast nbuf0_9)
@[inherit_doc ms0]
abbrev ms10 (t : Fin cfg0.N) : Memref sig .tc .vmem S1x512x128 .f32 := win0_10.stage (cfg0.slots t 10)
theorem hs10 (t : Fin cfg0.N) : (ms10 t).IsWhole := hstage0_10 ((cfg0.slots t 10).cast nbuf0_10)
/-- The two accumulators. -/
abbrev acc0 : Memref sig .tc .vmem S128x512 .f32 := Memref.whole cc0_scratch0
@[inherit_doc acc0]
abbrev acc1 : Memref sig .tc .vmem S128x512 .f32 := Memref.whole cc0_scratch1

/-- What the body is handed beside the windows. -/
theorem rest_eq (c : Dev nD) :
    (Pipeline.ΦA spec0 c : sProp 𝕄)
      = iprop(iprop((∃ d, owns (c : Thread nD τ) acc0 fullShare d) ∗ (∃ d, owns (c : Thread nD τ) acc1 fullShare d)) ∗ (∃ r, prngReg c r)) := by
  unfold Pipeline.ΦA; rw [scopedRest0_eq]; simp only [acc0, acc1, owns_whole]; try rfl

/-! ## What the points leave -/

/-- What point `t` leaves in the three result blocks, the query gradient's block holding `dq` before. -/
def left (c : Dev nD) (t : Fin cfg0.N) (dq : Vec F S1x4096x128 .f32) :
    Vec F S1x4096x128 .f32 × Vec F S1x512x128 .f32 × Vec F S1x512x128 .f32 :=
  if h0 : first (grid0.coords t) then
    if h1 : k0_cond2 (grid0.coords t) = 1#1 then leftA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) acc0 (Memref.isWhole_whole _) acc1 (Memref.isWhole_whole _) (iblk m c 0 t) (iblk m c 1 t) (iblk m c 2 t) (iblk m c 3 t) (iblk m c 4 t) (iblk m c 5 t) (iblk m c 6 t) (iblk m c 7 t) dq h0 h1
    else (dq, valueOf (ms9 t) [], valueOf (ms10 t) [])
  else
    if h1 : k0_cond2 (grid0.coords t) = 1#1 then leftB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) acc0 (Memref.isWhole_whole _) acc1 (Memref.isWhole_whole _) (iblk m c 0 t) (iblk m c 1 t) (iblk m c 2 t) (iblk m c 3 t) (iblk m c 4 t) (iblk m c 5 t) (iblk m c 6 t) (iblk m c 7 t) dq h0 h1
    else leftC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) acc0 (Memref.isWhole_whole _) acc1 (Memref.isWhole_whole _) (iblk m c 0 t) (iblk m c 1 t) (iblk m c 2 t) (iblk m c 3 t) (iblk m c 4 t) (iblk m c 5 t) (iblk m c 6 t) (iblk m c 7 t) dq h0 h1

/-- What the result blocks hold after each point. -/
def outsAt (c : Dev nD) : (n : ℕ) → n < cfg0.N → Vec F S1x4096x128 .f32 × Vec F S1x512x128 .f32 × Vec F S1x512x128 .f32
  | 0, hn => left m c ⟨0, hn⟩ ((ms8 ⟨0, hn⟩).view.read (Elt F) (ms8 ⟨0, hn⟩).view.junk)
  | n + 1, hn => left m c ⟨n + 1, hn⟩ (outsAt c n (Nat.lt_of_succ_lt hn)).1

/-- The query gradient's block before a point. -/
def prior (c : Dev nD) (t : Fin cfg0.N) : Vec F S1x4096x128 .f32 :=
  if h : t.val = 0 then (ms8 t).view.read (Elt F) (ms8 t).view.junk else (outsAt m c (t.val - 1) (Nat.lt_of_le_of_lt (Nat.sub_le _ _) t.isLt)).1

theorem outsAt_eq (c : Dev nD) (t : Fin cfg0.N) : outsAt m c t.val t.isLt = left m c t (prior m c t) := by
  obtain ⟨n, hn⟩ := t
  cases n with
  | zero => rfl
  | succ n => rfl

/-- The pipeline's data: the arrays as the launch finds them, each input's block in place, the results as `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
    | ⟨9, _⟩ => (outsAt m c t.val t.isLt).2.1
    | ⟨10, _⟩ => (outsAt m c t.val t.isLt).2.2
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = (left m c t (prior m c t)).1 := by
  dsimp only [dats]; rw [outsAt_eq]
theorem after9 (c : Dev nD) (t : Fin cfg0.N) : (dats m 0 c).after 9 t = (left m c t (prior m c t)).2.1 := by
  dsimp only [dats]; rw [outsAt_eq]
theorem after10 (c : Dev nD) (t : Fin cfg0.N) : (dats m 0 c).after 10 t = (left m c t (prior m c t)).2.2 := by
  dsimp only [dats]; rw [outsAt_eq]

/-- At a later key block the query gradient's block holds what the point before left. -/
theorem before8 (c : Dev nD) (t : Fin cfg0.N) (h : ¬ t.val % 8 = 0) (d) : (dats m 0 c).before 8 t d = prior m c t := by
  have hN : t.val < 64 := lt_of_lt_of_eq t.isLt (show cfg0.N = 64 from N_0)
  have h' : ¬ t.val = 0 := fun e => h (by rw [e])
  rw [Dat.before_out_kept _ 8 rfl t (by omega) (Bool.eq_false_iff.mpr fun hf => by have := (flush0_8 _).mp hf; dsimp only at this; omega)
    (fun _ => rfl) (fun _ _ => rfl)]
  unfold prior
  rw [dif_neg h']
  dsimp only [dats]

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

/-- The body's triple at a point, over values. -/
theorem triple (c : Dev nD) (t : Fin cfg0.N) (y : Vec F S1x4096x128 .f32) (hy : ¬ t.val % 8 = 0 → y = prior m c t) :
    given c (ms0 t) (ms1 t) (ms2 t) (ms3 t) (ms4 t) (ms5 t) (ms6 t) (ms7 t) (ms8 t) (ms9 t) (ms10 t) acc0 acc1 (iblk m c 0 t) (iblk m c 1 t) (iblk m c 2 t) (iblk m c 3 t) (iblk m c 4 t) (iblk m c 5 t) (iblk m c 6 t) (iblk m c 7 t) y ⊢
      wp frame (wpE (defs₀ (F := F)) Variants.none (c : Thread nD τ) none) Set.univ (bodyAt0 t)
        (fun _ => after c (ms0 t) (ms1 t) (ms2 t) (ms3 t) (ms4 t) (ms5 t) (ms6 t) (ms7 t) (ms8 t) (ms9 t) (ms10 t) acc0 acc1 (iblk m c 0 t) (iblk m c 1 t) (iblk m c 2 t) (iblk m c 3 t) (iblk m c 4 t) (iblk m c 5 t) (iblk m c 6 t) (iblk m c 7 t) (left m c t (prior m c t))) := by
  unfold left
  by_cases h0 : first (grid0.coords t)
  · have h1 : k0_cond2 (grid0.coords t) = 1#1 := (odd_iff t).mpr (by have := (first_iff t).mp h0; omega)
    rw [dif_pos h0, dif_pos h1]
    exact pointA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) acc0 (Memref.isWhole_whole _) acc1 (Memref.isWhole_whole _) (iblk m c 0 t) (iblk m c 1 t) (iblk m c 2 t) (iblk m c 3 t) (iblk m c 4 t) (iblk m c 5 t) (iblk m c 6 t) (iblk m c 7 t) (prior m c t) h0 h1 y
  · obtain rfl := hy fun h => h0 ((first_iff t).mpr h)
    rw [dif_neg h0]
    by_cases h1 : k0_cond2 (grid0.coords t) = 1#1
    · rw [dif_pos h1]
      exact pointB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) acc0 (Memref.isWhole_whole _) acc1 (Memref.isWhole_whole _) (iblk m c 0 t) (iblk m c 1 t) (iblk m c 2 t) (iblk m c 3 t) (iblk m c 4 t) (iblk m c 5 t) (iblk m c 6 t) (iblk m c 7 t) (prior m c t) h0 h1
    · rw [dif_neg h1]
      exact pointC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) acc0 (Memref.isWhole_whole _) acc1 (Memref.isWhole_whole _) (iblk m c 0 t) (iblk m c 1 t) (iblk m c 2 t) (iblk m c 3 t) (iblk m c 4 t) (iblk m c 5 t) (iblk m c 6 t) (iblk m c 7 t) (prior m c t) h0 h1

set_option maxHeartbeats 4000000 in
/-- The body at any point, in the pipeline's words. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  rw [show (dats m 0 c).Φ t.castSucc = Pipeline.ΦA spec0 c from rfl, rest_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame _ Set.univ)
  isplitl [H0 H1 H2 H3 H4 H5 H6 H7 H8 H9 H10 HS0 HS1]
  · iapply (triple m c t ((dats m 0 c).before 8 t d8) (fun h => before8 m c t h d8))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    iexact HS1
  iintro %_ ⟨H0, H1, H2, H3, H4, H5, H6, H7, H8, H9, H10, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row_eq (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- The whole program: every array of the pipeline at what its data say, and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.AttnIdeal.Run

end
-- ==== Proof.Attn.Steps.lean ====
/- What the loop computes, in vectors.

A step on a query block adds the block's part to the query gradient's rows and to the two accumulators. `Ins.step` says
this of vectors, with the body's own payloads; a trip of the loop is two such steps (`trip_step`), so the loop's buffers
hold what a row of steps leaves (`loop_steps`). -/
module

public import proofs.«01_k».proof.Proof.Attn.Loop
public import Idealize.ShloMosaic.Lib.VecWindow

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Idealize.SL

variable {F : FTy → Type} [FloatOps F] [Named F]

/-- What the steps of a grid point read: the input blocks, the key block's keys and values, and the mask of own lanes. -/
structure Ins (F : FTy → Type) [FloatOps F] where
  q : Vec F S1x4096x128 .bf16
  qt : Vec F S1x8x128x512 .bf16
  g : Vec F S4096x128 .f32
  gt : Vec F S1x8x128x512 .bf16
  o : Vec F S4096x128 .f32
  ls : Vec F S1x4096x1 .f32
  k : FVec F S512x128 .bf16
  v : FVec F S512x128 .bf16
  own : IVec S512x128 1

/-- What the steps add to: the query gradient and the transposed gradients of the key block. -/
structure Sums (F : FTy → Type) [FloatOps F] where
  dq : Vec F S1x4096x128 .f32
  dkT : Vec F S128x512 .f32
  dvT : Vec F S128x512 .f32

/-- The rows of query block `b` of a three-axis array, -/
def rows3 {e : EltTy} {w : ℕ} (x : (⟨3, ![1, 4096, w]⟩ : Shape).Idx → Elt F e) (b : Fin 8) : (⟨3, ![1, 512, w]⟩ : Shape).Idx → Elt F e :=
  VecWindow.window x ![0, 512 * b.val, 0] ![1, 512, w] (fun a => by fin_cases a <;> simp <;> omega)

/-- of a two-axis one, -/
def rows2 {e : EltTy} (x : (⟨2, ![4096, 128]⟩ : Shape).Idx → Elt F e) (b : Fin 8) : (⟨2, ![512, 128]⟩ : Shape).Idx → Elt F e :=
  VecWindow.window x ![512 * b.val, 0] ![512, 128] (fun a => by fin_cases a <;> simp <;> omega)

/-- and the block itself of an array laid out block by block. -/
def tile {e : EltTy} (x : (⟨4, ![1, 8, 128, 512]⟩ : Shape).Idx → Elt F e) (b : Fin 8) : (⟨4, ![1, 1, 128, 512]⟩ : Shape).Idx → Elt F e :=
  VecWindow.window x ![0, b.val, 0, 0] ![1, 1, 128, 512] (fun a => by fin_cases a <;> simp <;> omega)

namespace Ins

variable (x : Ins F)

/-- The attention weights of query block `b` against the key block, -/
def P (b : Fin 8) : FVec F S512x512 .f32 := k0_pay2 x.k (rows3 x.q b) (rows3 x.ls b)

/-- and the gradient of the scores. -/
def DS (b : Fin 8) : FVec F S512x512 .bf16 := k0_pay3 x.k x.v x.own (rows3 x.q b) (rows2 x.g b) (rows2 x.o b) (rows3 x.ls b)

/-- One step, on query block `b`. -/
def step (b : Fin 8) (s : Sums F) : Sums F :=
  ⟨VecWindow.put s.dq ![0, 512 * b.val, 0] ![1, 512, 128] (k0_pay9 x.k (x.DS b) (rows3 s.dq b)),
   k0_pay8 (x.DS b) s.dkT (tile x.qt b), k0_pay7 (x.P b) (tile x.gt b) s.dvT⟩

/-- `n` steps, from query block `b` on. -/
def steps (b : ℕ) : ℕ → Sums F → Sums F
  | 0, s => s
  | n + 1, s => if h : b + n < 8 then x.step ⟨b + n, h⟩ (steps b n s) else steps b n s

theorem steps_add (b n k : ℕ) (s : Sums F) : x.steps b (n + k) s = x.steps (b + n) k (x.steps b n s) := by
  induction k with
  | zero => rfl
  | succ k ih =>
    rw [← Nat.add_assoc]
    unfold steps
    rw [ih]
    simp only [Nat.add_assoc]

end Ins

section Trip

variable (c : Dev nD) (i : grid0.Coords)
  (arg3 : Memref sig .tc .vmem S1x4096x128 .bf16) (harg3 : arg3.IsWhole)
  (arg4 : Memref sig .tc .vmem S1x8x128x512 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S4096x128 .f32) (harg7 : arg7.IsWhole)
  (arg8 : Memref sig .tc .vmem S1x8x128x512 .bf16) (harg8 : arg8.IsWhole)
  (arg9 : Memref sig .tc .vmem S4096x128 .f32) (harg9 : arg9.IsWhole)
  (arg10 : Memref sig .tc .vmem S1x4096x1 .f32) (harg10 : arg10.IsWhole)
  (arg11 : Memref sig .tc .vmem S1x4096x128 .f32) (harg11 : arg11.IsWhole)
  (arg12 : Memref sig .tc .vmem S1x512x128 .f32) (harg12 : arg12.IsWhole)
  (arg13 : Memref sig .tc .vmem S1x512x128 .f32) (harg13 : arg13.IsWhole)
  (arg14 : Memref sig .tc .vmem S128x512 .f32) (harg14 : arg14.IsWhole)
  (arg15 : Memref sig .tc .vmem S128x512 .f32) (harg15 : arg15.IsWhole)
  (arg2 : BitVec 32) (v4 v6 : FVec F S512x128 .bf16) (v11 : IVec S512x128 1) (v106 : BitVec 32) (v107 : BitVec 1)
  (q : Buf (Elt F) (arg3.view.loc (c : Thread nD τ))) (qt : Buf (Elt F) (arg4.view.loc (c : Thread nD τ)))
  (g : Buf (Elt F) (arg7.view.loc (c : Thread nD τ))) (gt : Buf (Elt F) (arg8.view.loc (c : Thread nD τ)))
  (o : Buf (Elt F) (arg9.view.loc (c : Thread nD τ))) (ls : Buf (Elt F) (arg10.view.loc (c : Thread nD τ)))

/-- The steps' inputs as the trips read them. -/
abbrev insOf : Ins F :=
  ⟨arg3.view.read (Elt F) q, arg4.view.read (Elt F) qt, arg7.view.read (Elt F) g, arg8.view.read (Elt F) gt,
   arg9.view.read (Elt F) o, arg10.view.read (Elt F) ls, v4, v6, v11⟩

/-- The sums as the three buffers hold them. -/
abbrev sumsOf (f11 : Buf (Elt F) (arg11.view.loc (c : Thread nD τ))) (f14 : Buf (Elt F) (arg14.view.loc (c : Thread nD τ)))
    (f15 : Buf (Elt F) (arg15.view.loc (c : Thread nD τ))) : Sums F :=
  ⟨arg11.view.read (Elt F) f11, arg14.view.read (Elt F) f14, arg15.view.read (Elt F) f15⟩

theorem blockA_lt : ∀ (i : grid0.Coords) (k : Fin (k0_t1_loop i).trips), blockA i k.val + 1 < 8 := by decide +kernel

/-! What the reads of a trip hold. -/

theorem read_q_fst (k : Fin (k0_t1_loop i).trips) (inb) :
    View.readAt (Elt F) arg3.view (Rect.unit (s := S1x4096x128) (k0_off11 i k 1#32) ![1, 512, 128] inb).toLoadRect q
      = rows3 (arg3.view.read (Elt F) q) ⟨blockA i k.val, Nat.lt_of_succ_lt (blockA_lt i k)⟩ := View.readAt_unit _ _ inb (off11_fst i k) _

theorem read_g_fst (k : Fin (k0_t1_loop i).trips) (inb) :
    View.readAt (Elt F) arg7.view (Rect.unit (s := S4096x128) (k0_off12 i k 1#32) ![512, 128] inb).toLoadRect g
      = rows2 (arg7.view.read (Elt F) g) ⟨blockA i k.val, Nat.lt_of_succ_lt (blockA_lt i k)⟩ := View.readAt_unit _ _ inb (off12_fst i k) _

theorem read_o_fst (k : Fin (k0_t1_loop i).trips) (inb) :
    View.readAt (Elt F) arg9.view (Rect.unit (s := S4096x128) (k0_off12 i k 1#32) ![512, 128] inb).toLoadRect o
      = rows2 (arg9.view.read (Elt F) o) ⟨blockA i k.val, Nat.lt_of_succ_lt (blockA_lt i k)⟩ := View.readAt_unit _ _ inb (off12_fst i k) _

theorem read_ls_fst (k : Fin (k0_t1_loop i).trips) (inb) :
    View.readAt (Elt F) arg10.view (Rect.unit (s := S1x4096x1) (k0_off13 i k 1#32) ![1, 512, 1] inb).toLoadRect ls
      = rows3 (arg10.view.read (Elt F) ls) ⟨blockA i k.val, Nat.lt_of_succ_lt (blockA_lt i k)⟩ := View.readAt_unit _ _ inb (off13_fst i k) _

theorem read_gt_fst (k : Fin (k0_t1_loop i).trips) (inb) :
    View.readAt (Elt F) arg8.view (Rect.unit (s := S1x8x128x512) (k0_off14 i k 1#32) ![1, 1, 128, 512] inb).toLoadRect gt
      = tile (arg8.view.read (Elt F) gt) ⟨blockA i k.val, Nat.lt_of_succ_lt (blockA_lt i k)⟩ := View.readAt_unit _ _ inb (off14_fst i k) _

theorem read_qt_fst (k : Fin (k0_t1_loop i).trips) (inb) :
    View.readAt (Elt F) arg4.view (Rect.unit (s := S1x8x128x512) (k0_off15 i k 1#32) ![1, 1, 128, 512] inb).toLoadRect qt
      = tile (arg4.view.read (Elt F) qt) ⟨blockA i k.val, Nat.lt_of_succ_lt (blockA_lt i k)⟩ := View.readAt_unit _ _ inb (off15_fst i k) _

theorem read_dq_fst (f : Buf (Elt F) (arg11.view.loc (c : Thread nD τ))) (k : Fin (k0_t1_loop i).trips) (inb) :
    View.readAt (Elt F) arg11.view (Rect.unit (s := S1x4096x128) (k0_off11 i k 1#32) ![1, 512, 128] inb).toLoadRect f
      = rows3 (arg11.view.read (Elt F) f) ⟨blockA i k.val, Nat.lt_of_succ_lt (blockA_lt i k)⟩ := View.readAt_unit _ _ inb (off11_fst i k) _

theorem read_q_snd (k : Fin (k0_t1_loop i).trips) (inb) :
    View.readAt (Elt F) arg3.view (Rect.unit (s := S1x4096x128) (k0_off11 i k 2#32) ![1, 512, 128] inb).toLoadRect q
      = rows3 (arg3.view.read (Elt F) q) ⟨blockA i k.val + 1, blockA_lt i k⟩ := View.readAt_unit _ _ inb (off11_snd i k) _

theorem read_g_snd (k : Fin (k0_t1_loop i).trips) (inb) :
    View.readAt (Elt F) arg7.view (Rect.unit (s := S4096x128) (k0_off12 i k 2#32) ![512, 128] inb).toLoadRect g
      = rows2 (arg7.view.read (Elt F) g) ⟨blockA i k.val + 1, blockA_lt i k⟩ := View.readAt_unit _ _ inb (off12_snd i k) _

theorem read_o_snd (k : Fin (k0_t1_loop i).trips) (inb) :
    View.readAt (Elt F) arg9.view (Rect.unit (s := S4096x128) (k0_off12 i k 2#32) ![512, 128] inb).toLoadRect o
      = rows2 (arg9.view.read (Elt F) o) ⟨blockA i k.val + 1, blockA_lt i k⟩ := View.readAt_unit _ _ inb (off12_snd i k) _

theorem read_ls_snd (k : Fin (k0_t1_loop i).trips) (inb) :
    View.readAt (Elt F) arg10.view (Rect.unit (s := S1x4096x1) (k0_off13 i k 2#32) ![1, 512, 1] inb).toLoadRect ls
      = rows3 (arg10.view.read (Elt F) ls) ⟨blockA i k.val + 1, blockA_lt i k⟩ := View.readAt_unit _ _ inb (off13_snd i k) _

theorem read_gt_snd (k : Fin (k0_t1_loop i).trips) (inb) :
    View.readAt (Elt F) arg8.view (Rect.unit (s := S1x8x128x512) (k0_off14 i k 2#32) ![1, 1, 128, 512] inb).toLoadRect gt
      = tile (arg8.view.read (Elt F) gt) ⟨blockA i k.val + 1, blockA_lt i k⟩ := View.readAt_unit _ _ inb (off14_snd i k) _

theorem read_qt_snd (k : Fin (k0_t1_loop i).trips) (inb) :
    View.readAt (Elt F) arg4.view (Rect.unit (s := S1x8x128x512) (k0_off15 i k 2#32) ![1, 1, 128, 512] inb).toLoadRect qt
      = tile (arg4.view.read (Elt F) qt) ⟨blockA i k.val + 1, blockA_lt i k⟩ := View.readAt_unit _ _ inb (off15_snd i k) _

theorem read_dq_snd (f : Buf (Elt F) (arg11.view.loc (c : Thread nD τ))) (k : Fin (k0_t1_loop i).trips) (inb) :
    View.readAt (Elt F) arg11.view (Rect.unit (s := S1x4096x128) (k0_off11 i k 2#32) ![1, 512, 128] inb).toLoadRect f
      = rows3 (arg11.view.read (Elt F) f) ⟨blockA i k.val + 1, blockA_lt i k⟩ := View.readAt_unit _ _ inb (off11_snd i k) _

/-- A block's rows are untouched by another block's step. -/
theorem rows3_put {e : EltTy} (x : (⟨3, ![1, 4096, 128]⟩ : Shape).Idx → Elt F e) (a b : ℕ) (hb : b < 8) (h : a ≠ b) (w) :
    rows3 (VecWindow.put x ![0, 512 * a, 0] ![1, 512, 128] w) ⟨b, hb⟩ = rows3 x ⟨b, hb⟩ :=
  VecWindow.window_put_of_disjoint _ _ _ _ _ _ _ 1 (by
    simp
    omega)

/-- A trip is two steps. -/
theorem trip_step (k : Fin (k0_t1_loop i).trips) (a : Accs (F := F) c arg11 arg14 arg15) :
    sumsOf c arg11 arg14 arg15
        (arg11.view.writes (Elt F) a.dq (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls k a).1) (arg14.view.writes (Elt F) a.dkT (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls k a).2.1)
        (arg15.view.writes (Elt F) a.dvT (trip c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls k a).2.2.1)
      = (insOf c arg3 arg4 arg7 arg8 arg9 arg10 v4 v6 v11 q qt g gt o ls).step ⟨blockA i k.val + 1, blockA_lt i k⟩
          ((insOf c arg3 arg4 arg7 arg8 arg9 arg10 v4 v6 v11 q qt g gt o ls).step ⟨blockA i k.val, Nat.lt_of_succ_lt (blockA_lt i k)⟩
            (sumsOf c arg11 arg14 arg15 a.dq a.dkT a.dvT)) := by
  unfold sumsOf Ins.step
  congr 1
  · dsimp only [trip, tripRun]
    rw [View.read_writes_cons_put _ _ _ _ _ (off11_snd i k), View.read_writes_cons_put _ _ _ _ _ (off11_fst i k), View.writes_nil]
    dsimp only [tripRun.sl.r_1, tripRun.sl.r_2, tripRun.sl.v267]
    rw [rows3_put _ _ _ _ (Nat.ne_of_lt (Nat.lt_succ_self _))]
    rw [read_q_fst, read_q_snd, read_g_fst, read_g_snd, read_o_fst, read_o_snd, read_ls_fst, read_ls_snd, read_dq_fst, read_dq_snd]
    rfl
  · dsimp only [trip, tripRun]
    rw [View.read_writes_full]
    dsimp only [tripRun.sl.r_1, tripRun.sl.r_2, tripRun.sl.v257, tripRun.sl.H14_1]
    rw [View.readCov_full, View.readAt_full]
    rw [read_q_fst, read_q_snd, read_g_fst, read_g_snd, read_o_fst, read_o_snd, read_ls_fst, read_ls_snd, read_qt_fst, read_qt_snd]
    rfl
  · dsimp only [trip, tripRun]
    rw [View.read_writes_full]
    dsimp only [tripRun.sl.r, tripRun.sl.r_3, tripRun.sl.v250, tripRun.sl.H15_1]
    rw [View.readCov_full, View.readAt_full]
    rw [read_q_fst, read_q_snd, read_ls_fst, read_ls_snd, read_gt_fst, read_gt_snd]
    rfl

/-- The loop's buffers hold what two steps a trip leave. -/
theorem loop_steps (s : Accs (F := F) c arg11 arg14 arg15) (k : ℕ) (hk : k ≤ (k0_t1_loop i).trips) :
    sumsOf c arg11 arg14 arg15 (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls s k).dq (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls s k).dkT (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls s k).dvT
      = (insOf c arg3 arg4 arg7 arg8 arg9 arg10 v4 v6 v11 q qt g gt o ls).steps (blockA i 0) (2 * k)
          (sumsOf c arg11 arg14 arg15 s.dq s.dkT s.dvT) := by
  induction k with
  | zero => rfl
  | succ k ih =>
    have lt := blockA_lt i ⟨k, hk⟩
    have e := trip_step c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls ⟨k, hk⟩ (accs c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls s k)
    rw [accs_succ c i arg3 harg3 arg4 harg4 arg5 harg5 arg6 harg6 arg7 harg7 arg8 harg8 arg9 harg9 arg10 harg10 arg11 harg11 arg12 harg12 arg13 harg13 arg14 harg14 arg15 harg15 arg2 v4 v6 v11 v106 v107 q qt g gt o ls s ⟨k, hk⟩]
    refine e.trans ?_
    rw [ih (Nat.le_of_succ_le hk)]
    show _ = Ins.steps _ _ (2 * k + 1 + 1) _
    simp only [Ins.steps]
    simp only [blockA] at lt ⊢
    rw [dif_pos (by omega), dif_pos (by omega)]
    rfl

end Trip

end Cert.AttnIdeal.Run

end
-- ==== Proof.Attn.Point.lean ====
/- What a grid point leaves, in vectors.

The body takes the diagonal block first, where the mask has a part (`Ins.diag`), from accumulators it has set to zero, and
then every later query block: one by itself where their number is odd, the others two a trip. So a point leaves what the
diagonal step and a row of steps leave; here are the first steps. -/
module

public import proofs.«01_k».proof.Proof.Attn.Step
public import proofs.«01_k».proof.Proof.Attn.Steps

@[expose] public section

set_option maxRecDepth 8192
set_option maxHeartbeats 4000000

noncomputable section

namespace Cert.AttnIdeal.Run

open Cert.AttnIdeal.Gen
open Idealize.ShloMosaic Idealize.ShloMosaic.TcCoe Idealize.ShloMosaic.Tactic
open Idealize.SL

variable {F : FTy → Type} [FloatOps F] [Named F]

/-! ## The diagonal step -/

/-- The block of the point's own keys, -/
def here (i : grid0.Coords) : Fin 8 := ⟨(i 2).val, (i 2).isLt⟩

theorem next_lt : ∀ i : grid0.Coords, k0_cond2 i = 1#1 → (i 2).val + 1 < 8 := by decide +kernel

/-- and the one after it. -/
def next (i : grid0.Coords) (h : k0_cond2 i = 1#1) : Fin 8 := ⟨(i 2).val + 1, next_lt i h⟩

namespace Ins

variable (x : Ins F) (i : grid0.Coords)

/-- The masked attention weights of the diagonal block, -/
def P₀ : FVec F S512x512 .f32 :=
  k0_pay29 (BitVec.ofNat 32 (i 2).val) x.k (Scalar.muli (BitVec.ofNat 32 (i 2).val) 512#32) (k0_pay27 (rows3 x.q (here i))) (rows3 x.ls (here i))

/-- and the gradient of its scores. -/
def DS₀ : FVec F S512x512 .bf16 :=
  k0_pay30 (BitVec.ofNat 32 (i 2).val) x.k x.v (Scalar.muli (BitVec.ofNat 32 (i 2).val) 512#32) (k0_pay27 (rows3 x.q (here i)))
    (rows2 x.g (here i)) (k0_pay28 i (rows2 x.g (here i)) (rows2 x.o (here i))) (rows3 x.ls (here i))

/-- The diagonal step. -/
def diag (s : Sums F) : Sums F :=
  ⟨VecWindow.put s.dq ![0, 512 * (here i).val, 0] ![1, 512, 128] (k0_pay34 x.k (x.DS₀ i) (rows3 s.dq (here i))),
   k0_pay33 (x.DS₀ i) s.dkT (tile x.qt (here i)),
   k0_pay32 s.dvT (k0_pay31 (BitVec.ofNat 32 (i 2).val) x.k (Scalar.muli (BitVec.ofNat 32 (i 2).val) 512#32) (k0_pay27 (rows3 x.q (here i))) (rows3 x.ls (here i)) (tile x.gt (here i)))⟩

/-- All of a point's steps, from a query gradient it finds. -/
def point (dq : Vec F S1x4096x128 .f32) : Sums F :=
  x.steps ((i 2).val + 1) (7 - (i 2).val) (x.diag i ⟨dq, k0_pay25, k0_pay26⟩)

end Ins

/-- What a point leaves of the three gradients. -/
def leaves (s : Sums F) : Vec F S1x4096x128 .f32 × Vec F S1x512x128 .f32 × Vec F S1x512x128 .f32 :=
  (s.dq, k0_pay44 s.dkT, k0_pay1 (k0_pay45 s.dvT))

/-! ## The reads and writes of the diagonal step and of the one after it -/

theorem off1_eq : ∀ i : grid0.Coords, k0_off1 i = ![0, 512 * (i 2).val, 0] := by decide +kernel
theorem off6_eq : ∀ i : grid0.Coords, k0_cond2 i = 1#1 → k0_off6 i = ![0, 512 * ((i 2).val + 1), 0] := by decide +kernel
theorem off2_eq : ∀ i : grid0.Coords, k0_off2 i = ![512 * (i 2).val, 0] := by decide +kernel
theorem off7_eq : ∀ i : grid0.Coords, k0_cond2 i = 1#1 → k0_off7 i = ![512 * ((i 2).val + 1), 0] := by decide +kernel
theorem off3_eq : ∀ i : grid0.Coords, k0_off3 i = ![0, 512 * (i 2).val, 0] := by decide +kernel
theorem off8_eq : ∀ i : grid0.Coords, k0_cond2 i = 1#1 → k0_off8 i = ![0, 512 * ((i 2).val + 1), 0] := by decide +kernel
theorem off4_eq : ∀ i : grid0.Coords, k0_off4 i = ![0, (i 2).val, 0, 0] := by decide +kernel
theorem off9_eq : ∀ i : grid0.Coords, k0_cond2 i = 1#1 → k0_off9 i = ![0, ((i 2).val + 1), 0, 0] := by decide +kernel
theorem off5_eq : ∀ i : grid0.Coords, k0_off5 i = ![0, (i 2).val, 0, 0] := by decide +kernel
theorem off10_eq : ∀ i : grid0.Coords, k0_cond2 i = 1#1 → k0_off10 i = ![0, ((i 2).val + 1), 0, 0] := by decide +kernel

theorem parity : ∀ i : grid0.Coords, Iff (k0_cond2 i = 1#1) ((7 - (i 2).val) % 2 = 1) := by decide +kernel

section Point

variable (c : Dev nD) (i : grid0.Coords)
  (arg3 : Memref sig .tc .vmem S1x4096x128 .bf16) (harg3 : arg3.IsWhole)
  (arg4 : Memref sig .tc .vmem S1x8x128x512 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S4096x128 .f32) (harg7 : arg7.IsWhole)
  (arg8 : Memref sig .tc .vmem S1x8x128x512 .bf16) (harg8 : arg8.IsWhole)
  (arg9 : Memref sig .tc .vmem S4096x128 .f32) (harg9 : arg9.IsWhole)
  (arg10 : Memref sig .tc .vmem S1x4096x1 .f32) (harg10 : arg10.IsWhole)
  (arg11 : Memref sig .tc .vmem S1x4096x128 .f32) (harg11 : arg11.IsWhole)
  (arg12 : Memref sig .tc .vmem S1x512x128 .f32) (harg12 : arg12.IsWhole)
  (arg13 : Memref sig .tc .vmem S1x512x128 .f32) (harg13 : arg13.IsWhole)
  (arg14 : Memref sig .tc .vmem S128x512 .f32) (harg14 : arg14.IsWhole)
  (arg15 : Memref sig .tc .vmem S128x512 .f32) (harg15 : arg15.IsWhole)

  (q : Buf (Elt F) (arg3.view.loc (c : Thread nD τ))) (qt : Buf (Elt F) (arg4.view.loc (c : Thread nD τ)))
  (kb : Buf (Elt F) (arg5.view.loc (c : Thread nD τ))) (vb : Buf (Elt F) (arg6.view.loc (c : Thread nD τ)))
  (g : Buf (Elt F) (arg7.view.loc (c : Thread nD τ))) (gt : Buf (Elt F) (arg8.view.loc (c : Thread nD τ)))
  (o : Buf (Elt F) (arg9.view.loc (c : Thread nD τ))) (ls : Buf (Elt F) (arg10.view.loc (c : Thread nD τ)))
  (f11 : Buf (Elt F) (arg11.view.loc (c : Thread nD τ)))
  (f14 : Buf (Elt F) (arg14.view.loc (c : Thread nD τ))) (f15 : Buf (Elt F) (arg15.view.loc (c : Thread nD τ)))

theorem read_rows_here {e : EltTy} (a : Memref sig .tc .vmem S1x4096x128 e) (f : Buf (Elt F) (a.view.loc (c : Thread nD τ))) (inb) :
    View.readAt (Elt F) a.view (Rect.unit (s := S1x4096x128) (k0_off1 i) ![1, 512, 128] inb).toLoadRect f = rows3 (a.view.read (Elt F) f) (here i) :=
  View.readAt_unit _ _ inb (off1_eq i) _

theorem read_flat_here {e : EltTy} (a : Memref sig .tc .vmem S4096x128 e) (f : Buf (Elt F) (a.view.loc (c : Thread nD τ))) (inb) :
    View.readAt (Elt F) a.view (Rect.unit (s := S4096x128) (k0_off2 i) ![512, 128] inb).toLoadRect f = rows2 (a.view.read (Elt F) f) (here i) :=
  View.readAt_unit _ _ inb (off2_eq i) _

theorem read_sums_here {e : EltTy} (a : Memref sig .tc .vmem S1x4096x1 e) (f : Buf (Elt F) (a.view.loc (c : Thread nD τ))) (inb) :
    View.readAt (Elt F) a.view (Rect.unit (s := S1x4096x1) (k0_off3 i) ![1, 512, 1] inb).toLoadRect f = rows3 (a.view.read (Elt F) f) (here i) :=
  View.readAt_unit _ _ inb (off3_eq i) _

theorem read_tile_here {e : EltTy} (a : Memref sig .tc .vmem S1x8x128x512 e) (f : Buf (Elt F) (a.view.loc (c : Thread nD τ))) (inb) :
    View.readAt (Elt F) a.view (Rect.unit (s := S1x8x128x512) (k0_off4 i) ![1, 1, 128, 512] inb).toLoadRect f = tile (a.view.read (Elt F) f) (here i) :=
  View.readAt_unit _ _ inb (off4_eq i) _

theorem read_tile2_here {e : EltTy} (a : Memref sig .tc .vmem S1x8x128x512 e) (f : Buf (Elt F) (a.view.loc (c : Thread nD τ))) (inb) :
    View.readAt (Elt F) a.view (Rect.unit (s := S1x8x128x512) (k0_off5 i) ![1, 1, 128, 512] inb).toLoadRect f = tile (a.view.read (Elt F) f) (here i) :=
  View.readAt_unit _ _ inb (off5_eq i) _

theorem put_here (a : Memref sig .tc .vmem S1x4096x128 .f32) (f : Buf (Elt F) (a.view.loc (c : Thread nD τ))) (inb) (w) (L) :
    a.view.read (Elt F) (a.view.writes (Elt F) f (⟨Rect.unit (k0_off1 i) ![1, 512, 128] inb, w⟩ :: L))
      = VecWindow.put (a.view.read (Elt F) (a.view.writes (Elt F) f L)) ![0, 512 * (here i).val, 0] ![1, 512, 128] w :=
  View.read_writes_cons_put _ _ _ _ _ (off1_eq i)

theorem store_here (a : Memref sig .tc .vmem S1x4096x128 .f32) (f : Buf (Elt F) (a.view.loc (c : Thread nD τ))) (inb) (w) :
    a.view.read (Elt F) (View.write (Elt F) (a.view.slice (Rect.unit (k0_off1 i) ![1, 512, 128] inb)) f w Finset.univ)
      = VecWindow.put (a.view.read (Elt F) f) ![0, 512 * (here i).val, 0] ![1, 512, 128] w :=
  View.read_writes_cons_put a.view f inb w [] (off1_eq i)

theorem read_rows_next {e : EltTy} (a : Memref sig .tc .vmem S1x4096x128 e) (f : Buf (Elt F) (a.view.loc (c : Thread nD τ))) (h : k0_cond2 i = 1#1) (inb) :
    View.readAt (Elt F) a.view (Rect.unit (s := S1x4096x128) (k0_off6 i) ![1, 512, 128] inb).toLoadRect f = rows3 (a.view.read (Elt F) f) (next i h) :=
  View.readAt_unit _ _ inb (off6_eq i h) _

theorem read_flat_next {e : EltTy} (a : Memref sig .tc .vmem S4096x128 e) (f : Buf (Elt F) (a.view.loc (c : Thread nD τ))) (h : k0_cond2 i = 1#1) (inb) :
    View.readAt (Elt F) a.view (Rect.unit (s := S4096x128) (k0_off7 i) ![512, 128] inb).toLoadRect f = rows2 (a.view.read (Elt F) f) (next i h) :=
  View.readAt_unit _ _ inb (off7_eq i h) _

theorem read_sums_next {e : EltTy} (a : Memref sig .tc .vmem S1x4096x1 e) (f : Buf (Elt F) (a.view.loc (c : Thread nD τ))) (h : k0_cond2 i = 1#1) (inb) :
    View.readAt (Elt F) a.view (Rect.unit (s := S1x4096x1) (k0_off8 i) ![1, 512, 1] inb).toLoadRect f = rows3 (a.view.read (Elt F) f) (next i h) :=
  View.readAt_unit _ _ inb (off8_eq i h) _

theorem read_tile_next {e : EltTy} (a : Memref sig .tc .vmem S1x8x128x512 e) (f : Buf (Elt F) (a.view.loc (c : Thread nD τ))) (h : k0_cond2 i = 1#1) (inb) :
    View.readAt (Elt F) a.view (Rect.unit (s := S1x8x128x512) (k0_off9 i) ![1, 1, 128, 512] inb).toLoadRect f = tile (a.view.read (Elt F) f) (next i h) :=
  View.readAt_unit _ _ inb (off9_eq i h) _

theorem read_tile2_next {e : EltTy} (a : Memref sig .tc .vmem S1x8x128x512 e) (f : Buf (Elt F) (a.view.loc (c : Thread nD τ))) (h : k0_cond2 i = 1#1) (inb) :
    View.readAt (Elt F) a.view (Rect.unit (s := S1x8x128x512) (k0_off10 i) ![1, 1, 128, 512] inb).toLoadRect f = tile (a.view.read (Elt F) f) (next i h) :=
  View.readAt_unit _ _ inb (off10_eq i h) _

theorem put_next (a : Memref sig .tc .vmem S1x4096x128 .f32) (f : Buf (Elt F) (a.view.loc (c : Thread nD τ))) (h : k0_cond2 i = 1#1) (inb) (w) (L) :
    a.view.read (Elt F) (a.view.writes (Elt F) f (⟨Rect.unit (k0_off6 i) ![1, 512, 128] inb, w⟩ :: L))
      = VecWindow.put (a.view.read (Elt F) (a.view.writes (Elt F) f L)) ![0, 512 * (next i h).val, 0] ![1, 512, 128] w :=
  View.read_writes_cons_put _ _ _ _ _ (off6_eq i h)

theorem store_next (a : Memref sig .tc .vmem S1x4096x128 .f32) (f : Buf (Elt F) (a.view.loc (c : Thread nD τ))) (h : k0_cond2 i = 1#1) (inb) (w) :
    a.view.read (Elt F) (View.write (Elt F) (a.view.slice (Rect.unit (k0_off6 i) ![1, 512, 128] inb)) f w Finset.univ)
      = VecWindow.put (a.view.read (Elt F) f) ![0, 512 * (next i h).val, 0] ![1, 512, 128] w :=
  View.read_writes_cons_put a.view f inb w [] (off6_eq i h)

theorem read_full (a : Memref sig .tc .vmem S128x512 .f32) (f : Buf (Elt F) (a.view.loc (c : Thread nD τ))) (inb) :
    View.readAt (Elt F) a.view (Rect.unit (s := S128x512) ![0, 0] ![128, 512] inb).toLoadRect f = a.view.read (Elt F) f :=
  View.readAt_full _ _ _

theorem cov_full (a : Memref sig .tc .vmem S128x512 .f32) (inb inb') (w) (L : List (View.Piece (Elt F) S128x512 .f32)) :
    a.view.readCov (⟨Rect.unit ![0, 0] ![128, 512] inb', w⟩ :: L) (Rect.unit (s := S128x512) ![0, 0] ![128, 512] inb).toLoadRect = w :=
  View.readCov_full _ _ _ _ _

theorem zero_full (a : Memref sig .tc .vmem S1x4096x128 .f32) (f : Buf (Elt F) (a.view.loc (c : Thread nD τ))) (inb) (w) (L) :
    a.view.read (Elt F) (a.view.writes (Elt F) f (⟨Rect.unit ![0, 0, 0] ![1, 4096, 128] inb, w⟩ :: L)) = w :=
  View.read_writes_full _ _ _ _ _

theorem read_block {e : EltTy} (a : Memref sig .tc .vmem S1x512x128 e) (f : Buf (Elt F) (a.view.loc (c : Thread nD τ))) (inb) :
    View.readAt (Elt F) a.view (Rect.unit (s := S1x512x128) ![0, 0, 0] ![1, 512, 128] inb).toLoadRect f = a.view.read (Elt F) f :=
  View.readAt_full _ _ _

theorem store_full (a : Memref sig .tc .vmem S128x512 .f32) (f : Buf (Elt F) (a.view.loc (c : Thread nD τ))) (inb) (w) :
    a.view.read (Elt F) (View.write (Elt F) (a.view.slice (Rect.unit ![0, 0] ![128, 512] inb)) f w Finset.univ) = w :=
  View.read_writes_full a.view f inb w []

theorem rows3_put_next (i : grid0.Coords) (h : k0_cond2 i = 1#1) (x : S1x4096x128.Idx → Elt F .f32) (w) :
    rows3 (VecWindow.put x ![0, 512 * (here i).val, 0] ![1, 512, 128] w) (next i h) = rows3 x (next i h) :=
  rows3_put x _ _ _ (Nat.ne_of_lt (Nat.lt_succ_self _)) w

/-- Case A: the loop starts from the first steps' sums, and what it leaves is written out. -/
theorem shapeA (h0 : first i) (h1 : k0_cond2 i = 1#1) :
    ∃ (s : Accs (F := F) c arg11 arg14 arg15) (u : BitVec 32) (w : BitVec 1),
      sumsOf c arg11 arg14 arg15 s.dq s.dkT s.dvT = (insOf c arg3 arg4 arg7 arg8 arg9 arg10 (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) q qt g gt o ls).step (next i h1) ((insOf c arg3 arg4 arg7 arg8 arg9 arg10 (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) q qt g gt o ls).diag i ⟨k0_pay21, k0_pay25, k0_pay26⟩)
      ∧ (runA c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).1 = dqAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips
      ∧ valueOf arg12 (runA c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).2.2.2.1 = k0_pay44 (View.readAt (Elt F) arg14.view (Rect.unit (s := S128x512) ![0, 0] ![128, 512] inb_S128x512_S128x512_0_0).toLoadRect (dkAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips))
      ∧ valueOf arg13 (runA c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).2.2.2.2.1 = k0_pay1 (k0_pay45 (View.readAt (Elt F) arg15.view (Rect.unit (s := S128x512) ![0, 0] ![128, 512] inb_S128x512_S128x512_0_0).toLoadRect (dvAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips))) := by
  refine ⟨⟨?A, ?B, ?C⟩, ?u, ?w, ?start, ?dq, ?dk, ?dv⟩
  case dq =>
    dsimp only [runA]
    rfl
  case dk => exact View.read_writes_full arg12.view _ _ _ _
  case dv => exact View.read_writes_full arg13.view _ _ _ _
  case start =>
    dsimp only [sumsOf, Ins.diag, Ins.step]
    congr 1
    · dsimp only [runA.sl.H11_1, runA.sl.H11_2, runA.sl.H14_1, runA.sl.H14_2, runA.sl.H15_1, runA.sl.H15_2, runA.sl.cst_85, runA.sl.cst_87, runA.sl.cst_88, runA.sl.r, runA.sl.r_1, runA.sl.r_2, runA.sl.r_3, runA.sl.r_4, runA.sl.r_5, runA.sl.r_6, runA.sl.r_7, runA.sl.v100, runA.sl.v101, runA.sl.v103, runA.sl.v104, runA.sl.v105, runA.sl.v133, runA.sl.v138, runA.sl.v148, runA.sl.v153, runA.sl.v154, runA.sl.v155, runA.sl.v156, runA.sl.v157, runA.sl.v158, runA.sl.v159, runA.sl.v160, runA.sl.v161, runA.sl.v164, runA.sl.v165, runA.sl.v166, runA.sl.v167, runA.sl.v168, runA.sl.v169, runA.sl.v170, runA.sl.v171, runA.sl.v172, runA.sl.v174, runA.sl.v175, runA.sl.v180, runA.sl.v181, runA.sl.v188, runA.sl.v20, runA.sl.v71, runA.sl.v78, runA.sl.v96, runA.sl.v99]
      rw [rows3_put_next, store_next c i arg11 _ h1, put_here c i arg11, zero_full c arg11, read_rows_next c i arg11 _ h1, put_here c i arg11, zero_full c arg11, rows3_put_next, read_rows_here c i arg11, zero_full c arg11]
      simp only [cov_full, read_full, read_rows_here, read_flat_here, read_sums_here, read_tile_here, read_tile2_here, put_here, read_rows_next _ _ _ _ h1, read_flat_next _ _ _ _ h1, read_sums_next _ _ _ _ h1, read_tile_next _ _ _ _ h1, read_tile2_next _ _ _ _ h1, put_next _ _ _ _ h1]
      rfl
    · dsimp only [runA.sl.H11_1, runA.sl.H11_2, runA.sl.H14_1, runA.sl.H14_2, runA.sl.H15_1, runA.sl.H15_2, runA.sl.cst_85, runA.sl.cst_87, runA.sl.cst_88, runA.sl.r, runA.sl.r_1, runA.sl.r_2, runA.sl.r_3, runA.sl.r_4, runA.sl.r_5, runA.sl.r_6, runA.sl.r_7, runA.sl.v100, runA.sl.v101, runA.sl.v103, runA.sl.v104, runA.sl.v105, runA.sl.v133, runA.sl.v138, runA.sl.v148, runA.sl.v153, runA.sl.v154, runA.sl.v155, runA.sl.v156, runA.sl.v157, runA.sl.v158, runA.sl.v159, runA.sl.v160, runA.sl.v161, runA.sl.v164, runA.sl.v165, runA.sl.v166, runA.sl.v167, runA.sl.v168, runA.sl.v169, runA.sl.v170, runA.sl.v171, runA.sl.v172, runA.sl.v174, runA.sl.v175, runA.sl.v180, runA.sl.v181, runA.sl.v188, runA.sl.v20, runA.sl.v71, runA.sl.v78, runA.sl.v96, runA.sl.v99]
      rw [store_full c arg14]
      simp only [cov_full, read_full, read_rows_here, read_flat_here, read_sums_here, read_tile_here, read_tile2_here, put_here, read_rows_next _ _ _ _ h1, read_flat_next _ _ _ _ h1, read_sums_next _ _ _ _ h1, read_tile_next _ _ _ _ h1, read_tile2_next _ _ _ _ h1, put_next _ _ _ _ h1]
      rfl
    · dsimp only [runA.sl.H11_1, runA.sl.H11_2, runA.sl.H14_1, runA.sl.H14_2, runA.sl.H15_1, runA.sl.H15_2, runA.sl.cst_85, runA.sl.cst_87, runA.sl.cst_88, runA.sl.r, runA.sl.r_1, runA.sl.r_2, runA.sl.r_3, runA.sl.r_4, runA.sl.r_5, runA.sl.r_6, runA.sl.r_7, runA.sl.v100, runA.sl.v101, runA.sl.v103, runA.sl.v104, runA.sl.v105, runA.sl.v133, runA.sl.v138, runA.sl.v148, runA.sl.v153, runA.sl.v154, runA.sl.v155, runA.sl.v156, runA.sl.v157, runA.sl.v158, runA.sl.v159, runA.sl.v160, runA.sl.v161, runA.sl.v164, runA.sl.v165, runA.sl.v166, runA.sl.v167, runA.sl.v168, runA.sl.v169, runA.sl.v170, runA.sl.v171, runA.sl.v172, runA.sl.v174, runA.sl.v175, runA.sl.v180, runA.sl.v181, runA.sl.v188, runA.sl.v20, runA.sl.v71, runA.sl.v78, runA.sl.v96, runA.sl.v99]
      rw [store_full c arg15]
      simp only [cov_full, read_full, read_rows_here, read_flat_here, read_sums_here, read_tile_here, read_tile2_here, put_here, read_rows_next _ _ _ _ h1, read_flat_next _ _ _ _ h1, read_sums_next _ _ _ _ h1, read_tile_next _ _ _ _ h1, read_tile2_next _ _ _ _ h1, put_next _ _ _ _ h1]
      rfl

/-- Case B: the loop starts from the first steps' sums, and what it leaves is written out. -/
theorem shapeB (h0 : ¬ first i) (h1 : k0_cond2 i = 1#1) :
    ∃ (s : Accs (F := F) c arg11 arg14 arg15) (u : BitVec 32) (w : BitVec 1),
      sumsOf c arg11 arg14 arg15 s.dq s.dkT s.dvT = (insOf c arg3 arg4 arg7 arg8 arg9 arg10 (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) q qt g gt o ls).step (next i h1) ((insOf c arg3 arg4 arg7 arg8 arg9 arg10 (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) q qt g gt o ls).diag i ⟨arg11.view.read (Elt F) f11, k0_pay25, k0_pay26⟩)
      ∧ (runB c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).1 = dqAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips
      ∧ valueOf arg12 (runB c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).2.2.2.1 = k0_pay44 (View.readAt (Elt F) arg14.view (Rect.unit (s := S128x512) ![0, 0] ![128, 512] inb_S128x512_S128x512_0_0).toLoadRect (dkAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips))
      ∧ valueOf arg13 (runB c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).2.2.2.2.1 = k0_pay1 (k0_pay45 (View.readAt (Elt F) arg15.view (Rect.unit (s := S128x512) ![0, 0] ![128, 512] inb_S128x512_S128x512_0_0).toLoadRect (dvAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips))) := by
  refine ⟨⟨?A, ?B, ?C⟩, ?u, ?w, ?start, ?dq, ?dk, ?dv⟩
  case dq =>
    dsimp only [runB]
    rfl
  case dk => exact View.read_writes_full arg12.view _ _ _ _
  case dv => exact View.read_writes_full arg13.view _ _ _ _
  case start =>
    dsimp only [sumsOf, Ins.diag, Ins.step]
    congr 1
    · dsimp only [runB.sl.H14_1, runB.sl.H14_2, runB.sl.H15_1, runB.sl.H15_2, runB.sl.cst_85, runB.sl.cst_87, runB.sl.cst_88, runB.sl.r, runB.sl.r_1, runB.sl.r_2, runB.sl.r_3, runB.sl.r_4, runB.sl.r_5, runB.sl.r_6, runB.sl.r_7, runB.sl.v100, runB.sl.v101, runB.sl.v103, runB.sl.v104, runB.sl.v105, runB.sl.v133, runB.sl.v138, runB.sl.v148, runB.sl.v153, runB.sl.v154, runB.sl.v155, runB.sl.v156, runB.sl.v157, runB.sl.v158, runB.sl.v159, runB.sl.v160, runB.sl.v161, runB.sl.v164, runB.sl.v165, runB.sl.v166, runB.sl.v167, runB.sl.v168, runB.sl.v169, runB.sl.v170, runB.sl.v171, runB.sl.v172, runB.sl.v174, runB.sl.v175, runB.sl.v180, runB.sl.v181, runB.sl.v188, runB.sl.v198, runB.sl.v20, runB.sl.v71, runB.sl.v78, runB.sl.v96, runB.sl.v99]
      rw [rows3_put_next, store_next c i arg11 _ h1, put_here c i arg11, View.writes_nil, read_rows_next c i arg11 _ h1, read_rows_here c i arg11]
      simp only [cov_full, read_full, read_rows_here, read_flat_here, read_sums_here, read_tile_here, read_tile2_here, put_here, read_rows_next _ _ _ _ h1, read_flat_next _ _ _ _ h1, read_sums_next _ _ _ _ h1, read_tile_next _ _ _ _ h1, read_tile2_next _ _ _ _ h1, put_next _ _ _ _ h1]
      rfl
    · dsimp only [runB.sl.H14_1, runB.sl.H14_2, runB.sl.H15_1, runB.sl.H15_2, runB.sl.cst_85, runB.sl.cst_87, runB.sl.cst_88, runB.sl.r, runB.sl.r_1, runB.sl.r_2, runB.sl.r_3, runB.sl.r_4, runB.sl.r_5, runB.sl.r_6, runB.sl.r_7, runB.sl.v100, runB.sl.v101, runB.sl.v103, runB.sl.v104, runB.sl.v105, runB.sl.v133, runB.sl.v138, runB.sl.v148, runB.sl.v153, runB.sl.v154, runB.sl.v155, runB.sl.v156, runB.sl.v157, runB.sl.v158, runB.sl.v159, runB.sl.v160, runB.sl.v161, runB.sl.v164, runB.sl.v165, runB.sl.v166, runB.sl.v167, runB.sl.v168, runB.sl.v169, runB.sl.v170, runB.sl.v171, runB.sl.v172, runB.sl.v174, runB.sl.v175, runB.sl.v180, runB.sl.v181, runB.sl.v188, runB.sl.v198, runB.sl.v20, runB.sl.v71, runB.sl.v78, runB.sl.v96, runB.sl.v99]
      rw [store_full c arg14]
      simp only [cov_full, read_full, read_rows_here, read_flat_here, read_sums_here, read_tile_here, read_tile2_here, put_here, read_rows_next _ _ _ _ h1, read_flat_next _ _ _ _ h1, read_sums_next _ _ _ _ h1, read_tile_next _ _ _ _ h1, read_tile2_next _ _ _ _ h1, put_next _ _ _ _ h1]
      rfl
    · dsimp only [runB.sl.H14_1, runB.sl.H14_2, runB.sl.H15_1, runB.sl.H15_2, runB.sl.cst_85, runB.sl.cst_87, runB.sl.cst_88, runB.sl.r, runB.sl.r_1, runB.sl.r_2, runB.sl.r_3, runB.sl.r_4, runB.sl.r_5, runB.sl.r_6, runB.sl.r_7, runB.sl.v100, runB.sl.v101, runB.sl.v103, runB.sl.v104, runB.sl.v105, runB.sl.v133, runB.sl.v138, runB.sl.v148, runB.sl.v153, runB.sl.v154, runB.sl.v155, runB.sl.v156, runB.sl.v157, runB.sl.v158, runB.sl.v159, runB.sl.v160, runB.sl.v161, runB.sl.v164, runB.sl.v165, runB.sl.v166, runB.sl.v167, runB.sl.v168, runB.sl.v169, runB.sl.v170, runB.sl.v171, runB.sl.v172, runB.sl.v174, runB.sl.v175, runB.sl.v180, runB.sl.v181, runB.sl.v188, runB.sl.v198, runB.sl.v20, runB.sl.v71, runB.sl.v78, runB.sl.v96, runB.sl.v99]
      rw [store_full c arg15]
      simp only [cov_full, read_full, read_rows_here, read_flat_here, read_sums_here, read_tile_here, read_tile2_here, put_here, read_rows_next _ _ _ _ h1, read_flat_next _ _ _ _ h1, read_sums_next _ _ _ _ h1, read_tile_next _ _ _ _ h1, read_tile2_next _ _ _ _ h1, put_next _ _ _ _ h1]
      rfl

/-- Case C: the loop starts from the first steps' sums, and what it leaves is written out. -/
theorem shapeC (h0 : ¬ first i) (h1 : ¬ k0_cond2 i = 1#1) :
    ∃ (s : Accs (F := F) c arg11 arg14 arg15) (u : BitVec 32) (w : BitVec 1),
      sumsOf c arg11 arg14 arg15 s.dq s.dkT s.dvT = (insOf c arg3 arg4 arg7 arg8 arg9 arg10 (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) q qt g gt o ls).diag i ⟨arg11.view.read (Elt F) f11, k0_pay25, k0_pay26⟩
      ∧ (runC c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).1 = dqAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips
      ∧ valueOf arg12 (runC c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).2.2.2.1 = k0_pay44 (View.readAt (Elt F) arg14.view (Rect.unit (s := S128x512) ![0, 0] ![128, 512] inb_S128x512_S128x512_0_0).toLoadRect (dkAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips))
      ∧ valueOf arg13 (runC c i arg3 harg3 arg4 harg4 arg5 harg5 arg6 harg6 arg7 harg7 arg8 harg8 arg9 harg9 arg10 harg10 arg11 harg11 arg12 harg12 arg13 harg13 arg14 harg14 arg15 harg15 q qt kb vb g gt o ls f11 f14 f15 h0 h1).2.2.2.2.1 = k0_pay1 (k0_pay45 (View.readAt (Elt F) arg15.view (Rect.unit (s := S128x512) ![0, 0] ![128, 512] inb_S128x512_S128x512_0_0).toLoadRect (dvAt c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect kb)) (k0_pay23 (View.readAt (Elt F) arg6.view (Rect.unit (s := S1x512x128) ![0, 0, 0] ![1, 512, 128] inb_S1x512x128_S1x512x128_0_0_0).toLoadRect vb)) (k0_pay24 i) u w q qt g gt o ls s.dq s.dkT s.dvT (k0_t1_loop i).trips))) := by
  refine ⟨⟨?A, ?B, ?C⟩, ?u, ?w, ?start, ?dq, ?dk, ?dv⟩
  case dq =>
    dsimp only [runC]
    rfl
  case dk => exact View.read_writes_full arg12.view _ _ _ _
  case dv => exact View.read_writes_full arg13.view _ _ _ _
  case start =>
    dsimp only [sumsOf, Ins.diag, Ins.step]
    congr 1
    · dsimp only [runC.sl.H14_1, runC.sl.H15_1, runC.sl.r, runC.sl.r_1, runC.sl.r_2, runC.sl.r_3, runC.sl.r_4, runC.sl.r_5, runC.sl.r_6, runC.sl.r_7, runC.sl.v100, runC.sl.v101, runC.sl.v103, runC.sl.v104, runC.sl.v105, runC.sl.v133, runC.sl.v138, runC.sl.v20, runC.sl.v71, runC.sl.v78, runC.sl.v96, runC.sl.v99]
      rw [store_here c i arg11, View.writes_nil, read_rows_here c i arg11]
      simp only [cov_full, read_full, read_rows_here, read_flat_here, read_sums_here, read_tile_here, read_tile2_here, put_here]
      rfl
    · dsimp only [runC.sl.H14_1, runC.sl.H15_1, runC.sl.r, runC.sl.r_1, runC.sl.r_2, runC.sl.r_3, runC.sl.r_4, runC.sl.r_5, runC.sl.r_6, runC.sl.r_7, runC.sl.v100, runC.sl.v101, runC.sl.v103, runC.sl.v104, runC.sl.v105, runC.sl.v133, runC.sl.v138, runC.sl.v20, runC.sl.v71, runC.sl.v78, runC.sl.v96, runC.sl.v99]
      rw [store_full c arg14]
      simp only [cov_full, read_full, read_rows_here, read_flat_here, read_sums_here, read_tile_here, read_tile2_here, put_here]
      rfl
    · dsimp only [runC.sl.H14_1, runC.sl.H15_1, runC.sl.r, runC.sl.r_1, runC.sl.r_2, runC.sl.r_3, runC.sl.r_4, runC.sl.r_5, runC.sl.r_6, runC.sl.r_7, runC.sl.v100, runC.sl.v101, runC.sl.v103, runC.sl.v104, runC.sl.v105, runC.sl.v133, runC.sl.v138, runC.sl.v20, runC.sl.v71, runC.sl.v78, runC.sl.v96, runC.sl.v99]
      rw [store_full c arg15]
      simp only [cov_full, read_full, read_rows_here, read_flat_here, read_sums_here, read_tile_here, read_tile2_here, put_here]

end Point

end Cert.AttnIdeal.Run

end
-- ==== Proof.Attn.Left.lean ====
/- What a grid point leaves of the three gradients.

The first steps and the loop together are the diagonal step and one step on every later query block, in each of the three
cases the body tells apart (`leftA_eq`, `leftB_eq`, `leftC_eq`). -/
module

public import proofs.«01_k».proof.Proof.Attn.Point

@[expose] public section

set_option maxRecDepth 8192
set_option maxHeartbeats 4000000

noncomputable section

namespace Cert.AttnIdeal.Run

open Cert.AttnIdeal.Gen
open Idealize.ShloMosaic Idealize.ShloMosaic.TcCoe Idealize.ShloMosaic.Tactic
open Idealize.SL

variable {F : FTy → Type} [FloatOps F] [Named F]

/-- After the first steps the loop's rows of steps make up all the later blocks. -/
theorem steps_of_odd (x : Ins F) (i : grid0.Coords) (h : k0_cond2 i = 1#1) (s : Sums F) :
    x.steps (blockA i 0) (2 * (k0_t1_loop i).trips) (x.step (next i h) s) = x.steps ((i 2).val + 1) (7 - (i 2).val) s := by
  have p := (parity i).mp h
  have l := next_lt i h
  have e : 7 - (i 2).val = 1 + 2 * (k0_t1_loop i).trips := by rw [trips1_eq]; omega
  rw [e, Ins.steps_add]
  have b : blockA i 0 = (i 2).val + 1 + 1 := by simp only [blockA, p]
  rw [b]
  congr 1
  show _ = x.steps _ (0 + 1) s
  simp only [Ins.steps]
  rw [dif_pos (by omega)]
  rfl

theorem steps_of_even (x : Ins F) (i : grid0.Coords) (h : ¬ k0_cond2 i = 1#1) (s : Sums F) :
    x.steps (blockA i 0) (2 * (k0_t1_loop i).trips) s = x.steps ((i 2).val + 1) (7 - (i 2).val) s := by
  have p : (7 - (i 2).val) % 2 = 0 := by
    have := mt (parity i).mpr h
    omega
  have e : 7 - (i 2).val = 2 * (k0_t1_loop i).trips := by rw [trips1_eq]; omega
  rw [e]
  have b : blockA i 0 = (i 2).val + 1 := by simp only [blockA, p]
  rw [b]

section Point

variable (c : Dev nD) (i : grid0.Coords)
  (arg3 : Memref sig .tc .vmem S1x4096x128 .bf16) (harg3 : arg3.IsWhole)
  (arg4 : Memref sig .tc .vmem S1x8x128x512 .bf16) (harg4 : arg4.IsWhole)
  (arg5 : Memref sig .tc .vmem S1x512x128 .bf16) (harg5 : arg5.IsWhole)
  (arg6 : Memref sig .tc .vmem S1x512x128 .bf16) (harg6 : arg6.IsWhole)
  (arg7 : Memref sig .tc .vmem S4096x128 .f32) (harg7 : arg7.IsWhole)
  (arg8 : Memref sig .tc .vmem S1x8x128x512 .bf16) (harg8 : arg8.IsWhole)
  (arg9 : Memref sig .tc .vmem S4096x128 .f32) (harg9 : arg9.IsWhole)
  (arg10 : Memref sig .tc .vmem S1x4096x1 .f32) (harg10 : arg10.IsWhole)
  (arg11 : Memref sig .tc .vmem S1x4096x128 .f32) (harg11 : arg11.IsWhole)
  (arg12 : Memref sig .tc .vmem S1x512x128 .f32) (harg12 : arg12.IsWhole)
  (arg13 : Memref sig .tc .vmem S1x512x128 .f32) (harg13 : arg13.IsWhole)
  (arg14 : Memref sig .tc .vmem S128x512 .f32) (harg14 : arg14.IsWhole)
  (arg15 : Memref sig .tc .vmem S128x512 .f32) (harg15 : arg15.IsWhole)

/-- Case A, in vectors. -/
theorem leftA_eq (q : Vec F S1x4096x128 .bf16) (qt : Vec F S1x8x128x512 .bf16) (kb vb : Vec F S1x512x128 .bf16) (g : Vec F S4096x128 .f32) (gt : Vec F S1x8x128x512 .bf16) (o : Vec F S4096x128 .f32) (ls : Vec F S1x4096x1 .f32) (dq : Vec F S1x4096x128 .f32) (h0 : first i) (h1 : k0_cond2 i = 1#1) :
    leftA c i arg3 harg3 arg4 harg4 arg5 harg5 arg6 harg6 arg7 harg7 arg8 harg8 arg9 harg9 arg10 harg10 arg11 harg11 arg12 harg12 arg13 harg13 arg14 harg14 arg15 harg15 q qt kb vb g gt o ls dq h0 h1
      = leaves ((⟨q, qt, g, gt, o, ls, k0_pay22 kb, k0_pay23 vb, k0_pay24 i⟩ : Ins F).point i k0_pay21) := by
  obtain ⟨s, u, w, start, e1, e2, e3⟩ := shapeA c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1
  unfold leftA
  refine (congrArg₂ (fun a b => (arg11.view.read (Elt F) a, b)) e1 (congrArg₂ Prod.mk e2 e3)).trans ?_
  unfold leaves Ins.point
  dsimp only
  rw [read_full, read_full, dqAt_eq, dkAt_eq, dvAt_eq]
  have l := loop_steps c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect (harg5.unread kb))) (k0_pay23 (View.readAt (Elt F) arg6.view (Rect.unit (s := S1x512x128) ![0, 0, 0] ![1, 512, 128] inb_S1x512x128_S1x512x128_0_0_0).toLoadRect (harg6.unread vb))) (k0_pay24 i) u w (harg3.unread q) (harg4.unread qt) (harg7.unread g) (harg8.unread gt) (harg9.unread o) (harg10.unread ls) ⟨s.dq, s.dkT, s.dvT⟩ _ le_rfl
  rw [start, steps_of_odd] at l
  rw [read_block c arg5, read_block c arg6] at l
  simp only [insOf, harg3.read_unread, harg4.read_unread, harg5.read_unread, harg6.read_unread, harg7.read_unread, harg8.read_unread, harg9.read_unread, harg10.read_unread] at l
  rw [read_block c arg5, read_block c arg6]
  simp only [harg5.read_unread, harg6.read_unread]
  exact congrArg leaves l

/-- Case B, in vectors. -/
theorem leftB_eq (q : Vec F S1x4096x128 .bf16) (qt : Vec F S1x8x128x512 .bf16) (kb vb : Vec F S1x512x128 .bf16) (g : Vec F S4096x128 .f32) (gt : Vec F S1x8x128x512 .bf16) (o : Vec F S4096x128 .f32) (ls : Vec F S1x4096x1 .f32) (dq : Vec F S1x4096x128 .f32) (h0 : ¬ first i) (h1 : k0_cond2 i = 1#1) :
    leftB c i arg3 harg3 arg4 harg4 arg5 harg5 arg6 harg6 arg7 harg7 arg8 harg8 arg9 harg9 arg10 harg10 arg11 harg11 arg12 harg12 arg13 harg13 arg14 harg14 arg15 harg15 q qt kb vb g gt o ls dq h0 h1
      = leaves ((⟨q, qt, g, gt, o, ls, k0_pay22 kb, k0_pay23 vb, k0_pay24 i⟩ : Ins F).point i dq) := by
  obtain ⟨s, u, w, start, e1, e2, e3⟩ := shapeB c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1
  unfold leftB
  refine (congrArg₂ (fun a b => (arg11.view.read (Elt F) a, b)) e1 (congrArg₂ Prod.mk e2 e3)).trans ?_
  unfold leaves Ins.point
  dsimp only
  rw [read_full, read_full, dqAt_eq, dkAt_eq, dvAt_eq]
  have l := loop_steps c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect (harg5.unread kb))) (k0_pay23 (View.readAt (Elt F) arg6.view (Rect.unit (s := S1x512x128) ![0, 0, 0] ![1, 512, 128] inb_S1x512x128_S1x512x128_0_0_0).toLoadRect (harg6.unread vb))) (k0_pay24 i) u w (harg3.unread q) (harg4.unread qt) (harg7.unread g) (harg8.unread gt) (harg9.unread o) (harg10.unread ls) ⟨s.dq, s.dkT, s.dvT⟩ _ le_rfl
  rw [start, steps_of_odd] at l
  rw [read_block c arg5, read_block c arg6] at l
  simp only [insOf, harg3.read_unread, harg4.read_unread, harg5.read_unread, harg6.read_unread, harg7.read_unread, harg8.read_unread, harg9.read_unread, harg10.read_unread, harg11.read_unread] at l
  rw [read_block c arg5, read_block c arg6]
  simp only [harg5.read_unread, harg6.read_unread]
  exact congrArg leaves l

/-- Case C, in vectors. -/
theorem leftC_eq (q : Vec F S1x4096x128 .bf16) (qt : Vec F S1x8x128x512 .bf16) (kb vb : Vec F S1x512x128 .bf16) (g : Vec F S4096x128 .f32) (gt : Vec F S1x8x128x512 .bf16) (o : Vec F S4096x128 .f32) (ls : Vec F S1x4096x1 .f32) (dq : Vec F S1x4096x128 .f32) (h0 : ¬ first i) (h1 : ¬ k0_cond2 i = 1#1) :
    leftC c i arg3 harg3 arg4 harg4 arg5 harg5 arg6 harg6 arg7 harg7 arg8 harg8 arg9 harg9 arg10 harg10 arg11 harg11 arg12 harg12 arg13 harg13 arg14 harg14 arg15 harg15 q qt kb vb g gt o ls dq h0 h1
      = leaves ((⟨q, qt, g, gt, o, ls, k0_pay22 kb, k0_pay23 vb, k0_pay24 i⟩ : Ins F).point i dq) := by
  obtain ⟨s, u, w, start, e1, e2, e3⟩ := shapeC c i arg3 harg3 arg4 harg4 arg5 harg5 arg6 harg6 arg7 harg7 arg8 harg8 arg9 harg9 arg10 harg10 arg11 harg11 arg12 harg12 arg13 harg13 arg14 harg14 arg15 harg15 (harg3.unread q) (harg4.unread qt) (harg5.unread kb) (harg6.unread vb) (harg7.unread g) (harg8.unread gt) (harg9.unread o) (harg10.unread ls) (harg11.unread dq) arg14.view.junk arg15.view.junk h0 h1
  unfold leftC
  refine (congrArg₂ (fun a b => (arg11.view.read (Elt F) a, b)) e1 (congrArg₂ Prod.mk e2 e3)).trans ?_
  unfold leaves Ins.point
  dsimp only
  rw [read_full, read_full, dqAt_eq, dkAt_eq, dvAt_eq]
  have l := loop_steps c i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (k0_pay22 (View.readAt (Elt F) arg5.view (Rect.unit (s := S1x512x128) ![0, 0, 0] ![1, 512, 128] inb_S1x512x128_S1x512x128_0_0_0).toLoadRect (harg5.unread kb))) (k0_pay23 (View.readAt (Elt F) arg6.view (Rect.unit (s := S1x512x128) ![0, 0, 0] ![1, 512, 128] inb_S1x512x128_S1x512x128_0_0_0).toLoadRect (harg6.unread vb))) (k0_pay24 i) u w (harg3.unread q) (harg4.unread qt) (harg7.unread g) (harg8.unread gt) (harg9.unread o) (harg10.unread ls) ⟨s.dq, s.dkT, s.dvT⟩ _ le_rfl
  rw [start, steps_of_even _ _ h1] at l
  rw [read_block c arg5, read_block c arg6] at l
  simp only [insOf, harg3.read_unread, harg4.read_unread, harg5.read_unread, harg6.read_unread, harg7.read_unread, harg8.read_unread, harg9.read_unread, harg10.read_unread, harg11.read_unread] at l
  rw [read_block c arg5, read_block c arg6]
  simp only [harg5.read_unread, harg6.read_unread]
  exact congrArg leaves l

end Point

end Cert.AttnIdeal.Run

end
-- ==== Proof.Attn.Entry.lean ====
/- The entries of the attention gradient's steps, over the extended reals.

A masked score is ⊥, whose weight is exp(⊥ − x) = 0 at every x. So the diagonal step and the steps after it all add the
terms of one weight, `Ins.W`, and one score gradient, `Ins.D`, both zero where the mask is false.  -/
module

public import proofs.«01_k».proof.Proof.Attn.Left
public import Idealize.ShloMosaic.Lib.Pipeline.Value
public import Idealize.ShloMosaic.Lib.Pipeline.ValueKit

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic

/-- The scale of the scores, as the programs' literal. -/
abbrev scale : EReal := Ideal.ofBits FTy.f32 0x3DD105EC#32

/-- A key's chunk is not after a query's, as the body's words say it. -/
theorem chunk_word (n a b : ℕ) (hn : n < 8) (ha : a < 512) (hb : b < 512) :
    IntOp.cmpi CmpIPredicate.sle
      (IntOp.shrui ArithUnit.vector (IntOp.addi (Scalar.muli (BitVec.ofNat 32 n) 512#32) (BitVec.ofNat 32 a)) 6#32)
      (IntOp.shrui ArithUnit.vector (IntOp.addi (Scalar.muli (BitVec.ofNat 32 n) 512#32) (BitVec.ofNat 32 b)) 6#32)
      = BitVec.ofBool (decide ((512 * n + a) / 64 ≤ (512 * n + b) / 64)) := by
  have word : ∀ m, m < 512 → IntOp.shrui ArithUnit.vector (IntOp.addi (Scalar.muli (BitVec.ofNat 32 n) 512#32) (BitVec.ofNat 32 m)) 6#32
      = BitVec.ofNat 32 ((512 * n + m) / 64) := fun m hm => by
    apply BitVec.eq_of_toNat_eq
    simp [IntOp.shrui, IntOp.addi, Scalar.muli, IntOp.muli, Nat.shiftRight_eq_div_pow]
    omega
  rw [word a ha, word b hb, WordCmp.cmpi_sle_ofNat (by norm_num; omega) (by norm_num; omega)]

theorem exp_masked (x : EReal) : Ideal.exp (⊥ - x) = 0 := by
  rw [sub_eq_add_neg, EReal.bot_add]; rfl

theorem named_masked (w : BitVec 32) : (Named.named (F := Ideal) κ "masked" (φ := .f32) w) = (⊥ : EReal) := rfl

theorem pay2_apply (k : FVec Ideal S512x128 .bf16) (q : Vec Ideal S1x512x128 .bf16) (l : Vec Ideal S1x512x1 .f32) (r j : Fin 512) :
    k0_pay2 k q l (ix2 r j) = Ideal.exp ((∑ d, q (ix3 0 r d) * k (ix2 j d)) * scale - l (ix3 0 r 0)) := by
  pointwise [k0_pay2]

theorem pay3_apply (k v : FVec Ideal S512x128 .bf16) (w : IVec S512x128 1) (q : Vec Ideal S1x512x128 .bf16) (g o : Vec Ideal S512x128 .f32)
    (l : Vec Ideal S1x512x1 .f32) (r j : Fin 512) :
    k0_pay3 k v w q g o l (ix2 r j) = k0_pay2 k q l (ix2 r j)
      * (∑ d, g (ix2 r d) * v (ix2 j d) - ∑ d, Scalar.select (w (ix2 r d)) (g (ix2 r d) * o (ix2 r d)) 0) * scale := by
  pointwise [k0_pay3, k0_pay2]

theorem pay29_apply (n : ℕ) (hn : n < 8) (k : FVec Ideal S512x128 .bf16) (q : Vec Ideal S1x512x128 .bf16) (l : Vec Ideal S1x512x1 .f32)
    (r j : Fin 512) :
    k0_pay29 (BitVec.ofNat 32 n) k (Scalar.muli (BitVec.ofNat 32 n) 512#32) (k0_pay27 q) l (ix2 r j)
      = if (512 * n + j.val) / 64 ≤ (512 * n + r.val) / 64 then k0_pay2 k q l (ix2 r j) else 0 := by
  rw [pay2_apply]
  pointwise [k0_pay29, k0_pay27]
  rw [chunk_word n j.val r.val hn j.isLt r.isLt, WordCmp.select_ofBool, named_masked]
  by_cases h : (512 * n + j.val) / 64 ≤ (512 * n + r.val) / 64
  · simp [h]
  · simp only [h, decide_false, if_false, Bool.false_eq_true]
    exact exp_masked _

theorem pay30_apply (i : grid0.Coords) (n : ℕ) (k v : FVec Ideal S512x128 .bf16) (q : Vec Ideal S1x512x128 .bf16)
    (g o : Vec Ideal S512x128 .f32) (l : Vec Ideal S1x512x1 .f32) (r j : Fin 512) :
    k0_pay30 (BitVec.ofNat 32 n) k v (Scalar.muli (BitVec.ofNat 32 n) 512#32) (k0_pay27 q) g (k0_pay28 i g o) l (ix2 r j)
      = k0_pay29 (BitVec.ofNat 32 n) k (Scalar.muli (BitVec.ofNat 32 n) 512#32) (k0_pay27 q) l (ix2 r j)
      * (∑ d, g (ix2 r d) * v (ix2 j d) - ∑ d, Scalar.select (k0_pay24 i (ix2 r d)) (g (ix2 r d) * o (ix2 r d)) 0) * scale := by
  generalize hk : k0_pay27 q = q'
  generalize hw : k0_pay24 i = w
  pointwise [k0_pay30, k0_pay28]
  generalize hp : k0_pay29 (BitVec.ofNat 32 n) k (Scalar.muli (BitVec.ofNat 32 n) 512#32) q' l = p
  rw [hw]

theorem pay7_apply (p : FVec Ideal S512x512 .f32) (x : Vec Ideal S1x1x128x512 .bf16) (s : Vec Ideal S128x512 .f32) (d : Fin 128) (j : Fin 512) :
    k0_pay7 p x s (ix2 d j) = s (ix2 d j) + ∑ r, x (ix4 0 0 d r) * p (ix2 r j) := by
  pointwise [k0_pay7]

theorem pay8_apply (p : FVec Ideal S512x512 .bf16) (s : Vec Ideal S128x512 .f32) (x : Vec Ideal S1x1x128x512 .bf16) (d : Fin 128) (j : Fin 512) :
    k0_pay8 p s x (ix2 d j) = s (ix2 d j) + ∑ r, x (ix4 0 0 d r) * p (ix2 r j) := by
  pointwise [k0_pay8]

theorem pay9_apply (k : FVec Ideal S512x128 .bf16) (p : FVec Ideal S512x512 .bf16) (s : Vec Ideal S1x512x128 .f32) (r : Fin 512) (d : Fin 128) :
    k0_pay9 k p s (ix3 0 r d) = s (ix3 0 r d) + ∑ j, p (ix2 r j) * k (ix2 j d) := by
  pointwise [k0_pay9]

theorem pay34_apply (k : FVec Ideal S512x128 .bf16) (p : FVec Ideal S512x512 .bf16) (s : Vec Ideal S1x512x128 .f32) (r : Fin 512) (d : Fin 128) :
    k0_pay34 k p s (ix3 0 r d) = s (ix3 0 r d) + ∑ j, p (ix2 r j) * k (ix2 j d) := by
  pointwise [k0_pay34]

theorem pay33_apply (p : FVec Ideal S512x512 .bf16) (s : Vec Ideal S128x512 .f32) (x : Vec Ideal S1x1x128x512 .bf16) (d : Fin 128) (j : Fin 512) :
    k0_pay33 p s x (ix2 d j) = s (ix2 d j) + ∑ r, x (ix4 0 0 d r) * p (ix2 r j) := by
  pointwise [k0_pay33]

theorem pay32_apply (s : Vec Ideal S128x512 .f32) (a b : BitVec 32) (k : FVec Ideal S512x128 .bf16) (q : FVec Ideal S512x128 .bf16)
    (l : Vec Ideal S1x512x1 .f32) (x : Vec Ideal S1x1x128x512 .bf16) (d : Fin 128) (j : Fin 512) :
    k0_pay32 s (k0_pay31 a k b q l x) (ix2 d j) = s (ix2 d j) + ∑ r, x (ix4 0 0 d r) * k0_pay29 a k b q l (ix2 r j) := by
  pointwise [k0_pay32, k0_pay31]

theorem pay21_apply (r : Fin 4096) (d : Fin 128) : k0_pay21 (F := Ideal) (ix3 0 r d) = 0 := by pointwise [k0_pay21]
theorem pay25_apply (d : Fin 128) (j : Fin 512) : k0_pay25 (F := Ideal) (ix2 d j) = 0 := by pointwise [k0_pay25]
theorem pay26_apply (d : Fin 128) (j : Fin 512) : k0_pay26 (F := Ideal) (ix2 d j) = 0 := by pointwise [k0_pay26]
theorem pay22_apply (x : Vec Ideal S1x512x128 .bf16) (j : Fin 512) (d : Fin 128) : k0_pay22 x (ix2 j d) = x (ix3 0 j d) := by pointwise [k0_pay22]
theorem pay23_apply (x : Vec Ideal S1x512x128 .bf16) (j : Fin 512) (d : Fin 128) : k0_pay23 x (ix2 j d) = x (ix3 0 j d) := by pointwise [k0_pay23]
theorem pay44_apply (x : Vec Ideal S128x512 .f32) (j : Fin 512) (d : Fin 128) : k0_pay44 x (ix3 0 j d) = x (ix2 d j) := by pointwise [k0_pay44]
theorem pay45_apply (x : Vec Ideal S128x512 .f32) (j : Fin 512) (d : Fin 128) : k0_pay1 (k0_pay45 x) (ix3 0 j d) = x (ix2 d j) := by pointwise [k0_pay1, k0_pay45]

theorem pay24_apply (i : grid0.Coords) (j : Fin 512) (d : Fin 128) :
    k0_pay24 i (ix2 j d) = BitVec.ofBool (decide (d.val / 64 = (i 1).val)) := by
  pointwise [k0_pay24]
  have h : ∀ (d : Fin 128) (n : Fin 2), IntOp.cmpi .eq (IntOp.shrui ArithUnit.vector (BitVec.ofNat 32 d.val) 6#32) (BitVec.ofNat 32 n.val)
      = BitVec.ofBool (decide (d.val / 64 = n.val)) := by decide +kernel
  exact h d ⟨(i 1).val, (i 1).isLt⟩

end Cert.AttnIdeal.Run

end
-- ==== Proof.Attn.Sums.lean ====
/- What a grid point adds up, over the extended reals.

The diagonal step and the steps on the later query blocks each add their block's terms; on the earlier blocks the terms
are zero. So a point leaves sums over ALL the query blocks (`point_dkT`, `point_dvT`) and, of the query gradient, one key
block's part at every row (`point_dq`). -/
module

public import proofs.«01_k».proof.Proof.Attn.Entry

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic

/-- Row `r` of query block `b`. -/
def row (b : Fin 8) (r : Fin 512) : Fin 4096 := ⟨512 * b.val + r.val, by omega⟩

theorem rows3_apply {e : EltTy} {w : ℕ} (x : (⟨3, ![1, 4096, w]⟩ : Shape).Idx → Elt Ideal e) (b : Fin 8) (r : Fin 512) (d : Fin w) :
    rows3 (F := Ideal) x b (ix3 0 r d) = x (ix3 0 (row b r) d) := by
  refine congrArg x (funext fun a => Fin.ext ?_)
  fin_cases a <;> simp [row]

theorem rows2_apply {e : EltTy} (x : (⟨2, ![4096, 128]⟩ : Shape).Idx → Elt Ideal e) (b : Fin 8) (r : Fin 512) (d : Fin 128) :
    rows2 (F := Ideal) x b (ix2 r d) = x (ix2 (row b r) d) := by
  refine congrArg x (funext fun a => Fin.ext ?_)
  fin_cases a <;> simp [row]

theorem tile_apply {e : EltTy} (x : (⟨4, ![1, 8, 128, 512]⟩ : Shape).Idx → Elt Ideal e) (b : Fin 8) (d : Fin 128) (r : Fin 512) :
    tile (F := Ideal) x b (ix4 0 0 d r) = x (ix4 0 b d r) := by
  refine congrArg x (funext fun a => Fin.ext ?_)
  fin_cases a <;> simp

theorem put_apply (x : Vec Ideal S1x4096x128 .f32) (b : Fin 8) (w : Vec Ideal S1x512x128 .f32) (b' : Fin 8) (r : Fin 512) (d : Fin 128) :
    VecWindow.put x ![0, 512 * b.val, 0] ![1, 512, 128] w (ix3 0 (row b' r) d) = if b' = b then w (ix3 0 r d) else x (ix3 0 (row b' r) d) := by
  unfold VecWindow.put
  by_cases hb : b' = b
  · subst hb
    rw [dif_pos (fun a => by fin_cases a <;> simp [row]), if_pos rfl]
    refine congrArg w (funext fun a => Fin.ext ?_)
    fin_cases a <;> simp [row]
  · rw [dif_neg (fun h => hb (Fin.ext ?_)), if_neg hb]
    have h1 := h 1
    simp [row] at h1
    omega

namespace Ins

variable (x : Ins Ideal) (n : Fin 8)

/-- The weight of key `j` of key block `n` at row `r` of query block `b`, 0 where the key's chunk is after the query's. -/
def W (b : Fin 8) (r j : Fin 512) : EReal :=
  if (512 * n.val + j.val) / 64 ≤ (512 * b.val + r.val) / 64 then
    Ideal.exp ((∑ d, x.q (ix3 0 (row b r) d) * x.k (ix2 j d)) * scale - x.ls (ix3 0 (row b r) 0)) else 0

/-- The gradient of that score. -/
def D (b : Fin 8) (r j : Fin 512) : EReal :=
  x.W n b r j * (∑ d, x.g (ix2 (row b r) d) * x.v (ix2 j d)
    - ∑ d, Scalar.select (x.own (ix2 r d)) (x.g (ix2 (row b r) d) * x.o (ix2 (row b r) d)) 0) * scale

variable {n}

theorem W_before {b : Fin 8} (h : b < n) (r j : Fin 512) : x.W n b r j = 0 := by
  unfold W
  rw [if_neg]
  have := r.isLt
  have : b.val < n.val := h
  omega

theorem D_before {b : Fin 8} (h : b < n) (r j : Fin 512) : x.D n b r j = 0 := by
  unfold D
  rw [W_before x h, zero_mul, zero_mul]

theorem P_apply {b : Fin 8} (h : n < b) (r j : Fin 512) : x.P b (ix2 r j) = x.W n b r j := by
  unfold P W
  have := r.isLt
  have := j.isLt
  have : n.val < b.val := h
  rw [if_pos (by omega)]
  refine (pay2_apply _ _ _ r j).trans ?_
  simp only [rows3_apply]

theorem DS_apply {b : Fin 8} (h : n < b) (r j : Fin 512) : x.DS b (ix2 r j) = x.D n b r j := by
  unfold DS D
  refine (pay3_apply _ _ _ _ _ _ _ r j).trans ?_
  rw [← P_apply x h]
  simp only [rows2_apply]
  rfl

theorem P₀_apply (i : grid0.Coords) (r j : Fin 512) : x.P₀ i (ix2 r j) = x.W (here i) (here i) r j := by
  unfold P₀ W
  refine (pay29_apply _ (i 2).isLt _ _ _ r j).trans ?_
  rw [pay2_apply]
  simp only [rows3_apply]
  rfl

theorem DS₀_apply (i : grid0.Coords) (ho : x.own = k0_pay24 i) (r j : Fin 512) : x.DS₀ i (ix2 r j) = x.D (here i) (here i) r j := by
  unfold DS₀ D
  refine (pay30_apply i _ _ _ _ _ _ _ r j).trans ?_
  rw [← P₀_apply, ho]
  simp only [rows2_apply]
  rfl

variable (n)

/-- The terms a query block adds to the key gradient, to the value gradient and to its own rows of the query gradient. -/
def termK (d : Fin 128) (j : Fin 512) (b : Fin 8) : EReal := ∑ r, x.qt (ix4 0 b d r) * x.D n b r j
def termV (d : Fin 128) (j : Fin 512) (b : Fin 8) : EReal := ∑ r, x.gt (ix4 0 b d r) * x.W n b r j
def termQ (b : Fin 8) (r : Fin 512) (d : Fin 128) : EReal := ∑ j, x.D n b r j * x.k (ix2 j d)

/-- `s` holds, over the start `dq`, the terms of the query blocks up to `m`. -/
structure Upto (dq : Vec Ideal S1x4096x128 .f32) (m : ℕ) (s : Sums Ideal) : Prop where
  dq : ∀ b r d, s.dq (ix3 0 (row b r) d) = dq (ix3 0 (row b r) d) + if b.val ≤ m then x.termQ n b r d else 0
  dk : ∀ d j, s.dkT (ix2 d j) = ∑ b : Fin 8, if b.val ≤ m then x.termK n d j b else 0
  dv : ∀ d j, s.dvT (ix2 d j) = ∑ b : Fin 8, if b.val ≤ m then x.termV n d j b else 0

/-- A sum up to a block is the sum up to the one before it, and its term. -/
theorem sum_upto (f : Fin 8 → EReal) (b : Fin 8) :
    (∑ c : Fin 8, if c.val ≤ b.val then f c else 0) = (∑ c : Fin 8, if c.val < b.val then f c else 0) + f b := by
  have h : ∀ c : Fin 8, (if c.val ≤ b.val then f c else 0) = (if c.val < b.val then f c else 0) + if c = b then f c else 0 := fun c => by
    rcases lt_trichotomy c.val b.val with h | h | h
    · rw [if_pos h.le, if_pos h, if_neg (fun e => by subst e; omega), add_zero]
    · rw [if_pos h.le, if_neg (by omega), if_pos (Fin.ext h), zero_add]
    · rw [if_neg (by omega), if_neg (by omega), if_neg (fun e => by subst e; omega), add_zero]
  rw [Finset.sum_congr rfl fun c _ => h c, Finset.sum_add_distrib, Finset.sum_ite_eq' Finset.univ b f, if_pos (Finset.mem_univ _)]

theorem sum_first (f : Fin 8 → EReal) (b : Fin 8) (h : ∀ c, c < b → f c = 0) : (∑ c : Fin 8, if c.val ≤ b.val then f c else 0) = f b := by
  rw [sum_upto, Finset.sum_eq_zero, zero_add]
  intro c _
  split_ifs with hc
  exacts [h c hc, rfl]

theorem termK_before {b : Fin 8} (h : b < n) (d : Fin 128) (j : Fin 512) : x.termK n d j b = 0 :=
  Finset.sum_eq_zero fun r _ => by rw [x.D_before h, mul_zero]

theorem termV_before {b : Fin 8} (h : b < n) (d : Fin 128) (j : Fin 512) : x.termV n d j b = 0 :=
  Finset.sum_eq_zero fun r _ => by rw [x.W_before h, mul_zero]

theorem termQ_before {b : Fin 8} (h : b < n) (r : Fin 512) (d : Fin 128) : x.termQ n b r d = 0 :=
  Finset.sum_eq_zero fun j _ => by rw [x.D_before h, zero_mul]

theorem upto_diag (i : grid0.Coords) (ho : x.own = k0_pay24 i) (dq : Vec Ideal S1x4096x128 .f32) :
    x.Upto (here i) dq (here i).val (x.diag i ⟨dq, k0_pay25 (F := Ideal), k0_pay26 (F := Ideal)⟩) := by
  refine ⟨fun b r d => ?_, fun d j => ?_, fun d j => ?_⟩
  · refine (put_apply _ (here i) _ b r d).trans ?_
    by_cases h : b = here i
    · subst h
      rw [if_pos rfl, if_pos le_rfl]
      refine (pay34_apply _ _ _ r d).trans ?_
      rw [rows3_apply]
      exact congrArg _ (Finset.sum_congr rfl fun j _ => by rw [x.DS₀_apply i ho])
    · rw [if_neg h]
      by_cases hb : b.val ≤ (here i).val
      · rw [if_pos hb, x.termQ_before (here i) (lt_of_le_of_ne hb (fun e => h e)), add_zero]
      · rw [if_neg hb, add_zero]
  · refine (pay33_apply _ _ _ d j).trans ?_
    dsimp only
    rw [pay25_apply, zero_add, sum_first (x.termK (here i) d j) (here i) (fun c h => x.termK_before (here i) h d j)]
    exact Finset.sum_congr rfl fun r _ => by rw [x.DS₀_apply i ho, tile_apply]
  · refine (pay32_apply _ _ _ _ _ _ _ d j).trans ?_
    dsimp only
    rw [pay26_apply, zero_add, sum_first (x.termV (here i) d j) (here i) (fun c h => x.termV_before (here i) h d j)]
    exact Finset.sum_congr rfl fun r _ => by rw [tile_apply, ← x.P₀_apply i]; rfl

theorem upto_step {dq : Vec Ideal S1x4096x128 .f32} {s : Sums Ideal} {m : ℕ} (b : Fin 8) (hb : b.val = m + 1) (hn : n.val ≤ m)
    (hs : x.Upto n dq m s) : x.Upto n dq b.val (x.step b s) := by
  have hnb : n < b := by show n.val < b.val; omega
  have below : ∀ c : Fin 8, (c.val ≤ m) = (c.val < b.val) := fun c => propext (by omega)
  refine ⟨fun c r d => ?_, fun d j => ?_, fun d j => ?_⟩
  · refine (put_apply _ b _ c r d).trans ?_
    by_cases h : c = b
    · subst h
      rw [if_pos rfl, if_pos le_rfl]
      refine (pay9_apply _ _ _ r d).trans ?_
      rw [rows3_apply, hs.dq, if_neg (by omega), add_zero]
      exact congrArg _ (Finset.sum_congr rfl fun j _ => by rw [x.DS_apply hnb])
    · rw [if_neg h, hs.dq]
      have : (c.val ≤ m) = (c.val ≤ b.val) := propext ⟨fun q => by omega, fun q => by
        have : c.val ≠ b.val := fun e => h (Fin.ext e)
        omega⟩
      simp only [this]
  · refine (pay8_apply _ _ _ d j).trans ?_
    rw [hs.dk, sum_upto (x.termK n d j) b]
    simp only [below]
    exact congrArg _ (Finset.sum_congr rfl fun r _ => by rw [x.DS_apply hnb, tile_apply])
  · refine (pay7_apply _ _ _ d j).trans ?_
    rw [hs.dv, sum_upto (x.termV n d j) b]
    simp only [below]
    exact congrArg _ (Finset.sum_congr rfl fun r _ => by rw [x.P_apply hnb, tile_apply])

theorem upto_steps {dq : Vec Ideal S1x4096x128 .f32} {s : Sums Ideal} (hs : x.Upto n dq n.val s) (k : ℕ) (hk : n.val + k < 8) :
    x.Upto n dq (n.val + k) (x.steps (n.val + 1) k s) := by
  induction k with
  | zero => exact hs
  | succ k ih =>
    have h : n.val + 1 + k < 8 := by omega
    have e : x.steps (n.val + 1) (k + 1) s = x.step ⟨n.val + 1 + k, h⟩ (x.steps (n.val + 1) k s) := by
      conv_lhs => unfold steps
      exact dif_pos h
    rw [e]
    have := x.upto_step n ⟨n.val + 1 + k, h⟩ (m := n.val + k) (by show n.val + 1 + k = _; omega) (by omega) (ih (by omega))
    rw [show n.val + (k + 1) = n.val + 1 + k by omega]
    exact this

theorem upto_point (i : grid0.Coords) (ho : x.own = k0_pay24 i) (dq : Vec Ideal S1x4096x128 .f32) :
    x.Upto (here i) dq 7 (x.point i dq) := by
  have h := (here i).isLt
  have := x.upto_steps (here i) (x.upto_diag i ho dq) (7 - (here i).val) (by omega)
  rwa [show (here i).val + (7 - (here i).val) = 7 by omega] at this

theorem point_dq (i : grid0.Coords) (ho : x.own = k0_pay24 i) (dq : Vec Ideal S1x4096x128 .f32) (b : Fin 8) (r : Fin 512) (d : Fin 128) :
    (x.point i dq).dq (ix3 0 (row b r) d) = dq (ix3 0 (row b r) d) + x.termQ (here i) b r d := by
  rw [(x.upto_point i ho dq).dq, if_pos (by omega)]

theorem point_dkT (i : grid0.Coords) (ho : x.own = k0_pay24 i) (dq : Vec Ideal S1x4096x128 .f32) (d : Fin 128) (j : Fin 512) :
    (x.point i dq).dkT (ix2 d j) = ∑ b, x.termK (here i) d j b := by
  rw [(x.upto_point i ho dq).dk]
  exact Finset.sum_congr rfl fun b _ => if_pos (by omega)

theorem point_dvT (i : grid0.Coords) (ho : x.own = k0_pay24 i) (dq : Vec Ideal S1x4096x128 .f32) (d : Fin 128) (j : Fin 512) :
    (x.point i dq).dvT (ix2 d j) = ∑ b, x.termV (here i) d j b := by
  rw [(x.upto_point i ho dq).dv]
  exact Finset.sum_congr rfl fun b _ => if_pos (by omega)

end Ins

end Cert.AttnIdeal.Run

end
-- ==== Proof.Attn.Points.lean ====
/- What the points of the grid leave.

A point leaves what its steps leave, whichever case of the body it takes (`left_eq`); so the key and value gradients'
blocks are its sums (`keys_eq`, `values_eq`), and the query gradient's block holds after key block `n` the parts of
the key blocks up to `n` (`queries_eq`). -/
module

public import proofs.«01_k».proof.Proof.Attn.Sums
public import proofs.«01_k».proof.Proof.Attn.Frame

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Idealize.SL

section General

variable {F : FTy → Type} [FloatOps F] [Named F]
variable (m : (ℓ : Loc nD τ sig) → Buf (Elt F) ℓ) (c : Dev nD) (t : Fin cfg0.N)

/-- What the steps of point `t` read. -/
def insAt : Ins F :=
  ⟨iblk m c 0 t, iblk m c 1 t, iblk m c 4 t, iblk m c 5 t, iblk m c 6 t, iblk m c 7 t, k0_pay22 (iblk m c 2 t), k0_pay23 (iblk m c 3 t),
   k0_pay24 (grid0.coords t)⟩

theorem left_eq (dq : Vec F S1x4096x128 .f32) :
    left m c t dq = leaves ((insAt m c t).point (grid0.coords t) (if t.val % 8 = 0 then k0_pay21 else dq)) := by
  unfold left
  by_cases h0 : first (grid0.coords t)
  · have e := (first_iff t).mp h0
    have h1 : k0_cond2 (grid0.coords t) = 1#1 := (odd_iff t).mpr (by omega)
    rw [dif_pos h0, dif_pos h1, if_pos e]
    exact leftA_eq c (grid0.coords t) _ _ _ _ _ _ _ _ _ _ _ _ _ _ _ _ _ _ _ _ _ _ _ _ _ _ _ _ _ _ _ _ _ _ _ h0 h1
  · have e : ¬ t.val % 8 = 0 := fun e => h0 ((first_iff t).mpr e)
    by_cases h1 : k0_cond2 (grid0.coords t) = 1#1
    · rw [dif_neg h0, dif_pos h1, if_neg e]
      exact leftB_eq c (grid0.coords t) _ _ _ _ _ _ _ _ _ _ _ _ _ _ _ _ _ _ _ _ _ _ _ _ _ _ _ _ _ _ _ _ _ _ _ h0 h1
    · rw [dif_neg h0, dif_neg h1, if_neg e]
      exact leftC_eq c (grid0.coords t) _ _ _ _ _ _ _ _ _ _ _ _ _ _ _ _ _ _ _ _ _ _ _ _ _ _ _ _ _ _ _ _ _ _ _ h0 h1

end General

variable (m : (ℓ : Loc nD τ sig) → Buf (Elt Ideal) ℓ) (c : Dev nD) (t : Fin cfg0.N)

/-- The key block of a point. -/
abbrev kb : Fin 8 := here (grid0.coords t)

theorem kb_val : (kb t).val = t.val % 8 := key_block t

theorem keys_eq (j : Fin 512) (d : Fin 128) :
    (dats m 0 c).after 9 t (ix3 0 j d) = ∑ b, (insAt m c t).termK (kb t) d j b := by
  rw [after9, left_eq]
  exact (pay44_apply _ j d).trans ((insAt m c t).point_dkT (grid0.coords t) rfl _ d j)

theorem values_eq (j : Fin 512) (d : Fin 128) :
    (dats m 0 c).after 10 t (ix3 0 j d) = ∑ b, (insAt m c t).termV (kb t) d j b := by
  rw [after10, left_eq]
  exact (pay45_apply _ j d).trans ((insAt m c t).point_dvT (grid0.coords t) rfl _ d j)

/-- The query gradient's block after a point, from what the point before left. -/
theorem queries_step (b : Fin 8) (r : Fin 512) (d : Fin 128) :
    (outsAt m c t.val t.isLt).1 (ix3 0 (row b r) d)
      = (if t.val % 8 = 0 then 0 else prior m c t (ix3 0 (row b r) d)) + (insAt m c t).termQ (kb t) b r d := by
  rw [outsAt_eq, left_eq]
  refine ((insAt m c t).point_dq (grid0.coords t) rfl _ b r d).trans ?_
  split_ifs with h
  · rw [pay21_apply]
  · rfl

/-- Point `n` of the pass over the key blocks that `t` ends. -/
def nth (t : Fin cfg0.N) (n : Fin 8) : Fin cfg0.N := ⟨t.val - t.val % 8 + n.val, by
  have hN : t.val < 64 := lt_of_lt_of_eq t.isLt (show cfg0.N = 64 from N_0)
  exact lt_of_lt_of_eq (by omega : _ < 64) N_0.symm⟩

theorem queries_upto (b : Fin 8) (r : Fin 512) (d : Fin 128) (s : Fin cfg0.N) (hs : s.val % 8 = 0) (n : ℕ) (hn : n < 8)
    (h : s.val + n < cfg0.N) :
    (outsAt m c (s.val + n) h).1 (ix3 0 (row b r) d)
      = ∑ k : Fin 8, if k.val ≤ n then (insAt m c (nth s k)).termQ (kb (nth s k)) b r d else 0 := by
  have at_nth : ∀ k (hk : k < 8) (hN : s.val + k < cfg0.N), nth s ⟨k, hk⟩ = ⟨s.val + k, hN⟩ := fun k hk hN =>
    Fin.ext (by show s.val - s.val % 8 + k = s.val + k; omega)
  induction n with
  | zero =>
    have e := queries_step m c ⟨s.val + 0, h⟩ b r d
    rw [if_pos (show (s.val + 0) % 8 = 0 by omega)] at e
    refine e.trans ?_
    refine Eq.trans ?_ (Ins.sum_first (fun k => (insAt m c (nth s k)).termQ (kb (nth s k)) b r d) ⟨0, hn⟩
      (fun k hk => absurd hk (Nat.not_lt_zero k.val))).symm
    rw [at_nth 0 hn h, zero_add]
  | succ n ih =>
    have hn' : n < 8 := by omega
    have h' : s.val + n < cfg0.N := by omega
    have e := queries_step m c ⟨s.val + (n + 1), h⟩ b r d
    rw [if_neg (show ¬ (s.val + (n + 1)) % 8 = 0 by omega)] at e
    refine e.trans ?_
    have hp : prior m c ⟨s.val + (n + 1), h⟩ = (outsAt m c (s.val + n) h').1 := dif_neg (by show ¬ s.val + (n + 1) = 0; omega)
    rw [hp, ih hn' h', Ins.sum_upto (fun k => (insAt m c (nth s k)).termQ (kb (nth s k)) b r d) ⟨n + 1, hn⟩, at_nth (n + 1) hn h]
    refine congrArg (· + _) (Finset.sum_congr rfl fun k _ => ?_)
    simp only [show (k.val < n + 1) = (k.val ≤ n) from propext (by omega)]

/-- The last point of a pass leaves every key block's part. -/
theorem queries_eq (ht : t.val % 8 = 7) (b : Fin 8) (r : Fin 512) (d : Fin 128) :
    (dats m 0 c).after 8 t (ix3 0 (row b r) d) = ∑ k : Fin 8, (insAt m c (nth t k)).termQ k b r d := by
  have h0 : t.val - 7 < cfg0.N := by have := t.isLt; omega
  have h7 : t.val - 7 + 7 = t.val := by omega
  have e := queries_upto m c b r d ⟨t.val - 7, h0⟩ (by show (t.val - 7) % 8 = 0; omega) 7 (by omega)
    (by show t.val - 7 + 7 < cfg0.N; rw [h7]; exact t.isLt)
  rw [after8, ← outsAt_eq]
  have same : ∀ p (hp : p < cfg0.N) q (hq : q < cfg0.N), p = q → outsAt m c p hp = outsAt m c q hq := fun p hp q hq h => by subst h; rfl
  rw [same t.val t.isLt (t.val - 7 + 7) (by rw [h7]; exact t.isLt) h7.symm]
  refine e.trans (Finset.sum_congr rfl fun k _ => ?_)
  have hk := k.isLt
  have e1 : nth ⟨t.val - 7, h0⟩ k = nth t k := Fin.ext (by
    show t.val - 7 - (t.val - 7) % 8 + k.val = t.val - t.val % 8 + k.val
    omega)
  have e2 : kb (nth t k) = k := Fin.ext ((kb_val _).trans (by show (t.val - t.val % 8 + k.val) % 8 = k.val; omega))
  rw [if_pos (by omega), e1, e2]

end Cert.AttnIdeal.Run

end
-- ==== Proof.Attn.Host.lean ====
/- What the host lines hand the attention gradient.

The scores masked with −∞, their largest, the sum of their exponentials, the output and the log-sum; and the arguments
laid out in lanes and tiles. First as the printed lines' terms, then at an index. -/
module

public import proofs.«01_k».proof.Proof.Attn.Points

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Idealize.SL

/-! ## The terms -/

/-- The chunk of a row: the row's number divided by 64, rounded down. -/
def chunk : IVec S4096 32 :=
  let f : IVec S4096 32 := iotaInDim S4096 32 0
  let d : IVec S4096 32 := broadcastInDim S4096 ![] bcast_S_S4096 (constantI S_ 32 64#32)
  select (andi (cmpi .ne (signi f) (broadcastInDim S4096 ![] bcast_S_S4096 (signi (constantI S_ 32 64#32))))
      (cmpi .ne (Host.remsi f d) (broadcastInDim S4096 ![] bcast_S_S4096 (constantI S_ 32 0#32))))
    (subi (Host.divsi f d) (broadcastInDim S4096 ![] bcast_S_S4096 (constantI S_ 32 1#32))) (Host.divsi f d)

/-- Which keys a query may see: those whose chunk is not after its own. -/
def allowed : IVec S8x4096x4096 1 :=
  broadcastInDim S8x4096x4096 ![1, 2] bcast_S4096x4096_S8x4096x4096_1_2
    (cmpi .sle (broadcastInDim S4096x4096 ![0, 1] bcast_S1x4096_S4096x4096_0_1 (broadcastInDim S1x4096 ![1] bcast_S4096_S1x4096_1 chunk))
      (broadcastInDim S4096x4096 ![0, 1] bcast_S4096x1_S4096x4096_0_1 (broadcastInDim S4096x1 ![0] bcast_S4096_S4096x1_0 chunk)))

/-- The masked scores, -/
def scores (q k : FVec Ideal S8x4096x96 .f32) : FVec Ideal S8x4096x4096 .f32 :=
  select allowed
    (mulf (Host.dotGeneral dot_S8x4096x96_S8x4096x96_S8x4096x4096_2_2_1_1_0_0 none q k)
      (broadcastInDim S8x4096x4096 ![] bcast_S_S8x4096x4096 (constant S_ .f32 0x3DD105EC#32)))
    (broadcastInDim S8x4096x4096 ![] bcast_S_S8x4096x4096 (constant S_ .f32 0xFF800000#32))

/-- the largest of each query, -/
def top (s : FVec Ideal S8x4096x4096 .f32) : FVec Ideal S8x4096 .f32 :=
  Host.reduce FloatOps.maximumf s (constant S_ .f32 0xFF800000#32) reducesTo_S8x4096x4096_S8x4096_d2 h_S_

/-- the exponentials over a shift of each query, -/
def expo (s : FVec Ideal S8x4096x4096 .f32) (t : FVec Ideal S8x4096 .f32) : FVec Ideal S8x4096x4096 .f32 :=
  Host.exp (subf s (broadcastInDim S8x4096x4096 ![0, 1, 2] bcast_S8x4096x1_S8x4096x4096_0_1_2
    (broadcastInDim S8x4096x1 ![0, 1] bcast_S8x4096_S8x4096x1_0_1 t)))

/-- and their sum. -/
def total (e : FVec Ideal S8x4096x4096 .f32) : FVec Ideal S8x4096x1 .f32 :=
  broadcastInDim S8x4096x1 ![0, 1] bcast_S8x4096_S8x4096x1_0_1
    (Host.reduceAdd e (constant S_ .f32 0x00000000#32) reducesTo_S8x4096x4096_S8x4096_d2 h_S_)

/-- The weights. -/
def weights (e : FVec Ideal S8x4096x4096 .f32) (l : FVec Ideal S8x4096x1 .f32) : FVec Ideal S8x4096x4096 .f32 :=
  Host.divf e (broadcastInDim S8x4096x4096 ![0, 1, 2] bcast_S8x4096x1_S8x4096x4096_0_1_2 l)

/-- The attention's output, heads side by side. -/
def output (p : FVec Ideal S8x4096x4096 .f32) (v : FVec Ideal S8x4096x64 .f32) : FVec Ideal S4096x512 .f32 :=
  shapeCast S4096x512 (transpose S4096x8x64 [1, 0, 2]
    (Host.dotGeneral dot_S8x4096x4096_S8x4096x64_S8x4096x64_2_1_1_2_0_0 none p v) transposes_S8x4096x64_S4096x8x64_1_0_2)
    shapeCasts_S4096x8x64_S4096x512

/-- The largest score and the log of the sum. -/
def logsum (t : FVec Ideal S8x4096 .f32) (l : FVec Ideal S8x4096x1 .f32) : FVec Ideal S8x4096x1 .f32 :=
  addf (broadcastInDim S8x4096x1 ![0, 1] bcast_S8x4096_S8x4096x1_0_1 t) (Host.log l)

/-- Queries or keys on 128 lanes. -/
def onLanes (x : FVec Ideal S8x4096x96 .f32) : FVec Ideal S8x4096x128 .f32 :=
  pad S8x4096x128 ![0, 0, 0] ![0, 0, 32] ![0, 0, 0] x (sitofp .f32 (constantI S_ 32 0#32)) pads_S8x4096x96_S8x4096x128_000_000_0320 h_S_

/-- Which heads are odd. -/
def oddHead : IVec S8x1x1 1 :=
  let d : IVec S_ 32 := select (cmpi .eq (constantI S_ 32 2#32) (constantI S_ 32 0#32)) (constantI S_ 32 1#32) (constantI S_ 32 2#32)
  let z : IVec S8 32 := broadcastInDim S8 ![] bcast_S_S8 (constantI S_ 32 0#32)
  let r : IVec S8 32 := Host.remsi (iotaInDim S8 32 0) (broadcastInDim S8 ![] bcast_S_S8 d)
  broadcastInDim S8x1x1 ![0] bcast_S8_S8x1x1_0
    (cmpi .eq (select (andi (cmpi .ne (cmpi .slt r z) (broadcastInDim S8 ![] bcast_S_S8 (cmpi .slt d (constantI S_ 32 0#32)))) (cmpi .ne r z))
      (addi r (broadcastInDim S8 ![] bcast_S_S8 d)) r) (broadcastInDim S8 ![] bcast_S_S8 (constantI S_ 32 1#32)))

/-- Values on a head's own half of 128 lanes. -/
def onOwnLanes (x : FVec Ideal S8x4096x64 .f32) : FVec Ideal S8x4096x128 .f32 :=
  let z : FVec Ideal S8x4096x64 .f32 := broadcastInDim S8x4096x64 ![] bcast_S_S8x4096x64 (constant S_ .f32 0x00000000#32)
  let c : IVec S8x4096x64 1 := broadcastInDim S8x4096x64 ![0, 1, 2] bcast_S8x1x1_S8x4096x64_0_1_2 oddHead
  concatenate S8x4096x128 2 [⟨S8x4096x64, select c z x⟩, ⟨S8x4096x64, select c x z⟩] concatenates_S8x4096x64_S8x4096x64_S8x4096x128_d2

/-- The queries' blocks, lanes first. -/
def queryTiles (x : FVec Ideal S8x4096x96 .f32) : FVec Ideal S8x8x128x512 .bf16 :=
  transpose S8x8x128x512 [0, 1, 3, 2] (shapeCast S8x8x512x128 (truncf (F := Ideal) .bf16 (onLanes x) bitsLt_bf16_f32) shapeCasts_S8x4096x128_S8x8x512x128)
    transposes_S8x8x512x128_S8x8x128x512_0_1_3_2

/-- The cotangent's blocks, lanes first. -/
def cotangentTiles (x : FVec Ideal S4096x512 .f32) : FVec Ideal S4x8x128x512 .f32 :=
  transpose S4x8x128x512 [2, 0, 3, 1] (shapeCast S8x512x4x128 x shapeCasts_S4096x512_S8x512x4x128) transposes_S8x512x4x128_S4x8x128x512_2_0_3_1

/-! ## The arrays the launch finds -/

variable (m : (ℓ : Loc nD τ sig) → Buf (Elt Ideal) ℓ) (c : Dev nD)

abbrev q : FVec Ideal S8x4096x96 .f32 := m ((c.tc : Thread nD τ).loc main_arg0)
abbrev k : FVec Ideal S8x4096x96 .f32 := m ((c.tc : Thread nD τ).loc main_arg1)
abbrev v : FVec Ideal S8x4096x64 .f32 := m ((c.tc : Thread nD τ).loc main_arg2)
abbrev g : FVec Ideal S4096x512 .f32 := m ((c.tc : Thread nD τ).loc main_arg3)
def s : FVec Ideal S8x4096x4096 .f32 := scores (q m c) (k m c)
def e : FVec Ideal S8x4096x4096 .f32 := expo (s m c) (top (s m c))

theorem V_v26 : V m c main_v26 = truncf (F := Ideal) .bf16 (onLanes (q m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

theorem V_v28 : V m c main_v28 = truncf (F := Ideal) .bf16 (onLanes (k m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

theorem V_v38 : V m c main_v38 = truncf (F := Ideal) .bf16 (onOwnLanes (v m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

theorem V_v40 : V m c main_v40 = queryTiles (q m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

theorem V_v43 : V m c main_v43 = truncf (F := Ideal) .bf16 (cotangentTiles (g m c)) bitsLt_bf16_f32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

theorem V_v22 : V m c main_v22 = output (weights (e m c) (total (e m c))) (v m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

theorem V_v24 : V m c main_v24 = logsum (top (s m c)) (total (e m c)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append]
  after_results_simp
  rfl

end Cert.AttnIdeal.Run

end
-- ==== Proof.Attn.HostAt.lean ====
/- The host lines of the attention gradient, at an index. -/
module

public import proofs.«01_k».proof.Proof.Attn.Host

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Idealize.SL

theorem chunk_apply (r : Fin 4096) : chunk (ix1 r) = BitVec.ofNat 32 (r.val / 64) := by
  pointwise [chunk]
  revert r
  decide +kernel

theorem allowed_apply (h : Fin 8) (r j : Fin 4096) : allowed (ix3 h r j) = BitVec.ofBool (decide (j.val / 64 ≤ r.val / 64)) := by
  have hc := chunk_apply
  pointwise [allowed]
  rw [hc, hc, WordCmp.cmpi_sle_ofNat (by norm_num; omega) (by norm_num; omega)]

theorem negInf : Ideal.ofBits FTy.f32 0xFF800000#32 = (⊥ : EReal) := by simp [Ideal.ofBits, Ideal.ieee]

theorem scores_apply (q k : FVec Ideal S8x4096x96 .f32) (h : Fin 8) (r j : Fin 4096) :
    scores q k (ix3 h r j) = if j.val / 64 ≤ r.val / 64 then (∑ d, q (ix3 h r d) * k (ix3 h j d)) * scale else ⊥ := by
  have ha := allowed_apply h r j
  pointwise [scores]
  rw [ha, WordCmp.select_decide, negInf]

theorem top_apply (s : FVec Ideal S8x4096x4096 .f32) (h : Fin 8) (r : Fin 4096) :
    top s (ix2 h r) = Finset.univ.sup fun j => s (ix3 h r j) := by
  pointwise [top]
  rw [negInf]
  rfl

theorem expo_apply (s : FVec Ideal S8x4096x4096 .f32) (t : FVec Ideal S8x4096 .f32) (h : Fin 8) (r j : Fin 4096) :
    expo s t (ix3 h r j) = Ideal.exp (s (ix3 h r j) - t (ix2 h r)) := by
  pointwise [expo]

theorem total_apply (e : FVec Ideal S8x4096x4096 .f32) (h : Fin 8) (r : Fin 4096) :
    total e (ix3 h r 0) = ∑ j, e (ix3 h r j) := by
  pointwise [total]

theorem weights_apply (e : FVec Ideal S8x4096x4096 .f32) (l : FVec Ideal S8x4096x1 .f32) (h : Fin 8) (r j : Fin 4096) :
    weights e l (ix3 h r j) = Ideal.div (e (ix3 h r j)) (l (ix3 h r 0)) := by
  pointwise [weights]

theorem output_apply (p : FVec Ideal S8x4096x4096 .f32) (v : FVec Ideal S8x4096x64 .f32) (r : Fin 4096) (h : Fin 8) (d : Fin 64) :
    output p v (ix2 r ⟨64 * h.val + d.val, by omega⟩) = ∑ j, p (ix3 h r j) * v (ix3 h j d) := by
  pointwise [output]

theorem logsum_apply (t : FVec Ideal S8x4096 .f32) (l : FVec Ideal S8x4096x1 .f32) (h : Fin 8) (r : Fin 4096) :
    logsum t l (ix3 h r 0) = t (ix2 h r) + Ideal.log (l (ix3 h r 0)) := by
  pointwise [logsum]

theorem onLanes_apply (x : FVec Ideal S8x4096x96 .f32) (h : Fin 8) (r : Fin 4096) (d : Fin 128) :
    onLanes x (ix3 h r d) = if hd : d.val < 96 then x (ix3 h r ⟨d.val, hd⟩) else 0 := by
  pointwise [onLanes]
  rw [show FloatOps.sitofp (F := Ideal) FTy.f32 0#32 = (0 : EReal) by
    show (((0#32 : BitVec 32).toInt : ℝ) : EReal) = 0
    simp]

theorem oddHead_apply (h : Fin 8) : oddHead (ix3 h 0 0) = BitVec.ofBool (decide (h.val % 2 = 1)) := by
  pointwise [oddHead]
  revert h
  decide +kernel

theorem onOwnLanes_apply (x : FVec Ideal S8x4096x64 .f32) (h : Fin 8) (r : Fin 4096) (d : Fin 128) :
    onOwnLanes x (ix3 h r d) = if d.val / 64 = h.val % 2 then x (ix3 h r ⟨d.val % 64, Nat.mod_lt _ (by norm_num)⟩) else 0 := by
  have ho := oddHead_apply h
  pointwise [onOwnLanes]
  simp only [ho, WordCmp.select_decide]
  have same : ∀ a b (ha : a < 64) (hb : b < 64), a = b → x (ix3 h r ⟨a, ha⟩) = x (ix3 h r ⟨b, hb⟩) := fun a b ha hb e => by subst e; rfl
  have hd := d.isLt
  by_cases h1 : d.val < 64 <;> by_cases h2 : h.val % 2 = 1
  · rw [dif_pos h1, if_pos h2, if_neg (by omega)]
  · rw [dif_pos h1, if_neg h2, if_pos (by omega)]
    exact same _ _ _ _ (by omega)
  · rw [dif_neg h1, if_pos h2]
    exact (same _ (d.val % 64) _ (Nat.mod_lt _ (by norm_num)) (by omega)).trans (if_pos (by omega)).symm
  · rw [dif_neg h1, if_neg h2, if_neg (by omega)]

theorem queryTiles_apply (x : FVec Ideal S8x4096x96 .f32) (h : Fin 8) (b : Fin 8) (d : Fin 128) (r : Fin 512) :
    queryTiles x (ix4 h b d r) = onLanes x (ix3 h (row b r) d) := by
  pointwise [queryTiles]
  exact congrArg (fun a => onLanes x (ix3 h a d)) (Fin.ext (by simp [row]; omega))

theorem cotangentTiles_apply (x : FVec Ideal S4096x512 .f32) (p : Fin 4) (b : Fin 8) (d : Fin 128) (r : Fin 512) :
    cotangentTiles x (ix4 p b d r) = x (ix2 (row b r) ⟨128 * p.val + d.val, by omega⟩) := by
  pointwise [cotangentTiles]
  exact congrArg₂ (fun a b => x (ix2 a b)) (Fin.ext (by simp [row]; omega)) (Fin.ext (by simp; omega))

end Cert.AttnIdeal.Run

end
-- ==== Proof.Attn.Ref.lean ====
/- The reference's results: the differentiated lines as named terms, then at an index. -/
module

public import proofs.«01_k».proof.Proof.Gen.AttnRefIdeal.Run
public import proofs.«01_k».proof.Proof.Attn.HostAt

@[expose] public section

set_option maxRecDepth 8192
set_option maxHeartbeats 2000000

noncomputable section

namespace Cert.AttnRefIdeal.Terms

open Cert.AttnRefIdeal Cert.AttnRefIdeal.Gen
open Idealize.ShloMosaic Idealize.ShloMosaic.TcCoe Idealize.ShloMosaic.Tactic
open Cert.AttnIdeal.Run (scores top expo total weights allowed onLanes onOwnLanes allowed_apply negInf)

/-- The largest scores, with −∞ put in once more. -/
def shift (t : FVec Ideal S8x4096 .f32) : FVec Ideal S8x4096 .f32 :=
  maximumf (broadcastInDim S8x4096 ![] bcast_S_S8x4096 (constant S_ .f32 0xFF800000#32)) t

/-- The output's cotangent, head by head. -/
def byHead (g : FVec Ideal S4096x512 .f32) : FVec Ideal S8x4096x64 .f32 :=
  transpose S8x4096x64 [1, 0, 2] (shapeCast S4096x8x64 g shapeCasts_S4096x512_S4096x8x64) transposes_S4096x8x64_S8x4096x64_1_0_2

/-- The gradient of the values, -/
def dvalues (g : FVec Ideal S8x4096x64 .f32) (w : FVec Ideal S8x4096x4096 .f32) : FVec Ideal S8x4096x64 .f32 :=
  transpose S8x4096x64 [0, 2, 1] (Host.dotGeneral dot_S8x4096x64_S8x4096x4096_S8x64x4096_1_1_2_2_0_0 none g w) transposes_S8x64x4096_S8x4096x64_0_2_1

/-- of the weights, -/
def dweights (g v : FVec Ideal S8x4096x64 .f32) : FVec Ideal S8x4096x4096 .f32 :=
  Host.dotGeneral dot_S8x4096x64_S8x4096x64_S8x4096x4096_2_2_1_1_0_0 none g v

/-- of the sum the exponentials are divided by, -/
def dtotal (e p : FVec Ideal S8x4096x4096 .f32) (l : FVec Ideal S8x4096x1 .f32) : FVec Ideal S8x4096x1 .f32 :=
  Host.negf (shapeCast S8x4096x1 (Host.reduceAdd (mulf (mulf p (broadcastInDim S8x4096x4096 ![0, 1, 2] bcast_S8x4096x1_S8x4096x4096_0_1_2
      (Host.divf (broadcastInDim S8x4096x1 ![] bcast_S_S8x4096x1 (constant S_ .f32 0x3F800000#32)) (mulf l l)))) e)
    (constant S_ .f32 0x00000000#32) reducesTo_S8x4096x4096_S8x4096_d2 h_S_) shapeCasts_S8x4096_S8x4096x1)

/-- and of the scores. -/
def dscores (e p : FVec Ideal S8x4096x4096 .f32) (l t : FVec Ideal S8x4096x1 .f32) : FVec Ideal S8x4096x4096 .f32 :=
  mulf (select allowed
    (mulf (addf (Host.divf p (broadcastInDim S8x4096x4096 ![0, 1, 2] bcast_S8x4096x1_S8x4096x4096_0_1_2 l))
      (broadcastInDim S8x4096x4096 ![0, 1] bcast_S8x4096_S8x4096x4096_0_1
        (Host.reduceAdd t (constant S_ .f32 0x00000000#32) reducesTo_S8x4096x1_S8x4096_d2 h_S_))) e)
    (broadcastInDim S8x4096x4096 ![] bcast_S_S8x4096x4096 (constant S_ .f32 0x00000000#32)))
    (broadcastInDim S8x4096x4096 ![] bcast_S_S8x4096x4096 (constant S_ .f32 0x3DD105EC#32))

/-- The gradient of the keys and that of the queries. -/
def dkeys (s : FVec Ideal S8x4096x4096 .f32) (q : FVec Ideal S8x4096x96 .f32) : FVec Ideal S8x4096x96 .f32 :=
  Host.dotGeneral dot_S8x4096x4096_S8x4096x96_S8x4096x96_1_1_2_2_0_0 none s q
def dqueries (s : FVec Ideal S8x4096x4096 .f32) (k : FVec Ideal S8x4096x96 .f32) : FVec Ideal S8x4096x96 .f32 :=
  Host.dotGeneral dot_S8x4096x4096_S8x4096x96_S8x4096x96_2_1_1_2_0_0 none s k

section Results

variable (m : (ℓ : Loc nD τ sig) → Buf (Elt Ideal) ℓ) (c : Dev nD)

abbrev q : FVec Ideal S8x4096x96 .f32 := m ((c.tc : Thread nD τ).loc main_arg0)
abbrev k : FVec Ideal S8x4096x96 .f32 := m ((c.tc : Thread nD τ).loc main_arg1)
abbrev v : FVec Ideal S8x4096x64 .f32 := m ((c.tc : Thread nD τ).loc main_arg2)
abbrev g : FVec Ideal S4096x512 .f32 := m ((c.tc : Thread nD τ).loc main_arg3)

def e : FVec Ideal S8x4096x4096 .f32 := expo (scores (q m c) (k m c)) (shift (top (scores (q m c) (k m c))))

def ds : FVec Ideal S8x4096x4096 .f32 :=
  dscores (e m c) (dweights (byHead (g m c)) (v m c)) (total (e m c)) (dtotal (e m c) (dweights (byHead (g m c)) (v m c)) (total (e m c)))

theorem res_v72 : Value.res_main_v72 m c = onOwnLanes (dvalues (byHead (g m c)) (weights (e m c) (total (e m c)))) := rfl
theorem res_v73 : Value.res_main_v73 m c = onLanes (dqueries (ds m c) (k m c)) := rfl
theorem res_v74 : Value.res_main_v74 m c = onLanes (dkeys (ds m c) (q m c)) := rfl

end Results

theorem shift_eq (t : FVec Ideal S8x4096 .f32) : shift t = t := by
  funext j
  idx_vars j
  pointwise [shift]
  rw [negInf]
  exact max_eq_right bot_le

theorem byHead_apply (g : FVec Ideal S4096x512 .f32) (h : Fin 8) (r : Fin 4096) (d : Fin 64) :
    byHead g (ix3 h r d) = g (ix2 r ⟨64 * h.val + d.val, by omega⟩) := by
  pointwise [byHead]
  exact congrArg (fun a => g (ix2 r a)) (Fin.ext (by simp; omega))

theorem dvalues_apply (g : FVec Ideal S8x4096x64 .f32) (w : FVec Ideal S8x4096x4096 .f32) (h : Fin 8) (j : Fin 4096) (d : Fin 64) :
    dvalues g w (ix3 h j d) = ∑ r, g (ix3 h r d) * w (ix3 h r j) := by
  pointwise [dvalues]

theorem dweights_apply (g v : FVec Ideal S8x4096x64 .f32) (h : Fin 8) (r j : Fin 4096) :
    dweights g v (ix3 h r j) = ∑ d, g (ix3 h r d) * v (ix3 h j d) := by
  pointwise [dweights]

theorem dtotal_apply (e p : FVec Ideal S8x4096x4096 .f32) (l : FVec Ideal S8x4096x1 .f32) (h : Fin 8) (r : Fin 4096) :
    dtotal e p l (ix3 h r 0) = -∑ j, p (ix3 h r j) * Ideal.div 1 (l (ix3 h r 0) * l (ix3 h r 0)) * e (ix3 h r j) := by
  pointwise [dtotal]

theorem dscores_apply (e p : FVec Ideal S8x4096x4096 .f32) (l t : FVec Ideal S8x4096x1 .f32) (h : Fin 8) (r j : Fin 4096) :
    dscores e p l t (ix3 h r j)
      = (if j.val / 64 ≤ r.val / 64 then (Ideal.div (p (ix3 h r j)) (l (ix3 h r 0)) + t (ix3 h r 0)) * e (ix3 h r j) else 0)
        * Cert.AttnIdeal.Run.scale := by
  have ha := allowed_apply h r j
  pointwise [dscores]
  rw [ha, WordCmp.select_decide, Fin.sum_univ_one, ite_mul, zero_mul]

theorem dkeys_apply (s : FVec Ideal S8x4096x4096 .f32) (q : FVec Ideal S8x4096x96 .f32) (h : Fin 8) (j : Fin 4096) (d : Fin 96) :
    dkeys s q (ix3 h j d) = ∑ r, s (ix3 h r j) * q (ix3 h r d) := by
  pointwise [dkeys]

theorem dqueries_apply (s : FVec Ideal S8x4096x4096 .f32) (k : FVec Ideal S8x4096x96 .f32) (h : Fin 8) (r : Fin 4096) (d : Fin 96) :
    dqueries s k (ix3 h r d) = ∑ j, s (ix3 h r j) * k (ix3 h j d) := by
  pointwise [dqueries]

end Cert.AttnRefIdeal.Terms

end
-- ==== Proof.Attn.Spec.lean ====
/- The softmax's gradient over the real numbers.

Of a row whose scores are real or −∞, with one real at least, the exponentials over the largest score are reals with a
positive sum; the exponential of a score less the log-sum is the quotient of the two (`row_softmax`). So the weight the
kernel recomputes is the weight of the forward lines, and its two forms of the scores' gradient agree (`score_gradient`). -/
module

public import proofs.«01_k».proof.Proof.Reals
public import proofs.«01_k».proof.Proof.Finite

@[expose] public section

noncomputable section

namespace Cert.Softmax

open Idealize.ShloMosaic
open Cert.Finite
open scoped BigOperators

variable {ι : Type} [Fintype ι] (allow : ι → Prop) [DecidablePred allow]

/-- A sum of reals, read as extended reals. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem row_softmax (a : ι → ℝ) (j₀ : ι) (h₀ : allow j₀) (s : ι → EReal) (hs : ∀ j, s j = if allow j then (a j : EReal) else ⊥) :
    ∃ (E : ι → ℝ) (l : ℝ), 0 < l ∧ (∀ j, Ideal.exp (s j - Finset.univ.sup s) = (E j : EReal))
      ∧ (∑ j, Ideal.exp (s j - Finset.univ.sup s)) = (l : EReal) ∧ (∀ j, ¬ allow j → E j = 0)
      ∧ ∀ j, allow j → Ideal.exp (s j - (Finset.univ.sup s + Ideal.log (l : EReal))) = ((E j / l : ℝ) : EReal) := by
  classical
  have hlt : Finset.univ.sup s < ⊤ := (Finset.sup_lt_iff bot_lt_top).mpr fun j _ => by
    rw [hs]; split_ifs
    exacts [EReal.coe_lt_top _, bot_lt_top]
  have hgt : ⊥ < Finset.univ.sup s := lt_of_lt_of_le (by rw [hs, if_pos h₀]; exact EReal.bot_lt_coe _) (Finset.le_sup (Finset.mem_univ j₀))
  obtain ⟨τ, hτ⟩ : ∃ τ : ℝ, Finset.univ.sup s = (τ : EReal) := ⟨_, (EReal.coe_toReal hlt.ne hgt.ne').symm⟩
  rw [hτ]
  have hE : ∀ j, Ideal.exp (s j - (τ : EReal)) = ((if allow j then Real.exp (a j - τ) else 0 : ℝ) : EReal) := fun j => by
    rw [hs]
    split_ifs
    · rw [← EReal.coe_sub]; rfl
    · rw [sub_eq_add_neg, EReal.bot_add]; rfl
  refine ⟨fun j => if allow j then Real.exp (a j - τ) else 0, ∑ j, if allow j then Real.exp (a j - τ) else 0, ?_, hE, ?_, ?_, ?_⟩
  · refine Finset.sum_pos' (fun j _ => ?_) ⟨j₀, Finset.mem_univ _, ?_⟩
    · split_ifs
      exacts [(Real.exp_pos _).le, le_rfl]
    · rw [if_pos h₀]; exact Real.exp_pos _
  · rw [Finset.sum_congr rfl fun j _ => hE j, coe_sum]
  · exact fun j hj => if_neg hj
  · intro j hj
    have hl : 0 < ∑ j, if allow j then Real.exp (a j - τ) else 0 := by
      refine Finset.sum_pos' (fun j _ => ?_) ⟨j₀, Finset.mem_univ _, ?_⟩
      · split_ifs
        exacts [(Real.exp_pos _).le, le_rfl]
      · rw [if_pos h₀]; exact Real.exp_pos _
    dsimp only
    generalize (∑ j, if allow j then Real.exp (a j - τ) else 0) = l at hl
    rw [hs, if_pos hj, if_pos hj, Ideal.log_coe, if_neg (not_le.mpr hl), ← EReal.coe_add, ← EReal.coe_sub]
    show ((Real.exp _ : ℝ) : EReal) = _
    rw [← sub_sub, Real.exp_sub, Real.exp_log hl]

theorem score_gradient (E p : ι → ℝ) (l : ℝ) (hl : 0 < l) (hE : ∀ j, ¬ allow j → E j = 0) (j : ι) :
    (Ideal.div (E j : EReal) (l : EReal)) * ((p j : EReal) - ∑ i, Ideal.div (E i : EReal) (l : EReal) * (p i : EReal))
      = if allow j then (Ideal.div (p j : EReal) (l : EReal) + -∑ i, (p i : EReal) * Ideal.div 1 ((l : EReal) * (l : EReal)) * (E i : EReal)) * (E j : EReal)
        else 0 := by
  have h : ∀ x : ℝ, Ideal.div (x : EReal) (l : EReal) = ((x / l : ℝ) : EReal) := fun x => by
    rw [Cert.Reals.div_real hl.ne', ← EReal.coe_mul]
    congr 1; ring
  have h1 : Ideal.div 1 ((l * l : ℝ) : EReal) = ((1 / (l * l) : ℝ) : EReal) := by
    rw [Cert.Reals.div_real (mul_ne_zero hl.ne' hl.ne'), mul_one]
  have e1 : (∑ i, E i / l * p i) = (∑ i, p i * E i) / l := by
    rw [Finset.sum_div]; exact Finset.sum_congr rfl fun i _ => by ring
  have e2 : (∑ i, p i * (1 / (l * l)) * E i) = (∑ i, p i * E i) / (l * l) := by
    rw [Finset.sum_div]; exact Finset.sum_congr rfl fun i _ => by ring
  simp only [h, ← EReal.coe_mul, h1, ← EReal.coe_mul, ← coe_sum, ← EReal.coe_sub, ← EReal.coe_neg, ← EReal.coe_add, e1, e2]
  split_ifs with ha
  · congr 1
    field_simp
    ring
  · rw [hE j ha]
    simp

/-- A sum over 128 lanes of which the last 32 hold zero. -/
theorem sum_low (f : Fin 96 → EReal) : (∑ d : Fin 128, if h : d.val < 96 then f ⟨d.val, h⟩ else 0) = ∑ d, f d := by
  rw [show (∑ d : Fin 128, if h : d.val < 96 then f ⟨d.val, h⟩ else 0) = ∑ d : Fin (96 + 32), if h : d.val < 96 then f ⟨d.val, h⟩ else 0 from rfl,
    Fin.sum_univ_add]
  rw [Finset.sum_eq_zero (s := (Finset.univ : Finset (Fin 32))) fun d _ => dif_neg (by simp), add_zero]
  exact Finset.sum_congr rfl fun d _ => dif_pos (by simp)

/-- A sum over 128 lanes of which one half holds zero. -/
theorem sum_half (n : ℕ) (hn : n < 2) (f : Fin 128 → EReal) (hf : ∀ d : Fin 128, d.val / 64 ≠ n → f d = 0) :
    ∑ d, f d = ∑ d : Fin 64, f ⟨64 * n + d.val, by omega⟩ := by
  rw [show (∑ d, f d) = ∑ d : Fin (64 + 64), f d from rfl, Fin.sum_univ_add]
  rcases (show n = 0 ∨ n = 1 by omega) with rfl | rfl
  · rw [Finset.sum_eq_zero (f := fun i : Fin 64 => f (Fin.natAdd 64 i)) fun d _ => hf _ (by simp only [Fin.val_natAdd]; omega), add_zero]
    exact Finset.sum_congr rfl fun d _ => congrArg f (Fin.ext (by simp))
  · rw [Finset.sum_eq_zero (f := fun i : Fin 64 => f (Fin.castAdd 64 i)) fun d _ => hf _ (by simp only [Fin.val_castAdd]; omega), zero_add]
    exact Finset.sum_congr rfl fun d _ => congrArg f (Fin.ext (by simp; omega))

end Cert.Softmax

end
-- ==== Proof.Attn.Match.lean ====
/- The kernel's weights and score gradients are the reference's.

For real arguments: the exponential of a score less the log-sum is the weight of the forward lines (`weight_eq`), and the
kernel's score gradient is the differentiated softmax's (`gradient_eq`). -/
module

public import proofs.«01_k».proof.Proof.Attn.Ref
public import proofs.«01_k».proof.Proof.Attn.Spec

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Cert.Finite Cert.Softmax
open Cert.AttnRefIdeal.Terms (byHead byHead_apply dweights dweights_apply dtotal dtotal_apply dscores dscores_apply)

theorem scale_real : IsReal scale := by
  refine ⟨13698540 / 134217728, ?_⟩
  simp [Ideal.ofBits, Ideal.ieee, -EReal.coe_mul]
  norm_num

variable (q k : FVec Ideal S8x4096x96 .f32) (v : FVec Ideal S8x4096x64 .f32) (g : FVec Ideal S4096x512 .f32)

/-- The exponentials of the forward lines. -/
abbrev exps : FVec Ideal S8x4096x4096 .f32 := expo (scores q k) (top (scores q k))

variable (hq : ∀ i, IsReal (q i)) (hk : ∀ i, IsReal (k i)) (hv : ∀ i, IsReal (v i)) (hg : ∀ i, IsReal (g i))

include hq hk in
theorem row_facts (h : Fin 8) (r : Fin 4096) : ∃ (E : Fin 4096 → ℝ) (l : ℝ), 0 < l ∧ (∀ j, exps q k (ix3 h r j) = (E j : EReal))
    ∧ total (exps q k) (ix3 h r 0) = (l : EReal) ∧ (∀ j, ¬ j.val / 64 ≤ r.val / 64 → E j = 0)
    ∧ ∀ j, j.val / 64 ≤ r.val / 64 →
      Ideal.exp (scores q k (ix3 h r j) - logsum (top (scores q k)) (total (exps q k)) (ix3 h r 0)) = ((E j / l : ℝ) : EReal) := by
  choose a ha using fun j : Fin 4096 => (IsReal.sum Finset.univ fun d : Fin 96 => (hq (ix3 h r d)).mul (hk (ix3 h j d))).mul scale_real
  obtain ⟨E, l, hl, he, hs, h0, hw⟩ := row_softmax (fun j : Fin 4096 => j.val / 64 ≤ r.val / 64) a r le_rfl
    (fun j => scores q k (ix3 h r j)) fun j => by rw [scores_apply, ha]
  have et : total (exps q k) (ix3 h r 0) = (l : EReal) := by
    rw [total_apply, ← hs]
    exact Finset.sum_congr rfl fun j _ => (expo_apply _ _ h r j).trans (by rw [top_apply])
  refine ⟨E, l, hl, fun j => ?_, et, h0, fun j hj => ?_⟩
  · rw [← he j]
    exact (expo_apply _ _ h r j).trans (by rw [top_apply])
  · rw [← hw j hj, logsum_apply, et, top_apply]

include hq hk in
theorem weight_eq (h : Fin 8) (r j : Fin 4096) :
    (if j.val / 64 ≤ r.val / 64 then
      Ideal.exp ((∑ d, q (ix3 h r d) * k (ix3 h j d)) * scale - logsum (top (scores q k)) (total (exps q k)) (ix3 h r 0)) else 0)
      = weights (exps q k) (total (exps q k)) (ix3 h r j) := by
  obtain ⟨E, l, hl, he, hs, h0, hw⟩ := row_facts q k hq hk h r
  have div : weights (exps q k) (total (exps q k)) (ix3 h r j) = ((E j / l : ℝ) : EReal) := by
    rw [weights_apply, he, hs, Cert.Reals.div_real hl.ne', ← EReal.coe_mul]
    congr 1; ring
  rw [div]
  split_ifs with ha
  · rw [← hw j ha, scores_apply, if_pos ha]
  · rw [h0 j ha, zero_div, EReal.coe_zero]

include hq hk hv hg in
theorem gradient_eq (h : Fin 8) (r j : Fin 4096) :
    weights (exps q k) (total (exps q k)) (ix3 h r j)
      * (∑ d : Fin 64, g (ix2 r ⟨64 * h.val + d.val, by omega⟩) * v (ix3 h j d)
        - ∑ d : Fin 64, g (ix2 r ⟨64 * h.val + d.val, by omega⟩)
            * output (weights (exps q k) (total (exps q k))) v (ix2 r ⟨64 * h.val + d.val, by omega⟩)) * scale
      = dscores (exps q k) (dweights (byHead g) v) (total (exps q k)) (dtotal (exps q k) (dweights (byHead g) v) (total (exps q k)))
          (ix3 h r j) := by
  obtain ⟨E, l, hl, he, hs, h0, -⟩ := row_facts q k hq hk h r
  choose g' hg' using hg
  choose v' hv' using hv
  have hp : ∀ j, dweights (byHead g) v (ix3 h r j)
      = ((∑ d : Fin 64, g' (ix2 r ⟨64 * h.val + d.val, by omega⟩) * v' (ix3 h j d) : ℝ) : EReal) := fun j => by
    rw [dweights_apply, coe_sum]
    exact Finset.sum_congr rfl fun d _ => by rw [byHead_apply, hg', hv', EReal.coe_mul]
  have hd : ∀ j, Ideal.div (E j : EReal) (l : EReal) = ((E j / l : ℝ) : EReal) := fun j => by
    rw [Cert.Reals.div_real hl.ne', ← EReal.coe_mul]
    congr 1; ring
  have ho : (∑ d : Fin 64, g (ix2 r ⟨64 * h.val + d.val, by omega⟩)
      * output (weights (exps q k) (total (exps q k))) v (ix2 r ⟨64 * h.val + d.val, by omega⟩))
      = ∑ j, Ideal.div (E j : EReal) (l : EReal) * dweights (byHead g) v (ix3 h r j) := by
    simp only [output_apply, weights_apply, he, hs, hd, hg', hv', hp, ← EReal.coe_mul, ← coe_sum]
    congr 1
    simp only [Finset.mul_sum]
    rw [Finset.sum_comm]
    exact Finset.sum_congr rfl fun i _ => Finset.sum_congr rfl fun d _ => by ring
  have hpj : (∑ d : Fin 64, g (ix2 r ⟨64 * h.val + d.val, by omega⟩) * v (ix3 h j d)) = dweights (byHead g) v (ix3 h r j) := by
    rw [dweights_apply]
    exact Finset.sum_congr rfl fun d _ => by rw [byHead_apply]
  rw [dscores_apply, dtotal_apply, ho, hpj, weights_apply, hs]
  simp only [he, hp]
  rw [score_gradient (fun j : Fin 4096 => j.val / 64 ≤ r.val / 64) E
    (fun j => ∑ d : Fin 64, g' (ix2 r ⟨64 * h.val + d.val, by omega⟩) * v' (ix3 h j d)) l hl h0 j]

end Cert.AttnIdeal.Run

end
-- ==== Proof.Attn.Blocks.lean ====
/- The blocks a grid point of the attention gradient reads, in terms of the host lines' arrays. -/
module

public import proofs.«01_k».proof.Proof.Attn.HostAt

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Idealize.SL

theorem idx : ∀ t : Fin cfg0.N, (win0_0.index t = ![t.val / 8, 0, 0] ∧ win0_1.index t = ![t.val / 8, 0, 0, 0] ∧ win0_2.index t = ![t.val / 8, t.val % 8, 0])
    ∧ (win0_3.index t = ![t.val / 8, t.val % 8, 0] ∧ win0_4.index t = ![0, t.val / 16] ∧ win0_5.index t = ![t.val / 16, 0, 0, 0])
    ∧ (win0_6.index t = ![0, t.val / 16] ∧ win0_7.index t = ![t.val / 8, 0, 0] ∧ win0_8.index t = ![t.val / 8, 0, 0])
    ∧ (win0_9.index t = ![t.val / 8, t.val % 8, 0] ∧ win0_10.index t = ![t.val / 8, t.val % 8, 0] ∧ (grid0.coords t 1).val = t.val / 8 % 2) :=
  (by decide +kernel : ∀ t : Fin grid0.N, _)

variable (m : (ℓ : Loc nD τ sig) → Buf (Elt Ideal) ℓ) (c : Dev nD) (t : Fin cfg0.N)

/-- The head of a point, and the pair of heads it is in. -/
def hd : Fin 8 := ⟨t.val / 8, by have h : t.val < 64 := t.isLt; omega⟩
def hp : Fin 4 := ⟨t.val / 16, by have h : t.val < 64 := t.isLt; omega⟩

theorem hp_val : (hp t).val = (hd t).val / 2 := by show t.val / 16 = t.val / 8 / 2; omega

theorem q_at (r : Fin 4096) (d : Fin 128) : (insAt m c t).q (ix3 0 r d) = onLanes (q m c) (ix3 (hd t) r d) := by
  show iblk m c 0 t (ix3 0 r d) = truncf (F := Ideal) .bf16 (onLanes (q m c)) bitsLt_bf16_f32 (ix3 (hd t) r d)
  rw [← V_v26]
  blk_point [iblk, idx t]
  all_goals first | rfl | (show _ = 512 * (kb t).val + j.val; omega) | (show t.val / 16 * 128 + d.val = 128 * (t.val / 16) + d.val; omega)

theorem qt_at (b : Fin 8) (d : Fin 128) (r : Fin 512) : (insAt m c t).qt (ix4 0 b d r) = onLanes (q m c) (ix3 (hd t) (row b r) d) := by
  show iblk m c 1 t (ix4 0 b d r) = _
  rw [← queryTiles_apply, ← V_v40]
  blk_point [iblk, idx t]
  all_goals first | rfl | (show _ = 512 * (kb t).val + j.val; omega) | (show t.val / 16 * 128 + d.val = 128 * (t.val / 16) + d.val; omega)

theorem k_at (j : Fin 512) (d : Fin 128) : (insAt m c t).k (ix2 j d) = onLanes (k m c) (ix3 (hd t) (row (kb t) j) d) := by
  refine (pay22_apply (iblk m c 2 t) j d).trans ?_
  show _ = truncf (F := Ideal) .bf16 (onLanes (k m c)) bitsLt_bf16_f32 (ix3 (hd t) (row (kb t) j) d)
  rw [← V_v28]
  have hk := kb_val t
  blk_point [iblk, idx t]
  all_goals first | rfl | (show _ = 512 * (kb t).val + j.val; omega) | (show t.val / 16 * 128 + d.val = 128 * (t.val / 16) + d.val; omega)

theorem v_at (j : Fin 512) (d : Fin 128) : (insAt m c t).v (ix2 j d) = onOwnLanes (v m c) (ix3 (hd t) (row (kb t) j) d) := by
  refine (pay23_apply (iblk m c 3 t) j d).trans ?_
  show _ = truncf (F := Ideal) .bf16 (onOwnLanes (v m c)) bitsLt_bf16_f32 (ix3 (hd t) (row (kb t) j) d)
  rw [← V_v38]
  have hk := kb_val t
  blk_point [iblk, idx t]
  all_goals first | rfl | (show _ = 512 * (kb t).val + j.val; omega) | (show t.val / 16 * 128 + d.val = 128 * (t.val / 16) + d.val; omega)

theorem g_at (r : Fin 4096) (d : Fin 128) : (insAt m c t).g (ix2 r d) = g m c (ix2 r ⟨128 * (hp t).val + d.val, by have := (hp t).isLt; omega⟩) := by
  show iblk m c 4 t (ix2 r d) = _
  blk_point [iblk, V, idx t]
  show t.val / 16 * 128 + d.val = 128 * (t.val / 16) + d.val
  omega

theorem gt_at (b : Fin 8) (d : Fin 128) (r : Fin 512) :
    (insAt m c t).gt (ix4 0 b d r) = g m c (ix2 (row b r) ⟨128 * (hp t).val + d.val, by have := (hp t).isLt; omega⟩) := by
  refine Eq.trans ?_ (cotangentTiles_apply (g m c) (hp t) b d r)
  show iblk m c 5 t (ix4 0 b d r) = truncf (F := Ideal) .bf16 (cotangentTiles (g m c)) bitsLt_bf16_f32 (ix4 (hp t) b d r)
  rw [← V_v43]
  blk_point [iblk, idx t]
  all_goals first | rfl | (show _ = 512 * (kb t).val + j.val; omega) | (show t.val / 16 * 128 + d.val = 128 * (t.val / 16) + d.val; omega)

theorem o_at (r : Fin 4096) (d : Fin 128) : (insAt m c t).o (ix2 r d)
    = output (weights (e m c) (total (e m c))) (v m c) (ix2 r ⟨128 * (hp t).val + d.val, by have := (hp t).isLt; omega⟩) := by
  show iblk m c 6 t (ix2 r d) = _
  rw [← V_v22]
  blk_point [iblk, idx t]
  all_goals first | rfl | (show _ = 512 * (kb t).val + j.val; omega) | (show t.val / 16 * 128 + d.val = 128 * (t.val / 16) + d.val; omega)

theorem ls_blk (f : FVec Ideal S8x4096x1 .f32) (r : Fin 4096) :
    (((cfg0.win 7).blk t).view.read (Elt Ideal) f : S1x4096x1.Idx → EReal) (ix3 0 r 0) = f (ix3 (hd t) r 0) := by
  refine congrArg f (funext fun a => Fin.ext ?_)
  fin_cases a
  · blk_simp [idx t]; rfl
  · blk_simp [idx t]; rfl
  · blk_simp [idx t]

theorem ls_at (r : Fin 4096) : (insAt m c t).ls (ix3 0 r 0) = logsum (top (s m c)) (total (e m c)) (ix3 (hd t) r 0) := by
  rw [← V_v24]
  show iblk m c 7 t (ix3 0 r 0) = _
  unfold iblk
  exact ls_blk t (V m c main_v24) r

theorem own_at (r : Fin 512) (d : Fin 128) : (insAt m c t).own (ix2 r d) = BitVec.ofBool (decide (d.val / 64 = (hd t).val % 2)) := by
  refine (pay24_apply (grid0.coords t) r d).trans ?_
  rw [(idx t).2.2.2.2.2]
  rfl

end Cert.AttnIdeal.Run

end
-- ==== Proof.Attn.Final.lean ====
/- The arrays the attention gradient leaves, for real arguments: the reference's terms.

A point's lane sums are sums over the head's own 96 or 64 entries; so its weights and score gradients are the forward
lines' and the differentiated softmax's, and a sum over the query blocks and their rows, or over the key blocks and their
keys, is a sum over all 4096. -/
module

public import proofs.«01_k».proof.Proof.Attn.Match
public import proofs.«01_k».proof.Proof.Attn.Blocks

@[expose] public section

set_option maxRecDepth 8192
set_option maxHeartbeats 2000000

noncomputable section

namespace Cert.AttnIdeal.Run

open Cert.AttnIdeal.Gen
open Idealize.ShloMosaic Idealize.ShloMosaic.TcCoe Idealize.ShloMosaic.Tactic
open Idealize.SL
open Cert.Finite Cert.Softmax
open Cert.AttnRefIdeal.Terms (byHead byHead_apply dvalues dvalues_apply dweights dtotal dscores dqueries dqueries_apply dkeys dkeys_apply)

theorem lanes_dot (x y : FVec Ideal S8x4096x96 .f32) (h : Fin 8) (r j : Fin 4096) :
    (∑ d : Fin 128, onLanes x (ix3 h r d) * onLanes y (ix3 h j d)) = ∑ d : Fin 96, x (ix3 h r d) * y (ix3 h j d) := by
  rw [← sum_low fun d => x (ix3 h r d) * y (ix3 h j d)]
  refine Finset.sum_congr rfl fun d _ => ?_
  rw [onLanes_apply, onLanes_apply]
  split_ifs
  exacts [rfl, mul_zero 0]

theorem sum_rows (f : Fin 4096 → EReal) : (∑ b : Fin 8, ∑ r : Fin 512, f (row b r)) = ∑ i, f i := by
  refine Eq.trans ?_ (Fin.sum_mul_add_congr (S := 8) (n := 512) (F := fun t i => f ⟨t.val * 512 + i.val, by omega⟩) (f := f) fun t i hl => rfl)
  exact Finset.sum_congr rfl fun b _ => Finset.sum_congr rfl fun r _ => congrArg f (Fin.ext (by simp only [row]; omega))

variable (m : (ℓ : Loc nD τ sig) → Buf (Elt Ideal) ℓ) (c : Dev nD) (t : Fin cfg0.N)

/-- The forward lines' weights, and the reference's score gradient. -/
abbrev wts : FVec Ideal S8x4096x4096 .f32 := weights (exps (q m c) (k m c)) (total (exps (q m c) (k m c)))
abbrev dsc : FVec Ideal S8x4096x4096 .f32 :=
  dscores (exps (q m c) (k m c)) (dweights (byHead (g m c)) (v m c)) (total (exps (q m c) (k m c)))
    (dtotal (exps (q m c) (k m c)) (dweights (byHead (g m c)) (v m c)) (total (exps (q m c) (k m c))))

theorem column (d : Fin 64) (h1 : 128 * (hp t).val + (64 * ((hd t).val % 2) + d.val) < 512) :
    (⟨128 * (hp t).val + (64 * ((hd t).val % 2) + d.val), h1⟩ : Fin 512) = ⟨64 * (hd t).val + d.val, by have := (hd t).isLt; omega⟩ :=
  Fin.ext (by have := hp_val t; simp only; omega)

theorem sum_gv (r : Fin 4096) (j : Fin 512) :
    (∑ d : Fin 128, (insAt m c t).g (ix2 r d) * (insAt m c t).v (ix2 j d))
      = ∑ d : Fin 64, g m c (ix2 r ⟨64 * (hd t).val + d.val, by have := (hd t).isLt; omega⟩) * v m c (ix3 (hd t) (row (kb t) j) d) := by
  rw [sum_half ((hd t).val % 2) (by omega) _ fun d hd' => by rw [v_at, onOwnLanes_apply, if_neg hd', mul_zero]]
  refine Finset.sum_congr rfl fun d _ => ?_
  rw [g_at, v_at, onOwnLanes_apply, if_pos (by simp only; omega)]
  refine congrArg₂ (fun a b => g m c (ix2 r a) * v m c (ix3 (hd t) (row (kb t) j) b)) (column t d _) (Fin.ext ?_)
  simp only
  omega

theorem sum_go (r : Fin 512) (R : Fin 4096) :
    (∑ d : Fin 128, Scalar.select ((insAt m c t).own (ix2 r d)) ((insAt m c t).g (ix2 R d) * (insAt m c t).o (ix2 R d)) 0)
      = ∑ d : Fin 64, g m c (ix2 R ⟨64 * (hd t).val + d.val, by have := (hd t).isLt; omega⟩)
          * output (weights (e m c) (total (e m c))) (v m c) (ix2 R ⟨64 * (hd t).val + d.val, by have := (hd t).isLt; omega⟩) := by
  rw [sum_half ((hd t).val % 2) (by omega) _ fun d hd' => by rw [own_at, WordCmp.select_decide, if_neg hd']]
  refine Finset.sum_congr rfl fun d _ => ?_
  rw [own_at, WordCmp.select_decide, if_pos (by simp only; omega), g_at, o_at]
  exact congrArg (fun a => g m c (ix2 R a) * output (weights (e m c) (total (e m c))) (v m c) (ix2 R a)) (column t d _)

variable (hq : ∀ i, IsReal (q m c i)) (hk : ∀ i, IsReal (k m c i)) (hv : ∀ i, IsReal (v m c i)) (hg : ∀ i, IsReal (g m c i))

include hq hk in
theorem insW (b : Fin 8) (r j : Fin 512) :
    (insAt m c t).W (kb t) b r j = wts m c (ix3 (hd t) (row b r) (row (kb t) j)) := by
  refine Eq.trans ?_ (weight_eq _ _ hq hk (hd t) (row b r) (row (kb t) j))
  unfold Ins.W
  simp only [q_at, k_at, ls_at, lanes_dot]
  rfl

include hq hk hv hg in
theorem insD (b : Fin 8) (r j : Fin 512) :
    (insAt m c t).D (kb t) b r j = dsc m c (ix3 (hd t) (row b r) (row (kb t) j)) := by
  refine Eq.trans ?_ (gradient_eq _ _ _ _ hq hk hv hg (hd t) (row b r) (row (kb t) j))
  unfold Ins.D
  rw [insW m c t hq hk, sum_gv, sum_go]
  rfl

include hq hk hv hg in
theorem sum_termK (j : Fin 512) (d : Fin 128) :
    (∑ b, (insAt m c t).termK (kb t) d j b) = onLanes (dkeys (dsc m c) (q m c)) (ix3 (hd t) (row (kb t) j) d) := by
  rw [onLanes_apply]
  unfold Ins.termK
  simp only [insD m c t hq hk hv hg, qt_at]
  rw [sum_rows fun i => onLanes (q m c) (ix3 (hd t) i d) * dsc m c (ix3 (hd t) i (row (kb t) j))]
  split_ifs with h
  · rw [dkeys_apply]
    refine Finset.sum_congr rfl fun i _ => ?_
    rw [onLanes_apply, dif_pos h, mul_comm]
  · refine Finset.sum_eq_zero fun i _ => ?_
    rw [onLanes_apply, dif_neg h, zero_mul]

include hq hk in
theorem sum_termV (j : Fin 512) (d : Fin 128) (h : d.val / 64 = (hd t).val % 2) :
    (∑ b, (insAt m c t).termV (kb t) d j b) = onOwnLanes (dvalues (byHead (g m c)) (wts m c)) (ix3 (hd t) (row (kb t) j) d) := by
  rw [onOwnLanes_apply, if_pos h, dvalues_apply]
  unfold Ins.termV
  simp only [insW m c t hq hk, gt_at]
  rw [sum_rows fun i => g m c (ix2 i ⟨128 * (hp t).val + d.val, by have := (hp t).isLt; omega⟩) * wts m c (ix3 (hd t) i (row (kb t) j))]
  refine Finset.sum_congr rfl fun i _ => ?_
  rw [byHead_apply]
  refine congrArg (fun a => g m c (ix2 i a) * wts m c (ix3 (hd t) i (row (kb t) j))) (Fin.ext ?_)
  have := hp_val t
  simp only
  omega

include hq hk hv hg in
theorem sum_termQ (b : Fin 8) (r' : Fin 512) (d : Fin 128) :
    (∑ n : Fin 8, (insAt m c (nth t n)).termQ n b r' d) = onLanes (dqueries (dsc m c) (k m c)) (ix3 (hd t) (row b r') d) := by
  rw [onLanes_apply]
  have hkb : ∀ n, kb (nth t n) = n := fun n => Fin.ext ((kb_val _).trans (by
    have := n.isLt
    show (t.val - t.val % 8 + n.val) % 8 = n.val
    omega))
  have hhd : ∀ n, hd (nth t n) = hd t := fun n => Fin.ext (by
    have := n.isLt
    show (t.val - t.val % 8 + n.val) / 8 = t.val / 8
    omega)
  have term : ∀ n : Fin 8, (insAt m c (nth t n)).termQ n b r' d
      = ∑ j, dsc m c (ix3 (hd t) (row b r') (row n j)) * onLanes (k m c) (ix3 (hd t) (row n j) d) := fun n => by
    unfold Ins.termQ
    refine Finset.sum_congr rfl fun j _ => ?_
    have h1 := insD m c (nth t n) hq hk hv hg b r' j
    have h2 := k_at m c (nth t n) j d
    rw [hkb, hhd] at h1 h2
    rw [h1, h2]
  rw [Finset.sum_congr rfl fun n _ => term n,
    sum_rows fun i => dsc m c (ix3 (hd t) (row b r') i) * onLanes (k m c) (ix3 (hd t) i d)]
  split_ifs with h
  · rw [dqueries_apply]
    refine Finset.sum_congr rfl fun i _ => ?_
    rw [onLanes_apply, dif_pos h]
  · refine Finset.sum_eq_zero fun i _ => ?_
    rw [onLanes_apply, dif_neg h, mul_zero]

include hq hk hv hg in
theorem queries_block (ht : t.val % 8 = 7) (r : Fin 4096) (d : Fin 128) :
    (dats m 0 c).after 8 t (ix3 0 r d) = onLanes (dqueries (dsc m c) (k m c)) (ix3 (hd t) r d) := by
  obtain ⟨b, r', rfl⟩ : ∃ b r', r = row b r' := ⟨⟨r.val / 512, by omega⟩, ⟨r.val % 512, by omega⟩, Fin.ext (by simp only [row]; omega)⟩
  exact (queries_eq m c t ht b r' d).trans (sum_termQ m c t hq hk hv hg b r' d)

/-! ## The arrays -/

theorem flush8 : ∀ t : Fin cfg0.N, (cfg0.win 8).flush t = true → t.val % 8 = 7 := (by decide +kernel : ∀ t : Fin grid0.N, _)

include hq hk hv hg in
theorem final8 : (dats m 0 c).arrAt 8 (cfgs 0).N = onLanes (dqueries (dsc m c) (k m c)) := by
  refine (dats m 0 c).arrAt_eq_of_covers 8 _ (by decide +kernel) fun t ht y => ?_
  blk_simp
  idx_vars y
  obtain rfl : y0 = 0 := Subsingleton.elim _ _
  refine (queries_block m c t hq hk hv hg (flush8 t ht) y1 y2).trans ?_
  generalize onLanes (dqueries (dsc m c) (k m c)) = f
  refine congrArg f (funext fun a => Fin.ext ?_)
  fin_cases a
  · blk_simp [idx t]; rfl
  · blk_simp [idx t]; try rfl
  · blk_simp [idx t]; try rfl

include hq hk hv hg in
theorem final9 : (dats m 0 c).arrAt 9 (cfgs 0).N = onLanes (dkeys (dsc m c) (q m c)) := by
  refine (dats m 0 c).arrAt_eq_of_covers 9 _ (by decide +kernel) fun t _ y => ?_
  blk_simp
  idx_vars y
  obtain rfl : y0 = 0 := Subsingleton.elim _ _
  refine ((keys_eq m c t y1 y2).trans (sum_termK m c t hq hk hv hg y1 y2)).trans ?_
  generalize onLanes (dkeys (dsc m c) (q m c)) = f
  have hk := kb_val t
  refine congrArg f (funext fun a => Fin.ext ?_)
  fin_cases a
  · blk_simp [idx t]; rfl
  · blk_simp [idx t]; show 512 * (kb t).val + y1.val = t.val % 8 * 512 + y1.val; omega
  · blk_simp [idx t]; try rfl

theorem place10 (j : Fin 512) (d : Fin 128) :
    ((cfg0.win 10).blk t).view.emb (ix3 0 j d : S1x512x128.Idx) = (ix3 (hd t) (row (kb t) j) d : S8x4096x128.Idx) := by
  have hk := kb_val t
  refine funext fun a => Fin.ext ?_
  fin_cases a
  · blk_simp [idx t]; rfl
  · blk_simp [idx t]; show t.val % 8 * 512 + j.val = 512 * (kb t).val + j.val; omega
  · blk_simp [idx t]; try rfl

include hq hk in
theorem final10 (i : S8x4096x128.Idx) (hi : (i 2).val / 64 = (i 0).val % 2) :
    (dats m 0 c).arrAt 10 (cfgs 0).N i = onOwnLanes (dvalues (byHead (g m c)) (wts m c)) i := by
  refine (dats m 0 c).arrAt_forall_of_covers 10
    (fun i x => (i 2).val / 64 = (i 0).val % 2 → x = onOwnLanes (dvalues (byHead (g m c)) (wts m c)) i) (by decide +kernel) (fun t _ y => ?_) i (Memref.isWhole_whole _) hi
  idx_vars y
  obtain rfl : y0 = 0 := Subsingleton.elim _ _
  intro h
  have e := place10 t y1 y2
  have h' : y2.val / 64 = (hd t).val % 2 :=
    (congrArg (fun x : S8x4096x128.Idx => (x 2).val / 64) e).symm.trans (h.trans (congrArg (fun x : S8x4096x128.Idx => (x 0).val % 2) e))
  refine Eq.trans ?_ (congrArg (onOwnLanes (dvalues (byHead (g m c)) (wts m c))) e).symm
  exact (values_eq m c t y1 y2).trans (sum_termV m c t hq hk y1 y2 h')

/-! ## The reference's terms at the same arguments -/

theorem ref_ds (m' : (ℓ : Loc Cert.AttnRefIdeal.nD Cert.AttnRefIdeal.τ Cert.AttnRefIdeal.sig) → Buf (Elt Ideal) ℓ) (c' : Dev Cert.AttnRefIdeal.nD)
    (a0 : Cert.AttnRefIdeal.Terms.q m' c' = q m c) (a1 : Cert.AttnRefIdeal.Terms.k m' c' = k m c)
    (a2 : Cert.AttnRefIdeal.Terms.v m' c' = v m c) (a3 : Cert.AttnRefIdeal.Terms.g m' c' = g m c) :
    Cert.AttnRefIdeal.Terms.ds m' c' = dsc m c := by
  unfold Cert.AttnRefIdeal.Terms.ds Cert.AttnRefIdeal.Terms.e
  rw [Cert.AttnRefIdeal.Terms.shift_eq, a0, a1, a2, a3]

theorem ref_wts (m' : (ℓ : Loc Cert.AttnRefIdeal.nD Cert.AttnRefIdeal.τ Cert.AttnRefIdeal.sig) → Buf (Elt Ideal) ℓ) (c' : Dev Cert.AttnRefIdeal.nD)
    (a0 : Cert.AttnRefIdeal.Terms.q m' c' = q m c) (a1 : Cert.AttnRefIdeal.Terms.k m' c' = k m c) :
    weights (Cert.AttnRefIdeal.Terms.e m' c') (total (Cert.AttnRefIdeal.Terms.e m' c')) = wts m c := by
  unfold Cert.AttnRefIdeal.Terms.e
  rw [Cert.AttnRefIdeal.Terms.shift_eq, a0, a1]

end Cert.AttnIdeal.Run

end
-- ==== Proof.Attn.Finite.lean ====
/- What the precondition says: every argument is an array of real numbers. And what the mask says: a lane of a head's own half. -/
module

public import proofs.«01_k».proof.Pre_finite_attn
public import proofs.«01_k».proof.On_own_lanes
public import proofs.«01_k».proof.Proof.Finite
public import Idealize.ShloMosaic.Lib.Pipeline.Value
public import Idealize.ShloMosaic.Lib.Pipeline.ValueKit

@[expose] public section

set_option maxRecDepth 8192

noncomputable section

namespace Cert.Pre_finite_attn

open Idealize.ShloMosaic Cert.Finite

instance facts : Facts where
  bcast_S_S8x4096x96 := by decide
  reducesTo_S8x4096x96_S_d0_1_2 := by decide
  h_S_ := by decide
  bcast_S_S8x4096x64 := by decide
  reducesTo_S8x4096x64_S_d0_1_2 := by decide
  bcast_S_S4096x512 := by decide
  reducesTo_S4096x512_S_d0_1 := by decide

theorem reals [Facts] {q k : Vec Ideal S8x4096x96 .f32} {v : Vec Ideal S8x4096x64 .f32} {g : Vec Ideal S4096x512 .f32}
    (h : fn (F := Ideal) q k v g = fun _ => 1#1) :
    (∀ i, IsReal (q i)) ∧ (∀ i, IsReal (k i)) ∧ (∀ i, IsReal (v i)) ∧ (∀ i, IsReal (g i)) := by
  have h0 := congrFun h (fun a => a.elim0)
  obtain ⟨h1, hg⟩ := IntOp.andi_eq_one.mp h0
  obtain ⟨h2, hv⟩ := IntOp.andi_eq_one.mp h1
  obtain ⟨hq, hk⟩ := IntOp.andi_eq_one.mp h2
  exact ⟨of_all q _ _ _ _ hq, of_all k _ _ _ _ hk, of_all v _ _ _ _ hv, of_all g _ _ _ _ hg⟩

end Cert.Pre_finite_attn

namespace Cert.On_own_lanes

open Idealize.ShloMosaic Idealize.ShloMosaic.Tactic

instance facts : Facts where
  bcast_S_S8x4096x128 := by decide

/-- Division rounding down by 64, as the host writes it: the quotient, one less where the signs differ and the division leaves a rest. -/
def half (x : BitVec 32) : BitVec 32 :=
  Scalar.select
    (IntOp.andi
      (IntOp.cmpi .ne ((if x = 0 then 0 else if x.msb = true then -1 else 1) : BitVec 32) (if 64#32 = 0 then 0 else if (64#32).msb = true then -1 else 1))
      (IntOp.cmpi .ne (IntOp.remsi .host x 64#32) 0#32))
    (IntOp.subi (IntOp.divsi .host x 64#32) 1#32)
    (IntOp.divsi .host x 64#32)

/-- The divisor 2, replaced by 1 were it 0. -/
def two : BitVec 32 := Scalar.select (IntOp.cmpi .eq 2#32 0#32) 1#32 2#32

/-- The remainder by 2 with the divisor's sign, as the host writes it. -/
def parity (x : BitVec 32) : BitVec 32 :=
  Scalar.select
    (IntOp.andi
      (IntOp.cmpi .ne (IntOp.cmpi .slt (IntOp.remsi .host x two) 0#32) (IntOp.cmpi .slt two 0#32))
      (IntOp.cmpi .ne (IntOp.remsi .host x two) 0#32))
    (IntOp.addi (IntOp.remsi .host x two) two)
    (IntOp.remsi .host x two)

theorem half_lane : ∀ d : Fin 128, half (BitVec.ofNat 32 d.val) = BitVec.ofNat 32 (d.val / 64) := by decide +kernel

theorem parity_head : ∀ h : Fin 8, parity (BitVec.ofNat 32 h.val) = BitVec.ofNat 32 (h.val % 2) := by decide +kernel

theorem words_eq : ∀ a b : Fin 2, IntOp.cmpi .eq (BitVec.ofNat 32 a.val) (BitVec.ofNat 32 b.val) = 1#1 → a.val = b.val := by decide +kernel

theorem half_apply (h : Fin 8) (r : Fin 4096) (d : Fin 128) :
    fn_floor_divide (F := Ideal) (iotaInDim S8x4096x128 32 2) (constantI S_ 32 64#32) (ix3 h r d) = half (BitVec.ofNat 32 d.val) := by
  pointwise [fn_floor_divide, fn_where]
  rfl

theorem parity_apply (h : Fin 8) (r : Fin 4096) (d : Fin 128) :
    fn_remainder (F := Ideal) (iotaInDim S8x4096x128 32 0) (constantI S_ 32 2#32) (ix3 h r d) = parity (BitVec.ofNat 32 h.val) := by
  pointwise [fn_remainder, fn_where_0]
  rfl

theorem own {q k : FVec Ideal S8x4096x96 .f32} {v : FVec Ideal S8x4096x64 .f32} {g : FVec Ideal S4096x512 .f32} {i : S8x4096x128.Idx}
    (h : (fn (F := Ideal) q k v g).2.2 i = 1#1) : (i 2).val / 64 = (i 0).val % 2 := by
  idx_vars i
  have e := (congrArg₂ (IntOp.cmpi .eq) ((half_apply i0 i1 i2).trans (half_lane i2)) ((parity_apply i0 i1 i2).trans (parity_head i0))).symm.trans h
  exact words_eq ⟨i2.val / 64, by omega⟩ ⟨i0.val % 2, by omega⟩ e

end Cert.On_own_lanes

end
-- ==== Proof.Attn.Claims.lean ====
/- The claims about the attention gradient: its frames, the mask constant's name, and its results against the reference's.

The kernel and its Ideal reading have the same text up to the name of the mask constant, so the frame of one is that of
the other, taken at the machine's words with the name read as the word it stands for. -/
module

public import proofs.«01_k».proof.Proof.Attn.Frame
public import proofs.«01_k».proof.Proof.Attn.Final
public import proofs.«01_k».proof.Proof.Attn.Finite
public import proofs.«01_k».proof.Defs
public import proofs.«01_k».proof.Proof.Gen.Attn

@[expose] public section

set_option maxRecDepth 16384

noncomputable section

namespace Cert.AttnClaims

open Idealize.ShloMosaic Idealize.ShloMosaic.TcCoe
open Idealize.SL Idealize.SL.Sem

/-- The named constant as the machine has it: its own word. -/
@[instance_reducible] def namedBits : Named Bits := ⟨fun _ _ _ bits => FloatOps.ofBits (F := Bits) _ bits⟩

/-- The frame of the Ideal reading's text over the machine's words. -/
def FrameOfWords : Prop :=
  letI := namedBits
  ∀ (m : (ℓ : Loc Cert.AttnIdeal.nD Cert.AttnIdeal.τ Cert.AttnIdeal.sig) → Buf (Elt Bits) ℓ) (g : Dev Cert.AttnIdeal.nD → PrngReg), True →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

theorem same_text : Cert.quiescent_Attn = FrameOfWords := by sl_kernel_rfl

theorem frame_bits : Cert.quiescent_Attn := by
  rw [same_text]
  letI := namedBits
  exact fun m ρ _ => Cert.AttnIdeal.Run.frame (F := Bits) m ρ

theorem frame_ideal : Cert.quiescent_AttnIdeal := fun m ρ _ => Cert.AttnIdeal.Run.frame m ρ

theorem frame_ref : Cert.quiescent_AttnRefIdeal := fun m ρ _ =>
  (θ_run Cert.AttnRefIdeal.defs _ _).mono (fun _ h => ⟨fun c => (h c).2.2.2, sem_eq_zero_of_no_sems rfl _⟩)
    (Cert.AttnRefIdeal.Value.run m ρ)

theorem named : Cert.preserves_Attn_AttnIdeal := IdealRules.named_const.statement Cert.AttnIdeal.κ "masked" .f32 0xF149F2CA#32 (⊥ : EReal) rfl

open Cert.AttnIdeal.Run in
theorem value : Cert.algebraic_AttnIdeal_AttnRefIdeal_on_own_lanes_pre_finite_attn := by
  intro m g m' g' hp ha
  have hr := fun c => Cert.Pre_finite_attn.reals (h := hp c)
  refine ⟨fun c => onLanes (Cert.AttnRefIdeal.Terms.dqueries (dsc m c) (k m c)), fun c => onLanes (Cert.AttnRefIdeal.Terms.dkeys (dsc m c) (q m c)),
    fun c => onOwnLanes (Cert.AttnRefIdeal.Terms.dvalues (Cert.AttnRefIdeal.Terms.byHead (Cert.AttnIdeal.Run.g m c)) (wts m c)), ?_, ?_⟩
  · refine (θ_run Cert.AttnIdeal.defs _ _).mono (fun r h c => ?_) (θ_run_and (run_quiescent m g) (frame m g))
    obtain ⟨⟨hpost, -⟩, hargs, -⟩ := h
    obtain ⟨hq, hk, hv, hg⟩ := hr c
    exact ⟨fun i _ => congrFun (((hpost c).1 8).trans (final8 m c hq hk hv hg)) i, fun i _ => congrFun (((hpost c).1 9).trans (final9 m c hq hk hv hg)) i,
      fun i hi => (congrFun ((hpost c).1 10) i).trans (final10 m c hq hk i (Cert.On_own_lanes.own hi)), hargs c⟩
  · refine (θ_run Cert.AttnRefIdeal.defs _ _).mono (fun r h c => ?_) (Cert.AttnRefIdeal.Value.run m' g')
    obtain ⟨h73, h74, h72, hargs⟩ := h c
    obtain ⟨a0, a1, a2, a3⟩ := ha c
    have e1 := ref_ds m c m' c a0 a1 a2 a3
    have e2 := ref_wts m c m' c a0 a1
    refine ⟨fun i _ => congrFun (h73.trans ((Cert.AttnRefIdeal.Terms.res_v73 m' c).trans ?_)) i,
      fun i _ => congrFun (h74.trans ((Cert.AttnRefIdeal.Terms.res_v74 m' c).trans ?_)) i,
      fun i _ => congrFun (h72.trans ((Cert.AttnRefIdeal.Terms.res_v72 m' c).trans ?_)) i, hargs⟩
    · exact congrArg₂ (fun a b => onLanes (Cert.AttnRefIdeal.Terms.dqueries a b)) e1 a1
    · exact congrArg₂ (fun a b => onLanes (Cert.AttnRefIdeal.Terms.dkeys a b)) e1 a0
    · exact congrArg₂ (fun a b => onOwnLanes (Cert.AttnRefIdeal.Terms.dvalues (Cert.AttnRefIdeal.Terms.byHead a) b)) a3 e2

end Cert.AttnClaims

end
-- ==== Proof.RowNorm.lean ====
/- A row over its root mean square, and the derivative of that, as functions of one row of 1024 numbers. -/
module

public import Idealize.ShloMosaic.Lib.Pointwise
public import Idealize.ShloMosaic.PureOps.Ideal.Laws

@[expose] public section

noncomputable section

namespace Cert.RowNorm

open Idealize.ShloMosaic
open scoped BigOperators

/-- One row. -/
abbrev Line := Fin 1024 → EReal

/-- The mean square of a row, with the constant that keeps it from zero. -/
def power (y : Line) : EReal :=
  Ideal.div (∑ l, y l * y l) (Ideal.ofBits .f32 0x44800000#32) + Ideal.ofBits .f32 0x358637BD#32

/-- The row over its root mean square. -/
def unit (y : Line) (k : Fin 1024) : EReal := y k * Ideal.rsqrt (power y)

/-- What every entry of the row owes to the mean square: the inner product with the cotangent, times the root's derivative, over the row's length. -/
def shared (y w : Line) : EReal :=
  Ideal.div ((∑ l, y l * w l) * (Ideal.ofBits .f32 0xBF000000#32 * Ideal.div (Ideal.rsqrt (power y)) (power y))) (Ideal.ofBits .f32 0x44800000#32)

/-- The derivative in the row, at a cotangent of `unit`. -/
def grad (y w : Line) (k : Fin 1024) : EReal :=
  w k * Ideal.rsqrt (power y) + y k * shared y w + shared y w * y k

end Cert.RowNorm

end
-- ==== Proof.Post.Spec.lean ====
/- The gradients of a layer's gated norm: in the branch it normalises, in the gate and in the norm's gain. -/
module

public import proofs.«01_k».proof.Proof.RowNorm

@[expose] public section

noncomputable section

namespace Cert.PostSpec

open Idealize.ShloMosaic Cert.RowNorm
open scoped BigOperators

/-- A matrix of 4096 rows of 1024 entries; a row of 1024; the row of shift, scale and gate. -/
abbrev Rows := Vec Ideal ⟨2, ![4096, 1024]⟩ .f32
abbrev Row := Vec Ideal ⟨2, ![1, 1024]⟩ .f32
abbrev Mods := Vec Ideal ⟨2, ![1, 3072]⟩ .f32

/-- Row `r` of a matrix. -/
abbrev line (y : Rows) (r : Fin 4096) : Line := fun l => y (ix2 r l)

/-- The gate's entry. -/
abbrev gate (mod : Mods) (k : Fin 1024) : EReal := mod (ix2 0 ⟨2048 + k, by omega⟩)

/-- The gradient in the branch. -/
def dyo (d yo : Rows) (g : Row) (mod : Mods) : Vec Ideal ⟨2, ![4096, 1024]⟩ .bf16 := fun j =>
  grad (line yo (j 0)) (fun l => gate mod l * d (ix2 (j 0) l) * g (ix2 0 l)) (j 1)

/-- What one row gives to the gate's gradient: the cotangent times the normalised row. -/
abbrev gateTerm (d yo : Rows) (g : Row) (k : Fin 1024) (r : Fin 4096) : EReal :=
  d (ix2 r k) * (unit (line yo r) k * g (ix2 0 k))

/-- The gradient in the gate. -/
def dgate (d yo : Rows) (g : Row) : Row := fun j => ∑ r, gateTerm d yo g (j 1) r

/-- The gradient in the norm's gain. -/
def dgain (d yo : Rows) (mod : Mods) : Row := fun j =>
  ∑ r, unit (line yo r) (j 1) * (gate mod (j 1) * d (ix2 r (j 1)))

end Cert.PostSpec

end
-- ==== Proof.Post.Kernel.lean ====
/- The kernel's three results are the formulas of `Post/Spec.lean`: the branch's gradient block by block, the two rows
   summed up from point to point. -/
module

public import proofs.«01_k».proof.Proof.Gen.PostIdeal.Value
public import proofs.«01_k».proof.Proof.Post.Spec
public import Idealize.ShloMosaic.Lib.Pipeline.Value
public import Idealize.ShloMosaic.Lib.Pipeline.ValueKit

@[expose] public section

set_option maxRecDepth 16384

noncomputable section

namespace Cert.PostIdeal.Value

open Cert.PostIdeal Cert.PostIdeal.Gen Cert.RowNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![0, 0]
    ∧ win0_3.index t = ![0, 2] ∧ win0_4.index t = ![t.val, 0] ∧ win0_5.index t = ![0, 0] ∧ win0_6.index t = ![0, 0] :=
  (by decide +kernel : ∀ t : Fin grid0.N, _)

variable (d yo : Vec Ideal S512x1024 .f32) (g gt a : Vec Ideal S1x1024 .f32)

/-- What a point stores for the branch. -/
theorem hpay_branch (i : Fin 512) (k : Fin 1024) :
    k0_pay1 (F := Ideal) yo (k0_pay13 yo g gt d) (k0_pay14 yo g gt d) (ix2 i k)
      = grad (fun l => yo (ix2 i l)) (fun l => gt (ix2 0 l) * d (ix2 i l) * g (ix2 0 l)) k := by
  pointwise [k0_pay1, k0_pay13, k0_pay14, k0_pay12, k0_pay9, k0_pay7, k0_pay6, grad, shared, power]
  simp only [Fin.sum_univ_one]

/-- What a point adds to the gate's gradient. -/
theorem hpay_gate (k : Fin 1024) :
    k0_pay4 (F := Ideal) (k0_pay10 yo g d) a (ix2 0 k)
      = a (ix2 0 k) + ∑ i : Fin 512, d (ix2 i k) * (unit (fun l => yo (ix2 i l)) k * g (ix2 0 k)) := by
  pointwise [k0_pay4, k0_pay10, k0_pay8, k0_pay7, k0_pay6, unit, power]

/-- What a point adds to the gain's gradient. -/
theorem hpay_gain (k : Fin 1024) :
    k0_pay5 (F := Ideal) (k0_pay11 yo gt d) a (ix2 0 k)
      = a (ix2 0 k) + ∑ i : Fin 512, unit (fun l => yo (ix2 i l)) k * (gt (ix2 0 k) * d (ix2 i k)) := by
  pointwise [k0_pay5, k0_pay11, k0_pay9, k0_pay8, k0_pay7, k0_pay6, unit, power]

/-- The first point clears both rows. -/
theorem hzero_gate (k : Fin 1024) : k0_pay2 (F := Ideal) (ix2 0 k) = 0 := by pointwise [k0_pay2]

theorem hzero_gain (k : Fin 1024) : k0_pay3 (F := Ideal) (ix2 0 k) = 0 := by pointwise [k0_pay3]

/-! ## The blocks are rows of the arrays -/

abbrev dB (c : Dev nD) (t : Fin cfg0.N) : Vec Ideal S512x1024 .f32 := iblk m c 0 t

abbrev yoB (c : Dev nD) (t : Fin cfg0.N) : Vec Ideal S512x1024 .f32 := iblk m c 1 t

abbrev gB (c : Dev nD) (t : Fin cfg0.N) : Vec Ideal S1x1024 .f32 := iblk m c 2 t

abbrev gateB (c : Dev nD) (t : Fin cfg0.N) : Vec Ideal S1x1024 .f32 := iblk m c 3 t

theorem d_at (c : Dev nD) (t : Fin cfg0.N) (i : Fin 512) (k : Fin 1024) (h : t.val * 512 + i.val < 4096) :
    dB m c t (ix2 i k) = m ((c : Thread nD τ).loc main_arg0) (ix2 ⟨t.val * 512 + i.val, h⟩ k) := by
  blk_point [dB, iblk, V, idx t]

theorem yo_at (c : Dev nD) (t : Fin cfg0.N) (i : Fin 512) (k : Fin 1024) (h : t.val * 512 + i.val < 4096) :
    yoB m c t (ix2 i k) = m ((c : Thread nD τ).loc main_arg1) (ix2 ⟨t.val * 512 + i.val, h⟩ k) := by
  blk_point [yoB, iblk, V, idx t]

theorem yo_row (c : Dev nD) (t : Fin cfg0.N) (i : Fin 512) (h : t.val * 512 + i.val < 4096) :
    (fun l => yoB m c t (ix2 i l)) = PostSpec.line (m ((c : Thread nD τ).loc main_arg1)) ⟨t.val * 512 + i.val, h⟩ :=
  funext fun l => yo_at m c t i l h

theorem g_at (c : Dev nD) (t : Fin cfg0.N) (k : Fin 1024) :
    gB m c t (ix2 0 k) = m ((c : Thread nD τ).loc main_arg2) (ix2 0 k) := by
  blk_point [gB, iblk, V, idx t]

theorem gate_at (c : Dev nD) (t : Fin cfg0.N) (k : Fin 1024) :
    gateB m c t (ix2 0 k) = PostSpec.gate (m ((c : Thread nD τ).loc main_arg3)) k := by
  blk_point [gateB, iblk, V, idx t]

/-! ## The results -/

theorem final4 (c : Dev nD) : (dats m 0 c).arrAt 4 (cfgs 0).N
    = PostSpec.dyo (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 8 := lt_of_lt_of_eq t.isLt N_0
  blk_simp
  rw [after0_4]
  idx_vars y
  have hy : t.val * 512 + y0.val < 4096 := by omega
  have key : (outsAt0 m c t.val t.isLt).1 (ix2 y0 y1) = grad (fun l => yoB m c t (ix2 y0 l))
      (fun l => gateB m c t (ix2 0 l) * dB m c t (ix2 y0 l) * gB m c t (ix2 0 l)) y1 := by
    by_cases h : t.val % 8 = 0
    · rw [outsAt0_A m c t h]; frame_out; exact hpay_branch _ _ _ _ _ _
    · rw [outsAt0_B m c t h]; frame_out; exact hpay_branch _ _ _ _ _ _
  have e : PostSpec.dyo (m ((c : Thread nD τ).loc main_arg0)) (m ((c : Thread nD τ).loc main_arg1)) (m ((c : Thread nD τ).loc main_arg2)) (m ((c : Thread nD τ).loc main_arg3))
      (ix2 ⟨t.val * 512 + y0.val, hy⟩ y1) = grad (fun l => yoB m c t (ix2 y0 l))
      (fun l => gateB m c t (ix2 0 l) * dB m c t (ix2 y0 l) * gB m c t (ix2 0 l)) y1 := by
    rw [yo_row m c t y0 hy]
    simp only [d_at m c t y0 _ hy, g_at, gate_at]
    rfl
  refine key.trans (e.symm.trans ?_)
  refine congrArg _ (funext fun a => Fin.ext ?_)
  fin_cases a
  · blk_simp [idx t]
    rfl
  · blk_simp [idx t]
    rfl

theorem final5 (c : Dev nD) : (dats m 0 c).arrAt 5 (cfgs 0).N
    = PostSpec.dgate (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  idx_vars j
  obtain rfl : j0 = 0 := Subsingleton.elim _ _
  rw [after0_5, Pipeline.eq_sum_fin_of_reset_step_apply_last (fun n h => (outsAt0 m c n h).2.1) 8 (fun _ => 0)
    (fun t j => ∑ i : Fin 512, dB m c t (ix2 i (j 1)) * (unit (fun l => yoB m c t (ix2 i l)) (j 1) * gB m c t (ix2 0 (j 1))))
    (fun t h j => by rw [outsAt0_A m c t h]; frame_out; idx_vars j; obtain rfl : j0 = 0 := Subsingleton.elim _ _; rw [hpay_gate, hzero_gate])
    (fun t h j => by rw [outsAt0_B m c t h]; frame_out; idx_vars j; obtain rfl : j0 = 0 := Subsingleton.elim _ _; rw [hpay_gate])
    (le_of_eq N_0) t0_7 rfl _, zero_add]
  refine Fin.sum_mul_add_congr (S := 8) (n := 512)
    (f := PostSpec.gateTerm (m ((c : Thread nD τ).loc main_arg0)) (m ((c : Thread nD τ).loc main_arg1)) (m ((c : Thread nD τ).loc main_arg2)) j1)
    fun t i hl => ?_
  rw [yo_row m c t i hl]
  exact congrArg₂ (fun a b => a * (_ * b)) (d_at m c t i j1 hl) (g_at m c t j1)

theorem final6 (c : Dev nD) : (dats m 0 c).arrAt 6 (cfgs 0).N
    = PostSpec.dgain (m ((c : Thread nD τ).loc main_arg0)) (m ((c : Thread nD τ).loc main_arg1)) (m ((c : Thread nD τ).loc main_arg3)) := by
  refine (dats m 0 c).arrAt_eq_of_after_last 6 t0_7 (by decide +kernel) _ fun j => ?_
  blk_simp
  idx_vars j
  obtain rfl : j0 = 0 := Subsingleton.elim _ _
  rw [after0_6, Pipeline.eq_sum_fin_of_reset_step_apply_last (fun n h => (outsAt0 m c n h).2.2) 8 (fun _ => 0)
    (fun t j => ∑ i : Fin 512, unit (fun l => yoB m c t (ix2 i l)) (j 1) * (gateB m c t (ix2 0 (j 1)) * dB m c t (ix2 i (j 1))))
    (fun t h j => by rw [outsAt0_A m c t h]; frame_out; idx_vars j; obtain rfl : j0 = 0 := Subsingleton.elim _ _; rw [hpay_gain, hzero_gain])
    (fun t h j => by rw [outsAt0_B m c t h]; frame_out; idx_vars j; obtain rfl : j0 = 0 := Subsingleton.elim _ _; rw [hpay_gain])
    (le_of_eq N_0) t0_7 rfl _, zero_add]
  refine Fin.sum_mul_add_congr (S := 8) (n := 512)
    (f := fun r => unit (PostSpec.line (m ((c : Thread nD τ).loc main_arg1)) r) j1 * (PostSpec.gate (m ((c : Thread nD τ).loc main_arg3)) j1 * m ((c : Thread nD τ).loc main_arg0) (ix2 r j1)))
    fun t i hl => ?_
  rw [yo_row m c t i hl]
  exact congrArg₂ (fun a b => _ * (b * a)) (d_at m c t i j1 hl) (gate_at m c t j1)

end Cert.PostIdeal.Value

end
-- ==== Proof.Post.Reference.lean ====
/- The reference gradients of the gated norm, run: the results are the formulas of `Post/Spec.lean`. -/
module

public import proofs.«01_k».proof.Proof.Gen.PostRefIdeal.Run
public import proofs.«01_k».proof.Proof.Post.Spec

@[expose] public section

set_option maxRecDepth 16384

noncomputable section

namespace Cert.PostRefIdeal.Value

open Cert.PostRefIdeal Cert.PostRefIdeal.Gen Cert.RowNorm
open Idealize.ShloMosaic Idealize.ShloMosaic.TcCoe Idealize.SL.Sem

variable (m : (ℓ : Loc nD τ sig) → Buf (Elt Ideal) ℓ) (ρ : Dev nD → PrngReg)

/-- What the reference leaves in its results, with the arguments as they were. -/
theorem run_spec : θ_run defs (onTc (τ := τ) (main (F := Ideal))) ⟨m, fun _ => 0, ρ⟩ fun r => ∀ c : Dev nD,
      r.2.mem ((c.tc : Thread nD τ).loc main_v44) = PostSpec.dyo (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v24) = PostSpec.dgate (m ((c.tc : Thread nD τ).loc main_arg0)) (m ((c.tc : Thread nD τ).loc main_arg1)) (m ((c.tc : Thread nD τ).loc main_arg2))
      ∧ r.2.mem ((c.tc : Thread nD τ).loc main_v27) = PostSpec.dgain (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2⟩) (run m ρ)
  · funext j
    idx_vars j
    pointwise [res_main_v44, PostSpec.dyo, grad, shared, power]
    simp only [Fin.sum_univ_one]
  · funext j
    idx_vars j
    pointwise [PostSpec.dgate, PostSpec.gateTerm, unit, power]
  · funext j
    idx_vars j
    pointwise [PostSpec.dgain, unit, power]

end Cert.PostRefIdeal.Value

end
-- ==== Proof.Post.Claims.lean ====
/- The claims about the gated norm's backward call: its frames, and its three results against the reference's. -/
module

public import proofs.«01_k».proof.Defs
public import proofs.«01_k».proof.Proof.Gen.Post.Frame
public import proofs.«01_k».proof.Proof.Post.Kernel
public import proofs.«01_k».proof.Proof.Post.Reference
public import Idealize.ShloMosaic.Lib.Claim

@[expose] public section

set_option maxRecDepth 16384

noncomputable section

namespace Cert.PostClaims

open Idealize.ShloMosaic Idealize.SL.Sem

theorem frame_bits : Cert.quiescent_Post := fun m ρ _ => Cert.Post.Gen.frame m ρ

theorem frame_ideal : Cert.quiescent_PostIdeal := fun m ρ _ => Cert.PostIdeal.Gen.frame m ρ

theorem frame_ref : Cert.quiescent_PostRefIdeal := fun m ρ _ =>
  (θ_run Cert.PostRefIdeal.defs _ _).mono (fun _ h => ⟨fun c => (h c).2.2.2, sem_eq_zero_of_no_sems rfl _⟩)
    (Cert.PostRefIdeal.Value.run_spec m ρ)

theorem value : Cert.algebraic_PostIdeal_PostRefIdeal := by
  pair_intro
  · run_from Cert.PostIdeal.Gen.run_main m g
  · run_from Cert.PostRefIdeal.Value.run_spec m' g'
    · exact (Cert.PostIdeal.Value.final4 m c).symm
    · exact (Cert.PostIdeal.Value.final5 m c).symm
    · exact (Cert.PostIdeal.Value.final6 m c).symm

end Cert.PostClaims

end
-- ==== Proof.Pre.Spec.lean ====
/- The gradients of the norm before a layer's first product: in the residual stream, in shift and scale, and in the gain. -/
module

public import proofs.«01_k».proof.Proof.RowNorm

@[expose] public section

noncomputable section

namespace Cert.PreSpec

open Idealize.ShloMosaic Cert.RowNorm
open scoped BigOperators

/-- The stream's rows; the product's cotangent and its weight; a row of 1024; the row of shift, scale and gate. -/
abbrev Stream := Vec Ideal ⟨2, ![4096, 1024]⟩ .f32
abbrev Cot := Vec Ideal ⟨2, ![4096, 3072]⟩ .bf16
abbrev Weight := Vec Ideal ⟨2, ![1024, 3072]⟩ .bf16
abbrev Gain := Vec Ideal ⟨2, ![1, 1024]⟩ .f32
abbrev Mods := Vec Ideal ⟨2, ![1, 3072]⟩ .f32

/-- The cotangent of the product's left factor: row `r` of `dz` against row `l` of the weight. -/
abbrev dh (dz : Cot) (w : Weight) (r : Fin 4096) : Line := fun l => ∑ q : Fin 3072, dz (ix2 r q) * w (ix2 l q)

/-- Row `r` of the stream. -/
abbrev row (x : Stream) (r : Fin 4096) : Line := fun l => x (ix2 r l)

/-- One plus the scale's entry. -/
abbrev scale (mod : Mods) (k : Fin 1024) : EReal := 1 + mod (ix2 0 ⟨1024 + k, by omega⟩)

/-- The gradient in the stream: the one that passes the layer by, and the norm's. -/
def dx (dz : Cot) (w : Weight) (dxo x : Stream) (g : Gain) (mod : Mods) : Stream := fun j =>
  dxo (ix2 (j 0) (j 1)) + grad (row x (j 0)) (fun l => dh dz w (j 0) l * scale mod l * g (ix2 0 l)) (j 1)

/-- What one row gives to the gradients in shift, scale and gain. -/
abbrev scaleTerm (dz : Cot) (w : Weight) (x : Stream) (g : Gain) (k : Fin 1024) (r : Fin 4096) : EReal :=
  unit (row x r) k * g (ix2 0 k) * dh dz w r k

abbrev gainTerm (dz : Cot) (w : Weight) (x : Stream) (mod : Mods) (k : Fin 1024) (r : Fin 4096) : EReal :=
  unit (row x r) k * (dh dz w r k * scale mod k)

def dshift (dz : Cot) (w : Weight) : Gain := fun j => ∑ r, dh dz w r (j 1)

def dscale (dz : Cot) (w : Weight) (x : Stream) (g : Gain) : Gain := fun j => ∑ r, scaleTerm dz w x g (j 1) r

def dgain (dz : Cot) (w : Weight) (x : Stream) (mod : Mods) : Gain := fun j => ∑ r, gainTerm dz w x mod (j 1) r

end Cert.PreSpec

end
-- ==== Proof.Pre.Kernel.lean ====
/- The kernel's four results are the formulas of `Pre/Spec.lean`: the stream's gradient block by block, the three rows
   summed up from point to point. -/
module

public import proofs.«01_k».proof.Proof.Gen.PreIdeal.Value
public import proofs.«01_k».proof.Proof.Pre.Spec
public import Idealize.ShloMosaic.Lib.Pipeline.Value
public import Idealize.ShloMosaic.Lib.Pipeline.ValueKit

@[expose] public section

set_option maxRecDepth 16384

noncomputable section

namespace Cert.PreIdeal.Value

open Cert.PreIdeal Cert.PreIdeal.Gen Cert.RowNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_6.index t = ![0, 1] ∧ win0_7.index t = ![t.val, 0]
    ∧ win0_8.index t = ![0, 0] ∧ win0_9.index t = ![0, 0] ∧ win0_10.index t = ![0, 0] :=
  (by decide +kernel : ∀ t : Fin grid0.N, _)

/-! ## What a point computes from its blocks -/

section Payloads

variable (z : Vec Ideal S512x3072 .bf16) (w : Vec Ideal S1024x3072 .bf16) (p x : Vec Ideal S512x1024 .f32) (g s a : Vec Ideal S1x1024 .f32)

/-- A row of the block's product, and one plus the scale's entry. -/
abbrev dhB (i : Fin 512) (l : Fin 1024) : EReal := ∑ q : Fin 3072, z (ix2 i q) * w (ix2 l q)

abbrev scB (k : Fin 1024) : EReal := 1 + s (ix2 0 k)

abbrev dxB (i : Fin 512) (k : Fin 1024) : EReal :=
  p (ix2 i k) + grad (fun l => x (ix2 i l)) (fun l => dhB z w i l * scB s l * g (ix2 0 l)) k

theorem hpay_dx (i : Fin 512) (k : Fin 1024) :
    k0_pay1 (F := Ideal) x (k0_pay9 x) (k0_pay10 x) (k0_pay15 s z w) (k0_pay17 g) p (ix2 i k) = dxB z w p x g s i k := by
  pointwise [k0_pay1, k0_pay9, k0_pay10, k0_pay15, k0_pay17, k0_pay8, k0_pay12, dxB, dhB, scB, grad, shared, power]
  simp only [Fin.sum_univ_one]

theorem hpay_shift (k : Fin 1024) :
    k0_pay2 (F := Ideal) (k0_pay13 z w) a (ix2 0 k) = a (ix2 0 k) + ∑ i : Fin 512, dhB z w i k := by
  pointwise [k0_pay2, k0_pay13, k0_pay12, dhB]

theorem hpay_scale (k : Fin 1024) :
    k0_pay3 (F := Ideal) (k0_pay14 x g z w) a (ix2 0 k)
      = a (ix2 0 k) + ∑ i : Fin 512, unit (fun l => x (ix2 i l)) k * g (ix2 0 k) * dhB z w i k := by
  pointwise [k0_pay3, k0_pay14, k0_pay11, k0_pay9, k0_pay8, k0_pay12, dhB, scB, unit, power]

theorem hpay_gain (k : Fin 1024) :
    k0_pay4 (F := Ideal) (k0_pay16 x s z w) a (ix2 0 k)
      = a (ix2 0 k) + ∑ i : Fin 512, unit (fun l => x (ix2 i l)) k * (dhB z w i k * scB s k) := by
  pointwise [k0_pay4, k0_pay16, k0_pay15, k0_pay11, k0_pay9, k0_pay8, k0_pay12, dhB, scB, unit, power]

end Payloads

/-- The first point clears the three rows. -/
theorem hzero_shift (k : Fin 1024) : k0_pay5 (F := Ideal) (ix2 0 k) = 0 := by pointwise [k0_pay5]

theorem hzero_scale (k : Fin 1024) : k0_pay6 (F := Ideal) (ix2 0 k) = 0 := by pointwise [k0_pay6]

theorem hzero_gain (k : Fin 1024) : k0_pay7 (F := Ideal) (ix2 0 k) = 0 := by pointwise [k0_pay7]

/-! ## The blocks are rows of the arrays -/

abbrev zB (c : Dev nD) (t : Fin cfg0.N) : Vec Ideal S512x3072 .bf16 := iblk m c 0 t

abbrev wB (c : Dev nD) (t : Fin cfg0.N) : Vec Ideal S1024x3072 .bf16 := iblk m c 1 t

abbrev passB (c : Dev nD) (t : Fin cfg0.N) : Vec Ideal S512x1024 .f32 := iblk m c 2 t

abbrev xB (c : Dev nD) (t : Fin cfg0.N) : Vec Ideal S512x1024 .f32 := iblk m c 3 t

abbrev gB (c : Dev nD) (t : Fin cfg0.N) : Vec Ideal S1x1024 .f32 := iblk m c 4 t

abbrev sB (c : Dev nD) (t : Fin cfg0.N) : Vec Ideal S1x1024 .f32 := iblk m c 6 t

theorem z_at (c : Dev nD) (t : Fin cfg0.N) (i : Fin 512) (q : Fin 3072) (h : t.val * 512 + i.val < 4096) :
    zB m c t (ix2 i q) = m ((c : Thread nD τ).loc main_arg0) (ix2 ⟨t.val * 512 + i.val, h⟩ q) := by
  blk_point [zB, iblk, V, idx t]

theorem w_at (c : Dev nD) (t : Fin cfg0.N) (l : Fin 1024) (q : Fin 3072) :
    wB m c t (ix2 l q) = m ((c : Thread nD τ).loc main_arg1) (ix2 l q) := by
  blk_point [wB, iblk, V, idx t]

theorem pass_at (c : Dev nD) (t : Fin cfg0.N) (i : Fin 512) (k : Fin 1024) (h : t.val * 512 + i.val < 4096) :
    passB m c t (ix2 i k) = m ((c : Thread nD τ).loc main_arg2) (ix2 ⟨t.val * 512 + i.val, h⟩ k) := by
  blk_point [passB, iblk, V, idx t]

theorem x_at (c : Dev nD) (t : Fin cfg0.N) (i : Fin 512) (k : Fin 1024) (h : t.val * 512 + i.val < 4096) :
    xB m c t (ix2 i k) = m ((c : Thread nD τ).loc main_arg3) (ix2 ⟨t.val * 512 + i.val, h⟩ k) := by
  blk_point [xB, iblk, V, idx t]

theorem g_at (c : Dev nD) (t : Fin cfg0.N) (k : Fin 1024) :
    gB m c t (ix2 0 k) = m ((c : Thread nD τ).loc main_arg4) (ix2 0 k) := by
  blk_point [gB, iblk, V, idx t]

theorem scale_at (c : Dev nD) (t : Fin cfg0.N) (k : Fin 1024) :
    scB (sB m c t) k = PreSpec.scale (m ((c : Thread nD τ).loc main_arg5)) k := by
  refine congrArg (fun a : EReal => 1 + a) ?_
  blk_point [sB, iblk, V, idx t]

theorem x_row (c : Dev nD) (t : Fin cfg0.N) (i : Fin 512) (h : t.val * 512 + i.val < 4096) :
    (fun l => xB m c t (ix2 i l)) = PreSpec.row (m ((c : Thread nD τ).loc main_arg3)) ⟨t.val * 512 + i.val, h⟩ :=
  funext fun l => x_at m c t i l h

theorem dh_at (c : Dev nD) (t : Fin cfg0.N) (i : Fin 512) (l : Fin 1024) (h : t.val * 512 + i.val < 4096) :
    dhB (zB m c t) (wB m c t) i l = PreSpec.dh (m ((c : Thread nD τ).loc main_arg0)) (m ((c : Thread nD τ).loc main_arg1)) ⟨t.val * 512 + i.val, h⟩ l :=
  Finset.sum_congr rfl fun q _ => congrArg₂ (fun a b : EReal => a * b) (z_at m c t i q h) (w_at m c t l q)

/-! ## The results -/

theorem final7 (c : Dev nD) : (dats m 0 c).arrAt 7 (cfgs 0).N
    = PreSpec.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  have ht : t.val < 8 := lt_of_lt_of_eq t.isLt N_0
  blk_simp
  rw [after0_7]
  idx_vars y
  have hy : t.val * 512 + y0.val < 4096 := by omega
  have key : (outsAt0 m c t.val t.isLt).1 (ix2 y0 y1)
      = dxB (zB m c t) (wB m c t) (passB m c t) (xB m c t) (gB m c t) (sB m c t) y0 y1 := by
    by_cases h : t.val % 8 = 0
    · rw [outsAt0_A m c t h]; frame_out; exact hpay_dx _ _ _ _ _ _ _ _
    · rw [outsAt0_B m c t h]; frame_out; exact hpay_dx _ _ _ _ _ _ _ _
  have e : PreSpec.dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (ix2 ⟨t.val * 512 + y0.val, hy⟩ y1)
        = dxB (zB m c t) (wB m c t) (passB m c t) (xB m c t) (gB m c t) (sB m c t) y0 y1 := by
    exact congrArg₂ (fun a b : EReal => a + b) (pass_at m c t y0 y1 hy).symm
      (congrArg₂ (fun a b => grad a b y1) (x_row m c t y0 hy).symm (funext fun l =>
        congrArg₂ (fun a b : EReal => a * b)
          (congrArg₂ (fun a b : EReal => a * b) (dh_at m c t y0 l hy).symm (scale_at m c t l).symm) (g_at m c t l).symm))
  refine key.trans (e.symm.trans ?_)
  refine congrArg _ (funext fun a => Fin.ext ?_)
  fin_cases a
  · blk_simp [idx t]
    rfl
  · blk_simp [idx t]
    rfl

theorem final8 (c : Dev nD) : (dats m 0 c).arrAt 8 (cfgs 0).N
    = PreSpec.dshift (m ((c : Thread nD τ).loc main_arg0)) (m ((c : Thread nD τ).loc main_arg1)) := by
  refine (dats m 0 c).arrAt_eq_of_after_last 8 t0_7 (by decide +kernel) _ fun j => ?_
  blk_simp
  idx_vars j
  obtain rfl : j0 = 0 := Subsingleton.elim _ _
  rw [after0_8, Pipeline.eq_sum_fin_of_reset_step_apply_last (fun n h => (outsAt0 m c n h).2.1) 8 (fun _ => 0)
    (fun t j => ∑ i : Fin 512, dhB (zB m c t) (wB m c t) i (j 1))
    (fun t h j => by rw [outsAt0_A m c t h]; frame_out; idx_vars j; obtain rfl : j0 = 0 := Subsingleton.elim _ _; rw [hpay_shift, hzero_shift])
    (fun t h j => by rw [outsAt0_B m c t h]; frame_out; idx_vars j; obtain rfl : j0 = 0 := Subsingleton.elim _ _; rw [hpay_shift])
    (le_of_eq N_0) t0_7 rfl _, zero_add]
  refine Fin.sum_mul_add_congr (S := 8) (n := 512)
    (f := fun r => PreSpec.dh (m ((c : Thread nD τ).loc main_arg0)) (m ((c : Thread nD τ).loc main_arg1)) r j1)
    fun t i hl => ?_
  exact dh_at m c t i j1 hl

theorem final9 (c : Dev nD) : (dats m 0 c).arrAt 9 (cfgs 0).N
    = PreSpec.dscale (m ((c : Thread nD τ).loc main_arg0)) (m ((c : Thread nD τ).loc main_arg1)) (m ((c : Thread nD τ).loc main_arg3)) (m ((c : Thread nD τ).loc main_arg4)) := by
  refine (dats m 0 c).arrAt_eq_of_after_last 9 t0_7 (by decide +kernel) _ fun j => ?_
  blk_simp
  idx_vars j
  obtain rfl : j0 = 0 := Subsingleton.elim _ _
  rw [after0_9, Pipeline.eq_sum_fin_of_reset_step_apply_last (fun n h => (outsAt0 m c n h).2.2.1) 8 (fun _ => 0)
    (fun t j => ∑ i : Fin 512, unit (fun l => xB m c t (ix2 i l)) (j 1) * gB m c t (ix2 0 (j 1)) * dhB (zB m c t) (wB m c t) i (j 1))
    (fun t h j => by rw [outsAt0_A m c t h]; frame_out; idx_vars j; obtain rfl : j0 = 0 := Subsingleton.elim _ _; rw [hpay_scale, hzero_scale])
    (fun t h j => by rw [outsAt0_B m c t h]; frame_out; idx_vars j; obtain rfl : j0 = 0 := Subsingleton.elim _ _; rw [hpay_scale])
    (le_of_eq N_0) t0_7 rfl _, zero_add]
  refine Fin.sum_mul_add_congr (S := 8) (n := 512)
    (f := PreSpec.scaleTerm (m ((c : Thread nD τ).loc main_arg0)) (m ((c : Thread nD τ).loc main_arg1)) (m ((c : Thread nD τ).loc main_arg3)) (m ((c : Thread nD τ).loc main_arg4)) j1)
    fun t i hl => ?_
  rw [x_row m c t i hl]
  exact congrArg₂ (fun a b : EReal => _ * a * b) (g_at m c t j1) (dh_at m c t i j1 hl)

theorem final10 (c : Dev nD) : (dats m 0 c).arrAt 10 (cfgs 0).N
    = PreSpec.dgain (m ((c : Thread nD τ).loc main_arg0)) (m ((c : Thread nD τ).loc main_arg1)) (m ((c : Thread nD τ).loc main_arg3)) (m ((c : Thread nD τ).loc main_arg5)) := by
  refine (dats m 0 c).arrAt_eq_of_after_last 10 t0_7 (by decide +kernel) _ fun j => ?_
  blk_simp
  idx_vars j
  obtain rfl : j0 = 0 := Subsingleton.elim _ _
  rw [after0_10, Pipeline.eq_sum_fin_of_reset_step_apply_last (fun n h => (outsAt0 m c n h).2.2.2) 8 (fun _ => 0)
    (fun t j => ∑ i : Fin 512, unit (fun l => xB m c t (ix2 i l)) (j 1) * (dhB (zB m c t) (wB m c t) i (j 1) * scB (sB m c t) (j 1)))
    (fun t h j => by rw [outsAt0_A m c t h]; frame_out; idx_vars j; obtain rfl : j0 = 0 := Subsingleton.elim _ _; rw [hpay_gain, hzero_gain])
    (fun t h j => by rw [outsAt0_B m c t h]; frame_out; idx_vars j; obtain rfl : j0 = 0 := Subsingleton.elim _ _; rw [hpay_gain])
    (le_of_eq N_0) t0_7 rfl _, zero_add]
  refine Fin.sum_mul_add_congr (S := 8) (n := 512)
    (f := PreSpec.gainTerm (m ((c : Thread nD τ).loc main_arg0)) (m ((c : Thread nD τ).loc main_arg1)) (m ((c : Thread nD τ).loc main_arg3)) (m ((c : Thread nD τ).loc main_arg5)) j1)
    fun t i hl => ?_
  rw [x_row m c t i hl]
  exact congrArg₂ (fun a b : EReal => _ * (a * b)) (dh_at m c t i j1 hl) (scale_at m c t j1)

end Cert.PreIdeal.Value

end
-- ==== Proof.Pre.Reference.lean ====
/- The reference gradients of the norm before a layer's product, run: the results are the formulas of `Pre/Spec.lean`. -/
module

public import proofs.«01_k».proof.Proof.Gen.PreRefIdeal.Run
public import proofs.«01_k».proof.Proof.Pre.Spec

@[expose] public section

set_option maxRecDepth 16384

noncomputable section

namespace Cert.PreRefIdeal.Value

open Cert.PreRefIdeal Cert.PreRefIdeal.Gen Cert.RowNorm
open Idealize.ShloMosaic Idealize.ShloMosaic.TcCoe Idealize.SL.Sem

variable (m : (ℓ : Loc nD τ sig) → Buf (Elt Ideal) ℓ) (ρ : Dev nD → PrngReg)

/-- What the reference leaves in its results, with the arguments as they were. -/
theorem run_spec : θ_run defs (onTc (τ := τ) (main (F := Ideal))) ⟨m, fun _ => 0, ρ⟩ fun r => ∀ c : Dev nD,
      r.2.mem ((c.tc : Thread nD τ).loc main_v54) = PreSpec.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v29) = PreSpec.dshift (m ((c.tc : Thread nD τ).loc main_arg0)) (m ((c.tc : Thread nD τ).loc main_arg1))
      ∧ r.2.mem ((c.tc : Thread nD τ).loc main_v32) = PreSpec.dscale (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v37) = PreSpec.dgain (m ((c.tc : Thread nD τ).loc main_arg0)) (m ((c.tc : Thread nD τ).loc main_arg1)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2⟩) (run m ρ)
  · funext j
    idx_vars j
    pointwise [res_main_v54, PreSpec.dx, PreSpec.dh, PreSpec.scale, PreSpec.row, grad, shared, power]
    simp only [Fin.sum_univ_one, add_assoc]
  · funext j
    idx_vars j
    pointwise [PreSpec.dshift, PreSpec.dh]
  · funext j
    idx_vars j
    pointwise [PreSpec.dscale, PreSpec.scaleTerm, PreSpec.dh, PreSpec.row, unit, power]
  · funext j
    idx_vars j
    pointwise [PreSpec.dgain, PreSpec.gainTerm, PreSpec.dh, PreSpec.scale, PreSpec.row, unit, power]

end Cert.PreRefIdeal.Value

end
-- ==== Proof.Pre.Claims.lean ====
/- The claims about the backward call of the norm before a layer's product: its frames, and its four results against the reference's. -/
module

public import proofs.«01_k».proof.Defs
public import proofs.«01_k».proof.Proof.Gen.Pre.Frame
public import proofs.«01_k».proof.Proof.Pre.Kernel
public import proofs.«01_k».proof.Proof.Pre.Reference
public import Idealize.ShloMosaic.Lib.Claim

@[expose] public section

set_option maxRecDepth 16384

noncomputable section

namespace Cert.PreClaims

open Idealize.ShloMosaic Idealize.SL.Sem

theorem frame_bits : Cert.quiescent_Pre := fun m ρ _ => Cert.Pre.Gen.frame m ρ

theorem frame_ideal : Cert.quiescent_PreIdeal := fun m ρ _ => Cert.PreIdeal.Gen.frame m ρ

theorem frame_ref : Cert.quiescent_PreRefIdeal := fun m ρ _ =>
  (θ_run Cert.PreRefIdeal.defs _ _).mono (fun _ h => ⟨fun c => (h c).2.2.2.2, sem_eq_zero_of_no_sems rfl _⟩)
    (Cert.PreRefIdeal.Value.run_spec m ρ)

theorem value : Cert.algebraic_PreIdeal_PreRefIdeal := by
  pair_intro
  · run_from Cert.PreIdeal.Gen.run_main m g
  · run_from Cert.PreRefIdeal.Value.run_spec m' g'
    · exact (Cert.PreIdeal.Value.final7 m c).symm
    · exact (Cert.PreIdeal.Value.final8 m c).symm
    · exact (Cert.PreIdeal.Value.final9 m c).symm
    · exact (Cert.PreIdeal.Value.final10 m c).symm

end Cert.PreClaims

end
-- ==== Proof.ActNorm.lean ====
/- A row's layer norm with gain and bias under an activation, and its derivatives, over the extended reals. -/
module

public import proofs.«01_k».proof.Proof.Silu

@[expose] public section

noncomputable section

namespace Cert.ActNorm

open Idealize.ShloMosaic Cert.Silu
open scoped BigOperators

/-- One row. -/
abbrev Line := Fin 1024 → EReal

/-- What a row keeps when its mean is taken off. -/
def dev (x : Line) (k : Fin 1024) : EReal := x k - Ideal.div (∑ l, x l) (Ideal.ofBits .f32 0x44800000#32)

/-- The row's variance, with the constant that keeps it from zero. -/
def var (x : Line) : EReal := Ideal.div (∑ l, dev x l * dev x l) (Ideal.ofBits .f32 0x44800000#32) + Ideal.ofBits .f32 0x358637BD#32

/-- The normed row, and the same with gain and bias. -/
def hat (x : Line) (k : Fin 1024) : EReal := dev x k * Ideal.rsqrt (var x)
def pre (x g b : Line) (k : Fin 1024) : EReal := hat x k * g k + b k

/-- A cotangent through `x` times the logistic of `x`, in the two terms of the product rule. -/
def through (q x : EReal) : EReal := q * logistic x + x * q * (logistic x * (1 - logistic x))

/-- The norm's derivative in the row at a cotangent `d` of its result before the gain: directly, through the variance, and through the mean. -/
def direct (x d : Line) (k : Fin 1024) : EReal := d k * Ideal.rsqrt (var x)

def spread (x d : Line) (k : Fin 1024) : EReal :=
  Ideal.div ((∑ l, dev x l * d l) * (Ideal.ofBits .f32 0xBF000000#32 * Ideal.div (Ideal.rsqrt (var x)) (var x))) (Ideal.ofBits .f32 0x44800000#32)
    * (Ideal.ofBits .f32 0x40000000#32 * dev x k)

def grad (x d : Line) (k : Fin 1024) : EReal :=
  direct x d k + spread x d k + Ideal.div ((∑ l, -direct x d l) + ∑ l, -spread x d l) (Ideal.ofBits .f32 0x44800000#32)

/-- The logistic's slope, written with the reciprocal of a square. -/
theorem slope (x : EReal) : Ideal.div 1 ((1 + Ideal.exp (-x)) * (1 + Ideal.exp (-x))) * Ideal.exp (-x) = logistic x * (1 - logistic x) := by
  induction x with
  | bot =>
    have h : (1 : EReal) + ⊤ = ⊤ := EReal.coe_add_top 1
    simp [Silu.logistic, Ideal.div, h]
  | top =>
    have h : (1 : EReal) - 1 = 0 := EReal.sub_self (EReal.coe_ne_top 1) (EReal.coe_ne_bot 1)
    simp [Silu.logistic, Ideal.div, h]
  | coe r =>
    have h : (1 + Real.exp (-r)) ≠ 0 := by positivity
    rw [Silu.logistic_coe, ← EReal.coe_neg, Ideal.exp_coe, ← EReal.coe_one, ← EReal.coe_add, ← EReal.coe_mul, Ideal.div_coe (mul_ne_zero h h)]
    simp only [← EReal.coe_mul, ← EReal.coe_sub]
    congr 1
    field_simp
    ring

/-- The product rule as a kernel writes it, through that reciprocal. -/
theorem through_eq (q x : EReal) : q * Ideal.div 1 (1 + Ideal.exp (-x))
      + -(-(x * q * Ideal.div 1 ((1 + Ideal.exp (-x)) * (1 + Ideal.exp (-x)))) * Ideal.exp (-x)) = through q x := by
  rw [neg_mul, neg_neg, mul_assoc (x * q), slope]
  rfl

end Cert.ActNorm

end
-- ==== Proof.Odd.Spec.lean ====
/- The gradients of the long convolution's layer: a gated input, the convolution, a layer norm under an activation, and an output gate. -/
module

public import proofs.«01_k».proof.Proof.ActNorm
public import proofs.«01_k».proof.Proof.Taps

@[expose] public section

noncomputable section

namespace Cert.OddSpec

open Idealize.ShloMosaic Cert.Taps Cert.Silu Cert.ActNorm
open scoped BigOperators

abbrev Mat (n k : Nat) := Vec Ideal ⟨2, ![n, k]⟩ .f32

/-- A matrix's row, and a one-row matrix's. -/
abbrev row {n : Nat} (x : Mat n 1024) (i : Fin n) : Line := fun k => x (ix2 i k)

/-- The three column blocks of `z`. -/
abbrev val (z : Mat 4096 3072) (i : Fin 4096) (k : Fin 1024) : EReal := z (ix2 i ⟨k, by omega⟩)
abbrev glu (z : Mat 4096 3072) (i : Fin 4096) (k : Fin 1024) : EReal := z (ix2 i ⟨1024 + k, by omega⟩)
abbrev gate (z : Mat 4096 3072) (i : Fin 4096) (k : Fin 1024) : EReal := z (ix2 i ⟨2048 + k, by omega⟩)

/-- The convolution's input, and the convolution. -/
def u (z : Mat 4096 3072) (i : Fin 4096) (k : Fin 1024) : EReal := val z i k * logistic (glu z i k)

def conv (z : Mat 4096 3072) (w : Mat 31 1024) (b : Mat 1 1024) (i : Fin 4096) : Line := fun k =>
  (∑ j : Fin 31, w (ix2 j k) * back (fun s => u z s k) (30 - j.val) i) + b (ix2 0 k)

/-- The cotangent of the normed row with gain and bias, at the convolution's rows `x`. -/
def dnorm (dy x : Fin 4096 → Line) (z : Mat 4096 3072) (g b : Mat 1 1024) (i : Fin 4096) : Line := fun k =>
  through (dy i k * silu (gate z i k)) (pre (x i) (row g 0) (row b 0) k)

/-- The convolution's cotangent. -/
def dconv (dy x : Fin 4096 → Line) (z : Mat 4096 3072) (g b : Mat 1 1024) (i : Fin 4096) : Line :=
  grad (x i) fun k => dnorm dy x z g b i k * g (ix2 0 k)

/-- The cotangent of the convolution's input: every tap times the row that reads through it. -/
def du (dc : Fin 4096 → Line) (w : Mat 31 1024) (i : Fin 4096) (k : Fin 1024) : EReal :=
  ∑ j : Fin 31, w (ix2 j k) * ahead (fun t => dc t k) (30 - j.val) i

/-- The cotangent of `z`, one column block after the other. -/
def dval (dc : Fin 4096 → Line) (z : Mat 4096 3072) (w : Mat 31 1024) (i : Fin 4096) (k : Fin 1024) : EReal :=
  du dc w i k * logistic (glu z i k)

def dglu (dc : Fin 4096 → Line) (z : Mat 4096 3072) (w : Mat 31 1024) (i : Fin 4096) (k : Fin 1024) : EReal :=
  val z i k * du dc w i k * (logistic (glu z i k) * (1 - logistic (glu z i k)))

def dgate (dy x : Fin 4096 → Line) (z : Mat 4096 3072) (g b : Mat 1 1024) (i : Fin 4096) (k : Fin 1024) : EReal :=
  through (silu (pre (x i) (row g 0) (row b 0) k) * dy i k) (gate z i k)

def dzAt (dy x dc : Fin 4096 → Line) (z : Mat 4096 3072) (w : Mat 31 1024) (g b : Mat 1 1024) (i : Fin 4096) (j : Fin 3072) : EReal :=
  if h : j.val < 1024 then dval dc z w i ⟨j, h⟩
  else if h : j.val < 2048 then dglu dc z w i ⟨j.val - 1024, by omega⟩
  else dgate dy x z g b i ⟨j.val - 2048, by omega⟩

section Results

variable (dy : Mat 4096 1024) (z : Mat 4096 3072) (w : Mat 31 1024) (cb g b : Mat 1 1024)

/-- The convolution's rows and its cotangent's, of the arguments. -/
abbrev convs : Fin 4096 → Line := conv z w cb
abbrev dconvs : Fin 4096 → Line := dconv (row dy) (convs z w cb) z g b

/-- The results: the cotangents of `z`, the taps, the convolution's bias, the gain and the norm's bias. -/
def dz : Vec Ideal ⟨2, ![4096, 3072]⟩ .bf16 := fun j =>
  dzAt (row dy) (convs z w cb) (dconvs dy z w cb g b) z w g b (j 0) (j 1)

abbrev dwTerm (j : Fin 31) (k : Fin 1024) (r : Fin 4096) : EReal :=
  ahead (fun t => dconvs dy z w cb g b t k) (30 - j.val) r * u z r k

def dw : Mat 31 1024 := fun j => ∑ r, dwTerm dy z w cb g b (j 0) (j 1) r

def dcb : Mat 1 1024 := fun j => ∑ r, dconvs dy z w cb g b r (j 1)

abbrev dgTerm (k : Fin 1024) (r : Fin 4096) : EReal :=
  hat (convs z w cb r) k * dnorm (row dy) (convs z w cb) z g b r k

def dg : Mat 1 1024 := fun j => ∑ r, dgTerm dy z w cb g b (j 1) r

def db : Mat 1 1024 := fun j => ∑ r, dnorm (row dy) (convs z w cb) z g b r (j 1)

end Results

end Cert.OddSpec

end
-- ==== Proof.Odd.Rows.lean ====
/- The norm and its gradient in a block's rows and in the rows of the next block that the last taps reach. -/
module

public import proofs.«01_k».proof.Proof.Gen.OddIdeal.Frame
public import Idealize.ShloMosaic.Lib.Pipeline.Value
public import Idealize.ShloMosaic.Lib.Pipeline.ValueKit
public import proofs.«01_k».proof.Proof.Odd.Spec

@[expose] public section

set_option maxRecDepth 16384

noncomputable section

namespace Cert.OddIdeal.Value

open Cert.OddIdeal Cert.OddIdeal.Gen Cert.ActNorm
open Idealize.ShloMosaic Idealize.ShloMosaic.TcCoe Idealize.SL.Sem
open scoped BigOperators

/-! ## The block's rows -/

section Main

variable (x dy sg : Vec Ideal S256x1024 .f32) (g b : Vec Ideal S1x1024 .f32) (r : Fin 256) (k : Fin 1024)

/-- The cotangent of the normed row with gain and bias. -/
def dnormB {n : Nat} (x dy sg : OddSpec.Mat n 1024) (g b : OddSpec.Mat 1 1024) (r : Fin n) (k : Fin 1024) : EReal :=
  through (dy (ix2 r k) * Silu.silu (sg (ix2 r k))) (pre (OddSpec.row x r) (OddSpec.row g 0) (OddSpec.row b 0) k)

theorem dev8 : k0_pay8 (F := Ideal) x (ix2 r k) = dev (OddSpec.row x r) k := by
  pointwise [k0_pay8, k0_pay5, k0_pay4, dev]

theorem dev6 : k0_pay6 (F := Ideal) x (ix2 r k) = dev (OddSpec.row x r) k := dev8 x r k

theorem dev7 : k0_pay7 (F := Ideal) x (ix2 r k) = Ideal.ofBits .f32 0x40000000#32 * dev (OddSpec.row x r) k := by
  pointwise [k0_pay7, dev6]

theorem var9 : k0_pay9 (F := Ideal) x (ix2 r 0) = var (OddSpec.row x r) := by
  pointwise [k0_pay9, dev6, var]

theorem root10 : k0_pay10 (F := Ideal) x (ix2 r 0) = Ideal.rsqrt (var (OddSpec.row x r)) := by
  pointwise [k0_pay10, var9]

theorem root11 : k0_pay11 (F := Ideal) x (ix2 r 0)
    = Ideal.ofBits .f32 0xBF000000#32 * Ideal.div (Ideal.rsqrt (var (OddSpec.row x r))) (var (OddSpec.row x r)) := by
  pointwise [k0_pay11, root10, var9]

theorem hat13 : k0_pay13 (F := Ideal) (k0_pay8 x) (k0_pay12 x) (ix2 r k) = hat (OddSpec.row x r) k := by
  pointwise [k0_pay13, k0_pay12, root10, dev8, hat]

theorem pre14 : k0_pay14 (F := Ideal) g b (k0_pay8 x) (k0_pay12 x) (ix2 r k) = pre (OddSpec.row x r) (OddSpec.row g 0) (OddSpec.row b 0) k := by
  pointwise [k0_pay14, hat13, pre]

theorem dnorm25 : k0_pay25 (F := Ideal) (k0_pay15 g b (k0_pay8 x) (k0_pay12 x)) (k0_pay23 sg g b (k0_pay8 x) (k0_pay12 x) dy) (k0_pay24 sg g b (k0_pay8 x) (k0_pay12 x) dy) (ix2 r k)
    = dnormB x dy sg g b r k := by
  pointwise [k0_pay25, k0_pay15, k0_pay23, k0_pay24, k0_pay21, k0_pay17, k0_pay16, k0_pay20, k0_pay19, k0_pay18, pre14, dnormB, Silu.silu, Silu.logistic]
  simp only [zero_sub]
  exact through_eq _ _

theorem dgate22 : k0_pay22 (F := Ideal) sg g b (k0_pay8 x) (k0_pay12 x) dy (ix2 r k)
    = through (Silu.silu (pre (OddSpec.row x r) (OddSpec.row g 0) (OddSpec.row b 0) k) * dy (ix2 r k)) (sg (ix2 r k)) := by
  pointwise [k0_pay22, k0_pay15, k0_pay21, k0_pay17, k0_pay16, k0_pay20, k0_pay19, k0_pay18, pre14, Silu.silu, Silu.logistic]
  simp only [zero_sub]
  exact through_eq _ _

theorem dconv28 : k0_pay43 (F := Ideal) (k0_pay28 g (k0_pay7 x) (k0_pay8 x) (k0_pay10 x) (k0_pay11 x) (k0_pay15 g b (k0_pay8 x) (k0_pay12 x))
      (k0_pay23 sg g b (k0_pay8 x) (k0_pay12 x) dy) (k0_pay24 sg g b (k0_pay8 x) (k0_pay12 x) dy)) (ix2 r k)
    = grad (OddSpec.row x r) (fun l => dnormB x dy sg g b r l * g (ix2 0 l)) k := by
  pointwise [k0_pay43, k0_pay28, dnorm25, dev7, dev8, grad, direct, spread]
  simp only [Fin.sum_univ_one, root10, root11, zero_sub]

end Main

/-! ## The next block's rows -/

section Halo

variable (x dy sg : Vec Ideal S32x1024 .f32) (g b : Vec Ideal S1x1024 .f32) (r : Fin 32) (k : Fin 1024)

theorem dev33 : k0_pay33 (F := Ideal) (k0_pay29 x) (ix2 r k) = dev (OddSpec.row x r) k := by
  pointwise [k0_pay33, k0_pay30, k0_pay29, dev]

theorem dev31 : k0_pay31 (F := Ideal) (k0_pay29 x) (ix2 r k) = dev (OddSpec.row x r) k := dev33 x r k

theorem dev32 : k0_pay32 (F := Ideal) (k0_pay29 x) (ix2 r k) = Ideal.ofBits .f32 0x40000000#32 * dev (OddSpec.row x r) k := by
  pointwise [k0_pay32, dev31]

theorem var34 : k0_pay34 (F := Ideal) (k0_pay29 x) (ix2 r 0) = var (OddSpec.row x r) := by
  pointwise [k0_pay34, dev31, var]

theorem root35 : k0_pay35 (F := Ideal) (k0_pay29 x) (ix2 r 0) = Ideal.rsqrt (var (OddSpec.row x r)) := by
  pointwise [k0_pay35, var34]

theorem root36 : k0_pay36 (F := Ideal) (k0_pay29 x) (ix2 r 0)
    = Ideal.ofBits .f32 0xBF000000#32 * Ideal.div (Ideal.rsqrt (var (OddSpec.row x r))) (var (OddSpec.row x r)) := by
  pointwise [k0_pay36, root35, var34]

theorem pre37 : k0_pay37 (F := Ideal) (k0_pay29 x) g b (ix2 r k) = pre (OddSpec.row x r) (OddSpec.row g 0) (OddSpec.row b 0) k := by
  pointwise [k0_pay37, root35, dev33, pre, hat]

theorem gained44 : k0_pay44 (F := Ideal) sg g (k0_pay37 (k0_pay29 x) g b) (k0_pay38 (k0_pay29 x) g b) (k0_pay40 (k0_pay29 x) g b) (k0_pay41 (k0_pay29 x) g b)
      (k0_pay42 sg) (1 : EReal) dy (ix2 r k) = dnormB x dy sg g b r k * g (ix2 0 k) := by
  pointwise [k0_pay44, k0_pay38, k0_pay40, k0_pay41, k0_pay39, k0_pay42, pre37, dnormB, Silu.silu, Silu.logistic]
  simp only [zero_sub]
  exact congrArg (fun a : EReal => a * g (ix2 0 k)) (through_eq _ _)

theorem dconv49 (p : BitVec 1) : k0_pay49 (F := Ideal) p
      (k0_pay45 sg g (k0_pay35 (k0_pay29 x)) (k0_pay37 (k0_pay29 x) g b) (k0_pay38 (k0_pay29 x) g b) (k0_pay40 (k0_pay29 x) g b) (k0_pay41 (k0_pay29 x) g b) (k0_pay42 sg) (FloatOps.ofBits FTy.f32 1065353216#32) dy)
      (k0_pay46 sg g (k0_pay35 (k0_pay29 x)) (k0_pay37 (k0_pay29 x) g b) (k0_pay38 (k0_pay29 x) g b) (k0_pay40 (k0_pay29 x) g b) (k0_pay41 (k0_pay29 x) g b) (k0_pay42 sg) (FloatOps.ofBits FTy.f32 1065353216#32) dy)
      (k0_pay47 sg g (k0_pay32 (k0_pay29 x)) (k0_pay33 (k0_pay29 x)) (k0_pay36 (k0_pay29 x)) (k0_pay37 (k0_pay29 x) g b) (k0_pay38 (k0_pay29 x) g b) (k0_pay40 (k0_pay29 x) g b) (k0_pay41 (k0_pay29 x) g b) (k0_pay42 sg) (FloatOps.ofBits FTy.f32 1065353216#32) dy)
      (k0_pay48 sg g (k0_pay32 (k0_pay29 x)) (k0_pay33 (k0_pay29 x)) (k0_pay36 (k0_pay29 x)) (k0_pay37 (k0_pay29 x) g b) (k0_pay38 (k0_pay29 x) g b) (k0_pay40 (k0_pay29 x) g b) (k0_pay41 (k0_pay29 x) g b) (k0_pay42 sg) (FloatOps.ofBits FTy.f32 1065353216#32) dy) (ix2 r k)
    = Scalar.select p (grad (OddSpec.row x r) (fun l => dnormB x dy sg g b r l * g (ix2 0 l)) k) (0 : EReal) := by
  pointwise [k0_pay49, k0_pay45, k0_pay46, k0_pay47, k0_pay48, gained44, dev32, dev33, grad, direct, spread]
  simp only [Fin.sum_univ_one, root35, root36, zero_sub]

end Halo

end Cert.OddIdeal.Value

end
-- ==== Proof.Odd.Blocks.lean ====
/- The rows a grid point reads, and the convolution's cotangent that it keeps for them. -/
module

public import proofs.«01_k».proof.Proof.Odd.Rows
public import proofs.«01_k».proof.Proof.Pieces

@[expose] public section

set_option maxRecDepth 16384

noncomputable section

namespace Cert.OddIdeal.Value

open Cert.OddIdeal Cert.OddIdeal.Gen Cert.Taps Cert.ActNorm
open Idealize.ShloMosaic Idealize.ShloMosaic.TcCoe Idealize.SL.Sem
open scoped BigOperators

variable (m : (ℓ : Loc nD τ sig) → Buf (Elt Ideal) ℓ)

/-- The windows' block indices at every grid point. -/
theorem idx : ∀ t : Fin cfg0.N, (win0_0.index t = ![t.val, 0] ∧ win0_1.index t = ![min ((t.val + 1) * 8) 127, 0])
    ∧ (win0_2.index t = ![t.val, 0] ∧ win0_3.index t = ![t.val, 1] ∧ win0_4.index t = ![t.val, 2] ∧ win0_5.index t = ![min ((t.val + 1) * 8) 127, 2])
    ∧ (win0_6.index t = ![t.val, 0] ∧ win0_7.index t = ![min ((t.val + 1) * 8) 127, 0])
    ∧ (win0_8.index t = ![0, 0] ∧ win0_9.index t = ![0, 0] ∧ win0_10.index t = ![0, 0])
    ∧ (win0_11.index t = ![t.val, 0] ∧ win0_12.index t = ![0, 0] ∧ win0_13.index t = ![0, 0] ∧ win0_14.index t = ![0, 0] ∧ win0_15.index t = ![0, 0])
    ∧ (grid0.coords t 0).val = t.val :=
  (by decide +kernel : ∀ t : Fin grid0.N, _)

theorem t_lt (t : Fin cfg0.N) : t.val < 16 := lt_of_lt_of_eq t.isLt N_0

/-- The arguments. -/
abbrev dy (c : Dev nD) : Vec Ideal S4096x1024 .f32 := m ((c : Thread nD τ).loc main_arg0)
abbrev z (c : Dev nD) : Vec Ideal S4096x3072 .f32 := m ((c : Thread nD τ).loc main_arg1)
abbrev w (c : Dev nD) : Vec Ideal S31x1024 .f32 := m ((c : Thread nD τ).loc main_arg2)
abbrev cb (c : Dev nD) : Vec Ideal S1x1024 .f32 := m ((c : Thread nD τ).loc main_arg3)
abbrev g (c : Dev nD) : Vec Ideal S1x1024 .f32 := m ((c : Thread nD τ).loc main_arg4)
abbrev b (c : Dev nD) : Vec Ideal S1x1024 .f32 := m ((c : Thread nD τ).loc main_arg5)

/-! ## The convolution's rows, as the host computes them -/

/-- The indicators: which row reads which through a tap. -/
def tapT : FVec Ideal S31x4096x4096 .f32 :=
  uitofp .f32 (cmpi .eq (broadcastInDim S31x4096x4096 ![0, 1, 2] bcast_S1x4096x4096_S31x4096x4096_0_1_2 (broadcastInDim S1x4096x4096 ![1, 2] bcast_S4096x4096_S1x4096x4096_1_2 (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S31x4096x4096 ![0, 1, 2] bcast_S31x1x1_S31x4096x4096_0_1_2 (subi (broadcastInDim S31x1x1 ![] bcast_S_S31x1x1 (constantI S_ 32 30#32)) (broadcastInDim S31x1x1 ![0] bcast_S31_S31x1x1_0 (iotaInDim S31 32 0)))))

def coefT (w : FVec Ideal S31x1024 .f32) : FVec Ideal S4096x4096x1024 .f32 :=
  Host.dotGeneral dot_S31x4096x4096_S31x1024_S4096x4096x1024_0_0_12_1_n_n none tapT w

def inT (z : FVec Ideal S4096x3072 .f32) : FVec Ideal S1x4096x1024 .f32 :=
  broadcastInDim S1x4096x1024 ![1, 2] bcast_S4096x1024_S1x4096x1024_1_2 (mulf (extractStridedSlice S4096x1024 ![0, 0] z slices_S4096x3072_S4096x1024_0_0)
    (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] z slices_S4096x3072_S4096x1024_0_1024))))))

def convT (z : FVec Ideal S4096x3072 .f32) (w : FVec Ideal S31x1024 .f32) (cb : FVec Ideal S1x1024 .f32) : FVec Ideal S4096x1024 .f32 :=
  addf (Host.reduceAdd (mulf (coefT w) (broadcastInDim S4096x4096x1024 ![0, 1, 2] bcast_S1x4096x1024_S4096x4096x1024_0_1_2 (inT z))) (constant S_ .f32 0x00000000#32) reducesTo_S4096x4096x1024_S4096x1024_d1 h_S_)
    (broadcastInDim S4096x1024 ![0, 1] bcast_S1x1024_S4096x1024_0_1 cb)

theorem V_v32 (c : Dev nD) : V m c main_v32 = convT (z m c) (w m c) (cb m c) := by
  unfold V; after_results; try rfl

theorem tap_at (j : Fin 31) (t s : Fin 4096) : tapT (ix3 j t s) = if t.val = s.val + (30 - j.val) then (1 : EReal) else (0 : EReal) := by
  pointwise [tapT]
  rw [show IntOp.cmpi CmpIPredicate.eq (IntOp.subi (BitVec.ofNat 32 t.val) (BitVec.ofNat 32 s.val)) (IntOp.subi 30#32 (BitVec.ofNat 32 j.val)) = _
    from indicator (by norm_num) (by norm_num) 30 rfl j t s]
  by_cases h : t.val = s.val + (30 - j.val)
  · simp only [h, decide_true, if_true]; exact Cert.Taps.ofBool_true
  · simp only [h, decide_false, if_false]; exact Cert.Taps.ofBool_false

theorem coef_at (w : FVec Ideal S31x1024 .f32) (t s : Fin 4096) (k : Fin 1024) :
    coefT w (ix3 t s k) = ∑ j : Fin 31, (if t.val = s.val + (30 - j.val) then 1 else 0) * w (ix2 j k) := by
  pointwise [coefT, tap_at]

theorem in_at (z : FVec Ideal S4096x3072 .f32) (i : Fin 4096) (k : Fin 1024) : inT z (ix3 0 i k) = OddSpec.u z i k := by
  pointwise [inT, OddSpec.u, Silu.logistic]

/-- No two taps read through the same delay. -/
theorem delays : Function.Injective fun j : Fin 31 => 30 - j.val := fun a b h =>
  Fin.ext (by have := a.isLt; have := b.isLt; simp only at h; omega)

theorem conv_at (z : FVec Ideal S4096x3072 .f32) (w : FVec Ideal S31x1024 .f32) (cb : FVec Ideal S1x1024 .f32) (i : Fin 4096) (k : Fin 1024) :
    convT z w cb (ix2 i k) = OddSpec.conv z w cb i k := by
  pointwise [convT, coef_at, in_at]
  exact congrArg₂ (fun a b : EReal => a + b) (Taps.conv _ delays (fun j => w (ix2 j k)) (fun s => OddSpec.u z s k) i) rfl

/-! ## The blocks -/

abbrev row (t : Fin cfg0.N) (r : Fin 256) : Fin 4096 := ⟨t.val * 256 + r.val, by have := t_lt t; omega⟩
abbrev next (t : Fin cfg0.N) (h : t.val < 15) (r : Fin 32) : Fin 4096 := ⟨t.val * 256 + 256 + r.val, by omega⟩

variable {m}

theorem blk0 (c : Dev nD) (t : Fin cfg0.N) (r : Fin 256) (k : Fin 1024) : (iblk m c 0 t : Vec Ideal S256x1024 .f32) (ix2 r k) = dy m c (ix2 (row t r) k) := by
  blk_point [iblk, V, idx t]

theorem blk1 (c : Dev nD) (t : Fin cfg0.N) (h : t.val < 15) (r : Fin 32) (k : Fin 1024) : (iblk m c 1 t : Vec Ideal S32x1024 .f32) (ix2 r k) = dy m c (ix2 (next t h r) k) := by
  blk_point [iblk, V, idx t]

theorem blk2 (c : Dev nD) (t : Fin cfg0.N) (r : Fin 256) (k : Fin 1024) : (iblk m c 2 t : Vec Ideal S256x1024 .f32) (ix2 r k) = OddSpec.val (z m c) (row t r) k := by
  blk_point [iblk, V, idx t]

theorem blk3 (c : Dev nD) (t : Fin cfg0.N) (r : Fin 256) (k : Fin 1024) : (iblk m c 3 t : Vec Ideal S256x1024 .f32) (ix2 r k) = OddSpec.glu (z m c) (row t r) k := by
  blk_point [iblk, V, idx t]

theorem blk4 (c : Dev nD) (t : Fin cfg0.N) (r : Fin 256) (k : Fin 1024) : (iblk m c 4 t : Vec Ideal S256x1024 .f32) (ix2 r k) = OddSpec.gate (z m c) (row t r) k := by
  blk_point [iblk, V, idx t]

theorem blk5 (c : Dev nD) (t : Fin cfg0.N) (h : t.val < 15) (r : Fin 32) (k : Fin 1024) : (iblk m c 5 t : Vec Ideal S32x1024 .f32) (ix2 r k) = OddSpec.gate (z m c) (next t h r) k := by
  blk_point [iblk, V, idx t]

theorem blk6 (c : Dev nD) (t : Fin cfg0.N) (r : Fin 256) (k : Fin 1024) : (iblk m c 6 t : Vec Ideal S256x1024 .f32) (ix2 r k) = OddSpec.convs (z m c) (w m c) (cb m c) (row t r) k := by
  refine Eq.trans ?_ (conv_at _ _ _ _ _)
  rw [← V_v32]
  blk_point [iblk, idx t]

theorem blk7 (c : Dev nD) (t : Fin cfg0.N) (h : t.val < 15) (r : Fin 32) (k : Fin 1024) : (iblk m c 7 t : Vec Ideal S32x1024 .f32) (ix2 r k) = OddSpec.convs (z m c) (w m c) (cb m c) (next t h r) k := by
  refine Eq.trans ?_ (conv_at _ _ _ _ _)
  rw [← V_v32]
  blk_point [iblk, idx t]

theorem blk8 (c : Dev nD) (t : Fin cfg0.N) (j : Fin 31) (k : Fin 1024) : (iblk m c 8 t : Vec Ideal S31x1024 .f32) (ix2 j k) = w m c (ix2 j k) := by
  blk_point [iblk, V, idx t]

theorem blk9 (c : Dev nD) (t : Fin cfg0.N) (j : Fin 1) (k : Fin 1024) : (iblk m c 9 t : Vec Ideal S1x1024 .f32) (ix2 j k) = g m c (ix2 j k) := by
  blk_point [iblk, V, idx t]

theorem blk10 (c : Dev nD) (t : Fin cfg0.N) (j : Fin 1) (k : Fin 1024) : (iblk m c 10 t : Vec Ideal S1x1024 .f32) (ix2 j k) = b m c (ix2 j k) := by
  blk_point [iblk, V, idx t]

/-! ## The convolution's cotangent in the block's rows and the next block's -/

variable (m) in
/-- The convolution's cotangent by row number, zero after the last row. -/
def dcAt (c : Dev nD) (q : Nat) (k : Fin 1024) : EReal :=
  if h : q < 4096 then OddSpec.dconvs (dy m c) (z m c) (w m c) (cb m c) (g m c) (b m c) ⟨q, h⟩ k else 0

theorem dcAt_ahead (c : Dev nD) (i : Fin 4096) (d : Nat) (k : Fin 1024) :
    ahead (fun s => OddSpec.dconvs (dy m c) (z m c) (w m c) (cb m c) (g m c) (b m c) s k) d i = dcAt m c (i.val + d) k := rfl

theorem dnorm_at (c : Dev nD) (t : Fin cfg0.N) (r : Fin 256) (k : Fin 1024) :
    dnormB (iblk m c 6 t : Vec Ideal S256x1024 .f32) (iblk m c 0 t : Vec Ideal S256x1024 .f32) (iblk m c 4 t : Vec Ideal S256x1024 .f32) (iblk m c 9 t : Vec Ideal S1x1024 .f32) (iblk m c 10 t : Vec Ideal S1x1024 .f32) r k
      = OddSpec.dnorm (OddSpec.row (dy m c)) (OddSpec.convs (z m c) (w m c) (cb m c)) (z m c) (g m c) (b m c) (row t r) k := by
  unfold dnormB OddSpec.dnorm OddSpec.row
  simp only [blk6, blk0, blk4, blk9, blk10]

theorem next_dnorm_at (c : Dev nD) (t : Fin cfg0.N) (h : t.val < 15) (r : Fin 32) (k : Fin 1024) :
    dnormB (iblk m c 7 t : Vec Ideal S32x1024 .f32) (iblk m c 1 t : Vec Ideal S32x1024 .f32) (iblk m c 5 t : Vec Ideal S32x1024 .f32) (iblk m c 9 t : Vec Ideal S1x1024 .f32) (iblk m c 10 t : Vec Ideal S1x1024 .f32) r k
      = OddSpec.dnorm (OddSpec.row (dy m c)) (OddSpec.convs (z m c) (w m c) (cb m c)) (z m c) (g m c) (b m c) (next t h r) k := by
  unfold dnormB OddSpec.dnorm OddSpec.row
  simp only [blk7 c t h, blk1 c t h, blk5 c t h, blk9, blk10]

variable (m) in
/-- The cotangent's rows as the body writes them: the block's. -/
abbrev dcBlock (c : Dev nD) (t : Fin cfg0.N) : Vec Ideal S256x1024 .f32 :=
  k0_pay28 (F := Ideal) (iblk m c 9 t) (k0_pay7 (iblk m c 6 t)) (k0_pay8 (iblk m c 6 t)) (k0_pay10 (iblk m c 6 t)) (k0_pay11 (iblk m c 6 t))
    (k0_pay15 (iblk m c 9 t) (iblk m c 10 t) (k0_pay8 (iblk m c 6 t)) (k0_pay12 (iblk m c 6 t)))
    (k0_pay23 (iblk m c 4 t) (iblk m c 9 t) (iblk m c 10 t) (k0_pay8 (iblk m c 6 t)) (k0_pay12 (iblk m c 6 t)) (iblk m c 0 t))
    (k0_pay24 (iblk m c 4 t) (iblk m c 9 t) (iblk m c 10 t) (k0_pay8 (iblk m c 6 t)) (k0_pay12 (iblk m c 6 t)) (iblk m c 0 t))

section Next

variable (m) (c : Dev nD) (t : Fin cfg0.N)

abbrev preN : Vec Ideal S32x1024 .f32 := k0_pay37 (F := Ideal) (k0_pay29 (iblk m c 7 t)) (iblk m c 9 t) (iblk m c 10 t)
abbrev sigN : Vec Ideal S32x1024 .f32 := k0_pay38 (F := Ideal) (k0_pay29 (iblk m c 7 t)) (iblk m c 9 t) (iblk m c 10 t)
abbrev actN : Vec Ideal S32x1024 .f32 := k0_pay40 (F := Ideal) (k0_pay29 (iblk m c 7 t)) (iblk m c 9 t) (iblk m c 10 t)
abbrev slopeN : Vec Ideal S32x1024 .f32 := k0_pay41 (F := Ideal) (k0_pay29 (iblk m c 7 t)) (iblk m c 9 t) (iblk m c 10 t)

/-- The next block's first rows. -/
abbrev dcNext : Vec Ideal S32x1024 .f32 :=
  k0_pay49 (F := Ideal) (Scalar.cmpi CmpIPredicate.slt (BitVec.ofNat 32 (grid0.coords t 0).val) 15#32)
    (k0_pay45 (iblk m c 5 t) (iblk m c 9 t) (k0_pay35 (k0_pay29 (iblk m c 7 t))) (preN m c t) (sigN m c t) (actN m c t) (slopeN m c t) (k0_pay42 (iblk m c 5 t)) (FloatOps.ofBits FTy.f32 1065353216#32) (iblk m c 1 t))
    (k0_pay46 (iblk m c 5 t) (iblk m c 9 t) (k0_pay35 (k0_pay29 (iblk m c 7 t))) (preN m c t) (sigN m c t) (actN m c t) (slopeN m c t) (k0_pay42 (iblk m c 5 t)) (FloatOps.ofBits FTy.f32 1065353216#32) (iblk m c 1 t))
    (k0_pay47 (iblk m c 5 t) (iblk m c 9 t) (k0_pay32 (k0_pay29 (iblk m c 7 t))) (k0_pay33 (k0_pay29 (iblk m c 7 t))) (k0_pay36 (k0_pay29 (iblk m c 7 t))) (preN m c t) (sigN m c t) (actN m c t) (slopeN m c t) (k0_pay42 (iblk m c 5 t)) (FloatOps.ofBits FTy.f32 1065353216#32) (iblk m c 1 t))
    (k0_pay48 (iblk m c 5 t) (iblk m c 9 t) (k0_pay32 (k0_pay29 (iblk m c 7 t))) (k0_pay33 (k0_pay29 (iblk m c 7 t))) (k0_pay36 (k0_pay29 (iblk m c 7 t))) (preN m c t) (sigN m c t) (actN m c t) (slopeN m c t) (k0_pay42 (iblk m c 5 t)) (FloatOps.ofBits FTy.f32 1065353216#32) (iblk m c 1 t))

end Next

theorem dcBlock_at (c : Dev nD) (t : Fin cfg0.N) (r : Fin 256) (k : Fin 1024) : k0_pay43 (F := Ideal) (dcBlock m c t) (ix2 r k) = dcAt m c (t.val * 256 + r.val) k := by
  refine (dconv28 _ _ _ _ _ r k).trans ?_
  rw [dcAt, dif_pos (row t r).isLt]
  unfold OddSpec.dconvs OddSpec.dconv
  simp only [dnorm_at, blk9]
  exact congrArg (fun x => grad x _ k) (funext fun l => blk6 c t r l)

/-- Whether there is a next block. -/
theorem more : ∀ t : Fin cfg0.N, Scalar.cmpi CmpIPredicate.slt (BitVec.ofNat 32 (grid0.coords t 0).val) 15#32 = BitVec.ofBool (decide (t.val < 15)) :=
  (by decide +kernel : ∀ t : Fin grid0.N, _)

theorem dcNext_at (c : Dev nD) (t : Fin cfg0.N) (r : Fin 32) (k : Fin 1024) : dcNext m c t (ix2 r k) = dcAt m c (t.val * 256 + 256 + r.val) k := by
  refine (dconv49 _ _ _ _ _ r k _).trans ?_
  rw [more]
  unfold dcAt
  by_cases h : t.val < 15
  · rw [dif_pos (next t h r).isLt]
    simp only [h, decide_true]
    refine (show Scalar.select (BitVec.ofBool true) _ _ = _ from rfl).trans ?_
    unfold OddSpec.dconvs OddSpec.dconv
    simp only [next_dnorm_at c t h, blk9]
    exact congrArg (fun x => grad x _ k) (funext fun l => blk7 c t h r l)
  · rw [dif_neg (by omega)]
    simp only [h, decide_false]
    rfl

variable (m) in
/-- The buffer of the cotangent's rows, as it is written. -/
def dL (c : Dev nD) (t : Fin cfg0.N) : List (View.Piece (Elt Ideal) S288x1024 .f32) :=
  [⟨Rect.unit ![256, 0] ![32, 1024] inb_S288x1024_S32x1024_256_0, dcNext m c t⟩,
    ⟨Rect.unit ![0, 0] ![256, 1024] inb_S288x1024_S256x1024_0_0, k0_pay43 (F := Ideal) (dcBlock m c t)⟩]

/-- The pieces written out are the buffer's. -/
theorem dL_eq (c : Dev nD) (t : Fin cfg0.N) : ([⟨Rect.unit ![256, 0] ![32, 1024] inb_S288x1024_S32x1024_256_0, dcNext m c t⟩,
    ⟨Rect.unit ![0, 0] ![256, 1024] inb_S288x1024_S256x1024_0_0, k0_pay43 (F := Ideal) (dcBlock m c t)⟩] : List (View.Piece (Elt Ideal) S288x1024 .f32)) = dL m c t := rfl

theorem dL_at (c : Dev nD) (t : Fin cfg0.N) (s : Fin 288) (k : Fin 1024) : View.canon (dL m c t) (ix2 s k) = dcAt m c (t.val * 256 + s.val) k := by
  unfold dL
  by_cases h : s.val < 256
  · refine (Pieces.canon_miss _ _ _ _ _ _ _ (Or.inl h)).trans ((Pieces.canon_hit _ _ _ _ _ _ _ (by omega) (by omega)).trans ?_)
    exact dcBlock_at c t ⟨s.val, h⟩ k
  · refine (Pieces.canon_hit _ _ _ _ _ _ _ (by omega) (by omega)).trans ((dcNext_at c t _ _).trans ?_)
    exact congrArg (fun q => dcAt m c q k) (by show t.val * 256 + 256 + (s.val - 256) = _; omega)

theorem dread (v : View sig .tc .vmem S288x1024 .f32) (c : Dev nD) (t : Fin cfg0.N) (o : Nat) {n : Nat} (inb : ∀ a, (![o, 0] : Fin 2 → Nat) a + (![n, 1024] : Fin 2 → Nat) a ≤ S288x1024.size a)
    (r : Fin n) (k : Fin 1024) :
    (v.readCov (Val := Elt Ideal) (dL m c t) (Rect.unit (s := S288x1024) ![o, 0] ![n, 1024] inb).toLoadRect : Vec Ideal ⟨2, ![n, 1024]⟩ .f32) (ix2 r k) = dcAt m c (t.val * 256 + r.val + o) k := by
  have h : o + n ≤ 288 := inb 0
  refine (Pieces.readCov_at v o 0 inb _ r k (by omega) (by omega)).trans ((dL_at c t _ _).trans ?_)
  have e : t.val * 256 + (o + r.val) = t.val * 256 + r.val + o := by omega
  rw [e]
  exact congrArg _ (Fin.ext (Nat.zero_add _))

variable (m) in
/-- Seven copies of the buffer, each one row further on. -/
def shL (c : Dev nD) (t : Fin cfg0.N) : List (View.Piece (Elt Ideal) S7x280x1024 .f32) :=
  [⟨Rect.unit ![6, 0, 0] ![1, 280, 1024] inb_S7x280x1024_S1x280x1024_6_0_0, k0_pay57 (F := Ideal) ((View.whole cc0_scratch0).readCov (Val := Elt Ideal) (dL m c t) (Rect.unit (s := S288x1024) ![7, 0] ![280, 1024] inb_S288x1024_S280x1024_7_0).toLoadRect)⟩,
    ⟨Rect.unit ![5, 0, 0] ![1, 280, 1024] inb_S7x280x1024_S1x280x1024_5_0_0, k0_pay56 (F := Ideal) ((View.whole cc0_scratch0).readCov (Val := Elt Ideal) (dL m c t) (Rect.unit (s := S288x1024) ![6, 0] ![280, 1024] inb_S288x1024_S280x1024_6_0).toLoadRect)⟩,
    ⟨Rect.unit ![4, 0, 0] ![1, 280, 1024] inb_S7x280x1024_S1x280x1024_4_0_0, k0_pay55 (F := Ideal) ((View.whole cc0_scratch0).readCov (Val := Elt Ideal) (dL m c t) (Rect.unit (s := S288x1024) ![5, 0] ![280, 1024] inb_S288x1024_S280x1024_5_0).toLoadRect)⟩,
    ⟨Rect.unit ![3, 0, 0] ![1, 280, 1024] inb_S7x280x1024_S1x280x1024_3_0_0, k0_pay54 (F := Ideal) ((View.whole cc0_scratch0).readCov (Val := Elt Ideal) (dL m c t) (Rect.unit (s := S288x1024) ![4, 0] ![280, 1024] inb_S288x1024_S280x1024_4_0).toLoadRect)⟩,
    ⟨Rect.unit ![2, 0, 0] ![1, 280, 1024] inb_S7x280x1024_S1x280x1024_2_0_0, k0_pay53 (F := Ideal) ((View.whole cc0_scratch0).readCov (Val := Elt Ideal) (dL m c t) (Rect.unit (s := S288x1024) ![3, 0] ![280, 1024] inb_S288x1024_S280x1024_3_0).toLoadRect)⟩,
    ⟨Rect.unit ![1, 0, 0] ![1, 280, 1024] inb_S7x280x1024_S1x280x1024_1_0_0, k0_pay52 (F := Ideal) ((View.whole cc0_scratch0).readCov (Val := Elt Ideal) (dL m c t) (Rect.unit (s := S288x1024) ![2, 0] ![280, 1024] inb_S288x1024_S280x1024_2_0).toLoadRect)⟩,
    ⟨Rect.unit ![0, 0, 0] ![1, 280, 1024] inb_S7x280x1024_S1x280x1024_0_0_0, k0_pay51 (F := Ideal) ((View.whole cc0_scratch0).readCov (Val := Elt Ideal) (dL m c t) (Rect.unit (s := S288x1024) ![1, 0] ![280, 1024] inb_S288x1024_S280x1024_1_0).toLoadRect)⟩]

/-- The pieces written out are the buffer's. -/
theorem shL_eq (c : Dev nD) (t : Fin cfg0.N) : ([⟨Rect.unit ![6, 0, 0] ![1, 280, 1024] inb_S7x280x1024_S1x280x1024_6_0_0, k0_pay57 (F := Ideal) ((View.whole cc0_scratch0).readCov (Val := Elt Ideal) (dL m c t) (Rect.unit (s := S288x1024) ![7, 0] ![280, 1024] inb_S288x1024_S280x1024_7_0).toLoadRect)⟩,
    ⟨Rect.unit ![5, 0, 0] ![1, 280, 1024] inb_S7x280x1024_S1x280x1024_5_0_0, k0_pay56 (F := Ideal) ((View.whole cc0_scratch0).readCov (Val := Elt Ideal) (dL m c t) (Rect.unit (s := S288x1024) ![6, 0] ![280, 1024] inb_S288x1024_S280x1024_6_0).toLoadRect)⟩,
    ⟨Rect.unit ![4, 0, 0] ![1, 280, 1024] inb_S7x280x1024_S1x280x1024_4_0_0, k0_pay55 (F := Ideal) ((View.whole cc0_scratch0).readCov (Val := Elt Ideal) (dL m c t) (Rect.unit (s := S288x1024) ![5, 0] ![280, 1024] inb_S288x1024_S280x1024_5_0).toLoadRect)⟩,
    ⟨Rect.unit ![3, 0, 0] ![1, 280, 1024] inb_S7x280x1024_S1x280x1024_3_0_0, k0_pay54 (F := Ideal) ((View.whole cc0_scratch0).readCov (Val := Elt Ideal) (dL m c t) (Rect.unit (s := S288x1024) ![4, 0] ![280, 1024] inb_S288x1024_S280x1024_4_0).toLoadRect)⟩,
    ⟨Rect.unit ![2, 0, 0] ![1, 280, 1024] inb_S7x280x1024_S1x280x1024_2_0_0, k0_pay53 (F := Ideal) ((View.whole cc0_scratch0).readCov (Val := Elt Ideal) (dL m c t) (Rect.unit (s := S288x1024) ![3, 0] ![280, 1024] inb_S288x1024_S280x1024_3_0).toLoadRect)⟩,
    ⟨Rect.unit ![1, 0, 0] ![1, 280, 1024] inb_S7x280x1024_S1x280x1024_1_0_0, k0_pay52 (F := Ideal) ((View.whole cc0_scratch0).readCov (Val := Elt Ideal) (dL m c t) (Rect.unit (s := S288x1024) ![2, 0] ![280, 1024] inb_S288x1024_S280x1024_2_0).toLoadRect)⟩,
    ⟨Rect.unit ![0, 0, 0] ![1, 280, 1024] inb_S7x280x1024_S1x280x1024_0_0_0, k0_pay51 (F := Ideal) ((View.whole cc0_scratch0).readCov (Val := Elt Ideal) (dL m c t) (Rect.unit (s := S288x1024) ![1, 0] ![280, 1024] inb_S288x1024_S280x1024_1_0).toLoadRect)⟩] : List (View.Piece (Elt Ideal) S7x280x1024 .f32)) = shL m c t := rfl

theorem copied {v : Vec Ideal S280x1024 .f32} (x : S1x280x1024.Idx) : k0_pay51 (F := Ideal) v x = v (ix2 (x 1) (x 2)) := by
  idx_vars x
  obtain rfl : x0 = 0 := Subsingleton.elim _ _
  pointwise [k0_pay51]

theorem shL_at (c : Dev nD) (t : Fin cfg0.N) (b : Fin 7) (s : Fin 280) (k : Fin 1024) : View.canon (shL m c t) (ix3 b s k) = dcAt m c (t.val * 256 + s.val + (b.val + 1)) k := by
  have one : ∀ (n : Nat) (inb : ∀ a, (![n + 1, 0] : Fin 2 → Nat) a + (![280, 1024] : Fin 2 → Nat) a ≤ S288x1024.size a) (x : S1x280x1024.Idx), b.val = n + (x 0).val → s.val = (x 1).val → k.val = (x 2).val →
      ((View.whole cc0_scratch0).readCov (Val := Elt Ideal) (dL m c t) (Rect.unit (s := S288x1024) ![n + 1, 0] ![280, 1024] inb).toLoadRect : Vec Ideal S280x1024 .f32) (ix2 (x 1) (x 2)) = dcAt m c (t.val * 256 + s.val + (b.val + 1)) k := by
    intro n inb x h0 h1 h2
    refine (dread _ c t (n + 1) inb (x 1) (x 2)).trans ?_
    have h3 : (x 0).val < 1 := (x 0).isLt
    have e : (x 1).val = s.val := by omega
    have e' : b.val = n := by omega
    rw [e, e']
    exact congrArg _ (Fin.ext (by omega))
  unfold shL
  canon_tiles x h
  · exact (copied x).trans (one 6 (by decide) x h0 h1 h2)
  · exact (copied x).trans (one 5 (by decide) x h0 h1 h2)
  · exact (copied x).trans (one 4 (by decide) x h0 h1 h2)
  · exact (copied x).trans (one 3 (by decide) x h0 h1 h2)
  · exact (copied x).trans (one 2 (by decide) x h0 h1 h2)
  · exact (copied x).trans (one 1 (by decide) x h0 h1 h2)
  · exact (copied x).trans (one 0 (by decide) x (h0.trans (Nat.zero_add _).symm) h1 h2)

theorem shread (v : View sig .tc .vmem S7x280x1024 .f32) (c : Dev nD) (t : Fin cfg0.N) (b o : Nat) {n : Nat}
    (inb : ∀ a, (![b, o, 0] : Fin 3 → Nat) a + (![1, n, 1024] : Fin 3 → Nat) a ≤ S7x280x1024.size a) (r : Fin n) (k : Fin 1024) :
    (v.readCov (Val := Elt Ideal) (shL m c t) (Rect.unit (s := S7x280x1024) ![b, o, 0] ![1, n, 1024] inb).toLoadRect : Vec Ideal ⟨3, ![1, n, 1024]⟩ .f32) (ix3 0 r k) = dcAt m c (t.val * 256 + r.val + (o + (b + 1))) k := by
  have hb : b + 1 ≤ 7 := inb 0
  have h : o + n ≤ 280 := inb 1
  rw [View.readCov_eq_canon']
  have e : (Rect.unit (s := S7x280x1024) ![b, o, 0] ![1, n, 1024] inb).emb (ix3 0 r k) = ix3 ⟨b, by omega⟩ ⟨o + r.val, by omega⟩ k := by
    blk_ext
  change View.canon (shL m c t) ((Rect.unit (s := S7x280x1024) ![b, o, 0] ![1, n, 1024] inb).emb (ix3 0 r k)) = _
  rw [e, shL_at]
  exact congrArg (fun q => dcAt m c q k) (by show t.val * 256 + (o + r.val) + (b + 1) = _; omega)

end Cert.OddIdeal.Value

end
-- ==== Proof.Odd.Outputs.lean ====
/- The kernel's results are the formulas of `Odd/Spec.lean`. -/
module

public import proofs.«01_k».proof.Proof.Odd.Blocks

@[expose] public section

set_option maxRecDepth 16384

noncomputable section

namespace Cert.OddIdeal.Value

open Cert.OddIdeal Cert.OddIdeal.Gen Cert.Taps Cert.ActNorm
open Idealize.ShloMosaic Idealize.ShloMosaic.TcCoe Idealize.SL.Sem
open Idealize.ShloMosaic.Pipeline (Dat)
open scoped BigOperators

variable (m : (ℓ : Loc nD τ sig) → Buf (Elt Ideal) ℓ)

/-! ## The cotangent of the convolution's input -/

/-- The taps by number. -/
def tap (c : Dev nD) (j : Nat) (k : Fin 1024) : EReal := if h : j < 31 then w m c (ix2 ⟨j, h⟩ k) else 0

theorem tap_fin (c : Dev nD) (j : Fin 31) (k : Fin 1024) : w m c (ix2 j k) = tap m c j.val k := by
  rw [tap, dif_pos j.isLt]

/-- The sum over the taps, written out. -/
theorem du_at (c : Dev nD) (i : Fin 4096) (q a : Nat) (h : i.val = q + a) (k : Fin 1024) :
    OddSpec.du (OddSpec.dconvs (dy m c) (z m c) (w m c) (cb m c) (g m c) (b m c)) (w m c) i k = ∑ j ∈ Finset.range 31, tap m c j k * dcAt m c (q + (a + (30 - j))) k := by
  rw [Finset.sum_range]
  unfold OddSpec.du
  refine Finset.sum_congr rfl fun j _ => ?_
  rw [dcAt_ahead, tap_fin, h, Nat.add_assoc]

/-- The cotangent of `z` in each of its three column blocks, by the rows of a chunk that begins at row `a` of the block. -/
theorem dz_val (c : Dev nD) (t : Fin cfg0.N) (a : Nat) (x0 : Fin 64) (ha : a + 64 ≤ 256) (r : Fin 256) (j : Fin 3072) (k : Fin 1024) (h0 : r.val = a + x0.val) (h1 : j.val = k.val) :
    OddSpec.dzAt (OddSpec.row (dy m c)) (OddSpec.convs (z m c) (w m c) (cb m c)) (OddSpec.dconvs (dy m c) (z m c) (w m c) (cb m c) (g m c) (b m c)) (z m c) (w m c) (g m c) (b m c) (row t r) j
      = (∑ n ∈ Finset.range 31, tap m c n k * dcAt m c (t.val * 256 + x0.val + (a + (30 - n))) k) * Silu.logistic ((iblk m c 3 t : Vec Ideal S256x1024 .f32) (ix2 ⟨a + x0.val, by omega⟩ k)) := by
  have hr : a + x0.val < 256 := by omega
  obtain rfl : r = ⟨a + x0.val, hr⟩ := Fin.ext h0
  unfold OddSpec.dzAt
  rw [dif_pos (by omega)]
  have hj : j.val < 1024 := by omega
  obtain rfl : (⟨j.val, hj⟩ : Fin 1024) = k := Fin.ext h1
  unfold OddSpec.dval
  rw [du_at m c _ (t.val * 256 + x0.val) a (by show t.val * 256 + (a + x0.val) = _; omega), blk3]

theorem dz_glu (c : Dev nD) (t : Fin cfg0.N) (a : Nat) (x0 : Fin 64) (ha : a + 64 ≤ 256) (r : Fin 256) (j : Fin 3072) (k : Fin 1024) (h0 : r.val = a + x0.val) (h1 : j.val = 1024 + k.val) :
    OddSpec.dzAt (OddSpec.row (dy m c)) (OddSpec.convs (z m c) (w m c) (cb m c)) (OddSpec.dconvs (dy m c) (z m c) (w m c) (cb m c) (g m c) (b m c)) (z m c) (w m c) (g m c) (b m c) (row t r) j
      = (∑ n ∈ Finset.range 31, tap m c n k * dcAt m c (t.val * 256 + x0.val + (a + (30 - n))) k) * (iblk m c 2 t : Vec Ideal S256x1024 .f32) (ix2 ⟨a + x0.val, by omega⟩ k)
        * Silu.logistic ((iblk m c 3 t : Vec Ideal S256x1024 .f32) (ix2 ⟨a + x0.val, by omega⟩ k)) * (1 - Silu.logistic ((iblk m c 3 t : Vec Ideal S256x1024 .f32) (ix2 ⟨a + x0.val, by omega⟩ k))) := by
  have hr : a + x0.val < 256 := by omega
  obtain rfl : r = ⟨a + x0.val, hr⟩ := Fin.ext h0
  unfold OddSpec.dzAt
  rw [dif_neg (by omega), dif_pos (by omega)]
  have hj : j.val - 1024 < 1024 := by omega
  obtain rfl : (⟨j.val - 1024, hj⟩ : Fin 1024) = k := Fin.ext (by show j.val - 1024 = _; omega)
  unfold OddSpec.dglu
  rw [du_at m c _ (t.val * 256 + x0.val) a (by show t.val * 256 + (a + x0.val) = _; omega), blk3, blk2, mul_comm (OddSpec.val (z m c) _ _) _, ← mul_assoc]

theorem dz_gate (c : Dev nD) (t : Fin cfg0.N) (x0 r : Fin 256) (j : Fin 3072) (k : Fin 1024) (h0 : r.val = x0.val) (h1 : j.val = 2048 + k.val) :
    OddSpec.dzAt (OddSpec.row (dy m c)) (OddSpec.convs (z m c) (w m c) (cb m c)) (OddSpec.dconvs (dy m c) (z m c) (w m c) (cb m c) (g m c) (b m c)) (z m c) (w m c) (g m c) (b m c) (row t r) j
      = k0_pay22 (F := Ideal) (iblk m c 4 t) (iblk m c 9 t) (iblk m c 10 t) (k0_pay8 (iblk m c 6 t)) (k0_pay12 (iblk m c 6 t)) (iblk m c 0 t) (ix2 x0 k) := by
  obtain rfl : r = x0 := Fin.ext h0
  rw [dgate22, blk0, blk4]
  unfold OddSpec.dzAt
  rw [dif_neg (by omega), dif_neg (by omega)]
  have hj : j.val - 2048 < 1024 := by omega
  obtain rfl : (⟨j.val - 2048, hj⟩ : Fin 1024) = k := Fin.ext (by show j.val - 2048 = _; omega)
  unfold OddSpec.dgate OddSpec.row
  simp only [blk6, blk9, blk10]

set_option maxHeartbeats 2000000 in
theorem block11 (c : Dev nD) (t : Fin cfg0.N) (r : Fin 256) (j : Fin 3072) : (outsAt0 (F := Ideal) m c t.val t.isLt).1 (ix2 r j)
    = OddSpec.dzAt (OddSpec.row (dy m c)) (OddSpec.convs (z m c) (w m c) (cb m c)) (OddSpec.dconvs (dy m c) (z m c) (w m c) (cb m c) (g m c) (b m c)) (z m c) (w m c) (g m c) (b m c) (row t r) j := by
  have cases : (t.val % 16 = 0 ∧ ¬t.val % 16 = 15) ∨ (¬t.val % 16 = 0 ∧ ¬t.val % 16 = 15) ∨ (¬t.val % 16 = 0 ∧ t.val % 16 = 15) := by omega
  rcases cases with ⟨a, a'⟩ | ⟨a, a'⟩ | ⟨a, a'⟩
  on_goal 1 => rw [outsAt0_A m c t a a']
  on_goal 2 => rw [outsAt0_B m c t a a']
  on_goal 3 => rw [outsAt0_C m c t a a']
  all_goals
    frame_out
    rw [dL_eq, shL_eq]
    canon_tiles x h using View.cover_of_tiledBy _ ![64, 1024] (by sl_kernel_rfl) _
    all_goals idx_vars x
    on_goal 9 => exact (show k0_pay50 (F := Ideal) (k0_pay22 (iblk m c 4 t) (iblk m c 9 t) (iblk m c 10 t) (k0_pay8 (iblk m c 6 t)) (k0_pay12 (iblk m c 6 t)) (iblk m c 0 t)) (ix2 x0 x1) = k0_pay22 (F := Ideal) (iblk m c 4 t) (iblk m c 9 t) (iblk m c 10 t) (k0_pay8 (iblk m c 6 t)) (k0_pay12 (iblk m c 6 t)) (iblk m c 0 t) (ix2 x0 x1) by pointwise [k0_pay50]).trans (dz_gate m c t x0 r j x1 h0 h1).symm
    on_goal 1 => refine Eq.trans ?_ (dz_glu m c t 192 x0 (by decide) r j x1 h0 h1).symm
    on_goal 2 => refine Eq.trans ?_ (dz_val m c t 192 x0 (by decide) r j x1 h0 h1).symm
    on_goal 3 => refine Eq.trans ?_ (dz_glu m c t 128 x0 (by decide) r j x1 h0 h1).symm
    on_goal 4 => refine Eq.trans ?_ (dz_val m c t 128 x0 (by decide) r j x1 h0 h1).symm
    on_goal 5 => refine Eq.trans ?_ (dz_glu m c t 64 x0 (by decide) r j x1 h0 h1).symm
    on_goal 6 => refine Eq.trans ?_ (dz_val m c t 64 x0 (by decide) r j x1 h0 h1).symm
    on_goal 7 => refine Eq.trans ?_ (dz_glu m c t 0 x0 (by decide) r j x1 (h0.trans (Nat.zero_add _).symm) h1).symm
    on_goal 8 => refine Eq.trans ?_ (dz_val m c t 0 x0 (by decide) r j x1 (h0.trans (Nat.zero_add _).symm) h1).symm
    all_goals
      pointwise [k0_pay108, k0_pay107, k0_pay106, k0_pay105, k0_pay104, k0_pay103, k0_pay102, k0_pay101, k0_pay100, k0_pay99, k0_pay98, k0_pay97, k0_pay96, k0_pay95, k0_pay94, k0_pay93, k0_pay92, k0_pay91, k0_pay90, k0_pay89, k0_pay88, k0_pay87, k0_pay86, k0_pay85, k0_pay84, k0_pay83, k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay2, dread, shread, Silu.logistic]
      simp only [Finset.sum_range_succ, Finset.sum_range_zero, zero_add, zero_sub, Nat.reduceSub, Nat.reduceAdd, blk8]
      rfl

end Cert.OddIdeal.Value

end
-- ==== Proof.Newest.lean ====
/- Pieces stored over one another: where the newest cover an entry, the older ones do not matter. -/
module

public import Idealize.ShloMosaic.Lib.Pipeline.ValueKit

@[expose] public section

namespace Cert.Pieces

open Idealize.ShloMosaic

/-- Where the newest pieces cover an entry, the older ones do not matter there. -/
theorem canon_take {Val : EltTy → Type} [∀ e, Nonempty (Val e)] {S : Shape} {e : EltTy} (n : Nat) (L : List (View.Piece Val S e)) (y : S.Idx)
    (h : ∃ p ∈ L.take n, y ∈ p.1.set) : View.canon L y = View.canon (L.take n) y := by
  induction L generalizing n with
  | nil => rw [List.take_nil]
  | cons p L ih =>
    cases n with
    | zero => obtain ⟨_, hm, _⟩ := h; exact absurd hm List.not_mem_nil
    | succ n =>
      rw [List.take_succ_cons] at h ⊢
      by_cases hy : y ∈ p.1.set
      · obtain ⟨x, hx⟩ := LoadRect.exists_idx_of_mem _ hy
        rw [← hx]
        exact (View.canon_cons_emb p.1 p.2 _ x).trans (View.canon_cons_emb p.1 p.2 _ x).symm
      · rw [View.canon_cons_of_not_mem p _ hy, View.canon_cons_of_not_mem p _ hy]
        obtain ⟨q, hm, hq⟩ := h
        rcases List.mem_cons.mp hm with rfl | hm
        · exact absurd hq hy
        · exact ih n ⟨q, hm, hq⟩

end Cert.Pieces

end
-- ==== Proof.Odd.Taps.lean ====
/- The gradient of the taps: eight partial sums for each tap, kept over the grid's steps. -/
module

public import proofs.«01_k».proof.Proof.Odd.Blocks
public import proofs.«01_k».proof.Proof.Newest
public import Idealize.ShloMosaic.Lib.Pipeline.ReadBack

@[expose] public section

set_option maxRecDepth 16384

noncomputable section

namespace Cert.OddIdeal.Value

open Cert.OddIdeal Cert.OddIdeal.Gen Cert.Taps Cert.ActNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- A block's part of a tap's gradient: every eighth row's cotangent times the convolution's input. -/
def part (c : Dev nD) (t : Fin cfg0.N) (d : Nat) (s : Fin 8) (k : Fin 1024) : EReal :=
  ∑ q : Fin 32, dcAt m c (t.val * 256 + (q.val * 8 + s.val) + d) k * OddSpec.u (z m c) (row t ⟨q.val * 8 + s.val, by omega⟩) k

theorem u_at (c : Dev nD) (t : Fin cfg0.N) (r : Fin 256) (k : Fin 1024) : k0_pay3 (F := Ideal) (iblk m c 2 t) (iblk m c 3 t) (ix2 r k) = OddSpec.u (z m c) (row t r) k := by
  pointwise [k0_pay3, k0_pay2, OddSpec.u, Silu.logistic, blk2, blk3]
  simp only [zero_sub]

set_option maxHeartbeats 2000000 in
theorem stepA (c : Dev nD) (t : Fin cfg0.N) (h0 : t.val % 16 = 0) (j : Fin 31) (s : Fin 8) (k : Fin 1024) : (outsAt0 (F := Ideal) m c t.val t.isLt).2.2.2.2.2 (ix3 j s k)
    = 0 + part m c t (30 - j.val) s k := by
  rw [outsAt0_A m c t h0 (by omega)]
  frame_out
  simp (disch := decide) only [↓ View.readCov_skip (s := S31x8x1024), ↓ View.readCov_cons_toLoadRect (s := S31x8x1024), ↓ View.readCov_fill (s := S31x8x1024)]
  rw [dL_eq, shL_eq]
  refine (Pieces.canon_take (Val := Elt Ideal) 31 _ _ ?_).trans ?_
  · simp only [List.take_succ_cons, List.take_zero]
    exact View.cover_of_tiledBy _ ![1, 8, 1024] (by sl_kernel_rfl) _
  simp only [List.take_succ_cons, List.take_zero]
  canon_tiles x h
  all_goals
    idx_vars x
    obtain rfl : x0 = 0 := Subsingleton.elim _ _
    obtain rfl : s = x1 := Fin.ext h1
    obtain rfl : k = x2 := Fin.ext h2
  on_goal 1 => obtain rfl : j = (30 : Fin 31) := Fin.ext h0
  on_goal 2 => obtain rfl : j = (29 : Fin 31) := Fin.ext h0
  on_goal 3 => obtain rfl : j = (28 : Fin 31) := Fin.ext h0
  on_goal 4 => obtain rfl : j = (27 : Fin 31) := Fin.ext h0
  on_goal 5 => obtain rfl : j = (26 : Fin 31) := Fin.ext h0
  on_goal 6 => obtain rfl : j = (25 : Fin 31) := Fin.ext h0
  on_goal 7 => obtain rfl : j = (24 : Fin 31) := Fin.ext h0
  on_goal 8 => obtain rfl : j = (23 : Fin 31) := Fin.ext h0
  on_goal 9 => obtain rfl : j = (22 : Fin 31) := Fin.ext h0
  on_goal 10 => obtain rfl : j = (21 : Fin 31) := Fin.ext h0
  on_goal 11 => obtain rfl : j = (20 : Fin 31) := Fin.ext h0
  on_goal 12 => obtain rfl : j = (19 : Fin 31) := Fin.ext h0
  on_goal 13 => obtain rfl : j = (18 : Fin 31) := Fin.ext h0
  on_goal 14 => obtain rfl : j = (17 : Fin 31) := Fin.ext h0
  on_goal 15 => obtain rfl : j = (16 : Fin 31) := Fin.ext h0
  on_goal 16 => obtain rfl : j = (15 : Fin 31) := Fin.ext h0
  on_goal 17 => obtain rfl : j = (14 : Fin 31) := Fin.ext h0
  on_goal 18 => obtain rfl : j = (13 : Fin 31) := Fin.ext h0
  on_goal 19 => obtain rfl : j = (12 : Fin 31) := Fin.ext h0
  on_goal 20 => obtain rfl : j = (11 : Fin 31) := Fin.ext h0
  on_goal 21 => obtain rfl : j = (10 : Fin 31) := Fin.ext h0
  on_goal 22 => obtain rfl : j = (9 : Fin 31) := Fin.ext h0
  on_goal 23 => obtain rfl : j = (8 : Fin 31) := Fin.ext h0
  on_goal 24 => obtain rfl : j = (7 : Fin 31) := Fin.ext h0
  on_goal 25 => obtain rfl : j = (6 : Fin 31) := Fin.ext h0
  on_goal 26 => obtain rfl : j = (5 : Fin 31) := Fin.ext h0
  on_goal 27 => obtain rfl : j = (4 : Fin 31) := Fin.ext h0
  on_goal 28 => obtain rfl : j = (3 : Fin 31) := Fin.ext h0
  on_goal 29 => obtain rfl : j = (2 : Fin 31) := Fin.ext h0
  on_goal 30 => obtain rfl : j = (1 : Fin 31) := Fin.ext h0
  on_goal 31 => obtain rfl : j = (0 : Fin 31) := Fin.ext h0
  all_goals
    pointwise [k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay113, k0_pay112, k0_pay111, k0_pay110, k0_pay109, u_at, dread, shread, part, k0_pay58]

set_option maxHeartbeats 2000000 in
theorem stepB (c : Dev nD) (t : Fin cfg0.N) (h0 : ¬t.val % 16 = 0) (h1 : ¬t.val % 16 = 15) (j : Fin 31) (s : Fin 8) (k : Fin 1024) : (outsAt0 (F := Ideal) m c t.val t.isLt).2.2.2.2.2 (ix3 j s k)
    = (outsAt0 (F := Ideal) m c (t.val - 1) (Nat.lt_of_le_of_lt (Nat.sub_le _ _) t.isLt)).2.2.2.2.2 (ix3 j s k) + part m c t (30 - j.val) s k := by
  rw [outsAt0_B m c t h0 h1]
  frame_out
  rw [dL_eq, shL_eq]
  canon_tiles x h
  all_goals
    idx_vars x
    obtain rfl : x0 = 0 := Subsingleton.elim _ _
    obtain rfl : s = x1 := Fin.ext h1
    obtain rfl : k = x2 := Fin.ext h2
  on_goal 1 => obtain rfl : j = (30 : Fin 31) := Fin.ext h0
  on_goal 2 => obtain rfl : j = (29 : Fin 31) := Fin.ext h0
  on_goal 3 => obtain rfl : j = (28 : Fin 31) := Fin.ext h0
  on_goal 4 => obtain rfl : j = (27 : Fin 31) := Fin.ext h0
  on_goal 5 => obtain rfl : j = (26 : Fin 31) := Fin.ext h0
  on_goal 6 => obtain rfl : j = (25 : Fin 31) := Fin.ext h0
  on_goal 7 => obtain rfl : j = (24 : Fin 31) := Fin.ext h0
  on_goal 8 => obtain rfl : j = (23 : Fin 31) := Fin.ext h0
  on_goal 9 => obtain rfl : j = (22 : Fin 31) := Fin.ext h0
  on_goal 10 => obtain rfl : j = (21 : Fin 31) := Fin.ext h0
  on_goal 11 => obtain rfl : j = (20 : Fin 31) := Fin.ext h0
  on_goal 12 => obtain rfl : j = (19 : Fin 31) := Fin.ext h0
  on_goal 13 => obtain rfl : j = (18 : Fin 31) := Fin.ext h0
  on_goal 14 => obtain rfl : j = (17 : Fin 31) := Fin.ext h0
  on_goal 15 => obtain rfl : j = (16 : Fin 31) := Fin.ext h0
  on_goal 16 => obtain rfl : j = (15 : Fin 31) := Fin.ext h0
  on_goal 17 => obtain rfl : j = (14 : Fin 31) := Fin.ext h0
  on_goal 18 => obtain rfl : j = (13 : Fin 31) := Fin.ext h0
  on_goal 19 => obtain rfl : j = (12 : Fin 31) := Fin.ext h0
  on_goal 20 => obtain rfl : j = (11 : Fin 31) := Fin.ext h0
  on_goal 21 => obtain rfl : j = (10 : Fin 31) := Fin.ext h0
  on_goal 22 => obtain rfl : j = (9 : Fin 31) := Fin.ext h0
  on_goal 23 => obtain rfl : j = (8 : Fin 31) := Fin.ext h0
  on_goal 24 => obtain rfl : j = (7 : Fin 31) := Fin.ext h0
  on_goal 25 => obtain rfl : j = (6 : Fin 31) := Fin.ext h0
  on_goal 26 => obtain rfl : j = (5 : Fin 31) := Fin.ext h0
  on_goal 27 => obtain rfl : j = (4 : Fin 31) := Fin.ext h0
  on_goal 28 => obtain rfl : j = (3 : Fin 31) := Fin.ext h0
  on_goal 29 => obtain rfl : j = (2 : Fin 31) := Fin.ext h0
  on_goal 30 => obtain rfl : j = (1 : Fin 31) := Fin.ext h0
  on_goal 31 => obtain rfl : j = (0 : Fin 31) := Fin.ext h0
  all_goals
    pointwise [k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay113, k0_pay112, k0_pay111, k0_pay110, k0_pay109, u_at, dread, shread, part, Idealize.ShloMosaic.read_unread_whole]

set_option maxHeartbeats 2000000 in
theorem stepC (c : Dev nD) (t : Fin cfg0.N) (h0 : ¬t.val % 16 = 0) (h1 : t.val % 16 = 15) (j : Fin 31) (s : Fin 8) (k : Fin 1024) : (outsAt0 (F := Ideal) m c t.val t.isLt).2.2.2.2.2 (ix3 j s k)
    = (outsAt0 (F := Ideal) m c (t.val - 1) (Nat.lt_of_le_of_lt (Nat.sub_le _ _) t.isLt)).2.2.2.2.2 (ix3 j s k) + part m c t (30 - j.val) s k := by
  rw [outsAt0_C m c t h0 h1]
  frame_out
  rw [dL_eq, shL_eq]
  canon_tiles x h
  all_goals
    idx_vars x
    obtain rfl : x0 = 0 := Subsingleton.elim _ _
    obtain rfl : s = x1 := Fin.ext h1
    obtain rfl : k = x2 := Fin.ext h2
  on_goal 1 => obtain rfl : j = (30 : Fin 31) := Fin.ext h0
  on_goal 2 => obtain rfl : j = (29 : Fin 31) := Fin.ext h0
  on_goal 3 => obtain rfl : j = (28 : Fin 31) := Fin.ext h0
  on_goal 4 => obtain rfl : j = (27 : Fin 31) := Fin.ext h0
  on_goal 5 => obtain rfl : j = (26 : Fin 31) := Fin.ext h0
  on_goal 6 => obtain rfl : j = (25 : Fin 31) := Fin.ext h0
  on_goal 7 => obtain rfl : j = (24 : Fin 31) := Fin.ext h0
  on_goal 8 => obtain rfl : j = (23 : Fin 31) := Fin.ext h0
  on_goal 9 => obtain rfl : j = (22 : Fin 31) := Fin.ext h0
  on_goal 10 => obtain rfl : j = (21 : Fin 31) := Fin.ext h0
  on_goal 11 => obtain rfl : j = (20 : Fin 31) := Fin.ext h0
  on_goal 12 => obtain rfl : j = (19 : Fin 31) := Fin.ext h0
  on_goal 13 => obtain rfl : j = (18 : Fin 31) := Fin.ext h0
  on_goal 14 => obtain rfl : j = (17 : Fin 31) := Fin.ext h0
  on_goal 15 => obtain rfl : j = (16 : Fin 31) := Fin.ext h0
  on_goal 16 => obtain rfl : j = (15 : Fin 31) := Fin.ext h0
  on_goal 17 => obtain rfl : j = (14 : Fin 31) := Fin.ext h0
  on_goal 18 => obtain rfl : j = (13 : Fin 31) := Fin.ext h0
  on_goal 19 => obtain rfl : j = (12 : Fin 31) := Fin.ext h0
  on_goal 20 => obtain rfl : j = (11 : Fin 31) := Fin.ext h0
  on_goal 21 => obtain rfl : j = (10 : Fin 31) := Fin.ext h0
  on_goal 22 => obtain rfl : j = (9 : Fin 31) := Fin.ext h0
  on_goal 23 => obtain rfl : j = (8 : Fin 31) := Fin.ext h0
  on_goal 24 => obtain rfl : j = (7 : Fin 31) := Fin.ext h0
  on_goal 25 => obtain rfl : j = (6 : Fin 31) := Fin.ext h0
  on_goal 26 => obtain rfl : j = (5 : Fin 31) := Fin.ext h0
  on_goal 27 => obtain rfl : j = (4 : Fin 31) := Fin.ext h0
  on_goal 28 => obtain rfl : j = (3 : Fin 31) := Fin.ext h0
  on_goal 29 => obtain rfl : j = (2 : Fin 31) := Fin.ext h0
  on_goal 30 => obtain rfl : j = (1 : Fin 31) := Fin.ext h0
  on_goal 31 => obtain rfl : j = (0 : Fin 31) := Fin.ext h0
  all_goals
    pointwise [k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay113, k0_pay112, k0_pay111, k0_pay110, k0_pay109, u_at, dread, shread, part, Idealize.ShloMosaic.read_unread_whole]

end Cert.OddIdeal.Value

end
-- ==== Proof.Odd.Sums.lean ====
/- The kernel's results are the formulas of `Odd/Spec.lean`: the block of each point, and the sums over all points. -/
module

public import proofs.«01_k».proof.Proof.Odd.Outputs
public import proofs.«01_k».proof.Proof.Odd.Taps

@[expose] public section

set_option maxRecDepth 16384

noncomputable section

namespace Cert.OddIdeal.Value

open Cert.OddIdeal Cert.OddIdeal.Gen Cert.Taps Cert.ActNorm
open Idealize.ShloMosaic Idealize.ShloMosaic.TcCoe Idealize.SL.Sem
open Idealize.ShloMosaic.Pipeline (Dat)
open scoped BigOperators

variable (m : (ℓ : Loc nD τ sig) → Buf (Elt Ideal) ℓ)

/-- The grid's last point. -/
abbrev tEnd : Fin cfg0.N := ⟨15, lt_of_lt_of_eq (by decide) (show 16 = cfg0.N from N_0.symm)⟩

theorem final11 (c : Dev nD) : (dats m 0 c).arrAt 11 (cfgs 0).N = OddSpec.dz (dy m c) (z m c) (w m c) (cb m c) (g m c) (b m c) := by
  refine (dats m 0 c).arrAt_eq_of_covers 11 _ (by decide +kernel) fun t _ y => ?_
  blk_simp
  rw [after0_11]
  idx_vars y
  unfold OddSpec.dz
  refine (block11 m c t y0 y1).trans ?_
  generalize OddSpec.dzAt _ _ _ _ _ _ _ = f
  refine congrArg₂ f (Fin.ext ?_) (Fin.ext ?_)
  · blk_simp [idx t]
  · blk_simp [idx t]

/-! ## The taps -/

theorem stepBC (c : Dev nD) (t : Fin cfg0.N) (h : ¬t.val % 16 = 0) (j : Fin 31) (s : Fin 8) (k : Fin 1024) : (outsAt0 (F := Ideal) m c t.val t.isLt).2.2.2.2.2 (ix3 j s k)
    = (outsAt0 (F := Ideal) m c (t.val - 1) (Nat.lt_of_le_of_lt (Nat.sub_le _ _) t.isLt)).2.2.2.2.2 (ix3 j s k) + part m c t (30 - j.val) s k := by
  by_cases h1 : t.val % 16 = 15
  · exact stepC m c t h h1 j s k
  · exact stepB m c t h h1 j s k

theorem acc_end (c : Dev nD) (j : Fin 31) (s : Fin 8) (k : Fin 1024) : (outsAt0 (F := Ideal) m c tEnd.val tEnd.isLt).2.2.2.2.2 (ix3 j s k)
    = ∑ t : Fin 16, part m c ⟨t.val, lt_of_lt_of_eq t.isLt N_0.symm⟩ (30 - j.val) s k := by
  rw [Pipeline.eq_sum_fin_of_reset_step_apply_last (fun n h => (outsAt0 (F := Ideal) m c n h).2.2.2.2.2) 16 (fun _ => 0)
    (fun t (i : S31x8x1024.Idx) => part m c t (30 - (i 0).val) (i 1) (i 2))
    (fun t h i => by idx_vars i; exact stepA m c t h i0 i1 i2)
    (fun t h i => by idx_vars i; exact stepBC m c t h i0 i1 i2)
    (le_of_eq N_0) tEnd rfl (ix3 j s k), zero_add]
  rfl

/-- A load of a whole buffer reads what its pieces hold. -/
theorem read_whole {κ : Kind} {sp : Space} {S : Shape} {e : EltTy} (v : View sig κ sp S e) (L : List (View.Piece (Elt Ideal) S e)) (off : Fin S.rank → Nat)
    (inb : ∀ a, off a + S.size a ≤ S.size a) (h : ∀ a, off a = 0) : v.readCov L (Rect.unit off S.size inb).toLoadRect = View.canon L := by
  rw [View.readCov_eq_canon']
  exact funext fun j => congrArg (View.canon L) (funext fun a => Fin.ext (by show off a + 1 * (j a).val = (j a).val; rw [h, Nat.zero_add, Nat.one_mul]))

theorem last (c : Dev nD) : (outsAt0 (F := Ideal) m c tEnd.val tEnd.isLt).2.1 = k0_pay1 (F := Ideal) (outsAt0 (F := Ideal) m c tEnd.val tEnd.isLt).2.2.2.2.2 := by
  rw [outsAt0_C m c tEnd (by decide) (by decide)]
  frame_out
  exact congrArg k0_pay1 (read_whole _ _ _ _ (by decide))

theorem dw_sum (c : Dev nD) (j0 : Fin 31) (j1 : Fin 1024) : ∑ s : Fin 8, ∑ t : Fin 16, part m c ⟨t.val, lt_of_lt_of_eq t.isLt N_0.symm⟩ (30 - j0.val) s j1
    = ∑ r, OddSpec.dwTerm (dy m c) (z m c) (w m c) (cb m c) (g m c) (b m c) j0 j1 r := by
  unfold part
  rw [Finset.sum_comm]
  refine (Finset.sum_congr rfl fun t _ => ?_).trans (Fin.sum_mul_add_congr (S := 16) (n := 256) (F := fun t r => dcAt m c (t.val * 256 + r.val + (30 - j0.val)) j1 * OddSpec.u (z m c) ⟨t.val * 256 + r.val, by omega⟩ j1) fun t i hl => rfl)
  rw [Finset.sum_comm]
  exact Fin.sum_mul_add_congr (S := 32) (n := 8) fun q s hl => rfl

theorem final12 (c : Dev nD) : (dats m 0 c).arrAt 12 (cfgs 0).N = OddSpec.dw (dy m c) (z m c) (w m c) (cb m c) (g m c) (b m c) := by
  refine (dats m 0 c).arrAt_eq_of_after_last 12 tEnd (by decide +kernel) _ fun j => ?_
  blk_simp
  rw [after0_12, last]
  idx_vars j
  have e := fun s => acc_end m c j0 s j1
  generalize (outsAt0 (F := Ideal) m c tEnd.val tEnd.isLt).2.2.2.2.2 = A at e ⊢
  pointwise [k0_pay1, OddSpec.dw]
  simp only [e]
  exact dw_sum m c j0 j1

/-! ## The sums over rows -/

theorem col62 (d : Vec Ideal S256x1024 .f32) (acc : Vec Ideal S1x1024 .f32) (j : S1x1024.Idx) :
    k0_pay62 (F := Ideal) d acc j = acc j + ∑ r : Fin 256, k0_pay43 (F := Ideal) d (ix2 r (j 1)) := by
  idx_vars j
  obtain rfl : j0 = 0 := Subsingleton.elim _ _
  pointwise [k0_pay62, k0_pay43]

theorem sum62 (c : Dev nD) (t : Fin cfg0.N) (acc : Vec Ideal S1x1024 .f32) (j : S1x1024.Idx) :
    k0_pay62 (F := Ideal) (dcBlock m c t) acc j = acc j + ∑ r : Fin 256, dcAt m c (t.val * 256 + r.val) (j 1) := by
  exact (col62 _ _ _).trans (congrArg _ (Finset.sum_congr rfl fun r _ => dcBlock_at c t r (j 1)))

theorem zero59 (j : S1x1024.Idx) : k0_pay59 (F := Ideal) j = 0 := by pointwise [k0_pay59]
theorem zero60 (j : S1x1024.Idx) : k0_pay60 (F := Ideal) j = 0 := by pointwise [k0_pay60]
theorem zero61 (j : S1x1024.Idx) : k0_pay61 (F := Ideal) j = 0 := by pointwise [k0_pay61]

theorem final13 (c : Dev nD) : (dats m 0 c).arrAt 13 (cfgs 0).N = OddSpec.dcb (dy m c) (z m c) (w m c) (cb m c) (g m c) (b m c) := by
  refine (dats m 0 c).arrAt_eq_of_after_last 13 tEnd (by decide +kernel) _ fun j => ?_
  blk_simp
  rw [after0_13, Pipeline.eq_sum_fin_of_reset_step_apply_last (fun n h => (outsAt0 (F := Ideal) m c n h).2.2.1) 16 (fun _ => 0)
    (fun t (i : S1x1024.Idx) => ∑ r : Fin 256, dcAt m c (t.val * 256 + r.val) (i 1))
    (fun t h j => by rw [outsAt0_A m c t h (by omega)]; frame_out; rw [sum62, zero59])
    (fun t h j => by
      by_cases h1 : t.val % 16 = 15
      · rw [outsAt0_C m c t h h1]; frame_out; rw [sum62]
      · rw [outsAt0_B m c t h h1]; frame_out; rw [sum62])
    (le_of_eq N_0) tEnd rfl j, zero_add]
  unfold OddSpec.dcb
  exact Fin.sum_mul_add_congr (S := 16) (n := 256) fun t i hl => dif_pos hl

theorem col63 (h x y w : Vec Ideal S256x1024 .f32) (acc : Vec Ideal S1x1024 .f32) (j : S1x1024.Idx) :
    k0_pay63 (F := Ideal) (k0_pay27 h x y w) acc j = acc j + ∑ r : Fin 256, h (ix2 r (j 1)) * k0_pay25 (F := Ideal) x y w (ix2 r (j 1)) := by
  idx_vars j
  obtain rfl : j0 = 0 := Subsingleton.elim _ _
  pointwise [k0_pay63, k0_pay27]

theorem col64 (x y w : Vec Ideal S256x1024 .f32) (acc : Vec Ideal S1x1024 .f32) (j : S1x1024.Idx) :
    k0_pay64 (F := Ideal) (k0_pay26 x y w) acc j = acc j + ∑ r : Fin 256, k0_pay25 (F := Ideal) x y w (ix2 r (j 1)) := by
  idx_vars j
  obtain rfl : j0 = 0 := Subsingleton.elim _ _
  pointwise [k0_pay64, k0_pay26]

theorem sum63 (c : Dev nD) (t : Fin cfg0.N) (acc : Vec Ideal S1x1024 .f32) (j : S1x1024.Idx) :
    k0_pay63 (F := Ideal) (k0_pay27 (k0_pay13 (k0_pay8 (iblk m c 6 t)) (k0_pay12 (iblk m c 6 t))) (k0_pay15 (iblk m c 9 t) (iblk m c 10 t) (k0_pay8 (iblk m c 6 t)) (k0_pay12 (iblk m c 6 t)))
    (k0_pay23 (iblk m c 4 t) (iblk m c 9 t) (iblk m c 10 t) (k0_pay8 (iblk m c 6 t)) (k0_pay12 (iblk m c 6 t)) (iblk m c 0 t))
    (k0_pay24 (iblk m c 4 t) (iblk m c 9 t) (iblk m c 10 t) (k0_pay8 (iblk m c 6 t)) (k0_pay12 (iblk m c 6 t)) (iblk m c 0 t))) acc j
      = acc j + ∑ r : Fin 256, OddSpec.dgTerm (dy m c) (z m c) (w m c) (cb m c) (g m c) (b m c) (j 1) (row t r) := by
  refine (col63 _ _ _ _ _ _).trans (congrArg _ (Finset.sum_congr rfl fun r _ => ?_))
  refine congrArg₂ (· * ·) ((hat13 _ r (j 1)).trans ?_) ((dnorm25 _ _ _ _ _ r (j 1)).trans (dnorm_at c t r (j 1)))
  exact congrArg (fun x => hat x (j 1)) (funext fun l => blk6 c t r l)

theorem sum64 (c : Dev nD) (t : Fin cfg0.N) (acc : Vec Ideal S1x1024 .f32) (j : S1x1024.Idx) :
    k0_pay64 (F := Ideal) (k0_pay26 (k0_pay15 (iblk m c 9 t) (iblk m c 10 t) (k0_pay8 (iblk m c 6 t)) (k0_pay12 (iblk m c 6 t)))
    (k0_pay23 (iblk m c 4 t) (iblk m c 9 t) (iblk m c 10 t) (k0_pay8 (iblk m c 6 t)) (k0_pay12 (iblk m c 6 t)) (iblk m c 0 t))
    (k0_pay24 (iblk m c 4 t) (iblk m c 9 t) (iblk m c 10 t) (k0_pay8 (iblk m c 6 t)) (k0_pay12 (iblk m c 6 t)) (iblk m c 0 t))) acc j
      = acc j + ∑ r : Fin 256, OddSpec.dnorm (OddSpec.row (dy m c)) (OddSpec.convs (z m c) (w m c) (cb m c)) (z m c) (g m c) (b m c) (row t r) (j 1) :=
  (col64 _ _ _ _ _).trans (congrArg _ (Finset.sum_congr rfl fun r _ => (dnorm25 _ _ _ _ _ r (j 1)).trans (dnorm_at c t r (j 1))))

theorem final14 (c : Dev nD) : (dats m 0 c).arrAt 14 (cfgs 0).N = OddSpec.dg (dy m c) (z m c) (w m c) (cb m c) (g m c) (b m c) := by
  refine (dats m 0 c).arrAt_eq_of_after_last 14 tEnd (by decide +kernel) _ fun j => ?_
  blk_simp
  rw [after0_14, Pipeline.eq_sum_fin_of_reset_step_apply_last (fun n h => (outsAt0 (F := Ideal) m c n h).2.2.2.1) 16 (fun _ => 0)
    (fun t (i : S1x1024.Idx) => ∑ r : Fin 256, OddSpec.dgTerm (dy m c) (z m c) (w m c) (cb m c) (g m c) (b m c) (i 1) (row t r))
    (fun t h j => by rw [outsAt0_A m c t h (by omega)]; frame_out; rw [sum63, zero60])
    (fun t h j => by
      by_cases h1 : t.val % 16 = 15
      · rw [outsAt0_C m c t h h1]; frame_out; rw [sum63]
      · rw [outsAt0_B m c t h h1]; frame_out; rw [sum63])
    (le_of_eq N_0) tEnd rfl j, zero_add]
  unfold OddSpec.dg
  exact Fin.sum_mul_add_congr (S := 16) (n := 256) fun t i hl => rfl

theorem final15 (c : Dev nD) : (dats m 0 c).arrAt 15 (cfgs 0).N = OddSpec.db (dy m c) (z m c) (w m c) (cb m c) (g m c) (b m c) := by
  refine (dats m 0 c).arrAt_eq_of_after_last 15 tEnd (by decide +kernel) _ fun j => ?_
  blk_simp
  rw [after0_15, Pipeline.eq_sum_fin_of_reset_step_apply_last (fun n h => (outsAt0 (F := Ideal) m c n h).2.2.2.2.1) 16 (fun _ => 0)
    (fun t (i : S1x1024.Idx) => ∑ r : Fin 256, OddSpec.dnorm (OddSpec.row (dy m c)) (OddSpec.convs (z m c) (w m c) (cb m c)) (z m c) (g m c) (b m c) (row t r) (i 1))
    (fun t h j => by rw [outsAt0_A m c t h (by omega)]; frame_out; rw [sum64, zero61])
    (fun t h j => by
      by_cases h1 : t.val % 16 = 15
      · rw [outsAt0_C m c t h h1]; frame_out; rw [sum64]
      · rw [outsAt0_B m c t h h1]; frame_out; rw [sum64])
    (le_of_eq N_0) tEnd rfl j, zero_add]
  unfold OddSpec.db
  exact Fin.sum_mul_add_congr (S := 16) (n := 256) fun t i hl => rfl

/-! ## The run -/

theorem run_results (ρ : Dev nD → PrngReg) : θ_run defs (onTc (τ := τ) (main (F := Ideal))) ⟨m, fun _ => 0, ρ⟩ fun r => ∀ c : Dev nD,
      r.2.mem ((c.tc : Thread nD τ).loc main_v33_0) = OddSpec.dz (dy m c) (z m c) (w m c) (cb m c) (g m c) (b m c)
      ∧ r.2.mem ((c.tc : Thread nD τ).loc main_v33_1) = OddSpec.dw (dy m c) (z m c) (w m c) (cb m c) (g m c) (b m c)
      ∧ r.2.mem ((c.tc : Thread nD τ).loc main_v33_2) = OddSpec.dcb (dy m c) (z m c) (w m c) (cb m c) (g m c) (b m c)
      ∧ r.2.mem ((c.tc : Thread nD τ).loc main_v33_3) = OddSpec.dg (dy m c) (z m c) (w m c) (cb m c) (g m c) (b m c)
      ∧ r.2.mem ((c.tc : Thread nD τ).loc main_v33_4) = OddSpec.db (dy m c) (z m c) (w m c) (cb m c) (g m c) (b m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 11).trans (final11 m c), ((h.1 c).1 12).trans (final12 m c), ((h.1 c).1 13).trans (final13 m c),
    ((h.1 c).1 14).trans (final14 m c), ((h.1 c).1 15).trans (final15 m c), h.2 c⟩)
    (θ_run_and (run_main m ρ) (unchanged m ρ))

end Cert.OddIdeal.Value

end
-- ==== Proof.Odd.Reference.lean ====
/- The reference's results are the formulas of `Odd/Spec.lean`. -/
module

public import proofs.«01_k».proof.Proof.Gen.OddRefIdeal.Run
public import Idealize.ShloMosaic.Lib.Pipeline.Value
public import proofs.«01_k».proof.Proof.Odd.Spec

@[expose] public section

set_option maxRecDepth 16384

noncomputable section

namespace Cert.OddRefIdeal.Value

open Cert.OddRefIdeal Cert.OddRefIdeal.Gen Cert.Taps Cert.Silu Cert.ActNorm
open Idealize.ShloMosaic Idealize.ShloMosaic.TcCoe Idealize.SL.Sem
open scoped BigOperators

section Lines

variable (V0 : Valuation τ sig (Elt Ideal))

/-- The arguments. -/
abbrev dyV : Vec Ideal S4096x1024 .f32 := V0 (Proc.devRef .tc main_arg0)
abbrev zV : Vec Ideal S4096x3072 .f32 := V0 (Proc.devRef .tc main_arg1)
abbrev wV : Vec Ideal S31x1024 .f32 := V0 (Proc.devRef .tc main_arg2)
abbrev cbV : Vec Ideal S1x1024 .f32 := V0 (Proc.devRef .tc main_arg3)
abbrev gV : Vec Ideal S1x1024 .f32 := V0 (Proc.devRef .tc main_arg4)
abbrev bV : Vec Ideal S1x1024 .f32 := V0 (Proc.devRef .tc main_arg5)

/-- The convolution's row `i`, and its cotangent. -/
abbrev xV (i : Fin 4096) : Line := OddSpec.conv (zV V0) (wV V0) (cbV V0) i
abbrev dcV (i : Fin 4096) : Line := OddSpec.dconv (OddSpec.row (dyV V0)) (xV V0) (zV V0) (gV V0) (bV V0) i

theorem val_at (i : Fin 4096) (k : Fin 1024) : res_main_v0 V0 (ix2 i k) = OddSpec.val (zV V0) i k := by
  pointwise [res_main_v0]

theorem gate_at (i : Fin 4096) (k : Fin 1024) : res_main_v2 V0 (ix2 i k) = OddSpec.gate (zV V0) i k := by
  pointwise [res_main_v2]

theorem sig_at (i : Fin 4096) (k : Fin 1024) : res_main_v8 V0 (ix2 i k) = Silu.logistic (OddSpec.glu (zV V0) i k) := by
  pointwise [res_main_v8, Silu.logistic]

theorem tap_at (j : Fin 31) (t s : Fin 4096) : res_main_v28 V0 (ix3 j t s) = if t.val = s.val + (30 - j.val) then (1 : EReal) else (0 : EReal) := by
  pointwise [res_main_v28]
  rw [show IntOp.cmpi CmpIPredicate.eq (IntOp.subi (BitVec.ofNat 32 t.val) (BitVec.ofNat 32 s.val)) (IntOp.subi 30#32 (BitVec.ofNat 32 j.val)) = _
    from indicator (by norm_num) (by norm_num) 30 rfl j t s]
  by_cases h : t.val = s.val + (30 - j.val)
  · simp only [h, decide_true, if_true]; exact Cert.Taps.ofBool_true
  · simp only [h, decide_false, if_false]; exact Cert.Taps.ofBool_false

theorem coef_at (t s : Fin 4096) (k : Fin 1024) :
    res_main_v29 V0 (ix3 t s k) = ∑ j : Fin 31, (if t.val = s.val + (30 - j.val) then 1 else 0) * wV V0 (ix2 j k) := by
  pointwise [res_main_v29, tap_at]

theorem u_at (i : Fin 4096) (k : Fin 1024) : res_main_v30 V0 (ix3 0 i k) = OddSpec.u (zV V0) i k := by
  pointwise [res_main_v30, val_at, sig_at, OddSpec.u]

/-- No two taps read through the same delay. -/
theorem delays : Function.Injective fun j : Fin 31 => 30 - j.val := fun a b h =>
  Fin.ext (by have := a.isLt; have := b.isLt; simp only at h; omega)

theorem conv_at (i : Fin 4096) (k : Fin 1024) : res_main_v35 V0 (ix2 i k) = xV V0 i k := by
  pointwise [res_main_v35, coef_at, u_at]
  exact congrArg₂ (fun a b : EReal => a + b) (Taps.conv _ delays (fun j => wV V0 (ix2 j k)) (fun s => OddSpec.u (zV V0) s k) i) rfl

theorem dev_at (i : Fin 4096) (k : Fin 1024) : res_main_v41 V0 (ix2 i k) = dev (xV V0 i) k := by
  pointwise [res_main_v41, res_main_v39, conv_at, dev]

theorem dev'_at (i : Fin 4096) (k : Fin 1024) : res_main_v50 V0 (ix2 i k) = dev (xV V0 i) k := dev_at V0 i k

theorem var_at (i : Fin 4096) : res_main_v52 V0 (ix2 i 0) = var (xV V0 i) := by
  pointwise [res_main_v52, dev_at, var]

theorem root_at (i : Fin 4096) : res_main_v53 V0 (ix2 i 0) = Ideal.rsqrt (var (xV V0 i)) := by
  pointwise [res_main_v53, var_at]

theorem hat_at (i : Fin 4096) (k : Fin 1024) : res_main_v58 V0 (ix2 i k) = hat (xV V0 i) k := by
  pointwise [res_main_v58, dev'_at, root_at, hat]

theorem pre_at (i : Fin 4096) (k : Fin 1024) : res_main_v62 V0 (ix2 i k) = pre (xV V0 i) (OddSpec.row (gV V0) 0) (OddSpec.row (bV V0) 0) k := by
  pointwise [res_main_v62, hat_at, pre]

theorem sigP_at (i : Fin 4096) (k : Fin 1024) : res_main_v63_2 V0 (ix2 i k) = Silu.logistic (pre (xV V0 i) (OddSpec.row (gV V0) 0) (OddSpec.row (bV V0) 0) k) := by
  pointwise [res_main_v63_2, pre_at, Silu.logistic]

theorem sigG_at (i : Fin 4096) (k : Fin 1024) : res_main_v64_2 V0 (ix2 i k) = Silu.logistic (OddSpec.gate (zV V0) i k) := by
  pointwise [res_main_v64_2, gate_at, Silu.logistic]

theorem dnorm_at (i : Fin 4096) (k : Fin 1024) : res_main_v69 V0 (ix2 i k) = OddSpec.dnorm (OddSpec.row (dyV V0)) (xV V0) (zV V0) (gV V0) (bV V0) i k := by
  pointwise [res_main_v69, res_main_v67, res_main_v64_0, sigP_at, sigG_at, pre_at, gate_at, OddSpec.dnorm, through, silu]

theorem gained_at (i : Fin 4096) (k : Fin 1024) : res_main_v76 V0 (ix2 i k)
    = OddSpec.dnorm (OddSpec.row (dyV V0)) (xV V0) (zV V0) (gV V0) (bV V0) i k * gV V0 (ix2 0 k) := by
  pointwise [res_main_v76, dnorm_at]

theorem direct_at (i : Fin 4096) (k : Fin 1024) : res_main_v81 V0 (ix2 i k)
    = direct (xV V0 i) (fun l => OddSpec.dnorm (OddSpec.row (dyV V0)) (xV V0) (zV V0) (gV V0) (bV V0) i l * gV V0 (ix2 0 l)) k := by
  pointwise [res_main_v81, gained_at, root_at, direct]

theorem spread_at (i : Fin 4096) (k : Fin 1024) : res_main_v90 V0 (ix2 i k)
    = spread (xV V0 i) (fun l => OddSpec.dnorm (OddSpec.row (dyV V0)) (xV V0) (zV V0) (gV V0) (bV V0) i l * gV V0 (ix2 0 l)) k := by
  pointwise [res_main_v90, gained_at, dev_at, dev'_at, spread]
  simp only [Fin.sum_univ_one, root_at, var_at]

theorem dconv_at (i : Fin 4096) (k : Fin 1024) : res_main_v100 V0 (ix2 i k) = dcV V0 i k := by
  pointwise [res_main_v100, direct_at, spread_at, OddSpec.dconv, grad]
  simp only [Fin.sum_univ_one]

theorem dconv'_at (t s : Fin 4096) (k : Fin 1024) : res_main_v103 V0 (ix3 t s k) = dcV V0 t k := by
  pointwise [res_main_v103, dconv_at]

theorem du_at (i : Fin 4096) (k : Fin 1024) : res_main_v109 V0 (ix2 i k) = OddSpec.du (dcV V0) (wV V0) i k := by
  pointwise [res_main_v109, coef_at, dconv'_at]
  simp only [Fin.sum_univ_one]
  exact Taps.conv_transpose _ delays (fun j => wV V0 (ix2 j k)) (fun t => dcV V0 t k) i

end Lines

variable (m : (ℓ : Loc nD τ sig) → Buf (Elt Ideal) ℓ) (ρ : Dev nD → PrngReg)

/-- What the reference leaves in its results, with the arguments as they were. -/
theorem run_spec : θ_run defs (onTc (τ := τ) (main (F := Ideal))) ⟨m, fun _ => 0, ρ⟩ fun r => ∀ c : Dev nD,
      r.2.mem ((c.tc : Thread nD τ).loc main_v116) = OddSpec.dz (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v111) = OddSpec.dw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v102) = OddSpec.dcb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v74) = OddSpec.dg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v71) = OddSpec.db (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2⟩) (run m ρ)
  · funext j
    idx_vars j
    pointwise [du_at, val_at, sig_at, pre_at, gate_at, sigG_at, res_main_v66, res_main_v63_0, sigP_at, OddSpec.dz, OddSpec.dzAt, OddSpec.dval, OddSpec.dglu, OddSpec.dgate, through, silu]
    simp only [Nat.sub_sub, Nat.reduceAdd]
    by_cases h1 : j1.val < 1024
    · rw [dif_pos h1, dif_pos h1]
    rw [dif_neg h1, dif_neg h1]
    by_cases h2 : j1.val < 2048
    · rw [dif_pos (by omega), dif_pos h2]
    · rw [dif_neg (by omega), dif_neg h2]
  · funext j
    idx_vars j
    pointwise [dconv'_at, u_at, tap_at, OddSpec.dw]
    exact tap_grad_ahead _ (fun t => dcV (StableHlo.launchContents m c) t j1) (fun s => OddSpec.u (zV (StableHlo.launchContents m c)) s j1)
  · funext j
    idx_vars j
    pointwise [dconv_at, OddSpec.dcb]
  · funext j
    idx_vars j
    pointwise [hat_at, dnorm_at, OddSpec.dg]
  · funext j
    idx_vars j
    pointwise [dnorm_at, OddSpec.db]

end Cert.OddRefIdeal.Value

end
-- ==== Proof.Odd.Claims.lean ====
/- The claims about the long convolution's backward call: its frames, and its five results against the reference's. -/
module

public import proofs.«01_k».proof.Defs
public import proofs.«01_k».proof.Proof.Gen.Odd.Frame
public import proofs.«01_k».proof.Proof.Odd.Sums
public import proofs.«01_k».proof.Proof.Odd.Reference
public import Idealize.ShloMosaic.Lib.Claim

@[expose] public section

set_option maxRecDepth 16384

noncomputable section

namespace Cert.OddClaims

open Idealize.ShloMosaic Idealize.SL.Sem

theorem frame_bits : Cert.quiescent_Odd := fun m ρ _ => Cert.Odd.Gen.frame m ρ

theorem frame_ideal : Cert.quiescent_OddIdeal := fun m ρ _ => Cert.OddIdeal.Gen.frame m ρ

theorem frame_ref : Cert.quiescent_OddRefIdeal := fun m ρ _ =>
  (θ_run Cert.OddRefIdeal.defs _ _).mono (fun _ h => ⟨fun c => (h c).2.2.2.2.2, sem_eq_zero_of_no_sems rfl _⟩)
    (Cert.OddRefIdeal.Value.run_spec m ρ)

theorem value : Cert.algebraic_OddIdeal_OddRefIdeal := by
  intro m g m' g' _ ha
  refine ⟨_, _, _, _, _, Cert.OddIdeal.Value.run_results m g, (θ_run Cert.OddRefIdeal.defs _ _).mono (fun r h c => ?_)
    (Cert.OddRefIdeal.Value.run_spec m' g')⟩
  obtain ⟨a0, a1, a2, a3, a4, a5⟩ := ha c
  have h := h c
  rw [a0, a1, a2, a3, a4, a5] at h
  exact ⟨h.1, h.2.1, h.2.2.1, h.2.2.2.1, h.2.2.2.2.1, h.2.2.2.2.2.1.trans a0.symm, h.2.2.2.2.2.2.1.trans a1.symm, h.2.2.2.2.2.2.2.1.trans a2.symm,
    h.2.2.2.2.2.2.2.2.1.trans a3.symm, h.2.2.2.2.2.2.2.2.2.1.trans a4.symm, h.2.2.2.2.2.2.2.2.2.2.trans a5.symm⟩

end Cert.OddClaims

end
-- ==== Proof.Mla.Spec.lean ====
/- The gradients of the latent projections before attention: the rotation, two projections and their two row norms. -/
module

public import Idealize.ShloMosaic.Lib.Pointwise
public import Idealize.ShloMosaic.PureOps.Ideal.Laws

@[expose] public section

noncomputable section

namespace Cert.MlaSpec

open Idealize.ShloMosaic
open scoped BigOperators

abbrev Mat (a b : Nat) := Shape.Idx ⟨2, ![a, b]⟩ → EReal
abbrev Cube (a b c : Nat) := Shape.Idx ⟨3, ![a, b, c]⟩ → EReal

/-! ## A row over its root mean square, of any width -/

section Norm

variable {n : Nat} (len : EReal) (y w : Fin n → EReal)

/-- The mean square of a row of length `len`, with the constant that keeps it from zero. -/
def power : EReal := Ideal.div (∑ l, y l * y l) len + Ideal.ofBits .f32 0x358637BD#32

def unit (k : Fin n) : EReal := y k * Ideal.rsqrt (power len y)

/-- What every entry owes to the mean square. -/
def shared : EReal :=
  Ideal.div ((∑ l, y l * w l) * (Ideal.ofBits .f32 0xBF000000#32 * Ideal.div (Ideal.rsqrt (power len y)) (power len y))) len

/-- The derivative in the row, at a cotangent of `unit`. -/
def grad (k : Fin n) : EReal := w k * Ideal.rsqrt (power len y) + y k * shared len y w + shared len y w * y k

end Norm

/-! ## The rotation's transpose, on 128 lanes of which 64 … 95 rotate -/

def turn (g c s : Fin 128 → EReal) (l : Fin 128) : EReal :=
  g l * c l + if 64 ≤ l.val ∧ l.val < 80 then g (l + 16) * s (l + 16)
    else if 80 ≤ l.val ∧ l.val < 96 then -(g (l - 16) * s (l - 16)) else 0

/-! ## Rows of fewer entries on 128 lanes -/

/-- `f` on the first lanes, zero on the others. -/
def lanes {n : Nat} (f : Fin n → EReal) (l : Fin 128) : EReal := if h : l.val < n then f ⟨l.val, h⟩ else 0

/-- A head's values on its own half. -/
def own (h : Nat) (f : Fin 64 → EReal) (l : Fin 128) : EReal :=
  if a : l.val < 64 then (if h % 2 = 1 then 0 else f ⟨l.val, a⟩) else if h % 2 = 1 then f ⟨l.val - 64, by omega⟩ else 0

def cosLanes (c : Fin 16 → EReal) (l : Fin 128) : EReal :=
  if l.val < 64 then 1 else if h : l.val - 64 < 16 then c ⟨l.val - 64, h⟩ else if h : l.val - 64 - 16 < 16 then c ⟨l.val - 64 - 16, h⟩ else 0

def sinLanes (s : Fin 16 → EReal) (l : Fin 128) : EReal :=
  if l.val < 64 then 0 else if h : l.val - 64 < 16 then s ⟨l.val - 64, h⟩ else if h : l.val - 64 - 16 < 16 then s ⟨l.val - 64 - 16, h⟩ else 0

/-- The rotation's transpose on the 96 lanes of a head. -/
def turned (g : Fin 96 → EReal) (c s : Fin 16 → EReal) (j : Fin 96) : EReal :=
  if j.val < 64 then g j
  else if h : j.val - 64 < 16 then g ⟨j.val + 16, by omega⟩ * s ⟨j.val - 64, h⟩ + g j * c ⟨j.val - 64, h⟩
  else g j * c ⟨j.val - 64 - 16, by omega⟩ + -g ⟨j.val - 16, by omega⟩ * s ⟨j.val - 64 - 16, by omega⟩

theorem turn_lanes (g : Fin 96 → EReal) (c s : Fin 16 → EReal) (l : Fin 128) :
    turn (lanes g) (cosLanes c) (sinLanes s) l = lanes (turned g c s) l := by
  have up : l.val < 112 → (l + 16).val = l.val + 16 := fun h => by show (l.val + 16) % 128 = _; omega
  have dn : 16 ≤ l.val → (l - 16).val = l.val - 16 := fun h => by show (128 - 16 + l.val) % 128 = _; omega
  unfold turn lanes turned cosLanes sinLanes
  by_cases h1 : l.val < 64
  · rw [dif_pos (by omega), if_pos h1, if_neg (by omega), if_neg (by omega), mul_one, add_zero, dif_pos (by omega), if_pos h1]
  · by_cases h2 : l.val < 80
    · simp only [up (by omega)]
      rw [dif_pos (by omega), if_neg h1, dif_pos (by omega), if_pos (by omega), dif_pos (by omega), if_neg (by omega), dif_neg (by omega), dif_pos (by omega),
        dif_pos (by omega), if_neg h1, dif_pos (by omega), add_comm]
      simp only [show l.val + 16 - 64 - 16 = l.val - 64 by omega]
    · by_cases h3 : l.val < 96
      · simp only [dn (by omega)]
        rw [dif_pos (by omega), if_neg h1, dif_neg (by omega), dif_pos (by omega), if_neg (by omega), if_pos (by omega), dif_pos (by omega), if_neg (by omega),
          dif_pos (by omega), dif_pos (by omega), if_neg h1, dif_neg (by omega), EReal.neg_mul]
        simp only [show l.val - 16 - 64 = l.val - 64 - 16 by omega]
      · rw [dif_neg (by omega), if_neg (by omega), if_neg (by omega), dif_neg (by omega), zero_mul, if_neg (by omega), dif_neg (by omega), add_zero]

theorem sum_halves (f : Fin 128 → EReal) : ∑ l, f l = (∑ j : Fin 64, f ⟨j.val, by omega⟩) + ∑ j : Fin 64, f ⟨64 + j.val, by omega⟩ :=
  Fin.sum_univ_add (a := 64) (b := 64) f

theorem sum_lanes96 (f g : Fin 96 → EReal) : ∑ l, lanes f l * lanes g l = ∑ j, f j * g j := by
  have e : ∀ F : Fin 128 → EReal, ∑ l, F l = (∑ j : Fin 96, F ⟨j.val, by omega⟩) + ∑ j : Fin 32, F ⟨96 + j.val, by omega⟩ := Fin.sum_univ_add (a := 96) (b := 32)
  rw [e]
  refine (congrArg₂ _ (Finset.sum_congr rfl fun j _ => ?_) (Finset.sum_eq_zero fun j _ => ?_)).trans (add_zero _)
  · unfold lanes; rw [dif_pos (show j.val < 96 from j.isLt), dif_pos (show j.val < 96 from j.isLt)]
  · unfold lanes; rw [dif_neg (show ¬ 96 + j.val < 96 by omega), zero_mul]

theorem sum_lanes64 (f : Fin 96 → EReal) (g : Fin 64 → EReal) : ∑ l, lanes f l * lanes g l = ∑ j : Fin 64, f ⟨j.val, by omega⟩ * g j := by
  rw [sum_halves]
  refine (congrArg₂ _ (Finset.sum_congr rfl fun j _ => ?_) (Finset.sum_eq_zero fun j _ => ?_)).trans (add_zero _)
  · unfold lanes; rw [dif_pos (show j.val < 96 by omega), dif_pos (show j.val < 64 from j.isLt)]
  · unfold lanes; rw [dif_neg (show ¬ 64 + j.val < 64 by omega), mul_zero]

theorem sum_own (h : Nat) (f g : Fin 64 → EReal) : ∑ l, own h f l * own h g l = ∑ j, f j * g j := by
  have lo : ∀ (f : Fin 64 → EReal) (j : Fin 64), own h f ⟨j.val, by omega⟩ = if h % 2 = 1 then 0 else f j := fun f j => by
    unfold own; rw [dif_pos (show j.val < 64 from j.isLt)]
  have hi : ∀ (f : Fin 64 → EReal) (j : Fin 64), own h f ⟨64 + j.val, by omega⟩ = if h % 2 = 1 then f j else 0 := fun f j => by
    unfold own; rw [dif_neg (show ¬ 64 + j.val < 64 by omega)]; congr 2; exact Fin.ext (by show 64 + j.val - 64 = j.val; omega)
  rw [sum_halves]
  simp only [lo, hi]
  by_cases e : h % 2 = 1
  · simp only [if_pos e, mul_zero, Finset.sum_const_zero, zero_add]
  · simp only [if_neg e, mul_zero, Finset.sum_const_zero, add_zero]

/-! ## The results -/

/-- The two rows' lengths. -/
abbrev n256 : EReal := Ideal.ofBits .f32 0x43800000#32
abbrev n128 : EReal := Ideal.ofBits .f32 0x43000000#32

section Results

variable (dz : Mat 4096 3072) (dq dk : Cube 8 4096 96) (dv : Cube 8 4096 64) (z : Mat 4096 2976)
  (co si : Mat 4096 16) (gq : Mat 1 256) (gk : Mat 1 128) (wq : Mat 256 768) (wkv : Mat 128 1024)

/-- A row of each of the latent projections. -/
def latQ (r : Fin 4096) (i : Fin 256) : EReal := z (ix2 r ⟨2048 + i.val, by omega⟩)
def latK (r : Fin 4096) (i : Fin 128) : EReal := z (ix2 r ⟨2304 + i.val, by omega⟩)

/-- A head's query cotangent, rotated back. -/
def dqt (h : Fin 8) (r : Fin 4096) : Fin 96 → EReal := turned (fun j => dq (ix3 h r j)) (fun i => co (ix2 r i)) (fun i => si (ix2 r i))

/-- The rotated key's cotangent, over the heads, rotated back. -/
def dkr (r : Fin 4096) : Fin 96 → EReal :=
  turned (fun j => if 64 ≤ j.val then ∑ h : Fin 8, dk (ix3 h r j) else 0) (fun i => co (ix2 r i)) (fun i => si (ix2 r i))

/-- The cotangents of the two normed rows. -/
def dcq (r : Fin 4096) (i : Fin 256) : EReal := ∑ h : Fin 8, ∑ j : Fin 96, dqt dq co si h r j * wq (ix2 i ⟨h.val * 96 + j.val, by omega⟩)
def dck (r : Fin 4096) (i : Fin 128) : EReal :=
  ∑ h : Fin 8, ((∑ j : Fin 64, dk (ix3 h r ⟨j.val, by omega⟩) * wkv (ix2 i ⟨h.val * 128 + j.val, by omega⟩))
    + ∑ j : Fin 64, dv (ix3 h r j) * wkv (ix2 i ⟨h.val * 128 + (64 + j.val), by omega⟩))

def dzAt (r : Fin 4096) (k : Fin 3072) : EReal :=
  if k.val < 2048 then dz (ix2 r k)
  else if h : k.val - 2048 < 256 then grad n256 (latQ z r) (fun i => dcq dq co si wq r i * gq (ix2 0 i)) ⟨k.val - 2048, h⟩
  else if h : k.val - 2048 - 256 < 128 then grad n128 (latK z r) (fun i => dck dk dv wkv r i * gk (ix2 0 i)) ⟨k.val - 2048 - 256, h⟩
  else if h : k.val - 2048 - 256 - 128 < 128 then lanes (dkr dk co si r) ⟨k.val - 2048 - 256 - 128, h⟩
  else dz (ix2 r k)

def dqgAt (i : Fin 256) : EReal := ∑ r : Fin 4096, unit n256 (latQ z r) i * dcq dq co si wq r i
def dkgAt (i : Fin 128) : EReal := ∑ r : Fin 4096, unit n128 (latK z r) i * dck dk dv wkv r i

/-- A row of a head's three weight gradients, one under the other. -/
def dwAt (h : Fin 8) (q : Fin 512) (l : Fin 128) : EReal :=
  if a : q.val < 256 then ∑ r : Fin 4096, unit n256 (latQ z r) ⟨q.val, a⟩ * gq (ix2 0 ⟨q.val, a⟩) * lanes (dqt dq co si h r) l
  else if a : q.val - 256 < 128 then ∑ r : Fin 4096, unit n128 (latK z r) ⟨q.val - 256, a⟩ * gk (ix2 0 ⟨q.val - 256, a⟩) * lanes (fun j : Fin 96 => dk (ix3 h r j)) l
  else ∑ r : Fin 4096, unit n128 (latK z r) ⟨q.val - 256 - 128, by omega⟩ * gk (ix2 0 ⟨q.val - 256 - 128, by omega⟩) * own h.val (fun j => dv (ix3 h r j)) l

end Results

end Cert.MlaSpec

end
-- ==== Proof.Mla.Rows.lean ====
/- What the call computes from one block of 512 rows: the rotation's transpose head by head, the three matrices of all heads' cotangents, and the two normed rows. -/
module

public import proofs.«01_k».proof.Proof.Gen.MlaIdeal.Frame
public import Idealize.ShloMosaic.Lib.Pipeline.Value
public import Idealize.ShloMosaic.Lib.Pipeline.ValueKit
public import proofs.«01_k».proof.Proof.Mla.Spec

@[expose] public section

set_option maxRecDepth 16384

noncomputable section

namespace Cert.MlaIdeal.Value

open Cert.MlaIdeal Cert.MlaIdeal.Gen Cert.MlaSpec
open Idealize.ShloMosaic Idealize.ShloMosaic.TcCoe Idealize.SL.Sem
open scoped BigOperators

/-! ## Which lanes rotate, as the kernel's words say it -/

theorem lanes_all : ∀ l : Fin 128, IntOp.andi (IntOp.cmpi CmpIPredicate.sge (BitVec.ofNat 32 l.val) 64#32) (IntOp.cmpi CmpIPredicate.slt (BitVec.ofNat 32 l.val) 96#32)
    = if 64 ≤ l.val ∧ l.val < 96 then 1#1 else 0#1 := by decide +kernel

theorem lanes_lower : ∀ l : Fin 128, IntOp.andi (IntOp.cmpi CmpIPredicate.sge (BitVec.ofNat 32 l.val) 64#32) (IntOp.cmpi CmpIPredicate.slt (BitVec.ofNat 32 l.val) 80#32)
    = if 64 ≤ l.val ∧ l.val < 80 then 1#1 else 0#1 := by decide +kernel

theorem lanes_upper : ∀ l : Fin 128, IntOp.andi (IntOp.cmpi CmpIPredicate.sge (BitVec.ofNat 32 l.val) 80#32) (IntOp.cmpi CmpIPredicate.slt (BitVec.ofNat 32 l.val) 96#32)
    = if 80 ≤ l.val ∧ l.val < 96 then 1#1 else 0#1 := by decide +kernel

theorem select_ite (p : Prop) [Decidable p] (a b : EReal) : Scalar.select (if p then 1#1 else 0#1) a b = if p then a else b := by
  by_cases h : p
  · rw [if_pos h, if_pos h]; rfl
  · rw [if_neg h, if_neg h]; rfl

theorem ahead16 (l : Fin 128) (h : (l.val + 128 - 112) % 128 < 128) : (⟨(l.val + 128 - 112) % 128, h⟩ : Fin 128) = l + 16 :=
  Fin.ext (by show (l.val + 128 - 112) % 128 = (l.val + 16) % 128; omega)

theorem back16 (l : Fin 128) (h : (l.val + 128 - 16) % 128 < 128) : (⟨(l.val + 128 - 16) % 128, h⟩ : Fin 128) = l - 16 :=
  Fin.ext (by show (l.val + 128 - 16) % 128 = (128 - 16 + l.val) % 128; omega)

/-- Eight blocks of 128 lanes side by side: lane `h * 128 + l` is lane `l` of block `h`. -/
theorem beside {α : Type} (F : Fin 8 → Fin 128 → α) (h : Fin 8) (l : Fin 128) (j : Nat) (hj : j = h.val * 128 + l.val) (hl : j < 1024) :
    (if h : j < 128 then F 0 ⟨j, h⟩
      else if h : j - 128 < 128 then F 1 ⟨j - 128, h⟩
      else if h : j - 128 - 128 < 128 then F 2 ⟨j - 128 - 128, h⟩
      else if h : j - 128 - 128 - 128 < 128 then F 3 ⟨j - 128 - 128 - 128, h⟩
      else if h : j - 128 - 128 - 128 - 128 < 128 then F 4 ⟨j - 128 - 128 - 128 - 128, h⟩
      else if h : j - 128 - 128 - 128 - 128 - 128 < 128 then F 5 ⟨j - 128 - 128 - 128 - 128 - 128, h⟩
      else if h : j - 128 - 128 - 128 - 128 - 128 - 128 < 128 then F 6 ⟨j - 128 - 128 - 128 - 128 - 128 - 128, h⟩
      else F 7 ⟨j - 128 - 128 - 128 - 128 - 128 - 128 - 128, by omega⟩) = F h l := by
  have hl := l.isLt
  have e : ∀ (a : Nat) (ha : a < 128), a = l.val → (⟨a, ha⟩ : Fin 128) = l := fun a ha h => Fin.ext h
  match h, hj with
  | ⟨0, _⟩, hj => simp only at hj; rw [dif_pos (by omega), e _ _ (by omega)]; rfl
  | ⟨1, _⟩, hj => simp only at hj; rw [dif_neg (by omega), dif_pos (by omega), e _ _ (by omega)]; rfl
  | ⟨2, _⟩, hj => simp only at hj; rw [dif_neg (by omega), dif_neg (by omega), dif_pos (by omega), e _ _ (by omega)]; rfl
  | ⟨3, _⟩, hj => simp only at hj; rw [dif_neg (by omega), dif_neg (by omega), dif_neg (by omega), dif_pos (by omega), e _ _ (by omega)]; rfl
  | ⟨4, _⟩, hj => simp only at hj; rw [dif_neg (by omega), dif_neg (by omega), dif_neg (by omega), dif_neg (by omega), dif_pos (by omega), e _ _ (by omega)]; rfl
  | ⟨5, _⟩, hj => simp only at hj; rw [dif_neg (by omega), dif_neg (by omega), dif_neg (by omega), dif_neg (by omega), dif_neg (by omega), dif_pos (by omega), e _ _ (by omega)]; rfl
  | ⟨6, _⟩, hj => simp only at hj; rw [dif_neg (by omega), dif_neg (by omega), dif_neg (by omega), dif_neg (by omega), dif_neg (by omega), dif_neg (by omega), dif_pos (by omega), e _ _ (by omega)]; rfl
  | ⟨7, _⟩, hj => simp only at hj; rw [dif_neg (by omega), dif_neg (by omega), dif_neg (by omega), dif_neg (by omega), dif_neg (by omega), dif_neg (by omega), dif_neg (by omega), e _ _ (by omega)]; rfl

section Block

variable (Q K D : Vec Ideal S8x512x128 .f32) (C S : Vec Ideal S512x128 .f32)

/-- All heads' cotangents before the rotation, after it for the queries; one head beside the next. -/
abbrev dqA : FVec Ideal S512x1024 .bf16 :=
  k0_pay40 (k0_pay4 C) (k0_pay5 S) (k0_pay23 (k0_pay4 C) (k0_pay5 S) (View.ld Q (Rect.unit (s := S8x512x128) ![0, 0, 0] S1x512x128.size inb_S8x512x128_S1x512x128_0_0_0))) (k0_pay26 (k0_pay4 C) (k0_pay5 S) (k0_pay24 (View.ld Q (Rect.unit (s := S8x512x128) ![1, 0, 0] S1x512x128.size inb_S8x512x128_S1x512x128_1_0_0))) (iota Kind.tc S512x128 32 [1] iota_S512x128_d1_w32) k0_pay25 80#32)
    (k0_pay27 (k0_pay4 C) (k0_pay5 S) (View.ld Q (Rect.unit (s := S8x512x128) ![2, 0, 0] S1x512x128.size inb_S8x512x128_S1x512x128_2_0_0))) (k0_pay28 (k0_pay4 C) (k0_pay5 S) (View.ld Q (Rect.unit (s := S8x512x128) ![3, 0, 0] S1x512x128.size inb_S8x512x128_S1x512x128_3_0_0)))
    (k0_pay35 (k0_pay4 C) (k0_pay29 (View.ld Q (Rect.unit (s := S8x512x128) ![4, 0, 0] S1x512x128.size inb_S8x512x128_S1x512x128_4_0_0))) k0_pay30 k0_pay31 (k0_pay33 (k0_pay5 S) (View.ld Q (Rect.unit (s := S8x512x128) ![4, 0, 0] S1x512x128.size inb_S8x512x128_S1x512x128_4_0_0))) (k0_pay34 (k0_pay5 S) (View.ld Q (Rect.unit (s := S8x512x128) ![4, 0, 0] S1x512x128.size inb_S8x512x128_S1x512x128_4_0_0))))
    (k0_pay36 (k0_pay4 C) (k0_pay5 S) (View.ld Q (Rect.unit (s := S8x512x128) ![5, 0, 0] S1x512x128.size inb_S8x512x128_S1x512x128_5_0_0))) (k0_pay37 (View.ld Q (Rect.unit (s := S8x512x128) ![6, 0, 0] S1x512x128.size inb_S8x512x128_S1x512x128_6_0_0))) (iota Kind.tc S512x128 32 [1] iota_S512x128_d1_w32) k0_pay38 k0_pay39 (View.ld Q (Rect.unit (s := S8x512x128) ![7, 0, 0] S1x512x128.size inb_S8x512x128_S1x512x128_7_0_0))

abbrev dkA : FVec Ideal S512x1024 .bf16 :=
  k0_pay41 (View.ld K (Rect.unit (s := S8x512x128) ![0, 0, 0] S1x512x128.size inb_S8x512x128_S1x512x128_0_0_0)) (View.ld K (Rect.unit (s := S8x512x128) ![1, 0, 0] S1x512x128.size inb_S8x512x128_S1x512x128_1_0_0)) (View.ld K (Rect.unit (s := S8x512x128) ![2, 0, 0] S1x512x128.size inb_S8x512x128_S1x512x128_2_0_0)) (View.ld K (Rect.unit (s := S8x512x128) ![3, 0, 0] S1x512x128.size inb_S8x512x128_S1x512x128_3_0_0)) (View.ld K (Rect.unit (s := S8x512x128) ![4, 0, 0] S1x512x128.size inb_S8x512x128_S1x512x128_4_0_0)) (View.ld K (Rect.unit (s := S8x512x128) ![5, 0, 0] S1x512x128.size inb_S8x512x128_S1x512x128_5_0_0)) (View.ld K (Rect.unit (s := S8x512x128) ![6, 0, 0] S1x512x128.size inb_S8x512x128_S1x512x128_6_0_0)) (View.ld K (Rect.unit (s := S8x512x128) ![7, 0, 0] S1x512x128.size inb_S8x512x128_S1x512x128_7_0_0))

abbrev dvA : FVec Ideal S512x1024 .bf16 :=
  k0_pay44 (k0_pay42 (View.ld D (Rect.unit (s := S8x512x128) ![0, 0, 0] S1x512x128.size inb_S8x512x128_S1x512x128_0_0_0))) (k0_pay43 (View.ld D (Rect.unit (s := S8x512x128) ![1, 0, 0] S1x512x128.size inb_S8x512x128_S1x512x128_1_0_0))) (View.ld D (Rect.unit (s := S8x512x128) ![2, 0, 0] S1x512x128.size inb_S8x512x128_S1x512x128_2_0_0)) (View.ld D (Rect.unit (s := S8x512x128) ![3, 0, 0] S1x512x128.size inb_S8x512x128_S1x512x128_3_0_0)) (View.ld D (Rect.unit (s := S8x512x128) ![4, 0, 0] S1x512x128.size inb_S8x512x128_S1x512x128_4_0_0)) (View.ld D (Rect.unit (s := S8x512x128) ![5, 0, 0] S1x512x128.size inb_S8x512x128_S1x512x128_5_0_0)) (View.ld D (Rect.unit (s := S8x512x128) ![6, 0, 0] S1x512x128.size inb_S8x512x128_S1x512x128_6_0_0)) (View.ld D (Rect.unit (s := S8x512x128) ![7, 0, 0] S1x512x128.size inb_S8x512x128_S1x512x128_7_0_0))

/-- The shared rotated key's cotangent, over the heads. -/
abbrev dkrA : FVec Ideal S512x128 .f32 :=
  k0_pay46 k0_pay22 (k0_pay45 k0_pay22 (View.ld K (Rect.unit (s := S8x512x128) ![0, 0, 0] S1x512x128.size inb_S8x512x128_S1x512x128_0_0_0)) (View.ld K (Rect.unit (s := S8x512x128) ![1, 0, 0] S1x512x128.size inb_S8x512x128_S1x512x128_1_0_0)) (View.ld K (Rect.unit (s := S8x512x128) ![2, 0, 0] S1x512x128.size inb_S8x512x128_S1x512x128_2_0_0))) (View.ld K (Rect.unit (s := S8x512x128) ![3, 0, 0] S1x512x128.size inb_S8x512x128_S1x512x128_3_0_0)) (View.ld K (Rect.unit (s := S8x512x128) ![4, 0, 0] S1x512x128.size inb_S8x512x128_S1x512x128_4_0_0)) (View.ld K (Rect.unit (s := S8x512x128) ![5, 0, 0] S1x512x128.size inb_S8x512x128_S1x512x128_5_0_0)) (View.ld K (Rect.unit (s := S8x512x128) ![6, 0, 0] S1x512x128.size inb_S8x512x128_S1x512x128_6_0_0)) (View.ld K (Rect.unit (s := S8x512x128) ![7, 0, 0] S1x512x128.size inb_S8x512x128_S1x512x128_7_0_0))

theorem dkA_at (h : Fin 8) (r : Fin 512) (l : Fin 128) (j : Fin 1024) (hj : j.val = h.val * 128 + l.val) : dkA K (ix2 r j) = K (ix3 h r l) := by
  pointwise [dkA, k0_pay41]
  exact beside (fun h l => K (ix3 h r l)) h l j.val hj j.isLt

theorem dvA_at (h : Fin 8) (r : Fin 512) (l : Fin 128) (j : Fin 1024) (hj : j.val = h.val * 128 + l.val) : dvA D (ix2 r j) = D (ix3 h r l) := by
  pointwise [dvA, k0_pay44, k0_pay42, k0_pay43]
  exact beside (fun h l => D (ix3 h r l)) h l j.val hj j.isLt

/-- One head's rotation. -/
def rot (V : Vec Ideal S1x512x128 .f32) : FVec Ideal S512x128 .bf16 := k0_pay23 (k0_pay4 C) (k0_pay5 S) V

theorem rot_at (V : Vec Ideal S1x512x128 .f32) (r : Fin 512) (l : Fin 128) :
    rot C S V (ix2 r l) = turn (fun i => V (ix3 0 r i)) (fun i => C (ix2 r i)) (fun i => S (ix2 r i)) l := by
  pointwise [rot, k0_pay23, k0_pay4, k0_pay5, turn]
  simp only [lanes_lower, lanes_upper, select_ite, ahead16, back16, zero_sub]

/-- Every head's is the same operations. -/
theorem dqA_eq : dqA Q C S = concatenate S512x1024 1 [⟨S512x128, rot C S (View.ld Q (Rect.unit (s := S8x512x128) ![0, 0, 0] S1x512x128.size inb_S8x512x128_S1x512x128_0_0_0))⟩, ⟨S512x128, rot C S (View.ld Q (Rect.unit (s := S8x512x128) ![1, 0, 0] S1x512x128.size inb_S8x512x128_S1x512x128_1_0_0))⟩, ⟨S512x128, rot C S (View.ld Q (Rect.unit (s := S8x512x128) ![2, 0, 0] S1x512x128.size inb_S8x512x128_S1x512x128_2_0_0))⟩, ⟨S512x128, rot C S (View.ld Q (Rect.unit (s := S8x512x128) ![3, 0, 0] S1x512x128.size inb_S8x512x128_S1x512x128_3_0_0))⟩, ⟨S512x128, rot C S (View.ld Q (Rect.unit (s := S8x512x128) ![4, 0, 0] S1x512x128.size inb_S8x512x128_S1x512x128_4_0_0))⟩, ⟨S512x128, rot C S (View.ld Q (Rect.unit (s := S8x512x128) ![5, 0, 0] S1x512x128.size inb_S8x512x128_S1x512x128_5_0_0))⟩, ⟨S512x128, rot C S (View.ld Q (Rect.unit (s := S8x512x128) ![6, 0, 0] S1x512x128.size inb_S8x512x128_S1x512x128_6_0_0))⟩, ⟨S512x128, rot C S (View.ld Q (Rect.unit (s := S8x512x128) ![7, 0, 0] S1x512x128.size inb_S8x512x128_S1x512x128_7_0_0))⟩] concatenates_S512x128_S512x128_S512x128_S512x128_S512x128_S512x128_S512x128_S512x128_S512x1024_d1 := rfl

theorem dqA_at (h : Fin 8) (r : Fin 512) (l : Fin 128) (j : Fin 1024) (hj : j.val = h.val * 128 + l.val) :
    dqA Q C S (ix2 r j) = turn (fun i => Q (ix3 h r i)) (fun i => C (ix2 r i)) (fun i => S (ix2 r i)) l := by
  rw [dqA_eq]
  pointwise [rot_at]
  exact beside (fun h l => turn (fun i => Q (ix3 h r i)) (fun i => C (ix2 r i)) (fun i => S (ix2 r i)) l) h l j.val hj j.isLt

theorem dkrA_at (r : Fin 512) (l : Fin 128) : dkrA K (ix2 r l) = ∑ h : Fin 8, if 64 ≤ l.val ∧ l.val < 96 then K (ix3 h r l) else 0 := by
  pointwise [dkrA, k0_pay45, k0_pay46, k0_pay22]
  simp only [lanes_all, select_ite, Fin.sum_univ_eight]

end Block

end Cert.MlaIdeal.Value

end
-- ==== Proof.Mla.Payloads.lean ====
/- The gradients one block computes from its rows and the three matrices of all heads' cotangents, at an index. -/
module

public import proofs.«01_k».proof.Proof.Mla.Rows

@[expose] public section

set_option maxRecDepth 16384

noncomputable section

namespace Cert.MlaIdeal.Value

open Cert.MlaIdeal Cert.MlaIdeal.Gen Cert.MlaSpec
open Idealize.ShloMosaic Idealize.ShloMosaic.TcCoe Idealize.SL.Sem
open scoped BigOperators

section Payloads

variable (A : Vec Ideal S512x256 .f32) (B : Vec Ideal S512x128 .f32) (C S Z : Vec Ideal S512x128 .f32) (gq : Vec Ideal S1x256 .f32) (gk : Vec Ideal S1x128 .f32)
  (X Y : FVec Ideal S512x1024 .bf16) (Wq : Vec Ideal S256x1024 .bf16) (Wk Wv : Vec Ideal S128x1024 .bf16)

theorem pay47_at (r : Fin 512) (i : Fin 256) : k0_pay47 X Wq (ix2 r i) = ∑ k : Fin 1024, X (ix2 r k) * Wq (ix2 i k) := by
  pointwise [k0_pay47]

theorem pay51_at (r : Fin 512) (i : Fin 128) :
    k0_pay51 X Y Wk Wv (ix2 r i) = (∑ k : Fin 1024, X (ix2 r k) * Wk (ix2 i k)) + ∑ k : Fin 1024, Y (ix2 r k) * Wv (ix2 i k) := by
  pointwise [k0_pay51]

theorem pay13_at (r : Fin 512) (i : Fin 256) : k0_pay13 A (ix2 r i) = unit n256 (fun l => A (ix2 r l)) i := by
  pointwise [k0_pay9, k0_pay10, k0_pay11, k0_pay13, unit, power]

theorem pay14_at (r : Fin 512) (i : Fin 256) : k0_pay14 A gq (ix2 r i) = unit n256 (fun l => A (ix2 r l)) i * gq (ix2 0 i) := by
  pointwise [k0_pay14, pay13_at]

theorem pay20_at (r : Fin 512) (i : Fin 128) : k0_pay20 (k0_pay15 B) (k0_pay17 B) (ix2 r i) = unit n128 (fun l => B (ix2 r l)) i := by
  pointwise [k0_pay15, k0_pay16, k0_pay17, k0_pay20, unit, power]

theorem pay21_at (r : Fin 512) (i : Fin 128) : k0_pay21 (k0_pay15 B) gk (k0_pay17 B) (ix2 r i) = unit n128 (fun l => B (ix2 r l)) i * gk (ix2 0 i) := by
  pointwise [k0_pay21, pay20_at]

theorem pay53_at (r : Fin 512) (i : Fin 256) :
    k0_pay53 (k0_pay9 A) (k0_pay11 A) (k0_pay12 A) (k0_pay49 gq X Wq) (k0_pay50 (k0_pay9 A) gq X Wq) (ix2 r i)
      = grad n256 (fun l => A (ix2 r l)) (fun l => k0_pay47 X Wq (ix2 r l) * gq (ix2 0 l)) i := by
  pointwise [k0_pay9, k0_pay10, k0_pay11, k0_pay12, k0_pay49, k0_pay50, k0_pay53, grad, shared, power]
  simp only [Fin.sum_univ_one]

theorem pay54_at (r : Fin 512) (i : Fin 128) :
    k0_pay54 (k0_pay15 B) gk (k0_pay17 B) (k0_pay19 (k0_pay18 B)) X Y Wk Wv (ix2 r i)
      = grad n128 (fun l => B (ix2 r l)) (fun l => k0_pay51 X Y Wk Wv (ix2 r l) * gk (ix2 0 l)) i := by
  pointwise [k0_pay15, k0_pay16, k0_pay17, k0_pay18, k0_pay19, k0_pay54, grad, shared, power]
  simp only [Fin.sum_univ_one]

theorem pay55_at (r : Fin 512) (l : Fin 128) :
    k0_pay55 (k0_pay4 C) (k0_pay5 S) Z (ix2 r l) = turn (fun i => Z (ix2 r i)) (fun i => C (ix2 r i)) (fun i => S (ix2 r i)) l := by
  pointwise [k0_pay55, k0_pay4, k0_pay5, turn]
  simp only [lanes_lower, lanes_upper, select_ite, ahead16, back16, zero_sub]

theorem pay48_at (i : Fin 256) : k0_pay48 (k0_pay13 A) X Wq (ix2 0 i) = ∑ r : Fin 512, unit n256 (fun l => A (ix2 r l)) i * k0_pay47 X Wq (ix2 r i) := by
  pointwise [k0_pay48, pay13_at]

theorem pay52_at (i : Fin 128) :
    k0_pay52 (k0_pay20 (k0_pay15 B) (k0_pay17 B)) X Y Wk Wv (ix2 0 i) = ∑ r : Fin 512, unit n128 (fun l => B (ix2 r l)) i * k0_pay51 X Y Wk Wv (ix2 r i) := by
  pointwise [k0_pay52, pay20_at]

theorem pay58_at (i : Fin 256) (k : Fin 1024) :
    k0_pay58 (k0_pay14 A gq) X (ix2 i k) = ∑ r : Fin 512, unit n256 (fun l => A (ix2 r l)) i * gq (ix2 0 i) * X (ix2 r k) := by
  pointwise [k0_pay58, pay14_at]

theorem pay59_at (i : Fin 128) (k : Fin 1024) :
    k0_pay59 (k0_pay21 (k0_pay15 B) gk (k0_pay17 B)) X (ix2 i k) = ∑ r : Fin 512, unit n128 (fun l => B (ix2 r l)) i * gk (ix2 0 i) * X (ix2 r k) := by
  pointwise [k0_pay59, pay21_at]

theorem pay60_at (i : Fin 128) (k : Fin 1024) :
    k0_pay60 (k0_pay21 (k0_pay15 B) gk (k0_pay17 B)) X (ix2 i k) = ∑ r : Fin 512, unit n128 (fun l => B (ix2 r l)) i * gk (ix2 0 i) * X (ix2 r k) := by
  pointwise [k0_pay60, pay21_at]

end Payloads

end Cert.MlaIdeal.Value

end
-- ==== Proof.Mla.Host.lean ====
/- What the host lines before the call leave in the buffers it reads, and the blocks of 512 rows it reads of them. -/
module

public import proofs.«01_k».proof.Proof.Mla.Payloads

@[expose] public section

set_option maxRecDepth 16384
set_option maxHeartbeats 2000000

noncomputable section

namespace Cert.MlaIdeal.Value

open Cert.MlaIdeal Cert.MlaIdeal.Gen Cert.MlaSpec
open Idealize.ShloMosaic Idealize.ShloMosaic.TcCoe Idealize.SL.Sem
open scoped BigOperators

variable (m : (ℓ : Loc nD τ sig) → Buf (Elt Ideal) ℓ)

/-- The arguments. -/
abbrev dz (c : Dev nD) : Vec Ideal S4096x3072 .bf16 := m ((c : Thread nD τ).loc main_arg0)
abbrev dq (c : Dev nD) : Vec Ideal S8x4096x96 .f32 := m ((c : Thread nD τ).loc main_arg1)
abbrev dk (c : Dev nD) : Vec Ideal S8x4096x96 .f32 := m ((c : Thread nD τ).loc main_arg2)
abbrev dv (c : Dev nD) : Vec Ideal S8x4096x64 .f32 := m ((c : Thread nD τ).loc main_arg3)
abbrev z (c : Dev nD) : Vec Ideal S4096x2976 .f32 := m ((c : Thread nD τ).loc main_arg4)
abbrev co (c : Dev nD) : Vec Ideal S4096x16 .f32 := m ((c : Thread nD τ).loc main_arg5)
abbrev si (c : Dev nD) : Vec Ideal S4096x16 .f32 := m ((c : Thread nD τ).loc main_arg6)
abbrev gq (c : Dev nD) : Vec Ideal S1x256 .f32 := m ((c : Thread nD τ).loc main_arg7)
abbrev gk (c : Dev nD) : Vec Ideal S1x128 .f32 := m ((c : Thread nD τ).loc main_arg8)
abbrev wq (c : Dev nD) : Vec Ideal S256x768 .f32 := m ((c : Thread nD τ).loc main_arg9)
abbrev wkv (c : Dev nD) : Vec Ideal S128x1024 .f32 := m ((c : Thread nD τ).loc main_arg10)

/-! ## The host lines, as terms -/

def zT (z : FVec Ideal S4096x2976 .f32) : FVec Ideal S4096x3072 .f32 :=
  concatenate S4096x3072 1 [⟨S4096x2432, extractStridedSlice S4096x2432 ![0, 0] z slices_S4096x2976_S4096x2432_0_0⟩,
    ⟨S4096x64, broadcastInDim S4096x64 ![] bcast_S_S4096x64 (constant (F := Ideal) S_ .f32 0x00000000#32)⟩,
    ⟨S4096x32, extractStridedSlice S4096x32 ![0, 2432] z slices_S4096x2976_S4096x32_0_2432⟩,
    ⟨S4096x32, broadcastInDim S4096x32 ![] bcast_S_S4096x32 (constant (F := Ideal) S_ .f32 0x00000000#32)⟩,
    ⟨S4096x512, extractStridedSlice S4096x512 ![0, 2464] z slices_S4096x2976_S4096x512_0_2464⟩] concatenates_S4096x2432_S4096x64_S4096x32_S4096x32_S4096x512_S4096x3072_d1

/-- Cosines or sines on the lanes that rotate, `b` on the lanes before them. -/
def turnT (b : BitVec 32) (x : FVec Ideal S4096x16 .f32) : FVec Ideal S4096x128 .f32 :=
  concatenate S4096x128 1 [⟨S4096x64, broadcastInDim S4096x64 ![] bcast_S_S4096x64 (constant (F := Ideal) S_ .f32 b)⟩, ⟨S4096x16, x⟩, ⟨S4096x16, x⟩,
    ⟨S4096x32, broadcastInDim S4096x32 ![] bcast_S_S4096x32 (constant (F := Ideal) S_ .f32 0x00000000#32)⟩] concatenates_S4096x64_S4096x16_S4096x16_S4096x32_S4096x128_d1

def padT (x : FVec Ideal S8x4096x96 .f32) : FVec Ideal S8x4096x128 .f32 :=
  pad S8x4096x128 ![0, 0, 0] ![0, 0, 32] ![0, 0, 0] x (sitofp .f32 (constantI S_ 32 0#32)) pads_S8x4096x96_S8x4096x128_000_000_0320 h_S_

/-- The remainder of each head's number by 2. -/
def parityT : IVec S8 32 :=
  let d : IVec S_ 32 := select (cmpi .eq (constantI S_ 32 2#32) (constantI S_ 32 0#32)) (constantI S_ 32 1#32) (constantI S_ 32 2#32)
  let z : IVec S8 32 := broadcastInDim S8 ![] bcast_S_S8 (constantI S_ 32 0#32)
  let r : IVec S8 32 := Host.remsi (iotaInDim S8 32 0) (broadcastInDim S8 ![] bcast_S_S8 d)
  select (andi (cmpi .ne (cmpi .slt r z) (broadcastInDim S8 ![] bcast_S_S8 (cmpi .slt d (constantI S_ 32 0#32)))) (cmpi .ne r z))
    (addi r (broadcastInDim S8 ![] bcast_S_S8 d)) r

def oddT : IVec S8x1x1 1 := broadcastInDim S8x1x1 ![0] bcast_S8_S8x1x1_0 (cmpi .eq parityT (broadcastInDim S8 ![] bcast_S_S8 (constantI S_ 32 1#32)))

def ownT (x : FVec Ideal S8x4096x64 .f32) : FVec Ideal S8x4096x128 .f32 :=
  let z : FVec Ideal S8x4096x64 .f32 := broadcastInDim S8x4096x64 ![] bcast_S_S8x4096x64 (constant S_ .f32 0x00000000#32)
  let c : IVec S8x4096x64 1 := broadcastInDim S8x4096x64 ![0, 1, 2] bcast_S8x1x1_S8x4096x64_0_1_2 oddT
  concatenate S8x4096x128 2 [⟨S8x4096x64, select c z x⟩, ⟨S8x4096x64, select c x z⟩] concatenates_S8x4096x64_S8x4096x64_S8x4096x128_d2

/-- The query weights, one head beside the next on 128 lanes each. -/
def wqT (w : FVec Ideal S256x768 .f32) : FVec Ideal S256x1024 .bf16 :=
  shapeCast S256x1024 (transpose S256x8x128 [1, 0, 2] (pad S8x256x128 ![0, 0, 0] ![0, 0, 32] ![0, 0, 0]
    (shapeCast S8x256x96 (transpose S4x2x256x96 [0, 2, 1, 3] (shapeCast S4x256x2x96 (truncf (F := Ideal) .bf16
      (transpose S4x256x192 [1, 0, 2] (shapeCast S256x4x192 w shapeCasts_S256x768_S256x4x192) transposes_S256x4x192_S4x256x192_1_0_2) bitsLt_bf16_f32)
      shapeCasts_S4x256x192_S4x256x2x96) transposes_S4x256x2x96_S4x2x256x96_0_2_1_3) shapeCasts_S4x2x256x96_S8x256x96)
    (sitofp .bf16 (constantI S_ 32 0#32)) pads_S8x256x96_S8x256x128_000_000_0320 h_S_) transposes_S8x256x128_S256x8x128_1_0_2) shapeCasts_S256x8x128_S256x1024

/-- The key and value weights by head. -/
def wkvT (w : FVec Ideal S128x1024 .f32) : FVec Ideal S8x128x128 .bf16 :=
  shapeCast S8x128x128 (transpose S4x2x128x128 [0, 2, 1, 3] (shapeCast S4x128x2x128 (truncf (F := Ideal) .bf16
    (transpose S4x128x256 [1, 0, 2] (shapeCast S128x4x256 w shapeCasts_S128x1024_S128x4x256) transposes_S128x4x256_S4x128x256_1_0_2) bitsLt_bf16_f32)
    shapeCasts_S4x128x256_S4x128x2x128) transposes_S4x128x2x128_S4x2x128x128_0_2_1_3) shapeCasts_S4x2x128x128_S8x128x128

def wkT (w : FVec Ideal S128x1024 .f32) : FVec Ideal S128x1024 .bf16 :=
  shapeCast S128x1024 (transpose S128x8x128 [1, 0, 2] (pad S8x128x128 ![0, 0, 0] ![0, 0, 64] ![0, 0, 0]
    (extractStridedSlice S8x128x64 ![0, 0, 0] (wkvT w) slices_S8x128x128_S8x128x64_0_0_0)
    (sitofp .bf16 (constantI S_ 32 0#32)) pads_S8x128x64_S8x128x128_000_000_0640 h_S_) transposes_S8x128x128_S128x8x128_1_0_2) shapeCasts_S128x8x128_S128x1024

def wvT (w : FVec Ideal S128x1024 .f32) : FVec Ideal S128x1024 .bf16 :=
  let x : FVec Ideal S8x128x64 .bf16 := extractStridedSlice S8x128x64 ![0, 0, 64] (wkvT w) slices_S8x128x128_S8x128x64_0_0_64
  let z : FVec Ideal S8x128x64 .bf16 := broadcastInDim S8x128x64 ![] bcast_S_S8x128x64 (constant S_ .bf16 0x0000#16)
  let c : IVec S8x128x64 1 := broadcastInDim S8x128x64 ![0, 1, 2] bcast_S8x1x1_S8x128x64_0_1_2 oddT
  shapeCast S128x1024 (transpose S128x8x128 [1, 0, 2]
    (concatenate S8x128x128 2 [⟨S8x128x64, select c z x⟩, ⟨S8x128x64, select c x z⟩] concatenates_S8x128x64_S8x128x64_S8x128x128_d2)
    transposes_S8x128x128_S128x8x128_1_0_2) shapeCasts_S128x8x128_S128x1024

theorem V_v5 (c : Dev nD) : V m c main_v5 = zT (z m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v8 (c : Dev nD) : V m c main_v8 = turnT 0x3F800000#32 (co m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v11 (c : Dev nD) : V m c main_v11 = turnT 0x00000000#32 (si m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v61 (c : Dev nD) : V m c main_v61 = padT (dq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v62 (c : Dev nD) : V m c main_v62 = padT (dk m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v20 (c : Dev nD) : V m c main_v20 = ownT (dv m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v35 (c : Dev nD) : V m c main_v35 = wqT (wq m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v58 (c : Dev nD) : V m c main_v58 = wkT (wkv m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem V_v60 (c : Dev nD) : V m c main_v60 = wvT (wkv m c) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

/-! ## The same at an index -/

theorem zero_word : ((((0#32 : BitVec 32).toInt : ℝ)) : EReal) = 0 := by simp
theorem sitofp_f32 : FloatOps.sitofp (F := Ideal) FTy.f32 0#32 = (0 : EReal) := zero_word
theorem sitofp_bf16 : FloatOps.sitofp (F := Ideal) FTy.bf16 0#32 = (0 : EReal) := zero_word

/-- The remainder of a head's number, as the host's words say it. -/
theorem parity_head : ∀ h : Fin 8, parityT (ix1 h) = BitVec.ofNat 32 (h.val % 2) := by decide +kernel

theorem odd_head : ∀ h : Fin 8, IntOp.cmpi CmpIPredicate.eq (BitVec.ofNat 32 (h.val % 2)) 1#32 = if h.val % 2 = 1 then 1#1 else 0#1 := by decide +kernel

theorem odd_at (h : Fin 8) : oddT (ix3 h 0 0) = if h.val % 2 = 1 then 1#1 else 0#1 := by
  have e := parity_head h
  pointwise [oddT]
  rw [e]
  exact odd_head h

theorem z_at (z : FVec Ideal S4096x2976 .f32) (r : Fin 4096) (k : Fin 3072) (h : k.val < 2432) : zT z (ix2 r k) = z (ix2 r ⟨k.val, by omega⟩) := by
  pointwise [zT]
  rw [dif_pos h]

theorem cos_at (x : FVec Ideal S4096x16 .f32) (r : Fin 4096) (l : Fin 128) : turnT 0x3F800000#32 x (ix2 r l) = cosLanes (fun i => x (ix2 r i)) l := by
  pointwise [turnT, cosLanes]
  rfl

theorem sin_at (x : FVec Ideal S4096x16 .f32) (r : Fin 4096) (l : Fin 128) : turnT 0x00000000#32 x (ix2 r l) = sinLanes (fun i => x (ix2 r i)) l := by
  pointwise [turnT, sinLanes]
  rfl

theorem pad_at (x : FVec Ideal S8x4096x96 .f32) (h : Fin 8) (r : Fin 4096) (l : Fin 128) : padT x (ix3 h r l) = lanes (fun j => x (ix3 h r j)) l := by
  pointwise [padT, lanes, sitofp_f32]

theorem own_at (x : FVec Ideal S8x4096x64 .f32) (h : Fin 8) (r : Fin 4096) (l : Fin 128) : ownT x (ix3 h r l) = own h.val (fun j => x (ix3 h r j)) l := by
  pointwise [ownT, own, odd_at, select_ite]

theorem wq_at (w : FVec Ideal S256x768 .f32) (h : Fin 8) (i : Fin 256) (l : Fin 128) (k : Fin 1024) (hk : k.val = h.val * 128 + l.val) :
    wqT w (ix2 i k) = lanes (fun j : Fin 96 => w (ix2 i ⟨h.val * 96 + j.val, by omega⟩)) l := by
  obtain ⟨k, hk'⟩ := k
  obtain rfl : k = h.val * 128 + l.val := hk
  pointwise [wqT, lanes, sitofp_bf16]
  simp only [show h.val / 2 * 192 + (h.val % 2 * 96 + l.val) = h.val * 96 + l.val by omega]

theorem wk_at (w : FVec Ideal S128x1024 .f32) (h : Fin 8) (i : Fin 128) (l : Fin 128) (k : Fin 1024) (hk : k.val = h.val * 128 + l.val) :
    wkT w (ix2 i k) = lanes (fun j : Fin 64 => w (ix2 i ⟨h.val * 128 + j.val, by omega⟩)) l := by
  obtain ⟨k, hk'⟩ := k
  obtain rfl : k = h.val * 128 + l.val := hk
  pointwise [wkT, wkvT, lanes, sitofp_bf16]
  simp only [show h.val / 2 * 256 + (h.val % 2 * 128 + l.val) = h.val * 128 + l.val by omega]

theorem wv_at (w : FVec Ideal S128x1024 .f32) (h : Fin 8) (i : Fin 128) (l : Fin 128) (k : Fin 1024) (hk : k.val = h.val * 128 + l.val) :
    wvT w (ix2 i k) = own h.val (fun j : Fin 64 => w (ix2 i ⟨h.val * 128 + (64 + j.val), by omega⟩)) l := by
  obtain ⟨k, hk'⟩ := k
  obtain rfl : k = h.val * 128 + l.val := hk
  pointwise [wvT, wkvT, own, odd_at, select_ite]
  simp only [show ∀ a, h.val / 2 * 256 + (h.val % 2 * 128 + a) = h.val * 128 + a by intro a; omega]

end Cert.MlaIdeal.Value

end
-- ==== Proof.Mla.Blocks.lean ====
/- The block of 512 rows that a grid point reads, in terms of the arguments, and the two rows' cotangents it computes. -/
module

public import proofs.«01_k».proof.Proof.Mla.Host

@[expose] public section

set_option maxRecDepth 16384
set_option maxHeartbeats 2000000

noncomputable section

namespace Cert.MlaIdeal.Value

open Cert.MlaIdeal Cert.MlaIdeal.Gen Cert.MlaSpec
open Idealize.ShloMosaic Idealize.ShloMosaic.TcCoe Idealize.SL.Sem
open scoped BigOperators

variable (m : (ℓ : Loc nD τ sig) → Buf (Elt Ideal) ℓ)

/-- The windows' block indices at every grid point. -/
theorem idx : ∀ t : Fin cfg0.N, (win0_0.index t = ![0, t.val, 0] ∧ win0_1.index t = ![0, t.val, 0] ∧ win0_2.index t = ![0, t.val, 0])
    ∧ (win0_3.index t = ![t.val, 8] ∧ win0_4.index t = ![t.val, 18] ∧ win0_5.index t = ![t.val, 0] ∧ win0_6.index t = ![t.val, 0])
    ∧ (win0_7.index t = ![0, 0] ∧ win0_8.index t = ![0, 0] ∧ win0_9.index t = ![0, 0] ∧ win0_10.index t = ![0, 0] ∧ win0_11.index t = ![0, 0])
    ∧ (win0_12.index t = ![t.val, 4] ∧ win0_13.index t = ![0, 0, 0] ∧ win0_14.index t = ![0, 0] ∧ win0_15.index t = ![0, 0]) :=
  (by decide +kernel : ∀ t : Fin grid0.N, _)

theorem t_lt (t : Fin cfg0.N) : t.val < 8 := lt_of_lt_of_eq t.isLt N_0

abbrev row (t : Fin cfg0.N) (r : Fin 512) : Fin 4096 := ⟨t.val * 512 + r.val, by have := t_lt t; omega⟩

section

variable (c : Dev nD) (t : Fin cfg0.N) (h : Fin 8) (r : Fin 512)

theorem blk0 (l : Fin 128) : (iblk m c 0 t : Vec Ideal S8x512x128 .f32) (ix3 h r l) = lanes (fun j => dq m c (ix3 h (row t r) j)) l := by
  refine Eq.trans ?_ (pad_at _ h (row t r) l)
  rw [← V_v61]
  blk_point [iblk, idx t]

theorem blk1 (l : Fin 128) : (iblk m c 1 t : Vec Ideal S8x512x128 .f32) (ix3 h r l) = lanes (fun j => dk m c (ix3 h (row t r) j)) l := by
  refine Eq.trans ?_ (pad_at _ h (row t r) l)
  rw [← V_v62]
  blk_point [iblk, idx t]

theorem blk2 (l : Fin 128) : (iblk m c 2 t : Vec Ideal S8x512x128 .f32) (ix3 h r l) = own h.val (fun j => dv m c (ix3 h (row t r) j)) l := by
  refine Eq.trans ?_ (own_at _ h (row t r) l)
  rw [← V_v20]
  blk_point [iblk, idx t]

theorem blk3 (i : Fin 256) : (iblk m c 3 t : Vec Ideal S512x256 .f32) (ix2 r i) = latQ (z m c) (row t r) i := by
  refine Eq.trans ?_ (z_at _ (row t r) ⟨2048 + i.val, by omega⟩ (by show 2048 + i.val < 2432; omega))
  rw [← V_v5]
  blk_point [iblk, idx t]

theorem blk4 (i : Fin 128) : (iblk m c 4 t : Vec Ideal S512x128 .f32) (ix2 r i) = latK (z m c) (row t r) i := by
  refine Eq.trans ?_ (z_at _ (row t r) ⟨2304 + i.val, by omega⟩ (by show 2304 + i.val < 2432; omega))
  rw [← V_v5]
  blk_point [iblk, idx t]

theorem blk5 (l : Fin 128) : (iblk m c 5 t : Vec Ideal S512x128 .f32) (ix2 r l) = cosLanes (fun i => co m c (ix2 (row t r) i)) l := by
  refine Eq.trans ?_ (cos_at _ (row t r) l)
  rw [← V_v8]
  blk_point [iblk, idx t]

theorem blk6 (l : Fin 128) : (iblk m c 6 t : Vec Ideal S512x128 .f32) (ix2 r l) = sinLanes (fun i => si m c (ix2 (row t r) i)) l := by
  refine Eq.trans ?_ (sin_at _ (row t r) l)
  rw [← V_v11]
  blk_point [iblk, idx t]

theorem blk7 (i : Fin 256) : (iblk m c 7 t : Vec Ideal S1x256 .f32) (ix2 0 i) = gq m c (ix2 0 i) := by
  blk_point [iblk, V, idx t]

theorem blk8 (i : Fin 128) : (iblk m c 8 t : Vec Ideal S1x128 .f32) (ix2 0 i) = gk m c (ix2 0 i) := by
  blk_point [iblk, V, idx t]

theorem blk9 (i : Fin 256) (l : Fin 128) (k : Fin 1024) (hk : k.val = h.val * 128 + l.val) :
    (iblk m c 9 t : Vec Ideal S256x1024 .bf16) (ix2 i k) = lanes (fun j : Fin 96 => wq m c (ix2 i ⟨h.val * 96 + j.val, by omega⟩)) l := by
  refine Eq.trans ?_ (wq_at _ h i l k hk)
  rw [← V_v35]
  blk_point [iblk, idx t]

theorem blk10 (i : Fin 128) (l : Fin 128) (k : Fin 1024) (hk : k.val = h.val * 128 + l.val) :
    (iblk m c 10 t : Vec Ideal S128x1024 .bf16) (ix2 i k) = lanes (fun j : Fin 64 => wkv m c (ix2 i ⟨h.val * 128 + j.val, by omega⟩)) l := by
  refine Eq.trans ?_ (wk_at _ h i l k hk)
  rw [← V_v58]
  blk_point [iblk, idx t]

theorem blk11 (i : Fin 128) (l : Fin 128) (k : Fin 1024) (hk : k.val = h.val * 128 + l.val) :
    (iblk m c 11 t : Vec Ideal S128x1024 .bf16) (ix2 i k) = own h.val (fun j : Fin 64 => wkv m c (ix2 i ⟨h.val * 128 + (64 + j.val), by omega⟩)) l := by
  refine Eq.trans ?_ (wv_at _ h i l k hk)
  rw [← V_v60]
  blk_point [iblk, idx t]

/-! ## The three matrices of all heads' cotangents, and the rotated key's -/

abbrev qA : FVec Ideal S512x1024 .bf16 := dqA (iblk m c 0 t) (iblk m c 5 t) (iblk m c 6 t)
abbrev kA : FVec Ideal S512x1024 .bf16 := dkA (iblk m c 1 t)
abbrev vA : FVec Ideal S512x1024 .bf16 := dvA (iblk m c 2 t)
abbrev krA : FVec Ideal S512x128 .f32 := dkrA (iblk m c 1 t)

theorem qA_at (l : Fin 128) (k : Fin 1024) (hk : k.val = h.val * 128 + l.val) :
    qA m c t (ix2 r k) = lanes (dqt (dq m c) (co m c) (si m c) h (row t r)) l := by
  refine (dqA_at _ _ _ h r l k hk).trans ?_
  rw [dqt, ← turn_lanes]
  simp only [blk0, blk5, blk6]

theorem kA_at (l : Fin 128) (k : Fin 1024) (hk : k.val = h.val * 128 + l.val) : kA m c t (ix2 r k) = lanes (fun j => dk m c (ix3 h (row t r) j)) l := by
  exact (dkA_at _ h r l k hk).trans (blk1 m c t h r l)

theorem vA_at (l : Fin 128) (k : Fin 1024) (hk : k.val = h.val * 128 + l.val) : vA m c t (ix2 r k) = own h.val (fun j => dv m c (ix3 h (row t r) j)) l := by
  exact (dvA_at _ h r l k hk).trans (blk2 m c t h r l)

theorem krA_turn (l : Fin 128) : turn (fun i => krA m c t (ix2 r i)) (fun i => (iblk m c 5 t : Vec Ideal S512x128 .f32) (ix2 r i)) (fun i => (iblk m c 6 t : Vec Ideal S512x128 .f32) (ix2 r i)) l
    = lanes (dkr (dk m c) (co m c) (si m c) (row t r)) l := by
  rw [dkr, ← turn_lanes]
  simp only [dkrA_at, blk1, blk5, blk6]
  refine congrFun (congrArg (fun f => turn f _ _) (funext fun i => ?_)) l
  unfold lanes
  by_cases h1 : i.val < 96
  · simp only [dif_pos h1]
    by_cases h2 : 64 ≤ i.val
    · simp only [if_pos h2, if_pos (And.intro h2 h1)]
    · simp only [if_neg h2, if_neg (fun a : 64 ≤ i.val ∧ i.val < 96 => h2 a.1), Finset.sum_const_zero]
  · simp only [dif_neg h1, ite_self, Finset.sum_const_zero]

/-! ## The cotangents of the two normed rows -/

/-- A sum over all heads' lanes. -/
theorem sum_heads (f : Fin 1024 → EReal) (g : Fin 8 → EReal) (hg : ∀ h : Fin 8, ∑ l : Fin 128, f ⟨h.val * 128 + l.val, by omega⟩ = g h) : ∑ k, f k = ∑ h, g h :=
  (Fin.sum_mul_add_congr (S := 8) (n := 128) (F := fun h l => f ⟨h.val * 128 + l.val, by omega⟩) fun _ _ _ => rfl).symm.trans (Finset.sum_congr rfl fun h _ => hg h)

theorem dcq_at (i : Fin 256) : k0_pay47 (qA m c t) (iblk m c 9 t) (ix2 r i) = dcq (dq m c) (co m c) (si m c) (wq m c) (row t r) i := by
  rw [pay47_at]
  refine sum_heads _ _ fun h => ?_
  rw [← sum_lanes96]
  exact Finset.sum_congr rfl fun l _ => congrArg₂ (fun a b : EReal => a * b) (qA_at m c t h r l _ rfl) (blk9 m c t h i l _ rfl)

theorem dck_at (i : Fin 128) : k0_pay51 (kA m c t) (vA m c t) (iblk m c 10 t) (iblk m c 11 t) (ix2 r i) = dck (dk m c) (dv m c) (wkv m c) (row t r) i := by
  rw [pay51_at, dck, Finset.sum_add_distrib]
  refine congrArg₂ (fun a b : EReal => a + b) (sum_heads _ _ fun h => ?_) (sum_heads _ _ fun h => ?_)
  · refine Eq.trans ?_ (sum_lanes64 (fun j => dk m c (ix3 h (row t r) j)) _)
    exact Finset.sum_congr rfl fun l _ => congrArg₂ (fun a b : EReal => a * b) (kA_at m c t h r l _ rfl) (blk10 m c t h i l _ rfl)
  · rw [← sum_own h.val]
    exact Finset.sum_congr rfl fun l _ => congrArg₂ (fun a b : EReal => a * b) (vA_at m c t h r l _ rfl) (blk11 m c t h i l _ rfl)

end

end Cert.MlaIdeal.Value

end
-- ==== Proof.Mla.Outputs.lean ====
/- What a grid point leaves in the results' blocks. -/
module

public import proofs.«01_k».proof.Proof.Mla.Blocks
public import proofs.«01_k».proof.Proof.Pieces
public import Idealize.ShloMosaic.Lib.Pipeline.ReadBack

@[expose] public section

set_option maxRecDepth 16384
set_option maxHeartbeats 2000000

noncomputable section

namespace Cert.MlaIdeal.Value

open Cert.MlaIdeal Cert.MlaIdeal.Gen Cert.MlaSpec
open Idealize.ShloMosaic Idealize.ShloMosaic.TcCoe Idealize.SL.Sem
open scoped BigOperators

variable (m : (ℓ : Loc nD τ sig) → Buf (Elt Ideal) ℓ) (c : Dev nD) (t : Fin cfg0.N)

/-- The columns of `z`'s cotangent that a point writes: three pieces. -/
def L12 : List (View.Piece (Elt Ideal) S512x512 .bf16) :=
  [⟨Rect.unit (s := S512x512) ![0, 384] S512x128.size inb_S512x512_S512x128_0_384, k0_pay55 (k0_pay4 (iblk m c 5 t)) (k0_pay5 (iblk m c 6 t)) (krA m c t)⟩,
   ⟨Rect.unit (s := S512x512) ![0, 256] S512x128.size inb_S512x512_S512x128_0_256,
    k0_pay54 (k0_pay15 (iblk m c 4 t)) (iblk m c 8 t) (k0_pay17 (iblk m c 4 t)) (k0_pay19 (k0_pay18 (iblk m c 4 t))) (kA m c t) (vA m c t) (iblk m c 10 t) (iblk m c 11 t)⟩,
   ⟨Rect.unit (s := S512x512) ![0, 0] S512x256.size inb_S512x512_S512x256_0_0,
    k0_pay53 (k0_pay9 (iblk m c 3 t)) (k0_pay11 (iblk m c 3 t)) (k0_pay12 (iblk m c 3 t)) (k0_pay49 (iblk m c 7 t) (qA m c t) (iblk m c 9 t)) (k0_pay50 (k0_pay9 (iblk m c 3 t)) (iblk m c 7 t) (qA m c t) (iblk m c 9 t))⟩]

abbrev dzv (r : Fin 4096) (k : Fin 3072) : EReal := dzAt (dz m c) (dq m c) (dk m c) (dv m c) (z m c) (co m c) (si m c) (gq m c) (gk m c) (wq m c) (wkv m c) r k

theorem L12_at (r : Fin 512) (k : Fin 512) : View.canon (L12 m c t) (ix2 r k) = dzv m c (row t r) ⟨2048 + k.val, by omega⟩ := by
  unfold L12 dzv dzAt
  rw [if_neg (by show ¬ 2048 + k.val < 2048; omega)]
  by_cases h1 : k.val < 256
  · rw [dif_pos (by show 2048 + k.val - 2048 < 256; omega)]
    refine (Pieces.canon_miss 0 384 _ _ _ r k (by omega)).trans ((Pieces.canon_miss 0 256 _ _ _ r k (by omega)).trans ((Pieces.canon_hit 0 0 _ _ _ r k (by omega) (by omega)).trans ((pay53_at ..).trans ?_)))
    simp only [blk3, blk7, dcq_at]
    congr 1
    exact Fin.ext (by show k.val - 0 = 2048 + k.val - 2048; omega)
  · rw [dif_neg (by show ¬ 2048 + k.val - 2048 < 256; omega)]
    by_cases h2 : k.val < 384
    · rw [dif_pos (by show 2048 + k.val - 2048 - 256 < 128; omega)]
      refine (Pieces.canon_miss 0 384 _ _ _ r k (by omega)).trans ((Pieces.canon_hit 0 256 _ _ _ r k (by omega) (by omega)).trans ((pay54_at ..).trans ?_))
      simp only [blk4, blk8, dck_at]
      congr 1
      exact Fin.ext (by show k.val - 256 = 2048 + k.val - 2048 - 256; omega)
    · rw [dif_neg (by show ¬ 2048 + k.val - 2048 - 256 < 128; omega), dif_pos (by show 2048 + k.val - 2048 - 256 - 128 < 128; omega)]
      refine (Pieces.canon_hit 0 384 _ _ _ r k (by omega) (by omega)).trans ((pay55_at ..).trans ((krA_turn m c t ..).trans ?_))
      congr 1
      exact Fin.ext (by show k.val - 384 = 2048 + k.val - 2048 - 256 - 128; omega)

theorem block12 (r : Fin 512) (k : Fin 512) : (outsAt0 (F := Ideal) m c t.val t.isLt).1 (ix2 r k) = dzv m c (row t r) ⟨2048 + k.val, by omega⟩ := by
  by_cases h : t.val % 8 = 0
  · rw [outsAt0_A m c t h]; frame_out
    exact L12_at m c t r k
  · rw [outsAt0_B m c t h]; frame_out
    exact L12_at m c t r k

/-! ## The two gains' gradients -/

abbrev prev (h : ¬ t.val % 8 = 0) := outsAt0 (F := Ideal) m c (t.val - 1) (Nat.lt_of_le_of_lt (Nat.sub_le _ _) t.isLt)

def part14 (i : Fin 256) : EReal := ∑ r : Fin 512, unit n256 (latQ (z m c) (row t r)) i * dcq (dq m c) (co m c) (si m c) (wq m c) (row t r) i
def part15 (i : Fin 128) : EReal := ∑ r : Fin 512, unit n128 (latK (z m c) (row t r)) i * dck (dk m c) (dv m c) (wkv m c) (row t r) i

theorem pay48_part (i : Fin 256) : k0_pay48 (k0_pay13 (iblk m c 3 t)) (qA m c t) (iblk m c 9 t) (ix2 0 i) = part14 m c t i := by
  rw [pay48_at, part14]
  simp only [blk3, dcq_at]

theorem pay52_part (i : Fin 128) : k0_pay52 (k0_pay20 (k0_pay15 (iblk m c 4 t)) (k0_pay17 (iblk m c 4 t))) (kA m c t) (vA m c t) (iblk m c 10 t) (iblk m c 11 t) (ix2 0 i) = part15 m c t i := by
  rw [pay52_at, part15]
  simp only [blk4, dck_at]

theorem pay56_at (x y : Vec Ideal S1x256 .f32) (i : Fin 256) : k0_pay56 x y (ix2 0 i) = y (ix2 0 i) + x (ix2 0 i) := by pointwise [k0_pay56]
theorem pay57_at (x y : Vec Ideal S1x128 .f32) (i : Fin 128) : k0_pay57 x y (ix2 0 i) = y (ix2 0 i) + x (ix2 0 i) := by pointwise [k0_pay57]
theorem pay7_at (i : Fin 256) : k0_pay7 (F := Ideal) (ix2 0 i) = 0 := by pointwise [k0_pay7]
theorem pay8_at (i : Fin 128) : k0_pay8 (F := Ideal) (ix2 0 i) = 0 := by pointwise [k0_pay8]

theorem start14 (h : t.val % 8 = 0) (i : Fin 256) : (outsAt0 (F := Ideal) m c t.val t.isLt).2.2.1 (ix2 0 i) = 0 + part14 m c t i := by
  rw [outsAt0_A m c t h]; frame_out
  rw [pay56_at, pay7_at]
  exact congrArg (fun x : EReal => 0 + x) (pay48_part m c t i)

theorem step14 (h : ¬ t.val % 8 = 0) (i : Fin 256) : (outsAt0 (F := Ideal) m c t.val t.isLt).2.2.1 (ix2 0 i) = (prev m c t h).2.2.1 (ix2 0 i) + part14 m c t i := by
  rw [outsAt0_B m c t h]; frame_out
  rw [pay56_at]
  exact congrArg (fun x : EReal => _ + x) (pay48_part m c t i)

theorem start15 (h : t.val % 8 = 0) (i : Fin 128) : (outsAt0 (F := Ideal) m c t.val t.isLt).2.2.2 (ix2 0 i) = 0 + part15 m c t i := by
  rw [outsAt0_A m c t h]; frame_out
  rw [pay57_at, pay8_at]
  exact congrArg (fun x : EReal => 0 + x) (pay52_part m c t i)

theorem step15 (h : ¬ t.val % 8 = 0) (i : Fin 128) : (outsAt0 (F := Ideal) m c t.val t.isLt).2.2.2 (ix2 0 i) = (prev m c t h).2.2.2 (ix2 0 i) + part15 m c t i := by
  rw [outsAt0_B m c t h]; frame_out
  rw [pay57_at]
  exact congrArg (fun x : EReal => _ + x) (pay52_part m c t i)

end Cert.MlaIdeal.Value

end
-- ==== Proof.Mla.Weights.lean ====
/- The weights' gradients at a grid point: per head three blocks, each added to what the block holds. -/
module

public import proofs.«01_k».proof.Proof.Mla.Blocks
public import proofs.«01_k».proof.Proof.Newest
public import Idealize.ShloMosaic.Lib.Pipeline.ReadBack

@[expose] public section

set_option maxRecDepth 16384
set_option maxHeartbeats 2000000

noncomputable section

namespace Cert.MlaIdeal.Value

open Cert.MlaIdeal Cert.MlaIdeal.Gen Cert.MlaSpec
open Idealize.ShloMosaic Idealize.ShloMosaic.TcCoe Idealize.SL.Sem
open scoped BigOperators

/-- What a point adds at chip `a`, row `q`, lane `l`: of head `2 a + q / 512`, the query rows, then the key rows, then the value rows. -/
def piece13 (A : FVec Ideal S256x1024 .f32) (K V : FVec Ideal S128x1024 .f32) (a : Fin 4) (q : Fin 1024) (l : Fin 128) : EReal :=
  if x : q.val % 512 < 256 then A (ix2 ⟨q.val % 512, x⟩ ⟨(2 * a.val + q.val / 512) * 128 + l.val, by omega⟩)
  else if x : q.val % 512 - 256 < 128 then K (ix2 ⟨q.val % 512 - 256, x⟩ ⟨(2 * a.val + q.val / 512) * 128 + l.val, by omega⟩)
  else V (ix2 ⟨q.val % 512 - 256 - 128, by omega⟩ ⟨(2 * a.val + q.val / 512) * 128 + l.val, by omega⟩)

theorem piece13_q (A : FVec Ideal S256x1024 .f32) (K V : FVec Ideal S128x1024 .f32) (a : Fin 4) (q : Fin 1024) (l : Fin 128) (i : Fin 256) (k : Fin 1024)
    (hq : q.val % 512 = i.val) (hk : k.val = (2 * a.val + q.val / 512) * 128 + l.val) : piece13 A K V a q l = A (ix2 i k) := by
  obtain ⟨i, hi⟩ := i; obtain ⟨k, hk'⟩ := k
  obtain rfl : q.val % 512 = i := hq
  obtain rfl : k = _ := hk
  exact dif_pos hi

theorem piece13_k (A : FVec Ideal S256x1024 .f32) (K V : FVec Ideal S128x1024 .f32) (a : Fin 4) (q : Fin 1024) (l : Fin 128) (i : Fin 128) (k : Fin 1024)
    (hq : q.val % 512 = 256 + i.val) (hk : k.val = (2 * a.val + q.val / 512) * 128 + l.val) : piece13 A K V a q l = K (ix2 i k) := by
  obtain ⟨i, hi⟩ := i; obtain ⟨k, hk'⟩ := k
  simp only at hq hk
  obtain rfl : i = q.val % 512 - 256 := by omega
  obtain rfl : k = _ := hk
  exact (dif_neg (by omega)).trans (dif_pos hi)

theorem piece13_v (A : FVec Ideal S256x1024 .f32) (K V : FVec Ideal S128x1024 .f32) (a : Fin 4) (q : Fin 1024) (l : Fin 128) (i : Fin 128) (k : Fin 1024)
    (hq : q.val % 512 = 384 + i.val) (hk : k.val = (2 * a.val + q.val / 512) * 128 + l.val) : piece13 A K V a q l = V (ix2 i k) := by
  obtain ⟨i, hi⟩ := i; obtain ⟨k, hk'⟩ := k
  simp only at hq hk
  obtain rfl : i = q.val % 512 - 256 - 128 := by omega
  obtain rfl : k = _ := hk
  exact (dif_neg (by omega)).trans (dif_neg (by omega))

/-- A point's blocks of the weights' gradients, the newest first, each what the block held plus the head's product. -/
def L13 (A : FVec Ideal S256x1024 .f32) (K : FVec Ideal S128x1024 .f32) (w : FVec Ideal S512x128 .f32) (v : FVec Ideal S512x1024 .bf16) (X : S4x1024x128.Idx → EReal) :
    List (View.Piece (Elt Ideal) S4x1024x128 .f32) :=
  [⟨Rect.unit (s := S4x1024x128) ![3, 896, 0] ![1, 128, 128] inb_S4x1024x128_S1x128x128_3_896_0, k0_pay3 (k0_pay60 w v) (View.ld X (Rect.unit (s := S4x1024x128) ![3, 896, 0] ![1, 128, 128] inb_S4x1024x128_S1x128x128_3_896_0))⟩,
   ⟨Rect.unit (s := S4x1024x128) ![3, 768, 0] ![1, 128, 128] inb_S4x1024x128_S1x128x128_3_768_0, k0_pay2 K (View.ld X (Rect.unit (s := S4x1024x128) ![3, 768, 0] ![1, 128, 128] inb_S4x1024x128_S1x128x128_3_768_0))⟩,
   ⟨Rect.unit (s := S4x1024x128) ![3, 512, 0] ![1, 256, 128] inb_S4x1024x128_S1x256x128_3_512_0, k0_pay1 A (View.ld X (Rect.unit (s := S4x1024x128) ![3, 512, 0] ![1, 256, 128] inb_S4x1024x128_S1x256x128_3_512_0))⟩,
   ⟨Rect.unit (s := S4x1024x128) ![3, 384, 0] ![1, 128, 128] inb_S4x1024x128_S1x128x128_3_384_0, k0_pay83 (k0_pay60 w v) (View.ld X (Rect.unit (s := S4x1024x128) ![3, 384, 0] ![1, 128, 128] inb_S4x1024x128_S1x128x128_3_384_0))⟩,
   ⟨Rect.unit (s := S4x1024x128) ![3, 256, 0] ![1, 128, 128] inb_S4x1024x128_S1x128x128_3_256_0, k0_pay82 K (View.ld X (Rect.unit (s := S4x1024x128) ![3, 256, 0] ![1, 128, 128] inb_S4x1024x128_S1x128x128_3_256_0))⟩,
   ⟨Rect.unit (s := S4x1024x128) ![3, 0, 0] ![1, 256, 128] inb_S4x1024x128_S1x256x128_3_0_0, k0_pay81 A (View.ld X (Rect.unit (s := S4x1024x128) ![3, 0, 0] ![1, 256, 128] inb_S4x1024x128_S1x256x128_3_0_0))⟩,
   ⟨Rect.unit (s := S4x1024x128) ![2, 896, 0] ![1, 128, 128] inb_S4x1024x128_S1x128x128_2_896_0, k0_pay80 (k0_pay60 w v) (View.ld X (Rect.unit (s := S4x1024x128) ![2, 896, 0] ![1, 128, 128] inb_S4x1024x128_S1x128x128_2_896_0))⟩,
   ⟨Rect.unit (s := S4x1024x128) ![2, 768, 0] ![1, 128, 128] inb_S4x1024x128_S1x128x128_2_768_0, k0_pay79 K (View.ld X (Rect.unit (s := S4x1024x128) ![2, 768, 0] ![1, 128, 128] inb_S4x1024x128_S1x128x128_2_768_0))⟩,
   ⟨Rect.unit (s := S4x1024x128) ![2, 512, 0] ![1, 256, 128] inb_S4x1024x128_S1x256x128_2_512_0, k0_pay78 A (View.ld X (Rect.unit (s := S4x1024x128) ![2, 512, 0] ![1, 256, 128] inb_S4x1024x128_S1x256x128_2_512_0))⟩,
   ⟨Rect.unit (s := S4x1024x128) ![2, 384, 0] ![1, 128, 128] inb_S4x1024x128_S1x128x128_2_384_0, k0_pay77 (k0_pay60 w v) (View.ld X (Rect.unit (s := S4x1024x128) ![2, 384, 0] ![1, 128, 128] inb_S4x1024x128_S1x128x128_2_384_0))⟩,
   ⟨Rect.unit (s := S4x1024x128) ![2, 256, 0] ![1, 128, 128] inb_S4x1024x128_S1x128x128_2_256_0, k0_pay76 K (View.ld X (Rect.unit (s := S4x1024x128) ![2, 256, 0] ![1, 128, 128] inb_S4x1024x128_S1x128x128_2_256_0))⟩,
   ⟨Rect.unit (s := S4x1024x128) ![2, 0, 0] ![1, 256, 128] inb_S4x1024x128_S1x256x128_2_0_0, k0_pay75 (k0_pay74 A (View.ld X (Rect.unit (s := S4x1024x128) ![2, 0, 0] ![1, 256, 128] inb_S4x1024x128_S1x256x128_2_0_0)))⟩,
   ⟨Rect.unit (s := S4x1024x128) ![1, 896, 0] ![1, 128, 128] inb_S4x1024x128_S1x128x128_1_896_0, k0_pay73 (k0_pay60 w v) (View.ld X (Rect.unit (s := S4x1024x128) ![1, 896, 0] ![1, 128, 128] inb_S4x1024x128_S1x128x128_1_896_0))⟩,
   ⟨Rect.unit (s := S4x1024x128) ![1, 768, 0] ![1, 128, 128] inb_S4x1024x128_S1x128x128_1_768_0, k0_pay72 K (View.ld X (Rect.unit (s := S4x1024x128) ![1, 768, 0] ![1, 128, 128] inb_S4x1024x128_S1x128x128_1_768_0))⟩,
   ⟨Rect.unit (s := S4x1024x128) ![1, 512, 0] ![1, 256, 128] inb_S4x1024x128_S1x256x128_1_512_0, k0_pay71 A (View.ld X (Rect.unit (s := S4x1024x128) ![1, 512, 0] ![1, 256, 128] inb_S4x1024x128_S1x256x128_1_512_0))⟩,
   ⟨Rect.unit (s := S4x1024x128) ![1, 384, 0] ![1, 128, 128] inb_S4x1024x128_S1x128x128_1_384_0, k0_pay70 (k0_pay60 w v) (k0_pay69 (View.ld X (Rect.unit (s := S4x1024x128) ![1, 384, 0] ![1, 128, 128] inb_S4x1024x128_S1x128x128_1_384_0)))⟩,
   ⟨Rect.unit (s := S4x1024x128) ![1, 256, 0] ![1, 128, 128] inb_S4x1024x128_S1x128x128_1_256_0, k0_pay68 K (View.ld X (Rect.unit (s := S4x1024x128) ![1, 256, 0] ![1, 128, 128] inb_S4x1024x128_S1x128x128_1_256_0))⟩,
   ⟨Rect.unit (s := S4x1024x128) ![1, 0, 0] ![1, 256, 128] inb_S4x1024x128_S1x256x128_1_0_0, k0_pay67 A (View.ld X (Rect.unit (s := S4x1024x128) ![1, 0, 0] ![1, 256, 128] inb_S4x1024x128_S1x256x128_1_0_0))⟩,
   ⟨Rect.unit (s := S4x1024x128) ![0, 896, 0] ![1, 128, 128] inb_S4x1024x128_S1x128x128_0_896_0, k0_pay66 (k0_pay60 w v) (View.ld X (Rect.unit (s := S4x1024x128) ![0, 896, 0] ![1, 128, 128] inb_S4x1024x128_S1x128x128_0_896_0))⟩,
   ⟨Rect.unit (s := S4x1024x128) ![0, 768, 0] ![1, 128, 128] inb_S4x1024x128_S1x128x128_0_768_0, k0_pay65 K (View.ld X (Rect.unit (s := S4x1024x128) ![0, 768, 0] ![1, 128, 128] inb_S4x1024x128_S1x128x128_0_768_0))⟩,
   ⟨Rect.unit (s := S4x1024x128) ![0, 512, 0] ![1, 256, 128] inb_S4x1024x128_S1x256x128_0_512_0, k0_pay64 A (View.ld X (Rect.unit (s := S4x1024x128) ![0, 512, 0] ![1, 256, 128] inb_S4x1024x128_S1x256x128_0_512_0))⟩,
   ⟨Rect.unit (s := S4x1024x128) ![0, 384, 0] ![1, 128, 128] inb_S4x1024x128_S1x128x128_0_384_0, k0_pay63 w v (View.ld X (Rect.unit (s := S4x1024x128) ![0, 384, 0] ![1, 128, 128] inb_S4x1024x128_S1x128x128_0_384_0))⟩,
   ⟨Rect.unit (s := S4x1024x128) ![0, 256, 0] ![1, 128, 128] inb_S4x1024x128_S1x128x128_0_256_0, k0_pay62 K (View.ld X (Rect.unit (s := S4x1024x128) ![0, 256, 0] ![1, 128, 128] inb_S4x1024x128_S1x128x128_0_256_0))⟩,
   ⟨Rect.unit (s := S4x1024x128) ![0, 0, 0] ![1, 256, 128] inb_S4x1024x128_S1x256x128_0_0_0, k0_pay61 A (View.ld X (Rect.unit (s := S4x1024x128) ![0, 0, 0] ![1, 256, 128] inb_S4x1024x128_S1x256x128_0_0_0))⟩]

theorem L13_at (A : FVec Ideal S256x1024 .f32) (K : FVec Ideal S128x1024 .f32) (w : FVec Ideal S512x128 .f32) (v : FVec Ideal S512x1024 .bf16) (X : S4x1024x128.Idx → EReal) (a : Fin 4) (q : Fin 1024) (l : Fin 128) :
    View.canon (L13 A K w v X) (ix3 a q l) = X (ix3 a q l) + piece13 A K (k0_pay60 w v) a q l := by
  unfold L13
  canon_tiles y hy using View.cover_of_tiledBy _ ![1, 128, 128] (by sl_kernel_rfl) _
  all_goals
    idx_vars y
    pointwise [k0_pay1, k0_pay2, k0_pay3, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83]
    refine (congrArg₂ (fun x y : EReal => x + y) (congrArg X ?_) ?_).symm
    · congr 1 <;> exact Fin.ext (by (try simp only [Fin.val_zero, Fin.val_one]); (try simp); omega)
    · first
        | exact piece13_v _ _ _ _ _ _ _ _ (by (try simp only [Fin.val_zero, Fin.val_one]); (try simp); omega) (by (try simp only [Fin.val_zero, Fin.val_one]); (try simp); omega)
        | exact piece13_k _ _ _ _ _ _ _ _ (by (try simp only [Fin.val_zero, Fin.val_one]); (try simp); omega) (by (try simp only [Fin.val_zero, Fin.val_one]); (try simp); omega)
        | exact piece13_q _ _ _ _ _ _ _ _ (by (try simp only [Fin.val_zero, Fin.val_one]); (try simp); omega) (by (try simp only [Fin.val_zero, Fin.val_one]); (try simp); omega)

theorem step13 (m : (ℓ : Loc nD τ sig) → Buf (Elt Ideal) ℓ) (c : Dev nD) (t : Fin cfg0.N) (h : ¬ t.val % 8 = 0) (a : Fin 4) (q : Fin 1024) (l : Fin 128) :
    (outsAt0 (F := Ideal) m c t.val t.isLt).2.1 (ix3 a q l) = (outsAt0 (F := Ideal) m c (t.val - 1) (Nat.lt_of_le_of_lt (Nat.sub_le _ _) t.isLt)).2.1 (ix3 a q l)
      + piece13 (k0_pay58 (k0_pay14 (iblk m c 3 t) (iblk m c 7 t)) (qA m c t)) (k0_pay59 (k0_pay21 (k0_pay15 (iblk m c 4 t)) (iblk m c 8 t) (k0_pay17 (iblk m c 4 t))) (kA m c t))
        (k0_pay60 (k0_pay21 (k0_pay15 (iblk m c 4 t)) (iblk m c 8 t) (k0_pay17 (iblk m c 4 t))) (vA m c t)) a q l := by
  rw [outsAt0_B m c t h]; frame_out
  generalize (outsAt0 (F := Ideal) m c (t.val - 1) _).2.1 = X
  exact L13_at _ _ _ _ X a q l

theorem start13 (m : (ℓ : Loc nD τ sig) → Buf (Elt Ideal) ℓ) (c : Dev nD) (t : Fin cfg0.N) (h : t.val % 8 = 0) (a : Fin 4) (q : Fin 1024) (l : Fin 128) :
    (outsAt0 (F := Ideal) m c t.val t.isLt).2.1 (ix3 a q l) = 0
      + piece13 (k0_pay58 (k0_pay14 (iblk m c 3 t) (iblk m c 7 t)) (qA m c t)) (k0_pay59 (k0_pay21 (k0_pay15 (iblk m c 4 t)) (iblk m c 8 t) (k0_pay17 (iblk m c 4 t))) (kA m c t))
        (k0_pay60 (k0_pay21 (k0_pay15 (iblk m c 4 t)) (iblk m c 8 t) (k0_pay17 (iblk m c 4 t))) (vA m c t)) a q l := by
  rw [outsAt0_A m c t h]; frame_out
  simp (disch := decide) only [↓ View.readCov_skip (s := S4x1024x128), ↓ View.readCov_cons_toLoadRect (s := S4x1024x128), ↓ View.readCov_fill (s := S4x1024x128)]
  refine (Pieces.canon_take (Val := Elt Ideal) 24 _ _ ?_).trans ?_
  · simp only [List.take_succ_cons, List.take_zero]
    exact View.cover_of_tiledBy _ ![1, 128, 128] (by sl_kernel_rfl) _
  simp only [List.take_succ_cons, List.take_zero]
  refine (L13_at _ _ _ _ (k0_pay6 (F := Ideal)) a q l).trans ?_
  rw [show (k0_pay6 (F := Ideal)) (ix3 a q l) = 0 by pointwise [k0_pay6]]

/-- A point's part of the weights' gradients is the sum over its rows. -/
def part13 (m : (ℓ : Loc nD τ sig) → Buf (Elt Ideal) ℓ) (c : Dev nD) (t : Fin cfg0.N) (h : Fin 8) (q : Fin 512) (l : Fin 128) : EReal :=
  if x : q.val < 256 then ∑ r : Fin 512, unit n256 (latQ (z m c) (row t r)) ⟨q.val, x⟩ * gq m c (ix2 0 ⟨q.val, x⟩) * lanes (dqt (dq m c) (co m c) (si m c) h (row t r)) l
  else if x : q.val - 256 < 128 then ∑ r : Fin 512, unit n128 (latK (z m c) (row t r)) ⟨q.val - 256, x⟩ * gk m c (ix2 0 ⟨q.val - 256, x⟩) * lanes (fun j => dk m c (ix3 h (row t r) j)) l
  else ∑ r : Fin 512, unit n128 (latK (z m c) (row t r)) ⟨q.val - 256 - 128, by omega⟩ * gk m c (ix2 0 ⟨q.val - 256 - 128, by omega⟩) * own h (fun j => dv m c (ix3 h (row t r) j)) l

theorem piece13_part (m : (ℓ : Loc nD τ sig) → Buf (Elt Ideal) ℓ) (c : Dev nD) (t : Fin cfg0.N) (a : Fin 4) (q : Fin 1024) (l : Fin 128) :
    piece13 (k0_pay58 (k0_pay14 (iblk m c 3 t) (iblk m c 7 t)) (qA m c t)) (k0_pay59 (k0_pay21 (k0_pay15 (iblk m c 4 t)) (iblk m c 8 t) (k0_pay17 (iblk m c 4 t))) (kA m c t))
        (k0_pay60 (k0_pay21 (k0_pay15 (iblk m c 4 t)) (iblk m c 8 t) (k0_pay17 (iblk m c 4 t))) (vA m c t)) a q l
      = part13 m c t ⟨2 * a.val + q.val / 512, by omega⟩ ⟨q.val % 512, by omega⟩ l := by
  have e (r : Fin 512) := qA_at m c t ⟨2 * a.val + q.val / 512, by omega⟩ r l ⟨(2 * a.val + q.val / 512) * 128 + l.val, by omega⟩ rfl
  have e' (r : Fin 512) := kA_at m c t ⟨2 * a.val + q.val / 512, by omega⟩ r l ⟨(2 * a.val + q.val / 512) * 128 + l.val, by omega⟩ rfl
  have e'' (r : Fin 512) := vA_at m c t ⟨2 * a.val + q.val / 512, by omega⟩ r l ⟨(2 * a.val + q.val / 512) * 128 + l.val, by omega⟩ rfl
  unfold piece13 part13
  split
  · rw [pay58_at]
    simp only [e, blk3, blk7]
  · split
    · rw [pay59_at]
      simp only [e', blk4, blk8]
    · rw [pay60_at]
      simp only [e'', blk4, blk8]

end Cert.MlaIdeal.Value

end
-- ==== Proof.Mla.Final.lean ====
/- What the kernel leaves in its four results. -/
module

public import proofs.«01_k».proof.Proof.Mla.Outputs
public import proofs.«01_k».proof.Proof.Mla.Weights
public import proofs.«01_k».proof.Proof.Gen.MlaIdeal.Value

@[expose] public section

set_option maxRecDepth 16384
set_option maxHeartbeats 1000000

noncomputable section

namespace Cert.MlaIdeal.Value

open Cert.MlaIdeal Cert.MlaIdeal.Gen Cert.MlaSpec
open Idealize.ShloMosaic Idealize.ShloMosaic.TcCoe Idealize.SL.Sem
open scoped BigOperators

variable (m : (ℓ : Loc nD τ sig) → Buf (Elt Ideal) ℓ) (ρ : Dev nD → PrngReg) (c : Dev nD)

def tEnd : Fin cfg0.N := ⟨7, lt_of_lt_of_eq (by decide) (show 8 = cfg0.N from N_0.symm)⟩

/-! ## The gains -/

theorem final14 : (dats m 0 c).arrAt 14 (cfgs 0).N = fun i => dqgAt (dq m c) (z m c) (co m c) (si m c) (wq m c) (i 1) := by
  refine (dats m 0 c).arrAt_eq_of_after_last 14 tEnd (by decide +kernel) _ fun j => ?_
  blk_simp
  idx_vars j
  obtain rfl : j0 = 0 := Subsingleton.elim _ _
  rw [after0_14, Pipeline.eq_sum_fin_of_reset_step_apply_last (fun n h => (outsAt0 (F := Ideal) m c n h).2.2.1) 8 (fun _ => 0)
    (fun t (i : S1x256.Idx) => part14 m c t (i 1))
    (fun t h i => by idx_vars i; obtain rfl : i0 = 0 := Subsingleton.elim _ _; exact start14 m c t h i1)
    (fun t h i => by idx_vars i; obtain rfl : i0 = 0 := Subsingleton.elim _ _; exact step14 m c t h i1)
    (le_of_eq N_0) tEnd rfl _, zero_add]
  exact Fin.sum_mul_add_congr (S := 8) (n := 512) fun t r hl => rfl

theorem final15 : (dats m 0 c).arrAt 15 (cfgs 0).N = fun i => dkgAt (dk m c) (dv m c) (z m c) (wkv m c) (i 1) := by
  refine (dats m 0 c).arrAt_eq_of_after_last 15 tEnd (by decide +kernel) _ fun j => ?_
  blk_simp
  idx_vars j
  obtain rfl : j0 = 0 := Subsingleton.elim _ _
  rw [after0_15, Pipeline.eq_sum_fin_of_reset_step_apply_last (fun n h => (outsAt0 (F := Ideal) m c n h).2.2.2) 8 (fun _ => 0)
    (fun t (i : S1x128.Idx) => part15 m c t (i 1))
    (fun t h i => by idx_vars i; obtain rfl : i0 = 0 := Subsingleton.elim _ _; exact start15 m c t h i1)
    (fun t h i => by idx_vars i; obtain rfl : i0 = 0 := Subsingleton.elim _ _; exact step15 m c t h i1)
    (le_of_eq N_0) tEnd rfl _, zero_add]
  exact Fin.sum_mul_add_congr (S := 8) (n := 512) fun t r hl => rfl

/-! ## The weights -/

theorem parts13 (h : Fin 8) (q : Fin 512) (l : Fin 128) : ∑ t : Fin 8, part13 m c ⟨t.val, lt_of_lt_of_eq t.isLt N_0.symm⟩ h q l
    = dwAt (dq m c) (dk m c) (dv m c) (z m c) (co m c) (si m c) (gq m c) (gk m c) h q l := by
  unfold part13 dwAt
  split
  · exact Fin.sum_mul_add_congr (S := 8) (n := 512) fun t r hl => rfl
  · split
    · exact Fin.sum_mul_add_congr (S := 8) (n := 512) fun t r hl => rfl
    · exact Fin.sum_mul_add_congr (S := 8) (n := 512) fun t r hl => rfl

theorem final13 : (dats m 0 c).arrAt 13 (cfgs 0).N = fun i => dwAt (dq m c) (dk m c) (dv m c) (z m c) (co m c) (si m c) (gq m c) (gk m c)
    ⟨2 * (i 0).val + (i 1).val / 512, by have := (i 0).isLt; have := (i 1).isLt; simp at *; omega⟩ ⟨(i 1).val % 512, by omega⟩ (i 2) := by
  refine (dats m 0 c).arrAt_eq_of_after_last 13 tEnd (by decide +kernel) _ fun j => ?_
  blk_simp
  idx_vars j
  rw [after0_13, Pipeline.eq_sum_fin_of_reset_step_apply_last (fun n h => (outsAt0 (F := Ideal) m c n h).2.1) 8 (fun _ => 0)
    (fun t (i : S4x1024x128.Idx) => part13 m c t ⟨2 * (i 0).val + (i 1).val / 512, by have := (i 0).isLt; have := (i 1).isLt; simp at *; omega⟩ ⟨(i 1).val % 512, by omega⟩ (i 2))
    (fun t h i => by idx_vars i; exact (start13 m c t h i0 i1 i2).trans (congrArg (fun x : EReal => 0 + x) (piece13_part m c t i0 i1 i2)))
    (fun t h i => by idx_vars i; exact (step13 m c t h i0 i1 i2).trans (congrArg (fun x : EReal => _ + x) (piece13_part m c t i0 i1 i2)))
    (le_of_eq N_0) tEnd rfl _, zero_add]
  exact parts13 m c _ _ _

/-! ## The cotangent of `z` -/

theorem V_v63_0 : V m c main_v63_0 = dz m c := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    List.flatten_cons, List.flatten_nil, List.append_nil, List.cons_append, List.nil_append]
  after_results_simp
  rfl

theorem dzv_kept (r : Fin 4096) (k : Fin 3072) (h : ¬ k.val / 512 = 4) : dzv m c r k = dz m c (ix2 r k) := by
  unfold dzv dzAt
  by_cases h0 : k.val < 2048
  · exact if_pos h0
  · rw [if_neg h0, dif_neg (by omega), dif_neg (by omega), dif_neg (by omega)]

theorem final12 : (dats m 0 c).arrAt 12 (cfgs 0).N = fun i => dzv m c (i 0) (i 1) := by
  refine (dats m 0 c).arrAt_eq_of_coversWhere_of_agree 12 (fun i => dzv m c (i 0) (i 1)) (fun β => β 1 = 4) (by decide +kernel) (fun t hf y => ?_) (fun j hj => ?_)
  · blk_simp
    rw [after0_12]
    idx_vars y
    refine (block12 m c t y0 y1).trans ?_
    have e : ((View.whole main_v63_0).slice (win0_12.rect t)).emb (ix2 y0 y1) = ix2 (row t y0) (⟨2048 + y1.val, by omega⟩ : Fin 3072) := by
      blk_ext [idx t, row]
    rw [e]
    rfl
  · have h : ¬ (j 1).val / 512 = 4 := by
      intro h
      exact hj (by blk_simp [Pipeline.Window.cell_apply]; exact h)
    refine Eq.trans ?_ (dzv_kept m c _ _ ?_).symm
    · show V m c main_v63_0 _ = _
      rw [V_v63_0]
      exact congrArg (dz m c) (funext fun a => by fin_cases a <;> rfl)
    · rw [show ((cfg0.win 12).arr.view.emb j 1 : Fin 3072).val = (j 1).val from rfl]
      exact h

/-- The kernel's results. -/
theorem run_spec : θ_run defs (onTc (τ := τ) (main (F := Ideal))) ⟨m, fun _ => 0, ρ⟩ fun r => ∀ c : Dev nD,
      r.2.mem ((c : Thread nD τ).loc main_v63_0) = (fun i => dzv m c (i 0) (i 1))
      ∧ r.2.mem ((c : Thread nD τ).loc main_v63_1) = (fun i => dwAt (dq m c) (dk m c) (dv m c) (z m c) (co m c) (si m c) (gq m c) (gk m c)
          ⟨2 * (i 0).val + (i 1).val / 512, by have := (i 0).isLt; have := (i 1).isLt; simp at *; omega⟩ ⟨(i 1).val % 512, by omega⟩ (i 2))
      ∧ r.2.mem ((c : Thread nD τ).loc main_v63_2) = (fun i => dqgAt (dq m c) (z m c) (co m c) (si m c) (wq m c) (i 1))
      ∧ r.2.mem ((c : Thread nD τ).loc main_v63_3) = (fun i => dkgAt (dk m c) (dv m c) (z m c) (wkv m c) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final12 m c), (h c).2.1.trans (final13 m c), (h c).2.2.1.trans (final14 m c), (h c).2.2.2.1.trans (final15 m c), (h c).2.2.2.2⟩) (run_blocks m ρ)

end Cert.MlaIdeal.Value

end
-- ==== Proof.Mla.Mask.lean ====
/- The lanes of the weights' gradients that are read: a key's row holds nothing of use on the rotated lanes. -/
module

public import proofs.«01_k».proof.On_read_lanes
public import Idealize.ShloMosaic.Lib.Pipeline.ValueKit

@[expose] public section

set_option maxRecDepth 8192

noncomputable section

namespace Cert.On_read_lanes

open Idealize.ShloMosaic Idealize.ShloMosaic.Tactic

instance facts : Facts where
  bcast_S_S4x1024x128 := by decide
  bcast_S_S4096x3072 := by decide
  bcast_S_S1x256 := by decide
  bcast_S_S1x128 := by decide

/-- The divisor 512, replaced by 1 were it 0. -/
def rows : BitVec 32 := Scalar.select (IntOp.cmpi .eq 512#32 0#32) 1#32 512#32

/-- A row's place in its head, with the divisor's sign. -/
def place (x : BitVec 32) : BitVec 32 :=
  Scalar.select
    (IntOp.andi (IntOp.cmpi .ne (IntOp.cmpi .slt (IntOp.remsi .host x rows) 0#32) (IntOp.cmpi .slt rows 0#32)) (IntOp.cmpi .ne (IntOp.remsi .host x rows) 0#32))
    (IntOp.addi (IntOp.remsi .host x rows) rows) (IntOp.remsi .host x rows)

/-- Which quarter of a head's rows that is, rounding down. -/
def quarter (x : BitVec 32) : BitVec 32 :=
  Scalar.select
    (IntOp.andi
      (IntOp.cmpi .ne ((if x = 0 then 0 else if x.msb = true then -1 else 1) : BitVec 32) (if 128#32 = 0 then 0 else if (128#32).msb = true then -1 else 1))
      (IntOp.cmpi .ne (IntOp.remsi .host x 128#32) 0#32))
    (IntOp.subi (IntOp.divsi .host x 128#32) 1#32) (IntOp.divsi .host x 128#32)

theorem place_row : ∀ q : Fin 1024, place (BitVec.ofNat 32 q.val) = BitVec.ofNat 32 (q.val % 512) := by decide +kernel
theorem quarter_row : ∀ q : Fin 512, IntOp.cmpi .ne (quarter (BitVec.ofNat 32 q.val)) 2#32 = 1#1 → q.val / 128 ≠ 2 := by decide +kernel
theorem below : ∀ l : Fin 128, IntOp.cmpi .slt (BitVec.ofNat 32 l.val) 64#32 = 1#1 → l.val < 64 := by decide +kernel
theorem above : ∀ l : Fin 128, IntOp.cmpi .sge (BitVec.ofNat 32 l.val) 96#32 = 1#1 → 96 ≤ l.val := by decide +kernel
theorem either : ∀ a b : BitVec 1, IntOp.ori a b = 1#1 → a = 1#1 ∨ b = 1#1 := by decide

theorem place_apply (a : Fin 4) (q : Fin 1024) (l : Fin 128) :
    fn_remainder (F := Ideal) (iotaInDim S4x1024x128 32 1) (constantI S_ 32 512#32) (ix3 a q l) = place (BitVec.ofNat 32 q.val) := by
  pointwise [fn_remainder, fn_where]
  rfl

theorem quarter_apply (x : IVec S4x1024x128 32) (a : Fin 4) (q : Fin 1024) (l : Fin 128) :
    fn_floor_divide (F := Ideal) x (constantI S_ 32 128#32) (ix3 a q l) = quarter (x (ix3 a q l)) := by
  pointwise [fn_floor_divide, fn_where_0]
  rfl

theorem read {dz : FVec Ideal S4096x3072 .bf16} {dq dk : FVec Ideal S8x4096x96 .f32} {dv : FVec Ideal S8x4096x64 .f32} {z : FVec Ideal S4096x2976 .f32}
    {co si : FVec Ideal S4096x16 .f32} {gq : FVec Ideal S1x256 .f32} {gk : FVec Ideal S1x128 .f32} {wq : FVec Ideal S256x768 .f32} {wkv : FVec Ideal S128x1024 .f32}
    {i : S4x1024x128.Idx} (h : (fn (F := Ideal) dz dq dk dv z co si gq gk wq wkv).2.1 i = 1#1) : (i 1).val % 512 / 128 ≠ 2 ∨ (i 2).val < 64 ∨ 96 ≤ (i 2).val := by
  idx_vars i
  have e : fn_floor_divide (F := Ideal) (fn_remainder (F := Ideal) (iotaInDim S4x1024x128 32 1) (constantI S_ 32 512#32)) (constantI S_ 32 128#32) (ix3 i0 i1 i2)
      = quarter (BitVec.ofNat 32 (i1.val % 512)) := by rw [quarter_apply, place_apply, place_row]
  rcases either _ _ h with h | h
  · rcases either _ _ h with h | h
    · exact .inl (quarter_row ⟨i1.val % 512, by omega⟩ ((congrArg (fun x => IntOp.cmpi .ne x 2#32) e).symm.trans h))
    · exact .inr (.inl (below i2 h))
  · exact .inr (.inr (above i2 h))

end Cert.On_read_lanes

end
-- ==== Proof.Mla.Terms.lean ====
/- The reference gradients of the latent projections: what its larger values are. -/
module

public import proofs.«01_k».proof.Proof.Gen.MlaRefIdeal.Run
public import proofs.«01_k».proof.Proof.Mla.Spec
public import Idealize.ShloMosaic.Lib.Pipeline.ValueKit

@[expose] public section

set_option maxRecDepth 16384
set_option maxHeartbeats 1000000

noncomputable section

namespace Cert.MlaRefIdeal.Value

open Cert.MlaRefIdeal Cert.MlaRefIdeal.Gen Cert.MlaSpec
open Idealize.ShloMosaic Idealize.ShloMosaic.TcCoe Idealize.SL.Sem
open scoped BigOperators

/-- The divisor 2, replaced by 1 were it 0. -/
def two : BitVec 32 := Scalar.select (IntOp.cmpi .eq 2#32 0#32) 1#32 2#32

/-- Whether a head's number is odd, as the host's words say it. -/
def parity (x : BitVec 32) : BitVec 1 :=
  IntOp.cmpi .eq (Scalar.select
    (IntOp.andi (IntOp.cmpi .ne (IntOp.cmpi .slt (IntOp.remsi .host x two) 0#32) (IntOp.cmpi .slt two 0#32)) (IntOp.cmpi .ne (IntOp.remsi .host x two) 0#32))
    (IntOp.addi (IntOp.remsi .host x two) two) (IntOp.remsi .host x two)) 1#32

theorem parity_head : ∀ h : Fin 8, parity (BitVec.ofNat 32 h.val) = if h.val % 2 = 1 then 1#1 else 0#1 := by decide +kernel

theorem select_one (p : Prop) [Decidable p] (a b : EReal) : Scalar.select (if p then 1#1 else 0#1) a b = if p then a else b := by
  by_cases h : p
  · rw [if_pos h, if_pos h]; rfl
  · rw [if_neg h, if_neg h]; rfl

theorem word_zero : FloatOps.sitofp (F := Ideal) FTy.f32 0#32 = (0 : EReal) := by
  show ((((0#32 : BitVec 32).toInt : ℝ)) : EReal) = 0
  simp

section Parts

variable (V0 : Valuation τ sig (Elt Ideal))

abbrev dz : Mat 4096 3072 := V0 (Proc.devRef .tc main_arg0)
abbrev dq : Cube 8 4096 96 := V0 (Proc.devRef .tc main_arg1)
abbrev dk : Cube 8 4096 96 := V0 (Proc.devRef .tc main_arg2)
abbrev dv : Cube 8 4096 64 := V0 (Proc.devRef .tc main_arg3)
abbrev z : Mat 4096 2976 := V0 (Proc.devRef .tc main_arg4)
abbrev co : Mat 4096 16 := V0 (Proc.devRef .tc main_arg5)
abbrev si : Mat 4096 16 := V0 (Proc.devRef .tc main_arg6)
abbrev gq : Mat 1 256 := V0 (Proc.devRef .tc main_arg7)
abbrev gk : Mat 1 128 := V0 (Proc.devRef .tc main_arg8)
abbrev wq : Mat 256 768 := V0 (Proc.devRef .tc main_arg9)
abbrev wkv : Mat 128 1024 := V0 (Proc.devRef .tc main_arg10)

abbrev kvA : Mat 4096 1024 := res_main_v100 V0
abbrev qA : Mat 4096 768 := res_main_v140 V0

theorem v100_lo (r : Fin 4096) (h : Fin 8) (j : Fin 64) : res_main_v100 V0 (ix2 r ⟨h.val * 128 + j.val, by omega⟩) = dk V0 (ix3 h r ⟨j.val, by omega⟩) := by
  pointwise [res_main_v100, res_main_v78]
  have e : (h.val * 128 + j.val) % 128 = j.val := by omega
  rw [dif_neg (by omega), dif_pos (by omega), zero_add]
  simp only [e]

theorem v100_hi (r : Fin 4096) (h : Fin 8) (j : Fin 64) : res_main_v100 V0 (ix2 r ⟨h.val * 128 + (64 + j.val), by omega⟩) = dv V0 (ix3 h r j) := by
  pointwise [res_main_v100, res_main_v78]
  have e : (h.val * 128 + (64 + j.val)) % 128 - 64 = j.val := by omega
  rw [dif_pos (by omega), dif_neg (by omega), add_zero]
  simp only [e]

theorem v140_at (r : Fin 4096) (h : Fin 8) (j : Fin 96) : res_main_v140 V0 (ix2 r ⟨h.val * 96 + j.val, by omega⟩) = dqt (dq V0) (co V0) (si V0) h r j := by
  pointwise [res_main_v140, res_main_v124, res_main_v123, res_main_v83, res_main_v81, res_main_v27, res_main_v28]
  unfold dqt turned
  by_cases h1 : j.val < 64
  · rw [dif_neg (by omega), dif_pos h1, if_pos h1, zero_add]
  · by_cases h2 : j.val - 64 < 16
    · rw [dif_pos (by omega), dif_pos h2, dif_neg h1, if_neg h1, dif_pos h2, add_zero]
      simp only [show 64 + (16 + (j.val - 64)) = j.val + 16 by omega, show 64 + (j.val - 64) = j.val by omega]
    · rw [dif_pos (by omega), dif_neg h2, dif_neg h1, if_neg h1, dif_neg h2, add_zero]
      simp only [show 64 + (16 + (j.val - 64 - 16)) = j.val by omega, show 64 + (j.val - 64 - 16) = j.val - 16 by omega]

theorem v103_at (r : Fin 4096) (i : Fin 128) : res_main_v103 V0 (ix2 r i) = dck (dk V0) (dv V0) (wkv V0) r i := by
  refine Eq.trans (b := ∑ n : Fin 1024, kvA V0 (ix2 r n) * wkv V0 (ix2 i n)) (by pointwise [res_main_v103]) ?_
  unfold dck
  refine (Fin.sum_mul_add_congr (S := 8) (n := 128) (F := fun h l => kvA V0 (ix2 r ⟨h.val * 128 + l.val, by omega⟩) * wkv V0 (ix2 i ⟨h.val * 128 + l.val, by omega⟩)) fun h l hl => rfl).symm.trans (Finset.sum_congr rfl fun h _ => ?_)
  rw [sum_halves]
  simp only [v100_lo, v100_hi]

theorem v143_at (r : Fin 4096) (i : Fin 256) : res_main_v143 V0 (ix2 r i) = dcq (dq V0) (co V0) (si V0) (wq V0) r i := by
  refine Eq.trans (b := ∑ n : Fin 768, qA V0 (ix2 r n) * wq V0 (ix2 i n)) (by pointwise [res_main_v143]) ?_
  unfold dcq
  refine (Fin.sum_mul_add_congr (S := 8) (n := 96) (F := fun h l => qA V0 (ix2 r ⟨h.val * 96 + l.val, by omega⟩) * wq V0 (ix2 i ⟨h.val * 96 + l.val, by omega⟩)) fun h l hl => rfl).symm.trans (Finset.sum_congr rfl fun h _ => ?_)
  simp only [v140_at]

theorem v4_at (r : Fin 4096) (i : Fin 256) : res_main_v4 V0 (ix2 r i) = latQ (z V0) r i := by
  pointwise [res_main_v4, latQ]

theorem v5_at (r : Fin 4096) (i : Fin 128) : res_main_v5 V0 (ix2 r i) = latK (z V0) r i := by
  pointwise [res_main_v5, latK]

theorem v14_at (r : Fin 4096) : res_main_v14 V0 (ix2 r 0) = power n256 (latQ (z V0) r) := by
  pointwise [res_main_v14, v4_at, power]

theorem v48_at (r : Fin 4096) : res_main_v48 V0 (ix2 r 0) = power n128 (latK (z V0) r) := by
  pointwise [res_main_v48, v5_at, power]

theorem v20_at (r : Fin 4096) (i : Fin 256) : res_main_v20 V0 (ix2 r i) = unit n256 (latQ (z V0) r) i := by
  pointwise [res_main_v20, res_main_v15, v14_at, v4_at, unit]

theorem v54_at (r : Fin 4096) (i : Fin 128) : res_main_v54 V0 (ix2 r i) = unit n128 (latK (z V0) r) i := by
  pointwise [res_main_v54, res_main_v49, v48_at, v5_at, unit]

theorem v158_at (r : Fin 4096) (i : Fin 256) : res_main_v158 V0 (ix2 r i) = shared n256 (latQ (z V0) r) (fun i => dcq (dq V0) (co V0) (si V0) (wq V0) r i * gq V0 (ix2 0 i)) := by
  pointwise [res_main_v158, res_main_v148, res_main_v15, v14_at, v4_at, v143_at, shared]
  simp only [Fin.sum_univ_one]
  rw [v14_at]

theorem v118_at (r : Fin 4096) (i : Fin 128) : res_main_v118 V0 (ix2 r i) = shared n128 (latK (z V0) r) (fun i => dck (dk V0) (dv V0) (wkv V0) r i * gk V0 (ix2 0 i)) := by
  pointwise [res_main_v118, res_main_v108, res_main_v49, v48_at, v5_at, v103_at, shared]
  simp only [Fin.sum_univ_one]
  rw [v48_at]

theorem v86_at (r : Fin 4096) (j : Fin 32) : res_main_v86 V0 (ix2 r j) = ∑ h : Fin 8, dk V0 (ix3 h r ⟨64 + j.val, by omega⟩) := by
  pointwise [res_main_v86, res_main_v78]
  simp only [Fin.sum_univ_one]

/-- The product of the keys' and values' cotangents with the normed row, by head. -/
theorem v174_at (h : Fin 8) (i l : Fin 128) : res_main_v174 V0 (ix3 h i l)
    = ∑ r : Fin 4096, kvA V0 (ix2 r ⟨h.val * 128 + l.val, by omega⟩) * (unit n128 (latK (z V0) r) i * gk V0 (ix2 0 i)) := by
  pointwise [res_main_v174, res_main_v56, v54_at]

theorem odd_at (h : Fin 8) : res_main_v183 V0 (ix3 h 0 0) = if h.val % 2 = 1 then 1#1 else 0#1 := by
  pointwise [res_main_v183, res_main_call2_v4, res_main_call2_v2, res_main_call2_v0]
  exact parity_head h

end Parts

end Cert.MlaRefIdeal.Value

end
-- ==== Proof.Mla.RefInput.lean ====
/- The reference's cotangent of the packed projections is the formula of `Mla/Spec.lean`. -/
module

public import proofs.«01_k».proof.Proof.Mla.Terms
public import Idealize.ShloMosaic.Lib.Pipeline.ValueKit

@[expose] public section

set_option maxRecDepth 16384
set_option maxHeartbeats 1000000

noncomputable section

namespace Cert.MlaRefIdeal.Value

open Cert.MlaRefIdeal Cert.MlaRefIdeal.Gen Cert.MlaSpec
open Idealize.ShloMosaic Idealize.ShloMosaic.TcCoe Idealize.SL.Sem
open scoped BigOperators

/-- The rotated key's lanes, as the reference packs them. -/
theorem dkr_rows (V0 : Valuation τ sig (Elt Ideal)) (r : Fin 4096) (n : Nat) (hn : n < 128) :
    (if h : n < 64 then (0 : EReal) else if h_3 : n - 64 < 32 then
      if h_4 : n - 64 < 16 then
        (∑ x : Fin 8, dk V0 (ix3 x r ⟨64 + (16 + (n - 64)), by omega⟩)) * si V0 (ix2 r ⟨n - 64, by omega⟩) + (∑ x : Fin 8, dk V0 (ix3 x r ⟨64 + (n - 64), by omega⟩)) * co V0 (ix2 r ⟨n - 64, by omega⟩)
      else (∑ x : Fin 8, dk V0 (ix3 x r ⟨64 + (16 + (n - 64 - 16)), by omega⟩)) * co V0 (ix2 r ⟨n - 64 - 16, by omega⟩)
        + -(∑ x : Fin 8, dk V0 (ix3 x r ⟨64 + (n - 64 - 16), by omega⟩)) * si V0 (ix2 r ⟨n - 64 - 16, by omega⟩)
    else 0) = lanes (dkr (dk V0) (co V0) (si V0) r) ⟨n, hn⟩ := by
  unfold lanes dkr turned
  by_cases h4 : n < 64
  · have h8 : n < 96 := by omega
    have h9 : ¬ 64 ≤ n := by omega
    simp only [h4, h8, h9, ↓reduceDIte, ↓reduceIte]
  by_cases h5 : n - 64 < 32
  · have h8 : n < 96 := by omega
    have h9 : 64 ≤ n := by omega
    by_cases h6 : n - 64 < 16
    · have h10 : 64 ≤ n + 16 := by omega
      have e1 : 64 + (16 + (n - 64)) = n + 16 := by omega
      have e2 : 64 + (n - 64) = n := by omega
      simp only [h4, h5, h6, h8, h9, h10, e1, e2, ↓reduceDIte, ↓reduceIte]
    · have h10 : 64 ≤ n - 16 := by omega
      have e1 : 64 + (16 + (n - 64 - 16)) = n := by omega
      have e2 : 64 + (n - 64 - 16) = n - 16 := by omega
      simp only [h4, h5, h6, h8, h9, h10, e1, e2, ↓reduceDIte, ↓reduceIte]
  · have h8 : ¬ n < 96 := by omega
    simp only [h4, h5, h8, ↓reduceDIte]

/-! ## The columns of the cotangent, one range after another -/

section Columns

variable (V0 : Valuation τ sig (Elt Ideal)) (r : Fin 4096) (k : Fin 3072)

theorem dz_attention (h0 : k.val < 2048) : dzAt (dz V0) (dq V0) (dk V0) (dv V0) (z V0) (co V0) (si V0) (gq V0) (gk V0) (wq V0) (wkv V0) r k = dz V0 (ix2 r k) := if_pos h0

theorem dz_queries (h0 : ¬ k.val < 2048) (h2 : k.val - 2048 < 256) :
    dzAt (dz V0) (dq V0) (dk V0) (dv V0) (z V0) (co V0) (si V0) (gq V0) (gk V0) (wq V0) (wkv V0) r k = grad n256 (latQ (z V0) r) (fun i => dcq (dq V0) (co V0) (si V0) (wq V0) r i * gq V0 (ix2 0 i)) ⟨k.val - 2048, h2⟩ := by
  unfold dzAt; rw [if_neg h0, dif_pos h2]

theorem dz_keys (h0 : ¬ k.val < 2048) (h2 : ¬ k.val - 2048 < 256) (h3 : k.val - 2048 - 256 < 128) :
    dzAt (dz V0) (dq V0) (dk V0) (dv V0) (z V0) (co V0) (si V0) (gq V0) (gk V0) (wq V0) (wkv V0) r k = grad n128 (latK (z V0) r) (fun i => dck (dk V0) (dv V0) (wkv V0) r i * gk V0 (ix2 0 i)) ⟨k.val - 2048 - 256, h3⟩ := by
  unfold dzAt; rw [if_neg h0, dif_neg h2, dif_pos h3]

theorem dz_rotated (h0 : ¬ k.val < 2048) (h2 : ¬ k.val - 2048 < 256) (h3 : ¬ k.val - 2048 - 256 < 128) (h7 : k.val - 2048 - 256 - 128 < 128) :
    dzAt (dz V0) (dq V0) (dk V0) (dv V0) (z V0) (co V0) (si V0) (gq V0) (gk V0) (wq V0) (wkv V0) r k = lanes (dkr (dk V0) (co V0) (si V0) r) ⟨k.val - 2048 - 256 - 128, h7⟩ := by
  unfold dzAt; rw [if_neg h0, dif_neg h2, dif_neg h3, dif_pos h7]

theorem dz_gates (h : 2560 ≤ k.val) : dzAt (dz V0) (dq V0) (dk V0) (dv V0) (z V0) (co V0) (si V0) (gq V0) (gk V0) (wq V0) (wkv V0) r k = dz V0 (ix2 r k) := by
  unfold dzAt; rw [if_neg (by omega), dif_neg (by omega), dif_neg (by omega), dif_neg (by omega)]

end Columns

variable (m : (ℓ : Loc nD τ sig) → Buf (Elt Ideal) ℓ) (ρ : Dev nD → PrngReg)

theorem run_input : θ_run defs (onTc (τ := τ) (main (F := Ideal))) ⟨m, fun _ => 0, ρ⟩ fun r => ∀ c : Dev nD,
      r.2.mem ((c.tc : Thread nD τ).loc main_v169) = (fun i : (⟨2, ![4096, 3072]⟩ : Shape).Idx => dzAt (dz (StableHlo.launchContents m c)) (dq (StableHlo.launchContents m c)) (dk (StableHlo.launchContents m c)) (dv (StableHlo.launchContents m c)) (z (StableHlo.launchContents m c)) (co (StableHlo.launchContents m c)) (si (StableHlo.launchContents m c)) (gq (StableHlo.launchContents m c)) (gk (StableHlo.launchContents m c)) (wq (StableHlo.launchContents m c)) (wkv (StableHlo.launchContents m c)) (i 0) (i 1)) := by
  refine (θ_run defs _ _).mono (fun _ h c => (h c).1.trans ?_) (run m ρ)
  generalize StableHlo.launchContents m c = V0
  funext j
  idx_vars j
  pointwise [v4_at, v5_at, res_main_v148, res_main_v108, v143_at, v103_at, v158_at, v118_at, res_main_v15, res_main_v49, v14_at, v48_at, res_main_v87, res_main_v88, v86_at]
  by_cases h0 : j1.val < 2048
  · rw [dif_pos h0]
    exact (dz_attention V0 j0 j1 h0).symm
  by_cases h1 : j1.val - 2048 < 512
  · rw [dif_neg h0, dif_pos h1]
    by_cases h2 : j1.val - 2048 < 256
    · rw [dif_pos h2]
      exact (dz_queries V0 j0 j1 h0 h2).symm
    by_cases h3 : j1.val - 2048 - 256 < 128
    · rw [dif_neg h2, dif_pos h3]
      exact (dz_keys V0 j0 j1 h0 h2 h3).symm
    have h7 : j1.val - 2048 - 256 - 128 < 128 := by omega
    rw [dif_neg h2, dif_neg h3]
    refine Eq.trans ?_ (dz_rotated V0 j0 j1 h0 h2 h3 h7).symm
    exact dkr_rows V0 j0 _ h7
  · rw [dif_neg h0, dif_neg h1]
    refine Eq.trans ?_ (dz_gates V0 j0 j1 (by omega)).symm
    exact congrArg (dz V0) (congrArg (ix2 j0) (Fin.ext (by show 2560 + (j1.val - 2048 - 512) = j1.val; omega)))

end Cert.MlaRefIdeal.Value

end
-- ==== Proof.Mla.RefWeights.lean ====
/- The reference's weight gradients are the formulas of `Mla/Spec.lean`, on the lanes that are read. -/
module

public import proofs.«01_k».proof.Proof.Mla.Terms
public import Idealize.ShloMosaic.Lib.Pipeline.ValueKit

@[expose] public section

set_option maxRecDepth 16384
set_option maxHeartbeats 1000000

noncomputable section

namespace Cert.MlaRefIdeal.Value

open Cert.MlaRefIdeal Cert.MlaRefIdeal.Gen Cert.MlaSpec
open Idealize.ShloMosaic Idealize.ShloMosaic.TcCoe Idealize.SL.Sem
open scoped BigOperators

theorem dw_rows (V0 : Valuation τ sig (Elt Ideal)) (H : Fin 8) (Q : Fin 512) (l : Fin 128) (hm : Q.val / 128 ≠ 2 ∨ l.val < 64 ∨ 96 ≤ l.val) :
    (if h : Q.val < 256 then
      if h_1 : H.val < 8 ∧ Q.val < 256 ∧ l.val < 96 then
        ∑ x : Fin 4096, qA V0 (ix2 x ⟨H.val * 96 + l.val, by omega⟩) * (unit n256 (latQ (z V0) x) ⟨Q.val, h⟩ * gq V0 (ix2 0 ⟨Q.val, h⟩))
      else 0
    else if h : Q.val - 256 < 128 then
      if h_1 : H.val < 8 ∧ Q.val - 256 < 128 ∧ l.val < 64 then
        ∑ x : Fin 4096, kvA V0 (ix2 x ⟨H.val * 128 + l.val, by omega⟩) * (unit n128 (latK (z V0) x) ⟨Q.val - 256, h⟩ * gk V0 (ix2 0 ⟨Q.val - 256, h⟩))
      else 0
    else if h_1 : l.val < 64 then
      Scalar.select (if H.val % 2 = 1 then 1#1 else 0#1) 0
        (∑ x : Fin 4096, kvA V0 (ix2 x ⟨H.val * 128 + (64 + l.val), by omega⟩) * (unit n128 (latK (z V0) x) ⟨Q.val - 256 - 128, by omega⟩ * gk V0 (ix2 0 ⟨Q.val - 256 - 128, by omega⟩)))
    else
      Scalar.select (if H.val % 2 = 1 then 1#1 else 0#1)
        (∑ x : Fin 4096, kvA V0 (ix2 x ⟨H.val * 128 + (64 + (l.val - 64)), by omega⟩) * (unit n128 (latK (z V0) x) ⟨Q.val - 256 - 128, by omega⟩ * gk V0 (ix2 0 ⟨Q.val - 256 - 128, by omega⟩)))
        0)
      = dwAt (dq V0) (dk V0) (dv V0) (z V0) (co V0) (si V0) (gq V0) (gk V0) H Q l := by
  unfold dwAt
  by_cases h1 : Q.val < 256
  · by_cases h2 : l.val < 96
    · have h3 : H.val < 8 ∧ Q.val < 256 ∧ l.val < 96 := ⟨H.isLt, h1, h2⟩
      rw [dif_pos h1, dif_pos h3, dif_pos h1]
      refine Finset.sum_congr rfl fun r _ => ?_
      have e : qA V0 (ix2 r ⟨H.val * 96 + l.val, by omega⟩) = lanes (dqt (dq V0) (co V0) (si V0) H r) l := by
        unfold lanes
        rw [dif_pos h2]
        exact v140_at V0 r H ⟨l.val, h2⟩
      exact (congrArg (fun x : EReal => x * _) e).trans (mul_comm _ _)
    · have h3 : ¬ (H.val < 8 ∧ Q.val < 256 ∧ l.val < 96) := fun h => h2 h.2.2
      rw [dif_pos h1, dif_neg h3, dif_pos h1]
      exact (Finset.sum_eq_zero fun r _ => by rw [lanes, dif_neg h2, mul_zero]).symm
  rw [dif_neg h1, dif_neg h1]
  by_cases h2 : Q.val - 256 < 128
  · rw [dif_pos h2, dif_pos h2]
    by_cases h3 : l.val < 64
    · have h4 : H.val < 8 ∧ Q.val - 256 < 128 ∧ l.val < 64 := ⟨H.isLt, h2, h3⟩
      have h5 : l.val < 96 := by omega
      rw [dif_pos h4]
      refine Finset.sum_congr rfl fun r _ => ?_
      have e : kvA V0 (ix2 r ⟨H.val * 128 + l.val, by omega⟩) = lanes (fun j : Fin 96 => dk V0 (ix3 H r j)) l := by
        unfold lanes
        rw [dif_pos h5]
        exact v100_lo V0 r H ⟨l.val, h3⟩
      exact (congrArg (fun x : EReal => x * _) e).trans (mul_comm _ _)
    · have h4 : ¬ (H.val < 8 ∧ Q.val - 256 < 128 ∧ l.val < 64) := fun h => h3 h.2.2
      have h5 : ¬ l.val < 96 := by omega
      rw [dif_neg h4]
      exact (Finset.sum_eq_zero fun r _ => by rw [lanes, dif_neg h5, mul_zero]).symm
  rw [dif_neg h2, dif_neg h2]
  simp only [select_one]
  unfold own
  by_cases h3 : l.val < 64
  · simp only [h3, ↓reduceDIte]
    by_cases h4 : H.val % 2 = 1
    · simp only [h4, ↓reduceIte, mul_zero, Finset.sum_const_zero]
    · simp only [h4, ↓reduceIte]
      exact Finset.sum_congr rfl fun r _ => (congrArg (fun x : EReal => x * _) (v100_hi V0 r H ⟨l.val, h3⟩)).trans (mul_comm _ _)
  · simp only [h3, ↓reduceDIte]
    by_cases h4 : H.val % 2 = 1
    · simp only [h4, ↓reduceIte]
      exact Finset.sum_congr rfl fun r _ => (congrArg (fun x : EReal => x * _) (v100_hi V0 r H ⟨l.val - 64, by omega⟩)).trans (mul_comm _ _)
    · simp only [h4, ↓reduceIte, mul_zero, Finset.sum_const_zero]

variable (m : (ℓ : Loc nD τ sig) → Buf (Elt Ideal) ℓ) (ρ : Dev nD → PrngReg)

theorem run_weights : θ_run defs (onTc (τ := τ) (main (F := Ideal))) ⟨m, fun _ => 0, ρ⟩ fun r => ∀ c : Dev nD,
      ∀ (a : Fin 4) (q : Fin 1024) (l : Fin 128), q.val % 512 / 128 ≠ 2 ∨ l.val < 64 ∨ 96 ≤ l.val → r.2.mem ((c.tc : Thread nD τ).loc main_v190) (ix3 a q l)
        = dwAt (dq (StableHlo.launchContents m c)) (dk (StableHlo.launchContents m c)) (dv (StableHlo.launchContents m c)) (z (StableHlo.launchContents m c)) (co (StableHlo.launchContents m c)) (si (StableHlo.launchContents m c)) (gq (StableHlo.launchContents m c)) (gk (StableHlo.launchContents m c)) ⟨2 * a.val + q.val / 512, by omega⟩ ⟨q.val % 512, by omega⟩ l := by
  refine (θ_run defs _ _).mono (fun _ h c a q l hm => (congrFun (h c).2.1 _).trans ?_) (run m ρ)
  generalize StableHlo.launchContents m c = V0
  obtain ⟨H, hH⟩ : ∃ H : Fin 8, a.val * 2 + q.val / 512 = H.val := ⟨⟨_, by omega⟩, rfl⟩
  obtain ⟨Q, hQ⟩ : ∃ Q : Fin 512, q.val % 512 = Q.val := ⟨⟨_, by omega⟩, rfl⟩
  have eH : (⟨2 * a.val + q.val / 512, by omega⟩ : Fin 8) = H := Fin.ext (by show 2 * a.val + q.val / 512 = H.val; omega)
  have eQ : (⟨q.val % 512, by omega⟩ : Fin 512) = Q := Fin.ext hQ
  rw [eH, eQ]
  rw [hQ] at hm
  pointwise [res_main_v22, v20_at, v174_at, odd_at, res_main_v178]
  simp only [hH, hQ, word_zero]
  exact dw_rows V0 H Q l hm

end Cert.MlaRefIdeal.Value

end
-- ==== Proof.Mla.RefGains.lean ====
/- The reference's gradients of the two norms' gains are the formulas of `Mla/Spec.lean`. -/
module

public import proofs.«01_k».proof.Proof.Mla.Terms
public import Idealize.ShloMosaic.Lib.Pipeline.ValueKit

@[expose] public section

set_option maxRecDepth 16384
set_option maxHeartbeats 1000000

noncomputable section

namespace Cert.MlaRefIdeal.Value

open Cert.MlaRefIdeal Cert.MlaRefIdeal.Gen Cert.MlaSpec
open Idealize.ShloMosaic Idealize.ShloMosaic.TcCoe Idealize.SL.Sem
open scoped BigOperators

variable (m : (ℓ : Loc nD τ sig) → Buf (Elt Ideal) ℓ) (ρ : Dev nD → PrngReg)

theorem run_gains : θ_run defs (onTc (τ := τ) (main (F := Ideal))) ⟨m, fun _ => 0, ρ⟩ fun r => ∀ c : Dev nD,
      r.2.mem ((c.tc : Thread nD τ).loc main_v146) = (fun i : (⟨2, ![1, 256]⟩ : Shape).Idx => dqgAt (dq (StableHlo.launchContents m c)) (z (StableHlo.launchContents m c)) (co (StableHlo.launchContents m c)) (si (StableHlo.launchContents m c)) (wq (StableHlo.launchContents m c)) (i 1))
      ∧ r.2.mem ((c.tc : Thread nD τ).loc main_v106) = (fun i : (⟨2, ![1, 128]⟩ : Shape).Idx => dkgAt (dk (StableHlo.launchContents m c)) (dv (StableHlo.launchContents m c)) (z (StableHlo.launchContents m c)) (wkv (StableHlo.launchContents m c)) (i 1)) := by
  refine (θ_run defs _ _).mono (fun _ h c => ⟨(h c).2.2.1.trans ?_, (h c).2.2.2.1.trans ?_⟩) (run m ρ)
  · generalize StableHlo.launchContents m c = V0
    funext j
    idx_vars j
    obtain rfl : j0 = 0 := Subsingleton.elim _ _
    pointwise [v20_at, v143_at, dqgAt]
  · generalize StableHlo.launchContents m c = V0
    funext j
    idx_vars j
    obtain rfl : j0 = 0 := Subsingleton.elim _ _
    pointwise [v54_at, v103_at, dkgAt]

end Cert.MlaRefIdeal.Value

end
-- ==== Proof.Mla.Claims.lean ====
/- The claims about the latent attention's projections, backward: their frames, and their four results against the reference's.

The gradients of the two up-projections' weights are claimed on the lanes that are read of them. -/
module

public import proofs.«01_k».proof.Defs
public import proofs.«01_k».proof.Proof.Gen.Mla.Frame
public import proofs.«01_k».proof.Proof.Gen.MlaIdeal.Frame
public import proofs.«01_k».proof.Proof.Mla.Final
public import proofs.«01_k».proof.Proof.Mla.Mask
public import proofs.«01_k».proof.Proof.Mla.RefInput
public import proofs.«01_k».proof.Proof.Mla.RefWeights
public import proofs.«01_k».proof.Proof.Mla.RefGains
public import Idealize.ShloMosaic.Lib.Claim

@[expose] public section

set_option maxRecDepth 16384

noncomputable section

namespace Cert.MlaClaims

open Idealize.ShloMosaic Idealize.ShloMosaic.TcCoe Idealize.SL Idealize.SL.Sem

theorem frame_bits : Cert.quiescent_Mla := fun m ρ _ => Cert.Mla.Gen.frame m ρ

theorem frame_ideal : Cert.quiescent_MlaIdeal := fun m ρ _ => Cert.MlaIdeal.Gen.frame m ρ

theorem frame_ref : Cert.quiescent_MlaRefIdeal := fun m ρ _ =>
  (θ_run Cert.MlaRefIdeal.defs _ _).mono (fun _ h => ⟨fun c => (h c).2.2.2.2, sem_eq_zero_of_no_sems rfl _⟩)
    (Cert.MlaRefIdeal.Value.run m ρ)

theorem value : Cert.algebraic_MlaIdeal_MlaRefIdeal_on_read_lanes := by
  intro m g m' g' _ ha
  refine ⟨_, _, _, _, (θ_run Cert.MlaIdeal.defs _ _).mono (fun r h c => ⟨fun i _ => congrFun (h c).1 i, fun i _ => congrFun (h c).2.1 i,
    fun i _ => congrFun (h c).2.2.1 i, fun i _ => congrFun (h c).2.2.2.1 i, (h c).2.2.2.2⟩) (Cert.MlaIdeal.Value.run_spec m g), ?_⟩
  refine (θ_run Cert.MlaRefIdeal.defs _ _).mono (fun r h c => ?_) (θ_run_and (Cert.MlaRefIdeal.Value.run_input m' g')
    (θ_run_and (Cert.MlaRefIdeal.Value.run_weights m' g') (θ_run_and (Cert.MlaRefIdeal.Value.run_gains m' g') (Cert.MlaRefIdeal.Value.run m' g'))))
  obtain ⟨h1, h2, h3, h4⟩ := h
  have hargs := (h4 c).2.2.2.2
  clear h4
  replace h1 := h1 c
  replace h2 := h2 c
  replace h3 := h3 c
  obtain ⟨a0, a1, a2, a3, a4, a5, a6, a7, a8, a9, a10⟩ := ha c
  have e0 : Cert.MlaRefIdeal.Value.dz (StableHlo.launchContents m' c) = Cert.MlaIdeal.Value.dz m c := a0
  have e1 : Cert.MlaRefIdeal.Value.dq (StableHlo.launchContents m' c) = Cert.MlaIdeal.Value.dq m c := a1
  have e2 : Cert.MlaRefIdeal.Value.dk (StableHlo.launchContents m' c) = Cert.MlaIdeal.Value.dk m c := a2
  have e3 : Cert.MlaRefIdeal.Value.dv (StableHlo.launchContents m' c) = Cert.MlaIdeal.Value.dv m c := a3
  have e4 : Cert.MlaRefIdeal.Value.z (StableHlo.launchContents m' c) = Cert.MlaIdeal.Value.z m c := a4
  have e5 : Cert.MlaRefIdeal.Value.co (StableHlo.launchContents m' c) = Cert.MlaIdeal.Value.co m c := a5
  have e6 : Cert.MlaRefIdeal.Value.si (StableHlo.launchContents m' c) = Cert.MlaIdeal.Value.si m c := a6
  have e7 : Cert.MlaRefIdeal.Value.gq (StableHlo.launchContents m' c) = Cert.MlaIdeal.Value.gq m c := a7
  have e8 : Cert.MlaRefIdeal.Value.gk (StableHlo.launchContents m' c) = Cert.MlaIdeal.Value.gk m c := a8
  have e9 : Cert.MlaRefIdeal.Value.wq (StableHlo.launchContents m' c) = Cert.MlaIdeal.Value.wq m c := a9
  have e10 : Cert.MlaRefIdeal.Value.wkv (StableHlo.launchContents m' c) = Cert.MlaIdeal.Value.wkv m c := a10
  rw [e0, e1, e2, e3, e4, e5, e6, e7, e8, e9, e10] at h1
  rw [e1, e2, e3, e4, e5, e6, e7, e8] at h2
  rw [e1, e4, e5, e6, e9, e2, e3, e10] at h3
  refine ⟨fun i _ => congrFun h1 i, fun i hi => ?_, fun i _ => congrFun h3.1 i, fun i _ => congrFun h3.2 i, hargs⟩
  have hm := Cert.On_read_lanes.read hi
  idx_vars i
  exact h2 i0 i1 i2 hm

end Cert.MlaClaims

end
-- ==== Proof.Next.Spec.lean ====
/- The stream after a layer's gated branch is added, and the next layer's modulated norm of it. -/
module

public import proofs.«01_k».proof.Proof.RowNorm

@[expose] public section

noncomputable section

namespace Cert.NextSpec

open Idealize.ShloMosaic Cert.RowNorm

/-- A matrix of 4096 rows of 1024 entries; a row of 1024; the row of shift, scale and gate. -/
abbrev Rows := Vec Ideal ⟨2, ![4096, 1024]⟩ .f32
abbrev Row := Vec Ideal ⟨2, ![1, 1024]⟩ .f32
abbrev Mods := Vec Ideal ⟨2, ![1, 3072]⟩ .f32

/-- One row of the new stream, from a row `x` of the old, the branch's row `y`, the gate's row and the norm's gain. -/
abbrev added (x y gate gain : Line) : Line := fun l => x l + gate l * (unit y l * gain l)

/-- One row of the modulated norm. -/
abbrev modulated (x gain scale shift : Line) : Line := fun l => unit x l * gain l * (1 + scale l) + shift l

/-- A row of one of the three parts of shift, scale and gate. -/
abbrev part (n : Fin 3) (mod : Mods) : Line := fun k => mod (ix2 0 ⟨1024 * n + k, by omega⟩)

/-- A row's entries. -/
abbrev entries (g : Row) : Line := fun l => g (ix2 0 l)

/-- Row `r` of the new stream. -/
abbrev newLine (x yo : Rows) (g : Row) (mod : Mods) (r : Fin 4096) : Line :=
  added (fun l => x (ix2 r l)) (fun l => yo (ix2 r l)) (part 2 mod) (entries g)

/-- The new stream. -/
def stream (x yo : Rows) (g : Row) (mod : Mods) : Rows := fun j => newLine x yo g mod (j 0) (j 1)

/-- The next layer's modulated norm of it. -/
def normed (x yo : Rows) (g : Row) (mod : Mods) (g' : Row) (mod' : Mods) : Vec Ideal ⟨2, ![4096, 1024]⟩ .bf16 :=
  fun j => modulated (newLine x yo g mod (j 0)) (entries g') (part 1 mod') (part 0 mod') (j 1)

end Cert.NextSpec

end
-- ==== Proof.Next.Kernel.lean ====
/- The kernel's two results are the formulas of `Next/Spec.lean`, block of rows by block of rows. -/
module

public import proofs.«01_k».proof.Proof.Gen.NextIdeal.Value
public import proofs.«01_k».proof.Proof.Next.Spec
public import Idealize.ShloMosaic.Lib.Pipeline.Value
public import Idealize.ShloMosaic.Lib.Pipeline.ValueKit

@[expose] public section

set_option maxRecDepth 16384

noncomputable section

namespace Cert.NextIdeal.Value

open Cert.NextIdeal Cert.NextIdeal.Gen Cert.RowNorm Cert.NextSpec
open Idealize.ShloMosaic Idealize.ShloMosaic.TcCoe Idealize.SL.Sem
open Idealize.ShloMosaic.Pipeline (Dat)

/-- The windows' block indices at every grid point. -/
theorem idx : ∀ t : Fin cfg0.N, win0_0.index t = ![t.val, 0] ∧ win0_1.index t = ![t.val, 0] ∧ win0_2.index t = ![0, 0]
    ∧ win0_3.index t = ![0, 2] ∧ win0_4.index t = ![0, 0] ∧ win0_5.index t = ![0, 0] ∧ win0_6.index t = ![0, 1]
    ∧ win0_7.index t = ![t.val, 0] ∧ win0_8.index t = ![t.val, 0] :=
  (by decide +kernel : ∀ t : Fin grid0.N, _)

section Payloads

variable (x yo : Vec Ideal S512x1024 .f32) (g gt g' sh sc : Vec Ideal S1x1024 .f32)

/-- A row of the new stream, from the blocks. -/
abbrev lineB (i : Fin 512) : Line :=
  added (fun l => x (ix2 i l)) (fun l => yo (ix2 i l)) (fun l => gt (ix2 0 l)) (fun l => g (ix2 0 l))

theorem hpay_stream (i : Fin 512) (k : Fin 1024) : k0_pay2 (F := Ideal) x gt yo g (ix2 i k) = lineB x yo g gt i k := by
  pointwise [k0_pay2]
  rfl

theorem hpay_normed (i : Fin 512) (k : Fin 1024) :
    k0_pay1 (F := Ideal) (k0_pay3 x gt yo g g') (k0_pay4 sc) sh (ix2 i k)
      = modulated (lineB x yo g gt i) (fun l => g' (ix2 0 l)) (fun l => sc (ix2 0 l)) (fun l => sh (ix2 0 l)) k := by
  pointwise [k0_pay1, k0_pay3, k0_pay4, hpay_stream, modulated, unit, power]

end Payloads

variable (m : (ℓ : Loc nD τ sig) → Buf (Elt Ideal) ℓ)

/-! ## The blocks are rows of the arrays -/

abbrev xB (c : Dev nD) (t : Fin cfg0.N) : Vec Ideal S512x1024 .f32 := iblk m c 0 t

abbrev yoB (c : Dev nD) (t : Fin cfg0.N) : Vec Ideal S512x1024 .f32 := iblk m c 1 t

abbrev rowB (c : Dev nD) (t : Fin cfg0.N) : Fin 5 → Vec Ideal S1x1024 .f32
  | 0 => iblk m c 2 t
  | 1 => iblk m c 3 t
  | 2 => iblk m c 4 t
  | 3 => iblk m c 5 t
  | 4 => iblk m c 6 t

theorem x_at (c : Dev nD) (t : Fin cfg0.N) (i : Fin 512) (k : Fin 1024) (h : t.val * 512 + i.val < 4096) :
    xB m c t (ix2 i k) = m ((c : Thread nD τ).loc main_arg0) (ix2 ⟨t.val * 512 + i.val, h⟩ k) := by
  blk_point [xB, iblk, V, idx t]

theorem yo_at (c : Dev nD) (t : Fin cfg0.N) (i : Fin 512) (k : Fin 1024) (h : t.val * 512 + i.val < 4096) :
    yoB m c t (ix2 i k) = m ((c : Thread nD τ).loc main_arg1) (ix2 ⟨t.val * 512 + i.val, h⟩ k) := by
  blk_point [yoB, iblk, V, idx t]

theorem gain_at (c : Dev nD) (t : Fin cfg0.N) (k : Fin 1024) :
    rowB m c t 0 (ix2 0 k) = entries (m ((c : Thread nD τ).loc main_arg2)) k := by
  blk_point [rowB, iblk, V, idx t]

theorem gate_at (c : Dev nD) (t : Fin cfg0.N) (k : Fin 1024) :
    rowB m c t 1 (ix2 0 k) = part 2 (m ((c : Thread nD τ).loc main_arg3)) k := by
  blk_point [rowB, iblk, V, idx t]

theorem gain'_at (c : Dev nD) (t : Fin cfg0.N) (k : Fin 1024) :
    rowB m c t 2 (ix2 0 k) = entries (m ((c : Thread nD τ).loc main_arg4)) k := by
  blk_point [rowB, iblk, V, idx t]

theorem shift_at (c : Dev nD) (t : Fin cfg0.N) (k : Fin 1024) :
    rowB m c t 3 (ix2 0 k) = part 0 (m ((c : Thread nD τ).loc main_arg5)) k := by
  blk_point [rowB, iblk, V, idx t]

theorem scale_at (c : Dev nD) (t : Fin cfg0.N) (k : Fin 1024) :
    rowB m c t 4 (ix2 0 k) = part 1 (m ((c : Thread nD τ).loc main_arg5)) k := by
  blk_point [rowB, iblk, V, idx t]

/-- A row of the new stream, computed from the blocks, is the array's. -/
theorem line_at (c : Dev nD) (t : Fin cfg0.N) (i : Fin 512) (h : t.val * 512 + i.val < 4096) :
    lineB (xB m c t) (yoB m c t) (rowB m c t 0) (rowB m c t 1) i
      = newLine (m ((c : Thread nD τ).loc main_arg0)) (m ((c : Thread nD τ).loc main_arg1))
          (m ((c : Thread nD τ).loc main_arg2)) (m ((c : Thread nD τ).loc main_arg3)) ⟨t.val * 512 + i.val, h⟩ := by
  funext k
  simp only [lineB, newLine, added, x_at m c t i _ h, yo_at m c t i _ h]
  rw [gain_at, gate_at]

/-! ## The results -/

theorem final7 (c : Dev nD) : (dats m 0 c).arrAt 7 (cfgs 0).N
    = stream (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  have ht : t.val < 8 := lt_of_lt_of_eq t.isLt N_0
  blk_simp
  rw [after0_7]
  idx_vars y
  have hy : t.val * 512 + y0.val < 4096 := by omega
  have key : out0_7 (iblk m c 0 t) (iblk m c 1 t) (iblk m c 2 t) (iblk m c 3 t) (iblk m c 4 t) (iblk m c 5 t) (iblk m c 6 t) (ix2 y0 y1)
      = lineB (xB m c t) (yoB m c t) (rowB m c t 0) (rowB m c t 1) y0 y1 := by
    frame_out
    exact hpay_stream _ _ _ _ _ _
  refine key.trans ((congrFun (line_at m c t y0 hy) y1).trans ?_)
  show stream _ _ _ _ (ix2 ⟨t.val * 512 + y0.val, hy⟩ y1) = _
  refine congrArg _ (funext fun a => Fin.ext ?_)
  fin_cases a
  · blk_simp [idx t]
    rfl
  · blk_simp [idx t]
    rfl

theorem final8 (c : Dev nD) : (dats m 0 c).arrAt 8 (cfgs 0).N
    = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  have ht : t.val < 8 := lt_of_lt_of_eq t.isLt N_0
  blk_simp
  rw [after0_8]
  idx_vars y
  have hy : t.val * 512 + y0.val < 4096 := by omega
  have key : out0_8 (iblk m c 0 t) (iblk m c 1 t) (iblk m c 2 t) (iblk m c 3 t) (iblk m c 4 t) (iblk m c 5 t) (iblk m c 6 t) (ix2 y0 y1)
      = modulated (lineB (xB m c t) (yoB m c t) (rowB m c t 0) (rowB m c t 1) y0) (fun l => rowB m c t 2 (ix2 0 l))
          (fun l => rowB m c t 4 (ix2 0 l)) (fun l => rowB m c t 3 (ix2 0 l)) y1 := by
    frame_out
    exact hpay_normed _ _ _ _ _ _ _ _ _
  rw [line_at m c t y0 hy, funext (gain'_at m c t), funext (scale_at m c t), funext (shift_at m c t)] at key
  refine key.trans ?_
  show normed _ _ _ _ _ _ (ix2 ⟨t.val * 512 + y0.val, hy⟩ y1) = _
  refine congrArg _ (funext fun a => Fin.ext ?_)
  fin_cases a
  · blk_simp [idx t]
    rfl
  · blk_simp [idx t]
    rfl

end Cert.NextIdeal.Value

end
-- ==== Proof.Next.Reference.lean ====
/- The reference's stream and modulated norm, run: the results are the formulas of `Next/Spec.lean`. -/
module

public import proofs.«01_k».proof.Proof.Gen.NextRefIdeal.Run
public import proofs.«01_k».proof.Proof.Next.Spec

@[expose] public section

set_option maxRecDepth 16384

noncomputable section

namespace Cert.NextRefIdeal.Value

open Cert.NextRefIdeal Cert.NextRefIdeal.Gen Cert.RowNorm Cert.NextSpec
open Idealize.ShloMosaic Idealize.ShloMosaic.TcCoe Idealize.SL.Sem

variable (m : (ℓ : Loc nD τ sig) → Buf (Elt Ideal) ℓ) (ρ : Dev nD → PrngReg)

/-- What the reference leaves in its results, with the arguments as they were. -/
theorem run_spec : θ_run defs (onTc (τ := τ) (main (F := Ideal))) ⟨m, fun _ => 0, ρ⟩ fun r => ∀ c : Dev nD,
      r.2.mem ((c.tc : Thread nD τ).loc main_v17) = stream (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v39) = normed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2⟩) (run m ρ)
  · funext j
    idx_vars j
    pointwise [stream, newLine, added, part, entries, unit, power]
  · funext j
    idx_vars j
    pointwise [normed, newLine, added, modulated, part, entries, unit, power]

end Cert.NextRefIdeal.Value

end
-- ==== Proof.Next.Claims.lean ====
/- The claims about the forward call that adds a layer's branch and norms the stream for the next layer. -/
module

public import proofs.«01_k».proof.Defs
public import proofs.«01_k».proof.Proof.Gen.Next.Frame
public import proofs.«01_k».proof.Proof.Next.Kernel
public import proofs.«01_k».proof.Proof.Next.Reference
public import Idealize.ShloMosaic.Lib.Claim

@[expose] public section

set_option maxRecDepth 16384

noncomputable section

namespace Cert.NextClaims

open Idealize.ShloMosaic Idealize.SL.Sem

theorem frame_bits : Cert.quiescent_Next := fun m ρ _ => Cert.Next.Gen.frame m ρ

theorem frame_ideal : Cert.quiescent_NextIdeal := fun m ρ _ => Cert.NextIdeal.Gen.frame m ρ

theorem frame_ref : Cert.quiescent_NextRefIdeal := fun m ρ _ =>
  (θ_run Cert.NextRefIdeal.defs _ _).mono (fun _ h => ⟨fun c => (h c).2.2, sem_eq_zero_of_no_sems rfl _⟩)
    (Cert.NextRefIdeal.Value.run_spec m ρ)

theorem value : Cert.algebraic_NextIdeal_NextRefIdeal := by
  pair_intro
  · run_from Cert.NextIdeal.Gen.run_main m g
  · run_from Cert.NextRefIdeal.Value.run_spec m' g'
    · exact (Cert.NextIdeal.Value.final7 m c).symm
    · exact (Cert.NextIdeal.Value.final8 m c).symm

end Cert.NextClaims

end
-- ==== Proof.Soft.Host.lean ====
/- What the host lines hand the forward attention: queries and keys on 128 lanes, values on the head's own half of them. -/
module

public import proofs.«01_k».proof.Proof.Attn.HostAt
public import proofs.«01_k».proof.Proof.Gen.SoftIdeal.Value

@[expose] public section

set_option maxRecDepth 8192
set_option maxHeartbeats 2000000

noncomputable section

namespace Cert.SoftIdeal.Run

open Cert.SoftIdeal.Gen
open Idealize.ShloMosaic Idealize.ShloMosaic.TcCoe Idealize.ShloMosaic.Tactic
open Idealize.SL
open Cert.AttnIdeal.Run (onLanes onOwnLanes onLanes_apply onOwnLanes_apply)

variable (m : (ℓ : Loc nD τ sig) → Buf (Elt Ideal) ℓ) (c : Dev nD)

abbrev q : FVec Ideal S8x4096x96 .f32 := m ((c.tc : Thread nD τ).loc main_arg0)
abbrev k : FVec Ideal S8x4096x96 .f32 := m ((c.tc : Thread nD τ).loc main_arg1)
abbrev v : FVec Ideal S8x4096x64 .f32 := m ((c.tc : Thread nD τ).loc main_arg2)

theorem V_v11 : V m c main_v11 = truncf (F := Ideal) .bf16 (onLanes (q m c)) bitsLt_bf16_f32 := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_results_simp
  rfl

theorem V_v13 : V m c main_v13 = truncf (F := Ideal) .bf16 (onLanes (k m c)) bitsLt_bf16_f32 := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_results_simp
  rfl

theorem V_v9 : V m c main_v9 = truncf (F := Ideal) .bf16 (onOwnLanes (v m c)) bitsLt_bf16_f32 := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_results_simp
  rfl

end Cert.SoftIdeal.Run

end
-- ==== Proof.Soft.Step.lean ====
/- One step of the forward attention's body, and how many it takes.

For one half of its rows a grid point goes through the key blocks in order. A step takes in one block: it raises the
largest score so far, scales what is summed to the new one and adds the block's exponentials and their products with
the values. The blocks before the half's own are taken in whole, two at a time by a counted loop; the half's own block
is taken in last, masked. -/
module

public import proofs.«01_k».proof.Proof.Gen.SoftIdeal.Loops
public import proofs.«01_k».proof.Proof.Gen.SoftIdeal.Value
public import Idealize.ShloMosaic.Lib.VecWindow

@[expose] public section

set_option maxRecDepth 8192
set_option maxHeartbeats 4000000

noncomputable section

namespace Cert.SoftIdeal.Run

open Cert.SoftIdeal.Gen
open Idealize.ShloMosaic Idealize.ShloMosaic.TcCoe Idealize.ShloMosaic.Tactic
open Idealize.SL

variable {F : FTy → Type} [FloatOps F] [Named F]

/-- 512 rows of the keys or values of a head: block `n`. -/
def rows (x : Vec F S1x4096x128 .bf16) (n : Fin 8) : Vec F S1x512x128 .bf16 :=
  VecWindow.window x ![0, 512 * n.val, 0] ![1, 512, 128] (fun a => by fin_cases a <;> simp <;> omega)

/-- One half of a point's queries. -/
def half (x : Vec F S1x1024x128 .bf16) (h : Fin 2) : Vec F S1x512x128 .bf16 :=
  VecWindow.window x ![0, 512 * h.val, 0] ![1, 512, 128] (fun a => by fin_cases a <;> simp <;> omega)

/-- What a step carries: the largest score so far, the sum of the exponentials over it, and the sums of their products
with the values. -/
abbrev Carry (F : FTy → Type) := FVec F S512x1 .f32 × FVec F S512x1 .f32 × FVec F S512x128 .f32

/-- The largest score of each row of a block. -/
def peak (s : FVec F S512x512 .f32) : FVec F S512 .f32 :=
  multiReduction .maximumf [1] S512 s 0xFF800000#32 reduces_S512x512_S512 (.inl rfl) rfl

/-- One step, on a block of scores `s` and the values `v`. -/
def step (a : Carry F) (s : FVec F S512x512 .f32) (v : Vec F S1x512x128 .bf16) : Carry F :=
  (k0_pay39 a.1 (peak s), k0_pay42 a.1 a.2.1 s (peak s), k0_pay43 a.1 a.2.2 s (peak s) v)

/-- The scores of a block of keys. -/
abbrev block (q k : Vec F S1x512x128 .bf16) : FVec F S512x512 .f32 := k0_pay33 (k0_pay35 q) k

/-- The scores of the half's own block: those of a later chunk masked. -/
def seen (i : grid0.Coords) (h : Fin 2) (q k : Vec F S1x512x128 .bf16) : FVec F S512x512 .f32 :=
  if h = 0 then k0_pay52 (k0_pay49 q k) (k0_pay50 i) (k0_pay51 i)
  else k0_pay80 (BitVec.ofNat 32 (i 1).val) (k0_pay35 q) (Scalar.muli (Scalar.addi (Scalar.muli 2#32 (BitVec.ofNat 32 (i 1).val)) 1#32) 512#32) k

/-- What a half starts from. -/
def start : Carry F := (k0_pay36, k0_pay37, k0_pay38)

/-- What is carried after the first `n` blocks, none of them masked. -/
def carry (q : Vec F S1x512x128 .bf16) (k v : Vec F S1x4096x128 .bf16) : ℕ → Carry F
  | 0 => start
  | n + 1 => step (carry q k v n) (block q (rows k ⟨n % 8, Nat.mod_lt _ (by norm_num)⟩)) (rows v ⟨n % 8, Nat.mod_lt _ (by norm_num)⟩)

theorem trips1_eq : ∀ i : grid0.Coords, (k0_t1_loop i).trips = (i 1).val := by decide +kernel
theorem trips2_eq : ∀ i : grid0.Coords, (k0_t2_loop i).trips = 0 := by decide +kernel
theorem trips3_eq : ∀ i : grid0.Coords, (k0_t3_loop i).trips = (i 1).val := by decide +kernel
theorem trips4_eq : ∀ i : grid0.Coords, (k0_t4_loop i).trips = 0 := by decide +kernel

theorem off1_eq : ∀ (i : grid0.Coords) (k : Fin (k0_t1_loop i).trips), k0_off1 i k = ![0, 512 * ((2 * k.val) % 8), 0] := by decide +kernel
theorem off2_eq : ∀ (i : grid0.Coords) (k : Fin (k0_t1_loop i).trips), k0_off2 i k = ![0, 512 * ((2 * k.val + 1) % 8), 0] := by decide +kernel
theorem off6_eq : ∀ (i : grid0.Coords) (k : Fin (k0_t3_loop i).trips), k0_off6 i k = ![0, 512 * ((2 * k.val) % 8), 0] := by decide +kernel
theorem off7_eq : ∀ (i : grid0.Coords) (k : Fin (k0_t3_loop i).trips), k0_off7 i k = ![0, 512 * ((2 * k.val + 1) % 8), 0] := by decide +kernel
theorem off5_fst : ∀ i : grid0.Coords, k0_off5 i 0#32 = ![0, 512 * ((2 * (i 1).val) % 8), 0] := by decide +kernel
theorem off5_snd : ∀ i : grid0.Coords, k0_off5 i 1#32 = ![0, 512 * ((2 * (i 1).val + 1) % 8), 0] := by decide +kernel
theorem off10_eq : ∀ i : grid0.Coords, k0_off10 i = ![0, 512 * ((2 * (i 1).val) % 8), 0] := by decide +kernel

/-- The quotient. -/
def quot (a : Carry F) : FVec F S512x128 .f32 := divf a.2.2 (broadcastTo S512x128 a.2.1 broadcasts_S512x1_S512x128)

/-- The log-sum. -/
def logs (a : Carry F) : Vec F S1x512x1 .f32 := k0_pay1 a.1 a.2.1

/-- One half of the rows of the output's block. -/
def halfOut (x : Vec F S1024x128 .f32) (h : Fin 2) : Vec F S512x128 .f32 :=
  VecWindow.window x ![512 * h.val, 0] ![512, 128] (fun a => by fin_cases a <;> simp <;> omega)

/-- The step between the second half's loop and its own block, as the body writes it. -/
def after (q : Vec F S1x512x128 .bf16) (a : Carry F) (k v : Vec F S1x512x128 .bf16) : Carry F :=
  (k0_pay75 (k0_pay35 q) a.1 k, k0_pay78 (k0_pay35 q) a.1 a.2.1 k, k0_pay79 (k0_pay35 q) a.1 a.2.2 k v)

/-! ## What the body stores, as steps -/

section First

variable (a : Carry F) (s : FVec F S512x512 .f32) (u w : IVec S512x512 32) (v : Vec F S1x512x128 .bf16)

theorem pay53_eq : k0_pay53 a.1 s u w = k0_pay39 a.1 (peak (k0_pay52 s u w)) := by unfold k0_pay53 k0_pay39 peak; rfl
theorem pay54_eq : k0_pay54 a.1 s u w = k0_pay40 a.1 (peak (k0_pay52 s u w)) := by unfold k0_pay54 k0_pay40; rw [pay53_eq]
theorem pay55_eq : k0_pay55 a.1 s u w = k0_pay41 a.1 (k0_pay52 s u w) (peak (k0_pay52 s u w)) := by unfold k0_pay55 k0_pay41; rw [pay53_eq]
theorem pay56_eq : k0_pay56 a.1 a.2.1 s u w = k0_pay42 a.1 a.2.1 (k0_pay52 s u w) (peak (k0_pay52 s u w)) := by
  unfold k0_pay56 k0_pay42; rw [pay54_eq, pay55_eq]
theorem pay57_eq : k0_pay57 a.1 a.2.1 a.2.2 s u w v = quot (step a (k0_pay52 s u w) v) := by
  unfold k0_pay57; rw [pay54_eq, pay55_eq, pay56_eq]; unfold quot step k0_pay43; rfl
theorem pay58_eq : k0_pay58 a.1 a.2.1 s u w = logs (step a (k0_pay52 s u w) v) := by
  unfold k0_pay58; rw [pay53_eq, pay56_eq]; unfold logs step k0_pay1; rfl

end First

section Second

variable (a : Carry F) (q k v : Vec F S1x512x128 .bf16) (w u : BitVec 32)

theorem pay75_eq : k0_pay75 (k0_pay35 q) a.1 k = (step a (block q k) v).1 := by unfold k0_pay75 step k0_pay39 peak block; rfl
theorem pay78_eq : k0_pay78 (k0_pay35 q) a.1 a.2.1 k = (step a (block q k) v).2.1 := by
  have e : k0_pay75 (k0_pay35 q) a.1 k = k0_pay39 a.1 (peak (block q k)) := by unfold k0_pay75 k0_pay39 peak block; rfl
  unfold k0_pay78 k0_pay77 k0_pay76 step k0_pay42 k0_pay41 k0_pay40; rw [e]; rfl
theorem pay79_eq : k0_pay79 (k0_pay35 q) a.1 a.2.2 k v = (step a (block q k) v).2.2 := by
  have e : k0_pay75 (k0_pay35 q) a.1 k = k0_pay39 a.1 (peak (block q k)) := by unfold k0_pay75 k0_pay39 peak block; rfl
  unfold k0_pay79 k0_pay77 k0_pay76 step k0_pay43 k0_pay41 k0_pay40; rw [e]; rfl
theorem pay81_eq : k0_pay81 w (k0_pay35 q) u a.1 k = (step a (k0_pay80 w (k0_pay35 q) u k) v).1 := by unfold k0_pay81 step k0_pay39 peak; rfl
theorem pay84_eq : k0_pay84 w (k0_pay35 q) u a.1 a.2.1 k = (step a (k0_pay80 w (k0_pay35 q) u k) v).2.1 := by
  have e : k0_pay81 w (k0_pay35 q) u a.1 k = k0_pay39 a.1 (peak (k0_pay80 w (k0_pay35 q) u k)) := by unfold k0_pay81 k0_pay39 peak; rfl
  unfold k0_pay84 k0_pay83 k0_pay82 step k0_pay42 k0_pay41 k0_pay40; rw [e]
theorem pay85_eq : k0_pay85 w (k0_pay35 q) u a.1 a.2.1 a.2.2 k v = quot (step a (k0_pay80 w (k0_pay35 q) u k) v) := by
  have e : k0_pay81 w (k0_pay35 q) u a.1 k = k0_pay39 a.1 (peak (k0_pay80 w (k0_pay35 q) u k)) := by unfold k0_pay81 k0_pay39 peak; rfl
  unfold k0_pay85; rw [pay84_eq a q k v]; unfold k0_pay83 k0_pay82 quot step k0_pay43 k0_pay41 k0_pay40; rw [e]

theorem after_eq : after q a k v = step a (block q k) v := by
  unfold after; rw [pay75_eq a q k v, pay78_eq a q k v, pay79_eq a q k v]
theorem pay1_eq : k0_pay1 (k0_pay81 w (k0_pay35 q) u a.1 k) (k0_pay84 w (k0_pay35 q) u a.1 a.2.1 k) = logs (step a (k0_pay80 w (k0_pay35 q) u k) v) := by
  rw [pay81_eq a q k v, pay84_eq a q k v]; rfl

end Second

end Cert.SoftIdeal.Run
end
-- ==== Proof.Soft.Loop.lean ====
/- What the body of the forward attention computes from its inputs.

The two counted loops carry what the blocks before the half's own give (`loop1_eq`, `loop3_eq`); so the body stores,
of each half, the quotient and the log-sum of what is carried after the half's own block (`piecesA_3` … `piecesB_4`). -/
module

public import proofs.«01_k».proof.Proof.Soft.Step

@[expose] public section

set_option maxRecDepth 8192
set_option maxHeartbeats 4000000

noncomputable section

namespace Cert.SoftIdeal.Run

open Cert.SoftIdeal.Gen
open Idealize.ShloMosaic Idealize.ShloMosaic.TcCoe Idealize.ShloMosaic.Tactic
open Idealize.SL

variable {F : FTy → Type} [FloatOps F] [Named F]

/-- A load of 512 rows of a whole buffer. -/
theorem load_rows (a : Memref sig .tc .vmem S1x4096x128 .bf16) (ha : a.IsWhole) (x : Vec F S1x4096x128 .bf16) (n : Fin 8)
    {off : Fin 3 → ℕ} (inb : ∀ b, off b + ![1, 512, 128] b ≤ S1x4096x128.size b) (h : off = ![0, 512 * n.val, 0]) :
    View.readAt (Elt F) a.view (Rect.unit (s := S1x4096x128) off ![1, 512, 128] inb).toLoadRect (ha.unread x) = rows x n := by
  subst h
  refine (View.readAt_unit _ _ inb rfl inb).trans ?_
  rw [ha.read_unread]
  rfl

theorem load_half (a : Memref sig .tc .vmem S1x1024x128 .bf16) (ha : a.IsWhole) (x : Vec F S1x1024x128 .bf16) (n : Fin 2)
    {off : Fin 3 → ℕ} (inb : ∀ b, off b + ![1, 512, 128] b ≤ S1x1024x128.size b) (h : off = ![0, 512 * n.val, 0]) :
    View.readAt (Elt F) a.view (Rect.unit (s := S1x1024x128) off ![1, 512, 128] inb).toLoadRect (ha.unread x) = half x n := by
  subst h
  refine (View.readAt_unit _ _ inb rfl inb).trans ?_
  rw [ha.read_unread]
  rfl

section Body

variable (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1024x128 .f32) (harg6 : arg6.IsWhole) (arg7 : Memref sig .tc .vmem S1x1024x1 .f32) (harg7 : arg7.IsWhole)

theorem trip1_eq (q : Vec F S1x512x128 .bf16) (x1 x2 : Vec F S1x4096x128 .bf16) (k : Fin (k0_t1_loop i).trips) (a : Carry F) :
    tripR_k0_t1 (F := F) Variants.none c none i arg3 harg3 arg4 harg4 arg5 harg5 arg6 harg6 arg7 harg7 q (harg4.unread x1) (harg5.unread x2) k a
      = step (step a (block q (rows x1 ⟨2 * k.val % 8, Nat.mod_lt _ (by norm_num)⟩)) (rows x2 ⟨2 * k.val % 8, Nat.mod_lt _ (by norm_num)⟩))
          (block q (rows x1 ⟨(2 * k.val + 1) % 8, Nat.mod_lt _ (by norm_num)⟩)) (rows x2 ⟨(2 * k.val + 1) % 8, Nat.mod_lt _ (by norm_num)⟩) := by
  have e1 := load_rows arg4 harg4 x1 ⟨2 * k.val % 8, Nat.mod_lt _ (by norm_num)⟩ (k0_off1_inb i k) (off1_eq i k)
  have e2 := load_rows arg5 harg5 x2 ⟨2 * k.val % 8, Nat.mod_lt _ (by norm_num)⟩ (k0_off1_inb i k) (off1_eq i k)
  have e3 := load_rows arg4 harg4 x1 ⟨(2 * k.val + 1) % 8, Nat.mod_lt _ (by norm_num)⟩ (k0_off2_inb i k) (off2_eq i k)
  have e4 := load_rows arg5 harg5 x2 ⟨(2 * k.val + 1) % 8, Nat.mod_lt _ (by norm_num)⟩ (k0_off2_inb i k) (off2_eq i k)
  rw [← e1, ← e2, ← e3, ← e4]
  unfold tripR_k0_t1 trip_k0_t1
  rfl

theorem trip3_eq (w w' : BitVec 32) (w'' : BitVec 32) (q : Vec F S1x512x128 .bf16) (x1 x2 : Vec F S1x4096x128 .bf16) (k : Fin (k0_t3_loop i).trips) (a : Carry F) :
    tripR_k0_t3 (F := F) Variants.none c none i arg3 harg3 arg4 harg4 arg5 harg5 arg6 harg6 arg7 harg7 w (k0_pay35 q) w' w'' (harg4.unread x1) (harg5.unread x2) k a
      = step (step a (block q (rows x1 ⟨2 * k.val % 8, Nat.mod_lt _ (by norm_num)⟩)) (rows x2 ⟨2 * k.val % 8, Nat.mod_lt _ (by norm_num)⟩))
          (block q (rows x1 ⟨(2 * k.val + 1) % 8, Nat.mod_lt _ (by norm_num)⟩)) (rows x2 ⟨(2 * k.val + 1) % 8, Nat.mod_lt _ (by norm_num)⟩) := by
  have e1 := load_rows arg4 harg4 x1 ⟨2 * k.val % 8, Nat.mod_lt _ (by norm_num)⟩ (k0_off6_inb i k) (off6_eq i k)
  have e2 := load_rows arg5 harg5 x2 ⟨2 * k.val % 8, Nat.mod_lt _ (by norm_num)⟩ (k0_off6_inb i k) (off6_eq i k)
  have e3 := load_rows arg4 harg4 x1 ⟨(2 * k.val + 1) % 8, Nat.mod_lt _ (by norm_num)⟩ (k0_off7_inb i k) (off7_eq i k)
  have e4 := load_rows arg5 harg5 x2 ⟨(2 * k.val + 1) % 8, Nat.mod_lt _ (by norm_num)⟩ (k0_off7_inb i k) (off7_eq i k)
  rw [← e1, ← e2, ← e3, ← e4]
  unfold tripR_k0_t3 trip_k0_t3
  rfl

theorem loop1_eq (q : Vec F S1x512x128 .bf16) (x1 x2 : Vec F S1x4096x128 .bf16) : ∀ k : ℕ, k ≤ (k0_t1_loop i).trips →
    st_k0_t1 (F := F) Variants.none c none i arg3 harg3 arg4 harg4 arg5 harg5 arg6 harg6 arg7 harg7 q (harg4.unread x1) (harg5.unread x2) start k
      = carry q x1 x2 (2 * k)
  | 0, _ => rfl
  | k + 1, h => by
    refine (st_k0_t1_succ Variants.none c none i arg3 harg3 arg4 harg4 arg5 harg5 arg6 harg6 arg7 harg7 q (harg4.unread x1) (harg5.unread x2) start ⟨k, h⟩).trans ?_
    rw [trip1_eq, loop1_eq q x1 x2 k (by omega)]
    rfl

theorem loop3_eq (w w' w'' : BitVec 32) (q : Vec F S1x512x128 .bf16) (x1 x2 : Vec F S1x4096x128 .bf16) : ∀ k : ℕ, k ≤ (k0_t3_loop i).trips →
    st_k0_t3 (F := F) Variants.none c none i arg3 harg3 arg4 harg4 arg5 harg5 arg6 harg6 arg7 harg7 w (k0_pay35 q) w' w'' (harg4.unread x1) (harg5.unread x2) start k
      = carry q x1 x2 (2 * k)
  | 0, _ => rfl
  | k + 1, h => by
    refine (st_k0_t3_succ Variants.none c none i arg3 harg3 arg4 harg4 arg5 harg5 arg6 harg6 arg7 harg7 w (k0_pay35 q) w' w'' (harg4.unread x1) (harg5.unread x2) start ⟨k, h⟩).trans ?_
    rw [trip3_eq, loop3_eq w w' w'' q x1 x2 k (by omega)]
    rfl

/-- What is carried after the half's own block: before it lie `2 J + h` blocks. -/
def whole (i : grid0.Coords) (h : Fin 2) (x0 : Vec F S1x1024x128 .bf16) (x1 x2 : Vec F S1x4096x128 .bf16) : Carry F :=
  step (carry (half x0 h) x1 x2 (2 * (i 1).val + h.val))
    (seen i h (half x0 h) (rows x1 ⟨(2 * (i 1).val + h.val) % 8, Nat.mod_lt _ (by norm_num)⟩))
    (rows x2 ⟨(2 * (i 1).val + h.val) % 8, Nat.mod_lt _ (by norm_num)⟩)

theorem loops_fst (q : Vec F S1x512x128 .bf16) (x1 x2 : Vec F S1x4096x128 .bf16) (w : BitVec 32) :
    st_k0_t2 (F := F) Variants.none c none i arg3 harg3 arg4 harg4 arg5 harg5 arg6 harg6 arg7 harg7 q w (harg4.unread x1) (harg5.unread x2)
      (st_k0_t1 (F := F) Variants.none c none i arg3 harg3 arg4 harg4 arg5 harg5 arg6 harg6 arg7 harg7 q (harg4.unread x1) (harg5.unread x2) start (k0_t1_loop i).trips)
      (k0_t2_loop i).trips = carry q x1 x2 (2 * (i 1).val) := by
  rw [trips2_eq, loop1_eq c i arg3 harg3 arg4 harg4 arg5 harg5 arg6 harg6 arg7 harg7 q x1 x2 _ le_rfl, trips1_eq]
  rfl

theorem loops_snd (w w' w'' w3 : BitVec 32) (q : Vec F S1x512x128 .bf16) (x1 x2 : Vec F S1x4096x128 .bf16) :
    st_k0_t4 (F := F) Variants.none c none i arg3 harg3 arg4 harg4 arg5 harg5 arg6 harg6 arg7 harg7 w (k0_pay35 q) w' w'' w3 (harg4.unread x1) (harg5.unread x2)
      (st_k0_t3 (F := F) Variants.none c none i arg3 harg3 arg4 harg4 arg5 harg5 arg6 harg6 arg7 harg7 w (k0_pay35 q) w' w'' (harg4.unread x1) (harg5.unread x2) start (k0_t3_loop i).trips)
      (k0_t4_loop i).trips = carry q x1 x2 (2 * (i 1).val) := by
  rw [trips4_eq, loop3_eq c i arg3 harg3 arg4 harg4 arg5 harg5 arg6 harg6 arg7 harg7 w w' w'' q x1 x2 _ le_rfl, trips3_eq]
  rfl

variable (x0 : Vec F S1x1024x128 .bf16) (x1 x2 : Vec F S1x4096x128 .bf16) (xo : Vec F S1024x128 .f32)

/-- The loads of a point, named. -/
abbrev Q0 : Vec F S1x512x128 .bf16 := View.readAt (Elt F) arg3.view (Rect.unit (s := S1x1024x128) ![0, 0, 0] ![1, 512, 128] inb_S1x1024x128_S1x512x128_0_0_0).toLoadRect (harg3.unread x0)
abbrev Q1 : Vec F S1x512x128 .bf16 := View.readAt (Elt F) arg3.view (Rect.unit (s := S1x1024x128) ![0, 512, 0] ![1, 512, 128] inb_S1x1024x128_S1x512x128_0_512_0).toLoadRect (harg3.unread x0)
abbrev K0 (a : Memref sig .tc .vmem S1x4096x128 .bf16) (ha : a.IsWhole) (x : Vec F S1x4096x128 .bf16) : Vec F S1x512x128 .bf16 :=
  View.readAt (Elt F) a.view (Rect.unit (s := S1x4096x128) (k0_off5 i 0#32) ![1, 512, 128] (k0_off5_inb i 0)).toLoadRect (ha.unread x)
abbrev K1 (a : Memref sig .tc .vmem S1x4096x128 .bf16) (ha : a.IsWhole) (x : Vec F S1x4096x128 .bf16) : Vec F S1x512x128 .bf16 :=
  View.readAt (Elt F) a.view (Rect.unit (s := S1x4096x128) (k0_off5 i 1#32) ![1, 512, 128] (k0_off5_inb i 1)).toLoadRect (ha.unread x)
abbrev K2 (a : Memref sig .tc .vmem S1x4096x128 .bf16) (ha : a.IsWhole) (x : Vec F S1x4096x128 .bf16) : Vec F S1x512x128 .bf16 :=
  View.readAt (Elt F) a.view (Rect.unit (s := S1x4096x128) (k0_off10 i) ![1, 512, 128] (k0_off10_inb i)).toLoadRect (ha.unread x)

theorem k0_eq : K0 i arg4 harg4 x1 = rows x1 ⟨(2 * (i 1).val + (0 : Fin 2).val) % 8, Nat.mod_lt _ (by norm_num)⟩ := load_rows arg4 harg4 x1 _ (k0_off5_inb i 0) (off5_fst i)
theorem k1_eq : K1 i arg4 harg4 x1 = rows x1 ⟨(2 * (i 1).val + (1 : Fin 2).val) % 8, Nat.mod_lt _ (by norm_num)⟩ := load_rows arg4 harg4 x1 _ (k0_off5_inb i 1) (off5_snd i)
theorem k2_eq : K2 i arg4 harg4 x1 = rows x1 ⟨(2 * (i 1).val) % 8, Nat.mod_lt _ (by norm_num)⟩ := load_rows arg4 harg4 x1 _ (k0_off10_inb i) (off10_eq i)

theorem first_scores : k0_pay52 (k0_pay49 (Q0 arg3 harg3 x0) (K0 i arg4 harg4 x1)) (k0_pay50 i) (k0_pay51 i)
    = seen i 0 (half x0 0) (K0 i arg4 harg4 x1) := by
  have q : Q0 arg3 harg3 x0 = half x0 0 := load_half arg3 harg3 x0 0 inb_S1x1024x128_S1x512x128_0_0_0 rfl
  rw [q]
  rfl

theorem load_out (a : Memref sig .tc .vmem S1024x128 .f32) (ha : a.IsWhole) (x : Vec F S1024x128 .f32) (n : Fin 2)
    {off : Fin 2 → ℕ} (inb : ∀ b, off b + ![512, 128] b ≤ S1024x128.size b) (h : off = ![512 * n.val, 0]) :
    View.readAt (Elt F) a.view (Rect.unit (s := S1024x128) off ![512, 128] inb).toLoadRect (ha.unread x) = halfOut x n := by
  subst h
  refine (View.readAt_unit _ _ inb rfl inb).trans ?_
  rw [ha.read_unread]
  rfl

theorem firstA : (kernelRun0_A.sl.r c i arg3 harg3 arg4 harg4 arg5 harg5 arg6 harg6 arg7 harg7 x0 x1 x2, kernelRun0_A.sl.r_1 c i arg3 harg3 arg4 harg4 arg5 harg5 arg6 harg6 arg7 harg7 x0 x1 x2, kernelRun0_A.sl.r_2 c i arg3 harg3 arg4 harg4 arg5 harg5 arg6 harg6 arg7 harg7 x0 x1 x2)
    = carry (half x0 0) x1 x2 (2 * (i 1).val) := by
  have e := loops_fst c i arg3 harg3 arg4 harg4 arg5 harg5 arg6 harg6 arg7 harg7 (Q0 arg3 harg3 x0) x1 x2 (kernelRun0_A.sl.v12 i)
  have q : Q0 arg3 harg3 x0 = half x0 0 := load_half arg3 harg3 x0 0 inb_S1x1024x128_S1x512x128_0_0_0 rfl
  refine Eq.trans ?_ (e.trans (by rw [q]))
  unfold kernelRun0_A.sl.r kernelRun0_A.sl.r_1 kernelRun0_A.sl.r_2
  dsimp only [Prod.mk.eta]
  rfl

theorem queryA : kernelRun0_A.sl.r_4 c arg3 harg3 x0 = k0_pay35 (half x0 1) := by
  have q : Q1 arg3 harg3 x0 = half x0 1 := load_half arg3 harg3 x0 1 inb_S1x1024x128_S1x512x128_0_512_0 rfl
  rw [← q]
  unfold kernelRun0_A.sl.r_4
  rfl

theorem secondA : (kernelRun0_A.sl.r_5 c i arg3 harg3 arg4 harg4 arg5 harg5 arg6 harg6 arg7 harg7 x0 x1 x2, kernelRun0_A.sl.r_6 c i arg3 harg3 arg4 harg4 arg5 harg5 arg6 harg6 arg7 harg7 x0 x1 x2, kernelRun0_A.sl.r_7 c i arg3 harg3 arg4 harg4 arg5 harg5 arg6 harg6 arg7 harg7 x0 x1 x2)
    = carry (half x0 1) x1 x2 (2 * (i 1).val + 1) := by
  have l := loops_snd c i arg3 harg3 arg4 harg4 arg5 harg5 arg6 harg6 arg7 harg7 (BitVec.ofNat 32 (i 1).val) (kernelRun0_A.sl.v15 i) 1#32 (kernelRun0_A.sl.v83 i) (half x0 1) x1 x2
  unfold kernelRun0_A.sl.r_5 kernelRun0_A.sl.r_6 kernelRun0_A.sl.r_7
  rw [queryA]
  refine Eq.trans (b := after (half x0 1) (st_k0_t4 (F := F) Variants.none c none i arg3 harg3 arg4 harg4 arg5 harg5 arg6 harg6 arg7 harg7 (BitVec.ofNat 32 (i 1).val) (k0_pay35 (half x0 1)) (kernelRun0_A.sl.v15 i) 1#32 (kernelRun0_A.sl.v83 i) (harg4.unread x1) (harg5.unread x2)
      (st_k0_t3 (F := F) Variants.none c none i arg3 harg3 arg4 harg4 arg5 harg5 arg6 harg6 arg7 harg7 (BitVec.ofNat 32 (i 1).val) (k0_pay35 (half x0 1)) (kernelRun0_A.sl.v15 i) 1#32 (harg4.unread x1) (harg5.unread x2) start (k0_t3_loop i).trips)
      (k0_t4_loop i).trips) (K2 i arg4 harg4 x1) (K2 i arg5 harg5 x2)) ?_ ?_
  · dsimp only [Prod.mk.eta]
    unfold after
    rfl
  · rw [l, after_eq, k2_eq, k2_eq]
    rfl

theorem piecesA_4 (hc0 : cond0_0 i) (hc1 : ¬cond0_1 i) (hc2 : cond0_2 i) (hc3 : ¬cond0_3 i) :
    (kernelRun0_A c i arg3 harg3 arg4 harg4 arg5 harg5 arg6 harg6 arg7 harg7 hc0 hc1 hc2 hc3 x0 x1 x2).2.1
      = [⟨Rect.unit ![0, 512, 0] S1x512x1.size inb_S1x1024x1_S1x512x1_0_512_0, logs (whole i 1 x0 x1 x2)⟩,
         ⟨Rect.unit ![0, 0, 0] S1x512x1.size inb_S1x1024x1_S1x512x1_0_0_0, logs (whole i 0 x0 x1 x2)⟩] := by
  unfold kernelRun0_A
  dsimp only
  refine congrArg₂ (fun a b => [(⟨Rect.unit ![0, 512, 0] S1x512x1.size inb_S1x1024x1_S1x512x1_0_512_0, a⟩ : View.Piece (Elt F) S1x1024x1 .f32),
    ⟨Rect.unit ![0, 0, 0] S1x512x1.size inb_S1x1024x1_S1x512x1_0_0_0, b⟩]) ?_ ?_
  · unfold kernelRun0_A.sl.r_8 kernelRun0_A.sl.r_9
    rw [queryA]
    exact (pay1_eq (kernelRun0_A.sl.r_5 c i arg3 harg3 arg4 harg4 arg5 harg5 arg6 harg6 arg7 harg7 x0 x1 x2, kernelRun0_A.sl.r_6 c i arg3 harg3 arg4 harg4 arg5 harg5 arg6 harg6 arg7 harg7 x0 x1 x2, kernelRun0_A.sl.r_7 c i arg3 harg3 arg4 harg4 arg5 harg5 arg6 harg6 arg7 harg7 x0 x1 x2) (half x0 1) (K1 i arg4 harg4 x1) (K1 i arg5 harg5 x2) _ _).trans (by rw [secondA, k1_eq, k1_eq]; rfl)
  · exact (pay58_eq (kernelRun0_A.sl.r c i arg3 harg3 arg4 harg4 arg5 harg5 arg6 harg6 arg7 harg7 x0 x1 x2, kernelRun0_A.sl.r_1 c i arg3 harg3 arg4 harg4 arg5 harg5 arg6 harg6 arg7 harg7 x0 x1 x2, kernelRun0_A.sl.r_2 c i arg3 harg3 arg4 harg4 arg5 harg5 arg6 harg6 arg7 harg7 x0 x1 x2) _ _ _ (K0 i arg5 harg5 x2)).trans (by rw [firstA]; unfold kernelRun0_A.sl.r_3; rw [first_scores, k0_eq, k0_eq]; rfl)

theorem piecesA_3 (hc0 : cond0_0 i) (hc1 : ¬cond0_1 i) (hc2 : cond0_2 i) (hc3 : ¬cond0_3 i) :
    (kernelRun0_A c i arg3 harg3 arg4 harg4 arg5 harg5 arg6 harg6 arg7 harg7 hc0 hc1 hc2 hc3 x0 x1 x2).1
      = [⟨Rect.unit ![512, 0] S512x128.size inb_S1024x128_S512x128_512_0, quot (whole i 1 x0 x1 x2)⟩,
         ⟨Rect.unit ![0, 0] S512x128.size inb_S1024x128_S512x128_0_0, quot (whole i 0 x0 x1 x2)⟩] := by
  unfold kernelRun0_A
  dsimp only
  refine congrArg₂ (fun a b => [(⟨Rect.unit ![512, 0] S512x128.size inb_S1024x128_S512x128_512_0, a⟩ : View.Piece (Elt F) S1024x128 .f32),
    ⟨Rect.unit ![0, 0] S512x128.size inb_S1024x128_S512x128_0_0, b⟩]) ?_ ?_
  · unfold kernelRun0_A.sl.r_10
    rw [queryA]
    exact (pay85_eq (kernelRun0_A.sl.r_5 c i arg3 harg3 arg4 harg4 arg5 harg5 arg6 harg6 arg7 harg7 x0 x1 x2, kernelRun0_A.sl.r_6 c i arg3 harg3 arg4 harg4 arg5 harg5 arg6 harg6 arg7 harg7 x0 x1 x2, kernelRun0_A.sl.r_7 c i arg3 harg3 arg4 harg4 arg5 harg5 arg6 harg6 arg7 harg7 x0 x1 x2) (half x0 1) (K1 i arg4 harg4 x1) (K1 i arg5 harg5 x2) _ _).trans (by rw [secondA, k1_eq, k1_eq]; rfl)
  · exact (pay57_eq (kernelRun0_A.sl.r c i arg3 harg3 arg4 harg4 arg5 harg5 arg6 harg6 arg7 harg7 x0 x1 x2, kernelRun0_A.sl.r_1 c i arg3 harg3 arg4 harg4 arg5 harg5 arg6 harg6 arg7 harg7 x0 x1 x2, kernelRun0_A.sl.r_2 c i arg3 harg3 arg4 harg4 arg5 harg5 arg6 harg6 arg7 harg7 x0 x1 x2) _ _ _ (K0 i arg5 harg5 x2)).trans (by rw [firstA]; unfold kernelRun0_A.sl.r_3; rw [first_scores, k0_eq, k0_eq]; rfl)

theorem firstB : (kernelRun0_B.sl.r c i arg3 harg3 arg4 harg4 arg5 harg5 arg6 harg6 arg7 harg7 x0 x1 x2, kernelRun0_B.sl.r_1 c i arg3 harg3 arg4 harg4 arg5 harg5 arg6 harg6 arg7 harg7 x0 x1 x2, kernelRun0_B.sl.r_2 c i arg3 harg3 arg4 harg4 arg5 harg5 arg6 harg6 arg7 harg7 x0 x1 x2)
    = carry (half x0 0) x1 x2 (2 * (i 1).val) := by
  have e := loops_fst c i arg3 harg3 arg4 harg4 arg5 harg5 arg6 harg6 arg7 harg7 (Q0 arg3 harg3 x0) x1 x2 (kernelRun0_B.sl.v12 i)
  have q : Q0 arg3 harg3 x0 = half x0 0 := load_half arg3 harg3 x0 0 inb_S1x1024x128_S1x512x128_0_0_0 rfl
  refine Eq.trans ?_ (e.trans (by rw [q]))
  unfold kernelRun0_B.sl.r kernelRun0_B.sl.r_1 kernelRun0_B.sl.r_2
  dsimp only [Prod.mk.eta]
  rfl

theorem queryB : kernelRun0_B.sl.r_4 c arg3 harg3 x0 = k0_pay35 (half x0 1) := by
  have q : Q1 arg3 harg3 x0 = half x0 1 := load_half arg3 harg3 x0 1 inb_S1x1024x128_S1x512x128_0_512_0 rfl
  rw [← q]
  unfold kernelRun0_B.sl.r_4
  rfl

theorem secondB : (kernelRun0_B.sl.r_5 c i arg3 harg3 arg4 harg4 arg5 harg5 arg6 harg6 arg7 harg7 x0 x1 x2, kernelRun0_B.sl.r_6 c i arg3 harg3 arg4 harg4 arg5 harg5 arg6 harg6 arg7 harg7 x0 x1 x2, kernelRun0_B.sl.r_7 c i arg3 harg3 arg4 harg4 arg5 harg5 arg6 harg6 arg7 harg7 x0 x1 x2)
    = carry (half x0 1) x1 x2 (2 * (i 1).val + 1) := by
  have l := loops_snd c i arg3 harg3 arg4 harg4 arg5 harg5 arg6 harg6 arg7 harg7 (BitVec.ofNat 32 (i 1).val) (kernelRun0_B.sl.v15 i) 1#32 (kernelRun0_B.sl.v83 i) (half x0 1) x1 x2
  unfold kernelRun0_B.sl.r_5 kernelRun0_B.sl.r_6 kernelRun0_B.sl.r_7
  rw [queryB]
  refine Eq.trans (b := after (half x0 1) (st_k0_t4 (F := F) Variants.none c none i arg3 harg3 arg4 harg4 arg5 harg5 arg6 harg6 arg7 harg7 (BitVec.ofNat 32 (i 1).val) (k0_pay35 (half x0 1)) (kernelRun0_B.sl.v15 i) 1#32 (kernelRun0_B.sl.v83 i) (harg4.unread x1) (harg5.unread x2)
      (st_k0_t3 (F := F) Variants.none c none i arg3 harg3 arg4 harg4 arg5 harg5 arg6 harg6 arg7 harg7 (BitVec.ofNat 32 (i 1).val) (k0_pay35 (half x0 1)) (kernelRun0_B.sl.v15 i) 1#32 (harg4.unread x1) (harg5.unread x2) start (k0_t3_loop i).trips)
      (k0_t4_loop i).trips) (K2 i arg4 harg4 x1) (K2 i arg5 harg5 x2)) ?_ ?_
  · dsimp only [Prod.mk.eta]
    unfold after
    rfl
  · rw [l, after_eq, k2_eq, k2_eq]
    rfl

theorem piecesB_4 (hc0 : ¬cond0_0 i) (hc1 : cond0_1 i) (hc2 : ¬cond0_2 i) (hc3 : cond0_3 i) :
    (kernelRun0_B c i arg3 harg3 arg4 harg4 arg5 harg5 arg6 harg6 arg7 harg7 hc0 hc1 hc2 hc3 x0 x1 x2 xo).2.1
      = [⟨Rect.unit ![0, 512, 0] S1x512x1.size inb_S1x1024x1_S1x512x1_0_512_0, logs (whole i 1 x0 x1 x2)⟩,
         ⟨Rect.unit ![0, 0, 0] S1x512x1.size inb_S1x1024x1_S1x512x1_0_0_0, logs (whole i 0 x0 x1 x2)⟩] := by
  unfold kernelRun0_B
  dsimp only
  refine congrArg₂ (fun a b => [(⟨Rect.unit ![0, 512, 0] S1x512x1.size inb_S1x1024x1_S1x512x1_0_512_0, a⟩ : View.Piece (Elt F) S1x1024x1 .f32),
    ⟨Rect.unit ![0, 0, 0] S1x512x1.size inb_S1x1024x1_S1x512x1_0_0_0, b⟩]) ?_ ?_
  · unfold kernelRun0_B.sl.r_8 kernelRun0_B.sl.r_9
    rw [queryB]
    exact (pay1_eq (kernelRun0_B.sl.r_5 c i arg3 harg3 arg4 harg4 arg5 harg5 arg6 harg6 arg7 harg7 x0 x1 x2, kernelRun0_B.sl.r_6 c i arg3 harg3 arg4 harg4 arg5 harg5 arg6 harg6 arg7 harg7 x0 x1 x2, kernelRun0_B.sl.r_7 c i arg3 harg3 arg4 harg4 arg5 harg5 arg6 harg6 arg7 harg7 x0 x1 x2) (half x0 1) (K1 i arg4 harg4 x1) (K1 i arg5 harg5 x2) _ _).trans (by rw [secondB, k1_eq, k1_eq]; rfl)
  · exact (pay58_eq (kernelRun0_B.sl.r c i arg3 harg3 arg4 harg4 arg5 harg5 arg6 harg6 arg7 harg7 x0 x1 x2, kernelRun0_B.sl.r_1 c i arg3 harg3 arg4 harg4 arg5 harg5 arg6 harg6 arg7 harg7 x0 x1 x2, kernelRun0_B.sl.r_2 c i arg3 harg3 arg4 harg4 arg5 harg5 arg6 harg6 arg7 harg7 x0 x1 x2) _ _ _ (K0 i arg5 harg5 x2)).trans (by rw [firstB]; unfold kernelRun0_B.sl.r_3; rw [first_scores, k0_eq, k0_eq]; rfl)

theorem piecesB_3 (hc0 : ¬cond0_0 i) (hc1 : cond0_1 i) (hc2 : ¬cond0_2 i) (hc3 : cond0_3 i) :
    (kernelRun0_B c i arg3 harg3 arg4 harg4 arg5 harg5 arg6 harg6 arg7 harg7 hc0 hc1 hc2 hc3 x0 x1 x2 xo).1
      = [⟨Rect.unit ![512, 0] S512x128.size inb_S1024x128_S512x128_512_0, k0_pay2 (quot (whole i 1 x0 x1 x2)) (halfOut xo 1)⟩,
         ⟨Rect.unit ![0, 0] S512x128.size inb_S1024x128_S512x128_0_0, k0_pay2 (quot (whole i 0 x0 x1 x2)) (halfOut xo 0)⟩] := by
  unfold kernelRun0_B
  dsimp only
  refine congrArg₂ (fun a b => [(⟨Rect.unit ![512, 0] S512x128.size inb_S1024x128_S512x128_512_0, a⟩ : View.Piece (Elt F) S1024x128 .f32),
    ⟨Rect.unit ![0, 0] S512x128.size inb_S1024x128_S512x128_0_0, b⟩]) ?_ ?_
  · unfold kernelRun0_B.sl.r_10
    unfold kernelRun0_B.sl.v171
    rw [load_out arg6 harg6 xo 1 inb_S1024x128_S512x128_512_0 rfl]
    refine congrArg (fun z => k0_pay2 z (halfOut xo 1)) ?_
    rw [queryB]
    exact (pay85_eq (kernelRun0_B.sl.r_5 c i arg3 harg3 arg4 harg4 arg5 harg5 arg6 harg6 arg7 harg7 x0 x1 x2, kernelRun0_B.sl.r_6 c i arg3 harg3 arg4 harg4 arg5 harg5 arg6 harg6 arg7 harg7 x0 x1 x2, kernelRun0_B.sl.r_7 c i arg3 harg3 arg4 harg4 arg5 harg5 arg6 harg6 arg7 harg7 x0 x1 x2) (half x0 1) (K1 i arg4 harg4 x1) (K1 i arg5 harg5 x2) _ _).trans (by rw [secondB, k1_eq, k1_eq]; rfl)
  · unfold k0_pay59
    rw [load_out arg6 harg6 xo 0 inb_S1024x128_S512x128_0_0 rfl]
    refine congrArg (fun z => k0_pay2 z (halfOut xo 0)) ?_
    exact (pay57_eq (kernelRun0_B.sl.r c i arg3 harg3 arg4 harg4 arg5 harg5 arg6 harg6 arg7 harg7 x0 x1 x2, kernelRun0_B.sl.r_1 c i arg3 harg3 arg4 harg4 arg5 harg5 arg6 harg6 arg7 harg7 x0 x1 x2, kernelRun0_B.sl.r_2 c i arg3 harg3 arg4 harg4 arg5 harg5 arg6 harg6 arg7 harg7 x0 x1 x2) _ _ _ (K0 i arg5 harg5 x2)).trans (by rw [firstB]; unfold kernelRun0_B.sl.r_3; rw [first_scores, k0_eq, k0_eq]; rfl)

end Body

end Cert.SoftIdeal.Run
end
-- ==== Proof.Soft.Online.lean ====
/- The softmax taken block by block, over the real numbers.

Of a row the kernel carries the largest score so far, the sum of the exponentials over it and the sums of their products
with the values. Whatever the largest score is, the sums are those of the exponentials themselves, scaled by one factor
(`Holds`); taking in a block adds the block's own sums (`holds_absorb`); and in the quotient and in the log-sum the
factor cancels (`holds_quot`, `holds_logs`). -/
module

public import proofs.«01_k».proof.Proof.Attn.Spec

@[expose] public section

noncomputable section

namespace Cert.Online

open Idealize.ShloMosaic
open Cert.Softmax
open scoped BigOperators

variable {δ ι : Type} [Fintype ι]

/-- What is carried of a row holds the sum `A` of exponentials and the sums `B` of their products with the values. -/
def Holds (A : ℝ) (B : δ → ℝ) (m l : EReal) (acc : δ → EReal) : Prop :=
  (m = ⊥ ∧ A = 0 ∧ (∀ d, B d = 0) ∧ l = 0 ∧ ∀ d, acc d = 0)
    ∨ ∃ μ : ℝ, m = (μ : EReal) ∧ l = ((A * Real.exp (-μ) : ℝ) : EReal) ∧ ∀ d, acc d = ((B d * Real.exp (-μ) : ℝ) : EReal)

theorem holds_start : Holds (δ := δ) 0 (fun _ => 0) ⊥ 0 (fun _ => 0) := Or.inl ⟨rfl, rfl, fun _ => rfl, rfl, fun _ => rfl⟩

/-- The largest of a row's scores, some of them real. -/
theorem sup_real (allow : ι → Prop) [DecidablePred allow] (a : ι → ℝ) (j₀ : ι) (h₀ : allow j₀) (s : ι → EReal)
    (hs : ∀ j, s j = if allow j then (a j : EReal) else ⊥) : ∃ τ : ℝ, Finset.univ.sup s = (τ : EReal) := by
  have hlt : Finset.univ.sup s < ⊤ := (Finset.sup_lt_iff bot_lt_top).mpr fun j _ => by
    rw [hs]; split_ifs
    exacts [EReal.coe_lt_top _, bot_lt_top]
  have hgt : ⊥ < Finset.univ.sup s := lt_of_lt_of_le (by rw [hs, if_pos h₀]; exact EReal.bot_lt_coe _) (Finset.le_sup (Finset.mem_univ j₀))
  exact ⟨_, (EReal.coe_toReal hlt.ne hgt.ne').symm⟩

theorem exp_shift (allow : ι → Prop) [DecidablePred allow] (a : ι → ℝ) (s : ι → EReal)
    (hs : ∀ j, s j = if allow j then (a j : EReal) else ⊥) (ν : ℝ) (j : ι) :
    Ideal.exp (s j - (ν : EReal)) = (((if allow j then Real.exp (a j) else 0) * Real.exp (-ν) : ℝ) : EReal) := by
  rw [hs]
  split_ifs
  · rw [← EReal.coe_sub, ← Real.exp_add, ← sub_eq_add_neg]; rfl
  · rw [sub_eq_add_neg, EReal.bot_add, zero_mul]; rfl

/-- Taking in one block. -/
theorem holds_absorb (allow : ι → Prop) [DecidablePred allow] (a : ι → ℝ) (j₀ : ι) (h₀ : allow j₀) (s : ι → EReal)
    (hs : ∀ j, s j = if allow j then (a j : EReal) else ⊥) (V : ι → δ → ℝ)
    {A : ℝ} {B : δ → ℝ} {m l : EReal} {acc : δ → EReal} (h : Holds A B m l acc) :
    Holds (A + ∑ j, if allow j then Real.exp (a j) else 0) (fun d => B d + ∑ j, (if allow j then Real.exp (a j) else 0) * V j d)
      (max m (Finset.univ.sup s))
      (Ideal.exp (m - max m (Finset.univ.sup s)) * l + ∑ j, Ideal.exp (s j - max m (Finset.univ.sup s)))
      (fun d => Ideal.exp (m - max m (Finset.univ.sup s)) * acc d + ∑ j, Ideal.exp (s j - max m (Finset.univ.sup s)) * (V j d : EReal)) := by
  obtain ⟨τ, hτ⟩ := sup_real allow a j₀ h₀ s hs
  rw [hτ]
  right
  have sum1 : ∀ ν : ℝ, (∑ j, Ideal.exp (s j - (ν : EReal))) = (((∑ j, if allow j then Real.exp (a j) else 0) * Real.exp (-ν) : ℝ) : EReal) := fun ν => by
    rw [Finset.sum_mul, coe_sum]
    exact Finset.sum_congr rfl fun j _ => exp_shift allow a s hs ν j
  have sum2 : ∀ (ν : ℝ) (d : δ), (∑ j, Ideal.exp (s j - (ν : EReal)) * (V j d : EReal))
      = (((∑ j, (if allow j then Real.exp (a j) else 0) * V j d) * Real.exp (-ν) : ℝ) : EReal) := fun ν d => by
    rw [Finset.sum_mul, coe_sum]
    refine Finset.sum_congr rfl fun j _ => ?_
    rw [exp_shift allow a s hs ν j, ← EReal.coe_mul]
    congr 1
    ring
  rcases h with ⟨rfl, rfl, hB, rfl, hacc⟩ | ⟨μ, rfl, rfl, hacc⟩
  · rw [max_eq_right bot_le]
    refine ⟨τ, rfl, ?_, fun d => ?_⟩
    · rw [mul_zero, zero_add, zero_add, sum1]
    · dsimp only
      rw [hacc, mul_zero, zero_add, hB, zero_add, sum2]
  · have e : max (μ : EReal) (τ : EReal) = ((max μ τ : ℝ) : EReal) := (EReal.coe_strictMono.monotone.map_max (a := μ) (b := τ)).symm
    rw [e]
    generalize max μ τ = ν
    have f : Ideal.exp ((μ : EReal) - (ν : EReal)) = ((Real.exp (μ - ν) : ℝ) : EReal) := by rw [← EReal.coe_sub]; rfl
    have g : ∀ x : ℝ, Real.exp (μ - ν) * (x * Real.exp (-μ)) = x * Real.exp (-ν) := fun x => by
      rw [show Real.exp (-ν) = Real.exp (μ - ν) * Real.exp (-μ) by rw [← Real.exp_add]; congr 1; ring]
      ring
    refine ⟨ν, rfl, ?_, fun d => ?_⟩
    · rw [f, sum1, ← EReal.coe_mul, ← EReal.coe_add, g, add_mul]
    · dsimp only
      rw [f, hacc, sum2, ← EReal.coe_mul, ← EReal.coe_add, g, add_mul]

theorem holds_quot {A : ℝ} {B : δ → ℝ} {m l : EReal} {acc : δ → EReal} (h : Holds A B m l acc) (hA : 0 < A) (d : δ) :
    Ideal.div (acc d) l = ((B d / A : ℝ) : EReal) := by
  rcases h with ⟨-, h, -⟩ | ⟨μ, -, rfl, hacc⟩
  · exact absurd h hA.ne'
  · have hp := Real.exp_pos (-μ)
    rw [hacc, Cert.Reals.div_real (mul_pos hA hp).ne', ← EReal.coe_mul]
    congr 1
    field_simp

theorem holds_logs {A : ℝ} {B : δ → ℝ} {m l : EReal} {acc : δ → EReal} (h : Holds A B m l acc) (hA : 0 < A) :
    m + Ideal.log l = ((Real.log A : ℝ) : EReal) := by
  rcases h with ⟨-, h, -⟩ | ⟨μ, rfl, rfl, -⟩
  · exact absurd h hA.ne'
  · rw [Ideal.log_coe, if_neg (not_le.mpr (mul_pos hA (Real.exp_pos _))), Real.log_mul hA.ne' (Real.exp_pos _).ne', Real.log_exp, ← EReal.coe_add]
    congr 1
    ring

/-! ## The same of the whole row at once -/

section Row

variable (allow : ι → Prop) [DecidablePred allow] (a : ι → ℝ) (j₀ : ι) (h₀ : allow j₀) (s : ι → EReal)
  (hs : ∀ j, s j = if allow j then (a j : EReal) else ⊥)

include h₀ in
theorem total_pos : 0 < ∑ j, if allow j then Real.exp (a j) else 0 := by
  refine Finset.sum_pos' (fun j _ => ?_) ⟨j₀, Finset.mem_univ _, ?_⟩
  · split_ifs
    exacts [(Real.exp_pos _).le, le_rfl]
  · rw [if_pos h₀]; exact Real.exp_pos _

include h₀ hs in
theorem row_quot (V : ι → ℝ) :
    ∑ j, Ideal.div (Ideal.exp (s j - Finset.univ.sup s)) (∑ i, Ideal.exp (s i - Finset.univ.sup s)) * (V j : EReal)
      = (((∑ j, (if allow j then Real.exp (a j) else 0) * V j) / (∑ j, if allow j then Real.exp (a j) else 0) : ℝ) : EReal) := by
  obtain ⟨τ, hτ⟩ := sup_real allow a j₀ h₀ s hs
  have hA := total_pos allow a j₀ h₀
  have sum1 : (∑ j, Ideal.exp (s j - (τ : EReal))) = (((∑ j, if allow j then Real.exp (a j) else 0) * Real.exp (-τ) : ℝ) : EReal) := by
    rw [Finset.sum_mul, coe_sum]
    exact Finset.sum_congr rfl fun j _ => exp_shift allow a s hs τ j
  rw [hτ, sum1, Finset.sum_div, coe_sum]
  refine Finset.sum_congr rfl fun j _ => ?_
  have hp := Real.exp_pos (-τ)
  rw [exp_shift allow a s hs, Cert.Reals.div_real (mul_pos hA hp).ne', ← EReal.coe_mul, ← EReal.coe_mul]
  congr 1
  field_simp

include h₀ hs in
theorem row_logs : Ideal.log (∑ i, Ideal.exp (s i - Finset.univ.sup s)) + Finset.univ.sup s
    = ((Real.log (∑ j, if allow j then Real.exp (a j) else 0) : ℝ) : EReal) := by
  obtain ⟨τ, hτ⟩ := sup_real allow a j₀ h₀ s hs
  have hA := total_pos allow a j₀ h₀
  have sum1 : (∑ j, Ideal.exp (s j - (τ : EReal))) = (((∑ j, if allow j then Real.exp (a j) else 0) * Real.exp (-τ) : ℝ) : EReal) := by
    rw [Finset.sum_mul, coe_sum]
    exact Finset.sum_congr rfl fun j _ => exp_shift allow a s hs τ j
  rw [hτ, sum1, Ideal.log_coe, if_neg (not_le.mpr (mul_pos hA (Real.exp_pos _))), Real.log_mul hA.ne' (Real.exp_pos _).ne', Real.log_exp, ← EReal.coe_add]
  congr 1
  ring

end Row

end Cert.Online

end
-- ==== Proof.Soft.Entry.lean ====
/- A step of the forward attention at an entry. -/
module

public import proofs.«01_k».proof.Proof.Soft.Loop
public import proofs.«01_k».proof.Proof.Soft.Online
public import Idealize.ShloMosaic.Lib.Pipeline.Value
public import Idealize.ShloMosaic.Lib.Pipeline.ValueKit

@[expose] public section

set_option maxRecDepth 8192
set_option maxHeartbeats 2000000

noncomputable section

namespace Cert.SoftIdeal.Run

open Cert.SoftIdeal.Gen
open Idealize.ShloMosaic Idealize.ShloMosaic.TcCoe Idealize.ShloMosaic.Tactic
open Idealize.SL

/-- The scores' factor. -/
abbrev scale : EReal := Ideal.ofBits .f32 0x3DD105EC#32

theorem negInf : Ideal.ofBits FTy.f32 0xFF800000#32 = (⊥ : EReal) := by simp [Ideal.ofBits, Ideal.ieee]

theorem named_masked (w : BitVec 32) : (Named.named (F := Ideal) κ "masked" (φ := .f32) w) = (⊥ : EReal) := rfl

theorem peak_apply (s : FVec Ideal S512x512 .f32) (r : Fin 512) : peak s (ix1 r) = Finset.univ.sup fun j => s (ix2 r j) := by
  pointwise [peak]
  rw [negInf]
  rfl

variable (a : Carry Ideal) (s : FVec Ideal S512x512 .f32) (v : Vec Ideal S1x512x128 .bf16)

theorem step_top (r : Fin 512) : (step a s v).1 (ix2 r 0) = max (a.1 (ix2 r 0)) (Finset.univ.sup fun j => s (ix2 r j)) := by
  rw [← peak_apply]
  generalize hp : peak s = p
  pointwise [step, k0_pay39, hp]

theorem step_sum (r : Fin 512) : (step a s v).2.1 (ix2 r 0)
    = Ideal.exp (a.1 (ix2 r 0) - max (a.1 (ix2 r 0)) (Finset.univ.sup fun j => s (ix2 r j))) * a.2.1 (ix2 r 0)
      + ∑ j, Ideal.exp (s (ix2 r j) - max (a.1 (ix2 r 0)) (Finset.univ.sup fun j => s (ix2 r j))) := by
  rw [← peak_apply]
  generalize hp : peak s = p
  pointwise [step, k0_pay42, k0_pay41, k0_pay40, k0_pay39, hp]

theorem step_acc (r : Fin 512) (d : Fin 128) : (step a s v).2.2 (ix2 r d)
    = Ideal.exp (a.1 (ix2 r 0) - max (a.1 (ix2 r 0)) (Finset.univ.sup fun j => s (ix2 r j))) * a.2.2 (ix2 r d)
      + ∑ j, Ideal.exp (s (ix2 r j) - max (a.1 (ix2 r 0)) (Finset.univ.sup fun j => s (ix2 r j))) * v (ix3 0 j d) := by
  rw [← peak_apply]
  generalize hp : peak s = p
  pointwise [step, k0_pay43, k0_pay41, k0_pay40, k0_pay39, hp]

theorem start_top (r : Fin 512) : (start (F := Ideal)).1 (ix2 r 0) = ⊥ := by pointwise [start, k0_pay36]; rfl
theorem start_sum (r : Fin 512) : (start (F := Ideal)).2.1 (ix2 r 0) = 0 := by pointwise [start, k0_pay37]
theorem start_acc (r : Fin 512) (d : Fin 128) : (start (F := Ideal)).2.2 (ix2 r d) = 0 := by pointwise [start, k0_pay38]

theorem quot_apply (r : Fin 512) (d : Fin 128) : quot a (ix2 r d) = Ideal.div (a.2.2 (ix2 r d)) (a.2.1 (ix2 r 0)) := by pointwise [quot]
theorem logs_apply (r : Fin 512) : logs a (ix3 0 r 0) = a.1 (ix2 r 0) + Ideal.log (a.2.1 (ix2 r 0)) := by pointwise [logs, k0_pay1]

theorem block_apply (q k : Vec Ideal S1x512x128 .bf16) (r j : Fin 512) :
    block q k (ix2 r j) = (∑ d, q (ix3 0 r d) * k (ix3 0 j d)) * scale := by
  pointwise [block, k0_pay33, k0_pay35]

theorem chunk_word (n h : ℕ) (a : ℕ) (hn : n < 4) (hh : h < 2) (ha : a < 512) :
    IntOp.shrui ArithUnit.vector (IntOp.addi (Scalar.muli (Scalar.addi (Scalar.muli 2#32 (BitVec.ofNat 32 n)) (BitVec.ofNat 32 h)) 512#32) (BitVec.ofNat 32 a)) 6#32
      = BitVec.ofNat 32 ((512 * (2 * n + h) + a) / 64) := by
  apply BitVec.eq_of_toNat_eq
  simp [IntOp.shrui, IntOp.addi, Scalar.muli, Scalar.addi, IntOp.muli, Nat.shiftRight_eq_div_pow]
  omega

theorem seen_apply (i : grid0.Coords) (h : Fin 2) (q k : Vec Ideal S1x512x128 .bf16) (r j : Fin 512) :
    seen i h q k (ix2 r j) = if (512 * (2 * (i 1).val + h.val) + j.val) / 64 ≤ (512 * (2 * (i 1).val + h.val) + r.val) / 64
      then block q k (ix2 r j) else ⊥ := by
  have hn : (i 1).val < 4 := (i 1).isLt
  rw [block_apply]
  obtain rfl | rfl : h = 0 ∨ h = 1 := by omega
  · unfold seen
    rw [if_pos rfl]
    have w := fun a ha => chunk_word (i 1).val 0 a hn (by norm_num) ha
    pointwise [k0_pay52, k0_pay51, k0_pay50, k0_pay49, k0_pay35]
    rw [w j.val j.isLt, w r.val r.isLt, WordCmp.cmpi_sle_ofNat (by norm_num; omega) (by norm_num; omega), WordCmp.select_decide, named_masked]
    rfl
  · unfold seen
    rw [if_neg (by decide)]
    have w := fun a ha => chunk_word (i 1).val 1 a hn (by norm_num) ha
    pointwise [k0_pay80, k0_pay35]
    rw [w j.val j.isLt, w r.val r.isLt, WordCmp.cmpi_sle_ofNat (by norm_num; omega) (by norm_num; omega), WordCmp.select_decide, named_masked]

theorem rows_apply (x : Vec Ideal S1x4096x128 .bf16) (n : Fin 8) (r : Fin 512) (d : Fin 128) :
    rows x n (ix3 0 r d) = x (ix3 0 ⟨512 * n.val + r.val, by omega⟩ d) := by
  pointwise [rows, VecWindow.window_eq_ld]

theorem half_apply (x : Vec Ideal S1x1024x128 .bf16) (h : Fin 2) (r : Fin 512) (d : Fin 128) :
    half x h (ix3 0 r d) = x (ix3 0 ⟨512 * h.val + r.val, by omega⟩ d) := by
  pointwise [half, VecWindow.window_eq_ld]

end Cert.SoftIdeal.Run
end
-- ==== Proof.Soft.Total.lean ====
/- What a half's rows hold after all their blocks: the sums over every key the row may see. -/
module

public import proofs.«01_k».proof.Proof.Soft.Entry

@[expose] public section

set_option maxRecDepth 8192
set_option maxHeartbeats 2000000

noncomputable section

namespace Cert.SoftIdeal.Run

open Cert.SoftIdeal.Gen
open Idealize.ShloMosaic Idealize.ShloMosaic.TcCoe Idealize.ShloMosaic.Tactic
open Idealize.SL
open Cert.Online
open scoped BigOperators

/-- The exponential of a score the row `R` may see, 0 of any other. -/
def mass (R : ℕ) (a : ℕ → ℝ) (n : ℕ) : ℝ := if n / 64 ≤ R / 64 then Real.exp (a n) else 0

/-- What is carried of row `r` holds the sums over the first `n` keys. -/
def Upto (R : ℕ) (a : ℕ → ℝ) (V : ℕ → Fin 128 → ℝ) (r : Fin 512) (n : ℕ) (x : Carry Ideal) : Prop :=
  Holds (∑ i ∈ Finset.range n, mass R a i) (fun d => ∑ i ∈ Finset.range n, mass R a i * V i d)
    (x.1 (ix2 r 0)) (x.2.1 (ix2 r 0)) (fun d => x.2.2 (ix2 r d))

variable {R : ℕ} {a : ℕ → ℝ} {V : ℕ → Fin 128 → ℝ} {r : Fin 512}

theorem upto_start : Upto R a V r 0 start := by
  unfold Upto
  simp only [Finset.range_zero, Finset.sum_empty, start_top, start_sum, start_acc]
  exact holds_start

/-- A step takes in the next 512 keys. -/
theorem upto_step (n : Fin 8) {x : Carry Ideal} (h : Upto R a V r (512 * n.val) x) (hn : 512 * n.val / 64 ≤ R / 64)
    (s : FVec Ideal S512x512 .f32) (v : Vec Ideal S1x4096x128 .bf16)
    (hs : ∀ j : Fin 512, s (ix2 r j) = if (512 * n.val + j.val) / 64 ≤ R / 64 then (a (512 * n.val + j.val) : EReal) else ⊥)
    (hv : ∀ (i : Fin 4096) d, v (ix3 0 i d) = (V i.val d : EReal)) :
    Upto R a V r (512 * (n.val + 1)) (step x s (rows v n)) := by
  have key := holds_absorb (fun j : Fin 512 => (512 * n.val + j.val) / 64 ≤ R / 64) (fun j => a (512 * n.val + j.val)) 0
    (by simpa using hn) (fun j => s (ix2 r j)) hs (fun j d => V (512 * n.val + j.val) d) h
  unfold Upto
  rw [Nat.mul_succ]
  simp only [Finset.sum_range_add, step_top, step_sum, step_acc, rows_apply, hv]
  simpa only [Finset.sum_range, mass] using key

/-- The blocks before the row's own. -/
theorem upto_carry (b : ℕ) (hb : b < 8) (hR : R / 512 = b) (q : Vec Ideal S1x512x128 .bf16) (k v : Vec Ideal S1x4096x128 .bf16)
    (hs : ∀ i : Fin 4096, (∑ d, q (ix3 0 r d) * k (ix3 0 i d)) * scale = (a i.val : EReal))
    (hv : ∀ (i : Fin 4096) d, v (ix3 0 i d) = (V i.val d : EReal)) :
    ∀ n ≤ b, Upto R a V r (512 * n) (carry q k v n) := by
  intro n
  induction n with
  | zero => exact fun _ => upto_start
  | succ n ih =>
    intro hn
    have h := ih (by omega)
    have e : (⟨n % 8, Nat.mod_lt _ (by norm_num)⟩ : Fin 8) = ⟨n, by omega⟩ := Fin.ext (Nat.mod_eq_of_lt (by omega))
    show Upto R a V r (512 * (n + 1)) (step (carry q k v n) (block q (rows k ⟨n % 8, _⟩)) (rows v ⟨n % 8, _⟩))
    rw [e]
    refine upto_step ⟨n, by omega⟩ h (by show 512 * n / 64 ≤ R / 64; omega) _ v (fun j => ?_) hv
    rw [if_pos (by show (512 * n + j.val) / 64 ≤ R / 64; omega), block_apply]
    simp only [rows_apply]
    exact hs ⟨512 * n + j.val, by omega⟩

/-- All of a half's blocks. -/
theorem upto_whole (i : grid0.Coords) (h : Fin 2) (x0 : Vec Ideal S1x1024x128 .bf16) (x1 x2 : Vec Ideal S1x4096x128 .bf16)
    (hR : R = 512 * (2 * (i 1).val + h.val) + r.val)
    (hs : ∀ n : Fin 4096, (∑ d, x0 (ix3 0 ⟨512 * h.val + r.val, by omega⟩ d) * x1 (ix3 0 n d)) * scale = (a n.val : EReal))
    (hv : ∀ (n : Fin 4096) d, x2 (ix3 0 n d) = (V n.val d : EReal)) :
    Upto R a V r 4096 (whole i h x0 x1 x2) := by
  have hi : (i 1).val < 4 := (i 1).isLt
  have hs' : ∀ n : Fin 4096, (∑ d, half x0 h (ix3 0 r d) * x1 (ix3 0 n d)) * scale = (a n.val : EReal) := fun n => by
    simp only [half_apply]; exact hs n
  have hb : 2 * (i 1).val + h.val < 8 := by omega
  have e : (⟨(2 * (i 1).val + h.val) % 8, Nat.mod_lt _ (by norm_num)⟩ : Fin 8) = ⟨2 * (i 1).val + h.val, hb⟩ := Fin.ext (Nat.mod_eq_of_lt hb)
  have before := upto_carry (R := R) (a := a) (V := V) (2 * (i 1).val + h.val) hb (by omega) (half x0 h) x1 x2 hs' hv (2 * (i 1).val + h.val) le_rfl
  have all := upto_step (R := R) (a := a) (V := V) ⟨2 * (i 1).val + h.val, hb⟩ before (by show 512 * (2 * (i 1).val + h.val) / 64 ≤ R / 64; omega)
    (seen i h (half x0 h) (rows x1 ⟨2 * (i 1).val + h.val, hb⟩)) x2 (fun j => by
      rw [seen_apply, block_apply, ← hR]
      simp only [rows_apply]
      exact if_congr Iff.rfl (hs' ⟨512 * (2 * (i 1).val + h.val) + j.val, by omega⟩) rfl) hv
  have w : whole i h x0 x1 x2 = step (carry (half x0 h) x1 x2 (2 * (i 1).val + h.val))
      (seen i h (half x0 h) (rows x1 ⟨2 * (i 1).val + h.val, hb⟩)) (rows x2 ⟨2 * (i 1).val + h.val, hb⟩) := by
    rw [← e]; rfl
  rw [w]
  have sub : Finset.range (512 * (2 * (i 1).val + h.val + 1)) ⊆ Finset.range 4096 := Finset.range_subset_range.mpr (by omega)
  have zero : ∀ n ∈ Finset.range 4096, n ∉ Finset.range (512 * (2 * (i 1).val + h.val + 1)) → mass R a n = 0 := fun n _ hn => by
    rw [Finset.mem_range, not_lt] at hn
    unfold mass
    rw [if_neg (by omega)]
  have sums : (fun d => ∑ n ∈ Finset.range (512 * (2 * (i 1).val + h.val + 1)), mass R a n * V n d)
      = fun d => ∑ n ∈ Finset.range 4096, mass R a n * V n d :=
    funext fun d => Finset.sum_subset sub fun n h1 h2 => by rw [zero n h1 h2, zero_mul]
  exact Eq.mp (congrArg₂ (fun A B => Holds A B _ _ _) (Finset.sum_subset sub zero) sums) all

variable {x : Carry Ideal} (h : Upto R a V r 4096 x) (hR : R < 4096)

theorem mass_pos (hR : R < 4096) : 0 < ∑ n : Fin 4096, mass R a n.val :=
  total_pos (fun n : Fin 4096 => n.val / 64 ≤ R / 64) (fun n => a n.val) ⟨R, hR⟩ le_rfl

include h hR in
theorem quot_real (d : Fin 128) :
    quot x (ix2 r d) = (((∑ n : Fin 4096, mass R a n.val * V n.val d) / ∑ n : Fin 4096, mass R a n.val : ℝ) : EReal) := by
  unfold Upto at h
  simp only [Finset.sum_range] at h
  rw [quot_apply]
  exact holds_quot h (mass_pos hR) d

include h hR in
theorem logs_real : logs x (ix3 0 r 0) = ((Real.log (∑ n : Fin 4096, mass R a n.val) : ℝ) : EReal) := by
  unfold Upto at h
  simp only [Finset.sum_range] at h
  rw [logs_apply]
  exact holds_logs h (mass_pos hR)

end Cert.SoftIdeal.Run

end
-- ==== Proof.Soft.Ref.lean ====
/- The reference's forward attention: its results as the masked scores' exponentials, sums and products. -/
module

public import proofs.«01_k».proof.Proof.Attn.Ref
public import proofs.«01_k».proof.Proof.Gen.SoftRefIdeal.Run

@[expose] public section

set_option maxRecDepth 8192
set_option maxHeartbeats 2000000

noncomputable section

namespace Cert.SoftRefIdeal.Terms

open Cert.SoftRefIdeal Cert.SoftRefIdeal.Gen
open Idealize.ShloMosaic Idealize.ShloMosaic.TcCoe Idealize.ShloMosaic.Tactic
open Idealize.SL Idealize.SL.Sem
open Cert.AttnIdeal.Run (scores top expo total weights output)
open Cert.AttnRefIdeal.Terms (shift shift_eq)

/-- The log of the sum of the scores' exponentials. -/
def logTotal (s : FVec Ideal S8x4096x4096 .f32) : FVec Ideal S8x4096x1 .f32 := Host.log (total (Host.exp s))

theorem logTotal_apply (s : FVec Ideal S8x4096x4096 .f32) (h : Fin 8) (r : Fin 4096) :
    logTotal s (ix3 h r 0) = Ideal.log (∑ j, Ideal.exp (s (ix3 h r j))) := by
  pointwise [logTotal, Cert.AttnIdeal.Run.total]

section Results

variable (m : (ℓ : Loc nD τ sig) → Buf (Elt Ideal) ℓ) (c : Dev nD)

abbrev q : FVec Ideal S8x4096x96 .f32 := m ((c.tc : Thread nD τ).loc main_arg0)
abbrev k : FVec Ideal S8x4096x96 .f32 := m ((c.tc : Thread nD τ).loc main_arg1)
abbrev v : FVec Ideal S8x4096x64 .f32 := m ((c.tc : Thread nD τ).loc main_arg2)

def e : FVec Ideal S8x4096x4096 .f32 := expo (scores (q m c) (k m c)) (shift (top (scores (q m c) (k m c))))

theorem res_0 : Value.res_out0 m c = output (weights (e m c) (total (e m c))) (v m c) := rfl
theorem run (ρ : Dev nD → PrngReg) :
    θ_run defs (onTc (τ := τ) (main (F := Ideal))) ⟨m, fun _ => 0, ρ⟩ fun r => ∀ c : Dev nD,
      r.2.mem ((c.tc : Thread nD τ).loc main_v24) = output (weights (e m c) (total (e m c))) (v m c)
      ∧ r.2.mem ((c.tc : Thread nD τ).loc main_v39) = logTotal (scores (q m c) (k m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Results

end Cert.SoftRefIdeal.Terms

end
-- ==== Proof.Soft.Row.lean ====
/- A row of the reference's forward attention over the real numbers: the weighted values and the log of the sum. -/
module

public import proofs.«01_k».proof.Proof.Soft.Online
public import proofs.«01_k».proof.Proof.Soft.Ref
public import proofs.«01_k».proof.Proof.Finite

@[expose] public section

set_option maxRecDepth 8192
set_option maxHeartbeats 2000000

noncomputable section

namespace Cert.SoftRefIdeal.Terms

open Idealize.ShloMosaic
open Cert.Finite Cert.Online Cert.Softmax
open Cert.AttnIdeal.Run (scores top expo total weights scores_apply top_apply expo_apply total_apply weights_apply scale)
open scoped BigOperators

theorem real_toReal {x : EReal} (h : IsReal x) : x = ((x.toReal : ℝ) : EReal) := by
  obtain ⟨r, rfl⟩ := h
  rw [EReal.toReal_coe]

theorem scale_real : IsReal scale := by
  refine ⟨13698540 / 134217728, ?_⟩
  simp [Ideal.ofBits, Ideal.ieee, -EReal.coe_mul]
  norm_num

variable (q k : FVec Ideal ⟨3, ![8, 4096, 96]⟩ .f32)

/-- The score of query `R` and key `n`, unmasked, as a real number. -/
def real (h : Fin 8) (R n : Fin 4096) : ℝ := ((∑ d : Fin 96, q (ix3 h R d) * k (ix3 h n d)) * scale).toReal

variable (hq : ∀ i, IsReal (q i)) (hk : ∀ i, IsReal (k i))

include hq hk in
theorem real_eq (h : Fin 8) (R n : Fin 4096) : (∑ d : Fin 96, q (ix3 h R d) * k (ix3 h n d)) * scale = (real q k h R n : EReal) :=
  real_toReal ((IsReal.sum Finset.univ fun d : Fin 96 => (hq (ix3 h R d)).mul (hk (ix3 h n d))).mul scale_real)

include hq hk in
theorem scores_real (h : Fin 8) (R n : Fin 4096) :
    scores q k (ix3 h R n) = if n.val / 64 ≤ R.val / 64 then (real q k h R n : EReal) else ⊥ := by
  rw [scores_apply, real_eq q k hq hk]

/-- The exponentials over the largest score. -/
abbrev exps : FVec Ideal ⟨3, ![8, 4096, 4096]⟩ .f32 := expo (scores q k) (top (scores q k))

include hq hk in
theorem row_values (h : Fin 8) (R : Fin 4096) (V : Fin 4096 → ℝ) :
    (∑ n, weights (exps q k) (total (exps q k)) (ix3 h R n) * (V n : EReal))
      = (((∑ n : Fin 4096, (if n.val / 64 ≤ R.val / 64 then Real.exp (real q k h R n) else 0) * V n)
          / ∑ n : Fin 4096, (if n.val / 64 ≤ R.val / 64 then Real.exp (real q k h R n) else 0) : ℝ) : EReal) := by
  rw [← row_quot (fun n : Fin 4096 => n.val / 64 ≤ R.val / 64) (fun n => real q k h R n) R le_rfl (fun n => scores q k (ix3 h R n))
    (fun n => scores_real q k hq hk h R n) V]
  refine Finset.sum_congr rfl fun n _ => ?_
  have e : ∀ n, exps q k (ix3 h R n) = Ideal.exp (scores q k (ix3 h R n) - Finset.univ.sup fun n => scores q k (ix3 h R n)) := fun n => by
    rw [← top_apply]; exact expo_apply _ _ h R n
  rw [weights_apply, total_apply]
  simp only [e]

include hq hk in
theorem row_log (h : Fin 8) (R : Fin 4096) :
    logTotal (scores q k) (ix3 h R 0)
      = ((Real.log (∑ n : Fin 4096, if n.val / 64 ≤ R.val / 64 then Real.exp (real q k h R n) else 0) : ℝ) : EReal) := by
  have e : ∀ n : Fin 4096, Ideal.exp (scores q k (ix3 h R n)) = (((if n.val / 64 ≤ R.val / 64 then Real.exp (real q k h R n) else 0) : ℝ) : EReal) := fun n => by
    rw [scores_real q k hq hk]
    split_ifs <;> rfl
  rw [logTotal_apply]
  simp only [e, ← coe_sum]
  rw [Ideal.log_coe, if_neg (not_le.mpr (total_pos (fun n : Fin 4096 => n.val / 64 ≤ R.val / 64) (fun n => real q k h R n) R le_rfl))]

end Cert.SoftRefIdeal.Terms

end
-- ==== Proof.Soft.Blocks.lean ====
/- What a grid point of the forward attention leaves in its output blocks. -/
module

public import proofs.«01_k».proof.Proof.Soft.Host
public import proofs.«01_k».proof.Proof.Soft.Total
public import proofs.«01_k».proof.Proof.Soft.Row
public import proofs.«01_k».proof.Proof.Pieces

@[expose] public section

set_option maxRecDepth 8192
set_option maxHeartbeats 2000000

noncomputable section

namespace Cert.SoftIdeal.Run

open Cert.SoftIdeal.Gen
open Idealize.ShloMosaic Idealize.ShloMosaic.TcCoe Idealize.ShloMosaic.Tactic
open Idealize.SL
open Cert.Finite
open Cert.AttnIdeal.Run (onLanes onOwnLanes onLanes_apply onOwnLanes_apply scores top expo total weights)
open Cert.SoftRefIdeal.Terms (real real_eq real_toReal exps row_values row_log logTotal)

theorem idx : ∀ t : Fin cfg0.N, (win0_0.index t = ![2 * (t.val / 8) + t.val % 2, t.val / 2 % 4, 0] ∧ win0_1.index t = ![2 * (t.val / 8) + t.val % 2, 0, 0]
      ∧ win0_2.index t = ![2 * (t.val / 8) + t.val % 2, 0, 0])
    ∧ (win0_3.index t = ![t.val / 2 % 4, t.val / 8] ∧ win0_4.index t = ![2 * (t.val / 8) + t.val % 2, t.val / 2 % 4, 0] ∧ (grid0.coords t 1).val = t.val / 2 % 4) :=
  (by decide +kernel : ∀ t : Fin grid0.N, _)

variable (m : (ℓ : Loc nD τ sig) → Buf (Elt Ideal) ℓ) (c : Dev nD) (t : Fin cfg0.N)

/-- The head of a point; and row `r` of half `h` of its queries. -/
def hd : Fin 8 := ⟨2 * (t.val / 8) + t.val % 2, by have h : t.val < 32 := t.isLt; omega⟩
def at_ (h : Fin 2) (r : Fin 512) : Fin 4096 := ⟨512 * (2 * (t.val / 2 % 4) + h.val) + r.val, by omega⟩

theorem q_at (h : Fin 2) (r : Fin 512) (d : Fin 128) :
    iblk m c 0 t (ix3 0 ⟨512 * h.val + r.val, by omega⟩ d) = onLanes (q m c) (ix3 (hd t) (at_ t h r) d) := by
  show _ = truncf (F := Ideal) .bf16 (onLanes (q m c)) bitsLt_bf16_f32 (ix3 (hd t) (at_ t h r) d)
  rw [← V_v11]
  blk_point [iblk, idx t]
  all_goals first | rfl | (show t.val / 2 % 4 * 1024 + (512 * h.val + r.val) = 512 * (2 * (t.val / 2 % 4) + h.val) + r.val; omega)

theorem k_at (n : Fin 4096) (d : Fin 128) : iblk m c 1 t (ix3 0 n d) = onLanes (k m c) (ix3 (hd t) n d) := by
  show _ = truncf (F := Ideal) .bf16 (onLanes (k m c)) bitsLt_bf16_f32 (ix3 (hd t) n d)
  rw [← V_v13]
  blk_point [iblk, idx t]
  all_goals rfl

theorem v_at (n : Fin 4096) (d : Fin 128) : iblk m c 2 t (ix3 0 n d) = onOwnLanes (v m c) (ix3 (hd t) n d) := by
  show _ = truncf (F := Ideal) .bf16 (onOwnLanes (v m c)) bitsLt_bf16_f32 (ix3 (hd t) n d)
  rw [← V_v9]
  blk_point [iblk, idx t]
  all_goals rfl

theorem lanes_dot (x y : FVec Ideal S8x4096x96 .f32) (h : Fin 8) (r j : Fin 4096) :
    (∑ d : Fin 128, onLanes x (ix3 h r d) * onLanes y (ix3 h j d)) = ∑ d : Fin 96, x (ix3 h r d) * y (ix3 h j d) := by
  rw [show (∑ d : Fin 128, onLanes x (ix3 h r d) * onLanes y (ix3 h j d))
      = ∑ d : Fin (96 + 32), onLanes x (ix3 h r d) * onLanes y (ix3 h j d) from rfl, Fin.sum_univ_add]
  refine (congrArg₂ (· + ·) (Finset.sum_congr rfl fun d _ => ?_) (Finset.sum_eq_zero fun d _ => ?_)).trans (add_zero _)
  · rw [onLanes_apply, onLanes_apply, dif_pos (show (Fin.castAdd 32 d).val < 96 from d.isLt), dif_pos (show (Fin.castAdd 32 d).val < 96 from d.isLt)]
    rfl
  · rw [onLanes_apply, dif_neg (show ¬ (Fin.natAdd 96 d).val < 96 by simp), zero_mul]

variable (hq : ∀ i, IsReal (q m c i)) (hk : ∀ i, IsReal (k m c i)) (hv : ∀ i, IsReal (v m c i))

include hv in
theorem own_real (i) : IsReal (onOwnLanes (v m c) i) := by
  idx_vars i
  rw [onOwnLanes_apply]
  split_ifs
  exacts [hv _, IsReal.zero]

/-- A sequence's `n`th member, 0 past its end. -/
def ext (f : Fin 4096 → ℝ) (n : ℕ) : ℝ := if h : n < 4096 then f ⟨n, h⟩ else 0
theorem ext_val (f : Fin 4096 → ℝ) (n : Fin 4096) : ext f n.val = f n := dif_pos n.isLt

/-- What a half's rows hold. -/
abbrev left (h : Fin 2) : Carry Ideal := whole (grid0.coords t) h (iblk m c 0 t) (iblk m c 1 t) (iblk m c 2 t)

include hq hk hv in
theorem upto_left (h : Fin 2) (r : Fin 512) :
    Upto (at_ t h r).val (ext fun n => real (q m c) (k m c) (hd t) (at_ t h r) n)
      (fun n d => ext (fun n => (onOwnLanes (v m c) (ix3 (hd t) n d)).toReal) n) r 4096 (left m c t h) := by
  refine upto_whole (grid0.coords t) h _ _ _ ?_ (fun n => ?_) (fun n d => ?_)
  · rw [(idx t).2.2.2]; rfl
  · rw [ext_val, ← real_eq _ _ hq hk, ← lanes_dot]
    simp only [q_at, k_at]
  · rw [ext_val, v_at]
    exact real_toReal (own_real m c hv _)

include hq hk hv in
theorem left_quot (h : Fin 2) (r : Fin 512) (d : Fin 128) :
    quot (left m c t h) (ix2 r d) = ∑ n, weights (exps (q m c) (k m c)) (total (exps (q m c) (k m c))) (ix3 (hd t) (at_ t h r) n)
      * onOwnLanes (v m c) (ix3 (hd t) n d) := by
  rw [quot_real (upto_left m c t hq hk hv h r) (at_ t h r).isLt]
  unfold mass
  simp only [ext_val]
  rw [← row_values _ _ hq hk]
  exact Finset.sum_congr rfl fun n _ => by rw [← real_toReal (own_real m c hv _)]

include hq hk hv in
theorem left_logs (h : Fin 2) (r : Fin 512) :
    logs (left m c t h) (ix3 0 r 0) = logTotal (scores (q m c) (k m c)) (ix3 (hd t) (at_ t h r) 0) := by
  rw [logs_real (upto_left m c t hq hk hv h r) (at_ t h r).isLt]
  unfold mass
  simp only [ext_val]
  rw [← row_log _ _ hq hk]

end Cert.SoftIdeal.Run

end
-- ==== Proof.Soft.Outputs.lean ====
/- The arrays the forward attention leaves, for real arguments: the reference's output and log-sum. -/
module

public import proofs.«01_k».proof.Proof.Soft.Blocks

@[expose] public section

set_option maxRecDepth 8192
set_option maxHeartbeats 2000000

noncomputable section

namespace Cert.SoftIdeal.Run

open Cert.SoftIdeal.Gen
open Idealize.ShloMosaic Idealize.ShloMosaic.TcCoe Idealize.ShloMosaic.Tactic
open Idealize.SL
open Cert.Finite
open Cert.AttnIdeal.Run (onOwnLanes onOwnLanes_apply scores total weights output output_apply)
open Cert.SoftRefIdeal.Terms (exps logTotal)

theorem halves (y : Fin 1024) : ∃ (h : Fin 2) (r : Fin 512), y = ⟨512 * h.val + r.val, by omega⟩ :=
  ⟨⟨y.val / 512, by omega⟩, ⟨y.val % 512, by omega⟩, Fin.ext (by simp only; omega)⟩

/-- Two halves, one above the other. -/
theorem canon_out (A : Fin 2 → FVec Ideal S512x128 .f32) (h : Fin 2) (r : Fin 512) (d : Fin 128) :
    View.canon (Val := Elt Ideal) (e := .f32) [⟨Rect.unit (s := S1024x128) ![512, 0] S512x128.size inb_S1024x128_S512x128_512_0, A 1⟩,
      ⟨Rect.unit (s := S1024x128) ![0, 0] S512x128.size inb_S1024x128_S512x128_0_0, A 0⟩] (ix2 ⟨512 * h.val + r.val, by omega⟩ d : S1024x128.Idx) = A h (ix2 r d) := by
  obtain rfl | rfl : h = 0 ∨ h = 1 := by omega
  · refine (Pieces.canon_miss _ _ _ _ _ _ _ (Or.inl (by simp))).trans ((Pieces.canon_hit _ _ _ _ _ _ _ (by simp) (by simp)).trans ?_)
    exact congrArg₂ (fun a b => A 0 (ix2 a b)) (Fin.ext (by simp)) (Fin.ext (by simp))
  · refine (Pieces.canon_hit _ _ _ _ _ _ _ (by simp; omega) (by simp)).trans ?_
    exact congrArg₂ (fun a b => A 1 (ix2 a b)) (Fin.ext (by simp)) (Fin.ext (by simp))

theorem canon_logs (A : Fin 2 → Vec Ideal S1x512x1 .f32) (h : Fin 2) (r : Fin 512) :
    View.canon (Val := Elt Ideal) (e := .f32) [⟨Rect.unit (s := S1x1024x1) ![0, 512, 0] S1x512x1.size inb_S1x1024x1_S1x512x1_0_512_0, A 1⟩,
      ⟨Rect.unit (s := S1x1024x1) ![0, 0, 0] S1x512x1.size inb_S1x1024x1_S1x512x1_0_0_0, A 0⟩] (ix3 0 ⟨512 * h.val + r.val, by omega⟩ 0 : S1x1024x1.Idx) = A h (ix3 0 r 0) := by
  obtain rfl | rfl : h = 0 ∨ h = 1 := by omega
  · refine (View.canon_cons_of_not_mem _ _ fun hm => ?_).trans ?_
    · obtain ⟨x, hx⟩ := LoadRect.exists_idx_of_mem _ hm
      have h1 : 512 + 1 * (x 1).val = 512 * (0 : Fin 2).val + r.val := congrArg (fun y => (y 1).val) hx
      simp at h1
      omega
    · have e : (Rect.unit (s := S1x1024x1) ![0, 0, 0] S1x512x1.size inb_S1x1024x1_S1x512x1_0_0_0).emb (ix3 0 r 0)
          = (ix3 0 ⟨512 * (0 : Fin 2).val + r.val, by omega⟩ 0 : S1x1024x1.Idx) := by blk_ext
      rw [← e]
      exact View.canon_cons_emb _ _ _ _
  · have e : (Rect.unit (s := S1x1024x1) ![0, 512, 0] S1x512x1.size inb_S1x1024x1_S1x512x1_0_512_0).emb (ix3 0 r 0)
        = (ix3 0 ⟨512 * (1 : Fin 2).val + r.val, by omega⟩ 0 : S1x1024x1.Idx) := by blk_ext
    rw [← e]
    exact View.canon_cons_emb _ _ _ _

theorem add_apply (x : FVec Ideal S512x128 .f32) (xo : Vec Ideal S1024x128 .f32) (h : Fin 2) (r : Fin 512) (d : Fin 128) :
    k0_pay2 x (halfOut xo h) (ix2 r d) = x (ix2 r d) + xo (ix2 ⟨512 * h.val + r.val, by omega⟩ d) ∨
    k0_pay2 x (halfOut xo h) (ix2 r d) = xo (ix2 ⟨512 * h.val + r.val, by omega⟩ d) + x (ix2 r d) := by
  first
    | (left; pointwise [k0_pay2, halfOut, VecWindow.window_eq_ld]; done)
    | (right; pointwise [k0_pay2, halfOut, VecWindow.window_eq_ld]; done)

variable (m : (ℓ : Loc nD τ sig) → Buf (Elt Ideal) ℓ) (c : Dev nD) (t : Fin cfg0.N)

theorem logs_left (h : Fin 2) (r : Fin 512) :
    (outsAt0 m c t.val t.isLt).2 (ix3 0 ⟨512 * h.val + r.val, by omega⟩ 0) = logs (left m c t h) (ix3 0 r 0) := by
  by_cases a : t.val % 2 = 0
  · rw [outsAt0_A m c t a (by omega) a (by omega)]
    dsimp only
    unfold out0_A_4
    rw [View.read_writes_eq_canon _ _ _ (cover0_A_4 (F := Ideal) c _ _ _ _ _ _ _ _ _ _ _ _ _ _ _ _ _ _), piecesA_4]
    exact canon_logs (fun h => logs (left m c t h)) h r
  · rw [outsAt0_B m c t a (by omega) a (by omega)]
    dsimp only
    unfold out0_B_4
    rw [View.read_writes_eq_canon _ _ _ (cover0_B_4 (F := Ideal) c _ _ _ _ _ _ _ _ _ _ _ _ _ _ _ _ _ _ _), piecesB_4]
    exact canon_logs (fun h => logs (left m c t h)) h r

theorem out_first (a : t.val % 2 = 0) (h : Fin 2) (r : Fin 512) (d : Fin 128) :
    (outsAt0 m c t.val t.isLt).1 (ix2 ⟨512 * h.val + r.val, by omega⟩ d) = quot (left m c t h) (ix2 r d) := by
  rw [outsAt0_A m c t a (by omega) a (by omega)]
  dsimp only
  unfold out0_A_3
  rw [View.read_writes_eq_canon _ _ _ (cover0_A_3 (F := Ideal) c _ _ _ _ _ _ _ _ _ _ _ _ _ _ _ _ _ _), piecesA_3]
  exact canon_out (fun h => quot (left m c t h)) h r d

/-- The second of a pair's points adds its own to what the first left. -/
theorem out_second (a : t.val % 2 = 1) (s : Fin cfg0.N) (hs : s.val = t.val - 1) (h : Fin 2) (r : Fin 512) (d : Fin 128) :
    (outsAt0 m c t.val t.isLt).1 (ix2 ⟨512 * h.val + r.val, by omega⟩ d) = quot (left m c t h) (ix2 r d) + quot (left m c s h) (ix2 r d) := by
  rw [← out_first m c s (by omega) h r d]
  have same : (outsAt0 m c s.val s.isLt).1 = (outsAt0 m c (t.val - 1) (Nat.lt_of_le_of_lt (Nat.sub_le _ _) t.isLt)).1 := by
    simp only [hs]
  rw [same, outsAt0_B m c t (by omega) a (by omega) a]
  dsimp only
  unfold out0_B_3
  rw [View.read_writes_eq_canon _ _ _ (cover0_B_3 (F := Ideal) c _ _ _ _ _ _ _ _ _ _ _ _ _ _ _ _ _ _ _), piecesB_3]
  refine (canon_out (fun h => k0_pay2 (quot (left m c t h)) (halfOut _ h)) h r d).trans ?_
  rcases add_apply (quot (left m c t h)) (outsAt0 m c (t.val - 1) (Nat.lt_of_le_of_lt (Nat.sub_le _ _) t.isLt)).1 h r d with e | e
  · exact e
  · exact e.trans (add_comm _ _)

variable (hq : ∀ i, IsReal (q m c i)) (hk : ∀ i, IsReal (k m c i)) (hv : ∀ i, IsReal (v m c i))

include hq hk hv in
theorem final4 : (dats m 0 c).arrAt 4 (cfgs 0).N = logTotal (scores (q m c) (k m c)) := by
  refine (dats m 0 c).arrAt_eq_of_covers 4 _ (by decide +kernel) fun t ht y => ?_
  blk_simp
  rw [after0_4]
  idx_vars y
  obtain rfl : y0 = 0 := Subsingleton.elim _ _
  obtain rfl : y2 = 0 := Subsingleton.elim _ _
  obtain ⟨h, r, rfl⟩ := halves y1
  refine ((logs_left m c t h r).trans (left_logs m c t hq hk hv h r)).trans ?_
  generalize logTotal (scores (q m c) (k m c)) = f
  refine congrArg f (funext fun a => Fin.ext ?_)
  fin_cases a
  · blk_simp [idx t]; rfl
  · blk_simp [idx t]; show 512 * (2 * (t.val / 2 % 4) + h.val) + r.val = t.val / 2 % 4 * 1024 + (512 * h.val + r.val); omega
  · blk_simp [idx t]; try rfl

theorem flush3 : ∀ t : Fin cfg0.N, (cfg0.win 3).flush t = true → t.val % 2 = 1 := (by decide +kernel : ∀ t : Fin grid0.N, _)

/-- The weights of the forward lines. -/
abbrev wts : FVec Ideal ⟨3, ![8, 4096, 4096]⟩ .f32 := weights (exps (q m c) (k m c)) (total (exps (q m c) (k m c)))

include hq hk hv in
theorem out_block (a : t.val % 2 = 1) (h : Fin 2) (r : Fin 512) (d : Fin 128) :
    (outsAt0 m c t.val t.isLt).1 (ix2 ⟨512 * h.val + r.val, by omega⟩ d)
      = output (wts m c) (v m c) (ix2 (at_ t h r) ⟨64 * (2 * (t.val / 8) + d.val / 64) + d.val % 64, by have : t.val < 32 := t.isLt; omega⟩) := by
  have ht : t.val < 32 := t.isLt
  have hd' := d.isLt
  have e := output_apply (wts m c) (v m c) (at_ t h r) ⟨2 * (t.val / 8) + d.val / 64, by omega⟩ ⟨d.val % 64, by omega⟩
  refine Eq.trans ?_ e.symm
  have hs : t.val - 1 < cfg0.N := lt_of_le_of_lt (Nat.sub_le _ _) t.isLt
  rw [out_second m c t a ⟨t.val - 1, hs⟩ rfl, left_quot m c t hq hk hv, left_quot m c _ hq hk hv]
  have row : at_ (⟨t.val - 1, hs⟩ : Fin cfg0.N) h r = at_ t h r := Fin.ext (by show 512 * (2 * ((t.val - 1) / 2 % 4) + h.val) + r.val = 512 * (2 * (t.val / 2 % 4) + h.val) + r.val; omega)
  rw [row]
  have h1 : (hd t).val % 2 = 1 := by show (2 * (t.val / 8) + t.val % 2) % 2 = 1; omega
  have h0 : (hd (⟨t.val - 1, hs⟩ : Fin cfg0.N)).val % 2 = 0 := by show (2 * ((t.val - 1) / 8) + (t.val - 1) % 2) % 2 = 0; omega
  simp only [onOwnLanes_apply, h1, h0]
  rcases (by omega : d.val / 64 = 0 ∨ d.val / 64 = 1) with hl | hl
  · have he : hd (⟨t.val - 1, hs⟩ : Fin cfg0.N) = ⟨2 * (t.val / 8) + d.val / 64, by omega⟩ := Fin.ext (by
      show 2 * ((t.val - 1) / 8) + (t.val - 1) % 2 = 2 * (t.val / 8) + d.val / 64; omega)
    rw [he]
    simp only [hl, if_neg (show ¬ (0 : ℕ) = 1 by decide), mul_zero, Finset.sum_const_zero, zero_add, if_true]
  · have he : hd t = ⟨2 * (t.val / 8) + d.val / 64, by omega⟩ := Fin.ext (by
      show 2 * (t.val / 8) + t.val % 2 = 2 * (t.val / 8) + d.val / 64; omega)
    rw [he]
    simp only [hl, if_neg (show ¬ (1 : ℕ) = 0 by decide), mul_zero, Finset.sum_const_zero, add_zero, if_true]

include hq hk hv in
theorem final3 : (dats m 0 c).arrAt 3 (cfgs 0).N = output (wts m c) (v m c) := by
  refine (dats m 0 c).arrAt_eq_of_covers 3 _ (by decide +kernel) fun t ht y => ?_
  blk_simp
  rw [after0_3]
  idx_vars y
  obtain ⟨h, r, rfl⟩ := halves y0
  refine (out_block m c t hq hk hv (flush3 t ht) h r y1).trans ?_
  generalize output (wts m c) (v m c) = f
  refine congrArg f (funext fun a => Fin.ext ?_)
  fin_cases a
  · blk_simp [idx t]; show 512 * (2 * (t.val / 2 % 4) + h.val) + r.val = t.val / 2 % 4 * 1024 + (512 * h.val + r.val); omega
  · blk_simp [idx t]; show 64 * (2 * (t.val / 8) + y1.val / 64) + y1.val % 64 = t.val / 8 * 128 + y1.val; omega

end Cert.SoftIdeal.Run

end
-- ==== Proof.Soft.Claims.lean ====
/- The claims about the forward attention: the mask constant's name, and its results against the reference's for real arguments. -/
module

public import proofs.«01_k».proof.Proof.Soft.Outputs
public import proofs.«01_k».proof.Pre_finite_soft
public import proofs.«01_k».proof.Defs
public import proofs.«01_k».proof.Proof.Gen.Soft.Frame

@[expose] public section

set_option maxRecDepth 16384

noncomputable section

namespace Cert.Pre_finite_soft

open Idealize.ShloMosaic Cert.Finite

instance facts : Facts where
  bcast_S_S8x4096x96 := by decide
  reducesTo_S8x4096x96_S_d0_1_2 := by decide
  h_S_ := by decide
  bcast_S_S8x4096x64 := by decide
  reducesTo_S8x4096x64_S_d0_1_2 := by decide

theorem reals [Facts] {q k : Vec Ideal ⟨3, ![8, 4096, 96]⟩ .f32} {v : Vec Ideal ⟨3, ![8, 4096, 64]⟩ .f32}
    (h : fn (F := Ideal) q k v = fun _ => 1#1) : (∀ i, IsReal (q i)) ∧ (∀ i, IsReal (k i)) ∧ (∀ i, IsReal (v i)) := by
  have h0 := congrFun h (fun a => a.elim0)
  obtain ⟨h1, hv⟩ := IntOp.andi_eq_one.mp h0
  obtain ⟨hq, hk⟩ := IntOp.andi_eq_one.mp h1
  exact ⟨of_all q _ _ _ _ hq, of_all k _ _ _ _ hk, of_all v _ _ _ _ hv⟩

end Cert.Pre_finite_soft

namespace Cert.SoftClaims

open Idealize.ShloMosaic Idealize.ShloMosaic.TcCoe
open Idealize.SL Idealize.SL.Sem
open Cert.AttnIdeal.Run (output scores total weights)

theorem frame_bits : Cert.quiescent_Soft := fun m ρ _ => Cert.Soft.Gen.frame m ρ

theorem frame_ideal : Cert.quiescent_SoftIdeal := fun m ρ _ => Cert.SoftIdeal.Gen.frame m ρ

theorem frame_ref : Cert.quiescent_SoftRefIdeal := fun m ρ _ =>
  (θ_run Cert.SoftRefIdeal.defs _ _).mono (fun _ h => ⟨fun c => (h c).2.2, sem_eq_zero_of_no_sems rfl _⟩)
    (Cert.SoftRefIdeal.Value.run m ρ)

theorem named : Cert.preserves_Soft_SoftIdeal := IdealRules.named_const.statement Cert.SoftIdeal.κ "masked" .f32 0xF149F2CA#32 (⊥ : EReal) rfl

open Cert.SoftIdeal.Run in
theorem value : Cert.algebraic_SoftIdeal_SoftRefIdeal_pre_finite_soft := by
  intro m g m' g' hp ha
  have hr := fun c => Cert.Pre_finite_soft.reals (h := hp c)
  refine ⟨fun c => output (wts m c) (v m c), fun c => Cert.SoftRefIdeal.Terms.logTotal (scores (q m c) (k m c)), ?_, ?_⟩
  · refine (θ_run Cert.SoftIdeal.defs _ _).mono (fun r h c => ?_) (Cert.SoftIdeal.Value.run_blocks m g)
    obtain ⟨h3, h4, hargs⟩ := h c
    obtain ⟨hq, hk, hv⟩ := hr c
    exact ⟨h3.trans (final3 m c hq hk hv), h4.trans (final4 m c hq hk hv), hargs⟩
  · refine (θ_run Cert.SoftRefIdeal.defs _ _).mono (fun r h c => ?_) (Cert.SoftRefIdeal.Terms.run m' g')
    obtain ⟨h24, h39, hargs⟩ := h c
    obtain ⟨a0, a1, a2⟩ := ha c
    refine ⟨h24.trans ?_, h39.trans ?_, hargs⟩
    · unfold Cert.SoftRefIdeal.Terms.e
      rw [Cert.AttnRefIdeal.Terms.shift_eq]
      exact congrArg₂ (fun a b => output a b) (congrArg₂ (fun a b => weights (Cert.SoftRefIdeal.Terms.exps a b) (total (Cert.SoftRefIdeal.Terms.exps a b))) a0 a1) a2
    · exact congrArg₂ (fun a b => Cert.SoftRefIdeal.Terms.logTotal (scores a b)) a0 a1

end Cert.SoftClaims

end
-- ==== Proof.lean ====
/- The certificate's claims, put together from each call's module of claims. -/
module

public import proofs.«01_k».proof.Defs
public import proofs.«01_k».proof.Proof.Gen.Loss
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import proofs.«01_k».proof.Proof.Loss.Claims
public import proofs.«01_k».proof.Proof.Gen.Ada
public import proofs.«01_k».proof.Proof.Gen.AdaIdeal
public import proofs.«01_k».proof.Proof.Gen.AdaIdeal.Value
public import proofs.«01_k».proof.Proof.Gen.AdaRefIdeal
public import proofs.«01_k».proof.Proof.Gen.AdaRefIdeal.Run
public import proofs.«01_k».proof.Proof.Ada.Claims
public import proofs.«01_k».proof.Proof.Gen.EvenGate
public import proofs.«01_k».proof.Proof.Gen.EvenGateIdeal
public import proofs.«01_k».proof.Proof.Gen.EvenGateIdeal.Value
public import proofs.«01_k».proof.Proof.Gen.EvenGateRefIdeal
public import proofs.«01_k».proof.Proof.Gen.EvenGateRefIdeal.Run
public import proofs.«01_k».proof.Proof.EvenGate.Claims
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Attn.Claims
public import proofs.«01_k».proof.Proof.Gen.Post
public import proofs.«01_k».proof.Proof.Gen.PostIdeal
public import proofs.«01_k».proof.Proof.Gen.PostIdeal.Value
public import proofs.«01_k».proof.Proof.Gen.PostRefIdeal
public import proofs.«01_k».proof.Proof.Gen.PostRefIdeal.Run
public import proofs.«01_k».proof.Proof.Post.Claims
public import proofs.«01_k».proof.Proof.Gen.Pre
public import proofs.«01_k».proof.Proof.Gen.PreIdeal
public import proofs.«01_k».proof.Proof.Gen.PreIdeal.Value
public import proofs.«01_k».proof.Proof.Gen.PreRefIdeal
public import proofs.«01_k».proof.Proof.Gen.PreRefIdeal.Run
public import proofs.«01_k».proof.Proof.Pre.Claims
public import proofs.«01_k».proof.Proof.Gen.Odd
public import proofs.«01_k».proof.Proof.Gen.OddIdeal
public import proofs.«01_k».proof.Proof.Gen.OddRefIdeal
public import proofs.«01_k».proof.Proof.Gen.OddRefIdeal.Run
public import proofs.«01_k».proof.Proof.Odd.Claims
public import proofs.«01_k».proof.Proof.Gen.Mla
public import proofs.«01_k».proof.Proof.Gen.MlaIdeal
public import proofs.«01_k».proof.Proof.Gen.MlaIdeal.Value
public import proofs.«01_k».proof.Proof.Gen.MlaRefIdeal
public import proofs.«01_k».proof.Proof.Gen.MlaRefIdeal.Run
public import proofs.«01_k».proof.Proof.Mla.Claims
public import proofs.«01_k».proof.Proof.Gen.Next
public import proofs.«01_k».proof.Proof.Gen.NextIdeal
public import proofs.«01_k».proof.Proof.Gen.NextIdeal.Value
public import proofs.«01_k».proof.Proof.Gen.NextRefIdeal
public import proofs.«01_k».proof.Proof.Gen.NextRefIdeal.Run
public import proofs.«01_k».proof.Proof.Next.Claims
public import proofs.«01_k».proof.Proof.Gen.Soft
public import proofs.«01_k».proof.Proof.Gen.SoftIdeal
public import proofs.«01_k».proof.Proof.Gen.SoftRefIdeal
public import proofs.«01_k».proof.Proof.Gen.SoftRefIdeal.Run
public import proofs.«01_k».proof.Proof.Soft.Claims

@[expose] public section

namespace Cert.Proof

theorem claim : Cert.Claim :=
  ⟨Cert.Loss.Gen.facts, Cert.LossIdeal.Gen.facts, Cert.LossRefIdeal.Gen.facts,
    Cert.Ada.Gen.facts, Cert.AdaIdeal.Gen.facts, Cert.AdaRefIdeal.Gen.facts,
    Cert.EvenGate.Gen.facts, Cert.EvenGateIdeal.Gen.facts, Cert.EvenGateRefIdeal.Gen.facts,
    Cert.Attn.Gen.facts, Cert.AttnIdeal.Gen.facts, Cert.AttnRefIdeal.Gen.facts,
    Cert.Post.Gen.facts, Cert.PostIdeal.Gen.facts, Cert.PostRefIdeal.Gen.facts,
    Cert.Pre.Gen.facts, Cert.PreIdeal.Gen.facts, Cert.PreRefIdeal.Gen.facts,
    Cert.Odd.Gen.facts, Cert.OddIdeal.Gen.facts, Cert.OddRefIdeal.Gen.facts,
    Cert.Mla.Gen.facts, Cert.MlaIdeal.Gen.facts, Cert.MlaRefIdeal.Gen.facts,
    Cert.Next.Gen.facts, Cert.NextIdeal.Gen.facts, Cert.NextRefIdeal.Gen.facts,
    Cert.Soft.Gen.facts, Cert.SoftIdeal.Gen.facts, Cert.SoftRefIdeal.Gen.facts,
    Cert.Pre_finite_even_gate.facts, Cert.Pre_finite_attn.facts, Cert.Pre_finite_soft.facts,
    Cert.On_own_lanes.facts, Cert.On_read_lanes.facts,
    LossClaims.frame_bits, LossClaims.frame_ideal, LossClaims.frame_ref,
    AdaClaims.frame_bits, AdaClaims.frame_ideal, AdaClaims.frame_ref,
    EvenGateClaims.frame_bits, EvenGateClaims.frame_ideal, (fun m ρ _ => EvenGateClaims.frame_ideal m ρ trivial), EvenGateClaims.frame_ref, (fun m ρ _ => EvenGateClaims.frame_ref m ρ trivial),
    AttnClaims.frame_bits, AttnClaims.frame_ideal, (fun m ρ _ => AttnClaims.frame_ideal m ρ trivial), AttnClaims.frame_ref, (fun m ρ _ => AttnClaims.frame_ref m ρ trivial),
    PostClaims.frame_bits, PostClaims.frame_ideal, PostClaims.frame_ref,
    PreClaims.frame_bits, PreClaims.frame_ideal, PreClaims.frame_ref,
    OddClaims.frame_bits, OddClaims.frame_ideal, OddClaims.frame_ref,
    MlaClaims.frame_bits, MlaClaims.frame_ideal, MlaClaims.frame_ref,
    NextClaims.frame_bits, NextClaims.frame_ideal, NextClaims.frame_ref,
    SoftClaims.frame_bits, SoftClaims.frame_ideal, (fun m ρ _ => SoftClaims.frame_ideal m ρ trivial), SoftClaims.frame_ref, (fun m ρ _ => SoftClaims.frame_ref m ρ trivial),
    trivial, LossClaims.value,
    trivial, AdaClaims.value,
    trivial, EvenGateClaims.value,
    AttnClaims.named, AttnClaims.value,
    trivial, PostClaims.value,
    trivial, PreClaims.value,
    trivial, OddClaims.value,
    trivial, MlaClaims.value,
    trivial, NextClaims.value,
    SoftClaims.named, SoftClaims.value⟩

end Cert.Proof

end
